-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_finite [hPre_finite : Cert.Pre_finite.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_finite.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3)) (m ((c.tc : Thread Cert.SwigluIdeal.nD Cert.SwigluIdeal.τ).loc Cert.SwigluIdeal.main_arg4))).1 = (fun _ => 1#1)
    ∧ (Cert.Pre_finite.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3)) (m ((c.tc : Thread Cert.SwigluIdeal.nD Cert.SwigluIdeal.τ).loc Cert.SwigluIdeal.main_arg4))).2.1 = (fun _ => 1#1)
    ∧ (Cert.Pre_finite.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3)) (m ((c.tc : Thread Cert.SwigluIdeal.nD Cert.SwigluIdeal.τ).loc Cert.SwigluIdeal.main_arg4))).2.2.1 = (fun _ => 1#1)
    ∧ (Cert.Pre_finite.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3)) (m ((c.tc : Thread Cert.SwigluIdeal.nD Cert.SwigluIdeal.τ).loc Cert.SwigluIdeal.main_arg4))).2.2.2 = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_finite [hPre_finite : Cert.Pre_finite.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_finite.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3)) (m ((c.tc : Thread Cert.SwigluRefIdeal.nD Cert.SwigluRefIdeal.τ).loc Cert.SwigluRefIdeal.main_arg4))).1 = (fun _ => 1#1)
    ∧ (Cert.Pre_finite.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3)) (m ((c.tc : Thread Cert.SwigluRefIdeal.nD Cert.SwigluRefIdeal.τ).loc Cert.SwigluRefIdeal.main_arg4))).2.1 = (fun _ => 1#1)
    ∧ (Cert.Pre_finite.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3)) (m ((c.tc : Thread Cert.SwigluRefIdeal.nD Cert.SwigluRefIdeal.τ).loc Cert.SwigluRefIdeal.main_arg4))).2.2.1 = (fun _ => 1#1)
    ∧ (Cert.Pre_finite.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3)) (m ((c.tc : Thread Cert.SwigluRefIdeal.nD Cert.SwigluRefIdeal.τ).loc Cert.SwigluRefIdeal.main_arg4))).2.2.2 = (fun _ => 1#1)

def Pre_DownWeight (m : (ℓ : Loc Cert.DownWeight.nD Cert.DownWeight.τ Cert.DownWeight.sig) → Buf (Elt Bits) ℓ) : Prop :=
  True

def Pre_DownWeightIdeal (m : (ℓ : Loc Cert.DownWeightIdeal.nD Cert.DownWeightIdeal.τ Cert.DownWeightIdeal.sig) → Buf (Elt Ideal) ℓ) : Prop :=
  True

def Pre_DownWeightRefIdeal (m : (ℓ : Loc Cert.DownWeightRefIdeal.nD Cert.DownWeightRefIdeal.τ Cert.DownWeightRefIdeal.sig) → Buf (Elt Ideal) ℓ) : Prop :=
  True

def Pre_UpWeight (m : (ℓ : Loc Cert.UpWeight.nD Cert.UpWeight.τ Cert.UpWeight.sig) → Buf (Elt Bits) ℓ) : Prop :=
  True

def Pre_UpWeightIdeal (m : (ℓ : Loc Cert.UpWeightIdeal.nD Cert.UpWeightIdeal.τ Cert.UpWeightIdeal.sig) → Buf (Elt Ideal) ℓ) : Prop :=
  True

def Pre_UpWeightRefIdeal (m : (ℓ : Loc Cert.UpWeightRefIdeal.nD Cert.UpWeightRefIdeal.τ Cert.UpWeightRefIdeal.sig) → Buf (Elt Ideal) ℓ) : Prop :=
  True

def Pre_UpInput (m : (ℓ : Loc Cert.UpInput.nD Cert.UpInput.τ Cert.UpInput.sig) → Buf (Elt Bits) ℓ) : Prop :=
  True

def Pre_UpInputIdeal (m : (ℓ : Loc Cert.UpInputIdeal.nD Cert.UpInputIdeal.τ Cert.UpInputIdeal.sig) → Buf (Elt Ideal) ℓ) : Prop :=
  True

def Pre_UpInputRefIdeal (m : (ℓ : Loc Cert.UpInputRefIdeal.nD Cert.UpInputRefIdeal.τ Cert.UpInputRefIdeal.sig) → Buf (Elt Ideal) ℓ) : Prop :=
  True

def Pre_RgIn (m : (ℓ : Loc Cert.RgIn.nD Cert.RgIn.τ Cert.RgIn.sig) → Buf (Elt Bits) ℓ) : Prop :=
  True

def Pre_RgInIdeal (m : (ℓ : Loc Cert.RgInIdeal.nD Cert.RgInIdeal.τ Cert.RgInIdeal.sig) → Buf (Elt Ideal) ℓ) : Prop :=
  True

def Pre_RgInRefIdeal (m : (ℓ : Loc Cert.RgInRefIdeal.nD Cert.RgInRefIdeal.τ Cert.RgInRefIdeal.sig) → Buf (Elt Ideal) ℓ) : Prop :=
  True

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInRefIdeal (m : (ℓ : Loc Cert.AbInRefIdeal.nD Cert.AbInRefIdeal.τ Cert.AbInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixOutInput (m : (ℓ : Loc Cert.MixOutInput.nD Cert.MixOutInput.τ Cert.MixOutInput.sig) → Buf (Elt Bits) ℓ) : Prop :=
  True

def Pre_MixOutInputIdeal (m : (ℓ : Loc Cert.MixOutInputIdeal.nD Cert.MixOutInputIdeal.τ Cert.MixOutInputIdeal.sig) → Buf (Elt Ideal) ℓ) : Prop :=
  True

def Pre_MixOutInputRefIdeal (m : (ℓ : Loc Cert.MixOutInputRefIdeal.nD Cert.MixOutInputRefIdeal.τ Cert.MixOutInputRefIdeal.sig) → Buf (Elt Ideal) ℓ) : Prop :=
  True

def Pre_RgInput (m : (ℓ : Loc Cert.RgInput.nD Cert.RgInput.τ Cert.RgInput.sig) → Buf (Elt Bits) ℓ) : Prop :=
  True

def Pre_RgInputIdeal (m : (ℓ : Loc Cert.RgInputIdeal.nD Cert.RgInputIdeal.τ Cert.RgInputIdeal.sig) → Buf (Elt Ideal) ℓ) : Prop :=
  True

def Pre_RgInputRefIdeal (m : (ℓ : Loc Cert.RgInputRefIdeal.nD Cert.RgInputRefIdeal.τ Cert.RgInputRefIdeal.sig) → Buf (Elt Ideal) ℓ) : Prop :=
  True

def Pre_AbInput (m : (ℓ : Loc Cert.AbInput.nD Cert.AbInput.τ Cert.AbInput.sig) → Buf (Elt Bits) ℓ) : Prop :=
  True

def Pre_AbInputIdeal (m : (ℓ : Loc Cert.AbInputIdeal.nD Cert.AbInputIdeal.τ Cert.AbInputIdeal.sig) → Buf (Elt Ideal) ℓ) : Prop :=
  True

def Pre_AbInputRefIdeal (m : (ℓ : Loc Cert.AbInputRefIdeal.nD Cert.AbInputRefIdeal.τ Cert.AbInputRefIdeal.sig) → Buf (Elt Ideal) ℓ) : Prop :=
  True

def Pre_MixOutWeight (m : (ℓ : Loc Cert.MixOutWeight.nD Cert.MixOutWeight.τ Cert.MixOutWeight.sig) → Buf (Elt Bits) ℓ) : Prop :=
  True

def Pre_MixOutWeightIdeal (m : (ℓ : Loc Cert.MixOutWeightIdeal.nD Cert.MixOutWeightIdeal.τ Cert.MixOutWeightIdeal.sig) → Buf (Elt Ideal) ℓ) : Prop :=
  True

def Pre_MixOutWeightRefIdeal (m : (ℓ : Loc Cert.MixOutWeightRefIdeal.nD Cert.MixOutWeightRefIdeal.τ Cert.MixOutWeightRefIdeal.sig) → Buf (Elt Ideal) ℓ) : Prop :=
  True

def Pre_RgWeight (m : (ℓ : Loc Cert.RgWeight.nD Cert.RgWeight.τ Cert.RgWeight.sig) → Buf (Elt Bits) ℓ) : Prop :=
  True

def Pre_RgWeightIdeal (m : (ℓ : Loc Cert.RgWeightIdeal.nD Cert.RgWeightIdeal.τ Cert.RgWeightIdeal.sig) → Buf (Elt Ideal) ℓ) : Prop :=
  True

def Pre_RgWeightRefIdeal (m : (ℓ : Loc Cert.RgWeightRefIdeal.nD Cert.RgWeightRefIdeal.τ Cert.RgWeightRefIdeal.sig) → Buf (Elt Ideal) ℓ) : Prop :=
  True

def Pre_AbWeight (m : (ℓ : Loc Cert.AbWeight.nD Cert.AbWeight.τ Cert.AbWeight.sig) → Buf (Elt Bits) ℓ) : Prop :=
  True

def Pre_AbWeightIdeal (m : (ℓ : Loc Cert.AbWeightIdeal.nD Cert.AbWeightIdeal.τ Cert.AbWeightIdeal.sig) → Buf (Elt Ideal) ℓ) : Prop :=
  True

def Pre_AbWeightRefIdeal (m : (ℓ : Loc Cert.AbWeightRefIdeal.nD Cert.AbWeightRefIdeal.τ Cert.AbWeightRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdRefIdeal (m : (ℓ : Loc Cert.GateBwdRefIdeal.nD Cert.GateBwdRefIdeal.τ Cert.GateBwdRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_PostBwd (m : (ℓ : Loc Cert.PostBwd.nD Cert.PostBwd.τ Cert.PostBwd.sig) → Buf (Elt Bits) ℓ) : Prop :=
  True

def Pre_PostBwdIdeal (m : (ℓ : Loc Cert.PostBwdIdeal.nD Cert.PostBwdIdeal.τ Cert.PostBwdIdeal.sig) → Buf (Elt Ideal) ℓ) : Prop :=
  True

def Pre_PostBwdIdeal_post_finite [hPre_post_finite : Cert.Pre_post_finite.Facts] (m : (ℓ : Loc Cert.PostBwdIdeal.nD Cert.PostBwdIdeal.τ Cert.PostBwdIdeal.sig) → Buf (Elt Ideal) ℓ) : Prop :=
  ∀ c : Dev Cert.PostBwdIdeal.nD,
    (Cert.Pre_post_finite.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6)) (m ((c.tc : Thread Cert.PostBwdIdeal.nD Cert.PostBwdIdeal.τ).loc Cert.PostBwdIdeal.main_arg7)) (m ((c.tc : Thread Cert.PostBwdIdeal.nD Cert.PostBwdIdeal.τ).loc Cert.PostBwdIdeal.main_arg8))).1 = (fun _ => 1#1)
    ∧ (Cert.Pre_post_finite.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6)) (m ((c.tc : Thread Cert.PostBwdIdeal.nD Cert.PostBwdIdeal.τ).loc Cert.PostBwdIdeal.main_arg7)) (m ((c.tc : Thread Cert.PostBwdIdeal.nD Cert.PostBwdIdeal.τ).loc Cert.PostBwdIdeal.main_arg8))).2.1 = (fun _ => 1#1)
    ∧ (Cert.Pre_post_finite.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6)) (m ((c.tc : Thread Cert.PostBwdIdeal.nD Cert.PostBwdIdeal.τ).loc Cert.PostBwdIdeal.main_arg7)) (m ((c.tc : Thread Cert.PostBwdIdeal.nD Cert.PostBwdIdeal.τ).loc Cert.PostBwdIdeal.main_arg8))).2.2.1 = (fun _ => 1#1)
    ∧ (Cert.Pre_post_finite.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6)) (m ((c.tc : Thread Cert.PostBwdIdeal.nD Cert.PostBwdIdeal.τ).loc Cert.PostBwdIdeal.main_arg7)) (m ((c.tc : Thread Cert.PostBwdIdeal.nD Cert.PostBwdIdeal.τ).loc Cert.PostBwdIdeal.main_arg8))).2.2.2 = (fun _ => 1#1)

def Pre_PostBwdRefIdeal (m : (ℓ : Loc Cert.PostBwdRefIdeal.nD Cert.PostBwdRefIdeal.τ Cert.PostBwdRefIdeal.sig) → Buf (Elt Ideal) ℓ) : Prop :=
  True

def Pre_PostBwdRefIdeal_post_finite [hPre_post_finite : Cert.Pre_post_finite.Facts] (m : (ℓ : Loc Cert.PostBwdRefIdeal.nD Cert.PostBwdRefIdeal.τ Cert.PostBwdRefIdeal.sig) → Buf (Elt Ideal) ℓ) : Prop :=
  ∀ c : Dev Cert.PostBwdRefIdeal.nD,
    (Cert.Pre_post_finite.fn (F := Ideal) (m ((c.tc : Thread Cert.PostBwdRefIdeal.nD Cert.PostBwdRefIdeal.τ).loc Cert.PostBwdRefIdeal.main_arg0)) (m ((c.tc : Thread Cert.PostBwdRefIdeal.nD Cert.PostBwdRefIdeal.τ).loc Cert.PostBwdRefIdeal.main_arg1)) (m ((c.tc : Thread Cert.PostBwdRefIdeal.nD Cert.PostBwdRefIdeal.τ).loc Cert.PostBwdRefIdeal.main_arg2)) (m ((c.tc : Thread Cert.PostBwdRefIdeal.nD Cert.PostBwdRefIdeal.τ).loc Cert.PostBwdRefIdeal.main_arg3)) (m ((c.tc : Thread Cert.PostBwdRefIdeal.nD Cert.PostBwdRefIdeal.τ).loc Cert.PostBwdRefIdeal.main_arg4)) (m ((c.tc : Thread Cert.PostBwdRefIdeal.nD Cert.PostBwdRefIdeal.τ).loc Cert.PostBwdRefIdeal.main_arg5)) (m ((c.tc : Thread Cert.PostBwdRefIdeal.nD Cert.PostBwdRefIdeal.τ).loc Cert.PostBwdRefIdeal.main_arg6)) (m ((c.tc : Thread Cert.PostBwdRefIdeal.nD Cert.PostBwdRefIdeal.τ).loc Cert.PostBwdRefIdeal.main_arg7)) (m ((c.tc : Thread Cert.PostBwdRefIdeal.nD Cert.PostBwdRefIdeal.τ).loc Cert.PostBwdRefIdeal.main_arg8))).1 = (fun _ => 1#1)
    ∧ (Cert.Pre_post_finite.fn (F := Ideal) (m ((c.tc : Thread Cert.PostBwdRefIdeal.nD Cert.PostBwdRefIdeal.τ).loc Cert.PostBwdRefIdeal.main_arg0)) (m ((c.tc : Thread Cert.PostBwdRefIdeal.nD Cert.PostBwdRefIdeal.τ).loc Cert.PostBwdRefIdeal.main_arg1)) (m ((c.tc : Thread Cert.PostBwdRefIdeal.nD Cert.PostBwdRefIdeal.τ).loc Cert.PostBwdRefIdeal.main_arg2)) (m ((c.tc : Thread Cert.PostBwdRefIdeal.nD Cert.PostBwdRefIdeal.τ).loc Cert.PostBwdRefIdeal.main_arg3)) (m ((c.tc : Thread Cert.PostBwdRefIdeal.nD Cert.PostBwdRefIdeal.τ).loc Cert.PostBwdRefIdeal.main_arg4)) (m ((c.tc : Thread Cert.PostBwdRefIdeal.nD Cert.PostBwdRefIdeal.τ).loc Cert.PostBwdRefIdeal.main_arg5)) (m ((c.tc : Thread Cert.PostBwdRefIdeal.nD Cert.PostBwdRefIdeal.τ).loc Cert.PostBwdRefIdeal.main_arg6)) (m ((c.tc : Thread Cert.PostBwdRefIdeal.nD Cert.PostBwdRefIdeal.τ).loc Cert.PostBwdRefIdeal.main_arg7)) (m ((c.tc : Thread Cert.PostBwdRefIdeal.nD Cert.PostBwdRefIdeal.τ).loc Cert.PostBwdRefIdeal.main_arg8))).2.1 = (fun _ => 1#1)
    ∧ (Cert.Pre_post_finite.fn (F := Ideal) (m ((c.tc : Thread Cert.PostBwdRefIdeal.nD Cert.PostBwdRefIdeal.τ).loc Cert.PostBwdRefIdeal.main_arg0)) (m ((c.tc : Thread Cert.PostBwdRefIdeal.nD Cert.PostBwdRefIdeal.τ).loc Cert.PostBwdRefIdeal.main_arg1)) (m ((c.tc : Thread Cert.PostBwdRefIdeal.nD Cert.PostBwdRefIdeal.τ).loc Cert.PostBwdRefIdeal.main_arg2)) (m ((c.tc : Thread Cert.PostBwdRefIdeal.nD Cert.PostBwdRefIdeal.τ).loc Cert.PostBwdRefIdeal.main_arg3)) (m ((c.tc : Thread Cert.PostBwdRefIdeal.nD Cert.PostBwdRefIdeal.τ).loc Cert.PostBwdRefIdeal.main_arg4)) (m ((c.tc : Thread Cert.PostBwdRefIdeal.nD Cert.PostBwdRefIdeal.τ).loc Cert.PostBwdRefIdeal.main_arg5)) (m ((c.tc : Thread Cert.PostBwdRefIdeal.nD Cert.PostBwdRefIdeal.τ).loc Cert.PostBwdRefIdeal.main_arg6)) (m ((c.tc : Thread Cert.PostBwdRefIdeal.nD Cert.PostBwdRefIdeal.τ).loc Cert.PostBwdRefIdeal.main_arg7)) (m ((c.tc : Thread Cert.PostBwdRefIdeal.nD Cert.PostBwdRefIdeal.τ).loc Cert.PostBwdRefIdeal.main_arg8))).2.2.1 = (fun _ => 1#1)
    ∧ (Cert.Pre_post_finite.fn (F := Ideal) (m ((c.tc : Thread Cert.PostBwdRefIdeal.nD Cert.PostBwdRefIdeal.τ).loc Cert.PostBwdRefIdeal.main_arg0)) (m ((c.tc : Thread Cert.PostBwdRefIdeal.nD Cert.PostBwdRefIdeal.τ).loc Cert.PostBwdRefIdeal.main_arg1)) (m ((c.tc : Thread Cert.PostBwdRefIdeal.nD Cert.PostBwdRefIdeal.τ).loc Cert.PostBwdRefIdeal.main_arg2)) (m ((c.tc : Thread Cert.PostBwdRefIdeal.nD Cert.PostBwdRefIdeal.τ).loc Cert.PostBwdRefIdeal.main_arg3)) (m ((c.tc : Thread Cert.PostBwdRefIdeal.nD Cert.PostBwdRefIdeal.τ).loc Cert.PostBwdRefIdeal.main_arg4)) (m ((c.tc : Thread Cert.PostBwdRefIdeal.nD Cert.PostBwdRefIdeal.τ).loc Cert.PostBwdRefIdeal.main_arg5)) (m ((c.tc : Thread Cert.PostBwdRefIdeal.nD Cert.PostBwdRefIdeal.τ).loc Cert.PostBwdRefIdeal.main_arg6)) (m ((c.tc : Thread Cert.PostBwdRefIdeal.nD Cert.PostBwdRefIdeal.τ).loc Cert.PostBwdRefIdeal.main_arg7)) (m ((c.tc : Thread Cert.PostBwdRefIdeal.nD Cert.PostBwdRefIdeal.τ).loc Cert.PostBwdRefIdeal.main_arg8))).2.2.2 = (fun _ => 1#1)

def Pre_PreBwd (m : (ℓ : Loc Cert.PreBwd.nD Cert.PreBwd.τ Cert.PreBwd.sig) → Buf (Elt Bits) ℓ) : Prop :=
  True

def Pre_PreBwdIdeal (m : (ℓ : Loc Cert.PreBwdIdeal.nD Cert.PreBwdIdeal.τ Cert.PreBwdIdeal.sig) → Buf (Elt Ideal) ℓ) : Prop :=
  True

def Pre_PreBwdRefIdeal (m : (ℓ : Loc Cert.PreBwdRefIdeal.nD Cert.PreBwdRefIdeal.τ Cert.PreBwdRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdRefIdeal (m : (ℓ : Loc Cert.MixBwdRefIdeal.nD Cert.MixBwdRefIdeal.τ Cert.MixBwdRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_UpdateRefIdeal (m : (ℓ : Loc Cert.UpdateRefIdeal.nD Cert.UpdateRefIdeal.τ Cert.UpdateRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Cond (m : (ℓ : Loc Cert.Cond.nD Cert.Cond.τ Cert.Cond.sig) → Buf (Elt Bits) ℓ) : Prop :=
  True

def Pre_CondIdeal (m : (ℓ : Loc Cert.CondIdeal.nD Cert.CondIdeal.τ Cert.CondIdeal.sig) → Buf (Elt Ideal) ℓ) : Prop :=
  True

def Pre_CondRefIdeal (m : (ℓ : Loc Cert.CondRefIdeal.nD Cert.CondRefIdeal.τ Cert.CondRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_MconvBwd (m : (ℓ : Loc Cert.MconvBwd.nD Cert.MconvBwd.τ Cert.MconvBwd.sig) → Buf (Elt Bits) ℓ) : Prop :=
  True

def Pre_MconvBwdIdeal (m : (ℓ : Loc Cert.MconvBwdIdeal.nD Cert.MconvBwdIdeal.τ Cert.MconvBwdIdeal.sig) → Buf (Elt Ideal) ℓ) : Prop :=
  True

def Pre_MconvBwdRefIdeal (m : (ℓ : Loc Cert.MconvBwdRefIdeal.nD Cert.MconvBwdRefIdeal.τ Cert.MconvBwdRefIdeal.sig) → Buf (Elt Ideal) ℓ) : Prop :=
  True

def Pre_Mconv (m : (ℓ : Loc Cert.Mconv.nD Cert.Mconv.τ Cert.Mconv.sig) → Buf (Elt Bits) ℓ) : Prop :=
  True

def Pre_MconvIdeal (m : (ℓ : Loc Cert.MconvIdeal.nD Cert.MconvIdeal.τ Cert.MconvIdeal.sig) → Buf (Elt Ideal) ℓ) : Prop :=
  True

def Pre_MconvRefIdeal (m : (ℓ : Loc Cert.MconvRefIdeal.nD Cert.MconvRefIdeal.τ Cert.MconvRefIdeal.sig) → Buf (Elt Ideal) ℓ) : Prop :=
  True

def Pre_PostMixBwd (m : (ℓ : Loc Cert.PostMixBwd.nD Cert.PostMixBwd.τ Cert.PostMixBwd.sig) → Buf (Elt Bits) ℓ) : Prop :=
  True

def Pre_PostMixBwdIdeal (m : (ℓ : Loc Cert.PostMixBwdIdeal.nD Cert.PostMixBwdIdeal.τ Cert.PostMixBwdIdeal.sig) → Buf (Elt Ideal) ℓ) : Prop :=
  True

def Pre_PostMixBwdIdeal_post_finite [hPre_post_finite : Cert.Pre_post_finite.Facts] (m : (ℓ : Loc Cert.PostMixBwdIdeal.nD Cert.PostMixBwdIdeal.τ Cert.PostMixBwdIdeal.sig) → Buf (Elt Ideal) ℓ) : Prop :=
  ∀ c : Dev Cert.PostMixBwdIdeal.nD,
    (Cert.Pre_post_finite.fn (F := Ideal) (m ((c.tc : Thread Cert.PostMixBwdIdeal.nD Cert.PostMixBwdIdeal.τ).loc Cert.PostMixBwdIdeal.main_arg0)) (m ((c.tc : Thread Cert.PostMixBwdIdeal.nD Cert.PostMixBwdIdeal.τ).loc Cert.PostMixBwdIdeal.main_arg1)) (m ((c.tc : Thread Cert.PostMixBwdIdeal.nD Cert.PostMixBwdIdeal.τ).loc Cert.PostMixBwdIdeal.main_arg2)) (m ((c.tc : Thread Cert.PostMixBwdIdeal.nD Cert.PostMixBwdIdeal.τ).loc Cert.PostMixBwdIdeal.main_arg3)) (m ((c.tc : Thread Cert.PostMixBwdIdeal.nD Cert.PostMixBwdIdeal.τ).loc Cert.PostMixBwdIdeal.main_arg4)) (m ((c.tc : Thread Cert.PostMixBwdIdeal.nD Cert.PostMixBwdIdeal.τ).loc Cert.PostMixBwdIdeal.main_arg5)) (m ((c.tc : Thread Cert.PostMixBwdIdeal.nD Cert.PostMixBwdIdeal.τ).loc Cert.PostMixBwdIdeal.main_arg6)) (m ((c.tc : Thread Cert.PostMixBwdIdeal.nD Cert.PostMixBwdIdeal.τ).loc Cert.PostMixBwdIdeal.main_arg7)) (m ((c.tc : Thread Cert.PostMixBwdIdeal.nD Cert.PostMixBwdIdeal.τ).loc Cert.PostMixBwdIdeal.main_arg8))).1 = (fun _ => 1#1)
    ∧ (Cert.Pre_post_finite.fn (F := Ideal) (m ((c.tc : Thread Cert.PostMixBwdIdeal.nD Cert.PostMixBwdIdeal.τ).loc Cert.PostMixBwdIdeal.main_arg0)) (m ((c.tc : Thread Cert.PostMixBwdIdeal.nD Cert.PostMixBwdIdeal.τ).loc Cert.PostMixBwdIdeal.main_arg1)) (m ((c.tc : Thread Cert.PostMixBwdIdeal.nD Cert.PostMixBwdIdeal.τ).loc Cert.PostMixBwdIdeal.main_arg2)) (m ((c.tc : Thread Cert.PostMixBwdIdeal.nD Cert.PostMixBwdIdeal.τ).loc Cert.PostMixBwdIdeal.main_arg3)) (m ((c.tc : Thread Cert.PostMixBwdIdeal.nD Cert.PostMixBwdIdeal.τ).loc Cert.PostMixBwdIdeal.main_arg4)) (m ((c.tc : Thread Cert.PostMixBwdIdeal.nD Cert.PostMixBwdIdeal.τ).loc Cert.PostMixBwdIdeal.main_arg5)) (m ((c.tc : Thread Cert.PostMixBwdIdeal.nD Cert.PostMixBwdIdeal.τ).loc Cert.PostMixBwdIdeal.main_arg6)) (m ((c.tc : Thread Cert.PostMixBwdIdeal.nD Cert.PostMixBwdIdeal.τ).loc Cert.PostMixBwdIdeal.main_arg7)) (m ((c.tc : Thread Cert.PostMixBwdIdeal.nD Cert.PostMixBwdIdeal.τ).loc Cert.PostMixBwdIdeal.main_arg8))).2.1 = (fun _ => 1#1)
    ∧ (Cert.Pre_post_finite.fn (F := Ideal) (m ((c.tc : Thread Cert.PostMixBwdIdeal.nD Cert.PostMixBwdIdeal.τ).loc Cert.PostMixBwdIdeal.main_arg0)) (m ((c.tc : Thread Cert.PostMixBwdIdeal.nD Cert.PostMixBwdIdeal.τ).loc Cert.PostMixBwdIdeal.main_arg1)) (m ((c.tc : Thread Cert.PostMixBwdIdeal.nD Cert.PostMixBwdIdeal.τ).loc Cert.PostMixBwdIdeal.main_arg2)) (m ((c.tc : Thread Cert.PostMixBwdIdeal.nD Cert.PostMixBwdIdeal.τ).loc Cert.PostMixBwdIdeal.main_arg3)) (m ((c.tc : Thread Cert.PostMixBwdIdeal.nD Cert.PostMixBwdIdeal.τ).loc Cert.PostMixBwdIdeal.main_arg4)) (m ((c.tc : Thread Cert.PostMixBwdIdeal.nD Cert.PostMixBwdIdeal.τ).loc Cert.PostMixBwdIdeal.main_arg5)) (m ((c.tc : Thread Cert.PostMixBwdIdeal.nD Cert.PostMixBwdIdeal.τ).loc Cert.PostMixBwdIdeal.main_arg6)) (m ((c.tc : Thread Cert.PostMixBwdIdeal.nD Cert.PostMixBwdIdeal.τ).loc Cert.PostMixBwdIdeal.main_arg7)) (m ((c.tc : Thread Cert.PostMixBwdIdeal.nD Cert.PostMixBwdIdeal.τ).loc Cert.PostMixBwdIdeal.main_arg8))).2.2.1 = (fun _ => 1#1)
    ∧ (Cert.Pre_post_finite.fn (F := Ideal) (m ((c.tc : Thread Cert.PostMixBwdIdeal.nD Cert.PostMixBwdIdeal.τ).loc Cert.PostMixBwdIdeal.main_arg0)) (m ((c.tc : Thread Cert.PostMixBwdIdeal.nD Cert.PostMixBwdIdeal.τ).loc Cert.PostMixBwdIdeal.main_arg1)) (m ((c.tc : Thread Cert.PostMixBwdIdeal.nD Cert.PostMixBwdIdeal.τ).loc Cert.PostMixBwdIdeal.main_arg2)) (m ((c.tc : Thread Cert.PostMixBwdIdeal.nD Cert.PostMixBwdIdeal.τ).loc Cert.PostMixBwdIdeal.main_arg3)) (m ((c.tc : Thread Cert.PostMixBwdIdeal.nD Cert.PostMixBwdIdeal.τ).loc Cert.PostMixBwdIdeal.main_arg4)) (m ((c.tc : Thread Cert.PostMixBwdIdeal.nD Cert.PostMixBwdIdeal.τ).loc Cert.PostMixBwdIdeal.main_arg5)) (m ((c.tc : Thread Cert.PostMixBwdIdeal.nD Cert.PostMixBwdIdeal.τ).loc Cert.PostMixBwdIdeal.main_arg6)) (m ((c.tc : Thread Cert.PostMixBwdIdeal.nD Cert.PostMixBwdIdeal.τ).loc Cert.PostMixBwdIdeal.main_arg7)) (m ((c.tc : Thread Cert.PostMixBwdIdeal.nD Cert.PostMixBwdIdeal.τ).loc Cert.PostMixBwdIdeal.main_arg8))).2.2.2 = (fun _ => 1#1)

def Pre_PostMixBwdRefIdeal (m : (ℓ : Loc Cert.PostMixBwdRefIdeal.nD Cert.PostMixBwdRefIdeal.τ Cert.PostMixBwdRefIdeal.sig) → Buf (Elt Ideal) ℓ) : Prop :=
  True

def Pre_PostMixBwdRefIdeal_post_finite [hPre_post_finite : Cert.Pre_post_finite.Facts] (m : (ℓ : Loc Cert.PostMixBwdRefIdeal.nD Cert.PostMixBwdRefIdeal.τ Cert.PostMixBwdRefIdeal.sig) → Buf (Elt Ideal) ℓ) : Prop :=
  ∀ c : Dev Cert.PostMixBwdRefIdeal.nD,
    (Cert.Pre_post_finite.fn (F := Ideal) (m ((c.tc : Thread Cert.PostMixBwdRefIdeal.nD Cert.PostMixBwdRefIdeal.τ).loc Cert.PostMixBwdRefIdeal.main_arg0)) (m ((c.tc : Thread Cert.PostMixBwdRefIdeal.nD Cert.PostMixBwdRefIdeal.τ).loc Cert.PostMixBwdRefIdeal.main_arg1)) (m ((c.tc : Thread Cert.PostMixBwdRefIdeal.nD Cert.PostMixBwdRefIdeal.τ).loc Cert.PostMixBwdRefIdeal.main_arg2)) (m ((c.tc : Thread Cert.PostMixBwdRefIdeal.nD Cert.PostMixBwdRefIdeal.τ).loc Cert.PostMixBwdRefIdeal.main_arg3)) (m ((c.tc : Thread Cert.PostMixBwdRefIdeal.nD Cert.PostMixBwdRefIdeal.τ).loc Cert.PostMixBwdRefIdeal.main_arg4)) (m ((c.tc : Thread Cert.PostMixBwdRefIdeal.nD Cert.PostMixBwdRefIdeal.τ).loc Cert.PostMixBwdRefIdeal.main_arg5)) (m ((c.tc : Thread Cert.PostMixBwdRefIdeal.nD Cert.PostMixBwdRefIdeal.τ).loc Cert.PostMixBwdRefIdeal.main_arg6)) (m ((c.tc : Thread Cert.PostMixBwdRefIdeal.nD Cert.PostMixBwdRefIdeal.τ).loc Cert.PostMixBwdRefIdeal.main_arg7)) (m ((c.tc : Thread Cert.PostMixBwdRefIdeal.nD Cert.PostMixBwdRefIdeal.τ).loc Cert.PostMixBwdRefIdeal.main_arg8))).1 = (fun _ => 1#1)
    ∧ (Cert.Pre_post_finite.fn (F := Ideal) (m ((c.tc : Thread Cert.PostMixBwdRefIdeal.nD Cert.PostMixBwdRefIdeal.τ).loc Cert.PostMixBwdRefIdeal.main_arg0)) (m ((c.tc : Thread Cert.PostMixBwdRefIdeal.nD Cert.PostMixBwdRefIdeal.τ).loc Cert.PostMixBwdRefIdeal.main_arg1)) (m ((c.tc : Thread Cert.PostMixBwdRefIdeal.nD Cert.PostMixBwdRefIdeal.τ).loc Cert.PostMixBwdRefIdeal.main_arg2)) (m ((c.tc : Thread Cert.PostMixBwdRefIdeal.nD Cert.PostMixBwdRefIdeal.τ).loc Cert.PostMixBwdRefIdeal.main_arg3)) (m ((c.tc : Thread Cert.PostMixBwdRefIdeal.nD Cert.PostMixBwdRefIdeal.τ).loc Cert.PostMixBwdRefIdeal.main_arg4)) (m ((c.tc : Thread Cert.PostMixBwdRefIdeal.nD Cert.PostMixBwdRefIdeal.τ).loc Cert.PostMixBwdRefIdeal.main_arg5)) (m ((c.tc : Thread Cert.PostMixBwdRefIdeal.nD Cert.PostMixBwdRefIdeal.τ).loc Cert.PostMixBwdRefIdeal.main_arg6)) (m ((c.tc : Thread Cert.PostMixBwdRefIdeal.nD Cert.PostMixBwdRefIdeal.τ).loc Cert.PostMixBwdRefIdeal.main_arg7)) (m ((c.tc : Thread Cert.PostMixBwdRefIdeal.nD Cert.PostMixBwdRefIdeal.τ).loc Cert.PostMixBwdRefIdeal.main_arg8))).2.1 = (fun _ => 1#1)
    ∧ (Cert.Pre_post_finite.fn (F := Ideal) (m ((c.tc : Thread Cert.PostMixBwdRefIdeal.nD Cert.PostMixBwdRefIdeal.τ).loc Cert.PostMixBwdRefIdeal.main_arg0)) (m ((c.tc : Thread Cert.PostMixBwdRefIdeal.nD Cert.PostMixBwdRefIdeal.τ).loc Cert.PostMixBwdRefIdeal.main_arg1)) (m ((c.tc : Thread Cert.PostMixBwdRefIdeal.nD Cert.PostMixBwdRefIdeal.τ).loc Cert.PostMixBwdRefIdeal.main_arg2)) (m ((c.tc : Thread Cert.PostMixBwdRefIdeal.nD Cert.PostMixBwdRefIdeal.τ).loc Cert.PostMixBwdRefIdeal.main_arg3)) (m ((c.tc : Thread Cert.PostMixBwdRefIdeal.nD Cert.PostMixBwdRefIdeal.τ).loc Cert.PostMixBwdRefIdeal.main_arg4)) (m ((c.tc : Thread Cert.PostMixBwdRefIdeal.nD Cert.PostMixBwdRefIdeal.τ).loc Cert.PostMixBwdRefIdeal.main_arg5)) (m ((c.tc : Thread Cert.PostMixBwdRefIdeal.nD Cert.PostMixBwdRefIdeal.τ).loc Cert.PostMixBwdRefIdeal.main_arg6)) (m ((c.tc : Thread Cert.PostMixBwdRefIdeal.nD Cert.PostMixBwdRefIdeal.τ).loc Cert.PostMixBwdRefIdeal.main_arg7)) (m ((c.tc : Thread Cert.PostMixBwdRefIdeal.nD Cert.PostMixBwdRefIdeal.τ).loc Cert.PostMixBwdRefIdeal.main_arg8))).2.2.1 = (fun _ => 1#1)
    ∧ (Cert.Pre_post_finite.fn (F := Ideal) (m ((c.tc : Thread Cert.PostMixBwdRefIdeal.nD Cert.PostMixBwdRefIdeal.τ).loc Cert.PostMixBwdRefIdeal.main_arg0)) (m ((c.tc : Thread Cert.PostMixBwdRefIdeal.nD Cert.PostMixBwdRefIdeal.τ).loc Cert.PostMixBwdRefIdeal.main_arg1)) (m ((c.tc : Thread Cert.PostMixBwdRefIdeal.nD Cert.PostMixBwdRefIdeal.τ).loc Cert.PostMixBwdRefIdeal.main_arg2)) (m ((c.tc : Thread Cert.PostMixBwdRefIdeal.nD Cert.PostMixBwdRefIdeal.τ).loc Cert.PostMixBwdRefIdeal.main_arg3)) (m ((c.tc : Thread Cert.PostMixBwdRefIdeal.nD Cert.PostMixBwdRefIdeal.τ).loc Cert.PostMixBwdRefIdeal.main_arg4)) (m ((c.tc : Thread Cert.PostMixBwdRefIdeal.nD Cert.PostMixBwdRefIdeal.τ).loc Cert.PostMixBwdRefIdeal.main_arg5)) (m ((c.tc : Thread Cert.PostMixBwdRefIdeal.nD Cert.PostMixBwdRefIdeal.τ).loc Cert.PostMixBwdRefIdeal.main_arg6)) (m ((c.tc : Thread Cert.PostMixBwdRefIdeal.nD Cert.PostMixBwdRefIdeal.τ).loc Cert.PostMixBwdRefIdeal.main_arg7)) (m ((c.tc : Thread Cert.PostMixBwdRefIdeal.nD Cert.PostMixBwdRefIdeal.τ).loc Cert.PostMixBwdRefIdeal.main_arg8))).2.2.2 = (fun _ => 1#1)

def Pre_PostMix (m : (ℓ : Loc Cert.PostMix.nD Cert.PostMix.τ Cert.PostMix.sig) → Buf (Elt Bits) ℓ) : Prop :=
  True

def Pre_PostMixIdeal (m : (ℓ : Loc Cert.PostMixIdeal.nD Cert.PostMixIdeal.τ Cert.PostMixIdeal.sig) → Buf (Elt Ideal) ℓ) : Prop :=
  True

def Pre_PostMixRefIdeal (m : (ℓ : Loc Cert.PostMixRefIdeal.nD Cert.PostMixRefIdeal.τ Cert.PostMixRefIdeal.sig) → Buf (Elt Ideal) ℓ) : Prop :=
  True

def Pre_Slots (m : (ℓ : Loc Cert.Slots.nD Cert.Slots.τ Cert.Slots.sig) → Buf (Elt Bits) ℓ) : Prop :=
  True

def Pre_SlotsIdeal (m : (ℓ : Loc Cert.SlotsIdeal.nD Cert.SlotsIdeal.τ Cert.SlotsIdeal.sig) → Buf (Elt Ideal) ℓ) : Prop :=
  True

def Pre_SlotsRefIdeal (m : (ℓ : Loc Cert.SlotsRefIdeal.nD Cert.SlotsRefIdeal.τ Cert.SlotsRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3)
      ∧ r.2.mem ((c.tc : Thread Cert.Swiglu.nD Cert.Swiglu.τ).loc Cert.Swiglu.main_arg4) = m ((c.tc : Thread Cert.Swiglu.nD Cert.Swiglu.τ).loc Cert.Swiglu.main_arg4))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
      ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ r.2.sem = fun _ => 0)

def quiescent_SwigluIdeal_pre_finite [hSwigluIdeal : Cert.SwigluIdeal.Facts] [hPre_finite : Cert.Pre_finite.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_finite m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
      ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3)
      ∧ r.2.mem ((c.tc : Thread Cert.SwigluRefIdeal.nD Cert.SwigluRefIdeal.τ).loc Cert.SwigluRefIdeal.main_arg4) = m ((c.tc : Thread Cert.SwigluRefIdeal.nD Cert.SwigluRefIdeal.τ).loc Cert.SwigluRefIdeal.main_arg4))
      ∧ r.2.sem = fun _ => 0)

def quiescent_SwigluRefIdeal_pre_finite [hSwigluRefIdeal : Cert.SwigluRefIdeal.Facts] [hPre_finite : Cert.Pre_finite.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_finite m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3)
      ∧ r.2.mem ((c.tc : Thread Cert.SwigluRefIdeal.nD Cert.SwigluRefIdeal.τ).loc Cert.SwigluRefIdeal.main_arg4) = m ((c.tc : Thread Cert.SwigluRefIdeal.nD Cert.SwigluRefIdeal.τ).loc Cert.SwigluRefIdeal.main_arg4))
      ∧ r.2.sem = fun _ => 0)

def quiescent_DownWeight [hDownWeight : Cert.DownWeight.Facts] : Prop :=
  ∀ (m : (ℓ : Loc Cert.DownWeight.nD Cert.DownWeight.τ Cert.DownWeight.sig) → Buf (Elt Bits) ℓ) (g : Dev Cert.DownWeight.nD → PrngReg), Pre_DownWeight m →
    θ_run (Cert.DownWeight.defs (F := Bits)) (onTc (τ := Cert.DownWeight.τ) (Cert.DownWeight.main (F := Bits))) ⟨m, fun _ => 0, g⟩ (fun r => (∀ c : Dev Cert.DownWeight.nD,
      r.2.mem ((c.tc : Thread Cert.DownWeight.nD Cert.DownWeight.τ).loc Cert.DownWeight.main_arg0) = m ((c.tc : Thread Cert.DownWeight.nD Cert.DownWeight.τ).loc Cert.DownWeight.main_arg0)
      ∧ r.2.mem ((c.tc : Thread Cert.DownWeight.nD Cert.DownWeight.τ).loc Cert.DownWeight.main_arg1) = m ((c.tc : Thread Cert.DownWeight.nD Cert.DownWeight.τ).loc Cert.DownWeight.main_arg1))
      ∧ r.2.sem = fun _ => 0)

def quiescent_DownWeightIdeal [hDownWeightIdeal : Cert.DownWeightIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg), Pre_DownWeightIdeal m →
    θ_run (Cert.DownWeightIdeal.defs (F := Ideal)) (onTc (τ := Cert.DownWeightIdeal.τ) (Cert.DownWeightIdeal.main (F := Ideal))) ⟨m, fun _ => 0, g⟩ (fun r => (∀ c : Dev Cert.DownWeightIdeal.nD,
      r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
      ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ r.2.sem = fun _ => 0)

def quiescent_DownWeightRefIdeal [hDownWeightRefIdeal : Cert.DownWeightRefIdeal.Facts] : Prop :=
  ∀ (m : (ℓ : Loc Cert.DownWeightRefIdeal.nD Cert.DownWeightRefIdeal.τ Cert.DownWeightRefIdeal.sig) → Buf (Elt Ideal) ℓ) (g : Dev Cert.DownWeightRefIdeal.nD → PrngReg), Pre_DownWeightRefIdeal m →
    θ_run (Cert.DownWeightRefIdeal.defs (F := Ideal)) (onTc (τ := Cert.DownWeightRefIdeal.τ) (Cert.DownWeightRefIdeal.main (F := Ideal))) ⟨m, fun _ => 0, g⟩ (fun r => (∀ c : Dev Cert.DownWeightRefIdeal.nD,
      r.2.mem ((c.tc : Thread Cert.DownWeightRefIdeal.nD Cert.DownWeightRefIdeal.τ).loc Cert.DownWeightRefIdeal.main_arg0) = m ((c.tc : Thread Cert.DownWeightRefIdeal.nD Cert.DownWeightRefIdeal.τ).loc Cert.DownWeightRefIdeal.main_arg0)
      ∧ r.2.mem ((c.tc : Thread Cert.DownWeightRefIdeal.nD Cert.DownWeightRefIdeal.τ).loc Cert.DownWeightRefIdeal.main_arg1) = m ((c.tc : Thread Cert.DownWeightRefIdeal.nD Cert.DownWeightRefIdeal.τ).loc Cert.DownWeightRefIdeal.main_arg1))
      ∧ r.2.sem = fun _ => 0)

def quiescent_UpWeight [hUpWeight : Cert.UpWeight.Facts] : Prop :=
  ∀ (m : (ℓ : Loc Cert.UpWeight.nD Cert.UpWeight.τ Cert.UpWeight.sig) → Buf (Elt Bits) ℓ) (g : Dev Cert.UpWeight.nD → PrngReg), Pre_UpWeight m →
    θ_run (Cert.UpWeight.defs (F := Bits)) (onTc (τ := Cert.UpWeight.τ) (Cert.UpWeight.main (F := Bits))) ⟨m, fun _ => 0, g⟩ (fun r => (∀ c : Dev Cert.UpWeight.nD,
      r.2.mem ((c.tc : Thread Cert.UpWeight.nD Cert.UpWeight.τ).loc Cert.UpWeight.main_arg0) = m ((c.tc : Thread Cert.UpWeight.nD Cert.UpWeight.τ).loc Cert.UpWeight.main_arg0)
      ∧ r.2.mem ((c.tc : Thread Cert.UpWeight.nD Cert.UpWeight.τ).loc Cert.UpWeight.main_arg1) = m ((c.tc : Thread Cert.UpWeight.nD Cert.UpWeight.τ).loc Cert.UpWeight.main_arg1))
      ∧ r.2.sem = fun _ => 0)

def quiescent_UpWeightIdeal [hUpWeightIdeal : Cert.UpWeightIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg), Pre_UpWeightIdeal m →
    θ_run (Cert.UpWeightIdeal.defs (F := Ideal)) (onTc (τ := Cert.UpWeightIdeal.τ) (Cert.UpWeightIdeal.main (F := Ideal))) ⟨m, fun _ => 0, g⟩ (fun r => (∀ c : Dev Cert.UpWeightIdeal.nD,
      r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
      ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1))
      ∧ r.2.sem = fun _ => 0)

def quiescent_UpWeightRefIdeal [hUpWeightRefIdeal : Cert.UpWeightRefIdeal.Facts] : Prop :=
  ∀ (m : (ℓ : Loc Cert.UpWeightRefIdeal.nD Cert.UpWeightRefIdeal.τ Cert.UpWeightRefIdeal.sig) → Buf (Elt Ideal) ℓ) (g : Dev Cert.UpWeightRefIdeal.nD → PrngReg), Pre_UpWeightRefIdeal m →
    θ_run (Cert.UpWeightRefIdeal.defs (F := Ideal)) (onTc (τ := Cert.UpWeightRefIdeal.τ) (Cert.UpWeightRefIdeal.main (F := Ideal))) ⟨m, fun _ => 0, g⟩ (fun r => (∀ c : Dev Cert.UpWeightRefIdeal.nD,
      r.2.mem ((c.tc : Thread Cert.UpWeightRefIdeal.nD Cert.UpWeightRefIdeal.τ).loc Cert.UpWeightRefIdeal.main_arg0) = m ((c.tc : Thread Cert.UpWeightRefIdeal.nD Cert.UpWeightRefIdeal.τ).loc Cert.UpWeightRefIdeal.main_arg0)
      ∧ r.2.mem ((c.tc : Thread Cert.UpWeightRefIdeal.nD Cert.UpWeightRefIdeal.τ).loc Cert.UpWeightRefIdeal.main_arg1) = m ((c.tc : Thread Cert.UpWeightRefIdeal.nD Cert.UpWeightRefIdeal.τ).loc Cert.UpWeightRefIdeal.main_arg1))
      ∧ r.2.sem = fun _ => 0)

def quiescent_UpInput [hUpInput : Cert.UpInput.Facts] : Prop :=
  ∀ (m : (ℓ : Loc Cert.UpInput.nD Cert.UpInput.τ Cert.UpInput.sig) → Buf (Elt Bits) ℓ) (g : Dev Cert.UpInput.nD → PrngReg), Pre_UpInput m →
    θ_run (Cert.UpInput.defs (F := Bits)) (onTc (τ := Cert.UpInput.τ) (Cert.UpInput.main (F := Bits))) ⟨m, fun _ => 0, g⟩ (fun r => (∀ c : Dev Cert.UpInput.nD,
      r.2.mem ((c.tc : Thread Cert.UpInput.nD Cert.UpInput.τ).loc Cert.UpInput.main_arg0) = m ((c.tc : Thread Cert.UpInput.nD Cert.UpInput.τ).loc Cert.UpInput.main_arg0)
      ∧ r.2.mem ((c.tc : Thread Cert.UpInput.nD Cert.UpInput.τ).loc Cert.UpInput.main_arg1) = m ((c.tc : Thread Cert.UpInput.nD Cert.UpInput.τ).loc Cert.UpInput.main_arg1)
      ∧ r.2.mem ((c.tc : Thread Cert.UpInput.nD Cert.UpInput.τ).loc Cert.UpInput.main_arg2) = m ((c.tc : Thread Cert.UpInput.nD Cert.UpInput.τ).loc Cert.UpInput.main_arg2)
      ∧ r.2.mem ((c.tc : Thread Cert.UpInput.nD Cert.UpInput.τ).loc Cert.UpInput.main_arg3) = m ((c.tc : Thread Cert.UpInput.nD Cert.UpInput.τ).loc Cert.UpInput.main_arg3))
      ∧ r.2.sem = fun _ => 0)

def quiescent_UpInputIdeal [hUpInputIdeal : Cert.UpInputIdeal.Facts] : Prop :=
  ∀ (m : (ℓ : Loc Cert.UpInputIdeal.nD Cert.UpInputIdeal.τ Cert.UpInputIdeal.sig) → Buf (Elt Ideal) ℓ) (g : Dev Cert.UpInputIdeal.nD → PrngReg), Pre_UpInputIdeal m →
    θ_run (Cert.UpInputIdeal.defs (F := Ideal)) (onTc (τ := Cert.UpInputIdeal.τ) (Cert.UpInputIdeal.main (F := Ideal))) ⟨m, fun _ => 0, g⟩ (fun r => (∀ c : Dev Cert.UpInputIdeal.nD,
      r.2.mem ((c.tc : Thread Cert.UpInputIdeal.nD Cert.UpInputIdeal.τ).loc Cert.UpInputIdeal.main_arg0) = m ((c.tc : Thread Cert.UpInputIdeal.nD Cert.UpInputIdeal.τ).loc Cert.UpInputIdeal.main_arg0)
      ∧ r.2.mem ((c.tc : Thread Cert.UpInputIdeal.nD Cert.UpInputIdeal.τ).loc Cert.UpInputIdeal.main_arg1) = m ((c.tc : Thread Cert.UpInputIdeal.nD Cert.UpInputIdeal.τ).loc Cert.UpInputIdeal.main_arg1)
      ∧ r.2.mem ((c.tc : Thread Cert.UpInputIdeal.nD Cert.UpInputIdeal.τ).loc Cert.UpInputIdeal.main_arg2) = m ((c.tc : Thread Cert.UpInputIdeal.nD Cert.UpInputIdeal.τ).loc Cert.UpInputIdeal.main_arg2)
      ∧ r.2.mem ((c.tc : Thread Cert.UpInputIdeal.nD Cert.UpInputIdeal.τ).loc Cert.UpInputIdeal.main_arg3) = m ((c.tc : Thread Cert.UpInputIdeal.nD Cert.UpInputIdeal.τ).loc Cert.UpInputIdeal.main_arg3))
      ∧ r.2.sem = fun _ => 0)

def quiescent_UpInputRefIdeal [hUpInputRefIdeal : Cert.UpInputRefIdeal.Facts] : Prop :=
  ∀ (m : (ℓ : Loc Cert.UpInputRefIdeal.nD Cert.UpInputRefIdeal.τ Cert.UpInputRefIdeal.sig) → Buf (Elt Ideal) ℓ) (g : Dev Cert.UpInputRefIdeal.nD → PrngReg), Pre_UpInputRefIdeal m →
    θ_run (Cert.UpInputRefIdeal.defs (F := Ideal)) (onTc (τ := Cert.UpInputRefIdeal.τ) (Cert.UpInputRefIdeal.main (F := Ideal))) ⟨m, fun _ => 0, g⟩ (fun r => (∀ c : Dev Cert.UpInputRefIdeal.nD,
      r.2.mem ((c.tc : Thread Cert.UpInputRefIdeal.nD Cert.UpInputRefIdeal.τ).loc Cert.UpInputRefIdeal.main_arg0) = m ((c.tc : Thread Cert.UpInputRefIdeal.nD Cert.UpInputRefIdeal.τ).loc Cert.UpInputRefIdeal.main_arg0)
      ∧ r.2.mem ((c.tc : Thread Cert.UpInputRefIdeal.nD Cert.UpInputRefIdeal.τ).loc Cert.UpInputRefIdeal.main_arg1) = m ((c.tc : Thread Cert.UpInputRefIdeal.nD Cert.UpInputRefIdeal.τ).loc Cert.UpInputRefIdeal.main_arg1)
      ∧ r.2.mem ((c.tc : Thread Cert.UpInputRefIdeal.nD Cert.UpInputRefIdeal.τ).loc Cert.UpInputRefIdeal.main_arg2) = m ((c.tc : Thread Cert.UpInputRefIdeal.nD Cert.UpInputRefIdeal.τ).loc Cert.UpInputRefIdeal.main_arg2)
      ∧ r.2.mem ((c.tc : Thread Cert.UpInputRefIdeal.nD Cert.UpInputRefIdeal.τ).loc Cert.UpInputRefIdeal.main_arg3) = m ((c.tc : Thread Cert.UpInputRefIdeal.nD Cert.UpInputRefIdeal.τ).loc Cert.UpInputRefIdeal.main_arg3))
      ∧ r.2.sem = fun _ => 0)

def quiescent_RgIn [hRgIn : Cert.RgIn.Facts] : Prop :=
  ∀ (m : (ℓ : Loc Cert.RgIn.nD Cert.RgIn.τ Cert.RgIn.sig) → Buf (Elt Bits) ℓ) (g : Dev Cert.RgIn.nD → PrngReg), Pre_RgIn m →
    θ_run (Cert.RgIn.defs (F := Bits)) (onTc (τ := Cert.RgIn.τ) (Cert.RgIn.main (F := Bits))) ⟨m, fun _ => 0, g⟩ (fun r => (∀ c : Dev Cert.RgIn.nD,
      r.2.mem ((c.tc : Thread Cert.RgIn.nD Cert.RgIn.τ).loc Cert.RgIn.main_arg0) = m ((c.tc : Thread Cert.RgIn.nD Cert.RgIn.τ).loc Cert.RgIn.main_arg0)
      ∧ r.2.mem ((c.tc : Thread Cert.RgIn.nD Cert.RgIn.τ).loc Cert.RgIn.main_arg1) = m ((c.tc : Thread Cert.RgIn.nD Cert.RgIn.τ).loc Cert.RgIn.main_arg1))
      ∧ r.2.sem = fun _ => 0)

def quiescent_RgInIdeal [hRgInIdeal : Cert.RgInIdeal.Facts] : Prop :=
  ∀ (m : (ℓ : Loc Cert.RgInIdeal.nD Cert.RgInIdeal.τ Cert.RgInIdeal.sig) → Buf (Elt Ideal) ℓ) (g : Dev Cert.RgInIdeal.nD → PrngReg), Pre_RgInIdeal m →
    θ_run (Cert.RgInIdeal.defs (F := Ideal)) (onTc (τ := Cert.RgInIdeal.τ) (Cert.RgInIdeal.main (F := Ideal))) ⟨m, fun _ => 0, g⟩ (fun r => (∀ c : Dev Cert.RgInIdeal.nD,
      r.2.mem ((c.tc : Thread Cert.RgInIdeal.nD Cert.RgInIdeal.τ).loc Cert.RgInIdeal.main_arg0) = m ((c.tc : Thread Cert.RgInIdeal.nD Cert.RgInIdeal.τ).loc Cert.RgInIdeal.main_arg0)
      ∧ r.2.mem ((c.tc : Thread Cert.RgInIdeal.nD Cert.RgInIdeal.τ).loc Cert.RgInIdeal.main_arg1) = m ((c.tc : Thread Cert.RgInIdeal.nD Cert.RgInIdeal.τ).loc Cert.RgInIdeal.main_arg1))
      ∧ r.2.sem = fun _ => 0)

def quiescent_RgInRefIdeal [hRgInRefIdeal : Cert.RgInRefIdeal.Facts] : Prop :=
  ∀ (m : (ℓ : Loc Cert.RgInRefIdeal.nD Cert.RgInRefIdeal.τ Cert.RgInRefIdeal.sig) → Buf (Elt Ideal) ℓ) (g : Dev Cert.RgInRefIdeal.nD → PrngReg), Pre_RgInRefIdeal m →
    θ_run (Cert.RgInRefIdeal.defs (F := Ideal)) (onTc (τ := Cert.RgInRefIdeal.τ) (Cert.RgInRefIdeal.main (F := Ideal))) ⟨m, fun _ => 0, g⟩ (fun r => (∀ c : Dev Cert.RgInRefIdeal.nD,
      r.2.mem ((c.tc : Thread Cert.RgInRefIdeal.nD Cert.RgInRefIdeal.τ).loc Cert.RgInRefIdeal.main_arg0) = m ((c.tc : Thread Cert.RgInRefIdeal.nD Cert.RgInRefIdeal.τ).loc Cert.RgInRefIdeal.main_arg0)
      ∧ r.2.mem ((c.tc : Thread Cert.RgInRefIdeal.nD Cert.RgInRefIdeal.τ).loc Cert.RgInRefIdeal.main_arg1) = m ((c.tc : Thread Cert.RgInRefIdeal.nD Cert.RgInRefIdeal.τ).loc Cert.RgInRefIdeal.main_arg1))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ r.2.sem = fun _ => 0)

def quiescent_AbInRefIdeal [hAbInRefIdeal : Cert.AbInRefIdeal.Facts] : Prop :=
  ∀ (m : (ℓ : Loc Cert.AbInRefIdeal.nD Cert.AbInRefIdeal.τ Cert.AbInRefIdeal.sig) → Buf (Elt Ideal) ℓ) (g : Dev Cert.AbInRefIdeal.nD → PrngReg), Pre_AbInRefIdeal m →
    θ_run (Cert.AbInRefIdeal.defs (F := Ideal)) (onTc (τ := Cert.AbInRefIdeal.τ) (Cert.AbInRefIdeal.main (F := Ideal))) ⟨m, fun _ => 0, g⟩ (fun r => (∀ c : Dev Cert.AbInRefIdeal.nD,
      r.2.mem ((c.tc : Thread Cert.AbInRefIdeal.nD Cert.AbInRefIdeal.τ).loc Cert.AbInRefIdeal.main_arg0) = m ((c.tc : Thread Cert.AbInRefIdeal.nD Cert.AbInRefIdeal.τ).loc Cert.AbInRefIdeal.main_arg0)
      ∧ r.2.mem ((c.tc : Thread Cert.AbInRefIdeal.nD Cert.AbInRefIdeal.τ).loc Cert.AbInRefIdeal.main_arg1) = m ((c.tc : Thread Cert.AbInRefIdeal.nD Cert.AbInRefIdeal.τ).loc Cert.AbInRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_MixOutInput [hMixOutInput : Cert.MixOutInput.Facts] : Prop :=
  ∀ (m : (ℓ : Loc Cert.MixOutInput.nD Cert.MixOutInput.τ Cert.MixOutInput.sig) → Buf (Elt Bits) ℓ) (g : Dev Cert.MixOutInput.nD → PrngReg), Pre_MixOutInput m →
    θ_run (Cert.MixOutInput.defs (F := Bits)) (onTc (τ := Cert.MixOutInput.τ) (Cert.MixOutInput.main (F := Bits))) ⟨m, fun _ => 0, g⟩ (fun r => (∀ c : Dev Cert.MixOutInput.nD,
      r.2.mem ((c.tc : Thread Cert.MixOutInput.nD Cert.MixOutInput.τ).loc Cert.MixOutInput.main_arg0) = m ((c.tc : Thread Cert.MixOutInput.nD Cert.MixOutInput.τ).loc Cert.MixOutInput.main_arg0)
      ∧ r.2.mem ((c.tc : Thread Cert.MixOutInput.nD Cert.MixOutInput.τ).loc Cert.MixOutInput.main_arg1) = m ((c.tc : Thread Cert.MixOutInput.nD Cert.MixOutInput.τ).loc Cert.MixOutInput.main_arg1))
      ∧ r.2.sem = fun _ => 0)

def quiescent_MixOutInputIdeal [hMixOutInputIdeal : Cert.MixOutInputIdeal.Facts] : Prop :=
  ∀ (m : (ℓ : Loc Cert.MixOutInputIdeal.nD Cert.MixOutInputIdeal.τ Cert.MixOutInputIdeal.sig) → Buf (Elt Ideal) ℓ) (g : Dev Cert.MixOutInputIdeal.nD → PrngReg), Pre_MixOutInputIdeal m →
    θ_run (Cert.MixOutInputIdeal.defs (F := Ideal)) (onTc (τ := Cert.MixOutInputIdeal.τ) (Cert.MixOutInputIdeal.main (F := Ideal))) ⟨m, fun _ => 0, g⟩ (fun r => (∀ c : Dev Cert.MixOutInputIdeal.nD,
      r.2.mem ((c.tc : Thread Cert.MixOutInputIdeal.nD Cert.MixOutInputIdeal.τ).loc Cert.MixOutInputIdeal.main_arg0) = m ((c.tc : Thread Cert.MixOutInputIdeal.nD Cert.MixOutInputIdeal.τ).loc Cert.MixOutInputIdeal.main_arg0)
      ∧ r.2.mem ((c.tc : Thread Cert.MixOutInputIdeal.nD Cert.MixOutInputIdeal.τ).loc Cert.MixOutInputIdeal.main_arg1) = m ((c.tc : Thread Cert.MixOutInputIdeal.nD Cert.MixOutInputIdeal.τ).loc Cert.MixOutInputIdeal.main_arg1))
      ∧ r.2.sem = fun _ => 0)

def quiescent_MixOutInputRefIdeal [hMixOutInputRefIdeal : Cert.MixOutInputRefIdeal.Facts] : Prop :=
  ∀ (m : (ℓ : Loc Cert.MixOutInputRefIdeal.nD Cert.MixOutInputRefIdeal.τ Cert.MixOutInputRefIdeal.sig) → Buf (Elt Ideal) ℓ) (g : Dev Cert.MixOutInputRefIdeal.nD → PrngReg), Pre_MixOutInputRefIdeal m →
    θ_run (Cert.MixOutInputRefIdeal.defs (F := Ideal)) (onTc (τ := Cert.MixOutInputRefIdeal.τ) (Cert.MixOutInputRefIdeal.main (F := Ideal))) ⟨m, fun _ => 0, g⟩ (fun r => (∀ c : Dev Cert.MixOutInputRefIdeal.nD,
      r.2.mem ((c.tc : Thread Cert.MixOutInputRefIdeal.nD Cert.MixOutInputRefIdeal.τ).loc Cert.MixOutInputRefIdeal.main_arg0) = m ((c.tc : Thread Cert.MixOutInputRefIdeal.nD Cert.MixOutInputRefIdeal.τ).loc Cert.MixOutInputRefIdeal.main_arg0)
      ∧ r.2.mem ((c.tc : Thread Cert.MixOutInputRefIdeal.nD Cert.MixOutInputRefIdeal.τ).loc Cert.MixOutInputRefIdeal.main_arg1) = m ((c.tc : Thread Cert.MixOutInputRefIdeal.nD Cert.MixOutInputRefIdeal.τ).loc Cert.MixOutInputRefIdeal.main_arg1))
      ∧ r.2.sem = fun _ => 0)

def quiescent_RgInput [hRgInput : Cert.RgInput.Facts] : Prop :=
  ∀ (m : (ℓ : Loc Cert.RgInput.nD Cert.RgInput.τ Cert.RgInput.sig) → Buf (Elt Bits) ℓ) (g : Dev Cert.RgInput.nD → PrngReg), Pre_RgInput m →
    θ_run (Cert.RgInput.defs (F := Bits)) (onTc (τ := Cert.RgInput.τ) (Cert.RgInput.main (F := Bits))) ⟨m, fun _ => 0, g⟩ (fun r => (∀ c : Dev Cert.RgInput.nD,
      r.2.mem ((c.tc : Thread Cert.RgInput.nD Cert.RgInput.τ).loc Cert.RgInput.main_arg0) = m ((c.tc : Thread Cert.RgInput.nD Cert.RgInput.τ).loc Cert.RgInput.main_arg0)
      ∧ r.2.mem ((c.tc : Thread Cert.RgInput.nD Cert.RgInput.τ).loc Cert.RgInput.main_arg1) = m ((c.tc : Thread Cert.RgInput.nD Cert.RgInput.τ).loc Cert.RgInput.main_arg1))
      ∧ r.2.sem = fun _ => 0)

def quiescent_RgInputIdeal [hRgInputIdeal : Cert.RgInputIdeal.Facts] : Prop :=
  ∀ (m : (ℓ : Loc Cert.RgInputIdeal.nD Cert.RgInputIdeal.τ Cert.RgInputIdeal.sig) → Buf (Elt Ideal) ℓ) (g : Dev Cert.RgInputIdeal.nD → PrngReg), Pre_RgInputIdeal m →
    θ_run (Cert.RgInputIdeal.defs (F := Ideal)) (onTc (τ := Cert.RgInputIdeal.τ) (Cert.RgInputIdeal.main (F := Ideal))) ⟨m, fun _ => 0, g⟩ (fun r => (∀ c : Dev Cert.RgInputIdeal.nD,
      r.2.mem ((c.tc : Thread Cert.RgInputIdeal.nD Cert.RgInputIdeal.τ).loc Cert.RgInputIdeal.main_arg0) = m ((c.tc : Thread Cert.RgInputIdeal.nD Cert.RgInputIdeal.τ).loc Cert.RgInputIdeal.main_arg0)
      ∧ r.2.mem ((c.tc : Thread Cert.RgInputIdeal.nD Cert.RgInputIdeal.τ).loc Cert.RgInputIdeal.main_arg1) = m ((c.tc : Thread Cert.RgInputIdeal.nD Cert.RgInputIdeal.τ).loc Cert.RgInputIdeal.main_arg1))
      ∧ r.2.sem = fun _ => 0)

def quiescent_RgInputRefIdeal [hRgInputRefIdeal : Cert.RgInputRefIdeal.Facts] : Prop :=
  ∀ (m : (ℓ : Loc Cert.RgInputRefIdeal.nD Cert.RgInputRefIdeal.τ Cert.RgInputRefIdeal.sig) → Buf (Elt Ideal) ℓ) (g : Dev Cert.RgInputRefIdeal.nD → PrngReg), Pre_RgInputRefIdeal m →
    θ_run (Cert.RgInputRefIdeal.defs (F := Ideal)) (onTc (τ := Cert.RgInputRefIdeal.τ) (Cert.RgInputRefIdeal.main (F := Ideal))) ⟨m, fun _ => 0, g⟩ (fun r => (∀ c : Dev Cert.RgInputRefIdeal.nD,
      r.2.mem ((c.tc : Thread Cert.RgInputRefIdeal.nD Cert.RgInputRefIdeal.τ).loc Cert.RgInputRefIdeal.main_arg0) = m ((c.tc : Thread Cert.RgInputRefIdeal.nD Cert.RgInputRefIdeal.τ).loc Cert.RgInputRefIdeal.main_arg0)
      ∧ r.2.mem ((c.tc : Thread Cert.RgInputRefIdeal.nD Cert.RgInputRefIdeal.τ).loc Cert.RgInputRefIdeal.main_arg1) = m ((c.tc : Thread Cert.RgInputRefIdeal.nD Cert.RgInputRefIdeal.τ).loc Cert.RgInputRefIdeal.main_arg1))
      ∧ r.2.sem = fun _ => 0)

def quiescent_AbInput [hAbInput : Cert.AbInput.Facts] : Prop :=
  ∀ (m : (ℓ : Loc Cert.AbInput.nD Cert.AbInput.τ Cert.AbInput.sig) → Buf (Elt Bits) ℓ) (g : Dev Cert.AbInput.nD → PrngReg), Pre_AbInput m →
    θ_run (Cert.AbInput.defs (F := Bits)) (onTc (τ := Cert.AbInput.τ) (Cert.AbInput.main (F := Bits))) ⟨m, fun _ => 0, g⟩ (fun r => (∀ c : Dev Cert.AbInput.nD,
      r.2.mem ((c.tc : Thread Cert.AbInput.nD Cert.AbInput.τ).loc Cert.AbInput.main_arg0) = m ((c.tc : Thread Cert.AbInput.nD Cert.AbInput.τ).loc Cert.AbInput.main_arg0)
      ∧ r.2.mem ((c.tc : Thread Cert.AbInput.nD Cert.AbInput.τ).loc Cert.AbInput.main_arg1) = m ((c.tc : Thread Cert.AbInput.nD Cert.AbInput.τ).loc Cert.AbInput.main_arg1))
      ∧ r.2.sem = fun _ => 0)

def quiescent_AbInputIdeal [hAbInputIdeal : Cert.AbInputIdeal.Facts] : Prop :=
  ∀ (m : (ℓ : Loc Cert.AbInputIdeal.nD Cert.AbInputIdeal.τ Cert.AbInputIdeal.sig) → Buf (Elt Ideal) ℓ) (g : Dev Cert.AbInputIdeal.nD → PrngReg), Pre_AbInputIdeal m →
    θ_run (Cert.AbInputIdeal.defs (F := Ideal)) (onTc (τ := Cert.AbInputIdeal.τ) (Cert.AbInputIdeal.main (F := Ideal))) ⟨m, fun _ => 0, g⟩ (fun r => (∀ c : Dev Cert.AbInputIdeal.nD,
      r.2.mem ((c.tc : Thread Cert.AbInputIdeal.nD Cert.AbInputIdeal.τ).loc Cert.AbInputIdeal.main_arg0) = m ((c.tc : Thread Cert.AbInputIdeal.nD Cert.AbInputIdeal.τ).loc Cert.AbInputIdeal.main_arg0)
      ∧ r.2.mem ((c.tc : Thread Cert.AbInputIdeal.nD Cert.AbInputIdeal.τ).loc Cert.AbInputIdeal.main_arg1) = m ((c.tc : Thread Cert.AbInputIdeal.nD Cert.AbInputIdeal.τ).loc Cert.AbInputIdeal.main_arg1))
      ∧ r.2.sem = fun _ => 0)

def quiescent_AbInputRefIdeal [hAbInputRefIdeal : Cert.AbInputRefIdeal.Facts] : Prop :=
  ∀ (m : (ℓ : Loc Cert.AbInputRefIdeal.nD Cert.AbInputRefIdeal.τ Cert.AbInputRefIdeal.sig) → Buf (Elt Ideal) ℓ) (g : Dev Cert.AbInputRefIdeal.nD → PrngReg), Pre_AbInputRefIdeal m →
    θ_run (Cert.AbInputRefIdeal.defs (F := Ideal)) (onTc (τ := Cert.AbInputRefIdeal.τ) (Cert.AbInputRefIdeal.main (F := Ideal))) ⟨m, fun _ => 0, g⟩ (fun r => (∀ c : Dev Cert.AbInputRefIdeal.nD,
      r.2.mem ((c.tc : Thread Cert.AbInputRefIdeal.nD Cert.AbInputRefIdeal.τ).loc Cert.AbInputRefIdeal.main_arg0) = m ((c.tc : Thread Cert.AbInputRefIdeal.nD Cert.AbInputRefIdeal.τ).loc Cert.AbInputRefIdeal.main_arg0)
      ∧ r.2.mem ((c.tc : Thread Cert.AbInputRefIdeal.nD Cert.AbInputRefIdeal.τ).loc Cert.AbInputRefIdeal.main_arg1) = m ((c.tc : Thread Cert.AbInputRefIdeal.nD Cert.AbInputRefIdeal.τ).loc Cert.AbInputRefIdeal.main_arg1))
      ∧ r.2.sem = fun _ => 0)

def quiescent_MixOutWeight [hMixOutWeight : Cert.MixOutWeight.Facts] : Prop :=
  ∀ (m : (ℓ : Loc Cert.MixOutWeight.nD Cert.MixOutWeight.τ Cert.MixOutWeight.sig) → Buf (Elt Bits) ℓ) (g : Dev Cert.MixOutWeight.nD → PrngReg), Pre_MixOutWeight m →
    θ_run (Cert.MixOutWeight.defs (F := Bits)) (onTc (τ := Cert.MixOutWeight.τ) (Cert.MixOutWeight.main (F := Bits))) ⟨m, fun _ => 0, g⟩ (fun r => (∀ c : Dev Cert.MixOutWeight.nD,
      r.2.mem ((c.tc : Thread Cert.MixOutWeight.nD Cert.MixOutWeight.τ).loc Cert.MixOutWeight.main_arg0) = m ((c.tc : Thread Cert.MixOutWeight.nD Cert.MixOutWeight.τ).loc Cert.MixOutWeight.main_arg0)
      ∧ r.2.mem ((c.tc : Thread Cert.MixOutWeight.nD Cert.MixOutWeight.τ).loc Cert.MixOutWeight.main_arg1) = m ((c.tc : Thread Cert.MixOutWeight.nD Cert.MixOutWeight.τ).loc Cert.MixOutWeight.main_arg1))
      ∧ r.2.sem = fun _ => 0)

def quiescent_MixOutWeightIdeal [hMixOutWeightIdeal : Cert.MixOutWeightIdeal.Facts] : Prop :=
  ∀ (m : (ℓ : Loc Cert.MixOutWeightIdeal.nD Cert.MixOutWeightIdeal.τ Cert.MixOutWeightIdeal.sig) → Buf (Elt Ideal) ℓ) (g : Dev Cert.MixOutWeightIdeal.nD → PrngReg), Pre_MixOutWeightIdeal m →
    θ_run (Cert.MixOutWeightIdeal.defs (F := Ideal)) (onTc (τ := Cert.MixOutWeightIdeal.τ) (Cert.MixOutWeightIdeal.main (F := Ideal))) ⟨m, fun _ => 0, g⟩ (fun r => (∀ c : Dev Cert.MixOutWeightIdeal.nD,
      r.2.mem ((c.tc : Thread Cert.MixOutWeightIdeal.nD Cert.MixOutWeightIdeal.τ).loc Cert.MixOutWeightIdeal.main_arg0) = m ((c.tc : Thread Cert.MixOutWeightIdeal.nD Cert.MixOutWeightIdeal.τ).loc Cert.MixOutWeightIdeal.main_arg0)
      ∧ r.2.mem ((c.tc : Thread Cert.MixOutWeightIdeal.nD Cert.MixOutWeightIdeal.τ).loc Cert.MixOutWeightIdeal.main_arg1) = m ((c.tc : Thread Cert.MixOutWeightIdeal.nD Cert.MixOutWeightIdeal.τ).loc Cert.MixOutWeightIdeal.main_arg1))
      ∧ r.2.sem = fun _ => 0)

def quiescent_MixOutWeightRefIdeal [hMixOutWeightRefIdeal : Cert.MixOutWeightRefIdeal.Facts] : Prop :=
  ∀ (m : (ℓ : Loc Cert.MixOutWeightRefIdeal.nD Cert.MixOutWeightRefIdeal.τ Cert.MixOutWeightRefIdeal.sig) → Buf (Elt Ideal) ℓ) (g : Dev Cert.MixOutWeightRefIdeal.nD → PrngReg), Pre_MixOutWeightRefIdeal m →
    θ_run (Cert.MixOutWeightRefIdeal.defs (F := Ideal)) (onTc (τ := Cert.MixOutWeightRefIdeal.τ) (Cert.MixOutWeightRefIdeal.main (F := Ideal))) ⟨m, fun _ => 0, g⟩ (fun r => (∀ c : Dev Cert.MixOutWeightRefIdeal.nD,
      r.2.mem ((c.tc : Thread Cert.MixOutWeightRefIdeal.nD Cert.MixOutWeightRefIdeal.τ).loc Cert.MixOutWeightRefIdeal.main_arg0) = m ((c.tc : Thread Cert.MixOutWeightRefIdeal.nD Cert.MixOutWeightRefIdeal.τ).loc Cert.MixOutWeightRefIdeal.main_arg0)
      ∧ r.2.mem ((c.tc : Thread Cert.MixOutWeightRefIdeal.nD Cert.MixOutWeightRefIdeal.τ).loc Cert.MixOutWeightRefIdeal.main_arg1) = m ((c.tc : Thread Cert.MixOutWeightRefIdeal.nD Cert.MixOutWeightRefIdeal.τ).loc Cert.MixOutWeightRefIdeal.main_arg1))
      ∧ r.2.sem = fun _ => 0)

def quiescent_RgWeight [hRgWeight : Cert.RgWeight.Facts] : Prop :=
  ∀ (m : (ℓ : Loc Cert.RgWeight.nD Cert.RgWeight.τ Cert.RgWeight.sig) → Buf (Elt Bits) ℓ) (g : Dev Cert.RgWeight.nD → PrngReg), Pre_RgWeight m →
    θ_run (Cert.RgWeight.defs (F := Bits)) (onTc (τ := Cert.RgWeight.τ) (Cert.RgWeight.main (F := Bits))) ⟨m, fun _ => 0, g⟩ (fun r => (∀ c : Dev Cert.RgWeight.nD,
      r.2.mem ((c.tc : Thread Cert.RgWeight.nD Cert.RgWeight.τ).loc Cert.RgWeight.main_arg0) = m ((c.tc : Thread Cert.RgWeight.nD Cert.RgWeight.τ).loc Cert.RgWeight.main_arg0)
      ∧ r.2.mem ((c.tc : Thread Cert.RgWeight.nD Cert.RgWeight.τ).loc Cert.RgWeight.main_arg1) = m ((c.tc : Thread Cert.RgWeight.nD Cert.RgWeight.τ).loc Cert.RgWeight.main_arg1))
      ∧ r.2.sem = fun _ => 0)

def quiescent_RgWeightIdeal [hRgWeightIdeal : Cert.RgWeightIdeal.Facts] : Prop :=
  ∀ (m : (ℓ : Loc Cert.RgWeightIdeal.nD Cert.RgWeightIdeal.τ Cert.RgWeightIdeal.sig) → Buf (Elt Ideal) ℓ) (g : Dev Cert.RgWeightIdeal.nD → PrngReg), Pre_RgWeightIdeal m →
    θ_run (Cert.RgWeightIdeal.defs (F := Ideal)) (onTc (τ := Cert.RgWeightIdeal.τ) (Cert.RgWeightIdeal.main (F := Ideal))) ⟨m, fun _ => 0, g⟩ (fun r => (∀ c : Dev Cert.RgWeightIdeal.nD,
      r.2.mem ((c.tc : Thread Cert.RgWeightIdeal.nD Cert.RgWeightIdeal.τ).loc Cert.RgWeightIdeal.main_arg0) = m ((c.tc : Thread Cert.RgWeightIdeal.nD Cert.RgWeightIdeal.τ).loc Cert.RgWeightIdeal.main_arg0)
      ∧ r.2.mem ((c.tc : Thread Cert.RgWeightIdeal.nD Cert.RgWeightIdeal.τ).loc Cert.RgWeightIdeal.main_arg1) = m ((c.tc : Thread Cert.RgWeightIdeal.nD Cert.RgWeightIdeal.τ).loc Cert.RgWeightIdeal.main_arg1))
      ∧ r.2.sem = fun _ => 0)

def quiescent_RgWeightRefIdeal [hRgWeightRefIdeal : Cert.RgWeightRefIdeal.Facts] : Prop :=
  ∀ (m : (ℓ : Loc Cert.RgWeightRefIdeal.nD Cert.RgWeightRefIdeal.τ Cert.RgWeightRefIdeal.sig) → Buf (Elt Ideal) ℓ) (g : Dev Cert.RgWeightRefIdeal.nD → PrngReg), Pre_RgWeightRefIdeal m →
    θ_run (Cert.RgWeightRefIdeal.defs (F := Ideal)) (onTc (τ := Cert.RgWeightRefIdeal.τ) (Cert.RgWeightRefIdeal.main (F := Ideal))) ⟨m, fun _ => 0, g⟩ (fun r => (∀ c : Dev Cert.RgWeightRefIdeal.nD,
      r.2.mem ((c.tc : Thread Cert.RgWeightRefIdeal.nD Cert.RgWeightRefIdeal.τ).loc Cert.RgWeightRefIdeal.main_arg0) = m ((c.tc : Thread Cert.RgWeightRefIdeal.nD Cert.RgWeightRefIdeal.τ).loc Cert.RgWeightRefIdeal.main_arg0)
      ∧ r.2.mem ((c.tc : Thread Cert.RgWeightRefIdeal.nD Cert.RgWeightRefIdeal.τ).loc Cert.RgWeightRefIdeal.main_arg1) = m ((c.tc : Thread Cert.RgWeightRefIdeal.nD Cert.RgWeightRefIdeal.τ).loc Cert.RgWeightRefIdeal.main_arg1))
      ∧ r.2.sem = fun _ => 0)

def quiescent_AbWeight [hAbWeight : Cert.AbWeight.Facts] : Prop :=
  ∀ (m : (ℓ : Loc Cert.AbWeight.nD Cert.AbWeight.τ Cert.AbWeight.sig) → Buf (Elt Bits) ℓ) (g : Dev Cert.AbWeight.nD → PrngReg), Pre_AbWeight m →
    θ_run (Cert.AbWeight.defs (F := Bits)) (onTc (τ := Cert.AbWeight.τ) (Cert.AbWeight.main (F := Bits))) ⟨m, fun _ => 0, g⟩ (fun r => (∀ c : Dev Cert.AbWeight.nD,
      r.2.mem ((c.tc : Thread Cert.AbWeight.nD Cert.AbWeight.τ).loc Cert.AbWeight.main_arg0) = m ((c.tc : Thread Cert.AbWeight.nD Cert.AbWeight.τ).loc Cert.AbWeight.main_arg0)
      ∧ r.2.mem ((c.tc : Thread Cert.AbWeight.nD Cert.AbWeight.τ).loc Cert.AbWeight.main_arg1) = m ((c.tc : Thread Cert.AbWeight.nD Cert.AbWeight.τ).loc Cert.AbWeight.main_arg1))
      ∧ r.2.sem = fun _ => 0)

def quiescent_AbWeightIdeal [hAbWeightIdeal : Cert.AbWeightIdeal.Facts] : Prop :=
  ∀ (m : (ℓ : Loc Cert.AbWeightIdeal.nD Cert.AbWeightIdeal.τ Cert.AbWeightIdeal.sig) → Buf (Elt Ideal) ℓ) (g : Dev Cert.AbWeightIdeal.nD → PrngReg), Pre_AbWeightIdeal m →
    θ_run (Cert.AbWeightIdeal.defs (F := Ideal)) (onTc (τ := Cert.AbWeightIdeal.τ) (Cert.AbWeightIdeal.main (F := Ideal))) ⟨m, fun _ => 0, g⟩ (fun r => (∀ c : Dev Cert.AbWeightIdeal.nD,
      r.2.mem ((c.tc : Thread Cert.AbWeightIdeal.nD Cert.AbWeightIdeal.τ).loc Cert.AbWeightIdeal.main_arg0) = m ((c.tc : Thread Cert.AbWeightIdeal.nD Cert.AbWeightIdeal.τ).loc Cert.AbWeightIdeal.main_arg0)
      ∧ r.2.mem ((c.tc : Thread Cert.AbWeightIdeal.nD Cert.AbWeightIdeal.τ).loc Cert.AbWeightIdeal.main_arg1) = m ((c.tc : Thread Cert.AbWeightIdeal.nD Cert.AbWeightIdeal.τ).loc Cert.AbWeightIdeal.main_arg1))
      ∧ r.2.sem = fun _ => 0)

def quiescent_AbWeightRefIdeal [hAbWeightRefIdeal : Cert.AbWeightRefIdeal.Facts] : Prop :=
  ∀ (m : (ℓ : Loc Cert.AbWeightRefIdeal.nD Cert.AbWeightRefIdeal.τ Cert.AbWeightRefIdeal.sig) → Buf (Elt Ideal) ℓ) (g : Dev Cert.AbWeightRefIdeal.nD → PrngReg), Pre_AbWeightRefIdeal m →
    θ_run (Cert.AbWeightRefIdeal.defs (F := Ideal)) (onTc (τ := Cert.AbWeightRefIdeal.τ) (Cert.AbWeightRefIdeal.main (F := Ideal))) ⟨m, fun _ => 0, g⟩ (fun r => (∀ c : Dev Cert.AbWeightRefIdeal.nD,
      r.2.mem ((c.tc : Thread Cert.AbWeightRefIdeal.nD Cert.AbWeightRefIdeal.τ).loc Cert.AbWeightRefIdeal.main_arg0) = m ((c.tc : Thread Cert.AbWeightRefIdeal.nD Cert.AbWeightRefIdeal.τ).loc Cert.AbWeightRefIdeal.main_arg0)
      ∧ r.2.mem ((c.tc : Thread Cert.AbWeightRefIdeal.nD Cert.AbWeightRefIdeal.τ).loc Cert.AbWeightRefIdeal.main_arg1) = m ((c.tc : Thread Cert.AbWeightRefIdeal.nD Cert.AbWeightRefIdeal.τ).loc Cert.AbWeightRefIdeal.main_arg1))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_PostBwd [hPostBwd : Cert.PostBwd.Facts] : Prop :=
  ∀ (m : (ℓ : Loc Cert.PostBwd.nD Cert.PostBwd.τ Cert.PostBwd.sig) → Buf (Elt Bits) ℓ) (g : Dev Cert.PostBwd.nD → PrngReg), Pre_PostBwd m →
    θ_run (Cert.PostBwd.defs (F := Bits)) (onTc (τ := Cert.PostBwd.τ) (Cert.PostBwd.main (F := Bits))) ⟨m, fun _ => 0, g⟩ (fun r => (∀ c : Dev Cert.PostBwd.nD,
      r.2.mem ((c.tc : Thread Cert.PostBwd.nD Cert.PostBwd.τ).loc Cert.PostBwd.main_arg0) = m ((c.tc : Thread Cert.PostBwd.nD Cert.PostBwd.τ).loc Cert.PostBwd.main_arg0)
      ∧ r.2.mem ((c.tc : Thread Cert.PostBwd.nD Cert.PostBwd.τ).loc Cert.PostBwd.main_arg1) = m ((c.tc : Thread Cert.PostBwd.nD Cert.PostBwd.τ).loc Cert.PostBwd.main_arg1)
      ∧ r.2.mem ((c.tc : Thread Cert.PostBwd.nD Cert.PostBwd.τ).loc Cert.PostBwd.main_arg2) = m ((c.tc : Thread Cert.PostBwd.nD Cert.PostBwd.τ).loc Cert.PostBwd.main_arg2)
      ∧ r.2.mem ((c.tc : Thread Cert.PostBwd.nD Cert.PostBwd.τ).loc Cert.PostBwd.main_arg3) = m ((c.tc : Thread Cert.PostBwd.nD Cert.PostBwd.τ).loc Cert.PostBwd.main_arg3)
      ∧ r.2.mem ((c.tc : Thread Cert.PostBwd.nD Cert.PostBwd.τ).loc Cert.PostBwd.main_arg4) = m ((c.tc : Thread Cert.PostBwd.nD Cert.PostBwd.τ).loc Cert.PostBwd.main_arg4)
      ∧ r.2.mem ((c.tc : Thread Cert.PostBwd.nD Cert.PostBwd.τ).loc Cert.PostBwd.main_arg5) = m ((c.tc : Thread Cert.PostBwd.nD Cert.PostBwd.τ).loc Cert.PostBwd.main_arg5)
      ∧ r.2.mem ((c.tc : Thread Cert.PostBwd.nD Cert.PostBwd.τ).loc Cert.PostBwd.main_arg6) = m ((c.tc : Thread Cert.PostBwd.nD Cert.PostBwd.τ).loc Cert.PostBwd.main_arg6)
      ∧ r.2.mem ((c.tc : Thread Cert.PostBwd.nD Cert.PostBwd.τ).loc Cert.PostBwd.main_arg7) = m ((c.tc : Thread Cert.PostBwd.nD Cert.PostBwd.τ).loc Cert.PostBwd.main_arg7)
      ∧ r.2.mem ((c.tc : Thread Cert.PostBwd.nD Cert.PostBwd.τ).loc Cert.PostBwd.main_arg8) = m ((c.tc : Thread Cert.PostBwd.nD Cert.PostBwd.τ).loc Cert.PostBwd.main_arg8))
      ∧ r.2.sem = fun _ => 0)

def quiescent_PostBwdIdeal [hPostBwdIdeal : Cert.PostBwdIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
      ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
      ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5)
      ∧ r.2.mem ((c.tc : Thread Cert.PostBwdIdeal.nD Cert.PostBwdIdeal.τ).loc Cert.PostBwdIdeal.main_arg6) = m ((c.tc : Thread Cert.PostBwdIdeal.nD Cert.PostBwdIdeal.τ).loc Cert.PostBwdIdeal.main_arg6)
      ∧ r.2.mem ((c.tc : Thread Cert.PostBwdIdeal.nD Cert.PostBwdIdeal.τ).loc Cert.PostBwdIdeal.main_arg7) = m ((c.tc : Thread Cert.PostBwdIdeal.nD Cert.PostBwdIdeal.τ).loc Cert.PostBwdIdeal.main_arg7)
      ∧ r.2.mem ((c.tc : Thread Cert.PostBwdIdeal.nD Cert.PostBwdIdeal.τ).loc Cert.PostBwdIdeal.main_arg8) = m ((c.tc : Thread Cert.PostBwdIdeal.nD Cert.PostBwdIdeal.τ).loc Cert.PostBwdIdeal.main_arg8))
      ∧ r.2.sem = fun _ => 0)

def quiescent_PostBwdIdeal_pre_post_finite [hPostBwdIdeal : Cert.PostBwdIdeal.Facts] [hPre_post_finite : Cert.Pre_post_finite.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal_post_finite m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
      ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
      ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5)
      ∧ r.2.mem ((c.tc : Thread Cert.PostBwdIdeal.nD Cert.PostBwdIdeal.τ).loc Cert.PostBwdIdeal.main_arg6) = m ((c.tc : Thread Cert.PostBwdIdeal.nD Cert.PostBwdIdeal.τ).loc Cert.PostBwdIdeal.main_arg6)
      ∧ r.2.mem ((c.tc : Thread Cert.PostBwdIdeal.nD Cert.PostBwdIdeal.τ).loc Cert.PostBwdIdeal.main_arg7) = m ((c.tc : Thread Cert.PostBwdIdeal.nD Cert.PostBwdIdeal.τ).loc Cert.PostBwdIdeal.main_arg7)
      ∧ r.2.mem ((c.tc : Thread Cert.PostBwdIdeal.nD Cert.PostBwdIdeal.τ).loc Cert.PostBwdIdeal.main_arg8) = m ((c.tc : Thread Cert.PostBwdIdeal.nD Cert.PostBwdIdeal.τ).loc Cert.PostBwdIdeal.main_arg8))
      ∧ r.2.sem = fun _ => 0)

def quiescent_PostBwdRefIdeal [hPostBwdRefIdeal : Cert.PostBwdRefIdeal.Facts] : Prop :=
  ∀ (m : (ℓ : Loc Cert.PostBwdRefIdeal.nD Cert.PostBwdRefIdeal.τ Cert.PostBwdRefIdeal.sig) → Buf (Elt Ideal) ℓ) (g : Dev Cert.PostBwdRefIdeal.nD → PrngReg), Pre_PostBwdRefIdeal m →
    θ_run (Cert.PostBwdRefIdeal.defs (F := Ideal)) (onTc (τ := Cert.PostBwdRefIdeal.τ) (Cert.PostBwdRefIdeal.main (F := Ideal))) ⟨m, fun _ => 0, g⟩ (fun r => (∀ c : Dev Cert.PostBwdRefIdeal.nD,
      r.2.mem ((c.tc : Thread Cert.PostBwdRefIdeal.nD Cert.PostBwdRefIdeal.τ).loc Cert.PostBwdRefIdeal.main_arg0) = m ((c.tc : Thread Cert.PostBwdRefIdeal.nD Cert.PostBwdRefIdeal.τ).loc Cert.PostBwdRefIdeal.main_arg0)
      ∧ r.2.mem ((c.tc : Thread Cert.PostBwdRefIdeal.nD Cert.PostBwdRefIdeal.τ).loc Cert.PostBwdRefIdeal.main_arg1) = m ((c.tc : Thread Cert.PostBwdRefIdeal.nD Cert.PostBwdRefIdeal.τ).loc Cert.PostBwdRefIdeal.main_arg1)
      ∧ r.2.mem ((c.tc : Thread Cert.PostBwdRefIdeal.nD Cert.PostBwdRefIdeal.τ).loc Cert.PostBwdRefIdeal.main_arg2) = m ((c.tc : Thread Cert.PostBwdRefIdeal.nD Cert.PostBwdRefIdeal.τ).loc Cert.PostBwdRefIdeal.main_arg2)
      ∧ r.2.mem ((c.tc : Thread Cert.PostBwdRefIdeal.nD Cert.PostBwdRefIdeal.τ).loc Cert.PostBwdRefIdeal.main_arg3) = m ((c.tc : Thread Cert.PostBwdRefIdeal.nD Cert.PostBwdRefIdeal.τ).loc Cert.PostBwdRefIdeal.main_arg3)
      ∧ r.2.mem ((c.tc : Thread Cert.PostBwdRefIdeal.nD Cert.PostBwdRefIdeal.τ).loc Cert.PostBwdRefIdeal.main_arg4) = m ((c.tc : Thread Cert.PostBwdRefIdeal.nD Cert.PostBwdRefIdeal.τ).loc Cert.PostBwdRefIdeal.main_arg4)
      ∧ r.2.mem ((c.tc : Thread Cert.PostBwdRefIdeal.nD Cert.PostBwdRefIdeal.τ).loc Cert.PostBwdRefIdeal.main_arg5) = m ((c.tc : Thread Cert.PostBwdRefIdeal.nD Cert.PostBwdRefIdeal.τ).loc Cert.PostBwdRefIdeal.main_arg5)
      ∧ r.2.mem ((c.tc : Thread Cert.PostBwdRefIdeal.nD Cert.PostBwdRefIdeal.τ).loc Cert.PostBwdRefIdeal.main_arg6) = m ((c.tc : Thread Cert.PostBwdRefIdeal.nD Cert.PostBwdRefIdeal.τ).loc Cert.PostBwdRefIdeal.main_arg6)
      ∧ r.2.mem ((c.tc : Thread Cert.PostBwdRefIdeal.nD Cert.PostBwdRefIdeal.τ).loc Cert.PostBwdRefIdeal.main_arg7) = m ((c.tc : Thread Cert.PostBwdRefIdeal.nD Cert.PostBwdRefIdeal.τ).loc Cert.PostBwdRefIdeal.main_arg7)
      ∧ r.2.mem ((c.tc : Thread Cert.PostBwdRefIdeal.nD Cert.PostBwdRefIdeal.τ).loc Cert.PostBwdRefIdeal.main_arg8) = m ((c.tc : Thread Cert.PostBwdRefIdeal.nD Cert.PostBwdRefIdeal.τ).loc Cert.PostBwdRefIdeal.main_arg8))
      ∧ r.2.sem = fun _ => 0)

def quiescent_PostBwdRefIdeal_pre_post_finite [hPostBwdRefIdeal : Cert.PostBwdRefIdeal.Facts] [hPre_post_finite : Cert.Pre_post_finite.Facts] : Prop :=
  ∀ (m : (ℓ : Loc Cert.PostBwdRefIdeal.nD Cert.PostBwdRefIdeal.τ Cert.PostBwdRefIdeal.sig) → Buf (Elt Ideal) ℓ) (g : Dev Cert.PostBwdRefIdeal.nD → PrngReg), Pre_PostBwdRefIdeal_post_finite m →
    θ_run (Cert.PostBwdRefIdeal.defs (F := Ideal)) (onTc (τ := Cert.PostBwdRefIdeal.τ) (Cert.PostBwdRefIdeal.main (F := Ideal))) ⟨m, fun _ => 0, g⟩ (fun r => (∀ c : Dev Cert.PostBwdRefIdeal.nD,
      r.2.mem ((c.tc : Thread Cert.PostBwdRefIdeal.nD Cert.PostBwdRefIdeal.τ).loc Cert.PostBwdRefIdeal.main_arg0) = m ((c.tc : Thread Cert.PostBwdRefIdeal.nD Cert.PostBwdRefIdeal.τ).loc Cert.PostBwdRefIdeal.main_arg0)
      ∧ r.2.mem ((c.tc : Thread Cert.PostBwdRefIdeal.nD Cert.PostBwdRefIdeal.τ).loc Cert.PostBwdRefIdeal.main_arg1) = m ((c.tc : Thread Cert.PostBwdRefIdeal.nD Cert.PostBwdRefIdeal.τ).loc Cert.PostBwdRefIdeal.main_arg1)
      ∧ r.2.mem ((c.tc : Thread Cert.PostBwdRefIdeal.nD Cert.PostBwdRefIdeal.τ).loc Cert.PostBwdRefIdeal.main_arg2) = m ((c.tc : Thread Cert.PostBwdRefIdeal.nD Cert.PostBwdRefIdeal.τ).loc Cert.PostBwdRefIdeal.main_arg2)
      ∧ r.2.mem ((c.tc : Thread Cert.PostBwdRefIdeal.nD Cert.PostBwdRefIdeal.τ).loc Cert.PostBwdRefIdeal.main_arg3) = m ((c.tc : Thread Cert.PostBwdRefIdeal.nD Cert.PostBwdRefIdeal.τ).loc Cert.PostBwdRefIdeal.main_arg3)
      ∧ r.2.mem ((c.tc : Thread Cert.PostBwdRefIdeal.nD Cert.PostBwdRefIdeal.τ).loc Cert.PostBwdRefIdeal.main_arg4) = m ((c.tc : Thread Cert.PostBwdRefIdeal.nD Cert.PostBwdRefIdeal.τ).loc Cert.PostBwdRefIdeal.main_arg4)
      ∧ r.2.mem ((c.tc : Thread Cert.PostBwdRefIdeal.nD Cert.PostBwdRefIdeal.τ).loc Cert.PostBwdRefIdeal.main_arg5) = m ((c.tc : Thread Cert.PostBwdRefIdeal.nD Cert.PostBwdRefIdeal.τ).loc Cert.PostBwdRefIdeal.main_arg5)
      ∧ r.2.mem ((c.tc : Thread Cert.PostBwdRefIdeal.nD Cert.PostBwdRefIdeal.τ).loc Cert.PostBwdRefIdeal.main_arg6) = m ((c.tc : Thread Cert.PostBwdRefIdeal.nD Cert.PostBwdRefIdeal.τ).loc Cert.PostBwdRefIdeal.main_arg6)
      ∧ r.2.mem ((c.tc : Thread Cert.PostBwdRefIdeal.nD Cert.PostBwdRefIdeal.τ).loc Cert.PostBwdRefIdeal.main_arg7) = m ((c.tc : Thread Cert.PostBwdRefIdeal.nD Cert.PostBwdRefIdeal.τ).loc Cert.PostBwdRefIdeal.main_arg7)
      ∧ r.2.mem ((c.tc : Thread Cert.PostBwdRefIdeal.nD Cert.PostBwdRefIdeal.τ).loc Cert.PostBwdRefIdeal.main_arg8) = m ((c.tc : Thread Cert.PostBwdRefIdeal.nD Cert.PostBwdRefIdeal.τ).loc Cert.PostBwdRefIdeal.main_arg8))
      ∧ r.2.sem = fun _ => 0)

def quiescent_PreBwd [hPreBwd : Cert.PreBwd.Facts] : Prop :=
  ∀ (m : (ℓ : Loc Cert.PreBwd.nD Cert.PreBwd.τ Cert.PreBwd.sig) → Buf (Elt Bits) ℓ) (g : Dev Cert.PreBwd.nD → PrngReg), Pre_PreBwd m →
    θ_run (Cert.PreBwd.defs (F := Bits)) (onTc (τ := Cert.PreBwd.τ) (Cert.PreBwd.main (F := Bits))) ⟨m, fun _ => 0, g⟩ (fun r => (∀ c : Dev Cert.PreBwd.nD,
      r.2.mem ((c.tc : Thread Cert.PreBwd.nD Cert.PreBwd.τ).loc Cert.PreBwd.main_arg0) = m ((c.tc : Thread Cert.PreBwd.nD Cert.PreBwd.τ).loc Cert.PreBwd.main_arg0)
      ∧ r.2.mem ((c.tc : Thread Cert.PreBwd.nD Cert.PreBwd.τ).loc Cert.PreBwd.main_arg1) = m ((c.tc : Thread Cert.PreBwd.nD Cert.PreBwd.τ).loc Cert.PreBwd.main_arg1)
      ∧ r.2.mem ((c.tc : Thread Cert.PreBwd.nD Cert.PreBwd.τ).loc Cert.PreBwd.main_arg2) = m ((c.tc : Thread Cert.PreBwd.nD Cert.PreBwd.τ).loc Cert.PreBwd.main_arg2)
      ∧ r.2.mem ((c.tc : Thread Cert.PreBwd.nD Cert.PreBwd.τ).loc Cert.PreBwd.main_arg3) = m ((c.tc : Thread Cert.PreBwd.nD Cert.PreBwd.τ).loc Cert.PreBwd.main_arg3)
      ∧ r.2.mem ((c.tc : Thread Cert.PreBwd.nD Cert.PreBwd.τ).loc Cert.PreBwd.main_arg4) = m ((c.tc : Thread Cert.PreBwd.nD Cert.PreBwd.τ).loc Cert.PreBwd.main_arg4))
      ∧ r.2.sem = fun _ => 0)

def quiescent_PreBwdIdeal [hPreBwdIdeal : Cert.PreBwdIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg), Pre_PreBwdIdeal m →
    θ_run (Cert.PreBwdIdeal.defs (F := Ideal)) (onTc (τ := Cert.PreBwdIdeal.τ) (Cert.PreBwdIdeal.main (F := Ideal))) ⟨m, fun _ => 0, g⟩ (fun r => (∀ c : Dev Cert.PreBwdIdeal.nD,
      r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
      ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
      ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
      ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3)
      ∧ r.2.mem ((c.tc : Thread Cert.PreBwdIdeal.nD Cert.PreBwdIdeal.τ).loc Cert.PreBwdIdeal.main_arg4) = m ((c.tc : Thread Cert.PreBwdIdeal.nD Cert.PreBwdIdeal.τ).loc Cert.PreBwdIdeal.main_arg4))
      ∧ r.2.sem = fun _ => 0)

def quiescent_PreBwdRefIdeal [hPreBwdRefIdeal : Cert.PreBwdRefIdeal.Facts] : Prop :=
  ∀ (m : (ℓ : Loc Cert.PreBwdRefIdeal.nD Cert.PreBwdRefIdeal.τ Cert.PreBwdRefIdeal.sig) → Buf (Elt Ideal) ℓ) (g : Dev Cert.PreBwdRefIdeal.nD → PrngReg), Pre_PreBwdRefIdeal m →
    θ_run (Cert.PreBwdRefIdeal.defs (F := Ideal)) (onTc (τ := Cert.PreBwdRefIdeal.τ) (Cert.PreBwdRefIdeal.main (F := Ideal))) ⟨m, fun _ => 0, g⟩ (fun r => (∀ c : Dev Cert.PreBwdRefIdeal.nD,
      r.2.mem ((c.tc : Thread Cert.PreBwdRefIdeal.nD Cert.PreBwdRefIdeal.τ).loc Cert.PreBwdRefIdeal.main_arg0) = m ((c.tc : Thread Cert.PreBwdRefIdeal.nD Cert.PreBwdRefIdeal.τ).loc Cert.PreBwdRefIdeal.main_arg0)
      ∧ r.2.mem ((c.tc : Thread Cert.PreBwdRefIdeal.nD Cert.PreBwdRefIdeal.τ).loc Cert.PreBwdRefIdeal.main_arg1) = m ((c.tc : Thread Cert.PreBwdRefIdeal.nD Cert.PreBwdRefIdeal.τ).loc Cert.PreBwdRefIdeal.main_arg1)
      ∧ r.2.mem ((c.tc : Thread Cert.PreBwdRefIdeal.nD Cert.PreBwdRefIdeal.τ).loc Cert.PreBwdRefIdeal.main_arg2) = m ((c.tc : Thread Cert.PreBwdRefIdeal.nD Cert.PreBwdRefIdeal.τ).loc Cert.PreBwdRefIdeal.main_arg2)
      ∧ r.2.mem ((c.tc : Thread Cert.PreBwdRefIdeal.nD Cert.PreBwdRefIdeal.τ).loc Cert.PreBwdRefIdeal.main_arg3) = m ((c.tc : Thread Cert.PreBwdRefIdeal.nD Cert.PreBwdRefIdeal.τ).loc Cert.PreBwdRefIdeal.main_arg3)
      ∧ r.2.mem ((c.tc : Thread Cert.PreBwdRefIdeal.nD Cert.PreBwdRefIdeal.τ).loc Cert.PreBwdRefIdeal.main_arg4) = m ((c.tc : Thread Cert.PreBwdRefIdeal.nD Cert.PreBwdRefIdeal.τ).loc Cert.PreBwdRefIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6)
      ∧ r.2.mem ((c.tc : Thread Cert.MixBwdRefIdeal.nD Cert.MixBwdRefIdeal.τ).loc Cert.MixBwdRefIdeal.main_arg7) = m ((c.tc : Thread Cert.MixBwdRefIdeal.nD Cert.MixBwdRefIdeal.τ).loc Cert.MixBwdRefIdeal.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ r.2.sem = fun _ => 0)

def quiescent_UpdateRefIdeal [hUpdateRefIdeal : Cert.UpdateRefIdeal.Facts] : Prop :=
  ∀ (m : (ℓ : Loc Cert.UpdateRefIdeal.nD Cert.UpdateRefIdeal.τ Cert.UpdateRefIdeal.sig) → Buf (Elt Ideal) ℓ) (g : Dev Cert.UpdateRefIdeal.nD → PrngReg), Pre_UpdateRefIdeal m →
    θ_run (Cert.UpdateRefIdeal.defs (F := Ideal)) (onTc (τ := Cert.UpdateRefIdeal.τ) (Cert.UpdateRefIdeal.main (F := Ideal))) ⟨m, fun _ => 0, g⟩ (fun r => (∀ c : Dev Cert.UpdateRefIdeal.nD,
      r.2.mem ((c.tc : Thread Cert.UpdateRefIdeal.nD Cert.UpdateRefIdeal.τ).loc Cert.UpdateRefIdeal.main_arg0) = m ((c.tc : Thread Cert.UpdateRefIdeal.nD Cert.UpdateRefIdeal.τ).loc Cert.UpdateRefIdeal.main_arg0)
      ∧ r.2.mem ((c.tc : Thread Cert.UpdateRefIdeal.nD Cert.UpdateRefIdeal.τ).loc Cert.UpdateRefIdeal.main_arg1) = m ((c.tc : Thread Cert.UpdateRefIdeal.nD Cert.UpdateRefIdeal.τ).loc Cert.UpdateRefIdeal.main_arg1)
      ∧ r.2.mem ((c.tc : Thread Cert.UpdateRefIdeal.nD Cert.UpdateRefIdeal.τ).loc Cert.UpdateRefIdeal.main_arg2) = m ((c.tc : Thread Cert.UpdateRefIdeal.nD Cert.UpdateRefIdeal.τ).loc Cert.UpdateRefIdeal.main_arg2)
      ∧ r.2.mem ((c.tc : Thread Cert.UpdateRefIdeal.nD Cert.UpdateRefIdeal.τ).loc Cert.UpdateRefIdeal.main_arg3) = m ((c.tc : Thread Cert.UpdateRefIdeal.nD Cert.UpdateRefIdeal.τ).loc Cert.UpdateRefIdeal.main_arg3))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Cond [hCond : Cert.Cond.Facts] : Prop :=
  ∀ (m : (ℓ : Loc Cert.Cond.nD Cert.Cond.τ Cert.Cond.sig) → Buf (Elt Bits) ℓ) (g : Dev Cert.Cond.nD → PrngReg), Pre_Cond m →
    θ_run (Cert.Cond.defs (F := Bits)) (onTc (τ := Cert.Cond.τ) (Cert.Cond.main (F := Bits))) ⟨m, fun _ => 0, g⟩ (fun r => (∀ c : Dev Cert.Cond.nD,
      r.2.mem ((c.tc : Thread Cert.Cond.nD Cert.Cond.τ).loc Cert.Cond.main_arg0) = m ((c.tc : Thread Cert.Cond.nD Cert.Cond.τ).loc Cert.Cond.main_arg0))
      ∧ r.2.sem = fun _ => 0)

def quiescent_CondIdeal [hCondIdeal : Cert.CondIdeal.Facts] : Prop :=
  ∀ (m : (ℓ : Loc Cert.CondIdeal.nD Cert.CondIdeal.τ Cert.CondIdeal.sig) → Buf (Elt Ideal) ℓ) (g : Dev Cert.CondIdeal.nD → PrngReg), Pre_CondIdeal m →
    θ_run (Cert.CondIdeal.defs (F := Ideal)) (onTc (τ := Cert.CondIdeal.τ) (Cert.CondIdeal.main (F := Ideal))) ⟨m, fun _ => 0, g⟩ (fun r => (∀ c : Dev Cert.CondIdeal.nD,
      r.2.mem ((c.tc : Thread Cert.CondIdeal.nD Cert.CondIdeal.τ).loc Cert.CondIdeal.main_arg0) = m ((c.tc : Thread Cert.CondIdeal.nD Cert.CondIdeal.τ).loc Cert.CondIdeal.main_arg0))
      ∧ r.2.sem = fun _ => 0)

def quiescent_CondRefIdeal [hCondRefIdeal : Cert.CondRefIdeal.Facts] : Prop :=
  ∀ (m : (ℓ : Loc Cert.CondRefIdeal.nD Cert.CondRefIdeal.τ Cert.CondRefIdeal.sig) → Buf (Elt Ideal) ℓ) (g : Dev Cert.CondRefIdeal.nD → PrngReg), Pre_CondRefIdeal m →
    θ_run (Cert.CondRefIdeal.defs (F := Ideal)) (onTc (τ := Cert.CondRefIdeal.τ) (Cert.CondRefIdeal.main (F := Ideal))) ⟨m, fun _ => 0, g⟩ (fun r => (∀ c : Dev Cert.CondRefIdeal.nD,
      r.2.mem ((c.tc : Thread Cert.CondRefIdeal.nD Cert.CondRefIdeal.τ).loc Cert.CondRefIdeal.main_arg0) = m ((c.tc : Thread Cert.CondRefIdeal.nD Cert.CondRefIdeal.τ).loc Cert.CondRefIdeal.main_arg0))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def quiescent_MconvBwd [hMconvBwd : Cert.MconvBwd.Facts] : Prop :=
  ∀ (m : (ℓ : Loc Cert.MconvBwd.nD Cert.MconvBwd.τ Cert.MconvBwd.sig) → Buf (Elt Bits) ℓ) (g : Dev Cert.MconvBwd.nD → PrngReg), Pre_MconvBwd m →
    θ_run (Cert.MconvBwd.defs (F := Bits)) (onTc (τ := Cert.MconvBwd.τ) (Cert.MconvBwd.main (F := Bits))) ⟨m, fun _ => 0, g⟩ (fun r => (∀ c : Dev Cert.MconvBwd.nD,
      r.2.mem ((c.tc : Thread Cert.MconvBwd.nD Cert.MconvBwd.τ).loc Cert.MconvBwd.main_arg0) = m ((c.tc : Thread Cert.MconvBwd.nD Cert.MconvBwd.τ).loc Cert.MconvBwd.main_arg0)
      ∧ r.2.mem ((c.tc : Thread Cert.MconvBwd.nD Cert.MconvBwd.τ).loc Cert.MconvBwd.main_arg1) = m ((c.tc : Thread Cert.MconvBwd.nD Cert.MconvBwd.τ).loc Cert.MconvBwd.main_arg1)
      ∧ r.2.mem ((c.tc : Thread Cert.MconvBwd.nD Cert.MconvBwd.τ).loc Cert.MconvBwd.main_arg2) = m ((c.tc : Thread Cert.MconvBwd.nD Cert.MconvBwd.τ).loc Cert.MconvBwd.main_arg2))
      ∧ r.2.sem = fun _ => 0)

def quiescent_MconvBwdIdeal [hMconvBwdIdeal : Cert.MconvBwdIdeal.Facts] : Prop :=
  ∀ (m : (ℓ : Loc Cert.MconvBwdIdeal.nD Cert.MconvBwdIdeal.τ Cert.MconvBwdIdeal.sig) → Buf (Elt Ideal) ℓ) (g : Dev Cert.MconvBwdIdeal.nD → PrngReg), Pre_MconvBwdIdeal m →
    θ_run (Cert.MconvBwdIdeal.defs (F := Ideal)) (onTc (τ := Cert.MconvBwdIdeal.τ) (Cert.MconvBwdIdeal.main (F := Ideal))) ⟨m, fun _ => 0, g⟩ (fun r => (∀ c : Dev Cert.MconvBwdIdeal.nD,
      r.2.mem ((c.tc : Thread Cert.MconvBwdIdeal.nD Cert.MconvBwdIdeal.τ).loc Cert.MconvBwdIdeal.main_arg0) = m ((c.tc : Thread Cert.MconvBwdIdeal.nD Cert.MconvBwdIdeal.τ).loc Cert.MconvBwdIdeal.main_arg0)
      ∧ r.2.mem ((c.tc : Thread Cert.MconvBwdIdeal.nD Cert.MconvBwdIdeal.τ).loc Cert.MconvBwdIdeal.main_arg1) = m ((c.tc : Thread Cert.MconvBwdIdeal.nD Cert.MconvBwdIdeal.τ).loc Cert.MconvBwdIdeal.main_arg1)
      ∧ r.2.mem ((c.tc : Thread Cert.MconvBwdIdeal.nD Cert.MconvBwdIdeal.τ).loc Cert.MconvBwdIdeal.main_arg2) = m ((c.tc : Thread Cert.MconvBwdIdeal.nD Cert.MconvBwdIdeal.τ).loc Cert.MconvBwdIdeal.main_arg2))
      ∧ r.2.sem = fun _ => 0)

def quiescent_MconvBwdRefIdeal [hMconvBwdRefIdeal : Cert.MconvBwdRefIdeal.Facts] : Prop :=
  ∀ (m : (ℓ : Loc Cert.MconvBwdRefIdeal.nD Cert.MconvBwdRefIdeal.τ Cert.MconvBwdRefIdeal.sig) → Buf (Elt Ideal) ℓ) (g : Dev Cert.MconvBwdRefIdeal.nD → PrngReg), Pre_MconvBwdRefIdeal m →
    θ_run (Cert.MconvBwdRefIdeal.defs (F := Ideal)) (onTc (τ := Cert.MconvBwdRefIdeal.τ) (Cert.MconvBwdRefIdeal.main (F := Ideal))) ⟨m, fun _ => 0, g⟩ (fun r => (∀ c : Dev Cert.MconvBwdRefIdeal.nD,
      r.2.mem ((c.tc : Thread Cert.MconvBwdRefIdeal.nD Cert.MconvBwdRefIdeal.τ).loc Cert.MconvBwdRefIdeal.main_arg0) = m ((c.tc : Thread Cert.MconvBwdRefIdeal.nD Cert.MconvBwdRefIdeal.τ).loc Cert.MconvBwdRefIdeal.main_arg0)
      ∧ r.2.mem ((c.tc : Thread Cert.MconvBwdRefIdeal.nD Cert.MconvBwdRefIdeal.τ).loc Cert.MconvBwdRefIdeal.main_arg1) = m ((c.tc : Thread Cert.MconvBwdRefIdeal.nD Cert.MconvBwdRefIdeal.τ).loc Cert.MconvBwdRefIdeal.main_arg1)
      ∧ r.2.mem ((c.tc : Thread Cert.MconvBwdRefIdeal.nD Cert.MconvBwdRefIdeal.τ).loc Cert.MconvBwdRefIdeal.main_arg2) = m ((c.tc : Thread Cert.MconvBwdRefIdeal.nD Cert.MconvBwdRefIdeal.τ).loc Cert.MconvBwdRefIdeal.main_arg2))
      ∧ r.2.sem = fun _ => 0)

def quiescent_Mconv [hMconv : Cert.Mconv.Facts] : Prop :=
  ∀ (m : (ℓ : Loc Cert.Mconv.nD Cert.Mconv.τ Cert.Mconv.sig) → Buf (Elt Bits) ℓ) (g : Dev Cert.Mconv.nD → PrngReg), Pre_Mconv m →
    θ_run (Cert.Mconv.defs (F := Bits)) (onTc (τ := Cert.Mconv.τ) (Cert.Mconv.main (F := Bits))) ⟨m, fun _ => 0, g⟩ (fun r => (∀ c : Dev Cert.Mconv.nD,
      r.2.mem ((c.tc : Thread Cert.Mconv.nD Cert.Mconv.τ).loc Cert.Mconv.main_arg0) = m ((c.tc : Thread Cert.Mconv.nD Cert.Mconv.τ).loc Cert.Mconv.main_arg0)
      ∧ r.2.mem ((c.tc : Thread Cert.Mconv.nD Cert.Mconv.τ).loc Cert.Mconv.main_arg1) = m ((c.tc : Thread Cert.Mconv.nD Cert.Mconv.τ).loc Cert.Mconv.main_arg1)
      ∧ r.2.mem ((c.tc : Thread Cert.Mconv.nD Cert.Mconv.τ).loc Cert.Mconv.main_arg2) = m ((c.tc : Thread Cert.Mconv.nD Cert.Mconv.τ).loc Cert.Mconv.main_arg2))
      ∧ r.2.sem = fun _ => 0)

def quiescent_MconvIdeal [hMconvIdeal : Cert.MconvIdeal.Facts] : Prop :=
  ∀ (m : (ℓ : Loc Cert.MconvIdeal.nD Cert.MconvIdeal.τ Cert.MconvIdeal.sig) → Buf (Elt Ideal) ℓ) (g : Dev Cert.MconvIdeal.nD → PrngReg), Pre_MconvIdeal m →
    θ_run (Cert.MconvIdeal.defs (F := Ideal)) (onTc (τ := Cert.MconvIdeal.τ) (Cert.MconvIdeal.main (F := Ideal))) ⟨m, fun _ => 0, g⟩ (fun r => (∀ c : Dev Cert.MconvIdeal.nD,
      r.2.mem ((c.tc : Thread Cert.MconvIdeal.nD Cert.MconvIdeal.τ).loc Cert.MconvIdeal.main_arg0) = m ((c.tc : Thread Cert.MconvIdeal.nD Cert.MconvIdeal.τ).loc Cert.MconvIdeal.main_arg0)
      ∧ r.2.mem ((c.tc : Thread Cert.MconvIdeal.nD Cert.MconvIdeal.τ).loc Cert.MconvIdeal.main_arg1) = m ((c.tc : Thread Cert.MconvIdeal.nD Cert.MconvIdeal.τ).loc Cert.MconvIdeal.main_arg1)
      ∧ r.2.mem ((c.tc : Thread Cert.MconvIdeal.nD Cert.MconvIdeal.τ).loc Cert.MconvIdeal.main_arg2) = m ((c.tc : Thread Cert.MconvIdeal.nD Cert.MconvIdeal.τ).loc Cert.MconvIdeal.main_arg2))
      ∧ r.2.sem = fun _ => 0)

def quiescent_MconvRefIdeal [hMconvRefIdeal : Cert.MconvRefIdeal.Facts] : Prop :=
  ∀ (m : (ℓ : Loc Cert.MconvRefIdeal.nD Cert.MconvRefIdeal.τ Cert.MconvRefIdeal.sig) → Buf (Elt Ideal) ℓ) (g : Dev Cert.MconvRefIdeal.nD → PrngReg), Pre_MconvRefIdeal m →
    θ_run (Cert.MconvRefIdeal.defs (F := Ideal)) (onTc (τ := Cert.MconvRefIdeal.τ) (Cert.MconvRefIdeal.main (F := Ideal))) ⟨m, fun _ => 0, g⟩ (fun r => (∀ c : Dev Cert.MconvRefIdeal.nD,
      r.2.mem ((c.tc : Thread Cert.MconvRefIdeal.nD Cert.MconvRefIdeal.τ).loc Cert.MconvRefIdeal.main_arg0) = m ((c.tc : Thread Cert.MconvRefIdeal.nD Cert.MconvRefIdeal.τ).loc Cert.MconvRefIdeal.main_arg0)
      ∧ r.2.mem ((c.tc : Thread Cert.MconvRefIdeal.nD Cert.MconvRefIdeal.τ).loc Cert.MconvRefIdeal.main_arg1) = m ((c.tc : Thread Cert.MconvRefIdeal.nD Cert.MconvRefIdeal.τ).loc Cert.MconvRefIdeal.main_arg1)
      ∧ r.2.mem ((c.tc : Thread Cert.MconvRefIdeal.nD Cert.MconvRefIdeal.τ).loc Cert.MconvRefIdeal.main_arg2) = m ((c.tc : Thread Cert.MconvRefIdeal.nD Cert.MconvRefIdeal.τ).loc Cert.MconvRefIdeal.main_arg2))
      ∧ r.2.sem = fun _ => 0)

def quiescent_PostMixBwd [hPostMixBwd : Cert.PostMixBwd.Facts] : Prop :=
  ∀ (m : (ℓ : Loc Cert.PostMixBwd.nD Cert.PostMixBwd.τ Cert.PostMixBwd.sig) → Buf (Elt Bits) ℓ) (g : Dev Cert.PostMixBwd.nD → PrngReg), Pre_PostMixBwd m →
    θ_run (Cert.PostMixBwd.defs (F := Bits)) (onTc (τ := Cert.PostMixBwd.τ) (Cert.PostMixBwd.main (F := Bits))) ⟨m, fun _ => 0, g⟩ (fun r => (∀ c : Dev Cert.PostMixBwd.nD,
      r.2.mem ((c.tc : Thread Cert.PostMixBwd.nD Cert.PostMixBwd.τ).loc Cert.PostMixBwd.main_arg0) = m ((c.tc : Thread Cert.PostMixBwd.nD Cert.PostMixBwd.τ).loc Cert.PostMixBwd.main_arg0)
      ∧ r.2.mem ((c.tc : Thread Cert.PostMixBwd.nD Cert.PostMixBwd.τ).loc Cert.PostMixBwd.main_arg1) = m ((c.tc : Thread Cert.PostMixBwd.nD Cert.PostMixBwd.τ).loc Cert.PostMixBwd.main_arg1)
      ∧ r.2.mem ((c.tc : Thread Cert.PostMixBwd.nD Cert.PostMixBwd.τ).loc Cert.PostMixBwd.main_arg2) = m ((c.tc : Thread Cert.PostMixBwd.nD Cert.PostMixBwd.τ).loc Cert.PostMixBwd.main_arg2)
      ∧ r.2.mem ((c.tc : Thread Cert.PostMixBwd.nD Cert.PostMixBwd.τ).loc Cert.PostMixBwd.main_arg3) = m ((c.tc : Thread Cert.PostMixBwd.nD Cert.PostMixBwd.τ).loc Cert.PostMixBwd.main_arg3)
      ∧ r.2.mem ((c.tc : Thread Cert.PostMixBwd.nD Cert.PostMixBwd.τ).loc Cert.PostMixBwd.main_arg4) = m ((c.tc : Thread Cert.PostMixBwd.nD Cert.PostMixBwd.τ).loc Cert.PostMixBwd.main_arg4)
      ∧ r.2.mem ((c.tc : Thread Cert.PostMixBwd.nD Cert.PostMixBwd.τ).loc Cert.PostMixBwd.main_arg5) = m ((c.tc : Thread Cert.PostMixBwd.nD Cert.PostMixBwd.τ).loc Cert.PostMixBwd.main_arg5)
      ∧ r.2.mem ((c.tc : Thread Cert.PostMixBwd.nD Cert.PostMixBwd.τ).loc Cert.PostMixBwd.main_arg6) = m ((c.tc : Thread Cert.PostMixBwd.nD Cert.PostMixBwd.τ).loc Cert.PostMixBwd.main_arg6)
      ∧ r.2.mem ((c.tc : Thread Cert.PostMixBwd.nD Cert.PostMixBwd.τ).loc Cert.PostMixBwd.main_arg7) = m ((c.tc : Thread Cert.PostMixBwd.nD Cert.PostMixBwd.τ).loc Cert.PostMixBwd.main_arg7)
      ∧ r.2.mem ((c.tc : Thread Cert.PostMixBwd.nD Cert.PostMixBwd.τ).loc Cert.PostMixBwd.main_arg8) = m ((c.tc : Thread Cert.PostMixBwd.nD Cert.PostMixBwd.τ).loc Cert.PostMixBwd.main_arg8))
      ∧ r.2.sem = fun _ => 0)

def quiescent_PostMixBwdIdeal [hPostMixBwdIdeal : Cert.PostMixBwdIdeal.Facts] : Prop :=
  ∀ (m : (ℓ : Loc Cert.PostMixBwdIdeal.nD Cert.PostMixBwdIdeal.τ Cert.PostMixBwdIdeal.sig) → Buf (Elt Ideal) ℓ) (g : Dev Cert.PostMixBwdIdeal.nD → PrngReg), Pre_PostMixBwdIdeal m →
    θ_run (Cert.PostMixBwdIdeal.defs (F := Ideal)) (onTc (τ := Cert.PostMixBwdIdeal.τ) (Cert.PostMixBwdIdeal.main (F := Ideal))) ⟨m, fun _ => 0, g⟩ (fun r => (∀ c : Dev Cert.PostMixBwdIdeal.nD,
      r.2.mem ((c.tc : Thread Cert.PostMixBwdIdeal.nD Cert.PostMixBwdIdeal.τ).loc Cert.PostMixBwdIdeal.main_arg0) = m ((c.tc : Thread Cert.PostMixBwdIdeal.nD Cert.PostMixBwdIdeal.τ).loc Cert.PostMixBwdIdeal.main_arg0)
      ∧ r.2.mem ((c.tc : Thread Cert.PostMixBwdIdeal.nD Cert.PostMixBwdIdeal.τ).loc Cert.PostMixBwdIdeal.main_arg1) = m ((c.tc : Thread Cert.PostMixBwdIdeal.nD Cert.PostMixBwdIdeal.τ).loc Cert.PostMixBwdIdeal.main_arg1)
      ∧ r.2.mem ((c.tc : Thread Cert.PostMixBwdIdeal.nD Cert.PostMixBwdIdeal.τ).loc Cert.PostMixBwdIdeal.main_arg2) = m ((c.tc : Thread Cert.PostMixBwdIdeal.nD Cert.PostMixBwdIdeal.τ).loc Cert.PostMixBwdIdeal.main_arg2)
      ∧ r.2.mem ((c.tc : Thread Cert.PostMixBwdIdeal.nD Cert.PostMixBwdIdeal.τ).loc Cert.PostMixBwdIdeal.main_arg3) = m ((c.tc : Thread Cert.PostMixBwdIdeal.nD Cert.PostMixBwdIdeal.τ).loc Cert.PostMixBwdIdeal.main_arg3)
      ∧ r.2.mem ((c.tc : Thread Cert.PostMixBwdIdeal.nD Cert.PostMixBwdIdeal.τ).loc Cert.PostMixBwdIdeal.main_arg4) = m ((c.tc : Thread Cert.PostMixBwdIdeal.nD Cert.PostMixBwdIdeal.τ).loc Cert.PostMixBwdIdeal.main_arg4)
      ∧ r.2.mem ((c.tc : Thread Cert.PostMixBwdIdeal.nD Cert.PostMixBwdIdeal.τ).loc Cert.PostMixBwdIdeal.main_arg5) = m ((c.tc : Thread Cert.PostMixBwdIdeal.nD Cert.PostMixBwdIdeal.τ).loc Cert.PostMixBwdIdeal.main_arg5)
      ∧ r.2.mem ((c.tc : Thread Cert.PostMixBwdIdeal.nD Cert.PostMixBwdIdeal.τ).loc Cert.PostMixBwdIdeal.main_arg6) = m ((c.tc : Thread Cert.PostMixBwdIdeal.nD Cert.PostMixBwdIdeal.τ).loc Cert.PostMixBwdIdeal.main_arg6)
      ∧ r.2.mem ((c.tc : Thread Cert.PostMixBwdIdeal.nD Cert.PostMixBwdIdeal.τ).loc Cert.PostMixBwdIdeal.main_arg7) = m ((c.tc : Thread Cert.PostMixBwdIdeal.nD Cert.PostMixBwdIdeal.τ).loc Cert.PostMixBwdIdeal.main_arg7)
      ∧ r.2.mem ((c.tc : Thread Cert.PostMixBwdIdeal.nD Cert.PostMixBwdIdeal.τ).loc Cert.PostMixBwdIdeal.main_arg8) = m ((c.tc : Thread Cert.PostMixBwdIdeal.nD Cert.PostMixBwdIdeal.τ).loc Cert.PostMixBwdIdeal.main_arg8))
      ∧ r.2.sem = fun _ => 0)

def quiescent_PostMixBwdIdeal_pre_post_finite [hPostMixBwdIdeal : Cert.PostMixBwdIdeal.Facts] [hPre_post_finite : Cert.Pre_post_finite.Facts] : Prop :=
  ∀ (m : (ℓ : Loc Cert.PostMixBwdIdeal.nD Cert.PostMixBwdIdeal.τ Cert.PostMixBwdIdeal.sig) → Buf (Elt Ideal) ℓ) (g : Dev Cert.PostMixBwdIdeal.nD → PrngReg), Pre_PostMixBwdIdeal_post_finite m →
    θ_run (Cert.PostMixBwdIdeal.defs (F := Ideal)) (onTc (τ := Cert.PostMixBwdIdeal.τ) (Cert.PostMixBwdIdeal.main (F := Ideal))) ⟨m, fun _ => 0, g⟩ (fun r => (∀ c : Dev Cert.PostMixBwdIdeal.nD,
      r.2.mem ((c.tc : Thread Cert.PostMixBwdIdeal.nD Cert.PostMixBwdIdeal.τ).loc Cert.PostMixBwdIdeal.main_arg0) = m ((c.tc : Thread Cert.PostMixBwdIdeal.nD Cert.PostMixBwdIdeal.τ).loc Cert.PostMixBwdIdeal.main_arg0)
      ∧ r.2.mem ((c.tc : Thread Cert.PostMixBwdIdeal.nD Cert.PostMixBwdIdeal.τ).loc Cert.PostMixBwdIdeal.main_arg1) = m ((c.tc : Thread Cert.PostMixBwdIdeal.nD Cert.PostMixBwdIdeal.τ).loc Cert.PostMixBwdIdeal.main_arg1)
      ∧ r.2.mem ((c.tc : Thread Cert.PostMixBwdIdeal.nD Cert.PostMixBwdIdeal.τ).loc Cert.PostMixBwdIdeal.main_arg2) = m ((c.tc : Thread Cert.PostMixBwdIdeal.nD Cert.PostMixBwdIdeal.τ).loc Cert.PostMixBwdIdeal.main_arg2)
      ∧ r.2.mem ((c.tc : Thread Cert.PostMixBwdIdeal.nD Cert.PostMixBwdIdeal.τ).loc Cert.PostMixBwdIdeal.main_arg3) = m ((c.tc : Thread Cert.PostMixBwdIdeal.nD Cert.PostMixBwdIdeal.τ).loc Cert.PostMixBwdIdeal.main_arg3)
      ∧ r.2.mem ((c.tc : Thread Cert.PostMixBwdIdeal.nD Cert.PostMixBwdIdeal.τ).loc Cert.PostMixBwdIdeal.main_arg4) = m ((c.tc : Thread Cert.PostMixBwdIdeal.nD Cert.PostMixBwdIdeal.τ).loc Cert.PostMixBwdIdeal.main_arg4)
      ∧ r.2.mem ((c.tc : Thread Cert.PostMixBwdIdeal.nD Cert.PostMixBwdIdeal.τ).loc Cert.PostMixBwdIdeal.main_arg5) = m ((c.tc : Thread Cert.PostMixBwdIdeal.nD Cert.PostMixBwdIdeal.τ).loc Cert.PostMixBwdIdeal.main_arg5)
      ∧ r.2.mem ((c.tc : Thread Cert.PostMixBwdIdeal.nD Cert.PostMixBwdIdeal.τ).loc Cert.PostMixBwdIdeal.main_arg6) = m ((c.tc : Thread Cert.PostMixBwdIdeal.nD Cert.PostMixBwdIdeal.τ).loc Cert.PostMixBwdIdeal.main_arg6)
      ∧ r.2.mem ((c.tc : Thread Cert.PostMixBwdIdeal.nD Cert.PostMixBwdIdeal.τ).loc Cert.PostMixBwdIdeal.main_arg7) = m ((c.tc : Thread Cert.PostMixBwdIdeal.nD Cert.PostMixBwdIdeal.τ).loc Cert.PostMixBwdIdeal.main_arg7)
      ∧ r.2.mem ((c.tc : Thread Cert.PostMixBwdIdeal.nD Cert.PostMixBwdIdeal.τ).loc Cert.PostMixBwdIdeal.main_arg8) = m ((c.tc : Thread Cert.PostMixBwdIdeal.nD Cert.PostMixBwdIdeal.τ).loc Cert.PostMixBwdIdeal.main_arg8))
      ∧ r.2.sem = fun _ => 0)

def quiescent_PostMixBwdRefIdeal [hPostMixBwdRefIdeal : Cert.PostMixBwdRefIdeal.Facts] : Prop :=
  ∀ (m : (ℓ : Loc Cert.PostMixBwdRefIdeal.nD Cert.PostMixBwdRefIdeal.τ Cert.PostMixBwdRefIdeal.sig) → Buf (Elt Ideal) ℓ) (g : Dev Cert.PostMixBwdRefIdeal.nD → PrngReg), Pre_PostMixBwdRefIdeal m →
    θ_run (Cert.PostMixBwdRefIdeal.defs (F := Ideal)) (onTc (τ := Cert.PostMixBwdRefIdeal.τ) (Cert.PostMixBwdRefIdeal.main (F := Ideal))) ⟨m, fun _ => 0, g⟩ (fun r => (∀ c : Dev Cert.PostMixBwdRefIdeal.nD,
      r.2.mem ((c.tc : Thread Cert.PostMixBwdRefIdeal.nD Cert.PostMixBwdRefIdeal.τ).loc Cert.PostMixBwdRefIdeal.main_arg0) = m ((c.tc : Thread Cert.PostMixBwdRefIdeal.nD Cert.PostMixBwdRefIdeal.τ).loc Cert.PostMixBwdRefIdeal.main_arg0)
      ∧ r.2.mem ((c.tc : Thread Cert.PostMixBwdRefIdeal.nD Cert.PostMixBwdRefIdeal.τ).loc Cert.PostMixBwdRefIdeal.main_arg1) = m ((c.tc : Thread Cert.PostMixBwdRefIdeal.nD Cert.PostMixBwdRefIdeal.τ).loc Cert.PostMixBwdRefIdeal.main_arg1)
      ∧ r.2.mem ((c.tc : Thread Cert.PostMixBwdRefIdeal.nD Cert.PostMixBwdRefIdeal.τ).loc Cert.PostMixBwdRefIdeal.main_arg2) = m ((c.tc : Thread Cert.PostMixBwdRefIdeal.nD Cert.PostMixBwdRefIdeal.τ).loc Cert.PostMixBwdRefIdeal.main_arg2)
      ∧ r.2.mem ((c.tc : Thread Cert.PostMixBwdRefIdeal.nD Cert.PostMixBwdRefIdeal.τ).loc Cert.PostMixBwdRefIdeal.main_arg3) = m ((c.tc : Thread Cert.PostMixBwdRefIdeal.nD Cert.PostMixBwdRefIdeal.τ).loc Cert.PostMixBwdRefIdeal.main_arg3)
      ∧ r.2.mem ((c.tc : Thread Cert.PostMixBwdRefIdeal.nD Cert.PostMixBwdRefIdeal.τ).loc Cert.PostMixBwdRefIdeal.main_arg4) = m ((c.tc : Thread Cert.PostMixBwdRefIdeal.nD Cert.PostMixBwdRefIdeal.τ).loc Cert.PostMixBwdRefIdeal.main_arg4)
      ∧ r.2.mem ((c.tc : Thread Cert.PostMixBwdRefIdeal.nD Cert.PostMixBwdRefIdeal.τ).loc Cert.PostMixBwdRefIdeal.main_arg5) = m ((c.tc : Thread Cert.PostMixBwdRefIdeal.nD Cert.PostMixBwdRefIdeal.τ).loc Cert.PostMixBwdRefIdeal.main_arg5)
      ∧ r.2.mem ((c.tc : Thread Cert.PostMixBwdRefIdeal.nD Cert.PostMixBwdRefIdeal.τ).loc Cert.PostMixBwdRefIdeal.main_arg6) = m ((c.tc : Thread Cert.PostMixBwdRefIdeal.nD Cert.PostMixBwdRefIdeal.τ).loc Cert.PostMixBwdRefIdeal.main_arg6)
      ∧ r.2.mem ((c.tc : Thread Cert.PostMixBwdRefIdeal.nD Cert.PostMixBwdRefIdeal.τ).loc Cert.PostMixBwdRefIdeal.main_arg7) = m ((c.tc : Thread Cert.PostMixBwdRefIdeal.nD Cert.PostMixBwdRefIdeal.τ).loc Cert.PostMixBwdRefIdeal.main_arg7)
      ∧ r.2.mem ((c.tc : Thread Cert.PostMixBwdRefIdeal.nD Cert.PostMixBwdRefIdeal.τ).loc Cert.PostMixBwdRefIdeal.main_arg8) = m ((c.tc : Thread Cert.PostMixBwdRefIdeal.nD Cert.PostMixBwdRefIdeal.τ).loc Cert.PostMixBwdRefIdeal.main_arg8))
      ∧ r.2.sem = fun _ => 0)

def quiescent_PostMixBwdRefIdeal_pre_post_finite [hPostMixBwdRefIdeal : Cert.PostMixBwdRefIdeal.Facts] [hPre_post_finite : Cert.Pre_post_finite.Facts] : Prop :=
  ∀ (m : (ℓ : Loc Cert.PostMixBwdRefIdeal.nD Cert.PostMixBwdRefIdeal.τ Cert.PostMixBwdRefIdeal.sig) → Buf (Elt Ideal) ℓ) (g : Dev Cert.PostMixBwdRefIdeal.nD → PrngReg), Pre_PostMixBwdRefIdeal_post_finite m →
    θ_run (Cert.PostMixBwdRefIdeal.defs (F := Ideal)) (onTc (τ := Cert.PostMixBwdRefIdeal.τ) (Cert.PostMixBwdRefIdeal.main (F := Ideal))) ⟨m, fun _ => 0, g⟩ (fun r => (∀ c : Dev Cert.PostMixBwdRefIdeal.nD,
      r.2.mem ((c.tc : Thread Cert.PostMixBwdRefIdeal.nD Cert.PostMixBwdRefIdeal.τ).loc Cert.PostMixBwdRefIdeal.main_arg0) = m ((c.tc : Thread Cert.PostMixBwdRefIdeal.nD Cert.PostMixBwdRefIdeal.τ).loc Cert.PostMixBwdRefIdeal.main_arg0)
      ∧ r.2.mem ((c.tc : Thread Cert.PostMixBwdRefIdeal.nD Cert.PostMixBwdRefIdeal.τ).loc Cert.PostMixBwdRefIdeal.main_arg1) = m ((c.tc : Thread Cert.PostMixBwdRefIdeal.nD Cert.PostMixBwdRefIdeal.τ).loc Cert.PostMixBwdRefIdeal.main_arg1)
      ∧ r.2.mem ((c.tc : Thread Cert.PostMixBwdRefIdeal.nD Cert.PostMixBwdRefIdeal.τ).loc Cert.PostMixBwdRefIdeal.main_arg2) = m ((c.tc : Thread Cert.PostMixBwdRefIdeal.nD Cert.PostMixBwdRefIdeal.τ).loc Cert.PostMixBwdRefIdeal.main_arg2)
      ∧ r.2.mem ((c.tc : Thread Cert.PostMixBwdRefIdeal.nD Cert.PostMixBwdRefIdeal.τ).loc Cert.PostMixBwdRefIdeal.main_arg3) = m ((c.tc : Thread Cert.PostMixBwdRefIdeal.nD Cert.PostMixBwdRefIdeal.τ).loc Cert.PostMixBwdRefIdeal.main_arg3)
      ∧ r.2.mem ((c.tc : Thread Cert.PostMixBwdRefIdeal.nD Cert.PostMixBwdRefIdeal.τ).loc Cert.PostMixBwdRefIdeal.main_arg4) = m ((c.tc : Thread Cert.PostMixBwdRefIdeal.nD Cert.PostMixBwdRefIdeal.τ).loc Cert.PostMixBwdRefIdeal.main_arg4)
      ∧ r.2.mem ((c.tc : Thread Cert.PostMixBwdRefIdeal.nD Cert.PostMixBwdRefIdeal.τ).loc Cert.PostMixBwdRefIdeal.main_arg5) = m ((c.tc : Thread Cert.PostMixBwdRefIdeal.nD Cert.PostMixBwdRefIdeal.τ).loc Cert.PostMixBwdRefIdeal.main_arg5)
      ∧ r.2.mem ((c.tc : Thread Cert.PostMixBwdRefIdeal.nD Cert.PostMixBwdRefIdeal.τ).loc Cert.PostMixBwdRefIdeal.main_arg6) = m ((c.tc : Thread Cert.PostMixBwdRefIdeal.nD Cert.PostMixBwdRefIdeal.τ).loc Cert.PostMixBwdRefIdeal.main_arg6)
      ∧ r.2.mem ((c.tc : Thread Cert.PostMixBwdRefIdeal.nD Cert.PostMixBwdRefIdeal.τ).loc Cert.PostMixBwdRefIdeal.main_arg7) = m ((c.tc : Thread Cert.PostMixBwdRefIdeal.nD Cert.PostMixBwdRefIdeal.τ).loc Cert.PostMixBwdRefIdeal.main_arg7)
      ∧ r.2.mem ((c.tc : Thread Cert.PostMixBwdRefIdeal.nD Cert.PostMixBwdRefIdeal.τ).loc Cert.PostMixBwdRefIdeal.main_arg8) = m ((c.tc : Thread Cert.PostMixBwdRefIdeal.nD Cert.PostMixBwdRefIdeal.τ).loc Cert.PostMixBwdRefIdeal.main_arg8))
      ∧ r.2.sem = fun _ => 0)

def quiescent_PostMix [hPostMix : Cert.PostMix.Facts] : Prop :=
  ∀ (m : (ℓ : Loc Cert.PostMix.nD Cert.PostMix.τ Cert.PostMix.sig) → Buf (Elt Bits) ℓ) (g : Dev Cert.PostMix.nD → PrngReg), Pre_PostMix m →
    θ_run (Cert.PostMix.defs (F := Bits)) (onTc (τ := Cert.PostMix.τ) (Cert.PostMix.main (F := Bits))) ⟨m, fun _ => 0, g⟩ (fun r => (∀ c : Dev Cert.PostMix.nD,
      r.2.mem ((c.tc : Thread Cert.PostMix.nD Cert.PostMix.τ).loc Cert.PostMix.main_arg0) = m ((c.tc : Thread Cert.PostMix.nD Cert.PostMix.τ).loc Cert.PostMix.main_arg0)
      ∧ r.2.mem ((c.tc : Thread Cert.PostMix.nD Cert.PostMix.τ).loc Cert.PostMix.main_arg1) = m ((c.tc : Thread Cert.PostMix.nD Cert.PostMix.τ).loc Cert.PostMix.main_arg1)
      ∧ r.2.mem ((c.tc : Thread Cert.PostMix.nD Cert.PostMix.τ).loc Cert.PostMix.main_arg2) = m ((c.tc : Thread Cert.PostMix.nD Cert.PostMix.τ).loc Cert.PostMix.main_arg2)
      ∧ r.2.mem ((c.tc : Thread Cert.PostMix.nD Cert.PostMix.τ).loc Cert.PostMix.main_arg3) = m ((c.tc : Thread Cert.PostMix.nD Cert.PostMix.τ).loc Cert.PostMix.main_arg3)
      ∧ r.2.mem ((c.tc : Thread Cert.PostMix.nD Cert.PostMix.τ).loc Cert.PostMix.main_arg4) = m ((c.tc : Thread Cert.PostMix.nD Cert.PostMix.τ).loc Cert.PostMix.main_arg4)
      ∧ r.2.mem ((c.tc : Thread Cert.PostMix.nD Cert.PostMix.τ).loc Cert.PostMix.main_arg5) = m ((c.tc : Thread Cert.PostMix.nD Cert.PostMix.τ).loc Cert.PostMix.main_arg5)
      ∧ r.2.mem ((c.tc : Thread Cert.PostMix.nD Cert.PostMix.τ).loc Cert.PostMix.main_arg6) = m ((c.tc : Thread Cert.PostMix.nD Cert.PostMix.τ).loc Cert.PostMix.main_arg6))
      ∧ r.2.sem = fun _ => 0)

def quiescent_PostMixIdeal [hPostMixIdeal : Cert.PostMixIdeal.Facts] : Prop :=
  ∀ (m : (ℓ : Loc Cert.PostMixIdeal.nD Cert.PostMixIdeal.τ Cert.PostMixIdeal.sig) → Buf (Elt Ideal) ℓ) (g : Dev Cert.PostMixIdeal.nD → PrngReg), Pre_PostMixIdeal m →
    θ_run (Cert.PostMixIdeal.defs (F := Ideal)) (onTc (τ := Cert.PostMixIdeal.τ) (Cert.PostMixIdeal.main (F := Ideal))) ⟨m, fun _ => 0, g⟩ (fun r => (∀ c : Dev Cert.PostMixIdeal.nD,
      r.2.mem ((c.tc : Thread Cert.PostMixIdeal.nD Cert.PostMixIdeal.τ).loc Cert.PostMixIdeal.main_arg0) = m ((c.tc : Thread Cert.PostMixIdeal.nD Cert.PostMixIdeal.τ).loc Cert.PostMixIdeal.main_arg0)
      ∧ r.2.mem ((c.tc : Thread Cert.PostMixIdeal.nD Cert.PostMixIdeal.τ).loc Cert.PostMixIdeal.main_arg1) = m ((c.tc : Thread Cert.PostMixIdeal.nD Cert.PostMixIdeal.τ).loc Cert.PostMixIdeal.main_arg1)
      ∧ r.2.mem ((c.tc : Thread Cert.PostMixIdeal.nD Cert.PostMixIdeal.τ).loc Cert.PostMixIdeal.main_arg2) = m ((c.tc : Thread Cert.PostMixIdeal.nD Cert.PostMixIdeal.τ).loc Cert.PostMixIdeal.main_arg2)
      ∧ r.2.mem ((c.tc : Thread Cert.PostMixIdeal.nD Cert.PostMixIdeal.τ).loc Cert.PostMixIdeal.main_arg3) = m ((c.tc : Thread Cert.PostMixIdeal.nD Cert.PostMixIdeal.τ).loc Cert.PostMixIdeal.main_arg3)
      ∧ r.2.mem ((c.tc : Thread Cert.PostMixIdeal.nD Cert.PostMixIdeal.τ).loc Cert.PostMixIdeal.main_arg4) = m ((c.tc : Thread Cert.PostMixIdeal.nD Cert.PostMixIdeal.τ).loc Cert.PostMixIdeal.main_arg4)
      ∧ r.2.mem ((c.tc : Thread Cert.PostMixIdeal.nD Cert.PostMixIdeal.τ).loc Cert.PostMixIdeal.main_arg5) = m ((c.tc : Thread Cert.PostMixIdeal.nD Cert.PostMixIdeal.τ).loc Cert.PostMixIdeal.main_arg5)
      ∧ r.2.mem ((c.tc : Thread Cert.PostMixIdeal.nD Cert.PostMixIdeal.τ).loc Cert.PostMixIdeal.main_arg6) = m ((c.tc : Thread Cert.PostMixIdeal.nD Cert.PostMixIdeal.τ).loc Cert.PostMixIdeal.main_arg6))
      ∧ r.2.sem = fun _ => 0)

def quiescent_PostMixRefIdeal [hPostMixRefIdeal : Cert.PostMixRefIdeal.Facts] : Prop :=
  ∀ (m : (ℓ : Loc Cert.PostMixRefIdeal.nD Cert.PostMixRefIdeal.τ Cert.PostMixRefIdeal.sig) → Buf (Elt Ideal) ℓ) (g : Dev Cert.PostMixRefIdeal.nD → PrngReg), Pre_PostMixRefIdeal m →
    θ_run (Cert.PostMixRefIdeal.defs (F := Ideal)) (onTc (τ := Cert.PostMixRefIdeal.τ) (Cert.PostMixRefIdeal.main (F := Ideal))) ⟨m, fun _ => 0, g⟩ (fun r => (∀ c : Dev Cert.PostMixRefIdeal.nD,
      r.2.mem ((c.tc : Thread Cert.PostMixRefIdeal.nD Cert.PostMixRefIdeal.τ).loc Cert.PostMixRefIdeal.main_arg0) = m ((c.tc : Thread Cert.PostMixRefIdeal.nD Cert.PostMixRefIdeal.τ).loc Cert.PostMixRefIdeal.main_arg0)
      ∧ r.2.mem ((c.tc : Thread Cert.PostMixRefIdeal.nD Cert.PostMixRefIdeal.τ).loc Cert.PostMixRefIdeal.main_arg1) = m ((c.tc : Thread Cert.PostMixRefIdeal.nD Cert.PostMixRefIdeal.τ).loc Cert.PostMixRefIdeal.main_arg1)
      ∧ r.2.mem ((c.tc : Thread Cert.PostMixRefIdeal.nD Cert.PostMixRefIdeal.τ).loc Cert.PostMixRefIdeal.main_arg2) = m ((c.tc : Thread Cert.PostMixRefIdeal.nD Cert.PostMixRefIdeal.τ).loc Cert.PostMixRefIdeal.main_arg2)
      ∧ r.2.mem ((c.tc : Thread Cert.PostMixRefIdeal.nD Cert.PostMixRefIdeal.τ).loc Cert.PostMixRefIdeal.main_arg3) = m ((c.tc : Thread Cert.PostMixRefIdeal.nD Cert.PostMixRefIdeal.τ).loc Cert.PostMixRefIdeal.main_arg3)
      ∧ r.2.mem ((c.tc : Thread Cert.PostMixRefIdeal.nD Cert.PostMixRefIdeal.τ).loc Cert.PostMixRefIdeal.main_arg4) = m ((c.tc : Thread Cert.PostMixRefIdeal.nD Cert.PostMixRefIdeal.τ).loc Cert.PostMixRefIdeal.main_arg4)
      ∧ r.2.mem ((c.tc : Thread Cert.PostMixRefIdeal.nD Cert.PostMixRefIdeal.τ).loc Cert.PostMixRefIdeal.main_arg5) = m ((c.tc : Thread Cert.PostMixRefIdeal.nD Cert.PostMixRefIdeal.τ).loc Cert.PostMixRefIdeal.main_arg5)
      ∧ r.2.mem ((c.tc : Thread Cert.PostMixRefIdeal.nD Cert.PostMixRefIdeal.τ).loc Cert.PostMixRefIdeal.main_arg6) = m ((c.tc : Thread Cert.PostMixRefIdeal.nD Cert.PostMixRefIdeal.τ).loc Cert.PostMixRefIdeal.main_arg6))
      ∧ r.2.sem = fun _ => 0)

def quiescent_Slots [hSlots : Cert.Slots.Facts] : Prop :=
  ∀ (m : (ℓ : Loc Cert.Slots.nD Cert.Slots.τ Cert.Slots.sig) → Buf (Elt Bits) ℓ) (g : Dev Cert.Slots.nD → PrngReg), Pre_Slots m →
    θ_run (Cert.Slots.defs (F := Bits)) (onTc (τ := Cert.Slots.τ) (Cert.Slots.main (F := Bits))) ⟨m, fun _ => 0, g⟩ (fun r => (∀ c : Dev Cert.Slots.nD,
      r.2.mem ((c.tc : Thread Cert.Slots.nD Cert.Slots.τ).loc Cert.Slots.main_arg0) = m ((c.tc : Thread Cert.Slots.nD Cert.Slots.τ).loc Cert.Slots.main_arg0))
      ∧ r.2.sem = fun _ => 0)

def quiescent_SlotsIdeal [hSlotsIdeal : Cert.SlotsIdeal.Facts] : Prop :=
  ∀ (m : (ℓ : Loc Cert.SlotsIdeal.nD Cert.SlotsIdeal.τ Cert.SlotsIdeal.sig) → Buf (Elt Ideal) ℓ) (g : Dev Cert.SlotsIdeal.nD → PrngReg), Pre_SlotsIdeal m →
    θ_run (Cert.SlotsIdeal.defs (F := Ideal)) (onTc (τ := Cert.SlotsIdeal.τ) (Cert.SlotsIdeal.main (F := Ideal))) ⟨m, fun _ => 0, g⟩ (fun r => (∀ c : Dev Cert.SlotsIdeal.nD,
      r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0))
      ∧ r.2.sem = fun _ => 0)

def quiescent_SlotsRefIdeal [hSlotsRefIdeal : Cert.SlotsRefIdeal.Facts] : Prop :=
  ∀ (m : (ℓ : Loc Cert.SlotsRefIdeal.nD Cert.SlotsRefIdeal.τ Cert.SlotsRefIdeal.sig) → Buf (Elt Ideal) ℓ) (g : Dev Cert.SlotsRefIdeal.nD → PrngReg), Pre_SlotsRefIdeal m →
    θ_run (Cert.SlotsRefIdeal.defs (F := Ideal)) (onTc (τ := Cert.SlotsRefIdeal.τ) (Cert.SlotsRefIdeal.main (F := Ideal))) ⟨m, fun _ => 0, g⟩ (fun r => (∀ c : Dev Cert.SlotsRefIdeal.nD,
      r.2.mem ((c.tc : Thread Cert.SlotsRefIdeal.nD Cert.SlotsRefIdeal.τ).loc Cert.SlotsRefIdeal.main_arg0) = m ((c.tc : Thread Cert.SlotsRefIdeal.nD Cert.SlotsRefIdeal.τ).loc Cert.SlotsRefIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_5) = v0 c
          ∧ r.2.mem ((c.tc : Thread Cert.ReferenceIdeal.nD Cert.ReferenceIdeal.τ).loc Cert.ReferenceIdeal.main_v7_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Swiglu_SwigluIdeal : Prop :=
  True

def algebraic_SwigluIdeal_SwigluRefIdeal_pre_finite [hSwigluIdeal : Cert.SwigluIdeal.Facts] [hSwigluRefIdeal : Cert.SwigluRefIdeal.Facts] [hPre_finite : Cert.Pre_finite.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal_finite m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)
      ∧ m' ((c.tc : Thread Cert.SwigluRefIdeal.nD Cert.SwigluRefIdeal.τ).loc Cert.SwigluRefIdeal.main_arg3) = m ((c.tc : Thread Cert.SwigluIdeal.nD Cert.SwigluIdeal.τ).loc Cert.SwigluIdeal.main_arg3)
      ∧ m' ((c.tc : Thread Cert.SwigluRefIdeal.nD Cert.SwigluRefIdeal.τ).loc Cert.SwigluRefIdeal.main_arg4) = m ((c.tc : Thread Cert.SwigluIdeal.nD Cert.SwigluIdeal.τ).loc Cert.SwigluIdeal.main_arg4)) →
    ∃ (v0 : (c : Dev Cert.SwigluIdeal.nD) → Buf (Elt Ideal) ((c.tc : Thread Cert.SwigluIdeal.nD Cert.SwigluIdeal.τ).loc Cert.SwigluIdeal.main_v1)) (v1 : (c : Dev Cert.SwigluIdeal.nD) → Buf (Elt Ideal) ((c.tc : Thread Cert.SwigluIdeal.nD Cert.SwigluIdeal.τ).loc Cert.SwigluIdeal.main_v0_2)) (v2 : (c : Dev Cert.SwigluIdeal.nD) → Buf (Elt Ideal) ((c.tc : Thread Cert.SwigluIdeal.nD Cert.SwigluIdeal.τ).loc Cert.SwigluIdeal.main_v2_0)) (v3 : (c : Dev Cert.SwigluIdeal.nD) → Buf (Elt Ideal) ((c.tc : Thread Cert.SwigluIdeal.nD Cert.SwigluIdeal.τ).loc Cert.SwigluIdeal.main_v2_1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v1) = v0 c
          ∧ r.2.mem ((c.tc : Thread Cert.SwigluIdeal.nD Cert.SwigluIdeal.τ).loc Cert.SwigluIdeal.main_v0_2) = v1 c
          ∧ r.2.mem ((c.tc : Thread Cert.SwigluIdeal.nD Cert.SwigluIdeal.τ).loc Cert.SwigluIdeal.main_v2_0) = v2 c
          ∧ r.2.mem ((c.tc : Thread Cert.SwigluIdeal.nD Cert.SwigluIdeal.τ).loc Cert.SwigluIdeal.main_v2_1) = v3 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
          ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v13) = v0 c
          ∧ r.2.mem ((c.tc : Thread Cert.SwigluRefIdeal.nD Cert.SwigluRefIdeal.τ).loc Cert.SwigluRefIdeal.main_v18) = v1 c
          ∧ r.2.mem ((c.tc : Thread Cert.SwigluRefIdeal.nD Cert.SwigluRefIdeal.τ).loc Cert.SwigluRefIdeal.main_v19) = v2 c
          ∧ r.2.mem ((c.tc : Thread Cert.SwigluRefIdeal.nD Cert.SwigluRefIdeal.τ).loc Cert.SwigluRefIdeal.main_v20) = v3 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2)
          ∧ r.2.mem ((c.tc : Thread Cert.SwigluRefIdeal.nD Cert.SwigluRefIdeal.τ).loc Cert.SwigluRefIdeal.main_arg3) = m' ((c.tc : Thread Cert.SwigluRefIdeal.nD Cert.SwigluRefIdeal.τ).loc Cert.SwigluRefIdeal.main_arg3)
          ∧ r.2.mem ((c.tc : Thread Cert.SwigluRefIdeal.nD Cert.SwigluRefIdeal.τ).loc Cert.SwigluRefIdeal.main_arg4) = m' ((c.tc : Thread Cert.SwigluRefIdeal.nD Cert.SwigluRefIdeal.τ).loc Cert.SwigluRefIdeal.main_arg4))

def preserves_DownWeight_DownWeightIdeal : Prop :=
  True

def algebraic_DownWeightIdeal_DownWeightRefIdeal [hDownWeightIdeal : Cert.DownWeightIdeal.Facts] [hDownWeightRefIdeal : Cert.DownWeightRefIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg)
    (m' : (ℓ : Loc Cert.DownWeightRefIdeal.nD Cert.DownWeightRefIdeal.τ Cert.DownWeightRefIdeal.sig) → Buf (Elt Ideal) ℓ) (g' : Dev Cert.DownWeightRefIdeal.nD → PrngReg), Pre_DownWeightIdeal m →
    (∀ c : Dev Cert.DownWeightIdeal.nD,
      m' ((c.tc : Thread Cert.DownWeightRefIdeal.nD Cert.DownWeightRefIdeal.τ).loc Cert.DownWeightRefIdeal.main_arg0) = m ((c.tc : Thread Cert.DownWeightIdeal.nD Cert.DownWeightIdeal.τ).loc Cert.DownWeightIdeal.main_arg0)
      ∧ m' ((c.tc : Thread Cert.DownWeightRefIdeal.nD Cert.DownWeightRefIdeal.τ).loc Cert.DownWeightRefIdeal.main_arg1) = m ((c.tc : Thread Cert.DownWeightIdeal.nD Cert.DownWeightIdeal.τ).loc Cert.DownWeightIdeal.main_arg1)) →
    ∃ (v0 : (c : Dev Cert.DownWeightIdeal.nD) → Buf (Elt Ideal) ((c.tc : Thread Cert.DownWeightIdeal.nD Cert.DownWeightIdeal.τ).loc Cert.DownWeightIdeal.main_v0)),
      θ_run (Cert.DownWeightIdeal.defs (F := Ideal)) (onTc (τ := Cert.DownWeightIdeal.τ) (Cert.DownWeightIdeal.main (F := Ideal))) ⟨m, fun _ => 0, g⟩ (fun r => ∀ c : Dev Cert.DownWeightIdeal.nD,
          r.2.mem ((c.tc : Thread Cert.DownWeightIdeal.nD Cert.DownWeightIdeal.τ).loc Cert.DownWeightIdeal.main_v0) = v0 c
          ∧ r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
          ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ θ_run (Cert.DownWeightRefIdeal.defs (F := Ideal)) (onTc (τ := Cert.DownWeightRefIdeal.τ) (Cert.DownWeightRefIdeal.main (F := Ideal))) ⟨m', fun _ => 0, g'⟩ (fun r => ∀ c : Dev Cert.DownWeightRefIdeal.nD,
          r.2.mem ((c.tc : Thread Cert.DownWeightRefIdeal.nD Cert.DownWeightRefIdeal.τ).loc Cert.DownWeightRefIdeal.main_v4) = v0 c
          ∧ r.2.mem ((c.tc : Thread Cert.DownWeightRefIdeal.nD Cert.DownWeightRefIdeal.τ).loc Cert.DownWeightRefIdeal.main_arg0) = m' ((c.tc : Thread Cert.DownWeightRefIdeal.nD Cert.DownWeightRefIdeal.τ).loc Cert.DownWeightRefIdeal.main_arg0)
          ∧ r.2.mem ((c.tc : Thread Cert.DownWeightRefIdeal.nD Cert.DownWeightRefIdeal.τ).loc Cert.DownWeightRefIdeal.main_arg1) = m' ((c.tc : Thread Cert.DownWeightRefIdeal.nD Cert.DownWeightRefIdeal.τ).loc Cert.DownWeightRefIdeal.main_arg1))

def preserves_UpWeight_UpWeightIdeal : Prop :=
  True

def algebraic_UpWeightIdeal_UpWeightRefIdeal [hUpWeightIdeal : Cert.UpWeightIdeal.Facts] [hUpWeightRefIdeal : Cert.UpWeightRefIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg)
    (m' : (ℓ : Loc Cert.UpWeightRefIdeal.nD Cert.UpWeightRefIdeal.τ Cert.UpWeightRefIdeal.sig) → Buf (Elt Ideal) ℓ) (g' : Dev Cert.UpWeightRefIdeal.nD → PrngReg), Pre_UpWeightIdeal m →
    (∀ c : Dev Cert.UpWeightIdeal.nD,
      m' ((c.tc : Thread Cert.UpWeightRefIdeal.nD Cert.UpWeightRefIdeal.τ).loc Cert.UpWeightRefIdeal.main_arg0) = m ((c.tc : Thread Cert.UpWeightIdeal.nD Cert.UpWeightIdeal.τ).loc Cert.UpWeightIdeal.main_arg0)
      ∧ m' ((c.tc : Thread Cert.UpWeightRefIdeal.nD Cert.UpWeightRefIdeal.τ).loc Cert.UpWeightRefIdeal.main_arg1) = m ((c.tc : Thread Cert.UpWeightIdeal.nD Cert.UpWeightIdeal.τ).loc Cert.UpWeightIdeal.main_arg1)) →
    ∃ (v0 : (c : Dev Cert.UpWeightIdeal.nD) → Buf (Elt Ideal) ((c.tc : Thread Cert.UpWeightIdeal.nD Cert.UpWeightIdeal.τ).loc Cert.UpWeightIdeal.main_v0)),
      θ_run (Cert.UpWeightIdeal.defs (F := Ideal)) (onTc (τ := Cert.UpWeightIdeal.τ) (Cert.UpWeightIdeal.main (F := Ideal))) ⟨m, fun _ => 0, g⟩ (fun r => ∀ c : Dev Cert.UpWeightIdeal.nD,
          r.2.mem ((c.tc : Thread Cert.UpWeightIdeal.nD Cert.UpWeightIdeal.τ).loc Cert.UpWeightIdeal.main_v0) = v0 c
          ∧ r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
          ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1))
      ∧ θ_run (Cert.UpWeightRefIdeal.defs (F := Ideal)) (onTc (τ := Cert.UpWeightRefIdeal.τ) (Cert.UpWeightRefIdeal.main (F := Ideal))) ⟨m', fun _ => 0, g'⟩ (fun r => ∀ c : Dev Cert.UpWeightRefIdeal.nD,
          r.2.mem ((c.tc : Thread Cert.UpWeightRefIdeal.nD Cert.UpWeightRefIdeal.τ).loc Cert.UpWeightRefIdeal.main_v4) = v0 c
          ∧ r.2.mem ((c.tc : Thread Cert.UpWeightRefIdeal.nD Cert.UpWeightRefIdeal.τ).loc Cert.UpWeightRefIdeal.main_arg0) = m' ((c.tc : Thread Cert.UpWeightRefIdeal.nD Cert.UpWeightRefIdeal.τ).loc Cert.UpWeightRefIdeal.main_arg0)
          ∧ r.2.mem ((c.tc : Thread Cert.UpWeightRefIdeal.nD Cert.UpWeightRefIdeal.τ).loc Cert.UpWeightRefIdeal.main_arg1) = m' ((c.tc : Thread Cert.UpWeightRefIdeal.nD Cert.UpWeightRefIdeal.τ).loc Cert.UpWeightRefIdeal.main_arg1))

def preserves_UpInput_UpInputIdeal : Prop :=
  True

def algebraic_UpInputIdeal_UpInputRefIdeal [hUpInputIdeal : Cert.UpInputIdeal.Facts] [hUpInputRefIdeal : Cert.UpInputRefIdeal.Facts] : Prop :=
  ∀ (m : (ℓ : Loc Cert.UpInputIdeal.nD Cert.UpInputIdeal.τ Cert.UpInputIdeal.sig) → Buf (Elt Ideal) ℓ) (g : Dev Cert.UpInputIdeal.nD → PrngReg)
    (m' : (ℓ : Loc Cert.UpInputRefIdeal.nD Cert.UpInputRefIdeal.τ Cert.UpInputRefIdeal.sig) → Buf (Elt Ideal) ℓ) (g' : Dev Cert.UpInputRefIdeal.nD → PrngReg), Pre_UpInputIdeal m →
    (∀ c : Dev Cert.UpInputIdeal.nD,
      m' ((c.tc : Thread Cert.UpInputRefIdeal.nD Cert.UpInputRefIdeal.τ).loc Cert.UpInputRefIdeal.main_arg0) = m ((c.tc : Thread Cert.UpInputIdeal.nD Cert.UpInputIdeal.τ).loc Cert.UpInputIdeal.main_arg0)
      ∧ m' ((c.tc : Thread Cert.UpInputRefIdeal.nD Cert.UpInputRefIdeal.τ).loc Cert.UpInputRefIdeal.main_arg1) = m ((c.tc : Thread Cert.UpInputIdeal.nD Cert.UpInputIdeal.τ).loc Cert.UpInputIdeal.main_arg1)
      ∧ m' ((c.tc : Thread Cert.UpInputRefIdeal.nD Cert.UpInputRefIdeal.τ).loc Cert.UpInputRefIdeal.main_arg2) = m ((c.tc : Thread Cert.UpInputIdeal.nD Cert.UpInputIdeal.τ).loc Cert.UpInputIdeal.main_arg2)
      ∧ m' ((c.tc : Thread Cert.UpInputRefIdeal.nD Cert.UpInputRefIdeal.τ).loc Cert.UpInputRefIdeal.main_arg3) = m ((c.tc : Thread Cert.UpInputIdeal.nD Cert.UpInputIdeal.τ).loc Cert.UpInputIdeal.main_arg3)) →
    ∃ (v0 : (c : Dev Cert.UpInputIdeal.nD) → Buf (Elt Ideal) ((c.tc : Thread Cert.UpInputIdeal.nD Cert.UpInputIdeal.τ).loc Cert.UpInputIdeal.main_v0)),
      θ_run (Cert.UpInputIdeal.defs (F := Ideal)) (onTc (τ := Cert.UpInputIdeal.τ) (Cert.UpInputIdeal.main (F := Ideal))) ⟨m, fun _ => 0, g⟩ (fun r => ∀ c : Dev Cert.UpInputIdeal.nD,
          r.2.mem ((c.tc : Thread Cert.UpInputIdeal.nD Cert.UpInputIdeal.τ).loc Cert.UpInputIdeal.main_v0) = v0 c
          ∧ r.2.mem ((c.tc : Thread Cert.UpInputIdeal.nD Cert.UpInputIdeal.τ).loc Cert.UpInputIdeal.main_arg0) = m ((c.tc : Thread Cert.UpInputIdeal.nD Cert.UpInputIdeal.τ).loc Cert.UpInputIdeal.main_arg0)
          ∧ r.2.mem ((c.tc : Thread Cert.UpInputIdeal.nD Cert.UpInputIdeal.τ).loc Cert.UpInputIdeal.main_arg1) = m ((c.tc : Thread Cert.UpInputIdeal.nD Cert.UpInputIdeal.τ).loc Cert.UpInputIdeal.main_arg1)
          ∧ r.2.mem ((c.tc : Thread Cert.UpInputIdeal.nD Cert.UpInputIdeal.τ).loc Cert.UpInputIdeal.main_arg2) = m ((c.tc : Thread Cert.UpInputIdeal.nD Cert.UpInputIdeal.τ).loc Cert.UpInputIdeal.main_arg2)
          ∧ r.2.mem ((c.tc : Thread Cert.UpInputIdeal.nD Cert.UpInputIdeal.τ).loc Cert.UpInputIdeal.main_arg3) = m ((c.tc : Thread Cert.UpInputIdeal.nD Cert.UpInputIdeal.τ).loc Cert.UpInputIdeal.main_arg3))
      ∧ θ_run (Cert.UpInputRefIdeal.defs (F := Ideal)) (onTc (τ := Cert.UpInputRefIdeal.τ) (Cert.UpInputRefIdeal.main (F := Ideal))) ⟨m', fun _ => 0, g'⟩ (fun r => ∀ c : Dev Cert.UpInputRefIdeal.nD,
          r.2.mem ((c.tc : Thread Cert.UpInputRefIdeal.nD Cert.UpInputRefIdeal.τ).loc Cert.UpInputRefIdeal.main_v6) = v0 c
          ∧ r.2.mem ((c.tc : Thread Cert.UpInputRefIdeal.nD Cert.UpInputRefIdeal.τ).loc Cert.UpInputRefIdeal.main_arg0) = m' ((c.tc : Thread Cert.UpInputRefIdeal.nD Cert.UpInputRefIdeal.τ).loc Cert.UpInputRefIdeal.main_arg0)
          ∧ r.2.mem ((c.tc : Thread Cert.UpInputRefIdeal.nD Cert.UpInputRefIdeal.τ).loc Cert.UpInputRefIdeal.main_arg1) = m' ((c.tc : Thread Cert.UpInputRefIdeal.nD Cert.UpInputRefIdeal.τ).loc Cert.UpInputRefIdeal.main_arg1)
          ∧ r.2.mem ((c.tc : Thread Cert.UpInputRefIdeal.nD Cert.UpInputRefIdeal.τ).loc Cert.UpInputRefIdeal.main_arg2) = m' ((c.tc : Thread Cert.UpInputRefIdeal.nD Cert.UpInputRefIdeal.τ).loc Cert.UpInputRefIdeal.main_arg2)
          ∧ r.2.mem ((c.tc : Thread Cert.UpInputRefIdeal.nD Cert.UpInputRefIdeal.τ).loc Cert.UpInputRefIdeal.main_arg3) = m' ((c.tc : Thread Cert.UpInputRefIdeal.nD Cert.UpInputRefIdeal.τ).loc Cert.UpInputRefIdeal.main_arg3))

def preserves_RgIn_RgInIdeal : Prop :=
  True

def algebraic_RgInIdeal_RgInRefIdeal [hRgInIdeal : Cert.RgInIdeal.Facts] [hRgInRefIdeal : Cert.RgInRefIdeal.Facts] : Prop :=
  ∀ (m : (ℓ : Loc Cert.RgInIdeal.nD Cert.RgInIdeal.τ Cert.RgInIdeal.sig) → Buf (Elt Ideal) ℓ) (g : Dev Cert.RgInIdeal.nD → PrngReg)
    (m' : (ℓ : Loc Cert.RgInRefIdeal.nD Cert.RgInRefIdeal.τ Cert.RgInRefIdeal.sig) → Buf (Elt Ideal) ℓ) (g' : Dev Cert.RgInRefIdeal.nD → PrngReg), Pre_RgInIdeal m →
    (∀ c : Dev Cert.RgInIdeal.nD,
      m' ((c.tc : Thread Cert.RgInRefIdeal.nD Cert.RgInRefIdeal.τ).loc Cert.RgInRefIdeal.main_arg0) = m ((c.tc : Thread Cert.RgInIdeal.nD Cert.RgInIdeal.τ).loc Cert.RgInIdeal.main_arg0)
      ∧ m' ((c.tc : Thread Cert.RgInRefIdeal.nD Cert.RgInRefIdeal.τ).loc Cert.RgInRefIdeal.main_arg1) = m ((c.tc : Thread Cert.RgInIdeal.nD Cert.RgInIdeal.τ).loc Cert.RgInIdeal.main_arg1)) →
    ∃ (v0 : (c : Dev Cert.RgInIdeal.nD) → Buf (Elt Ideal) ((c.tc : Thread Cert.RgInIdeal.nD Cert.RgInIdeal.τ).loc Cert.RgInIdeal.main_v0)),
      θ_run (Cert.RgInIdeal.defs (F := Ideal)) (onTc (τ := Cert.RgInIdeal.τ) (Cert.RgInIdeal.main (F := Ideal))) ⟨m, fun _ => 0, g⟩ (fun r => ∀ c : Dev Cert.RgInIdeal.nD,
          r.2.mem ((c.tc : Thread Cert.RgInIdeal.nD Cert.RgInIdeal.τ).loc Cert.RgInIdeal.main_v0) = v0 c
          ∧ r.2.mem ((c.tc : Thread Cert.RgInIdeal.nD Cert.RgInIdeal.τ).loc Cert.RgInIdeal.main_arg0) = m ((c.tc : Thread Cert.RgInIdeal.nD Cert.RgInIdeal.τ).loc Cert.RgInIdeal.main_arg0)
          ∧ r.2.mem ((c.tc : Thread Cert.RgInIdeal.nD Cert.RgInIdeal.τ).loc Cert.RgInIdeal.main_arg1) = m ((c.tc : Thread Cert.RgInIdeal.nD Cert.RgInIdeal.τ).loc Cert.RgInIdeal.main_arg1))
      ∧ θ_run (Cert.RgInRefIdeal.defs (F := Ideal)) (onTc (τ := Cert.RgInRefIdeal.τ) (Cert.RgInRefIdeal.main (F := Ideal))) ⟨m', fun _ => 0, g'⟩ (fun r => ∀ c : Dev Cert.RgInRefIdeal.nD,
          r.2.mem ((c.tc : Thread Cert.RgInRefIdeal.nD Cert.RgInRefIdeal.τ).loc Cert.RgInRefIdeal.main_v2) = v0 c
          ∧ r.2.mem ((c.tc : Thread Cert.RgInRefIdeal.nD Cert.RgInRefIdeal.τ).loc Cert.RgInRefIdeal.main_arg0) = m' ((c.tc : Thread Cert.RgInRefIdeal.nD Cert.RgInRefIdeal.τ).loc Cert.RgInRefIdeal.main_arg0)
          ∧ r.2.mem ((c.tc : Thread Cert.RgInRefIdeal.nD Cert.RgInRefIdeal.τ).loc Cert.RgInRefIdeal.main_arg1) = m' ((c.tc : Thread Cert.RgInRefIdeal.nD Cert.RgInRefIdeal.τ).loc Cert.RgInRefIdeal.main_arg1))

def preserves_AbIn_AbInIdeal : Prop :=
  True

def algebraic_AbInIdeal_AbInRefIdeal [hAbInIdeal : Cert.AbInIdeal.Facts] [hAbInRefIdeal : Cert.AbInRefIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInRefIdeal.nD Cert.AbInRefIdeal.τ Cert.AbInRefIdeal.sig) → Buf (Elt Ideal) ℓ) (g' : Dev Cert.AbInRefIdeal.nD → PrngReg), Pre_AbInIdeal m →
    (∀ c : Dev Cert.AbInIdeal.nD,
      m' ((c.tc : Thread Cert.AbInRefIdeal.nD Cert.AbInRefIdeal.τ).loc Cert.AbInRefIdeal.main_arg0) = m ((c.tc : Thread Cert.AbInIdeal.nD Cert.AbInIdeal.τ).loc Cert.AbInIdeal.main_arg0)
      ∧ m' ((c.tc : Thread Cert.AbInRefIdeal.nD Cert.AbInRefIdeal.τ).loc Cert.AbInRefIdeal.main_arg1) = m ((c.tc : Thread Cert.AbInIdeal.nD Cert.AbInIdeal.τ).loc Cert.AbInIdeal.main_arg1)) →
    ∃ (v0 : (c : Dev Cert.AbInIdeal.nD) → Buf (Elt Ideal) ((c.tc : Thread Cert.AbInIdeal.nD Cert.AbInIdeal.τ).loc Cert.AbInIdeal.main_v0)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v0) = v0 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ θ_run (Cert.AbInRefIdeal.defs (F := Ideal)) (onTc (τ := Cert.AbInRefIdeal.τ) (Cert.AbInRefIdeal.main (F := Ideal))) ⟨m', fun _ => 0, g'⟩ (fun r => ∀ c : Dev Cert.AbInRefIdeal.nD,
          r.2.mem ((c.tc : Thread Cert.AbInRefIdeal.nD Cert.AbInRefIdeal.τ).loc Cert.AbInRefIdeal.main_v2) = v0 c
          ∧ r.2.mem ((c.tc : Thread Cert.AbInRefIdeal.nD Cert.AbInRefIdeal.τ).loc Cert.AbInRefIdeal.main_arg0) = m' ((c.tc : Thread Cert.AbInRefIdeal.nD Cert.AbInRefIdeal.τ).loc Cert.AbInRefIdeal.main_arg0)
          ∧ r.2.mem ((c.tc : Thread Cert.AbInRefIdeal.nD Cert.AbInRefIdeal.τ).loc Cert.AbInRefIdeal.main_arg1) = m' ((c.tc : Thread Cert.AbInRefIdeal.nD Cert.AbInRefIdeal.τ).loc Cert.AbInRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_MixOutInput_MixOutInputIdeal : Prop :=
  True

def algebraic_MixOutInputIdeal_MixOutInputRefIdeal [hMixOutInputIdeal : Cert.MixOutInputIdeal.Facts] [hMixOutInputRefIdeal : Cert.MixOutInputRefIdeal.Facts] : Prop :=
  ∀ (m : (ℓ : Loc Cert.MixOutInputIdeal.nD Cert.MixOutInputIdeal.τ Cert.MixOutInputIdeal.sig) → Buf (Elt Ideal) ℓ) (g : Dev Cert.MixOutInputIdeal.nD → PrngReg)
    (m' : (ℓ : Loc Cert.MixOutInputRefIdeal.nD Cert.MixOutInputRefIdeal.τ Cert.MixOutInputRefIdeal.sig) → Buf (Elt Ideal) ℓ) (g' : Dev Cert.MixOutInputRefIdeal.nD → PrngReg), Pre_MixOutInputIdeal m →
    (∀ c : Dev Cert.MixOutInputIdeal.nD,
      m' ((c.tc : Thread Cert.MixOutInputRefIdeal.nD Cert.MixOutInputRefIdeal.τ).loc Cert.MixOutInputRefIdeal.main_arg0) = m ((c.tc : Thread Cert.MixOutInputIdeal.nD Cert.MixOutInputIdeal.τ).loc Cert.MixOutInputIdeal.main_arg0)
      ∧ m' ((c.tc : Thread Cert.MixOutInputRefIdeal.nD Cert.MixOutInputRefIdeal.τ).loc Cert.MixOutInputRefIdeal.main_arg1) = m ((c.tc : Thread Cert.MixOutInputIdeal.nD Cert.MixOutInputIdeal.τ).loc Cert.MixOutInputIdeal.main_arg1)) →
    ∃ (v0 : (c : Dev Cert.MixOutInputIdeal.nD) → Buf (Elt Ideal) ((c.tc : Thread Cert.MixOutInputIdeal.nD Cert.MixOutInputIdeal.τ).loc Cert.MixOutInputIdeal.main_v0)),
      θ_run (Cert.MixOutInputIdeal.defs (F := Ideal)) (onTc (τ := Cert.MixOutInputIdeal.τ) (Cert.MixOutInputIdeal.main (F := Ideal))) ⟨m, fun _ => 0, g⟩ (fun r => ∀ c : Dev Cert.MixOutInputIdeal.nD,
          r.2.mem ((c.tc : Thread Cert.MixOutInputIdeal.nD Cert.MixOutInputIdeal.τ).loc Cert.MixOutInputIdeal.main_v0) = v0 c
          ∧ r.2.mem ((c.tc : Thread Cert.MixOutInputIdeal.nD Cert.MixOutInputIdeal.τ).loc Cert.MixOutInputIdeal.main_arg0) = m ((c.tc : Thread Cert.MixOutInputIdeal.nD Cert.MixOutInputIdeal.τ).loc Cert.MixOutInputIdeal.main_arg0)
          ∧ r.2.mem ((c.tc : Thread Cert.MixOutInputIdeal.nD Cert.MixOutInputIdeal.τ).loc Cert.MixOutInputIdeal.main_arg1) = m ((c.tc : Thread Cert.MixOutInputIdeal.nD Cert.MixOutInputIdeal.τ).loc Cert.MixOutInputIdeal.main_arg1))
      ∧ θ_run (Cert.MixOutInputRefIdeal.defs (F := Ideal)) (onTc (τ := Cert.MixOutInputRefIdeal.τ) (Cert.MixOutInputRefIdeal.main (F := Ideal))) ⟨m', fun _ => 0, g'⟩ (fun r => ∀ c : Dev Cert.MixOutInputRefIdeal.nD,
          r.2.mem ((c.tc : Thread Cert.MixOutInputRefIdeal.nD Cert.MixOutInputRefIdeal.τ).loc Cert.MixOutInputRefIdeal.main_v2) = v0 c
          ∧ r.2.mem ((c.tc : Thread Cert.MixOutInputRefIdeal.nD Cert.MixOutInputRefIdeal.τ).loc Cert.MixOutInputRefIdeal.main_arg0) = m' ((c.tc : Thread Cert.MixOutInputRefIdeal.nD Cert.MixOutInputRefIdeal.τ).loc Cert.MixOutInputRefIdeal.main_arg0)
          ∧ r.2.mem ((c.tc : Thread Cert.MixOutInputRefIdeal.nD Cert.MixOutInputRefIdeal.τ).loc Cert.MixOutInputRefIdeal.main_arg1) = m' ((c.tc : Thread Cert.MixOutInputRefIdeal.nD Cert.MixOutInputRefIdeal.τ).loc Cert.MixOutInputRefIdeal.main_arg1))

def preserves_RgInput_RgInputIdeal : Prop :=
  True

def algebraic_RgInputIdeal_RgInputRefIdeal [hRgInputIdeal : Cert.RgInputIdeal.Facts] [hRgInputRefIdeal : Cert.RgInputRefIdeal.Facts] : Prop :=
  ∀ (m : (ℓ : Loc Cert.RgInputIdeal.nD Cert.RgInputIdeal.τ Cert.RgInputIdeal.sig) → Buf (Elt Ideal) ℓ) (g : Dev Cert.RgInputIdeal.nD → PrngReg)
    (m' : (ℓ : Loc Cert.RgInputRefIdeal.nD Cert.RgInputRefIdeal.τ Cert.RgInputRefIdeal.sig) → Buf (Elt Ideal) ℓ) (g' : Dev Cert.RgInputRefIdeal.nD → PrngReg), Pre_RgInputIdeal m →
    (∀ c : Dev Cert.RgInputIdeal.nD,
      m' ((c.tc : Thread Cert.RgInputRefIdeal.nD Cert.RgInputRefIdeal.τ).loc Cert.RgInputRefIdeal.main_arg0) = m ((c.tc : Thread Cert.RgInputIdeal.nD Cert.RgInputIdeal.τ).loc Cert.RgInputIdeal.main_arg0)
      ∧ m' ((c.tc : Thread Cert.RgInputRefIdeal.nD Cert.RgInputRefIdeal.τ).loc Cert.RgInputRefIdeal.main_arg1) = m ((c.tc : Thread Cert.RgInputIdeal.nD Cert.RgInputIdeal.τ).loc Cert.RgInputIdeal.main_arg1)) →
    ∃ (v0 : (c : Dev Cert.RgInputIdeal.nD) → Buf (Elt Ideal) ((c.tc : Thread Cert.RgInputIdeal.nD Cert.RgInputIdeal.τ).loc Cert.RgInputIdeal.main_v0)),
      θ_run (Cert.RgInputIdeal.defs (F := Ideal)) (onTc (τ := Cert.RgInputIdeal.τ) (Cert.RgInputIdeal.main (F := Ideal))) ⟨m, fun _ => 0, g⟩ (fun r => ∀ c : Dev Cert.RgInputIdeal.nD,
          r.2.mem ((c.tc : Thread Cert.RgInputIdeal.nD Cert.RgInputIdeal.τ).loc Cert.RgInputIdeal.main_v0) = v0 c
          ∧ r.2.mem ((c.tc : Thread Cert.RgInputIdeal.nD Cert.RgInputIdeal.τ).loc Cert.RgInputIdeal.main_arg0) = m ((c.tc : Thread Cert.RgInputIdeal.nD Cert.RgInputIdeal.τ).loc Cert.RgInputIdeal.main_arg0)
          ∧ r.2.mem ((c.tc : Thread Cert.RgInputIdeal.nD Cert.RgInputIdeal.τ).loc Cert.RgInputIdeal.main_arg1) = m ((c.tc : Thread Cert.RgInputIdeal.nD Cert.RgInputIdeal.τ).loc Cert.RgInputIdeal.main_arg1))
      ∧ θ_run (Cert.RgInputRefIdeal.defs (F := Ideal)) (onTc (τ := Cert.RgInputRefIdeal.τ) (Cert.RgInputRefIdeal.main (F := Ideal))) ⟨m', fun _ => 0, g'⟩ (fun r => ∀ c : Dev Cert.RgInputRefIdeal.nD,
          r.2.mem ((c.tc : Thread Cert.RgInputRefIdeal.nD Cert.RgInputRefIdeal.τ).loc Cert.RgInputRefIdeal.main_v2) = v0 c
          ∧ r.2.mem ((c.tc : Thread Cert.RgInputRefIdeal.nD Cert.RgInputRefIdeal.τ).loc Cert.RgInputRefIdeal.main_arg0) = m' ((c.tc : Thread Cert.RgInputRefIdeal.nD Cert.RgInputRefIdeal.τ).loc Cert.RgInputRefIdeal.main_arg0)
          ∧ r.2.mem ((c.tc : Thread Cert.RgInputRefIdeal.nD Cert.RgInputRefIdeal.τ).loc Cert.RgInputRefIdeal.main_arg1) = m' ((c.tc : Thread Cert.RgInputRefIdeal.nD Cert.RgInputRefIdeal.τ).loc Cert.RgInputRefIdeal.main_arg1))

def preserves_AbInput_AbInputIdeal : Prop :=
  True

def algebraic_AbInputIdeal_AbInputRefIdeal [hAbInputIdeal : Cert.AbInputIdeal.Facts] [hAbInputRefIdeal : Cert.AbInputRefIdeal.Facts] : Prop :=
  ∀ (m : (ℓ : Loc Cert.AbInputIdeal.nD Cert.AbInputIdeal.τ Cert.AbInputIdeal.sig) → Buf (Elt Ideal) ℓ) (g : Dev Cert.AbInputIdeal.nD → PrngReg)
    (m' : (ℓ : Loc Cert.AbInputRefIdeal.nD Cert.AbInputRefIdeal.τ Cert.AbInputRefIdeal.sig) → Buf (Elt Ideal) ℓ) (g' : Dev Cert.AbInputRefIdeal.nD → PrngReg), Pre_AbInputIdeal m →
    (∀ c : Dev Cert.AbInputIdeal.nD,
      m' ((c.tc : Thread Cert.AbInputRefIdeal.nD Cert.AbInputRefIdeal.τ).loc Cert.AbInputRefIdeal.main_arg0) = m ((c.tc : Thread Cert.AbInputIdeal.nD Cert.AbInputIdeal.τ).loc Cert.AbInputIdeal.main_arg0)
      ∧ m' ((c.tc : Thread Cert.AbInputRefIdeal.nD Cert.AbInputRefIdeal.τ).loc Cert.AbInputRefIdeal.main_arg1) = m ((c.tc : Thread Cert.AbInputIdeal.nD Cert.AbInputIdeal.τ).loc Cert.AbInputIdeal.main_arg1)) →
    ∃ (v0 : (c : Dev Cert.AbInputIdeal.nD) → Buf (Elt Ideal) ((c.tc : Thread Cert.AbInputIdeal.nD Cert.AbInputIdeal.τ).loc Cert.AbInputIdeal.main_v0)),
      θ_run (Cert.AbInputIdeal.defs (F := Ideal)) (onTc (τ := Cert.AbInputIdeal.τ) (Cert.AbInputIdeal.main (F := Ideal))) ⟨m, fun _ => 0, g⟩ (fun r => ∀ c : Dev Cert.AbInputIdeal.nD,
          r.2.mem ((c.tc : Thread Cert.AbInputIdeal.nD Cert.AbInputIdeal.τ).loc Cert.AbInputIdeal.main_v0) = v0 c
          ∧ r.2.mem ((c.tc : Thread Cert.AbInputIdeal.nD Cert.AbInputIdeal.τ).loc Cert.AbInputIdeal.main_arg0) = m ((c.tc : Thread Cert.AbInputIdeal.nD Cert.AbInputIdeal.τ).loc Cert.AbInputIdeal.main_arg0)
          ∧ r.2.mem ((c.tc : Thread Cert.AbInputIdeal.nD Cert.AbInputIdeal.τ).loc Cert.AbInputIdeal.main_arg1) = m ((c.tc : Thread Cert.AbInputIdeal.nD Cert.AbInputIdeal.τ).loc Cert.AbInputIdeal.main_arg1))
      ∧ θ_run (Cert.AbInputRefIdeal.defs (F := Ideal)) (onTc (τ := Cert.AbInputRefIdeal.τ) (Cert.AbInputRefIdeal.main (F := Ideal))) ⟨m', fun _ => 0, g'⟩ (fun r => ∀ c : Dev Cert.AbInputRefIdeal.nD,
          r.2.mem ((c.tc : Thread Cert.AbInputRefIdeal.nD Cert.AbInputRefIdeal.τ).loc Cert.AbInputRefIdeal.main_v2) = v0 c
          ∧ r.2.mem ((c.tc : Thread Cert.AbInputRefIdeal.nD Cert.AbInputRefIdeal.τ).loc Cert.AbInputRefIdeal.main_arg0) = m' ((c.tc : Thread Cert.AbInputRefIdeal.nD Cert.AbInputRefIdeal.τ).loc Cert.AbInputRefIdeal.main_arg0)
          ∧ r.2.mem ((c.tc : Thread Cert.AbInputRefIdeal.nD Cert.AbInputRefIdeal.τ).loc Cert.AbInputRefIdeal.main_arg1) = m' ((c.tc : Thread Cert.AbInputRefIdeal.nD Cert.AbInputRefIdeal.τ).loc Cert.AbInputRefIdeal.main_arg1))

def preserves_MixOutWeight_MixOutWeightIdeal : Prop :=
  True

def algebraic_MixOutWeightIdeal_MixOutWeightRefIdeal [hMixOutWeightIdeal : Cert.MixOutWeightIdeal.Facts] [hMixOutWeightRefIdeal : Cert.MixOutWeightRefIdeal.Facts] : Prop :=
  ∀ (m : (ℓ : Loc Cert.MixOutWeightIdeal.nD Cert.MixOutWeightIdeal.τ Cert.MixOutWeightIdeal.sig) → Buf (Elt Ideal) ℓ) (g : Dev Cert.MixOutWeightIdeal.nD → PrngReg)
    (m' : (ℓ : Loc Cert.MixOutWeightRefIdeal.nD Cert.MixOutWeightRefIdeal.τ Cert.MixOutWeightRefIdeal.sig) → Buf (Elt Ideal) ℓ) (g' : Dev Cert.MixOutWeightRefIdeal.nD → PrngReg), Pre_MixOutWeightIdeal m →
    (∀ c : Dev Cert.MixOutWeightIdeal.nD,
      m' ((c.tc : Thread Cert.MixOutWeightRefIdeal.nD Cert.MixOutWeightRefIdeal.τ).loc Cert.MixOutWeightRefIdeal.main_arg0) = m ((c.tc : Thread Cert.MixOutWeightIdeal.nD Cert.MixOutWeightIdeal.τ).loc Cert.MixOutWeightIdeal.main_arg0)
      ∧ m' ((c.tc : Thread Cert.MixOutWeightRefIdeal.nD Cert.MixOutWeightRefIdeal.τ).loc Cert.MixOutWeightRefIdeal.main_arg1) = m ((c.tc : Thread Cert.MixOutWeightIdeal.nD Cert.MixOutWeightIdeal.τ).loc Cert.MixOutWeightIdeal.main_arg1)) →
    ∃ (v0 : (c : Dev Cert.MixOutWeightIdeal.nD) → Buf (Elt Ideal) ((c.tc : Thread Cert.MixOutWeightIdeal.nD Cert.MixOutWeightIdeal.τ).loc Cert.MixOutWeightIdeal.main_v0)),
      θ_run (Cert.MixOutWeightIdeal.defs (F := Ideal)) (onTc (τ := Cert.MixOutWeightIdeal.τ) (Cert.MixOutWeightIdeal.main (F := Ideal))) ⟨m, fun _ => 0, g⟩ (fun r => ∀ c : Dev Cert.MixOutWeightIdeal.nD,
          r.2.mem ((c.tc : Thread Cert.MixOutWeightIdeal.nD Cert.MixOutWeightIdeal.τ).loc Cert.MixOutWeightIdeal.main_v0) = v0 c
          ∧ r.2.mem ((c.tc : Thread Cert.MixOutWeightIdeal.nD Cert.MixOutWeightIdeal.τ).loc Cert.MixOutWeightIdeal.main_arg0) = m ((c.tc : Thread Cert.MixOutWeightIdeal.nD Cert.MixOutWeightIdeal.τ).loc Cert.MixOutWeightIdeal.main_arg0)
          ∧ r.2.mem ((c.tc : Thread Cert.MixOutWeightIdeal.nD Cert.MixOutWeightIdeal.τ).loc Cert.MixOutWeightIdeal.main_arg1) = m ((c.tc : Thread Cert.MixOutWeightIdeal.nD Cert.MixOutWeightIdeal.τ).loc Cert.MixOutWeightIdeal.main_arg1))
      ∧ θ_run (Cert.MixOutWeightRefIdeal.defs (F := Ideal)) (onTc (τ := Cert.MixOutWeightRefIdeal.τ) (Cert.MixOutWeightRefIdeal.main (F := Ideal))) ⟨m', fun _ => 0, g'⟩ (fun r => ∀ c : Dev Cert.MixOutWeightRefIdeal.nD,
          r.2.mem ((c.tc : Thread Cert.MixOutWeightRefIdeal.nD Cert.MixOutWeightRefIdeal.τ).loc Cert.MixOutWeightRefIdeal.main_v4) = v0 c
          ∧ r.2.mem ((c.tc : Thread Cert.MixOutWeightRefIdeal.nD Cert.MixOutWeightRefIdeal.τ).loc Cert.MixOutWeightRefIdeal.main_arg0) = m' ((c.tc : Thread Cert.MixOutWeightRefIdeal.nD Cert.MixOutWeightRefIdeal.τ).loc Cert.MixOutWeightRefIdeal.main_arg0)
          ∧ r.2.mem ((c.tc : Thread Cert.MixOutWeightRefIdeal.nD Cert.MixOutWeightRefIdeal.τ).loc Cert.MixOutWeightRefIdeal.main_arg1) = m' ((c.tc : Thread Cert.MixOutWeightRefIdeal.nD Cert.MixOutWeightRefIdeal.τ).loc Cert.MixOutWeightRefIdeal.main_arg1))

def preserves_RgWeight_RgWeightIdeal : Prop :=
  True

def algebraic_RgWeightIdeal_RgWeightRefIdeal [hRgWeightIdeal : Cert.RgWeightIdeal.Facts] [hRgWeightRefIdeal : Cert.RgWeightRefIdeal.Facts] : Prop :=
  ∀ (m : (ℓ : Loc Cert.RgWeightIdeal.nD Cert.RgWeightIdeal.τ Cert.RgWeightIdeal.sig) → Buf (Elt Ideal) ℓ) (g : Dev Cert.RgWeightIdeal.nD → PrngReg)
    (m' : (ℓ : Loc Cert.RgWeightRefIdeal.nD Cert.RgWeightRefIdeal.τ Cert.RgWeightRefIdeal.sig) → Buf (Elt Ideal) ℓ) (g' : Dev Cert.RgWeightRefIdeal.nD → PrngReg), Pre_RgWeightIdeal m →
    (∀ c : Dev Cert.RgWeightIdeal.nD,
      m' ((c.tc : Thread Cert.RgWeightRefIdeal.nD Cert.RgWeightRefIdeal.τ).loc Cert.RgWeightRefIdeal.main_arg0) = m ((c.tc : Thread Cert.RgWeightIdeal.nD Cert.RgWeightIdeal.τ).loc Cert.RgWeightIdeal.main_arg0)
      ∧ m' ((c.tc : Thread Cert.RgWeightRefIdeal.nD Cert.RgWeightRefIdeal.τ).loc Cert.RgWeightRefIdeal.main_arg1) = m ((c.tc : Thread Cert.RgWeightIdeal.nD Cert.RgWeightIdeal.τ).loc Cert.RgWeightIdeal.main_arg1)) →
    ∃ (v0 : (c : Dev Cert.RgWeightIdeal.nD) → Buf (Elt Ideal) ((c.tc : Thread Cert.RgWeightIdeal.nD Cert.RgWeightIdeal.τ).loc Cert.RgWeightIdeal.main_v0)),
      θ_run (Cert.RgWeightIdeal.defs (F := Ideal)) (onTc (τ := Cert.RgWeightIdeal.τ) (Cert.RgWeightIdeal.main (F := Ideal))) ⟨m, fun _ => 0, g⟩ (fun r => ∀ c : Dev Cert.RgWeightIdeal.nD,
          r.2.mem ((c.tc : Thread Cert.RgWeightIdeal.nD Cert.RgWeightIdeal.τ).loc Cert.RgWeightIdeal.main_v0) = v0 c
          ∧ r.2.mem ((c.tc : Thread Cert.RgWeightIdeal.nD Cert.RgWeightIdeal.τ).loc Cert.RgWeightIdeal.main_arg0) = m ((c.tc : Thread Cert.RgWeightIdeal.nD Cert.RgWeightIdeal.τ).loc Cert.RgWeightIdeal.main_arg0)
          ∧ r.2.mem ((c.tc : Thread Cert.RgWeightIdeal.nD Cert.RgWeightIdeal.τ).loc Cert.RgWeightIdeal.main_arg1) = m ((c.tc : Thread Cert.RgWeightIdeal.nD Cert.RgWeightIdeal.τ).loc Cert.RgWeightIdeal.main_arg1))
      ∧ θ_run (Cert.RgWeightRefIdeal.defs (F := Ideal)) (onTc (τ := Cert.RgWeightRefIdeal.τ) (Cert.RgWeightRefIdeal.main (F := Ideal))) ⟨m', fun _ => 0, g'⟩ (fun r => ∀ c : Dev Cert.RgWeightRefIdeal.nD,
          r.2.mem ((c.tc : Thread Cert.RgWeightRefIdeal.nD Cert.RgWeightRefIdeal.τ).loc Cert.RgWeightRefIdeal.main_v4) = v0 c
          ∧ r.2.mem ((c.tc : Thread Cert.RgWeightRefIdeal.nD Cert.RgWeightRefIdeal.τ).loc Cert.RgWeightRefIdeal.main_arg0) = m' ((c.tc : Thread Cert.RgWeightRefIdeal.nD Cert.RgWeightRefIdeal.τ).loc Cert.RgWeightRefIdeal.main_arg0)
          ∧ r.2.mem ((c.tc : Thread Cert.RgWeightRefIdeal.nD Cert.RgWeightRefIdeal.τ).loc Cert.RgWeightRefIdeal.main_arg1) = m' ((c.tc : Thread Cert.RgWeightRefIdeal.nD Cert.RgWeightRefIdeal.τ).loc Cert.RgWeightRefIdeal.main_arg1))

def preserves_AbWeight_AbWeightIdeal : Prop :=
  True

def algebraic_AbWeightIdeal_AbWeightRefIdeal [hAbWeightIdeal : Cert.AbWeightIdeal.Facts] [hAbWeightRefIdeal : Cert.AbWeightRefIdeal.Facts] : Prop :=
  ∀ (m : (ℓ : Loc Cert.AbWeightIdeal.nD Cert.AbWeightIdeal.τ Cert.AbWeightIdeal.sig) → Buf (Elt Ideal) ℓ) (g : Dev Cert.AbWeightIdeal.nD → PrngReg)
    (m' : (ℓ : Loc Cert.AbWeightRefIdeal.nD Cert.AbWeightRefIdeal.τ Cert.AbWeightRefIdeal.sig) → Buf (Elt Ideal) ℓ) (g' : Dev Cert.AbWeightRefIdeal.nD → PrngReg), Pre_AbWeightIdeal m →
    (∀ c : Dev Cert.AbWeightIdeal.nD,
      m' ((c.tc : Thread Cert.AbWeightRefIdeal.nD Cert.AbWeightRefIdeal.τ).loc Cert.AbWeightRefIdeal.main_arg0) = m ((c.tc : Thread Cert.AbWeightIdeal.nD Cert.AbWeightIdeal.τ).loc Cert.AbWeightIdeal.main_arg0)
      ∧ m' ((c.tc : Thread Cert.AbWeightRefIdeal.nD Cert.AbWeightRefIdeal.τ).loc Cert.AbWeightRefIdeal.main_arg1) = m ((c.tc : Thread Cert.AbWeightIdeal.nD Cert.AbWeightIdeal.τ).loc Cert.AbWeightIdeal.main_arg1)) →
    ∃ (v0 : (c : Dev Cert.AbWeightIdeal.nD) → Buf (Elt Ideal) ((c.tc : Thread Cert.AbWeightIdeal.nD Cert.AbWeightIdeal.τ).loc Cert.AbWeightIdeal.main_v0)),
      θ_run (Cert.AbWeightIdeal.defs (F := Ideal)) (onTc (τ := Cert.AbWeightIdeal.τ) (Cert.AbWeightIdeal.main (F := Ideal))) ⟨m, fun _ => 0, g⟩ (fun r => ∀ c : Dev Cert.AbWeightIdeal.nD,
          r.2.mem ((c.tc : Thread Cert.AbWeightIdeal.nD Cert.AbWeightIdeal.τ).loc Cert.AbWeightIdeal.main_v0) = v0 c
          ∧ r.2.mem ((c.tc : Thread Cert.AbWeightIdeal.nD Cert.AbWeightIdeal.τ).loc Cert.AbWeightIdeal.main_arg0) = m ((c.tc : Thread Cert.AbWeightIdeal.nD Cert.AbWeightIdeal.τ).loc Cert.AbWeightIdeal.main_arg0)
          ∧ r.2.mem ((c.tc : Thread Cert.AbWeightIdeal.nD Cert.AbWeightIdeal.τ).loc Cert.AbWeightIdeal.main_arg1) = m ((c.tc : Thread Cert.AbWeightIdeal.nD Cert.AbWeightIdeal.τ).loc Cert.AbWeightIdeal.main_arg1))
      ∧ θ_run (Cert.AbWeightRefIdeal.defs (F := Ideal)) (onTc (τ := Cert.AbWeightRefIdeal.τ) (Cert.AbWeightRefIdeal.main (F := Ideal))) ⟨m', fun _ => 0, g'⟩ (fun r => ∀ c : Dev Cert.AbWeightRefIdeal.nD,
          r.2.mem ((c.tc : Thread Cert.AbWeightRefIdeal.nD Cert.AbWeightRefIdeal.τ).loc Cert.AbWeightRefIdeal.main_v4) = v0 c
          ∧ r.2.mem ((c.tc : Thread Cert.AbWeightRefIdeal.nD Cert.AbWeightRefIdeal.τ).loc Cert.AbWeightRefIdeal.main_arg0) = m' ((c.tc : Thread Cert.AbWeightRefIdeal.nD Cert.AbWeightRefIdeal.τ).loc Cert.AbWeightRefIdeal.main_arg0)
          ∧ r.2.mem ((c.tc : Thread Cert.AbWeightRefIdeal.nD Cert.AbWeightRefIdeal.τ).loc Cert.AbWeightRefIdeal.main_arg1) = m' ((c.tc : Thread Cert.AbWeightRefIdeal.nD Cert.AbWeightRefIdeal.τ).loc Cert.AbWeightRefIdeal.main_arg1))

def preserves_GateBwd_GateBwdIdeal : Prop :=
  True

def algebraic_GateBwdIdeal_GateBwdRefIdeal [hGateBwdIdeal : Cert.GateBwdIdeal.Facts] [hGateBwdRefIdeal : Cert.GateBwdRefIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v25) = v0 c
          ∧ r.2.mem ((c.tc : Thread Cert.GateBwdRefIdeal.nD Cert.GateBwdRefIdeal.τ).loc Cert.GateBwdRefIdeal.main_v38) = v1 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v16) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)) (v2 : (c : Dev Cert.ConvBwdIdeal.nD) → Buf (Elt Ideal) ((c.tc : Thread Cert.ConvBwdIdeal.nD Cert.ConvBwdIdeal.τ).loc Cert.ConvBwdIdeal.main_v0_2)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_v0_2) = v2 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v82) = v0 c
          ∧ r.2.mem ((c.tc : Thread Cert.ConvBwdRefIdeal.nD Cert.ConvBwdRefIdeal.τ).loc Cert.ConvBwdRefIdeal.main_v79) = v1 c
          ∧ r.2.mem ((c.tc : Thread Cert.ConvBwdRefIdeal.nD Cert.ConvBwdRefIdeal.τ).loc Cert.ConvBwdRefIdeal.main_v37) = v2 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2))

def preserves_PostBwd_PostBwdIdeal : Prop :=
  True

def algebraic_PostBwdIdeal_PostBwdRefIdeal_pre_post_finite [hPostBwdIdeal : Cert.PostBwdIdeal.Facts] [hPostBwdRefIdeal : Cert.PostBwdRefIdeal.Facts] [hPre_post_finite : Cert.Pre_post_finite.Facts] : Prop :=
  ∀ (m : (ℓ : Loc Cert.PostBwdIdeal.nD Cert.PostBwdIdeal.τ Cert.PostBwdIdeal.sig) → Buf (Elt Ideal) ℓ) (g : Dev Cert.PostBwdIdeal.nD → PrngReg)
    (m' : (ℓ : Loc Cert.PostBwdRefIdeal.nD Cert.PostBwdRefIdeal.τ Cert.PostBwdRefIdeal.sig) → Buf (Elt Ideal) ℓ) (g' : Dev Cert.PostBwdRefIdeal.nD → PrngReg), Pre_PostBwdIdeal_post_finite m →
    (∀ c : Dev Cert.PostBwdIdeal.nD,
      m' ((c.tc : Thread Cert.PostBwdRefIdeal.nD Cert.PostBwdRefIdeal.τ).loc Cert.PostBwdRefIdeal.main_arg0) = m ((c.tc : Thread Cert.PostBwdIdeal.nD Cert.PostBwdIdeal.τ).loc Cert.PostBwdIdeal.main_arg0)
      ∧ m' ((c.tc : Thread Cert.PostBwdRefIdeal.nD Cert.PostBwdRefIdeal.τ).loc Cert.PostBwdRefIdeal.main_arg1) = m ((c.tc : Thread Cert.PostBwdIdeal.nD Cert.PostBwdIdeal.τ).loc Cert.PostBwdIdeal.main_arg1)
      ∧ m' ((c.tc : Thread Cert.PostBwdRefIdeal.nD Cert.PostBwdRefIdeal.τ).loc Cert.PostBwdRefIdeal.main_arg2) = m ((c.tc : Thread Cert.PostBwdIdeal.nD Cert.PostBwdIdeal.τ).loc Cert.PostBwdIdeal.main_arg2)
      ∧ m' ((c.tc : Thread Cert.PostBwdRefIdeal.nD Cert.PostBwdRefIdeal.τ).loc Cert.PostBwdRefIdeal.main_arg3) = m ((c.tc : Thread Cert.PostBwdIdeal.nD Cert.PostBwdIdeal.τ).loc Cert.PostBwdIdeal.main_arg3)
      ∧ m' ((c.tc : Thread Cert.PostBwdRefIdeal.nD Cert.PostBwdRefIdeal.τ).loc Cert.PostBwdRefIdeal.main_arg4) = m ((c.tc : Thread Cert.PostBwdIdeal.nD Cert.PostBwdIdeal.τ).loc Cert.PostBwdIdeal.main_arg4)
      ∧ m' ((c.tc : Thread Cert.PostBwdRefIdeal.nD Cert.PostBwdRefIdeal.τ).loc Cert.PostBwdRefIdeal.main_arg5) = m ((c.tc : Thread Cert.PostBwdIdeal.nD Cert.PostBwdIdeal.τ).loc Cert.PostBwdIdeal.main_arg5)
      ∧ m' ((c.tc : Thread Cert.PostBwdRefIdeal.nD Cert.PostBwdRefIdeal.τ).loc Cert.PostBwdRefIdeal.main_arg6) = m ((c.tc : Thread Cert.PostBwdIdeal.nD Cert.PostBwdIdeal.τ).loc Cert.PostBwdIdeal.main_arg6)
      ∧ m' ((c.tc : Thread Cert.PostBwdRefIdeal.nD Cert.PostBwdRefIdeal.τ).loc Cert.PostBwdRefIdeal.main_arg7) = m ((c.tc : Thread Cert.PostBwdIdeal.nD Cert.PostBwdIdeal.τ).loc Cert.PostBwdIdeal.main_arg7)
      ∧ m' ((c.tc : Thread Cert.PostBwdRefIdeal.nD Cert.PostBwdRefIdeal.τ).loc Cert.PostBwdRefIdeal.main_arg8) = m ((c.tc : Thread Cert.PostBwdIdeal.nD Cert.PostBwdIdeal.τ).loc Cert.PostBwdIdeal.main_arg8)) →
    ∃ (v0 : (c : Dev Cert.PostBwdIdeal.nD) → Buf (Elt Ideal) ((c.tc : Thread Cert.PostBwdIdeal.nD Cert.PostBwdIdeal.τ).loc Cert.PostBwdIdeal.main_v0_0)) (v1 : (c : Dev Cert.PostBwdIdeal.nD) → Buf (Elt Ideal) ((c.tc : Thread Cert.PostBwdIdeal.nD Cert.PostBwdIdeal.τ).loc Cert.PostBwdIdeal.main_v0_1)) (v2 : (c : Dev Cert.PostBwdIdeal.nD) → Buf (Elt Ideal) ((c.tc : Thread Cert.PostBwdIdeal.nD Cert.PostBwdIdeal.τ).loc Cert.PostBwdIdeal.main_v0_2)) (v3 : (c : Dev Cert.PostBwdIdeal.nD) → Buf (Elt Ideal) ((c.tc : Thread Cert.PostBwdIdeal.nD Cert.PostBwdIdeal.τ).loc Cert.PostBwdIdeal.main_v0_3)) (v4 : (c : Dev Cert.PostBwdIdeal.nD) → Buf (Elt Ideal) ((c.tc : Thread Cert.PostBwdIdeal.nD Cert.PostBwdIdeal.τ).loc Cert.PostBwdIdeal.main_v0_4)) (v5 : (c : Dev Cert.PostBwdIdeal.nD) → Buf (Elt Ideal) ((c.tc : Thread Cert.PostBwdIdeal.nD Cert.PostBwdIdeal.τ).loc Cert.PostBwdIdeal.main_v0_5)) (v6 : (c : Dev Cert.PostBwdIdeal.nD) → Buf (Elt Ideal) ((c.tc : Thread Cert.PostBwdIdeal.nD Cert.PostBwdIdeal.τ).loc Cert.PostBwdIdeal.main_v0_6)),
      θ_run (Cert.PostBwdIdeal.defs (F := Ideal)) (onTc (τ := Cert.PostBwdIdeal.τ) (Cert.PostBwdIdeal.main (F := Ideal))) ⟨m, fun _ => 0, g⟩ (fun r => ∀ c : Dev Cert.PostBwdIdeal.nD,
          r.2.mem ((c.tc : Thread Cert.PostBwdIdeal.nD Cert.PostBwdIdeal.τ).loc Cert.PostBwdIdeal.main_v0_0) = v0 c
          ∧ r.2.mem ((c.tc : Thread Cert.PostBwdIdeal.nD Cert.PostBwdIdeal.τ).loc Cert.PostBwdIdeal.main_v0_1) = v1 c
          ∧ r.2.mem ((c.tc : Thread Cert.PostBwdIdeal.nD Cert.PostBwdIdeal.τ).loc Cert.PostBwdIdeal.main_v0_2) = v2 c
          ∧ r.2.mem ((c.tc : Thread Cert.PostBwdIdeal.nD Cert.PostBwdIdeal.τ).loc Cert.PostBwdIdeal.main_v0_3) = v3 c
          ∧ r.2.mem ((c.tc : Thread Cert.PostBwdIdeal.nD Cert.PostBwdIdeal.τ).loc Cert.PostBwdIdeal.main_v0_4) = v4 c
          ∧ r.2.mem ((c.tc : Thread Cert.PostBwdIdeal.nD Cert.PostBwdIdeal.τ).loc Cert.PostBwdIdeal.main_v0_5) = v5 c
          ∧ r.2.mem ((c.tc : Thread Cert.PostBwdIdeal.nD Cert.PostBwdIdeal.τ).loc Cert.PostBwdIdeal.main_v0_6) = v6 c
          ∧ r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
          ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
          ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
          ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
          ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
          ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5)
          ∧ r.2.mem ((c.tc : Thread Cert.PostBwdIdeal.nD Cert.PostBwdIdeal.τ).loc Cert.PostBwdIdeal.main_arg6) = m ((c.tc : Thread Cert.PostBwdIdeal.nD Cert.PostBwdIdeal.τ).loc Cert.PostBwdIdeal.main_arg6)
          ∧ r.2.mem ((c.tc : Thread Cert.PostBwdIdeal.nD Cert.PostBwdIdeal.τ).loc Cert.PostBwdIdeal.main_arg7) = m ((c.tc : Thread Cert.PostBwdIdeal.nD Cert.PostBwdIdeal.τ).loc Cert.PostBwdIdeal.main_arg7)
          ∧ r.2.mem ((c.tc : Thread Cert.PostBwdIdeal.nD Cert.PostBwdIdeal.τ).loc Cert.PostBwdIdeal.main_arg8) = m ((c.tc : Thread Cert.PostBwdIdeal.nD Cert.PostBwdIdeal.τ).loc Cert.PostBwdIdeal.main_arg8))
      ∧ θ_run (Cert.PostBwdRefIdeal.defs (F := Ideal)) (onTc (τ := Cert.PostBwdRefIdeal.τ) (Cert.PostBwdRefIdeal.main (F := Ideal))) ⟨m', fun _ => 0, g'⟩ (fun r => ∀ c : Dev Cert.PostBwdRefIdeal.nD,
          r.2.mem ((c.tc : Thread Cert.PostBwdRefIdeal.nD Cert.PostBwdRefIdeal.τ).loc Cert.PostBwdRefIdeal.main_v91) = v0 c
          ∧ r.2.mem ((c.tc : Thread Cert.PostBwdRefIdeal.nD Cert.PostBwdRefIdeal.τ).loc Cert.PostBwdRefIdeal.main_v92) = v1 c
          ∧ r.2.mem ((c.tc : Thread Cert.PostBwdRefIdeal.nD Cert.PostBwdRefIdeal.τ).loc Cert.PostBwdRefIdeal.main_v89) = v2 c
          ∧ r.2.mem ((c.tc : Thread Cert.PostBwdRefIdeal.nD Cert.PostBwdRefIdeal.τ).loc Cert.PostBwdRefIdeal.main_v56) = v3 c
          ∧ r.2.mem ((c.tc : Thread Cert.PostBwdRefIdeal.nD Cert.PostBwdRefIdeal.τ).loc Cert.PostBwdRefIdeal.main_v53) = v4 c
          ∧ r.2.mem ((c.tc : Thread Cert.PostBwdRefIdeal.nD Cert.PostBwdRefIdeal.τ).loc Cert.PostBwdRefIdeal.main_v47) = v5 c
          ∧ r.2.mem ((c.tc : Thread Cert.PostBwdRefIdeal.nD Cert.PostBwdRefIdeal.τ).loc Cert.PostBwdRefIdeal.main_v44) = v6 c
          ∧ r.2.mem ((c.tc : Thread Cert.PostBwdRefIdeal.nD Cert.PostBwdRefIdeal.τ).loc Cert.PostBwdRefIdeal.main_arg0) = m' ((c.tc : Thread Cert.PostBwdRefIdeal.nD Cert.PostBwdRefIdeal.τ).loc Cert.PostBwdRefIdeal.main_arg0)
          ∧ r.2.mem ((c.tc : Thread Cert.PostBwdRefIdeal.nD Cert.PostBwdRefIdeal.τ).loc Cert.PostBwdRefIdeal.main_arg1) = m' ((c.tc : Thread Cert.PostBwdRefIdeal.nD Cert.PostBwdRefIdeal.τ).loc Cert.PostBwdRefIdeal.main_arg1)
          ∧ r.2.mem ((c.tc : Thread Cert.PostBwdRefIdeal.nD Cert.PostBwdRefIdeal.τ).loc Cert.PostBwdRefIdeal.main_arg2) = m' ((c.tc : Thread Cert.PostBwdRefIdeal.nD Cert.PostBwdRefIdeal.τ).loc Cert.PostBwdRefIdeal.main_arg2)
          ∧ r.2.mem ((c.tc : Thread Cert.PostBwdRefIdeal.nD Cert.PostBwdRefIdeal.τ).loc Cert.PostBwdRefIdeal.main_arg3) = m' ((c.tc : Thread Cert.PostBwdRefIdeal.nD Cert.PostBwdRefIdeal.τ).loc Cert.PostBwdRefIdeal.main_arg3)
          ∧ r.2.mem ((c.tc : Thread Cert.PostBwdRefIdeal.nD Cert.PostBwdRefIdeal.τ).loc Cert.PostBwdRefIdeal.main_arg4) = m' ((c.tc : Thread Cert.PostBwdRefIdeal.nD Cert.PostBwdRefIdeal.τ).loc Cert.PostBwdRefIdeal.main_arg4)
          ∧ r.2.mem ((c.tc : Thread Cert.PostBwdRefIdeal.nD Cert.PostBwdRefIdeal.τ).loc Cert.PostBwdRefIdeal.main_arg5) = m' ((c.tc : Thread Cert.PostBwdRefIdeal.nD Cert.PostBwdRefIdeal.τ).loc Cert.PostBwdRefIdeal.main_arg5)
          ∧ r.2.mem ((c.tc : Thread Cert.PostBwdRefIdeal.nD Cert.PostBwdRefIdeal.τ).loc Cert.PostBwdRefIdeal.main_arg6) = m' ((c.tc : Thread Cert.PostBwdRefIdeal.nD Cert.PostBwdRefIdeal.τ).loc Cert.PostBwdRefIdeal.main_arg6)
          ∧ r.2.mem ((c.tc : Thread Cert.PostBwdRefIdeal.nD Cert.PostBwdRefIdeal.τ).loc Cert.PostBwdRefIdeal.main_arg7) = m' ((c.tc : Thread Cert.PostBwdRefIdeal.nD Cert.PostBwdRefIdeal.τ).loc Cert.PostBwdRefIdeal.main_arg7)
          ∧ r.2.mem ((c.tc : Thread Cert.PostBwdRefIdeal.nD Cert.PostBwdRefIdeal.τ).loc Cert.PostBwdRefIdeal.main_arg8) = m' ((c.tc : Thread Cert.PostBwdRefIdeal.nD Cert.PostBwdRefIdeal.τ).loc Cert.PostBwdRefIdeal.main_arg8))

def preserves_PreBwd_PreBwdIdeal : Prop :=
  True

def algebraic_PreBwdIdeal_PreBwdRefIdeal [hPreBwdIdeal : Cert.PreBwdIdeal.Facts] [hPreBwdRefIdeal : Cert.PreBwdRefIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg)
    (m' : (ℓ : Loc Cert.PreBwdRefIdeal.nD Cert.PreBwdRefIdeal.τ Cert.PreBwdRefIdeal.sig) → Buf (Elt Ideal) ℓ) (g' : Dev Cert.PreBwdRefIdeal.nD → PrngReg), Pre_PreBwdIdeal m →
    (∀ c : Dev Cert.PreBwdIdeal.nD,
      m' ((c.tc : Thread Cert.PreBwdRefIdeal.nD Cert.PreBwdRefIdeal.τ).loc Cert.PreBwdRefIdeal.main_arg0) = m ((c.tc : Thread Cert.PreBwdIdeal.nD Cert.PreBwdIdeal.τ).loc Cert.PreBwdIdeal.main_arg0)
      ∧ m' ((c.tc : Thread Cert.PreBwdRefIdeal.nD Cert.PreBwdRefIdeal.τ).loc Cert.PreBwdRefIdeal.main_arg1) = m ((c.tc : Thread Cert.PreBwdIdeal.nD Cert.PreBwdIdeal.τ).loc Cert.PreBwdIdeal.main_arg1)
      ∧ m' ((c.tc : Thread Cert.PreBwdRefIdeal.nD Cert.PreBwdRefIdeal.τ).loc Cert.PreBwdRefIdeal.main_arg2) = m ((c.tc : Thread Cert.PreBwdIdeal.nD Cert.PreBwdIdeal.τ).loc Cert.PreBwdIdeal.main_arg2)
      ∧ m' ((c.tc : Thread Cert.PreBwdRefIdeal.nD Cert.PreBwdRefIdeal.τ).loc Cert.PreBwdRefIdeal.main_arg3) = m ((c.tc : Thread Cert.PreBwdIdeal.nD Cert.PreBwdIdeal.τ).loc Cert.PreBwdIdeal.main_arg3)
      ∧ m' ((c.tc : Thread Cert.PreBwdRefIdeal.nD Cert.PreBwdRefIdeal.τ).loc Cert.PreBwdRefIdeal.main_arg4) = m ((c.tc : Thread Cert.PreBwdIdeal.nD Cert.PreBwdIdeal.τ).loc Cert.PreBwdIdeal.main_arg4)) →
    ∃ (v0 : (c : Dev Cert.PreBwdIdeal.nD) → Buf (Elt Ideal) ((c.tc : Thread Cert.PreBwdIdeal.nD Cert.PreBwdIdeal.τ).loc Cert.PreBwdIdeal.main_v0_0)) (v1 : (c : Dev Cert.PreBwdIdeal.nD) → Buf (Elt Ideal) ((c.tc : Thread Cert.PreBwdIdeal.nD Cert.PreBwdIdeal.τ).loc Cert.PreBwdIdeal.main_v0_1)) (v2 : (c : Dev Cert.PreBwdIdeal.nD) → Buf (Elt Ideal) ((c.tc : Thread Cert.PreBwdIdeal.nD Cert.PreBwdIdeal.τ).loc Cert.PreBwdIdeal.main_v0_2)),
      θ_run (Cert.PreBwdIdeal.defs (F := Ideal)) (onTc (τ := Cert.PreBwdIdeal.τ) (Cert.PreBwdIdeal.main (F := Ideal))) ⟨m, fun _ => 0, g⟩ (fun r => ∀ c : Dev Cert.PreBwdIdeal.nD,
          r.2.mem ((c.tc : Thread Cert.PreBwdIdeal.nD Cert.PreBwdIdeal.τ).loc Cert.PreBwdIdeal.main_v0_0) = v0 c
          ∧ r.2.mem ((c.tc : Thread Cert.PreBwdIdeal.nD Cert.PreBwdIdeal.τ).loc Cert.PreBwdIdeal.main_v0_1) = v1 c
          ∧ r.2.mem ((c.tc : Thread Cert.PreBwdIdeal.nD Cert.PreBwdIdeal.τ).loc Cert.PreBwdIdeal.main_v0_2) = v2 c
          ∧ r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
          ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
          ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
          ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3)
          ∧ r.2.mem ((c.tc : Thread Cert.PreBwdIdeal.nD Cert.PreBwdIdeal.τ).loc Cert.PreBwdIdeal.main_arg4) = m ((c.tc : Thread Cert.PreBwdIdeal.nD Cert.PreBwdIdeal.τ).loc Cert.PreBwdIdeal.main_arg4))
      ∧ θ_run (Cert.PreBwdRefIdeal.defs (F := Ideal)) (onTc (τ := Cert.PreBwdRefIdeal.τ) (Cert.PreBwdRefIdeal.main (F := Ideal))) ⟨m', fun _ => 0, g'⟩ (fun r => ∀ c : Dev Cert.PreBwdRefIdeal.nD,
          r.2.mem ((c.tc : Thread Cert.PreBwdRefIdeal.nD Cert.PreBwdRefIdeal.τ).loc Cert.PreBwdRefIdeal.main_v14) = v0 c
          ∧ r.2.mem ((c.tc : Thread Cert.PreBwdRefIdeal.nD Cert.PreBwdRefIdeal.τ).loc Cert.PreBwdRefIdeal.main_v11) = v1 c
          ∧ r.2.mem ((c.tc : Thread Cert.PreBwdRefIdeal.nD Cert.PreBwdRefIdeal.τ).loc Cert.PreBwdRefIdeal.main_v8) = v2 c
          ∧ r.2.mem ((c.tc : Thread Cert.PreBwdRefIdeal.nD Cert.PreBwdRefIdeal.τ).loc Cert.PreBwdRefIdeal.main_arg0) = m' ((c.tc : Thread Cert.PreBwdRefIdeal.nD Cert.PreBwdRefIdeal.τ).loc Cert.PreBwdRefIdeal.main_arg0)
          ∧ r.2.mem ((c.tc : Thread Cert.PreBwdRefIdeal.nD Cert.PreBwdRefIdeal.τ).loc Cert.PreBwdRefIdeal.main_arg1) = m' ((c.tc : Thread Cert.PreBwdRefIdeal.nD Cert.PreBwdRefIdeal.τ).loc Cert.PreBwdRefIdeal.main_arg1)
          ∧ r.2.mem ((c.tc : Thread Cert.PreBwdRefIdeal.nD Cert.PreBwdRefIdeal.τ).loc Cert.PreBwdRefIdeal.main_arg2) = m' ((c.tc : Thread Cert.PreBwdRefIdeal.nD Cert.PreBwdRefIdeal.τ).loc Cert.PreBwdRefIdeal.main_arg2)
          ∧ r.2.mem ((c.tc : Thread Cert.PreBwdRefIdeal.nD Cert.PreBwdRefIdeal.τ).loc Cert.PreBwdRefIdeal.main_arg3) = m' ((c.tc : Thread Cert.PreBwdRefIdeal.nD Cert.PreBwdRefIdeal.τ).loc Cert.PreBwdRefIdeal.main_arg3)
          ∧ r.2.mem ((c.tc : Thread Cert.PreBwdRefIdeal.nD Cert.PreBwdRefIdeal.τ).loc Cert.PreBwdRefIdeal.main_arg4) = m' ((c.tc : Thread Cert.PreBwdRefIdeal.nD Cert.PreBwdRefIdeal.τ).loc Cert.PreBwdRefIdeal.main_arg4))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v30) = v0 c
          ∧ r.2.mem ((c.tc : Thread Cert.PostRefIdeal.nD Cert.PostRefIdeal.τ).loc Cert.PostRefIdeal.main_v37) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v32) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)) →
    ∃ (v0 : (c : Dev Cert.PreIdeal.nD) → Buf (Elt Ideal) ((c.tc : Thread Cert.PreIdeal.nD Cert.PreIdeal.τ).loc Cert.PreIdeal.main_v0)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v0) = v0 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v6) = v0 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2))

def preserves_Lru_LruIdeal : Prop :=
  True

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)) →
    ∃ (v0 : (c : Dev Cert.LruIdeal.nD) → Buf (Elt Ideal) ((c.tc : Thread Cert.LruIdeal.nD Cert.LruIdeal.τ).loc Cert.LruIdeal.main_v0)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v0) = v0 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v2_4) = v0 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1))

def preserves_MixBwd_MixBwdIdeal : Prop :=
  True

def algebraic_MixBwdIdeal_MixBwdRefIdeal [hMixBwdIdeal : Cert.MixBwdIdeal.Facts] [hMixBwdRefIdeal : Cert.MixBwdRefIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)
      ∧ m' ((c.tc : Thread Cert.MixBwdRefIdeal.nD Cert.MixBwdRefIdeal.τ).loc Cert.MixBwdRefIdeal.main_arg5) = m ((c.tc : Thread Cert.MixBwdIdeal.nD Cert.MixBwdIdeal.τ).loc Cert.MixBwdIdeal.main_arg5)
      ∧ m' ((c.tc : Thread Cert.MixBwdRefIdeal.nD Cert.MixBwdRefIdeal.τ).loc Cert.MixBwdRefIdeal.main_arg6) = m ((c.tc : Thread Cert.MixBwdIdeal.nD Cert.MixBwdIdeal.τ).loc Cert.MixBwdIdeal.main_arg6)
      ∧ m' ((c.tc : Thread Cert.MixBwdRefIdeal.nD Cert.MixBwdRefIdeal.τ).loc Cert.MixBwdRefIdeal.main_arg7) = m ((c.tc : Thread Cert.MixBwdIdeal.nD Cert.MixBwdIdeal.τ).loc Cert.MixBwdIdeal.main_arg7)) →
    ∃ (v0 : (c : Dev Cert.MixBwdIdeal.nD) → Buf (Elt Ideal) ((c.tc : Thread Cert.MixBwdIdeal.nD Cert.MixBwdIdeal.τ).loc Cert.MixBwdIdeal.main_v3_0)) (v1 : (c : Dev Cert.MixBwdIdeal.nD) → Buf (Elt Ideal) ((c.tc : Thread Cert.MixBwdIdeal.nD Cert.MixBwdIdeal.τ).loc Cert.MixBwdIdeal.main_v3_1)) (v2 : (c : Dev Cert.MixBwdIdeal.nD) → Buf (Elt Ideal) ((c.tc : Thread Cert.MixBwdIdeal.nD Cert.MixBwdIdeal.τ).loc Cert.MixBwdIdeal.main_v3_2)) (v3 : (c : Dev Cert.MixBwdIdeal.nD) → Buf (Elt Ideal) ((c.tc : Thread Cert.MixBwdIdeal.nD Cert.MixBwdIdeal.τ).loc Cert.MixBwdIdeal.main_v3_3)) (v4 : (c : Dev Cert.MixBwdIdeal.nD) → Buf (Elt Ideal) ((c.tc : Thread Cert.MixBwdIdeal.nD Cert.MixBwdIdeal.τ).loc Cert.MixBwdIdeal.main_v3_4)) (v5 : (c : Dev Cert.MixBwdIdeal.nD) → Buf (Elt Ideal) ((c.tc : Thread Cert.MixBwdIdeal.nD Cert.MixBwdIdeal.τ).loc Cert.MixBwdIdeal.main_v3_5)) (v6 : (c : Dev Cert.MixBwdIdeal.nD) → Buf (Elt Ideal) ((c.tc : Thread Cert.MixBwdIdeal.nD Cert.MixBwdIdeal.τ).loc Cert.MixBwdIdeal.main_v3_6)) (v7 : (c : Dev Cert.MixBwdIdeal.nD) → Buf (Elt Ideal) ((c.tc : Thread Cert.MixBwdIdeal.nD Cert.MixBwdIdeal.τ).loc Cert.MixBwdIdeal.main_v3_7)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v3_0) = v0 c
          ∧ r.2.mem ((c.tc : Thread Cert.MixBwdIdeal.nD Cert.MixBwdIdeal.τ).loc Cert.MixBwdIdeal.main_v3_1) = v1 c
          ∧ r.2.mem ((c.tc : Thread Cert.MixBwdIdeal.nD Cert.MixBwdIdeal.τ).loc Cert.MixBwdIdeal.main_v3_2) = v2 c
          ∧ r.2.mem ((c.tc : Thread Cert.MixBwdIdeal.nD Cert.MixBwdIdeal.τ).loc Cert.MixBwdIdeal.main_v3_3) = v3 c
          ∧ r.2.mem ((c.tc : Thread Cert.MixBwdIdeal.nD Cert.MixBwdIdeal.τ).loc Cert.MixBwdIdeal.main_v3_4) = v4 c
          ∧ r.2.mem ((c.tc : Thread Cert.MixBwdIdeal.nD Cert.MixBwdIdeal.τ).loc Cert.MixBwdIdeal.main_v3_5) = v5 c
          ∧ r.2.mem ((c.tc : Thread Cert.MixBwdIdeal.nD Cert.MixBwdIdeal.τ).loc Cert.MixBwdIdeal.main_v3_6) = v6 c
          ∧ r.2.mem ((c.tc : Thread Cert.MixBwdIdeal.nD Cert.MixBwdIdeal.τ).loc Cert.MixBwdIdeal.main_v3_7) = v7 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v112) = v0 c
          ∧ r.2.mem ((c.tc : Thread Cert.MixBwdRefIdeal.nD Cert.MixBwdRefIdeal.τ).loc Cert.MixBwdRefIdeal.main_v113) = v1 c
          ∧ r.2.mem ((c.tc : Thread Cert.MixBwdRefIdeal.nD Cert.MixBwdRefIdeal.τ).loc Cert.MixBwdRefIdeal.main_v90) = v2 c
          ∧ r.2.mem ((c.tc : Thread Cert.MixBwdRefIdeal.nD Cert.MixBwdRefIdeal.τ).loc Cert.MixBwdRefIdeal.main_v60) = v3 c
          ∧ r.2.mem ((c.tc : Thread Cert.MixBwdRefIdeal.nD Cert.MixBwdRefIdeal.τ).loc Cert.MixBwdRefIdeal.main_v114) = v4 c
          ∧ r.2.mem ((c.tc : Thread Cert.MixBwdRefIdeal.nD Cert.MixBwdRefIdeal.τ).loc Cert.MixBwdRefIdeal.main_v115) = v5 c
          ∧ r.2.mem ((c.tc : Thread Cert.MixBwdRefIdeal.nD Cert.MixBwdRefIdeal.τ).loc Cert.MixBwdRefIdeal.main_v116) = v6 c
          ∧ r.2.mem ((c.tc : Thread Cert.MixBwdRefIdeal.nD Cert.MixBwdRefIdeal.τ).loc Cert.MixBwdRefIdeal.main_v117) = v7 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4)
          ∧ r.2.mem ((c.tc : Thread Cert.MixBwdRefIdeal.nD Cert.MixBwdRefIdeal.τ).loc Cert.MixBwdRefIdeal.main_arg5) = m' ((c.tc : Thread Cert.MixBwdRefIdeal.nD Cert.MixBwdRefIdeal.τ).loc Cert.MixBwdRefIdeal.main_arg5)
          ∧ r.2.mem ((c.tc : Thread Cert.MixBwdRefIdeal.nD Cert.MixBwdRefIdeal.τ).loc Cert.MixBwdRefIdeal.main_arg6) = m' ((c.tc : Thread Cert.MixBwdRefIdeal.nD Cert.MixBwdRefIdeal.τ).loc Cert.MixBwdRefIdeal.main_arg6)
          ∧ r.2.mem ((c.tc : Thread Cert.MixBwdRefIdeal.nD Cert.MixBwdRefIdeal.τ).loc Cert.MixBwdRefIdeal.main_arg7) = m' ((c.tc : Thread Cert.MixBwdRefIdeal.nD Cert.MixBwdRefIdeal.τ).loc Cert.MixBwdRefIdeal.main_arg7))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v44) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Update_UpdateIdeal : Prop :=
  True

def algebraic_UpdateIdeal_UpdateRefIdeal [hUpdateIdeal : Cert.UpdateIdeal.Facts] [hUpdateRefIdeal : Cert.UpdateRefIdeal.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.UpdateRefIdeal.nD Cert.UpdateRefIdeal.τ Cert.UpdateRefIdeal.sig) → Buf (Elt Ideal) ℓ) (g' : Dev Cert.UpdateRefIdeal.nD → PrngReg), Pre_UpdateIdeal m →
    (∀ c : Dev Cert.UpdateIdeal.nD,
      m' ((c.tc : Thread Cert.UpdateRefIdeal.nD Cert.UpdateRefIdeal.τ).loc Cert.UpdateRefIdeal.main_arg0) = m ((c.tc : Thread Cert.UpdateIdeal.nD Cert.UpdateIdeal.τ).loc Cert.UpdateIdeal.main_arg0)
      ∧ m' ((c.tc : Thread Cert.UpdateRefIdeal.nD Cert.UpdateRefIdeal.τ).loc Cert.UpdateRefIdeal.main_arg1) = m ((c.tc : Thread Cert.UpdateIdeal.nD Cert.UpdateIdeal.τ).loc Cert.UpdateIdeal.main_arg1)
      ∧ m' ((c.tc : Thread Cert.UpdateRefIdeal.nD Cert.UpdateRefIdeal.τ).loc Cert.UpdateRefIdeal.main_arg2) = m ((c.tc : Thread Cert.UpdateIdeal.nD Cert.UpdateIdeal.τ).loc Cert.UpdateIdeal.main_arg2)
      ∧ m' ((c.tc : Thread Cert.UpdateRefIdeal.nD Cert.UpdateRefIdeal.τ).loc Cert.UpdateRefIdeal.main_arg3) = m ((c.tc : Thread Cert.UpdateIdeal.nD Cert.UpdateIdeal.τ).loc Cert.UpdateIdeal.main_arg3)) →
    ∃ (v0 : (c : Dev Cert.UpdateIdeal.nD) → Buf (Elt Ideal) ((c.tc : Thread Cert.UpdateIdeal.nD Cert.UpdateIdeal.τ).loc Cert.UpdateIdeal.main_v0_0)) (v1 : (c : Dev Cert.UpdateIdeal.nD) → Buf (Elt Ideal) ((c.tc : Thread Cert.UpdateIdeal.nD Cert.UpdateIdeal.τ).loc Cert.UpdateIdeal.main_v0_1)) (v2 : (c : Dev Cert.UpdateIdeal.nD) → Buf (Elt Ideal) ((c.tc : Thread Cert.UpdateIdeal.nD Cert.UpdateIdeal.τ).loc Cert.UpdateIdeal.main_v0_2)) (v3 : (c : Dev Cert.UpdateIdeal.nD) → Buf (Elt Ideal) ((c.tc : Thread Cert.UpdateIdeal.nD Cert.UpdateIdeal.τ).loc Cert.UpdateIdeal.main_v0_3)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          r.2.mem ((c.tc : Thread Cert.UpdateIdeal.nD Cert.UpdateIdeal.τ).loc Cert.UpdateIdeal.main_v0_0) = v0 c
          ∧ r.2.mem ((c.tc : Thread Cert.UpdateIdeal.nD Cert.UpdateIdeal.τ).loc Cert.UpdateIdeal.main_v0_1) = v1 c
          ∧ r.2.mem ((c.tc : Thread Cert.UpdateIdeal.nD Cert.UpdateIdeal.τ).loc Cert.UpdateIdeal.main_v0_2) = v2 c
          ∧ r.2.mem ((c.tc : Thread Cert.UpdateIdeal.nD Cert.UpdateIdeal.τ).loc Cert.UpdateIdeal.main_v0_3) = v3 c
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
          ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ θ_run (Cert.UpdateRefIdeal.defs (F := Ideal)) (onTc (τ := Cert.UpdateRefIdeal.τ) (Cert.UpdateRefIdeal.main (F := Ideal))) ⟨m', fun _ => 0, g'⟩ (fun r => ∀ c : Dev Cert.UpdateRefIdeal.nD,
          r.2.mem ((c.tc : Thread Cert.UpdateRefIdeal.nD Cert.UpdateRefIdeal.τ).loc Cert.UpdateRefIdeal.main_v2) = v0 c
          ∧ r.2.mem ((c.tc : Thread Cert.UpdateRefIdeal.nD Cert.UpdateRefIdeal.τ).loc Cert.UpdateRefIdeal.main_v26) = v1 c
          ∧ r.2.mem ((c.tc : Thread Cert.UpdateRefIdeal.nD Cert.UpdateRefIdeal.τ).loc Cert.UpdateRefIdeal.main_v7) = v2 c
          ∧ r.2.mem ((c.tc : Thread Cert.UpdateRefIdeal.nD Cert.UpdateRefIdeal.τ).loc Cert.UpdateRefIdeal.main_v13) = v3 c
          ∧ r.2.mem ((c.tc : Thread Cert.UpdateRefIdeal.nD Cert.UpdateRefIdeal.τ).loc Cert.UpdateRefIdeal.main_arg0) = m' ((c.tc : Thread Cert.UpdateRefIdeal.nD Cert.UpdateRefIdeal.τ).loc Cert.UpdateRefIdeal.main_arg0)
          ∧ r.2.mem ((c.tc : Thread Cert.UpdateRefIdeal.nD Cert.UpdateRefIdeal.τ).loc Cert.UpdateRefIdeal.main_arg1) = m' ((c.tc : Thread Cert.UpdateRefIdeal.nD Cert.UpdateRefIdeal.τ).loc Cert.UpdateRefIdeal.main_arg1)
          ∧ r.2.mem ((c.tc : Thread Cert.UpdateRefIdeal.nD Cert.UpdateRefIdeal.τ).loc Cert.UpdateRefIdeal.main_arg2) = m' ((c.tc : Thread Cert.UpdateRefIdeal.nD Cert.UpdateRefIdeal.τ).loc Cert.UpdateRefIdeal.main_arg2)
          ∧ r.2.mem ((c.tc : Thread Cert.UpdateRefIdeal.nD Cert.UpdateRefIdeal.τ).loc Cert.UpdateRefIdeal.main_arg3) = m' ((c.tc : Thread Cert.UpdateRefIdeal.nD Cert.UpdateRefIdeal.τ).loc Cert.UpdateRefIdeal.main_arg3))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)
      ∧ m' ((c.tc : Thread Cert.MixInRefIdeal.nD Cert.MixInRefIdeal.τ).loc Cert.MixInRefIdeal.main_arg5) = m ((c.tc : Thread Cert.MixInIdeal.nD Cert.MixInIdeal.τ).loc Cert.MixInIdeal.main_arg5)) →
    ∃ (v0 : (c : Dev Cert.MixInIdeal.nD) → Buf (Elt Ideal) ((c.tc : Thread Cert.MixInIdeal.nD Cert.MixInIdeal.τ).loc Cert.MixInIdeal.main_v41_0)) (v1 : (c : Dev Cert.MixInIdeal.nD) → Buf (Elt Ideal) ((c.tc : Thread Cert.MixInIdeal.nD Cert.MixInIdeal.τ).loc Cert.MixInIdeal.main_v41_1)) (v2 : (c : Dev Cert.MixInIdeal.nD) → Buf (Elt Ideal) ((c.tc : Thread Cert.MixInIdeal.nD Cert.MixInIdeal.τ).loc Cert.MixInIdeal.main_v41_2)) (v3 : (c : Dev Cert.MixInIdeal.nD) → Buf (Elt Ideal) ((c.tc : Thread Cert.MixInIdeal.nD Cert.MixInIdeal.τ).loc Cert.MixInIdeal.main_v41_3)) (v4 : (c : Dev Cert.MixInIdeal.nD) → Buf (Elt Ideal) ((c.tc : Thread Cert.MixInIdeal.nD Cert.MixInIdeal.τ).loc Cert.MixInIdeal.main_v41_4)) (v5 : (c : Dev Cert.MixInIdeal.nD) → Buf (Elt Ideal) ((c.tc : Thread Cert.MixInIdeal.nD Cert.MixInIdeal.τ).loc Cert.MixInIdeal.main_v41_5)) (v6 : (c : Dev Cert.MixInIdeal.nD) → Buf (Elt Ideal) ((c.tc : Thread Cert.MixInIdeal.nD Cert.MixInIdeal.τ).loc Cert.MixInIdeal.main_v41_6)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v41_0) = v0 c
          ∧ r.2.mem ((c.tc : Thread Cert.MixInIdeal.nD Cert.MixInIdeal.τ).loc Cert.MixInIdeal.main_v41_1) = v1 c
          ∧ r.2.mem ((c.tc : Thread Cert.MixInIdeal.nD Cert.MixInIdeal.τ).loc Cert.MixInIdeal.main_v41_2) = v2 c
          ∧ r.2.mem ((c.tc : Thread Cert.MixInIdeal.nD Cert.MixInIdeal.τ).loc Cert.MixInIdeal.main_v41_3) = v3 c
          ∧ r.2.mem ((c.tc : Thread Cert.MixInIdeal.nD Cert.MixInIdeal.τ).loc Cert.MixInIdeal.main_v41_4) = v4 c
          ∧ r.2.mem ((c.tc : Thread Cert.MixInIdeal.nD Cert.MixInIdeal.τ).loc Cert.MixInIdeal.main_v41_5) = v5 c
          ∧ r.2.mem ((c.tc : Thread Cert.MixInIdeal.nD Cert.MixInIdeal.τ).loc Cert.MixInIdeal.main_v41_6) = v6 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v48) = v0 c
          ∧ r.2.mem ((c.tc : Thread Cert.MixInRefIdeal.nD Cert.MixInRefIdeal.τ).loc Cert.MixInRefIdeal.main_v35) = v1 c
          ∧ r.2.mem ((c.tc : Thread Cert.MixInRefIdeal.nD Cert.MixInRefIdeal.τ).loc Cert.MixInRefIdeal.main_v36) = v2 c
          ∧ r.2.mem ((c.tc : Thread Cert.MixInRefIdeal.nD Cert.MixInRefIdeal.τ).loc Cert.MixInRefIdeal.main_v37) = v3 c
          ∧ r.2.mem ((c.tc : Thread Cert.MixInRefIdeal.nD Cert.MixInRefIdeal.τ).loc Cert.MixInRefIdeal.main_v41) = v4 c
          ∧ r.2.mem ((c.tc : Thread Cert.MixInRefIdeal.nD Cert.MixInRefIdeal.τ).loc Cert.MixInRefIdeal.main_v46) = v5 c
          ∧ r.2.mem ((c.tc : Thread Cert.MixInRefIdeal.nD Cert.MixInRefIdeal.τ).loc Cert.MixInRefIdeal.main_v33) = v6 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4)
          ∧ r.2.mem ((c.tc : Thread Cert.MixInRefIdeal.nD Cert.MixInRefIdeal.τ).loc Cert.MixInRefIdeal.main_arg5) = m' ((c.tc : Thread Cert.MixInRefIdeal.nD Cert.MixInRefIdeal.τ).loc Cert.MixInRefIdeal.main_arg5))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)) →
    ∃ (v0 : (c : Dev Cert.AdaBwdIdeal.nD) → Buf (Elt Ideal) ((c.tc : Thread Cert.AdaBwdIdeal.nD Cert.AdaBwdIdeal.τ).loc Cert.AdaBwdIdeal.main_v1)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v1) = v0 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v7) = v0 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v2)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v2) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Cond_CondIdeal : Prop :=
  True

def algebraic_CondIdeal_CondRefIdeal [hCondIdeal : Cert.CondIdeal.Facts] [hCondRefIdeal : Cert.CondRefIdeal.Facts] : Prop :=
  ∀ (m : (ℓ : Loc Cert.CondIdeal.nD Cert.CondIdeal.τ Cert.CondIdeal.sig) → Buf (Elt Ideal) ℓ) (g : Dev Cert.CondIdeal.nD → PrngReg)
    (m' : (ℓ : Loc Cert.CondRefIdeal.nD Cert.CondRefIdeal.τ Cert.CondRefIdeal.sig) → Buf (Elt Ideal) ℓ) (g' : Dev Cert.CondRefIdeal.nD → PrngReg), Pre_CondIdeal m →
    (∀ c : Dev Cert.CondIdeal.nD,
      m' ((c.tc : Thread Cert.CondRefIdeal.nD Cert.CondRefIdeal.τ).loc Cert.CondRefIdeal.main_arg0) = m ((c.tc : Thread Cert.CondIdeal.nD Cert.CondIdeal.τ).loc Cert.CondIdeal.main_arg0)) →
    ∃ (v0 : (c : Dev Cert.CondIdeal.nD) → Buf (Elt Ideal) ((c.tc : Thread Cert.CondIdeal.nD Cert.CondIdeal.τ).loc Cert.CondIdeal.main_v0)),
      θ_run (Cert.CondIdeal.defs (F := Ideal)) (onTc (τ := Cert.CondIdeal.τ) (Cert.CondIdeal.main (F := Ideal))) ⟨m, fun _ => 0, g⟩ (fun r => ∀ c : Dev Cert.CondIdeal.nD,
          r.2.mem ((c.tc : Thread Cert.CondIdeal.nD Cert.CondIdeal.τ).loc Cert.CondIdeal.main_v0) = v0 c
          ∧ r.2.mem ((c.tc : Thread Cert.CondIdeal.nD Cert.CondIdeal.τ).loc Cert.CondIdeal.main_arg0) = m ((c.tc : Thread Cert.CondIdeal.nD Cert.CondIdeal.τ).loc Cert.CondIdeal.main_arg0))
      ∧ θ_run (Cert.CondRefIdeal.defs (F := Ideal)) (onTc (τ := Cert.CondRefIdeal.τ) (Cert.CondRefIdeal.main (F := Ideal))) ⟨m', fun _ => 0, g'⟩ (fun r => ∀ c : Dev Cert.CondRefIdeal.nD,
          r.2.mem ((c.tc : Thread Cert.CondRefIdeal.nD Cert.CondRefIdeal.τ).loc Cert.CondRefIdeal.main_v1) = v0 c
          ∧ r.2.mem ((c.tc : Thread Cert.CondRefIdeal.nD Cert.CondRefIdeal.τ).loc Cert.CondRefIdeal.main_arg0) = m' ((c.tc : Thread Cert.CondRefIdeal.nD Cert.CondRefIdeal.τ).loc Cert.CondRefIdeal.main_arg0))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v0_0)) (v1 : (c : Dev Cert.LastIdeal.nD) → Buf (Elt Ideal) ((c.tc : Thread Cert.LastIdeal.nD Cert.LastIdeal.τ).loc Cert.LastIdeal.main_v0_1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v0_0) = v0 c
          ∧ r.2.mem ((c.tc : Thread Cert.LastIdeal.nD Cert.LastIdeal.τ).loc Cert.LastIdeal.main_v0_1) = v1 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v45) = v0 c
          ∧ r.2.mem ((c.tc : Thread Cert.LastRefIdeal.nD Cert.LastRefIdeal.τ).loc Cert.LastRefIdeal.main_v46) = v1 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5))

def preserves_MconvBwd_MconvBwdIdeal : Prop :=
  True

def algebraic_MconvBwdIdeal_MconvBwdRefIdeal [hMconvBwdIdeal : Cert.MconvBwdIdeal.Facts] [hMconvBwdRefIdeal : Cert.MconvBwdRefIdeal.Facts] : Prop :=
  ∀ (m : (ℓ : Loc Cert.MconvBwdIdeal.nD Cert.MconvBwdIdeal.τ Cert.MconvBwdIdeal.sig) → Buf (Elt Ideal) ℓ) (g : Dev Cert.MconvBwdIdeal.nD → PrngReg)
    (m' : (ℓ : Loc Cert.MconvBwdRefIdeal.nD Cert.MconvBwdRefIdeal.τ Cert.MconvBwdRefIdeal.sig) → Buf (Elt Ideal) ℓ) (g' : Dev Cert.MconvBwdRefIdeal.nD → PrngReg), Pre_MconvBwdIdeal m →
    (∀ c : Dev Cert.MconvBwdIdeal.nD,
      m' ((c.tc : Thread Cert.MconvBwdRefIdeal.nD Cert.MconvBwdRefIdeal.τ).loc Cert.MconvBwdRefIdeal.main_arg0) = m ((c.tc : Thread Cert.MconvBwdIdeal.nD Cert.MconvBwdIdeal.τ).loc Cert.MconvBwdIdeal.main_arg0)
      ∧ m' ((c.tc : Thread Cert.MconvBwdRefIdeal.nD Cert.MconvBwdRefIdeal.τ).loc Cert.MconvBwdRefIdeal.main_arg1) = m ((c.tc : Thread Cert.MconvBwdIdeal.nD Cert.MconvBwdIdeal.τ).loc Cert.MconvBwdIdeal.main_arg1)
      ∧ m' ((c.tc : Thread Cert.MconvBwdRefIdeal.nD Cert.MconvBwdRefIdeal.τ).loc Cert.MconvBwdRefIdeal.main_arg2) = m ((c.tc : Thread Cert.MconvBwdIdeal.nD Cert.MconvBwdIdeal.τ).loc Cert.MconvBwdIdeal.main_arg2)) →
    ∃ (v0 : (c : Dev Cert.MconvBwdIdeal.nD) → Buf (Elt Ideal) ((c.tc : Thread Cert.MconvBwdIdeal.nD Cert.MconvBwdIdeal.τ).loc Cert.MconvBwdIdeal.main_v0_0)) (v1 : (c : Dev Cert.MconvBwdIdeal.nD) → Buf (Elt Ideal) ((c.tc : Thread Cert.MconvBwdIdeal.nD Cert.MconvBwdIdeal.τ).loc Cert.MconvBwdIdeal.main_v0_1)) (v2 : (c : Dev Cert.MconvBwdIdeal.nD) → Buf (Elt Ideal) ((c.tc : Thread Cert.MconvBwdIdeal.nD Cert.MconvBwdIdeal.τ).loc Cert.MconvBwdIdeal.main_v0_2)),
      θ_run (Cert.MconvBwdIdeal.defs (F := Ideal)) (onTc (τ := Cert.MconvBwdIdeal.τ) (Cert.MconvBwdIdeal.main (F := Ideal))) ⟨m, fun _ => 0, g⟩ (fun r => ∀ c : Dev Cert.MconvBwdIdeal.nD,
          r.2.mem ((c.tc : Thread Cert.MconvBwdIdeal.nD Cert.MconvBwdIdeal.τ).loc Cert.MconvBwdIdeal.main_v0_0) = v0 c
          ∧ r.2.mem ((c.tc : Thread Cert.MconvBwdIdeal.nD Cert.MconvBwdIdeal.τ).loc Cert.MconvBwdIdeal.main_v0_1) = v1 c
          ∧ r.2.mem ((c.tc : Thread Cert.MconvBwdIdeal.nD Cert.MconvBwdIdeal.τ).loc Cert.MconvBwdIdeal.main_v0_2) = v2 c
          ∧ r.2.mem ((c.tc : Thread Cert.MconvBwdIdeal.nD Cert.MconvBwdIdeal.τ).loc Cert.MconvBwdIdeal.main_arg0) = m ((c.tc : Thread Cert.MconvBwdIdeal.nD Cert.MconvBwdIdeal.τ).loc Cert.MconvBwdIdeal.main_arg0)
          ∧ r.2.mem ((c.tc : Thread Cert.MconvBwdIdeal.nD Cert.MconvBwdIdeal.τ).loc Cert.MconvBwdIdeal.main_arg1) = m ((c.tc : Thread Cert.MconvBwdIdeal.nD Cert.MconvBwdIdeal.τ).loc Cert.MconvBwdIdeal.main_arg1)
          ∧ r.2.mem ((c.tc : Thread Cert.MconvBwdIdeal.nD Cert.MconvBwdIdeal.τ).loc Cert.MconvBwdIdeal.main_arg2) = m ((c.tc : Thread Cert.MconvBwdIdeal.nD Cert.MconvBwdIdeal.τ).loc Cert.MconvBwdIdeal.main_arg2))
      ∧ θ_run (Cert.MconvBwdRefIdeal.defs (F := Ideal)) (onTc (τ := Cert.MconvBwdRefIdeal.τ) (Cert.MconvBwdRefIdeal.main (F := Ideal))) ⟨m', fun _ => 0, g'⟩ (fun r => ∀ c : Dev Cert.MconvBwdRefIdeal.nD,
          r.2.mem ((c.tc : Thread Cert.MconvBwdRefIdeal.nD Cert.MconvBwdRefIdeal.τ).loc Cert.MconvBwdRefIdeal.main_v81) = v0 c
          ∧ r.2.mem ((c.tc : Thread Cert.MconvBwdRefIdeal.nD Cert.MconvBwdRefIdeal.τ).loc Cert.MconvBwdRefIdeal.main_v78) = v1 c
          ∧ r.2.mem ((c.tc : Thread Cert.MconvBwdRefIdeal.nD Cert.MconvBwdRefIdeal.τ).loc Cert.MconvBwdRefIdeal.main_v36) = v2 c
          ∧ r.2.mem ((c.tc : Thread Cert.MconvBwdRefIdeal.nD Cert.MconvBwdRefIdeal.τ).loc Cert.MconvBwdRefIdeal.main_arg0) = m' ((c.tc : Thread Cert.MconvBwdRefIdeal.nD Cert.MconvBwdRefIdeal.τ).loc Cert.MconvBwdRefIdeal.main_arg0)
          ∧ r.2.mem ((c.tc : Thread Cert.MconvBwdRefIdeal.nD Cert.MconvBwdRefIdeal.τ).loc Cert.MconvBwdRefIdeal.main_arg1) = m' ((c.tc : Thread Cert.MconvBwdRefIdeal.nD Cert.MconvBwdRefIdeal.τ).loc Cert.MconvBwdRefIdeal.main_arg1)
          ∧ r.2.mem ((c.tc : Thread Cert.MconvBwdRefIdeal.nD Cert.MconvBwdRefIdeal.τ).loc Cert.MconvBwdRefIdeal.main_arg2) = m' ((c.tc : Thread Cert.MconvBwdRefIdeal.nD Cert.MconvBwdRefIdeal.τ).loc Cert.MconvBwdRefIdeal.main_arg2))

def preserves_Mconv_MconvIdeal : Prop :=
  True

def algebraic_MconvIdeal_MconvRefIdeal [hMconvIdeal : Cert.MconvIdeal.Facts] [hMconvRefIdeal : Cert.MconvRefIdeal.Facts] : Prop :=
  ∀ (m : (ℓ : Loc Cert.MconvIdeal.nD Cert.MconvIdeal.τ Cert.MconvIdeal.sig) → Buf (Elt Ideal) ℓ) (g : Dev Cert.MconvIdeal.nD → PrngReg)
    (m' : (ℓ : Loc Cert.MconvRefIdeal.nD Cert.MconvRefIdeal.τ Cert.MconvRefIdeal.sig) → Buf (Elt Ideal) ℓ) (g' : Dev Cert.MconvRefIdeal.nD → PrngReg), Pre_MconvIdeal m →
    (∀ c : Dev Cert.MconvIdeal.nD,
      m' ((c.tc : Thread Cert.MconvRefIdeal.nD Cert.MconvRefIdeal.τ).loc Cert.MconvRefIdeal.main_arg0) = m ((c.tc : Thread Cert.MconvIdeal.nD Cert.MconvIdeal.τ).loc Cert.MconvIdeal.main_arg0)
      ∧ m' ((c.tc : Thread Cert.MconvRefIdeal.nD Cert.MconvRefIdeal.τ).loc Cert.MconvRefIdeal.main_arg1) = m ((c.tc : Thread Cert.MconvIdeal.nD Cert.MconvIdeal.τ).loc Cert.MconvIdeal.main_arg1)
      ∧ m' ((c.tc : Thread Cert.MconvRefIdeal.nD Cert.MconvRefIdeal.τ).loc Cert.MconvRefIdeal.main_arg2) = m ((c.tc : Thread Cert.MconvIdeal.nD Cert.MconvIdeal.τ).loc Cert.MconvIdeal.main_arg2)) →
    ∃ (v0 : (c : Dev Cert.MconvIdeal.nD) → Buf (Elt Ideal) ((c.tc : Thread Cert.MconvIdeal.nD Cert.MconvIdeal.τ).loc Cert.MconvIdeal.main_v0)),
      θ_run (Cert.MconvIdeal.defs (F := Ideal)) (onTc (τ := Cert.MconvIdeal.τ) (Cert.MconvIdeal.main (F := Ideal))) ⟨m, fun _ => 0, g⟩ (fun r => ∀ c : Dev Cert.MconvIdeal.nD,
          r.2.mem ((c.tc : Thread Cert.MconvIdeal.nD Cert.MconvIdeal.τ).loc Cert.MconvIdeal.main_v0) = v0 c
          ∧ r.2.mem ((c.tc : Thread Cert.MconvIdeal.nD Cert.MconvIdeal.τ).loc Cert.MconvIdeal.main_arg0) = m ((c.tc : Thread Cert.MconvIdeal.nD Cert.MconvIdeal.τ).loc Cert.MconvIdeal.main_arg0)
          ∧ r.2.mem ((c.tc : Thread Cert.MconvIdeal.nD Cert.MconvIdeal.τ).loc Cert.MconvIdeal.main_arg1) = m ((c.tc : Thread Cert.MconvIdeal.nD Cert.MconvIdeal.τ).loc Cert.MconvIdeal.main_arg1)
          ∧ r.2.mem ((c.tc : Thread Cert.MconvIdeal.nD Cert.MconvIdeal.τ).loc Cert.MconvIdeal.main_arg2) = m ((c.tc : Thread Cert.MconvIdeal.nD Cert.MconvIdeal.τ).loc Cert.MconvIdeal.main_arg2))
      ∧ θ_run (Cert.MconvRefIdeal.defs (F := Ideal)) (onTc (τ := Cert.MconvRefIdeal.τ) (Cert.MconvRefIdeal.main (F := Ideal))) ⟨m', fun _ => 0, g'⟩ (fun r => ∀ c : Dev Cert.MconvRefIdeal.nD,
          r.2.mem ((c.tc : Thread Cert.MconvRefIdeal.nD Cert.MconvRefIdeal.τ).loc Cert.MconvRefIdeal.main_v31) = v0 c
          ∧ r.2.mem ((c.tc : Thread Cert.MconvRefIdeal.nD Cert.MconvRefIdeal.τ).loc Cert.MconvRefIdeal.main_arg0) = m' ((c.tc : Thread Cert.MconvRefIdeal.nD Cert.MconvRefIdeal.τ).loc Cert.MconvRefIdeal.main_arg0)
          ∧ r.2.mem ((c.tc : Thread Cert.MconvRefIdeal.nD Cert.MconvRefIdeal.τ).loc Cert.MconvRefIdeal.main_arg1) = m' ((c.tc : Thread Cert.MconvRefIdeal.nD Cert.MconvRefIdeal.τ).loc Cert.MconvRefIdeal.main_arg1)
          ∧ r.2.mem ((c.tc : Thread Cert.MconvRefIdeal.nD Cert.MconvRefIdeal.τ).loc Cert.MconvRefIdeal.main_arg2) = m' ((c.tc : Thread Cert.MconvRefIdeal.nD Cert.MconvRefIdeal.τ).loc Cert.MconvRefIdeal.main_arg2))

def preserves_PostMixBwd_PostMixBwdIdeal : Prop :=
  True

def algebraic_PostMixBwdIdeal_PostMixBwdRefIdeal_pre_post_finite [hPostMixBwdIdeal : Cert.PostMixBwdIdeal.Facts] [hPostMixBwdRefIdeal : Cert.PostMixBwdRefIdeal.Facts] [hPre_post_finite : Cert.Pre_post_finite.Facts] : Prop :=
  ∀ (m : (ℓ : Loc Cert.PostMixBwdIdeal.nD Cert.PostMixBwdIdeal.τ Cert.PostMixBwdIdeal.sig) → Buf (Elt Ideal) ℓ) (g : Dev Cert.PostMixBwdIdeal.nD → PrngReg)
    (m' : (ℓ : Loc Cert.PostMixBwdRefIdeal.nD Cert.PostMixBwdRefIdeal.τ Cert.PostMixBwdRefIdeal.sig) → Buf (Elt Ideal) ℓ) (g' : Dev Cert.PostMixBwdRefIdeal.nD → PrngReg), Pre_PostMixBwdIdeal_post_finite m →
    (∀ c : Dev Cert.PostMixBwdIdeal.nD,
      m' ((c.tc : Thread Cert.PostMixBwdRefIdeal.nD Cert.PostMixBwdRefIdeal.τ).loc Cert.PostMixBwdRefIdeal.main_arg0) = m ((c.tc : Thread Cert.PostMixBwdIdeal.nD Cert.PostMixBwdIdeal.τ).loc Cert.PostMixBwdIdeal.main_arg0)
      ∧ m' ((c.tc : Thread Cert.PostMixBwdRefIdeal.nD Cert.PostMixBwdRefIdeal.τ).loc Cert.PostMixBwdRefIdeal.main_arg1) = m ((c.tc : Thread Cert.PostMixBwdIdeal.nD Cert.PostMixBwdIdeal.τ).loc Cert.PostMixBwdIdeal.main_arg1)
      ∧ m' ((c.tc : Thread Cert.PostMixBwdRefIdeal.nD Cert.PostMixBwdRefIdeal.τ).loc Cert.PostMixBwdRefIdeal.main_arg2) = m ((c.tc : Thread Cert.PostMixBwdIdeal.nD Cert.PostMixBwdIdeal.τ).loc Cert.PostMixBwdIdeal.main_arg2)
      ∧ m' ((c.tc : Thread Cert.PostMixBwdRefIdeal.nD Cert.PostMixBwdRefIdeal.τ).loc Cert.PostMixBwdRefIdeal.main_arg3) = m ((c.tc : Thread Cert.PostMixBwdIdeal.nD Cert.PostMixBwdIdeal.τ).loc Cert.PostMixBwdIdeal.main_arg3)
      ∧ m' ((c.tc : Thread Cert.PostMixBwdRefIdeal.nD Cert.PostMixBwdRefIdeal.τ).loc Cert.PostMixBwdRefIdeal.main_arg4) = m ((c.tc : Thread Cert.PostMixBwdIdeal.nD Cert.PostMixBwdIdeal.τ).loc Cert.PostMixBwdIdeal.main_arg4)
      ∧ m' ((c.tc : Thread Cert.PostMixBwdRefIdeal.nD Cert.PostMixBwdRefIdeal.τ).loc Cert.PostMixBwdRefIdeal.main_arg5) = m ((c.tc : Thread Cert.PostMixBwdIdeal.nD Cert.PostMixBwdIdeal.τ).loc Cert.PostMixBwdIdeal.main_arg5)
      ∧ m' ((c.tc : Thread Cert.PostMixBwdRefIdeal.nD Cert.PostMixBwdRefIdeal.τ).loc Cert.PostMixBwdRefIdeal.main_arg6) = m ((c.tc : Thread Cert.PostMixBwdIdeal.nD Cert.PostMixBwdIdeal.τ).loc Cert.PostMixBwdIdeal.main_arg6)
      ∧ m' ((c.tc : Thread Cert.PostMixBwdRefIdeal.nD Cert.PostMixBwdRefIdeal.τ).loc Cert.PostMixBwdRefIdeal.main_arg7) = m ((c.tc : Thread Cert.PostMixBwdIdeal.nD Cert.PostMixBwdIdeal.τ).loc Cert.PostMixBwdIdeal.main_arg7)
      ∧ m' ((c.tc : Thread Cert.PostMixBwdRefIdeal.nD Cert.PostMixBwdRefIdeal.τ).loc Cert.PostMixBwdRefIdeal.main_arg8) = m ((c.tc : Thread Cert.PostMixBwdIdeal.nD Cert.PostMixBwdIdeal.τ).loc Cert.PostMixBwdIdeal.main_arg8)) →
    ∃ (v0 : (c : Dev Cert.PostMixBwdIdeal.nD) → Buf (Elt Ideal) ((c.tc : Thread Cert.PostMixBwdIdeal.nD Cert.PostMixBwdIdeal.τ).loc Cert.PostMixBwdIdeal.main_v0_0)) (v1 : (c : Dev Cert.PostMixBwdIdeal.nD) → Buf (Elt Ideal) ((c.tc : Thread Cert.PostMixBwdIdeal.nD Cert.PostMixBwdIdeal.τ).loc Cert.PostMixBwdIdeal.main_v0_1)) (v2 : (c : Dev Cert.PostMixBwdIdeal.nD) → Buf (Elt Ideal) ((c.tc : Thread Cert.PostMixBwdIdeal.nD Cert.PostMixBwdIdeal.τ).loc Cert.PostMixBwdIdeal.main_v0_2)) (v3 : (c : Dev Cert.PostMixBwdIdeal.nD) → Buf (Elt Ideal) ((c.tc : Thread Cert.PostMixBwdIdeal.nD Cert.PostMixBwdIdeal.τ).loc Cert.PostMixBwdIdeal.main_v0_3)) (v4 : (c : Dev Cert.PostMixBwdIdeal.nD) → Buf (Elt Ideal) ((c.tc : Thread Cert.PostMixBwdIdeal.nD Cert.PostMixBwdIdeal.τ).loc Cert.PostMixBwdIdeal.main_v0_4)) (v5 : (c : Dev Cert.PostMixBwdIdeal.nD) → Buf (Elt Ideal) ((c.tc : Thread Cert.PostMixBwdIdeal.nD Cert.PostMixBwdIdeal.τ).loc Cert.PostMixBwdIdeal.main_v0_5)) (v6 : (c : Dev Cert.PostMixBwdIdeal.nD) → Buf (Elt Ideal) ((c.tc : Thread Cert.PostMixBwdIdeal.nD Cert.PostMixBwdIdeal.τ).loc Cert.PostMixBwdIdeal.main_v0_6)),
      θ_run (Cert.PostMixBwdIdeal.defs (F := Ideal)) (onTc (τ := Cert.PostMixBwdIdeal.τ) (Cert.PostMixBwdIdeal.main (F := Ideal))) ⟨m, fun _ => 0, g⟩ (fun r => ∀ c : Dev Cert.PostMixBwdIdeal.nD,
          r.2.mem ((c.tc : Thread Cert.PostMixBwdIdeal.nD Cert.PostMixBwdIdeal.τ).loc Cert.PostMixBwdIdeal.main_v0_0) = v0 c
          ∧ r.2.mem ((c.tc : Thread Cert.PostMixBwdIdeal.nD Cert.PostMixBwdIdeal.τ).loc Cert.PostMixBwdIdeal.main_v0_1) = v1 c
          ∧ r.2.mem ((c.tc : Thread Cert.PostMixBwdIdeal.nD Cert.PostMixBwdIdeal.τ).loc Cert.PostMixBwdIdeal.main_v0_2) = v2 c
          ∧ r.2.mem ((c.tc : Thread Cert.PostMixBwdIdeal.nD Cert.PostMixBwdIdeal.τ).loc Cert.PostMixBwdIdeal.main_v0_3) = v3 c
          ∧ r.2.mem ((c.tc : Thread Cert.PostMixBwdIdeal.nD Cert.PostMixBwdIdeal.τ).loc Cert.PostMixBwdIdeal.main_v0_4) = v4 c
          ∧ r.2.mem ((c.tc : Thread Cert.PostMixBwdIdeal.nD Cert.PostMixBwdIdeal.τ).loc Cert.PostMixBwdIdeal.main_v0_5) = v5 c
          ∧ r.2.mem ((c.tc : Thread Cert.PostMixBwdIdeal.nD Cert.PostMixBwdIdeal.τ).loc Cert.PostMixBwdIdeal.main_v0_6) = v6 c
          ∧ r.2.mem ((c.tc : Thread Cert.PostMixBwdIdeal.nD Cert.PostMixBwdIdeal.τ).loc Cert.PostMixBwdIdeal.main_arg0) = m ((c.tc : Thread Cert.PostMixBwdIdeal.nD Cert.PostMixBwdIdeal.τ).loc Cert.PostMixBwdIdeal.main_arg0)
          ∧ r.2.mem ((c.tc : Thread Cert.PostMixBwdIdeal.nD Cert.PostMixBwdIdeal.τ).loc Cert.PostMixBwdIdeal.main_arg1) = m ((c.tc : Thread Cert.PostMixBwdIdeal.nD Cert.PostMixBwdIdeal.τ).loc Cert.PostMixBwdIdeal.main_arg1)
          ∧ r.2.mem ((c.tc : Thread Cert.PostMixBwdIdeal.nD Cert.PostMixBwdIdeal.τ).loc Cert.PostMixBwdIdeal.main_arg2) = m ((c.tc : Thread Cert.PostMixBwdIdeal.nD Cert.PostMixBwdIdeal.τ).loc Cert.PostMixBwdIdeal.main_arg2)
          ∧ r.2.mem ((c.tc : Thread Cert.PostMixBwdIdeal.nD Cert.PostMixBwdIdeal.τ).loc Cert.PostMixBwdIdeal.main_arg3) = m ((c.tc : Thread Cert.PostMixBwdIdeal.nD Cert.PostMixBwdIdeal.τ).loc Cert.PostMixBwdIdeal.main_arg3)
          ∧ r.2.mem ((c.tc : Thread Cert.PostMixBwdIdeal.nD Cert.PostMixBwdIdeal.τ).loc Cert.PostMixBwdIdeal.main_arg4) = m ((c.tc : Thread Cert.PostMixBwdIdeal.nD Cert.PostMixBwdIdeal.τ).loc Cert.PostMixBwdIdeal.main_arg4)
          ∧ r.2.mem ((c.tc : Thread Cert.PostMixBwdIdeal.nD Cert.PostMixBwdIdeal.τ).loc Cert.PostMixBwdIdeal.main_arg5) = m ((c.tc : Thread Cert.PostMixBwdIdeal.nD Cert.PostMixBwdIdeal.τ).loc Cert.PostMixBwdIdeal.main_arg5)
          ∧ r.2.mem ((c.tc : Thread Cert.PostMixBwdIdeal.nD Cert.PostMixBwdIdeal.τ).loc Cert.PostMixBwdIdeal.main_arg6) = m ((c.tc : Thread Cert.PostMixBwdIdeal.nD Cert.PostMixBwdIdeal.τ).loc Cert.PostMixBwdIdeal.main_arg6)
          ∧ r.2.mem ((c.tc : Thread Cert.PostMixBwdIdeal.nD Cert.PostMixBwdIdeal.τ).loc Cert.PostMixBwdIdeal.main_arg7) = m ((c.tc : Thread Cert.PostMixBwdIdeal.nD Cert.PostMixBwdIdeal.τ).loc Cert.PostMixBwdIdeal.main_arg7)
          ∧ r.2.mem ((c.tc : Thread Cert.PostMixBwdIdeal.nD Cert.PostMixBwdIdeal.τ).loc Cert.PostMixBwdIdeal.main_arg8) = m ((c.tc : Thread Cert.PostMixBwdIdeal.nD Cert.PostMixBwdIdeal.τ).loc Cert.PostMixBwdIdeal.main_arg8))
      ∧ θ_run (Cert.PostMixBwdRefIdeal.defs (F := Ideal)) (onTc (τ := Cert.PostMixBwdRefIdeal.τ) (Cert.PostMixBwdRefIdeal.main (F := Ideal))) ⟨m', fun _ => 0, g'⟩ (fun r => ∀ c : Dev Cert.PostMixBwdRefIdeal.nD,
          r.2.mem ((c.tc : Thread Cert.PostMixBwdRefIdeal.nD Cert.PostMixBwdRefIdeal.τ).loc Cert.PostMixBwdRefIdeal.main_v87) = v0 c
          ∧ r.2.mem ((c.tc : Thread Cert.PostMixBwdRefIdeal.nD Cert.PostMixBwdRefIdeal.τ).loc Cert.PostMixBwdRefIdeal.main_v88) = v1 c
          ∧ r.2.mem ((c.tc : Thread Cert.PostMixBwdRefIdeal.nD Cert.PostMixBwdRefIdeal.τ).loc Cert.PostMixBwdRefIdeal.main_v85) = v2 c
          ∧ r.2.mem ((c.tc : Thread Cert.PostMixBwdRefIdeal.nD Cert.PostMixBwdRefIdeal.τ).loc Cert.PostMixBwdRefIdeal.main_v54) = v3 c
          ∧ r.2.mem ((c.tc : Thread Cert.PostMixBwdRefIdeal.nD Cert.PostMixBwdRefIdeal.τ).loc Cert.PostMixBwdRefIdeal.main_v51) = v4 c
          ∧ r.2.mem ((c.tc : Thread Cert.PostMixBwdRefIdeal.nD Cert.PostMixBwdRefIdeal.τ).loc Cert.PostMixBwdRefIdeal.main_v45) = v5 c
          ∧ r.2.mem ((c.tc : Thread Cert.PostMixBwdRefIdeal.nD Cert.PostMixBwdRefIdeal.τ).loc Cert.PostMixBwdRefIdeal.main_v42) = v6 c
          ∧ r.2.mem ((c.tc : Thread Cert.PostMixBwdRefIdeal.nD Cert.PostMixBwdRefIdeal.τ).loc Cert.PostMixBwdRefIdeal.main_arg0) = m' ((c.tc : Thread Cert.PostMixBwdRefIdeal.nD Cert.PostMixBwdRefIdeal.τ).loc Cert.PostMixBwdRefIdeal.main_arg0)
          ∧ r.2.mem ((c.tc : Thread Cert.PostMixBwdRefIdeal.nD Cert.PostMixBwdRefIdeal.τ).loc Cert.PostMixBwdRefIdeal.main_arg1) = m' ((c.tc : Thread Cert.PostMixBwdRefIdeal.nD Cert.PostMixBwdRefIdeal.τ).loc Cert.PostMixBwdRefIdeal.main_arg1)
          ∧ r.2.mem ((c.tc : Thread Cert.PostMixBwdRefIdeal.nD Cert.PostMixBwdRefIdeal.τ).loc Cert.PostMixBwdRefIdeal.main_arg2) = m' ((c.tc : Thread Cert.PostMixBwdRefIdeal.nD Cert.PostMixBwdRefIdeal.τ).loc Cert.PostMixBwdRefIdeal.main_arg2)
          ∧ r.2.mem ((c.tc : Thread Cert.PostMixBwdRefIdeal.nD Cert.PostMixBwdRefIdeal.τ).loc Cert.PostMixBwdRefIdeal.main_arg3) = m' ((c.tc : Thread Cert.PostMixBwdRefIdeal.nD Cert.PostMixBwdRefIdeal.τ).loc Cert.PostMixBwdRefIdeal.main_arg3)
          ∧ r.2.mem ((c.tc : Thread Cert.PostMixBwdRefIdeal.nD Cert.PostMixBwdRefIdeal.τ).loc Cert.PostMixBwdRefIdeal.main_arg4) = m' ((c.tc : Thread Cert.PostMixBwdRefIdeal.nD Cert.PostMixBwdRefIdeal.τ).loc Cert.PostMixBwdRefIdeal.main_arg4)
          ∧ r.2.mem ((c.tc : Thread Cert.PostMixBwdRefIdeal.nD Cert.PostMixBwdRefIdeal.τ).loc Cert.PostMixBwdRefIdeal.main_arg5) = m' ((c.tc : Thread Cert.PostMixBwdRefIdeal.nD Cert.PostMixBwdRefIdeal.τ).loc Cert.PostMixBwdRefIdeal.main_arg5)
          ∧ r.2.mem ((c.tc : Thread Cert.PostMixBwdRefIdeal.nD Cert.PostMixBwdRefIdeal.τ).loc Cert.PostMixBwdRefIdeal.main_arg6) = m' ((c.tc : Thread Cert.PostMixBwdRefIdeal.nD Cert.PostMixBwdRefIdeal.τ).loc Cert.PostMixBwdRefIdeal.main_arg6)
          ∧ r.2.mem ((c.tc : Thread Cert.PostMixBwdRefIdeal.nD Cert.PostMixBwdRefIdeal.τ).loc Cert.PostMixBwdRefIdeal.main_arg7) = m' ((c.tc : Thread Cert.PostMixBwdRefIdeal.nD Cert.PostMixBwdRefIdeal.τ).loc Cert.PostMixBwdRefIdeal.main_arg7)
          ∧ r.2.mem ((c.tc : Thread Cert.PostMixBwdRefIdeal.nD Cert.PostMixBwdRefIdeal.τ).loc Cert.PostMixBwdRefIdeal.main_arg8) = m' ((c.tc : Thread Cert.PostMixBwdRefIdeal.nD Cert.PostMixBwdRefIdeal.τ).loc Cert.PostMixBwdRefIdeal.main_arg8))

def preserves_PostMix_PostMixIdeal : Prop :=
  True

def algebraic_PostMixIdeal_PostMixRefIdeal [hPostMixIdeal : Cert.PostMixIdeal.Facts] [hPostMixRefIdeal : Cert.PostMixRefIdeal.Facts] : Prop :=
  ∀ (m : (ℓ : Loc Cert.PostMixIdeal.nD Cert.PostMixIdeal.τ Cert.PostMixIdeal.sig) → Buf (Elt Ideal) ℓ) (g : Dev Cert.PostMixIdeal.nD → PrngReg)
    (m' : (ℓ : Loc Cert.PostMixRefIdeal.nD Cert.PostMixRefIdeal.τ Cert.PostMixRefIdeal.sig) → Buf (Elt Ideal) ℓ) (g' : Dev Cert.PostMixRefIdeal.nD → PrngReg), Pre_PostMixIdeal m →
    (∀ c : Dev Cert.PostMixIdeal.nD,
      m' ((c.tc : Thread Cert.PostMixRefIdeal.nD Cert.PostMixRefIdeal.τ).loc Cert.PostMixRefIdeal.main_arg0) = m ((c.tc : Thread Cert.PostMixIdeal.nD Cert.PostMixIdeal.τ).loc Cert.PostMixIdeal.main_arg0)
      ∧ m' ((c.tc : Thread Cert.PostMixRefIdeal.nD Cert.PostMixRefIdeal.τ).loc Cert.PostMixRefIdeal.main_arg1) = m ((c.tc : Thread Cert.PostMixIdeal.nD Cert.PostMixIdeal.τ).loc Cert.PostMixIdeal.main_arg1)
      ∧ m' ((c.tc : Thread Cert.PostMixRefIdeal.nD Cert.PostMixRefIdeal.τ).loc Cert.PostMixRefIdeal.main_arg2) = m ((c.tc : Thread Cert.PostMixIdeal.nD Cert.PostMixIdeal.τ).loc Cert.PostMixIdeal.main_arg2)
      ∧ m' ((c.tc : Thread Cert.PostMixRefIdeal.nD Cert.PostMixRefIdeal.τ).loc Cert.PostMixRefIdeal.main_arg3) = m ((c.tc : Thread Cert.PostMixIdeal.nD Cert.PostMixIdeal.τ).loc Cert.PostMixIdeal.main_arg3)
      ∧ m' ((c.tc : Thread Cert.PostMixRefIdeal.nD Cert.PostMixRefIdeal.τ).loc Cert.PostMixRefIdeal.main_arg4) = m ((c.tc : Thread Cert.PostMixIdeal.nD Cert.PostMixIdeal.τ).loc Cert.PostMixIdeal.main_arg4)
      ∧ m' ((c.tc : Thread Cert.PostMixRefIdeal.nD Cert.PostMixRefIdeal.τ).loc Cert.PostMixRefIdeal.main_arg5) = m ((c.tc : Thread Cert.PostMixIdeal.nD Cert.PostMixIdeal.τ).loc Cert.PostMixIdeal.main_arg5)
      ∧ m' ((c.tc : Thread Cert.PostMixRefIdeal.nD Cert.PostMixRefIdeal.τ).loc Cert.PostMixRefIdeal.main_arg6) = m ((c.tc : Thread Cert.PostMixIdeal.nD Cert.PostMixIdeal.τ).loc Cert.PostMixIdeal.main_arg6)) →
    ∃ (v0 : (c : Dev Cert.PostMixIdeal.nD) → Buf (Elt Ideal) ((c.tc : Thread Cert.PostMixIdeal.nD Cert.PostMixIdeal.τ).loc Cert.PostMixIdeal.main_v0_0)) (v1 : (c : Dev Cert.PostMixIdeal.nD) → Buf (Elt Ideal) ((c.tc : Thread Cert.PostMixIdeal.nD Cert.PostMixIdeal.τ).loc Cert.PostMixIdeal.main_v0_1)),
      θ_run (Cert.PostMixIdeal.defs (F := Ideal)) (onTc (τ := Cert.PostMixIdeal.τ) (Cert.PostMixIdeal.main (F := Ideal))) ⟨m, fun _ => 0, g⟩ (fun r => ∀ c : Dev Cert.PostMixIdeal.nD,
          r.2.mem ((c.tc : Thread Cert.PostMixIdeal.nD Cert.PostMixIdeal.τ).loc Cert.PostMixIdeal.main_v0_0) = v0 c
          ∧ r.2.mem ((c.tc : Thread Cert.PostMixIdeal.nD Cert.PostMixIdeal.τ).loc Cert.PostMixIdeal.main_v0_1) = v1 c
          ∧ r.2.mem ((c.tc : Thread Cert.PostMixIdeal.nD Cert.PostMixIdeal.τ).loc Cert.PostMixIdeal.main_arg0) = m ((c.tc : Thread Cert.PostMixIdeal.nD Cert.PostMixIdeal.τ).loc Cert.PostMixIdeal.main_arg0)
          ∧ r.2.mem ((c.tc : Thread Cert.PostMixIdeal.nD Cert.PostMixIdeal.τ).loc Cert.PostMixIdeal.main_arg1) = m ((c.tc : Thread Cert.PostMixIdeal.nD Cert.PostMixIdeal.τ).loc Cert.PostMixIdeal.main_arg1)
          ∧ r.2.mem ((c.tc : Thread Cert.PostMixIdeal.nD Cert.PostMixIdeal.τ).loc Cert.PostMixIdeal.main_arg2) = m ((c.tc : Thread Cert.PostMixIdeal.nD Cert.PostMixIdeal.τ).loc Cert.PostMixIdeal.main_arg2)
          ∧ r.2.mem ((c.tc : Thread Cert.PostMixIdeal.nD Cert.PostMixIdeal.τ).loc Cert.PostMixIdeal.main_arg3) = m ((c.tc : Thread Cert.PostMixIdeal.nD Cert.PostMixIdeal.τ).loc Cert.PostMixIdeal.main_arg3)
          ∧ r.2.mem ((c.tc : Thread Cert.PostMixIdeal.nD Cert.PostMixIdeal.τ).loc Cert.PostMixIdeal.main_arg4) = m ((c.tc : Thread Cert.PostMixIdeal.nD Cert.PostMixIdeal.τ).loc Cert.PostMixIdeal.main_arg4)
          ∧ r.2.mem ((c.tc : Thread Cert.PostMixIdeal.nD Cert.PostMixIdeal.τ).loc Cert.PostMixIdeal.main_arg5) = m ((c.tc : Thread Cert.PostMixIdeal.nD Cert.PostMixIdeal.τ).loc Cert.PostMixIdeal.main_arg5)
          ∧ r.2.mem ((c.tc : Thread Cert.PostMixIdeal.nD Cert.PostMixIdeal.τ).loc Cert.PostMixIdeal.main_arg6) = m ((c.tc : Thread Cert.PostMixIdeal.nD Cert.PostMixIdeal.τ).loc Cert.PostMixIdeal.main_arg6))
      ∧ θ_run (Cert.PostMixRefIdeal.defs (F := Ideal)) (onTc (τ := Cert.PostMixRefIdeal.τ) (Cert.PostMixRefIdeal.main (F := Ideal))) ⟨m', fun _ => 0, g'⟩ (fun r => ∀ c : Dev Cert.PostMixRefIdeal.nD,
          r.2.mem ((c.tc : Thread Cert.PostMixRefIdeal.nD Cert.PostMixRefIdeal.τ).loc Cert.PostMixRefIdeal.main_v28) = v0 c
          ∧ r.2.mem ((c.tc : Thread Cert.PostMixRefIdeal.nD Cert.PostMixRefIdeal.τ).loc Cert.PostMixRefIdeal.main_v35) = v1 c
          ∧ r.2.mem ((c.tc : Thread Cert.PostMixRefIdeal.nD Cert.PostMixRefIdeal.τ).loc Cert.PostMixRefIdeal.main_arg0) = m' ((c.tc : Thread Cert.PostMixRefIdeal.nD Cert.PostMixRefIdeal.τ).loc Cert.PostMixRefIdeal.main_arg0)
          ∧ r.2.mem ((c.tc : Thread Cert.PostMixRefIdeal.nD Cert.PostMixRefIdeal.τ).loc Cert.PostMixRefIdeal.main_arg1) = m' ((c.tc : Thread Cert.PostMixRefIdeal.nD Cert.PostMixRefIdeal.τ).loc Cert.PostMixRefIdeal.main_arg1)
          ∧ r.2.mem ((c.tc : Thread Cert.PostMixRefIdeal.nD Cert.PostMixRefIdeal.τ).loc Cert.PostMixRefIdeal.main_arg2) = m' ((c.tc : Thread Cert.PostMixRefIdeal.nD Cert.PostMixRefIdeal.τ).loc Cert.PostMixRefIdeal.main_arg2)
          ∧ r.2.mem ((c.tc : Thread Cert.PostMixRefIdeal.nD Cert.PostMixRefIdeal.τ).loc Cert.PostMixRefIdeal.main_arg3) = m' ((c.tc : Thread Cert.PostMixRefIdeal.nD Cert.PostMixRefIdeal.τ).loc Cert.PostMixRefIdeal.main_arg3)
          ∧ r.2.mem ((c.tc : Thread Cert.PostMixRefIdeal.nD Cert.PostMixRefIdeal.τ).loc Cert.PostMixRefIdeal.main_arg4) = m' ((c.tc : Thread Cert.PostMixRefIdeal.nD Cert.PostMixRefIdeal.τ).loc Cert.PostMixRefIdeal.main_arg4)
          ∧ r.2.mem ((c.tc : Thread Cert.PostMixRefIdeal.nD Cert.PostMixRefIdeal.τ).loc Cert.PostMixRefIdeal.main_arg5) = m' ((c.tc : Thread Cert.PostMixRefIdeal.nD Cert.PostMixRefIdeal.τ).loc Cert.PostMixRefIdeal.main_arg5)
          ∧ r.2.mem ((c.tc : Thread Cert.PostMixRefIdeal.nD Cert.PostMixRefIdeal.τ).loc Cert.PostMixRefIdeal.main_arg6) = m' ((c.tc : Thread Cert.PostMixRefIdeal.nD Cert.PostMixRefIdeal.τ).loc Cert.PostMixRefIdeal.main_arg6))

def preserves_Slots_SlotsIdeal : Prop :=
  True

def algebraic_SlotsIdeal_SlotsRefIdeal [hSlotsIdeal : Cert.SlotsIdeal.Facts] [hSlotsRefIdeal : Cert.SlotsRefIdeal.Facts] : Prop :=
  ∀ (m : (ℓ : Loc Cert.SlotsIdeal.nD Cert.SlotsIdeal.τ Cert.SlotsIdeal.sig) → Buf (Elt Ideal) ℓ) (g : Dev Cert.SlotsIdeal.nD → PrngReg)
    (m' : (ℓ : Loc Cert.SlotsRefIdeal.nD Cert.SlotsRefIdeal.τ Cert.SlotsRefIdeal.sig) → Buf (Elt Ideal) ℓ) (g' : Dev Cert.SlotsRefIdeal.nD → PrngReg), Pre_SlotsIdeal m →
    (∀ c : Dev Cert.SlotsIdeal.nD,
      m' ((c.tc : Thread Cert.SlotsRefIdeal.nD Cert.SlotsRefIdeal.τ).loc Cert.SlotsRefIdeal.main_arg0) = m ((c.tc : Thread Cert.SlotsIdeal.nD Cert.SlotsIdeal.τ).loc Cert.SlotsIdeal.main_arg0)) →
    ∃ (v0 : (c : Dev Cert.SlotsIdeal.nD) → Buf (Elt Ideal) ((c.tc : Thread Cert.SlotsIdeal.nD Cert.SlotsIdeal.τ).loc Cert.SlotsIdeal.main_v0)),
      θ_run (Cert.SlotsIdeal.defs (F := Ideal)) (onTc (τ := Cert.SlotsIdeal.τ) (Cert.SlotsIdeal.main (F := Ideal))) ⟨m, fun _ => 0, g⟩ (fun r => ∀ c : Dev Cert.SlotsIdeal.nD,
          r.2.mem ((c.tc : Thread Cert.SlotsIdeal.nD Cert.SlotsIdeal.τ).loc Cert.SlotsIdeal.main_v0) = v0 c
          ∧ r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0))
      ∧ θ_run (Cert.SlotsRefIdeal.defs (F := Ideal)) (onTc (τ := Cert.SlotsRefIdeal.τ) (Cert.SlotsRefIdeal.main (F := Ideal))) ⟨m', fun _ => 0, g'⟩ (fun r => ∀ c : Dev Cert.SlotsRefIdeal.nD,
          r.2.mem ((c.tc : Thread Cert.SlotsRefIdeal.nD Cert.SlotsRefIdeal.τ).loc Cert.SlotsRefIdeal.main_v0) = v0 c
          ∧ r.2.mem ((c.tc : Thread Cert.SlotsRefIdeal.nD Cert.SlotsRefIdeal.τ).loc Cert.SlotsRefIdeal.main_arg0) = m' ((c.tc : Thread Cert.SlotsRefIdeal.nD Cert.SlotsRefIdeal.τ).loc Cert.SlotsRefIdeal.main_arg0))

def Claim : Prop :=
  ∃ (hKernel : Cert.Kernel.Facts) (hKernelIdeal : Cert.KernelIdeal.Facts) (hReferenceIdeal : Cert.ReferenceIdeal.Facts) (hSwiglu : Cert.Swiglu.Facts) (hSwigluIdeal : Cert.SwigluIdeal.Facts) (hSwigluRefIdeal : Cert.SwigluRefIdeal.Facts) (hDownWeight : Cert.DownWeight.Facts) (hDownWeightIdeal : Cert.DownWeightIdeal.Facts) (hDownWeightRefIdeal : Cert.DownWeightRefIdeal.Facts) (hUpWeight : Cert.UpWeight.Facts) (hUpWeightIdeal : Cert.UpWeightIdeal.Facts) (hUpWeightRefIdeal : Cert.UpWeightRefIdeal.Facts) (hUpInput : Cert.UpInput.Facts) (hUpInputIdeal : Cert.UpInputIdeal.Facts) (hUpInputRefIdeal : Cert.UpInputRefIdeal.Facts) (hRgIn : Cert.RgIn.Facts) (hRgInIdeal : Cert.RgInIdeal.Facts) (hRgInRefIdeal : Cert.RgInRefIdeal.Facts) (hAbIn : Cert.AbIn.Facts) (hAbInIdeal : Cert.AbInIdeal.Facts) (hAbInRefIdeal : Cert.AbInRefIdeal.Facts) (hMixOut : Cert.MixOut.Facts) (hMixOutIdeal : Cert.MixOutIdeal.Facts) (hMixOutRefIdeal : Cert.MixOutRefIdeal.Facts) (hMixOutInput : Cert.MixOutInput.Facts) (hMixOutInputIdeal : Cert.MixOutInputIdeal.Facts) (hMixOutInputRefIdeal : Cert.MixOutInputRefIdeal.Facts) (hRgInput : Cert.RgInput.Facts) (hRgInputIdeal : Cert.RgInputIdeal.Facts) (hRgInputRefIdeal : Cert.RgInputRefIdeal.Facts) (hAbInput : Cert.AbInput.Facts) (hAbInputIdeal : Cert.AbInputIdeal.Facts) (hAbInputRefIdeal : Cert.AbInputRefIdeal.Facts) (hMixOutWeight : Cert.MixOutWeight.Facts) (hMixOutWeightIdeal : Cert.MixOutWeightIdeal.Facts) (hMixOutWeightRefIdeal : Cert.MixOutWeightRefIdeal.Facts) (hRgWeight : Cert.RgWeight.Facts) (hRgWeightIdeal : Cert.RgWeightIdeal.Facts) (hRgWeightRefIdeal : Cert.RgWeightRefIdeal.Facts) (hAbWeight : Cert.AbWeight.Facts) (hAbWeightIdeal : Cert.AbWeightIdeal.Facts) (hAbWeightRefIdeal : Cert.AbWeightRefIdeal.Facts) (hGateBwd : Cert.GateBwd.Facts) (hGateBwdIdeal : Cert.GateBwdIdeal.Facts) (hGateBwdRefIdeal : Cert.GateBwdRefIdeal.Facts) (hGate : Cert.Gate.Facts) (hGateIdeal : Cert.GateIdeal.Facts) (hGateRefIdeal : Cert.GateRefIdeal.Facts) (hConvBwd : Cert.ConvBwd.Facts) (hConvBwdIdeal : Cert.ConvBwdIdeal.Facts) (hConvBwdRefIdeal : Cert.ConvBwdRefIdeal.Facts) (hPostBwd : Cert.PostBwd.Facts) (hPostBwdIdeal : Cert.PostBwdIdeal.Facts) (hPostBwdRefIdeal : Cert.PostBwdRefIdeal.Facts) (hPreBwd : Cert.PreBwd.Facts) (hPreBwdIdeal : Cert.PreBwdIdeal.Facts) (hPreBwdRefIdeal : Cert.PreBwdRefIdeal.Facts) (hPost : Cert.Post.Facts) (hPostIdeal : Cert.PostIdeal.Facts) (hPostRefIdeal : Cert.PostRefIdeal.Facts) (hConv : Cert.Conv.Facts) (hConvIdeal : Cert.ConvIdeal.Facts) (hConvRefIdeal : Cert.ConvRefIdeal.Facts) (hPre : Cert.Pre.Facts) (hPreIdeal : Cert.PreIdeal.Facts) (hPreRefIdeal : Cert.PreRefIdeal.Facts) (hLru : Cert.Lru.Facts) (hLruIdeal : Cert.LruIdeal.Facts) (hLruRefIdeal : Cert.LruRefIdeal.Facts) (hMixBwd : Cert.MixBwd.Facts) (hMixBwdIdeal : Cert.MixBwdIdeal.Facts) (hMixBwdRefIdeal : Cert.MixBwdRefIdeal.Facts) (hMix : Cert.Mix.Facts) (hMixIdeal : Cert.MixIdeal.Facts) (hMixRefIdeal : Cert.MixRefIdeal.Facts) (hUpdate : Cert.Update.Facts) (hUpdateIdeal : Cert.UpdateIdeal.Facts) (hUpdateRefIdeal : Cert.UpdateRefIdeal.Facts) (hMixIn : Cert.MixIn.Facts) (hMixInIdeal : Cert.MixInIdeal.Facts) (hMixInRefIdeal : Cert.MixInRefIdeal.Facts) (hAdaBwd : Cert.AdaBwd.Facts) (hAdaBwdIdeal : Cert.AdaBwdIdeal.Facts) (hAdaBwdRefIdeal : Cert.AdaBwdRefIdeal.Facts) (hAda : Cert.Ada.Facts) (hAdaIdeal : Cert.AdaIdeal.Facts) (hAdaRefIdeal : Cert.AdaRefIdeal.Facts) (hCond : Cert.Cond.Facts) (hCondIdeal : Cert.CondIdeal.Facts) (hCondRefIdeal : Cert.CondRefIdeal.Facts) (hLast : Cert.Last.Facts) (hLastIdeal : Cert.LastIdeal.Facts) (hLastRefIdeal : Cert.LastRefIdeal.Facts) (hMconvBwd : Cert.MconvBwd.Facts) (hMconvBwdIdeal : Cert.MconvBwdIdeal.Facts) (hMconvBwdRefIdeal : Cert.MconvBwdRefIdeal.Facts) (hMconv : Cert.Mconv.Facts) (hMconvIdeal : Cert.MconvIdeal.Facts) (hMconvRefIdeal : Cert.MconvRefIdeal.Facts) (hPostMixBwd : Cert.PostMixBwd.Facts) (hPostMixBwdIdeal : Cert.PostMixBwdIdeal.Facts) (hPostMixBwdRefIdeal : Cert.PostMixBwdRefIdeal.Facts) (hPostMix : Cert.PostMix.Facts) (hPostMixIdeal : Cert.PostMixIdeal.Facts) (hPostMixRefIdeal : Cert.PostMixRefIdeal.Facts) (hSlots : Cert.Slots.Facts) (hSlotsIdeal : Cert.SlotsIdeal.Facts) (hSlotsRefIdeal : Cert.SlotsRefIdeal.Facts) (hPre_finite : Cert.Pre_finite.Facts) (hPre_post_finite : Cert.Pre_post_finite.Facts),
    quiescent_Kernel (hKernel := hKernel)
    ∧ quiescent_KernelIdeal (hKernelIdeal := hKernelIdeal)
    ∧ quiescent_ReferenceIdeal (hReferenceIdeal := hReferenceIdeal)
    ∧ quiescent_Swiglu (hSwiglu := hSwiglu)
    ∧ quiescent_SwigluIdeal (hSwigluIdeal := hSwigluIdeal)
    ∧ quiescent_SwigluIdeal_pre_finite (hSwigluIdeal := hSwigluIdeal) (hPre_finite := hPre_finite)
    ∧ quiescent_SwigluRefIdeal (hSwigluRefIdeal := hSwigluRefIdeal)
    ∧ quiescent_SwigluRefIdeal_pre_finite (hSwigluRefIdeal := hSwigluRefIdeal) (hPre_finite := hPre_finite)
    ∧ quiescent_DownWeight (hDownWeight := hDownWeight)
    ∧ quiescent_DownWeightIdeal (hDownWeightIdeal := hDownWeightIdeal)
    ∧ quiescent_DownWeightRefIdeal (hDownWeightRefIdeal := hDownWeightRefIdeal)
    ∧ quiescent_UpWeight (hUpWeight := hUpWeight)
    ∧ quiescent_UpWeightIdeal (hUpWeightIdeal := hUpWeightIdeal)
    ∧ quiescent_UpWeightRefIdeal (hUpWeightRefIdeal := hUpWeightRefIdeal)
    ∧ quiescent_UpInput (hUpInput := hUpInput)
    ∧ quiescent_UpInputIdeal (hUpInputIdeal := hUpInputIdeal)
    ∧ quiescent_UpInputRefIdeal (hUpInputRefIdeal := hUpInputRefIdeal)
    ∧ quiescent_RgIn (hRgIn := hRgIn)
    ∧ quiescent_RgInIdeal (hRgInIdeal := hRgInIdeal)
    ∧ quiescent_RgInRefIdeal (hRgInRefIdeal := hRgInRefIdeal)
    ∧ quiescent_AbIn (hAbIn := hAbIn)
    ∧ quiescent_AbInIdeal (hAbInIdeal := hAbInIdeal)
    ∧ quiescent_AbInRefIdeal (hAbInRefIdeal := hAbInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixOutInput (hMixOutInput := hMixOutInput)
    ∧ quiescent_MixOutInputIdeal (hMixOutInputIdeal := hMixOutInputIdeal)
    ∧ quiescent_MixOutInputRefIdeal (hMixOutInputRefIdeal := hMixOutInputRefIdeal)
    ∧ quiescent_RgInput (hRgInput := hRgInput)
    ∧ quiescent_RgInputIdeal (hRgInputIdeal := hRgInputIdeal)
    ∧ quiescent_RgInputRefIdeal (hRgInputRefIdeal := hRgInputRefIdeal)
    ∧ quiescent_AbInput (hAbInput := hAbInput)
    ∧ quiescent_AbInputIdeal (hAbInputIdeal := hAbInputIdeal)
    ∧ quiescent_AbInputRefIdeal (hAbInputRefIdeal := hAbInputRefIdeal)
    ∧ quiescent_MixOutWeight (hMixOutWeight := hMixOutWeight)
    ∧ quiescent_MixOutWeightIdeal (hMixOutWeightIdeal := hMixOutWeightIdeal)
    ∧ quiescent_MixOutWeightRefIdeal (hMixOutWeightRefIdeal := hMixOutWeightRefIdeal)
    ∧ quiescent_RgWeight (hRgWeight := hRgWeight)
    ∧ quiescent_RgWeightIdeal (hRgWeightIdeal := hRgWeightIdeal)
    ∧ quiescent_RgWeightRefIdeal (hRgWeightRefIdeal := hRgWeightRefIdeal)
    ∧ quiescent_AbWeight (hAbWeight := hAbWeight)
    ∧ quiescent_AbWeightIdeal (hAbWeightIdeal := hAbWeightIdeal)
    ∧ quiescent_AbWeightRefIdeal (hAbWeightRefIdeal := hAbWeightRefIdeal)
    ∧ quiescent_GateBwd (hGateBwd := hGateBwd)
    ∧ quiescent_GateBwdIdeal (hGateBwdIdeal := hGateBwdIdeal)
    ∧ quiescent_GateBwdRefIdeal (hGateBwdRefIdeal := hGateBwdRefIdeal)
    ∧ quiescent_Gate (hGate := hGate)
    ∧ quiescent_GateIdeal (hGateIdeal := hGateIdeal)
    ∧ quiescent_GateRefIdeal (hGateRefIdeal := hGateRefIdeal)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_PostBwd (hPostBwd := hPostBwd)
    ∧ quiescent_PostBwdIdeal (hPostBwdIdeal := hPostBwdIdeal)
    ∧ quiescent_PostBwdIdeal_pre_post_finite (hPostBwdIdeal := hPostBwdIdeal) (hPre_post_finite := hPre_post_finite)
    ∧ quiescent_PostBwdRefIdeal (hPostBwdRefIdeal := hPostBwdRefIdeal)
    ∧ quiescent_PostBwdRefIdeal_pre_post_finite (hPostBwdRefIdeal := hPostBwdRefIdeal) (hPre_post_finite := hPre_post_finite)
    ∧ quiescent_PreBwd (hPreBwd := hPreBwd)
    ∧ quiescent_PreBwdIdeal (hPreBwdIdeal := hPreBwdIdeal)
    ∧ quiescent_PreBwdRefIdeal (hPreBwdRefIdeal := hPreBwdRefIdeal)
    ∧ quiescent_Post (hPost := hPost)
    ∧ quiescent_PostIdeal (hPostIdeal := hPostIdeal)
    ∧ quiescent_PostRefIdeal (hPostRefIdeal := hPostRefIdeal)
    ∧ quiescent_Conv (hConv := hConv)
    ∧ quiescent_ConvIdeal (hConvIdeal := hConvIdeal)
    ∧ quiescent_ConvRefIdeal (hConvRefIdeal := hConvRefIdeal)
    ∧ quiescent_Pre (hPre := hPre)
    ∧ quiescent_PreIdeal (hPreIdeal := hPreIdeal)
    ∧ quiescent_PreRefIdeal (hPreRefIdeal := hPreRefIdeal)
    ∧ quiescent_Lru (hLru := hLru)
    ∧ quiescent_LruIdeal (hLruIdeal := hLruIdeal)
    ∧ quiescent_LruRefIdeal (hLruRefIdeal := hLruRefIdeal)
    ∧ quiescent_MixBwd (hMixBwd := hMixBwd)
    ∧ quiescent_MixBwdIdeal (hMixBwdIdeal := hMixBwdIdeal)
    ∧ quiescent_MixBwdRefIdeal (hMixBwdRefIdeal := hMixBwdRefIdeal)
    ∧ quiescent_Mix (hMix := hMix)
    ∧ quiescent_MixIdeal (hMixIdeal := hMixIdeal)
    ∧ quiescent_MixRefIdeal (hMixRefIdeal := hMixRefIdeal)
    ∧ quiescent_Update (hUpdate := hUpdate)
    ∧ quiescent_UpdateIdeal (hUpdateIdeal := hUpdateIdeal)
    ∧ quiescent_UpdateRefIdeal (hUpdateRefIdeal := hUpdateRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_Ada (hAda := hAda)
    ∧ quiescent_AdaIdeal (hAdaIdeal := hAdaIdeal)
    ∧ quiescent_AdaRefIdeal (hAdaRefIdeal := hAdaRefIdeal)
    ∧ quiescent_Cond (hCond := hCond)
    ∧ quiescent_CondIdeal (hCondIdeal := hCondIdeal)
    ∧ quiescent_CondRefIdeal (hCondRefIdeal := hCondRefIdeal)
    ∧ quiescent_Last (hLast := hLast)
    ∧ quiescent_LastIdeal (hLastIdeal := hLastIdeal)
    ∧ quiescent_LastRefIdeal (hLastRefIdeal := hLastRefIdeal)
    ∧ quiescent_MconvBwd (hMconvBwd := hMconvBwd)
    ∧ quiescent_MconvBwdIdeal (hMconvBwdIdeal := hMconvBwdIdeal)
    ∧ quiescent_MconvBwdRefIdeal (hMconvBwdRefIdeal := hMconvBwdRefIdeal)
    ∧ quiescent_Mconv (hMconv := hMconv)
    ∧ quiescent_MconvIdeal (hMconvIdeal := hMconvIdeal)
    ∧ quiescent_MconvRefIdeal (hMconvRefIdeal := hMconvRefIdeal)
    ∧ quiescent_PostMixBwd (hPostMixBwd := hPostMixBwd)
    ∧ quiescent_PostMixBwdIdeal (hPostMixBwdIdeal := hPostMixBwdIdeal)
    ∧ quiescent_PostMixBwdIdeal_pre_post_finite (hPostMixBwdIdeal := hPostMixBwdIdeal) (hPre_post_finite := hPre_post_finite)
    ∧ quiescent_PostMixBwdRefIdeal (hPostMixBwdRefIdeal := hPostMixBwdRefIdeal)
    ∧ quiescent_PostMixBwdRefIdeal_pre_post_finite (hPostMixBwdRefIdeal := hPostMixBwdRefIdeal) (hPre_post_finite := hPre_post_finite)
    ∧ quiescent_PostMix (hPostMix := hPostMix)
    ∧ quiescent_PostMixIdeal (hPostMixIdeal := hPostMixIdeal)
    ∧ quiescent_PostMixRefIdeal (hPostMixRefIdeal := hPostMixRefIdeal)
    ∧ quiescent_Slots (hSlots := hSlots)
    ∧ quiescent_SlotsIdeal (hSlotsIdeal := hSlotsIdeal)
    ∧ quiescent_SlotsRefIdeal (hSlotsRefIdeal := hSlotsRefIdeal)
    ∧ preserves_Kernel_KernelIdeal
    ∧ algebraic_KernelIdeal_ReferenceIdeal (hKernelIdeal := hKernelIdeal) (hReferenceIdeal := hReferenceIdeal)
    ∧ preserves_Swiglu_SwigluIdeal
    ∧ algebraic_SwigluIdeal_SwigluRefIdeal_pre_finite (hSwigluIdeal := hSwigluIdeal) (hSwigluRefIdeal := hSwigluRefIdeal) (hPre_finite := hPre_finite)
    ∧ preserves_DownWeight_DownWeightIdeal
    ∧ algebraic_DownWeightIdeal_DownWeightRefIdeal (hDownWeightIdeal := hDownWeightIdeal) (hDownWeightRefIdeal := hDownWeightRefIdeal)
    ∧ preserves_UpWeight_UpWeightIdeal
    ∧ algebraic_UpWeightIdeal_UpWeightRefIdeal (hUpWeightIdeal := hUpWeightIdeal) (hUpWeightRefIdeal := hUpWeightRefIdeal)
    ∧ preserves_UpInput_UpInputIdeal
    ∧ algebraic_UpInputIdeal_UpInputRefIdeal (hUpInputIdeal := hUpInputIdeal) (hUpInputRefIdeal := hUpInputRefIdeal)
    ∧ preserves_RgIn_RgInIdeal
    ∧ algebraic_RgInIdeal_RgInRefIdeal (hRgInIdeal := hRgInIdeal) (hRgInRefIdeal := hRgInRefIdeal)
    ∧ preserves_AbIn_AbInIdeal
    ∧ algebraic_AbInIdeal_AbInRefIdeal (hAbInIdeal := hAbInIdeal) (hAbInRefIdeal := hAbInRefIdeal)
    ∧ preserves_MixOut_MixOutIdeal
    ∧ algebraic_MixOutIdeal_MixOutRefIdeal (hMixOutIdeal := hMixOutIdeal) (hMixOutRefIdeal := hMixOutRefIdeal)
    ∧ preserves_MixOutInput_MixOutInputIdeal
    ∧ algebraic_MixOutInputIdeal_MixOutInputRefIdeal (hMixOutInputIdeal := hMixOutInputIdeal) (hMixOutInputRefIdeal := hMixOutInputRefIdeal)
    ∧ preserves_RgInput_RgInputIdeal
    ∧ algebraic_RgInputIdeal_RgInputRefIdeal (hRgInputIdeal := hRgInputIdeal) (hRgInputRefIdeal := hRgInputRefIdeal)
    ∧ preserves_AbInput_AbInputIdeal
    ∧ algebraic_AbInputIdeal_AbInputRefIdeal (hAbInputIdeal := hAbInputIdeal) (hAbInputRefIdeal := hAbInputRefIdeal)
    ∧ preserves_MixOutWeight_MixOutWeightIdeal
    ∧ algebraic_MixOutWeightIdeal_MixOutWeightRefIdeal (hMixOutWeightIdeal := hMixOutWeightIdeal) (hMixOutWeightRefIdeal := hMixOutWeightRefIdeal)
    ∧ preserves_RgWeight_RgWeightIdeal
    ∧ algebraic_RgWeightIdeal_RgWeightRefIdeal (hRgWeightIdeal := hRgWeightIdeal) (hRgWeightRefIdeal := hRgWeightRefIdeal)
    ∧ preserves_AbWeight_AbWeightIdeal
    ∧ algebraic_AbWeightIdeal_AbWeightRefIdeal (hAbWeightIdeal := hAbWeightIdeal) (hAbWeightRefIdeal := hAbWeightRefIdeal)
    ∧ preserves_GateBwd_GateBwdIdeal
    ∧ algebraic_GateBwdIdeal_GateBwdRefIdeal (hGateBwdIdeal := hGateBwdIdeal) (hGateBwdRefIdeal := hGateBwdRefIdeal)
    ∧ preserves_Gate_GateIdeal
    ∧ algebraic_GateIdeal_GateRefIdeal (hGateIdeal := hGateIdeal) (hGateRefIdeal := hGateRefIdeal)
    ∧ preserves_ConvBwd_ConvBwdIdeal
    ∧ algebraic_ConvBwdIdeal_ConvBwdRefIdeal (hConvBwdIdeal := hConvBwdIdeal) (hConvBwdRefIdeal := hConvBwdRefIdeal)
    ∧ preserves_PostBwd_PostBwdIdeal
    ∧ algebraic_PostBwdIdeal_PostBwdRefIdeal_pre_post_finite (hPostBwdIdeal := hPostBwdIdeal) (hPostBwdRefIdeal := hPostBwdRefIdeal) (hPre_post_finite := hPre_post_finite)
    ∧ preserves_PreBwd_PreBwdIdeal
    ∧ algebraic_PreBwdIdeal_PreBwdRefIdeal (hPreBwdIdeal := hPreBwdIdeal) (hPreBwdRefIdeal := hPreBwdRefIdeal)
    ∧ preserves_Post_PostIdeal
    ∧ algebraic_PostIdeal_PostRefIdeal (hPostIdeal := hPostIdeal) (hPostRefIdeal := hPostRefIdeal)
    ∧ preserves_Conv_ConvIdeal
    ∧ algebraic_ConvIdeal_ConvRefIdeal (hConvIdeal := hConvIdeal) (hConvRefIdeal := hConvRefIdeal)
    ∧ preserves_Pre_PreIdeal
    ∧ algebraic_PreIdeal_PreRefIdeal (hPreIdeal := hPreIdeal) (hPreRefIdeal := hPreRefIdeal)
    ∧ preserves_Lru_LruIdeal
    ∧ algebraic_LruIdeal_LruRefIdeal (hLruIdeal := hLruIdeal) (hLruRefIdeal := hLruRefIdeal)
    ∧ preserves_MixBwd_MixBwdIdeal
    ∧ algebraic_MixBwdIdeal_MixBwdRefIdeal (hMixBwdIdeal := hMixBwdIdeal) (hMixBwdRefIdeal := hMixBwdRefIdeal)
    ∧ preserves_Mix_MixIdeal
    ∧ algebraic_MixIdeal_MixRefIdeal (hMixIdeal := hMixIdeal) (hMixRefIdeal := hMixRefIdeal)
    ∧ preserves_Update_UpdateIdeal
    ∧ algebraic_UpdateIdeal_UpdateRefIdeal (hUpdateIdeal := hUpdateIdeal) (hUpdateRefIdeal := hUpdateRefIdeal)
    ∧ preserves_MixIn_MixInIdeal
    ∧ algebraic_MixInIdeal_MixInRefIdeal (hMixInIdeal := hMixInIdeal) (hMixInRefIdeal := hMixInRefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_Ada_AdaIdeal
    ∧ algebraic_AdaIdeal_AdaRefIdeal (hAdaIdeal := hAdaIdeal) (hAdaRefIdeal := hAdaRefIdeal)
    ∧ preserves_Cond_CondIdeal
    ∧ algebraic_CondIdeal_CondRefIdeal (hCondIdeal := hCondIdeal) (hCondRefIdeal := hCondRefIdeal)
    ∧ preserves_Last_LastIdeal
    ∧ algebraic_LastIdeal_LastRefIdeal (hLastIdeal := hLastIdeal) (hLastRefIdeal := hLastRefIdeal)
    ∧ preserves_MconvBwd_MconvBwdIdeal
    ∧ algebraic_MconvBwdIdeal_MconvBwdRefIdeal (hMconvBwdIdeal := hMconvBwdIdeal) (hMconvBwdRefIdeal := hMconvBwdRefIdeal)
    ∧ preserves_Mconv_MconvIdeal
    ∧ algebraic_MconvIdeal_MconvRefIdeal (hMconvIdeal := hMconvIdeal) (hMconvRefIdeal := hMconvRefIdeal)
    ∧ preserves_PostMixBwd_PostMixBwdIdeal
    ∧ algebraic_PostMixBwdIdeal_PostMixBwdRefIdeal_pre_post_finite (hPostMixBwdIdeal := hPostMixBwdIdeal) (hPostMixBwdRefIdeal := hPostMixBwdRefIdeal) (hPre_post_finite := hPre_post_finite)
    ∧ preserves_PostMix_PostMixIdeal
    ∧ algebraic_PostMixIdeal_PostMixRefIdeal (hPostMixIdeal := hPostMixIdeal) (hPostMixRefIdeal := hPostMixRefIdeal)
    ∧ preserves_Slots_SlotsIdeal
    ∧ algebraic_SlotsIdeal_SlotsRefIdeal (hSlotsIdeal := hSlotsIdeal) (hSlotsRefIdeal := hSlotsRefIdeal)
-- ==== Pre_finite.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .bf16) (main_arg1 : FVec F S1024x2816 .bf16) (main_arg2 : FVec F S1024x2816 .bf16) (main_arg3 : FVec F S2816x1024 .bf16) (main_arg4 : FVec F S4096x1024 .bf16) : IVec S4096x1024 1 × IVec S1024x2816 1 × IVec S2816x1024 1 × IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S1024x2816 .f32 := (extf .f32 · bitsLt_bf16_f32) main_arg2
  let main_v5 : FVec F S1024x2816 .f32 := Host.absf main_v4
  let main_cst_0 : FVec F S_ .f32 := constant S_ .f32 0x7F800000#32
  let main_v6 : FVec F S1024x2816 .f32 := broadcastInDim S1024x2816 ![] bcast_S_S1024x2816 main_cst_0
  let main_v7 : IVec S1024x2816 1 := cmpf .olt main_v5 main_v6
  let main_v8 : FVec F S2816x1024 .f32 := (extf .f32 · bitsLt_bf16_f32) main_arg3
  let main_v9 : FVec F S2816x1024 .f32 := Host.absf main_v8
  let main_cst_1 : FVec F S_ .f32 := constant S_ .f32 0x7F800000#32
  let main_v10 : FVec F S2816x1024 .f32 := broadcastInDim S2816x1024 ![] bcast_S_S2816x1024 main_cst_1
  let main_v11 : IVec S2816x1024 1 := cmpf .olt main_v9 main_v10
  let main_v12 : FVec F S4096x1024 .f32 := (extf .f32 · bitsLt_bf16_f32) main_arg4
  let main_v13 : FVec F S4096x1024 .f32 := Host.absf main_v12
  let main_cst_2 : FVec F S_ .f32 := constant S_ .f32 0x7F800000#32
  let main_v14 : FVec F S4096x1024 .f32 := broadcastInDim S4096x1024 ![] bcast_S_S4096x1024 main_cst_2
  let main_v15 : IVec S4096x1024 1 := cmpf .olt main_v13 main_v14
  (main_v3, main_v7, main_v11, main_v15)
-- ==== Pre_post_finite.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S1x1024 .f32) (main_arg5 : FVec F S1x1024 .f32) (main_arg6 : FVec F S1x1024 .f32) (main_arg7 : FVec F S1x1024 .f32) (main_arg8 : FVec F S1x1024 .f32) : IVec S4096x1024 1 × IVec S4096x1024 1 × IVec S1x1024 1 × IVec S1x1024 1 :=
  let main_v0 : FVec F S4096x1024 .f32 := Host.absf main_arg2
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg3
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg5
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg7
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Kernel.lean ====
abbrev S4096x1024 : Shape := ⟨2, ![4096, 1024]⟩
abbrev S128x1024 : Shape := ⟨2, ![128, 1024]⟩
abbrev S8x1024 : Shape := ⟨2, ![8, 1024]⟩
abbrev S1x1024 : Shape := ⟨2, ![1, 1024]⟩

abbrev nBuf : Space → Nat
  | .hbm => 5
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S8x1024, .f32⟩
  | .local _ .vmem, ⟨5, _⟩ => ⟨S8x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4096x1024 : Shape := ⟨2, ![4096, 1024]⟩
abbrev S_ : Shape := ⟨0, ![]⟩
abbrev S1x1024 : Shape := ⟨2, ![1, 1024]⟩
abbrev S4095x1024 : Shape := ⟨2, ![4095, 1024]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S1x1024, .f32⟩
  | .hbm, ⟨5, _⟩ => ⟨S4095x1024, .f32⟩
  | .hbm, ⟨6, _⟩ => ⟨S4096x1024, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S_, .i32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .i32⟩
  | .hbm, ⟨20, _⟩ => ⟨S1024, .f32⟩
  | .hbm, ⟨21, _⟩ => ⟨S4096x1024, .f32⟩
  | .hbm, ⟨22, _⟩ => ⟨S4096x1024, .f32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1x1024, .f32⟩
  | .hbm, ⟨31, _⟩ => ⟨S1024, .f32⟩
  | .hbm, ⟨32, _⟩ => ⟨S_, .i32⟩
  | .hbm, ⟨33, _⟩ => ⟨S1x1024, .f32⟩
  | .hbm, ⟨34, _⟩ => ⟨S1024, .f32⟩
  | .hbm, ⟨35, _⟩ => ⟨S_, .i32⟩
  | .hbm, ⟨36, _⟩ => ⟨S1x1024, .f32⟩
  | .hbm, ⟨37, _⟩ => ⟨S1024, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S1x1024, .f32⟩
  | .hbm, ⟨42, _⟩ => ⟨S_, .i32⟩
  | .hbm, ⟨43, _⟩ => ⟨S4096x1024, .f32⟩
  | .hbm, ⟨44, _⟩ => ⟨S1x1024, .f32⟩
  | .hbm, ⟨45, _⟩ => ⟨S_, .i32⟩
  | .hbm, ⟨46, _⟩ => ⟨S4096x1024, .f32⟩
  | .hbm, ⟨47, _⟩ => ⟨S_, .i32⟩
  | .hbm, ⟨48, _⟩ => ⟨S_, .i32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_c : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_v7_6 : Ref sig .tc := ⟨.hbm, 22, rfl⟩
abbrev main_while0c_c_10 : Ref sig .tc := ⟨.hbm, 23, rfl⟩
abbrev main_while0c_v8 : Ref sig .tc := ⟨.hbm, 24, rfl⟩
abbrev main_while0b_c_10 : Ref sig .tc := ⟨.hbm, 25, rfl⟩
abbrev main_while0b_v8 : Ref sig .tc := ⟨.hbm, 26, rfl⟩
abbrev main_while0b_c_11 : Ref sig .tc := ⟨.hbm, 27, rfl⟩
abbrev main_while0b_v9 : Ref sig .tc := ⟨.hbm, 28, rfl⟩
abbrev main_while0b_call0_c : Ref sig .tc := ⟨.hbm, 29, rfl⟩
abbrev main_while0b_call0_v0 : Ref sig .tc := ⟨.hbm, 30, rfl⟩
abbrev main_while0b_v10 : Ref sig .tc := ⟨.hbm, 31, rfl⟩
abbrev main_while0b_call1_c : Ref sig .tc := ⟨.hbm, 32, rfl⟩
abbrev main_while0b_call1_v0 : Ref sig .tc := ⟨.hbm, 33, rfl⟩
abbrev main_while0b_v11 : Ref sig .tc := ⟨.hbm, 34, rfl⟩
abbrev main_while0b_call2_c : Ref sig .tc := ⟨.hbm, 35, rfl⟩
abbrev main_while0b_call2_v0 : Ref sig .tc := ⟨.hbm, 36, rfl⟩
abbrev main_while0b_v12 : Ref sig .tc := ⟨.hbm, 37, rfl⟩
abbrev main_while0b_v13 : Ref sig .tc := ⟨.hbm, 38, rfl⟩
abbrev main_while0b_v14 : Ref sig .tc := ⟨.hbm, 39, rfl⟩
abbrev main_while0b_v15 : Ref sig .tc := ⟨.hbm, 40, rfl⟩
abbrev main_while0b_call3_v0 : Ref sig .tc := ⟨.hbm, 41, rfl⟩
abbrev main_while0b_call3_c : Ref sig .tc := ⟨.hbm, 42, rfl⟩
abbrev main_while0b_v16 : Ref sig .tc := ⟨.hbm, 43, rfl⟩
abbrev main_while0b_call4_v0 : Ref sig .tc := ⟨.hbm, 44, rfl⟩
abbrev main_while0b_call4_c : Ref sig .tc := ⟨.hbm, 45, rfl⟩
abbrev main_while0b_v17 : Ref sig .tc := ⟨.hbm, 46, rfl⟩
abbrev main_while0b_c_12 : Ref sig .tc := ⟨.hbm, 47, rfl⟩
abbrev main_while0b_v18 : Ref sig .tc := ⟨.hbm, 48, rfl⟩

abbrev nD : Nat := 1
abbrev τ : Topo := Topo.v7x

variable {F : FTy → Type} [FloatOps F]

abbrev main_while0_count : Scf.Loop 32 := ⟨0#32, 4096#32, 1#32⟩
-- ==== Swiglu.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S1024x1408 : Shape := ⟨2, ![1024, 1408]⟩
abbrev S512x1408 : Shape := ⟨2, ![512, 1408]⟩
abbrev S1024x1024 : Shape := ⟨2, ![1024, 1024]⟩
abbrev S1408x1024 : Shape := ⟨2, ![1408, 1024]⟩

abbrev nBuf : Space → Nat
  | .hbm => 11
  | .vmem => 31
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S4096x1024, .bf16⟩
  | .hbm, ⟨5, _⟩ => ⟨S4096x2816, .bf16⟩
  | .hbm, ⟨6, _⟩ => ⟨S4096x2816, .bf16⟩
  | .hbm, ⟨7, _⟩ => ⟨S4096x2816, .bf16⟩
  | .hbm, ⟨8, _⟩ => ⟨S4096x1024, .f32⟩
  | .hbm, ⟨9, _⟩ => ⟨S4096x2816, .bf16⟩
  | .hbm, ⟨10, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S512x1024, .bf16⟩
  | .local _ .vmem, ⟨5, _⟩ => ⟨S512x1024, .bf16⟩
  | .local _ .vmem, ⟨6, _⟩ => ⟨S1024x1408, .bf16⟩
  | .local _ .vmem, ⟨7, _⟩ => ⟨S1024x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S1024x1024, .f32⟩
  | .local _ .vmem, ⟨18, _⟩ => ⟨S1024x1024, .f32⟩
  | .local _ .vmem, ⟨19, _⟩ => ⟨S512x1024, .bf16⟩
  | .local _ .vmem, ⟨20, _⟩ => ⟨S512x1024, .bf16⟩
  | .local _ .vmem, ⟨21, _⟩ => ⟨S1408x1024, .bf16⟩
  | .local _ .vmem, ⟨22, _⟩ => ⟨S1408x1024, .bf16⟩
  | .local _ .vmem, ⟨23, _⟩ => ⟨S512x1408, .bf16⟩
  | .local _ .vmem, ⟨24, _⟩ => ⟨S512x1408, .bf16⟩
  | .local _ .vmem, ⟨25, _⟩ => ⟨S512x1408, .bf16⟩
  | .local _ .vmem, ⟨26, _⟩ => ⟨S512x1408, .bf16⟩
  | .local _ .vmem, ⟨27, _⟩ => ⟨S512x1408, .bf16⟩
  | .local _ .vmem, ⟨28, _⟩ => ⟨S512x1408, .bf16⟩
  | .local _ .vmem, ⟨29, _⟩ => ⟨S512x1408, .bf16⟩
  | .local _ .vmem, ⟨30, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem5_1 : DmaSem sig := 30

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 2 → Memref sig .tc .vmem S1408x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S512x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S512x1408 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S512x1408 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 2 → Memref sig .tc .vmem S512x1408 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]
-- ==== SwigluRefIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S4096x1024, .bf16⟩
  | .hbm, ⟨5, _⟩ => ⟨S4096x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S4096x1024, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x1024, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .bf16⟩
  | .hbm, ⟨47, _⟩ => ⟨S4096x2816, .bf16⟩
  | .hbm, ⟨48, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_v11_2 : Ref sig .tc := ⟨.hbm, 31, rfl⟩
abbrev main_call1_cst_1 : Ref sig .tc := ⟨.hbm, 32, rfl⟩
abbrev main_call1_v6 : Ref sig .tc := ⟨.hbm, 33, rfl⟩
abbrev main_call1_v7 : Ref sig .tc := ⟨.hbm, 34, rfl⟩
abbrev main_v11_1 : Ref sig .tc := ⟨.hbm, 35, rfl⟩
abbrev main_v11_0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩

abbrev nD : Nat := 1
abbrev τ : Topo := Topo.v7x

variable {F : FTy → Type} [FloatOps F]
-- ==== DownWeight.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWeightRefIdeal.lean ====
abbrev S4096x2816 : Shape := ⟨2, ![4096, 2816]⟩
abbrev S4096x1024 : Shape := ⟨2, ![4096, 1024]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UpWeight.lean ====
abbrev S4096x1024 : Shape := ⟨2, ![4096, 1024]⟩
abbrev S4096x2816 : Shape := ⟨2, ![4096, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWeightRefIdeal.lean ====
abbrev S4096x1024 : Shape := ⟨2, ![4096, 1024]⟩
abbrev S4096x2816 : Shape := ⟨2, ![4096, 2816]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S1024x2816, .f32⟩
  | .hbm, ⟨6, _⟩ => ⟨S1024x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UpInput.lean ====
abbrev S4096x2816 : Shape := ⟨2, ![4096, 2816]⟩
abbrev S1024x2816 : Shape := ⟨2, ![1024, 2816]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .bf16⟩
  | .hbm, ⟨2, _⟩ => ⟨S4096x2816, .bf16⟩
  | .hbm, ⟨3, _⟩ => ⟨S1024x2816, .bf16⟩
  | .hbm, ⟨4, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== UpInputRefIdeal.lean ====
abbrev S4096x2816 : Shape := ⟨2, ![4096, 2816]⟩
abbrev S1024x2816 : Shape := ⟨2, ![1024, 2816]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .bf16⟩
  | .hbm, ⟨2, _⟩ => ⟨S4096x2816, .bf16⟩
  | .hbm, ⟨3, _⟩ => ⟨S1024x2816, .bf16⟩
  | .hbm, ⟨4, _⟩ => ⟨S4096x2816, .f32⟩
  | .hbm, ⟨5, _⟩ => ⟨S1024x2816, .f32⟩
  | .hbm, ⟨6, _⟩ => ⟨S4096x2816, .f32⟩
  | .hbm, ⟨7, _⟩ => ⟨S1024x2816, .f32⟩
  | .hbm, ⟨8, _⟩ => ⟨S4096x1024, .f32⟩
  | .hbm, ⟨9, _⟩ => ⟨S4096x1024, .f32⟩
  | .hbm, ⟨10, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== RgIn.lean ====
abbrev S4096x1024 : Shape := ⟨2, ![4096, 1024]⟩
abbrev S1024x2048 : Shape := ⟨2, ![1024, 2048]⟩
abbrev S4096x2048 : Shape := ⟨2, ![4096, 2048]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RgInRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AbIn.lean ====
abbrev S4096x1024 : Shape := ⟨2, ![4096, 1024]⟩
abbrev S1024x3712 : Shape := ⟨2, ![1024, 3712]⟩
abbrev S4096x3712 : Shape := ⟨2, ![4096, 3712]⟩
abbrev S256x1024 : Shape := ⟨2, ![256, 1024]⟩
abbrev S256x3712 : Shape := ⟨2, ![256, 3712]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x3712, .bf16⟩
  | .hbm, ⟨2, _⟩ => ⟨S4096x3712, .f32⟩
  | .local _ .vmem, ⟨0, _⟩ => ⟨S256x1024, .bf16⟩
  | .local _ .vmem, ⟨1, _⟩ => ⟨S256x1024, .bf16⟩
  | .local _ .vmem, ⟨2, _⟩ => ⟨S1024x3712, .bf16⟩
  | .local _ .vmem, ⟨3, _⟩ => ⟨S256x3712, .f32⟩
  | .local _ .vmem, ⟨4, _⟩ => ⟨S256x3712, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3712 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x3712 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInRefIdeal.lean ====
abbrev S4096x1024 : Shape := ⟨2, ![4096, 1024]⟩
abbrev S1024x3712 : Shape := ⟨2, ![1024, 3712]⟩
abbrev S4096x3712 : Shape := ⟨2, ![4096, 3712]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3712, .bf16⟩
  | .hbm, ⟨2, _⟩ => ⟨S4096x1024, .f32⟩
  | .hbm, ⟨3, _⟩ => ⟨S1024x3712, .f32⟩
  | .hbm, ⟨4, _⟩ => ⟨S4096x3712, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOut.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOutInput.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutInputRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RgInput.lean ====
abbrev S4096x2048 : Shape := ⟨2, ![4096, 2048]⟩
abbrev S1024x2048 : Shape := ⟨2, ![1024, 2048]⟩
abbrev S4096x1024 : Shape := ⟨2, ![4096, 1024]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RgInputRefIdeal.lean ====
abbrev S4096x2048 : Shape := ⟨2, ![4096, 2048]⟩
abbrev S1024x2048 : Shape := ⟨2, ![1024, 2048]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x2048, .f32⟩
  | .hbm, ⟨3, _⟩ => ⟨S1024x2048, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AbInput.lean ====
abbrev S4096x3712 : Shape := ⟨2, ![4096, 3712]⟩
abbrev S1024x3712 : Shape := ⟨2, ![1024, 3712]⟩
abbrev S4096x1024 : Shape := ⟨2, ![4096, 1024]⟩
abbrev S512x3712 : Shape := ⟨2, ![512, 3712]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x3712, .bf16⟩
  | .hbm, ⟨1, _⟩ => ⟨S1024x3712, .bf16⟩
  | .hbm, ⟨2, _⟩ => ⟨S4096x1024, .f32⟩
  | .local _ .vmem, ⟨0, _⟩ => ⟨S512x3712, .bf16⟩
  | .local _ .vmem, ⟨1, _⟩ => ⟨S512x3712, .bf16⟩
  | .local _ .vmem, ⟨2, _⟩ => ⟨S1024x3712, .bf16⟩
  | .local _ .vmem, ⟨3, _⟩ => ⟨S512x1024, .f32⟩
  | .local _ .vmem, ⟨4, _⟩ => ⟨S512x1024, .f32⟩
  | _, _ => ⟨S4096x3712, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3712 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInputRefIdeal.lean ====
abbrev S4096x3712 : Shape := ⟨2, ![4096, 3712]⟩
abbrev S1024x3712 : Shape := ⟨2, ![1024, 3712]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x3712, .bf16⟩
  | .hbm, ⟨1, _⟩ => ⟨S1024x3712, .bf16⟩
  | .hbm, ⟨2, _⟩ => ⟨S4096x3712, .f32⟩
  | .hbm, ⟨3, _⟩ => ⟨S1024x3712, .f32⟩
  | .hbm, ⟨4, _⟩ => ⟨S4096x1024, .f32⟩
  | _, _ => ⟨S4096x3712, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOutWeight.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixOutWeightRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== RgWeight.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RgWeightRefIdeal.lean ====
abbrev S4096x1024 : Shape := ⟨2, ![4096, 1024]⟩
abbrev S4096x2048 : Shape := ⟨2, ![4096, 2048]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S1024x2048, .f32⟩
  | .hbm, ⟨6, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AbWeight.lean ====
abbrev S4096x1024 : Shape := ⟨2, ![4096, 1024]⟩
abbrev S4096x3712 : Shape := ⟨2, ![4096, 3712]⟩
abbrev S1024x3712 : Shape := ⟨2, ![1024, 3712]⟩
abbrev S1024x256 : Shape := ⟨2, ![1024, 256]⟩
abbrev S256x3712 : Shape := ⟨2, ![256, 3712]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3712, .bf16⟩
  | .hbm, ⟨2, _⟩ => ⟨S1024x3712, .bf16⟩
  | .local _ .vmem, ⟨0, _⟩ => ⟨S1024x256, .bf16⟩
  | .local _ .vmem, ⟨1, _⟩ => ⟨S1024x256, .bf16⟩
  | .local _ .vmem, ⟨2, _⟩ => ⟨S1024x3712, .bf16⟩
  | .local _ .vmem, ⟨3, _⟩ => ⟨S1024x3712, .bf16⟩
  | .local _ .vmem, ⟨4, _⟩ => ⟨S256x3712, .bf16⟩
  | .local _ .vmem, ⟨5, _⟩ => ⟨S256x3712, .bf16⟩
  | .local _ .vmem, ⟨6, _⟩ => ⟨S256x3712, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3712 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x3712 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbWeightRefIdeal.lean ====
abbrev S4096x1024 : Shape := ⟨2, ![4096, 1024]⟩
abbrev S4096x3712 : Shape := ⟨2, ![4096, 3712]⟩
abbrev S3712x1024 : Shape := ⟨2, ![3712, 1024]⟩
abbrev S1024x3712 : Shape := ⟨2, ![1024, 3712]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3712, .bf16⟩
  | .hbm, ⟨2, _⟩ => ⟨S4096x1024, .f32⟩
  | .hbm, ⟨3, _⟩ => ⟨S4096x3712, .f32⟩
  | .hbm, ⟨4, _⟩ => ⟨S3712x1024, .f32⟩
  | .hbm, ⟨5, _⟩ => ⟨S1024x3712, .f32⟩
  | .hbm, ⟨6, _⟩ => ⟨S1024x3712, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GateBwd.lean ====
abbrev S4096x1024 : Shape := ⟨2, ![4096, 1024]⟩
abbrev S4096x2048 : Shape := ⟨2, ![4096, 2048]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S4096x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateBwdRefIdeal.lean ====
abbrev S4096x1024 : Shape := ⟨2, ![4096, 1024]⟩
abbrev S4096x2048 : Shape := ⟨2, ![4096, 2048]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Gate.lean ====
abbrev S4096x1024 : Shape := ⟨2, ![4096, 1024]⟩
abbrev S4096x2048 : Shape := ⟨2, ![4096, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateRefIdeal.lean ====
abbrev S4096x1024 : Shape := ⟨2, ![4096, 1024]⟩
abbrev S4096x2048 : Shape := ⟨2, ![4096, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== ConvBwd.lean ====
abbrev S4096x2048 : Shape := ⟨2, ![4096, 2048]⟩
abbrev S4096x1024 : Shape := ⟨2, ![4096, 1024]⟩
abbrev S4x1024 : Shape := ⟨2, ![4, 1024]⟩
abbrev S1x1024 : Shape := ⟨2, ![1, 1024]⟩
abbrev S512x1024 : Shape := ⟨2, ![512, 1024]⟩
abbrev S8x1024 : Shape := ⟨2, ![8, 1024]⟩
abbrev S520x1024 : Shape := ⟨2, ![520, 1024]⟩
abbrev S1024 : Shape := ⟨1, ![1024]⟩

abbrev nBuf : Space → Nat
  | .hbm => 6
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4x1024, .f32⟩
  | .hbm, ⟨3, _⟩ => ⟨S4096x1024, .bf16⟩
  | .hbm, ⟨4, _⟩ => ⟨S4x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S8x1024, .f32⟩
  | .local _ .vmem, ⟨8, _⟩ => ⟨S4x1024, .f32⟩
  | .local _ .vmem, ⟨9, _⟩ => ⟨S512x1024, .bf16⟩
  | .local _ .vmem, ⟨10, _⟩ => ⟨S512x1024, .bf16⟩
  | .local _ .vmem, ⟨11, _⟩ => ⟨S4x1024, .f32⟩
  | .local _ .vmem, ⟨12, _⟩ => ⟨S1x1024, .f32⟩
  | .local _ .vmem, ⟨13, _⟩ => ⟨S520x1024, .f32⟩
  | .local _ .vmem, ⟨14, _⟩ => ⟨S520x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvBwdRefIdeal.lean ====
abbrev S4096x2048 : Shape := ⟨2, ![4096, 2048]⟩
abbrev S4096x1024 : Shape := ⟨2, ![4096, 1024]⟩
abbrev S4x1024 : Shape := ⟨2, ![4, 1024]⟩
abbrev S_ : Shape := ⟨0, ![]⟩
abbrev S1x1024 : Shape := ⟨2, ![1, 1024]⟩
abbrev S3x1024 : Shape := ⟨2, ![3, 1024]⟩
abbrev S4099x1024 : Shape := ⟨2, ![4099, 1024]⟩
abbrev S1024 : Shape := ⟨1, ![1024]⟩

abbrev nBuf : Space → Nat
  | .hbm => 106
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S3x1024, .f32⟩
  | .hbm, ⟨9, _⟩ => ⟨S4099x1024, .f32⟩
  | .hbm, ⟨10, _⟩ => ⟨S_, .f32⟩
  | .hbm, ⟨11, _⟩ => ⟨S3x1024, .f32⟩
  | .hbm, ⟨12, _⟩ => ⟨S1x1024, .f32⟩
  | .hbm, ⟨13, _⟩ => ⟨S1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S_, .f32⟩
  | .hbm, ⟨54, _⟩ => ⟨S4099x1024, .f32⟩
  | .hbm, ⟨55, _⟩ => ⟨S1x1024, .f32⟩
  | .hbm, ⟨56, _⟩ => ⟨S_, .f32⟩
  | .hbm, ⟨57, _⟩ => ⟨S4x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S_, .f32⟩
  | .hbm, ⟨65, _⟩ => ⟨S1024, .f32⟩
  | .hbm, ⟨66, _⟩ => ⟨S_, .f32⟩
  | .hbm, ⟨67, _⟩ => ⟨S4099x1024, .f32⟩
  | .hbm, ⟨68, _⟩ => ⟨S4099x1024, .f32⟩
  | .hbm, ⟨69, _⟩ => ⟨S1x1024, .f32⟩
  | .hbm, ⟨70, _⟩ => ⟨S_, .f32⟩
  | .hbm, ⟨71, _⟩ => ⟨S4x1024, .f32⟩
  | .hbm, ⟨72, _⟩ => ⟨S4x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S_, .f32⟩
  | .hbm, ⟨80, _⟩ => ⟨S1024, .f32⟩
  | .hbm, ⟨81, _⟩ => ⟨S_, .f32⟩
  | .hbm, ⟨82, _⟩ => ⟨S4099x1024, .f32⟩
  | .hbm, ⟨83, _⟩ => ⟨S4099x1024, .f32⟩
  | .hbm, ⟨84, _⟩ => ⟨S1x1024, .f32⟩
  | .hbm, ⟨85, _⟩ => ⟨S_, .f32⟩
  | .hbm, ⟨86, _⟩ => ⟨S4x1024, .f32⟩
  | .hbm, ⟨87, _⟩ => ⟨S4x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S_, .f32⟩
  | .hbm, ⟨95, _⟩ => ⟨S1024, .f32⟩
  | .hbm, ⟨96, _⟩ => ⟨S_, .f32⟩
  | .hbm, ⟨97, _⟩ => ⟨S4099x1024, .f32⟩
  | .hbm, ⟨98, _⟩ => ⟨S4099x1024, .f32⟩
  | .hbm, ⟨99, _⟩ => ⟨S1x1024, .f32⟩
  | .hbm, ⟨100, _⟩ => ⟨S_, .f32⟩
  | .hbm, ⟨101, _⟩ => ⟨S4x1024, .f32⟩
  | .hbm, ⟨102, _⟩ => ⟨S4x1024, .f32⟩
  | .hbm, ⟨103, _⟩ => ⟨S3x1024, .f32⟩
  | .hbm, ⟨104, _⟩ => ⟨S4096x1024, .f32⟩
  | .hbm, ⟨105, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_14 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_15 : Ref sig .tc := ⟨.hbm, 91, rfl⟩
abbrev main_v72 : Ref sig .tc := ⟨.hbm, 92, rfl⟩
abbrev main_v73 : Ref sig .tc := ⟨.hbm, 93, rfl⟩
abbrev main_cst_16 : Ref sig .tc := ⟨.hbm, 94, rfl⟩
abbrev main_v74 : Ref sig .tc := ⟨.hbm, 95, rfl⟩
abbrev main_cst_17 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_18 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩

abbrev nD : Nat := 1
abbrev τ : Topo := Topo.v7x

variable {F : FTy → Type} [FloatOps F]
-- ==== PostBwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== PostBwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 127
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1x1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x1024, .f32⟩
  | .hbm, ⟨88, _⟩ => ⟨S4096x1024, .f32⟩
  | .hbm, ⟨89, _⟩ => ⟨S4096x1, .f32⟩
  | .hbm, ⟨90, _⟩ => ⟨S4096x1024, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S_, .f32⟩
  | .hbm, ⟨103, _⟩ => ⟨S4096, .f32⟩
  | .hbm, ⟨104, _⟩ => ⟨S4096x1, .f32⟩
  | .hbm, ⟨105, _⟩ => ⟨S4096x1024, .f32⟩
  | .hbm, ⟨106, _⟩ => ⟨S4096x1, .f32⟩
  | .hbm, ⟨107, _⟩ => ⟨S_, .f32⟩
  | .hbm, ⟨108, _⟩ => ⟨S4096x1, .f32⟩
  | .hbm, ⟨109, _⟩ => ⟨S4096x1, .f32⟩
  | .hbm, ⟨110, _⟩ => ⟨S_, .f32⟩
  | .hbm, ⟨111, _⟩ => ⟨S4096, .f32⟩
  | .hbm, ⟨112, _⟩ => ⟨S4096x1024, .f32⟩
  | .hbm, ⟨113, _⟩ => ⟨S4096x1024, .f32⟩
  | .hbm, ⟨114, _⟩ => ⟨S4096x1024, .f32⟩
  | .hbm, ⟨115, _⟩ => ⟨S4096x1024, .f32⟩
  | .hbm, ⟨116, _⟩ => ⟨S4096x1024, .f32⟩
  | .hbm, ⟨117, _⟩ => ⟨S_, .f32⟩
  | .hbm, ⟨118, _⟩ => ⟨S1024, .f32⟩
  | .hbm, ⟨119, _⟩ => ⟨S1x1024, .f32⟩
  | .hbm, ⟨120, _⟩ => ⟨S_, .f32⟩
  | .hbm, ⟨121, _⟩ => ⟨S1x1024, .f32⟩
  | .hbm, ⟨122, _⟩ => ⟨S1x1024, .f32⟩
  | .hbm, ⟨123, _⟩ => ⟨S_, .f32⟩
  | .hbm, ⟨124, _⟩ => ⟨S4096x1024, .f32⟩
  | .hbm, ⟨125, _⟩ => ⟨S4096x1024, .f32⟩
  | .hbm, ⟨126, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_14 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_15 : Ref sig .tc := ⟨.hbm, 91, rfl⟩
abbrev main_v66 : Ref sig .tc := ⟨.hbm, 92, rfl⟩
abbrev main_v67 : Ref sig .tc := ⟨.hbm, 93, rfl⟩
abbrev main_cst_16 : Ref sig .tc := ⟨.hbm, 94, rfl⟩
abbrev main_v68 : Ref sig .tc := ⟨.hbm, 95, rfl⟩
abbrev main_v69 : Ref sig .tc := ⟨.hbm, 96, rfl⟩
abbrev main_cst_17 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_18 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_19 : Ref sig .tc := ⟨.hbm, 107, rfl⟩
abbrev main_v78 : Ref sig .tc := ⟨.hbm, 108, rfl⟩
abbrev main_v79 : Ref sig .tc := ⟨.hbm, 109, rfl⟩
abbrev main_cst_20 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_21 : Ref sig .tc := ⟨.hbm, 117, rfl⟩
abbrev main_v86 : Ref sig .tc := ⟨.hbm, 118, rfl⟩
abbrev main_v87 : Ref sig .tc := ⟨.hbm, 119, rfl⟩
abbrev main_cst_22 : Ref sig .tc := ⟨.hbm, 120, rfl⟩
abbrev main_v88 : Ref sig .tc := ⟨.hbm, 121, rfl⟩
abbrev main_v89 : Ref sig .tc := ⟨.hbm, 122, rfl⟩
abbrev main_cst_23 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]
-- ==== PreBwd.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PreBwdRefIdeal.lean ====
abbrev S4096x1024 : Shape := ⟨2, ![4096, 1024]⟩
abbrev S1x1024 : Shape := ⟨2, ![1, 1024]⟩
abbrev S_ : Shape := ⟨0, ![]⟩
abbrev S1024 : Shape := ⟨1, ![1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S4096x1024, .f32⟩
  | .hbm, ⟨17, _⟩ => ⟨S_, .f32⟩
  | .hbm, ⟨18, _⟩ => ⟨S1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Post.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PostRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== Conv.lean ====
abbrev S4096x2048 : Shape := ⟨2, ![4096, 2048]⟩
abbrev S4x1024 : Shape := ⟨2, ![4, 1024]⟩
abbrev S1x1024 : Shape := ⟨2, ![1, 1024]⟩
abbrev S4096x1024 : Shape := ⟨2, ![4096, 1024]⟩
abbrev S512x1024 : Shape := ⟨2, ![512, 1024]⟩
abbrev S8x1024 : Shape := ⟨2, ![8, 1024]⟩
abbrev S520x1024 : Shape := ⟨2, ![520, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4x1024, .f32⟩
  | .hbm, ⟨2, _⟩ => ⟨S1x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S4x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S520x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvRefIdeal.lean ====
abbrev S4096x2048 : Shape := ⟨2, ![4096, 2048]⟩
abbrev S4x1024 : Shape := ⟨2, ![4, 1024]⟩
abbrev S1x1024 : Shape := ⟨2, ![1, 1024]⟩
abbrev S4096x1024 : Shape := ⟨2, ![4096, 1024]⟩
abbrev S_ : Shape := ⟨0, ![]⟩
abbrev S3x1024 : Shape := ⟨2, ![3, 1024]⟩
abbrev S4099x1024 : Shape := ⟨2, ![4099, 1024]⟩
abbrev S1024 : Shape := ⟨1, ![1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S3x1024, .f32⟩
  | .hbm, ⟨7, _⟩ => ⟨S4099x1024, .f32⟩
  | .hbm, ⟨8, _⟩ => ⟨S1x1024, .f32⟩
  | .hbm, ⟨9, _⟩ => ⟨S1024, .f32⟩
  | .hbm, ⟨10, _⟩ => ⟨S4096x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]
-- ==== Pre.lean ====
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PreRefIdeal.lean ====
abbrev S4096x1024 : Shape := ⟨2, ![4096, 1024]⟩
abbrev S1x1024 : Shape := ⟨2, ![1, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Lru.lean ====
abbrev S4096x1024 : Shape := ⟨2, ![4096, 1024]⟩
abbrev S128x1024 : Shape := ⟨2, ![128, 1024]⟩
abbrev S1x1024 : Shape := ⟨2, ![1, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LruRefIdeal.lean ====
abbrev S4096x1024 : Shape := ⟨2, ![4096, 1024]⟩
abbrev S_ : Shape := ⟨0, ![]⟩
abbrev S1024 : Shape := ⟨1, ![1024]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024, .f32⟩
  | .hbm, ⟨4, _⟩ => ⟨S_, .f32⟩
  | .hbm, ⟨5, _⟩ => ⟨S4096x1024, .f32⟩
  | .hbm, ⟨6, _⟩ => ⟨S_, .i32⟩
  | .hbm, ⟨7, _⟩ => ⟨S4096x1024, .f32⟩
  | .hbm, ⟨8, _⟩ => ⟨S4096x1024, .f32⟩
  | .hbm, ⟨9, _⟩ => ⟨S_, .i32⟩
  | .hbm, ⟨10, _⟩ => ⟨S1024, .f32⟩
  | .hbm, ⟨11, _⟩ => ⟨S4096x1024, .f32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S1x1024, .f32⟩
  | .hbm, ⟨16, _⟩ => ⟨S1024, .f32⟩
  | .hbm, ⟨17, _⟩ => ⟨S_, .i32⟩
  | .hbm, ⟨18, _⟩ => ⟨S1x1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024, .f32⟩
  | .hbm, ⟨23, _⟩ => ⟨S_, .i32⟩
  | .hbm, ⟨24, _⟩ => ⟨S4096x1024, .f32⟩
  | .hbm, ⟨25, _⟩ => ⟨S_, .i32⟩
  | .hbm, ⟨26, _⟩ => ⟨S_, .i32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_c : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_while0c_c_5 : Ref sig .tc := ⟨.hbm, 12, rfl⟩
abbrev main_while0c_v3 : Ref sig .tc := ⟨.hbm, 13, rfl⟩
abbrev main_while0b_call0_c : Ref sig .tc := ⟨.hbm, 14, rfl⟩
abbrev main_while0b_call0_v0 : Ref sig .tc := ⟨.hbm, 15, rfl⟩
abbrev main_while0b_v3 : Ref sig .tc := ⟨.hbm, 16, rfl⟩
abbrev main_while0b_call1_c : Ref sig .tc := ⟨.hbm, 17, rfl⟩
abbrev main_while0b_call1_v0 : Ref sig .tc := ⟨.hbm, 18, rfl⟩
abbrev main_while0b_v4 : Ref sig .tc := ⟨.hbm, 19, rfl⟩
abbrev main_while0b_v5 : Ref sig .tc := ⟨.hbm, 20, rfl⟩
abbrev main_while0b_v6 : Ref sig .tc := ⟨.hbm, 21, rfl⟩
abbrev main_while0b_call2_v0 : Ref sig .tc := ⟨.hbm, 22, rfl⟩
abbrev main_while0b_call2_c : Ref sig .tc := ⟨.hbm, 23, rfl⟩
abbrev main_while0b_v7 : Ref sig .tc := ⟨.hbm, 24, rfl⟩
abbrev main_while0b_c_5 : Ref sig .tc := ⟨.hbm, 25, rfl⟩
abbrev main_while0b_v8 : Ref sig .tc := ⟨.hbm, 26, rfl⟩

abbrev nD : Nat := 1
abbrev τ : Topo := Topo.v7x

variable {F : FTy → Type} [FloatOps F]

abbrev main_while0_count : Scf.Loop 32 := ⟨0#32, 4096#32, 1#32⟩
-- ==== MixBwd.lean ====
abbrev S4096x512 : Shape := ⟨2, ![4096, 512]⟩
abbrev S4096x3712 : Shape := ⟨2, ![4096, 3712]⟩
abbrev S4096x1024 : Shape := ⟨2, ![4096, 1024]⟩
abbrev S1x512 : Shape := ⟨2, ![1, 512]⟩
abbrev S4x1x128 : Shape := ⟨3, ![4, 1, 128]⟩
abbrev S512x512 : Shape := ⟨2, ![512, 512]⟩
abbrev S512x1024 : Shape := ⟨2, ![512, 1024]⟩
abbrev S512x128 : Shape := ⟨2, ![512, 128]⟩
abbrev S1x1x128 : Shape := ⟨3, ![1, 1, 128]⟩
abbrev S1x128 : Shape := ⟨2, ![1, 128]⟩
abbrev S512 : Shape := ⟨1, ![512]⟩
abbrev S512x1 : Shape := ⟨2, ![512, 1]⟩
abbrev S128 : Shape := ⟨1, ![128]⟩

abbrev nBuf : Space → Nat
  | .hbm => 19
  | .vmem => 28
  | .smem => 0
  | _ => 0

abbrev bufTy : (tb : Table) → Fin (tcTables nBuf tb) → BufTy
  | .hbm, ⟨0, _⟩ => ⟨S4096x512, .f32⟩
  | .hbm, ⟨1, _⟩ => ⟨S4096x3712, .f32⟩
  | .hbm, ⟨2, _⟩ => ⟨S4096x512, .f32⟩
  | .hbm, ⟨3, _⟩ => ⟨S4096x512, .f32⟩
  | .hbm, ⟨4, _⟩ => ⟨S4096x1024, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S4x1x128, .f32⟩
  | .hbm, ⟨9, _⟩ => ⟨S4x1x128, .f32⟩
  | .hbm, ⟨10, _⟩ => ⟨S4x1x128, .f32⟩
  | .hbm, ⟨11, _⟩ => ⟨S4096x512, .f32⟩
  | .hbm, ⟨12, _⟩ => ⟨S4096x512, .bf16⟩
  | .hbm, ⟨13, _⟩ => ⟨S4096x512, .f32⟩
  | .hbm, ⟨14, _⟩ => ⟨S4096x512, .f32⟩
  | .hbm, ⟨15, _⟩ => ⟨S4096x512, .bf16⟩
  | .hbm, ⟨16, _⟩ => ⟨S4x1x128, .f32⟩
  | .hbm, ⟨17, _⟩ => ⟨S4x1x128, .f32⟩
  | .hbm, ⟨18, _⟩ => ⟨S4x1x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S4x1x128, .f32⟩
  | .local _ .vmem, ⟨13, _⟩ => ⟨S4x1x128, .f32⟩
  | .local _ .vmem, ⟨14, _⟩ => ⟨S4x1x128, .f32⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .bf16⟩
  | .local _ .vmem, ⟨24, _⟩ => ⟨S512x512, .bf16⟩
  | .local _ .vmem, ⟨25, _⟩ => ⟨S4x1x128, .f32⟩
  | .local _ .vmem, ⟨26, _⟩ => ⟨S4x1x128, .f32⟩
  | .local _ .vmem, ⟨27, _⟩ => ⟨S4x1x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev main_v3_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S4x1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MixBwdRefIdeal.lean ====
abbrev S4096x512 : Shape := ⟨2, ![4096, 512]⟩
abbrev S4096x3712 : Shape := ⟨2, ![4096, 3712]⟩
abbrev S4096x1024 : Shape := ⟨2, ![4096, 1024]⟩
abbrev S1x512 : Shape := ⟨2, ![1, 512]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S512 : Shape := ⟨1, ![512]⟩
abbrev S4x1x128 : Shape := ⟨3, ![4, 1, 128]⟩

abbrev nBuf : Space → Nat
  | .hbm => 180
  | .vmem => 0
  | .smem => 0
  | _ => 0

abbrev hbmTy0_0 (i : Nat) : BufTy := match i % 128 with
  | 0 => ⟨S4096x512, .f32⟩
  | 1 => ⟨S4096x3712, .f32⟩
  | 2 => ⟨S4096x512, .f32⟩
  | 3 => ⟨S4096x512, .f32⟩
  | 4 => ⟨S4096x1024, .f32⟩
  | 5 => ⟨S1x512, .f32⟩
  | 6 => ⟨S1x512, .f32⟩
  | 7 => ⟨S1x512, .f32⟩
  | 8 => ⟨S4096x512, .f32⟩
  | 9 => ⟨S4096x512, .f32⟩
  | 10 => ⟨S4096x4x128, .f32⟩
  | 11 => ⟨S4096x4x128, .f32⟩
  | 12 => ⟨S_, .f32⟩
  | 13 => ⟨S4096x4x128, .f32⟩
  | 14 => ⟨S4096x4x128, .f32⟩
  | 15 => ⟨S_, .f32⟩
  | 16 => ⟨S4096x4, .f32⟩
  | 17 => ⟨S4096x4x1, .f32⟩
  | 18 => ⟨S_, .f32⟩
  | 19 => ⟨S4096x4x1, .f32⟩
  | 20 => ⟨S4096x4x1, .f32⟩
  | 21 => ⟨S_, .f32⟩
  | 22 => ⟨S4096x4x1, .f32⟩
  | 23 => ⟨S4096x4x1, .f32⟩
  | 24 => ⟨S4096x4x1, .f32⟩
  | 25 => ⟨S4096x4x1, .f32⟩
  | 26 => ⟨S_, .f32⟩
  | 27 => ⟨S4096x4x1, .f32⟩
  | 28 => ⟨S4096x4x1, .f32⟩
  | 29 => ⟨S4096x4x128, .f32⟩
  | 30 => ⟨S4096x4x128, .f32⟩
  | 31 => ⟨S4096x512, .f32⟩
  | 32 => ⟨S4096x512, .f32⟩
  | 33 => ⟨S4096x512, .f32⟩
  | 34 => ⟨S4096x512, .f32⟩
  | 35 => ⟨S4096x512, .f32⟩
  | 36 => ⟨S_, .f32⟩
  | 37 => ⟨S4096x512, .f32⟩
  | 38 => ⟨S4096x512, .f32⟩
  | 39 => ⟨S_, .f32⟩
  | 40 => ⟨S4096x512, .f32⟩
  | 41 => ⟨S4096x512, .f32⟩
  | 42 => ⟨S_, .f32⟩
  | 43 => ⟨S4096x512, .f32⟩
  | 44 => ⟨S4096x512, .f32⟩
  | 45 => ⟨S4096x512, .f32⟩
  | 46 => ⟨S4096x512, .f32⟩
  | 47 => ⟨S4096x512, .f32⟩
  | 48 => ⟨S4096x4x128, .f32⟩
  | 49 => ⟨S_, .f32⟩
  | 50 => ⟨S4096x4, .f32⟩
  | 51 => ⟨S4096x4x1, .f32⟩
  | 52 => ⟨S_, .f32⟩
  | 53 => ⟨S4096x4x1, .f32⟩
  | 54 => ⟨S4096x4x1, .f32⟩
  | 55 => ⟨S4096x4x128, .f32⟩
  | 56 => ⟨S4096x4x128, .f32⟩
  | 57 => ⟨S4096x4x128, .f32⟩
  | 58 => ⟨S_, .f32⟩
  | 59 => ⟨S4096x4x128, .f32⟩
  | 60 => ⟨S4096x4x128, .f32⟩
  | 61 => ⟨S_, .f32⟩
  | 62 => ⟨S4096x4, .f32⟩
  | 63 => ⟨S4096x4x1, .f32⟩
  | 64 => ⟨S_, .f32⟩
  | 65 => ⟨S4096x4x1, .f32⟩
  | 66 => ⟨S4096x4x1, .f32⟩
  | 67 => ⟨S_, .f32⟩
  | 68 => ⟨S4096x4x1, .f32⟩
  | 69 => ⟨S4096x4x1, .f32⟩
  | 70 => ⟨S4096x4x1, .f32⟩
  | 71 => ⟨S4096x4x1, .f32⟩
  | 72 => ⟨S_, .f32⟩
  | 73 => ⟨S4096x4x1, .f32⟩
  | 74 => ⟨S4096x4x1, .f32⟩
  | 75 => ⟨S4096x4x128, .f32⟩
  | 76 => ⟨S4096x4x128, .f32⟩
  | 77 => ⟨S4096x512, .f32⟩
  | 78 => ⟨S4096x512, .f32⟩
  | 79 => ⟨S4096x512, .f32⟩
  | 80 => ⟨S4096x512, .f32⟩
  | 81 => ⟨S4096x512, .f32⟩
  | 82 => ⟨S4096x512, .f32⟩
  | 83 => ⟨S4096x512, .f32⟩
  | 84 => ⟨S4096x512, .f32⟩
  | 85 => ⟨S_, .f32⟩
  | 86 => ⟨S4096x512, .f32⟩
  | 87 => ⟨S4096x512, .f32⟩
  | 88 => ⟨S_, .f32⟩
  | 89 => ⟨S4096x512, .f32⟩
  | 90 => ⟨S4096x512, .f32⟩
  | 91 => ⟨S_, .f32⟩
  | 92 => ⟨S4096x512, .f32⟩
  | 93 => ⟨S4096x512, .f32⟩
  | 94 => ⟨S4096x512, .f32⟩
  | 95 => ⟨S4096x512, .f32⟩
  | 96 => ⟨S4096x512, .f32⟩
  | 97 => ⟨S4096x1024, .f32⟩
  | 98 => ⟨S4096x512, .f32⟩
  | 99 => ⟨S4096x512, .f32⟩
  | 100 => ⟨S4096x512, .f32⟩
  | 101 => ⟨S4096x512, .f32⟩
  | 102 => ⟨S4096x512, .f32⟩
  | 103 => ⟨S4096x512, .f32⟩
  | 104 => ⟨S4096x512, .f32⟩
  | 105 => ⟨S4096x512, .f32⟩
  | 106 => ⟨S4096x512, .f32⟩
  | 107 => ⟨S4096x512, .f32⟩
  | 108 => ⟨S4096x512, .f32⟩
  | 109 => ⟨S_, .f32⟩
  | 110 => ⟨S512, .f32⟩
  | 111 => ⟨S1x512, .f32⟩
  | 112 => ⟨S4096x512, .f32⟩
  | 113 => ⟨S_, .f32⟩
  | 114 => ⟨S512, .f32⟩
  | 115 => ⟨S1x512, .f32⟩
  | 116 => ⟨S4096x512, .f32⟩
  | 117 => ⟨S4096x512, .f32⟩
  | 118 => ⟨S4096x4x128, .f32⟩
  | 119 => ⟨S4096x4x128, .f32⟩
  | 120 => ⟨S_, .f32⟩
  | 121 => ⟨S4096x4, .f32⟩
  | 122 => ⟨S4096x4x1, .f32⟩
  | 123 => ⟨S4096x4x128, .f32⟩
  | 124 => ⟨S4096x4x128, .f32⟩
  | 125 => ⟨S4096x4x1, .f32⟩
  | 126 => ⟨S_, .f32⟩
  | 127 => ⟨S4096x4x1, .f32⟩
  | _ => ⟨S4096x512, .f32⟩

abbrev hbmTy0_1 (i : Nat) : BufTy := match i % 128 with
  | 0 => ⟨S4096x4x1, .f32⟩
  | 1 => ⟨S_, .f32⟩
  | 2 => ⟨S4096x4, .f32⟩
  | 3 => ⟨S4096x4x128, .f32⟩
  | 4 => ⟨S4096x4x128, .f32⟩
  | 5 => ⟨S4096x4x128, .f32⟩
  | 6 => ⟨S4096x4x128, .f32⟩
  | 7 => ⟨S_, .f32⟩
  | 8 => ⟨S4096x4, .f32⟩
  | 9 => ⟨S4096x4x1, .f32⟩
  | 10 => ⟨S_, .f32⟩
  | 11 => ⟨S4096x4x1, .f32⟩
  | 12 => ⟨S4096x4x1, .f32⟩
  | 13 => ⟨S_, .f32⟩
  | 14 => ⟨S4096x4, .f32⟩
  | 15 => ⟨S4096x4x128, .f32⟩
  | 16 => ⟨S4096x4x128, .f32⟩
  | 17 => ⟨S4096x512, .f32⟩
  | 18 => ⟨S4096x512, .f32⟩
  | 19 => ⟨S4096x512, .f32⟩
  | 20 => ⟨S4096x512, .f32⟩
  | 21 => ⟨S4096x512, .f32⟩
  | 22 => ⟨S4096x512, .f32⟩
  | 23 => ⟨S4096x512, .f32⟩
  | 24 => ⟨S4096x512, .f32⟩
  | 25 => ⟨S_, .f32⟩
  | 26 => ⟨S512, .f32⟩
  | 27 => ⟨S1x512, .f32⟩
  | 28 => ⟨S4096x512, .f32⟩
  | 29 => ⟨S4096x512, .f32⟩
  | 30 => ⟨S4096x4x128, .f32⟩
  | 31 => ⟨S4096x4x128, .f32⟩
  | 32 => ⟨S_, .f32⟩
  | 33 => ⟨S4096x4, .f32⟩
  | 34 => ⟨S4096x4x1, .f32⟩
  | 35 => ⟨S4096x4x128, .f32⟩
  | 36 => ⟨S4096x4x128, .f32⟩
  | 37 => ⟨S4096x4x1, .f32⟩
  | 38 => ⟨S_, .f32⟩
  | 39 => ⟨S4096x4x1, .f32⟩
  | 40 => ⟨S4096x4x1, .f32⟩
  | 41 => ⟨S_, .f32⟩
  | 42 => ⟨S4096x4, .f32⟩
  | 43 => ⟨S4096x4x128, .f32⟩
  | 44 => ⟨S4096x4x128, .f32⟩
  | 45 => ⟨S4096x4x128, .f32⟩
  | 46 => ⟨S4096x512, .f32⟩
  | 47 => ⟨S4096x512, .bf16⟩
  | 48 => ⟨S4096x512, .bf16⟩
  | 49 => ⟨S4x1x128, .f32⟩
  | 50 => ⟨S4x1x128, .f32⟩
  | 51 => ⟨S4x1x128, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v21_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v21_1 : Ref sig .tc := ⟨.hbm, 45, rfl⟩
abbrev main_v21_0 : Ref sig .tc := ⟨.hbm, 46, rfl⟩
abbrev main_v22 : Ref sig .tc := ⟨.hbm, 47, rfl⟩
abbrev main_v23 : Ref sig .tc := ⟨.hbm, 48, rfl⟩
abbrev main_cst_4 : Ref sig .tc := ⟨.hbm, 49, rfl⟩
abbrev main_v24 : Ref sig .tc := ⟨.hbm, 50, rfl⟩
abbrev main_v25 : Ref sig .tc := ⟨.hbm, 51, rfl⟩
abbrev main_cst_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_v32 : Ref sig .tc := ⟨.hbm, 60, rfl⟩
abbrev main_cst_7 : Ref sig .tc := ⟨.hbm, 61, rfl⟩
abbrev main_v33 : Ref sig .tc := ⟨.hbm, 62, rfl⟩
abbrev main_v34 : Ref sig .tc := ⟨.hbm, 63, rfl⟩
abbrev main_cst_8 : Ref sig .tc := ⟨.hbm, 64, rfl⟩
abbrev main_v35 : Ref sig .tc := ⟨.hbm, 65, rfl⟩
abbrev main_v36 : Ref sig .tc := ⟨.hbm, 66, rfl⟩
abbrev main_cst_9 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_10 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_v51_2 : Ref sig .tc := ⟨.hbm, 90, rfl⟩
abbrev main_call1_cst_1 : Ref sig .tc := ⟨.hbm, 91, rfl⟩
abbrev main_call1_v6 : Ref sig .tc := ⟨.hbm, 92, rfl⟩
abbrev main_call1_v7 : Ref sig .tc := ⟨.hbm, 93, rfl⟩
abbrev main_v51_1 : Ref sig .tc := ⟨.hbm, 94, rfl⟩
abbrev main_v51_0 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_11 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_cst_12 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_13 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_cst_14 : Ref sig .tc := ⟨.hbm, 126, rfl⟩
abbrev main_v76 : Ref sig .tc := ⟨.hbm, 127, rfl⟩
abbrev main_v77 : Ref sig .tc := ⟨.hbm, 128, rfl⟩
abbrev main_cst_15 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_cst_16 : Ref sig .tc := ⟨.hbm, 135, rfl⟩
abbrev main_v83 : Ref sig .tc := ⟨.hbm, 136, rfl⟩
abbrev main_v84 : Ref sig .tc := ⟨.hbm, 137, rfl⟩
abbrev main_cst_17 : Ref sig .tc := ⟨.hbm, 138, rfl⟩
abbrev main_v85 : Ref sig .tc := ⟨.hbm, 139, rfl⟩
abbrev main_v86 : Ref sig .tc := ⟨.hbm, 140, rfl⟩
abbrev main_cst_18 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_call3_v0 : Ref sig .tc := ⟨.hbm, 148, rfl⟩
abbrev main_call3_v1 : Ref sig .tc := ⟨.hbm, 149, rfl⟩
abbrev main_call3_v2 : Ref sig .tc := ⟨.hbm, 150, rfl⟩
abbrev main_v93 : Ref sig .tc := ⟨.hbm, 151, rfl⟩
abbrev main_v94 : Ref sig .tc := ⟨.hbm, 152, rfl⟩
abbrev main_cst_19 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_cst_20 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_cst_21 : Ref sig .tc := ⟨.hbm, 166, rfl⟩
abbrev main_v106 : Ref sig .tc := ⟨.hbm, 167, rfl⟩
abbrev main_v107 : Ref sig .tc := ⟨.hbm, 168, rfl⟩
abbrev main_cst_22 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩

abbrev nD : Nat := 1
abbrev τ : Topo := Topo.v7x

variable {F : FTy → Type} [FloatOps F]
-- ==== Mix.lean ====
abbrev S4096x512 : Shape := ⟨2, ![4096, 512]⟩
abbrev S4096x3712 : Shape := ⟨2, ![4096, 3712]⟩
abbrev S1x512 : Shape := ⟨2, ![1, 512]⟩
abbrev S4x1x128 : Shape := ⟨3, ![4, 1, 128]⟩
abbrev S4096x1024 : Shape := ⟨2, ![4096, 1024]⟩
abbrev S512x512 : Shape := ⟨2, ![512, 512]⟩
abbrev S512x1024 : Shape := ⟨2, ![512, 1024]⟩
abbrev S512x128 : Shape := ⟨2, ![512, 128]⟩
abbrev S1x1x128 : Shape := ⟨3, ![1, 1, 128]⟩
abbrev S1x128 : Shape := ⟨2, ![1, 128]⟩
abbrev S512 : Shape := ⟨1, ![512]⟩
abbrev S512x1 : Shape := ⟨2, ![512, 1]⟩

abbrev nBuf : Space → Nat
  | .hbm => 11
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096x3712, .f32⟩
  | .hbm, ⟨2, _⟩ => ⟨S4096x512, .f32⟩
  | .hbm, ⟨3, _⟩ => ⟨S4096x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S4x1x128, .f32⟩
  | .hbm, ⟨8, _⟩ => ⟨S4x1x128, .f32⟩
  | .hbm, ⟨9, _⟩ => ⟨S4x1x128, .f32⟩
  | .hbm, ⟨10, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S4x1x128, .f32⟩
  | .local _ .vmem, ⟨11, _⟩ => ⟨S4x1x128, .f32⟩
  | .local _ .vmem, ⟨12, _⟩ => ⟨S4x1x128, .f32⟩
  | .local _ .vmem, ⟨13, _⟩ => ⟨S512x1024, .bf16⟩
  | .local _ .vmem, ⟨14, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixRefIdeal.lean ====
abbrev S4096x512 : Shape := ⟨2, ![4096, 512]⟩
abbrev S4096x3712 : Shape := ⟨2, ![4096, 3712]⟩
abbrev S1x512 : Shape := ⟨2, ![1, 512]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S4096x1024 : Shape := ⟨2, ![4096, 1024]⟩

abbrev nBuf : Space → Nat
  | .hbm => 76
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x3712, .f32⟩
  | .hbm, ⟨2, _⟩ => ⟨S4096x512, .f32⟩
  | .hbm, ⟨3, _⟩ => ⟨S4096x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S4096x512, .f32⟩
  | .hbm, ⟨8, _⟩ => ⟨S4096x512, .f32⟩
  | .hbm, ⟨9, _⟩ => ⟨S4096x4x128, .f32⟩
  | .hbm, ⟨10, _⟩ => ⟨S4096x4x128, .f32⟩
  | .hbm, ⟨11, _⟩ => ⟨S_, .f32⟩
  | .hbm, ⟨12, _⟩ => ⟨S4096x4, .f32⟩
  | .hbm, ⟨13, _⟩ => ⟨S4096x4x1, .f32⟩
  | .hbm, ⟨14, _⟩ => ⟨S_, .f32⟩
  | .hbm, ⟨15, _⟩ => ⟨S4096x4x1, .f32⟩
  | .hbm, ⟨16, _⟩ => ⟨S4096x4x1, .f32⟩
  | .hbm, ⟨17, _⟩ => ⟨S_, .f32⟩
  | .hbm, ⟨18, _⟩ => ⟨S4096x4x1, .f32⟩
  | .hbm, ⟨19, _⟩ => ⟨S4096x4x1, .f32⟩
  | .hbm, ⟨20, _⟩ => ⟨S4096x4x1, .f32⟩
  | .hbm, ⟨21, _⟩ => ⟨S4096x4x128, .f32⟩
  | .hbm, ⟨22, _⟩ => ⟨S4096x4x128, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x4x128, .f32⟩
  | .hbm, ⟨37, _⟩ => ⟨S_, .f32⟩
  | .hbm, ⟨38, _⟩ => ⟨S4096x4, .f32⟩
  | .hbm, ⟨39, _⟩ => ⟨S4096x4x1, .f32⟩
  | .hbm, ⟨40, _⟩ => ⟨S_, .f32⟩
  | .hbm, ⟨41, _⟩ => ⟨S4096x4x1, .f32⟩
  | .hbm, ⟨42, _⟩ => ⟨S4096x4x1, .f32⟩
  | .hbm, ⟨43, _⟩ => ⟨S4096x4x128, .f32⟩
  | .hbm, ⟨44, _⟩ => ⟨S4096x4x128, .f32⟩
  | .hbm, ⟨45, _⟩ => ⟨S4096x4x128, .f32⟩
  | .hbm, ⟨46, _⟩ => ⟨S_, .f32⟩
  | .hbm, ⟨47, _⟩ => ⟨S4096x4, .f32⟩
  | .hbm, ⟨48, _⟩ => ⟨S4096x4x1, .f32⟩
  | .hbm, ⟨49, _⟩ => ⟨S_, .f32⟩
  | .hbm, ⟨50, _⟩ => ⟨S4096x4x1, .f32⟩
  | .hbm, ⟨51, _⟩ => ⟨S4096x4x1, .f32⟩
  | .hbm, ⟨52, _⟩ => ⟨S_, .f32⟩
  | .hbm, ⟨53, _⟩ => ⟨S4096x4x1, .f32⟩
  | .hbm, ⟨54, _⟩ => ⟨S4096x4x1, .f32⟩
  | .hbm, ⟨55, _⟩ => ⟨S4096x4x1, .f32⟩
  | .hbm, ⟨56, _⟩ => ⟨S4096x4x128, .f32⟩
  | .hbm, ⟨57, _⟩ => ⟨S4096x4x128, .f32⟩
  | .hbm, ⟨58, _⟩ => ⟨S4096x512, .f32⟩
  | .hbm, ⟨59, _⟩ => ⟨S4096x512, .f32⟩
  | .hbm, ⟨60, _⟩ => ⟨S4096x512, .f32⟩
  | .hbm, ⟨61, _⟩ => ⟨S4096x512, .f32⟩
  | .hbm, ⟨62, _⟩ => ⟨S4096x512, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S_, .f32⟩
  | .hbm, ⟨67, _⟩ => ⟨S4096x512, .f32⟩
  | .hbm, ⟨68, _⟩ => ⟨S4096x512, .f32⟩
  | .hbm, ⟨69, _⟩ => ⟨S_, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S4096x512, .f32⟩
  | .hbm, ⟨74, _⟩ => ⟨S4096x1024, .f32⟩
  | .hbm, ⟨75, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩

abbrev nD : Nat := 1
abbrev τ : Topo := Topo.v7x

variable {F : FTy → Type} [FloatOps F]
-- ==== Update.lean ====
abbrev S1x1024x256 : Shape := ⟨3, ![1, 1024, 256]⟩
abbrev S8x1024x256 : Shape := ⟨3, ![8, 1024, 256]⟩
abbrev S1024x256 : Shape := ⟨2, ![1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x1024x256, .f32⟩
  | .hbm, ⟨1, _⟩ => ⟨S1x1024x256, .f32⟩
  | .hbm, ⟨2, _⟩ => ⟨S1x1024x256, .f32⟩
  | .hbm, ⟨3, _⟩ => ⟨S8x1024x256, .bf16⟩
  | .hbm, ⟨4, _⟩ => ⟨S1x1024x256, .f32⟩
  | .hbm, ⟨5, _⟩ => ⟨S1x1024x256, .f32⟩
  | .hbm, ⟨6, _⟩ => ⟨S1x1024x256, .f32⟩
  | .hbm, ⟨7, _⟩ => ⟨S1x1024x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S8x1024x256, .bf16⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | _, _ => ⟨S1x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdateRefIdeal.lean ====
abbrev S1x1024x256 : Shape := ⟨3, ![1, 1024, 256]⟩
abbrev S8x1024x256 : Shape := ⟨3, ![8, 1024, 256]⟩
abbrev S_ : Shape := ⟨0, ![]⟩
abbrev S1024x256 : Shape := ⟨2, ![1024, 256]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x256, .f32⟩
  | .hbm, ⟨1, _⟩ => ⟨S1x1024x256, .f32⟩
  | .hbm, ⟨2, _⟩ => ⟨S1x1024x256, .f32⟩
  | .hbm, ⟨3, _⟩ => ⟨S8x1024x256, .bf16⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S1x1024x256, .f32⟩
  | .hbm, ⟨8, _⟩ => ⟨S_, .f32⟩
  | .hbm, ⟨9, _⟩ => ⟨S1x1024x256, .f32⟩
  | .hbm, ⟨10, _⟩ => ⟨S1x1024x256, .f32⟩
  | .hbm, ⟨11, _⟩ => ⟨S_, .f32⟩
  | .hbm, ⟨12, _⟩ => ⟨S1x1024x256, .f32⟩
  | .hbm, ⟨13, _⟩ => ⟨S1x1024x256, .f32⟩
  | .hbm, ⟨14, _⟩ => ⟨S1x1024x256, .f32⟩
  | .hbm, ⟨15, _⟩ => ⟨S_, .f32⟩
  | .hbm, ⟨16, _⟩ => ⟨S1x1024x256, .f32⟩
  | .hbm, ⟨17, _⟩ => ⟨S1x1024x256, .f32⟩
  | .hbm, ⟨18, _⟩ => ⟨S1x1024x256, .f32⟩
  | .hbm, ⟨19, _⟩ => ⟨S_, .f32⟩
  | .hbm, ⟨20, _⟩ => ⟨S1x1024x256, .f32⟩
  | .hbm, ⟨21, _⟩ => ⟨S1x1024x256, .f32⟩
  | .hbm, ⟨22, _⟩ => ⟨S1x1024x256, .f32⟩
  | .hbm, ⟨23, _⟩ => ⟨S_, .f32⟩
  | .hbm, ⟨24, _⟩ => ⟨S1x1024x256, .f32⟩
  | .hbm, ⟨25, _⟩ => ⟨S1x1024x256, .f32⟩
  | .hbm, ⟨26, _⟩ => ⟨S_, .f32⟩
  | .hbm, ⟨27, _⟩ => ⟨S1x1024x256, .f32⟩
  | .hbm, ⟨28, _⟩ => ⟨S1x1024x256, .f32⟩
  | .hbm, ⟨29, _⟩ => ⟨S1x1024x256, .f32⟩
  | .hbm, ⟨30, _⟩ => ⟨S_, .f32⟩
  | .hbm, ⟨31, _⟩ => ⟨S1x1024x256, .f32⟩
  | .hbm, ⟨32, _⟩ => ⟨S1x1024x256, .f32⟩
  | .hbm, ⟨33, _⟩ => ⟨S1x1024x256, .f32⟩
  | .hbm, ⟨34, _⟩ => ⟨S_, .f32⟩
  | .hbm, ⟨35, _⟩ => ⟨S1x1024x256, .f32⟩
  | .hbm, ⟨36, _⟩ => ⟨S1x1024x256, .f32⟩
  | .hbm, ⟨37, _⟩ => ⟨S1x1024x256, .f32⟩
  | .hbm, ⟨38, _⟩ => ⟨S_, .f32⟩
  | .hbm, ⟨39, _⟩ => ⟨S1x1024x256, .f32⟩
  | .hbm, ⟨40, _⟩ => ⟨S1x1024x256, .f32⟩
  | _, _ => ⟨S1x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== MixIn.lean ====
abbrev S4096x3712 : Shape := ⟨2, ![4096, 3712]⟩
abbrev S4096x512 : Shape := ⟨2, ![4096, 512]⟩
abbrev S3x512 : Shape := ⟨2, ![3, 512]⟩
abbrev S128x4x4 : Shape := ⟨3, ![128, 4, 4]⟩
abbrev S8 : Shape := ⟨1, ![8]⟩
abbrev S512x4 : Shape := ⟨2, ![512, 4]⟩
abbrev S1x512x1x4 : Shape := ⟨4, ![1, 512, 1, 4]⟩
abbrev S1x512x128x4 : Shape := ⟨4, ![1, 512, 128, 4]⟩
abbrev S512x512 : Shape := ⟨2, ![512, 512]⟩
abbrev S_ : Shape := ⟨0, ![]⟩
abbrev S1x8 : Shape := ⟨2, ![1, 8]⟩
abbrev S1x128 : Shape := ⟨2, ![1, 128]⟩
abbrev S1x512 : Shape := ⟨2, ![1, 512]⟩
abbrev S512 : Shape := ⟨1, ![512]⟩
abbrev S4096x128 : Shape := ⟨2, ![4096, 128]⟩
abbrev S512x128 : Shape := ⟨2, ![512, 128]⟩

abbrev nBuf : Space → Nat
  | .hbm => 68
  | .vmem => 28
  | .smem => 0
  | _ => 0

abbrev bufTy : (tb : Table) → Fin (tcTables nBuf tb) → BufTy
  | .hbm, ⟨0, _⟩ => ⟨S4096x3712, .f32⟩
  | .hbm, ⟨1, _⟩ => ⟨S4096x512, .f32⟩
  | .hbm, ⟨2, _⟩ => ⟨S3x512, .f32⟩
  | .hbm, ⟨3, _⟩ => ⟨S128x4x4, .f32⟩
  | .hbm, ⟨4, _⟩ => ⟨S128x4x4, .f32⟩
  | .hbm, ⟨5, _⟩ => ⟨S8, .f32⟩
  | .hbm, ⟨6, _⟩ => ⟨S128x4x4, .f32⟩
  | .hbm, ⟨7, _⟩ => ⟨S512x4, .f32⟩
  | .hbm, ⟨8, _⟩ => ⟨S1x512x1x4, .f32⟩
  | .hbm, ⟨9, _⟩ => ⟨S1x512x128x4, .f32⟩
  | .hbm, ⟨10, _⟩ => ⟨S512x512, .f32⟩
  | .hbm, ⟨11, _⟩ => ⟨S512x512, .i32⟩
  | .hbm, ⟨12, _⟩ => ⟨S512x512, .i32⟩
  | .hbm, ⟨13, _⟩ => ⟨S_, .i32⟩
  | .hbm, ⟨14, _⟩ => ⟨S512x512, .i32⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i32⟩
  | .hbm, ⟨19, _⟩ => ⟨S512x512, .i1⟩
  | .hbm, ⟨20, _⟩ => ⟨S_, .f32⟩
  | .hbm, ⟨21, _⟩ => ⟨S_, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S128x4x4, .f32⟩
  | .hbm, ⟨28, _⟩ => ⟨S512x4, .f32⟩
  | .hbm, ⟨29, _⟩ => ⟨S1x512x1x4, .f32⟩
  | .hbm, ⟨30, _⟩ => ⟨S1x512x128x4, .f32⟩
  | .hbm, ⟨31, _⟩ => ⟨S512x512, .f32⟩
  | .hbm, ⟨32, _⟩ => ⟨S512x512, .i32⟩
  | .hbm, ⟨33, _⟩ => ⟨S512x512, .i32⟩
  | .hbm, ⟨34, _⟩ => ⟨S_, .i32⟩
  | .hbm, ⟨35, _⟩ => ⟨S512x512, .i32⟩
  | .hbm, ⟨36, _⟩ => ⟨S512x512, .i32⟩
  | .hbm, ⟨37, _⟩ => ⟨S_, .i32⟩
  | .hbm, ⟨38, _⟩ => ⟨S512x512, .i32⟩
  | .hbm, ⟨39, _⟩ => ⟨S512x512, .i32⟩
  | .hbm, ⟨40, _⟩ => ⟨S512x512, .i1⟩
  | .hbm, ⟨41, _⟩ => ⟨S_, .f32⟩
  | .hbm, ⟨42, _⟩ => ⟨S_, .f32⟩
  | .hbm, ⟨43, _⟩ => ⟨S512x512, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S512x512, .f32⟩
  | .hbm, ⟨48, _⟩ => ⟨S1x8, .f32⟩
  | .hbm, ⟨49, _⟩ => ⟨S_, .i32⟩
  | .hbm, ⟨50, _⟩ => ⟨S_, .f32⟩
  | .hbm, ⟨51, _⟩ => ⟨S1x128, .f32⟩
  | .hbm, ⟨52, _⟩ => ⟨S1x512, .f32⟩
  | .hbm, ⟨53, _⟩ => ⟨S512, .f32⟩
  | .hbm, ⟨54, _⟩ => ⟨S1x512, .f32⟩
  | .hbm, ⟨55, _⟩ => ⟨S1x512, .f32⟩
  | .hbm, ⟨56, _⟩ => ⟨S512, .f32⟩
  | .hbm, ⟨57, _⟩ => ⟨S1x512, .f32⟩
  | .hbm, ⟨58, _⟩ => ⟨S1x512, .f32⟩
  | .hbm, ⟨59, _⟩ => ⟨S512, .f32⟩
  | .hbm, ⟨60, _⟩ => ⟨S1x512, .f32⟩
  | .hbm, ⟨61, _⟩ => ⟨S4096x512, .f32⟩
  | .hbm, ⟨62, _⟩ => ⟨S4096x512, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S1x128, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x128, .f32⟩
  | .local _ .vmem, ⟨27, _⟩ => ⟨S512x128, .f32⟩
  | _, _ => ⟨S4096x3712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_cst_5 : Ref sig .tc := ⟨.hbm, 42, rfl⟩
abbrev main_call1_v0 : Ref sig .tc := ⟨.hbm, 43, rfl⟩
abbrev main_call1_v1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_call2_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41_0 : Ref sig .tc := ⟨.hbm, 61, rfl⟩
abbrev main_v41_1 : Ref sig .tc := ⟨.hbm, 62, rfl⟩
abbrev main_v41_2 : Ref sig .tc := ⟨.hbm, 63, rfl⟩
abbrev main_v41_3 : Ref sig .tc := ⟨.hbm, 64, rfl⟩
abbrev main_v41_4 : Ref sig .tc := ⟨.hbm, 65, rfl⟩
abbrev main_v41_5 : Ref sig .tc := ⟨.hbm, 66, rfl⟩
abbrev main_v41_6 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixInRefIdeal.lean ====
abbrev S4096x3712 : Shape := ⟨2, ![4096, 3712]⟩
abbrev S4096x512 : Shape := ⟨2, ![4096, 512]⟩
abbrev S3x512 : Shape := ⟨2, ![3, 512]⟩
abbrev S128x4x4 : Shape := ⟨3, ![128, 4, 4]⟩
abbrev S8 : Shape := ⟨1, ![8]⟩
abbrev S1x8 : Shape := ⟨2, ![1, 8]⟩
abbrev S_ : Shape := ⟨0, ![]⟩
abbrev S1x128 : Shape := ⟨2, ![1, 128]⟩
abbrev S4096x128 : Shape := ⟨2, ![4096, 128]⟩
abbrev S512 : Shape := ⟨1, ![512]⟩
abbrev S1x512 : Shape := ⟨2, ![1, 512]⟩
abbrev S4096x4 : Shape := ⟨2, ![4096, 4]⟩
abbrev S4096x124 : Shape := ⟨2, ![4096, 124]⟩
abbrev S4096x128x4 : Shape := ⟨3, ![4096, 128, 4]⟩
abbrev S128x4x4096 : Shape := ⟨3, ![128, 4, 4096]⟩

abbrev nBuf : Space → Nat
  | .hbm => 96
  | .vmem => 0
  | .smem => 0
  | _ => 0

abbrev bufTy : (tb : Table) → Fin (tcTables nBuf tb) → BufTy
  | .hbm, ⟨0, _⟩ => ⟨S4096x3712, .f32⟩
  | .hbm, ⟨1, _⟩ => ⟨S4096x512, .f32⟩
  | .hbm, ⟨2, _⟩ => ⟨S3x512, .f32⟩
  | .hbm, ⟨3, _⟩ => ⟨S128x4x4, .f32⟩
  | .hbm, ⟨4, _⟩ => ⟨S128x4x4, .f32⟩
  | .hbm, ⟨5, _⟩ => ⟨S8, .f32⟩
  | .hbm, ⟨6, _⟩ => ⟨S1x8, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S4096x512, .f32⟩
  | .hbm, ⟨11, _⟩ => ⟨S4096x128, .f32⟩
  | .hbm, ⟨12, _⟩ => ⟨S_, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S1x512, .f32⟩
  | .hbm, ⟨18, _⟩ => ⟨S3x512, .f32⟩
  | .hbm, ⟨19, _⟩ => ⟨S3x512, .f32⟩
  | .hbm, ⟨20, _⟩ => ⟨S3x512, .f32⟩
  | .hbm, ⟨21, _⟩ => ⟨S_, .f32⟩
  | .hbm, ⟨22, _⟩ => ⟨S512, .f32⟩
  | .hbm, ⟨23, _⟩ => ⟨S1x512, .f32⟩
  | .hbm, ⟨24, _⟩ => ⟨S3x512, .f32⟩
  | .hbm, ⟨25, _⟩ => ⟨S3x512, .f32⟩
  | .hbm, ⟨26, _⟩ => ⟨S1x512, .f32⟩
  | .hbm, ⟨27, _⟩ => ⟨S_, .f32⟩
  | .hbm, ⟨28, _⟩ => ⟨S1x512, .f32⟩
  | .hbm, ⟨29, _⟩ => ⟨S1x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x128, .f32⟩
  | .hbm, ⟨43, _⟩ => ⟨S4096x128, .f32⟩
  | .hbm, ⟨44, _⟩ => ⟨S4096x4, .f32⟩
  | .hbm, ⟨45, _⟩ => ⟨S4096x124, .f32⟩
  | .hbm, ⟨46, _⟩ => ⟨S4096x124, .f32⟩
  | .hbm, ⟨47, _⟩ => ⟨S_, .f32⟩
  | .hbm, ⟨48, _⟩ => ⟨S4096x124, .f32⟩
  | .hbm, ⟨49, _⟩ => ⟨S4096x124, .f32⟩
  | .hbm, ⟨50, _⟩ => ⟨S4096x124, .f32⟩
  | .hbm, ⟨51, _⟩ => ⟨S4096x124, .f32⟩
  | .hbm, ⟨52, _⟩ => ⟨S4096x124, .i1⟩
  | .hbm, ⟨53, _⟩ => ⟨S4096x124, .f32⟩
  | .hbm, ⟨54, _⟩ => ⟨S4096x124, .f32⟩
  | .hbm, ⟨55, _⟩ => ⟨S4096x124, .f32⟩
  | .hbm, ⟨56, _⟩ => ⟨S4096x124, .f32⟩
  | .hbm, ⟨57, _⟩ => ⟨S4096x124, .f32⟩
  | .hbm, ⟨58, _⟩ => ⟨S4096x124, .f32⟩
  | .hbm, ⟨59, _⟩ => ⟨S4096x124, .f32⟩
  | .hbm, ⟨60, _⟩ => ⟨S4096x124, .f32⟩
  | .hbm, ⟨61, _⟩ => ⟨S4096x124, .f32⟩
  | .hbm, ⟨62, _⟩ => ⟨S4096x128, .f32⟩
  | .hbm, ⟨63, _⟩ => ⟨S_, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S4096x512, .f32⟩
  | .hbm, ⟨69, _⟩ => ⟨S_, .f32⟩
  | .hbm, ⟨70, _⟩ => ⟨S4096x512, .f32⟩
  | .hbm, ⟨71, _⟩ => ⟨S4096x512, .f32⟩
  | .hbm, ⟨72, _⟩ => ⟨S_, .f32⟩
  | .hbm, ⟨73, _⟩ => ⟨S4096x512, .f32⟩
  | .hbm, ⟨74, _⟩ => ⟨S4096x512, .f32⟩
  | .hbm, ⟨75, _⟩ => ⟨S4096x512, .f32⟩
  | .hbm, ⟨76, _⟩ => ⟨S4096x128x4, .f32⟩
  | .hbm, ⟨77, _⟩ => ⟨S128x4x4096, .f32⟩
  | .hbm, ⟨78, _⟩ => ⟨S4096x128x4, .f32⟩
  | .hbm, ⟨79, _⟩ => ⟨S4096x512, .f32⟩
  | .hbm, ⟨80, _⟩ => ⟨S128x4x4096, .f32⟩
  | .hbm, ⟨81, _⟩ => ⟨S4096x128x4, .f32⟩
  | .hbm, ⟨82, _⟩ => ⟨S4096x512, .f32⟩
  | .hbm, ⟨83, _⟩ => ⟨S_, .f32⟩
  | .hbm, ⟨84, _⟩ => ⟨S4096x512, .f32⟩
  | .hbm, ⟨85, _⟩ => ⟨S4096x512, .f32⟩
  | .hbm, ⟨86, _⟩ => ⟨S4096x512, .f32⟩
  | .hbm, ⟨87, _⟩ => ⟨S4096x512, .f32⟩
  | .hbm, ⟨88, _⟩ => ⟨S4096x512, .f32⟩
  | .hbm, ⟨89, _⟩ => ⟨S_, .f32⟩
  | .hbm, ⟨90, _⟩ => ⟨S4096x512, .f32⟩
  | .hbm, ⟨91, _⟩ => ⟨S4096x512, .f32⟩
  | .hbm, ⟨92, _⟩ => ⟨S_, .f32⟩
  | .hbm, ⟨93, _⟩ => ⟨S4096x512, .f32⟩
  | .hbm, ⟨94, _⟩ => ⟨S4096x512, .f32⟩
  | .hbm, ⟨95, _⟩ => ⟨S4096x512, .f32⟩
  | _, _ => ⟨S4096x3712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call1_v0 : Ref sig .tc := ⟨.hbm, 46, rfl⟩
abbrev main_call1_call0_cst : Ref sig .tc := ⟨.hbm, 47, rfl⟩
abbrev main_call1_call0_v0 : Ref sig .tc := ⟨.hbm, 48, rfl⟩
abbrev main_call1_call0_v1 : Ref sig .tc := ⟨.hbm, 49, rfl⟩
abbrev main_call1_call0_v2 : Ref sig .tc := ⟨.hbm, 50, rfl⟩
abbrev main_call1_call0_v3 : Ref sig .tc := ⟨.hbm, 51, rfl⟩
abbrev main_call1_call0_v4 : Ref sig .tc := ⟨.hbm, 52, rfl⟩
abbrev main_call1_call0_v5 : Ref sig .tc := ⟨.hbm, 53, rfl⟩
abbrev main_call1_call0_v6 : Ref sig .tc := ⟨.hbm, 54, rfl⟩
abbrev main_call1_call0_v7 : Ref sig .tc := ⟨.hbm, 55, rfl⟩
abbrev main_call1_call0_v8 : Ref sig .tc := ⟨.hbm, 56, rfl⟩
abbrev main_call1_call0_v9 : Ref sig .tc := ⟨.hbm, 57, rfl⟩
abbrev main_call1_call0_v10 : Ref sig .tc := ⟨.hbm, 58, rfl⟩
abbrev main_call1_call0_v11 : Ref sig .tc := ⟨.hbm, 59, rfl⟩
abbrev main_call1_v1 : Ref sig .tc := ⟨.hbm, 60, rfl⟩
abbrev main_v32 : Ref sig .tc := ⟨.hbm, 61, rfl⟩
abbrev main_v33 : Ref sig .tc := ⟨.hbm, 62, rfl⟩
abbrev main_cst_5 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_call2_v0 : Ref sig .tc := ⟨.hbm, 67, rfl⟩
abbrev main_call2_v1 : Ref sig .tc := ⟨.hbm, 68, rfl⟩
abbrev main_call2_cst : Ref sig .tc := ⟨.hbm, 69, rfl⟩
abbrev main_call2_v2 : Ref sig .tc := ⟨.hbm, 70, rfl⟩
abbrev main_call2_v3 : Ref sig .tc := ⟨.hbm, 71, rfl⟩
abbrev main_call2_cst_0 : Ref sig .tc := ⟨.hbm, 72, rfl⟩
abbrev main_call2_v4 : Ref sig .tc := ⟨.hbm, 73, rfl⟩
abbrev main_call2_v5 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_6 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_call3_v0 : Ref sig .tc := ⟨.hbm, 87, rfl⟩
abbrev main_call3_v1 : Ref sig .tc := ⟨.hbm, 88, rfl⟩
abbrev main_call3_cst : Ref sig .tc := ⟨.hbm, 89, rfl⟩
abbrev main_call3_v2 : Ref sig .tc := ⟨.hbm, 90, rfl⟩
abbrev main_call3_v3 : Ref sig .tc := ⟨.hbm, 91, rfl⟩
abbrev main_call3_cst_0 : Ref sig .tc := ⟨.hbm, 92, rfl⟩
abbrev main_call3_v4 : Ref sig .tc := ⟨.hbm, 93, rfl⟩
abbrev main_call3_v5 : Ref sig .tc := ⟨.hbm, 94, rfl⟩
abbrev main_v48 : Ref sig .tc := ⟨.hbm, 95, rfl⟩

abbrev nD : Nat := 1
abbrev τ : Topo := Topo.v7x

variable {F : FTy → Type} [FloatOps F]
-- ==== AdaBwd.lean ====
abbrev S16x1024 : Shape := ⟨2, ![16, 1024]⟩
abbrev S8x1152 : Shape := ⟨2, ![8, 1152]⟩
abbrev S_ : Shape := ⟨0, ![]⟩
abbrev S16x1152 : Shape := ⟨2, ![16, 1152]⟩
abbrev S1024x1152 : Shape := ⟨2, ![1024, 1152]⟩

abbrev nBuf : Space → Nat
  | .hbm => 6
  | .vmem => 3
  | .smem => 0
  | _ => 0

abbrev bufTy : (tb : Table) → Fin (tcTables nBuf tb) → BufTy
  | .hbm, ⟨0, _⟩ => ⟨S16x1024, .bf16⟩
  | .hbm, ⟨1, _⟩ => ⟨S8x1152, .f32⟩
  | .hbm, ⟨2, _⟩ => ⟨S_, .i32⟩
  | .hbm, ⟨3, _⟩ => ⟨S_, .f32⟩
  | .hbm, ⟨4, _⟩ => ⟨S16x1152, .f32⟩
  | .hbm, ⟨5, _⟩ => ⟨S1024x1152, .f32⟩
  | .local _ .vmem, ⟨0, _⟩ => ⟨S16x1024, .bf16⟩
  | .local _ .vmem, ⟨1, _⟩ => ⟨S16x1152, .f32⟩
  | .local _ .vmem, ⟨2, _⟩ => ⟨S1024x1152, .f32⟩
  | _, _ => ⟨S16x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S16x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AdaBwdRefIdeal.lean ====
abbrev S16x1024 : Shape := ⟨2, ![16, 1024]⟩
abbrev S8x1152 : Shape := ⟨2, ![8, 1152]⟩
abbrev S8x1024 : Shape := ⟨2, ![8, 1024]⟩
abbrev S_ : Shape := ⟨0, ![]⟩
abbrev S1024x1152 : Shape := ⟨2, ![1024, 1152]⟩
abbrev S1152x1024 : Shape := ⟨2, ![1152, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16x1024, .bf16⟩
  | .hbm, ⟨1, _⟩ => ⟨S8x1152, .f32⟩
  | .hbm, ⟨2, _⟩ => ⟨S8x1024, .bf16⟩
  | .hbm, ⟨3, _⟩ => ⟨S8x1024, .f32⟩
  | .hbm, ⟨4, _⟩ => ⟨S8x1152, .bf16⟩
  | .hbm, ⟨5, _⟩ => ⟨S8x1152, .f32⟩
  | .hbm, ⟨6, _⟩ => ⟨S_, .f32⟩
  | .hbm, ⟨7, _⟩ => ⟨S1024x1152, .f32⟩
  | .hbm, ⟨8, _⟩ => ⟨S8x1152, .f32⟩
  | .hbm, ⟨9, _⟩ => ⟨S1152x1024, .f32⟩
  | .hbm, ⟨10, _⟩ => ⟨S1024x1152, .f32⟩
  | _, _ => ⟨S16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Ada.lean ====
abbrev S16x1024 : Shape := ⟨2, ![16, 1024]⟩
abbrev S1024x1152 : Shape := ⟨2, ![1024, 1152]⟩
abbrev S1152 : Shape := ⟨1, ![1152]⟩
abbrev S1x1152 : Shape := ⟨2, ![1, 1152]⟩
abbrev S16x1152 : Shape := ⟨2, ![16, 1152]⟩

abbrev nBuf : Space → Nat
  | .hbm => 6
  | .vmem => 4
  | .smem => 0
  | _ => 0

abbrev bufTy : (tb : Table) → Fin (tcTables nBuf tb) → BufTy
  | .hbm, ⟨0, _⟩ => ⟨S16x1024, .bf16⟩
  | .hbm, ⟨1, _⟩ => ⟨S1024x1152, .f32⟩
  | .hbm, ⟨2, _⟩ => ⟨S1152, .f32⟩
  | .hbm, ⟨3, _⟩ => ⟨S1x1152, .f32⟩
  | .hbm, ⟨4, _⟩ => ⟨S16x1152, .f32⟩
  | .hbm, ⟨5, _⟩ => ⟨S16x1152, .f32⟩
  | .local _ .vmem, ⟨0, _⟩ => ⟨S16x1024, .bf16⟩
  | .local _ .vmem, ⟨1, _⟩ => ⟨S1024x1152, .f32⟩
  | .local _ .vmem, ⟨2, _⟩ => ⟨S16x1152, .f32⟩
  | .local _ .vmem, ⟨3, _⟩ => ⟨S16x1152, .f32⟩
  | _, _ => ⟨S16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S16x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S16x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== AdaRefIdeal.lean ====
abbrev S16x1024 : Shape := ⟨2, ![16, 1024]⟩
abbrev S1024x1152 : Shape := ⟨2, ![1024, 1152]⟩
abbrev S1152 : Shape := ⟨1, ![1152]⟩
abbrev S16x1152 : Shape := ⟨2, ![16, 1152]⟩
abbrev S1x1152 : Shape := ⟨2, ![1, 1152]⟩

abbrev nBuf : Space → Nat
  | .hbm => 10
  | .vmem => 0
  | .smem => 0
  | _ => 0

abbrev bufTy : (tb : Table) → Fin (tcTables nBuf tb) → BufTy
  | .hbm, ⟨0, _⟩ => ⟨S16x1024, .bf16⟩
  | .hbm, ⟨1, _⟩ => ⟨S1024x1152, .f32⟩
  | .hbm, ⟨2, _⟩ => ⟨S1152, .f32⟩
  | .hbm, ⟨3, _⟩ => ⟨S16x1024, .f32⟩
  | .hbm, ⟨4, _⟩ => ⟨S1024x1152, .bf16⟩
  | .hbm, ⟨5, _⟩ => ⟨S1024x1152, .f32⟩
  | .hbm, ⟨6, _⟩ => ⟨S16x1152, .f32⟩
  | .hbm, ⟨7, _⟩ => ⟨S1x1152, .f32⟩
  | .hbm, ⟨8, _⟩ => ⟨S16x1152, .f32⟩
  | .hbm, ⟨9, _⟩ => ⟨S16x1152, .f32⟩
  | _, _ => ⟨S16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Cond.lean ====
abbrev S16x1024 : Shape := ⟨2, ![16, 1024]⟩

abbrev nBuf : Space → Nat
  | .hbm => 2
  | .vmem => 2
  | .smem => 0
  | _ => 0

abbrev bufTy : (tb : Table) → Fin (tcTables nBuf tb) → BufTy
  | .hbm, ⟨0, _⟩ => ⟨S16x1024, .f32⟩
  | .hbm, ⟨1, _⟩ => ⟨S16x1024, .bf16⟩
  | .local _ .vmem, ⟨0, _⟩ => ⟨S16x1024, .f32⟩
  | .local _ .vmem, ⟨1, _⟩ => ⟨S16x1024, .bf16⟩
  | _, _ => ⟨S16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== CondRefIdeal.lean ====
abbrev S16x1024 : Shape := ⟨2, ![16, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S_, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024, .bf16⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩
abbrev main_v1 : Ref sig .tc := ⟨.hbm, 10, rfl⟩

abbrev nD : Nat := 1
abbrev τ : Topo := Topo.v7x

variable {F : FTy → Type} [FloatOps F]
-- ==== Last.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LastRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S4096, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_cst_12 : Ref sig .tc := ⟨.hbm, 59, rfl⟩
abbrev main_cst_13 : Ref sig .tc := ⟨.hbm, 60, rfl⟩
abbrev main_v40 : Ref sig .tc := ⟨.hbm, 61, rfl⟩
abbrev main_v41 : Ref sig .tc := ⟨.hbm, 62, rfl⟩
abbrev main_cst_14 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩

abbrev nD : Nat := 1
abbrev τ : Topo := Topo.v7x

variable {F : FTy → Type} [FloatOps F]
-- ==== MconvBwd.lean ====
abbrev S4096x3712 : Shape := ⟨2, ![4096, 3712]⟩
abbrev S4096x512 : Shape := ⟨2, ![4096, 512]⟩
abbrev S4x512 : Shape := ⟨2, ![4, 512]⟩
abbrev S1x512 : Shape := ⟨2, ![1, 512]⟩
abbrev S512x512 : Shape := ⟨2, ![512, 512]⟩
abbrev S8x512 : Shape := ⟨2, ![8, 512]⟩
abbrev S520x512 : Shape := ⟨2, ![520, 512]⟩
abbrev S512 : Shape := ⟨1, ![512]⟩

abbrev nBuf : Space → Nat
  | .hbm => 6
  | .vmem => 15
  | .smem => 0
  | _ => 0

abbrev bufTy : (tb : Table) → Fin (tcTables nBuf tb) → BufTy
  | .hbm, ⟨0, _⟩ => ⟨S4096x3712, .f32⟩
  | .hbm, ⟨1, _⟩ => ⟨S4096x512, .f32⟩
  | .hbm, ⟨2, _⟩ => ⟨S4x512, .f32⟩
  | .hbm, ⟨3, _⟩ => ⟨S4096x512, .bf16⟩
  | .hbm, ⟨4, _⟩ => ⟨S4x512, .f32⟩
  | .hbm, ⟨5, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S4x512, .f32⟩
  | .local _ .vmem, ⟨9, _⟩ => ⟨S512x512, .bf16⟩
  | .local _ .vmem, ⟨10, _⟩ => ⟨S512x512, .bf16⟩
  | .local _ .vmem, ⟨11, _⟩ => ⟨S4x512, .f32⟩
  | .local _ .vmem, ⟨12, _⟩ => ⟨S1x512, .f32⟩
  | .local _ .vmem, ⟨13, _⟩ => ⟨S520x512, .f32⟩
  | .local _ .vmem, ⟨14, _⟩ => ⟨S520x512, .f32⟩
  | _, _ => ⟨S4096x3712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MconvBwdRefIdeal.lean ====
abbrev S4096x3712 : Shape := ⟨2, ![4096, 3712]⟩
abbrev S4096x512 : Shape := ⟨2, ![4096, 512]⟩
abbrev S4x512 : Shape := ⟨2, ![4, 512]⟩
abbrev S_ : Shape := ⟨0, ![]⟩
abbrev S1x512 : Shape := ⟨2, ![1, 512]⟩
abbrev S3x512 : Shape := ⟨2, ![3, 512]⟩
abbrev S4099x512 : Shape := ⟨2, ![4099, 512]⟩
abbrev S512 : Shape := ⟨1, ![512]⟩

abbrev nBuf : Space → Nat
  | .hbm => 105
  | .vmem => 0
  | .smem => 0
  | _ => 0

abbrev bufTy : (tb : Table) → Fin (tcTables nBuf tb) → BufTy
  | .hbm, ⟨0, _⟩ => ⟨S4096x3712, .f32⟩
  | .hbm, ⟨1, _⟩ => ⟨S4096x512, .f32⟩
  | .hbm, ⟨2, _⟩ => ⟨S4x512, .f32⟩
  | .hbm, ⟨3, _⟩ => ⟨S4096x512, .f32⟩
  | .hbm, ⟨4, _⟩ => ⟨S_, .f32⟩
  | .hbm, ⟨5, _⟩ => ⟨S1x512, .f32⟩
  | .hbm, ⟨6, _⟩ => ⟨S_, .f32⟩
  | .hbm, ⟨7, _⟩ => ⟨S3x512, .f32⟩
  | .hbm, ⟨8, _⟩ => ⟨S4099x512, .f32⟩
  | .hbm, ⟨9, _⟩ => ⟨S_, .f32⟩
  | .hbm, ⟨10, _⟩ => ⟨S3x512, .f32⟩
  | .hbm, ⟨11, _⟩ => ⟨S1x512, .f32⟩
  | .hbm, ⟨12, _⟩ => ⟨S512, .f32⟩
  | .hbm, ⟨13, _⟩ => ⟨S4096x512, .f32⟩
  | .hbm, ⟨14, _⟩ => ⟨S1x512, .f32⟩
  | .hbm, ⟨15, _⟩ => ⟨S4096x512, .f32⟩
  | .hbm, ⟨16, _⟩ => ⟨S4096x512, .f32⟩
  | .hbm, ⟨17, _⟩ => ⟨S1x512, .f32⟩
  | .hbm, ⟨18, _⟩ => ⟨S512, .f32⟩
  | .hbm, ⟨19, _⟩ => ⟨S4096x512, .f32⟩
  | .hbm, ⟨20, _⟩ => ⟨S1x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S1x512, .f32⟩
  | .hbm, ⟨25, _⟩ => ⟨S512, .f32⟩
  | .hbm, ⟨26, _⟩ => ⟨S4096x512, .f32⟩
  | .hbm, ⟨27, _⟩ => ⟨S1x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S1x512, .f32⟩
  | .hbm, ⟨32, _⟩ => ⟨S512, .f32⟩
  | .hbm, ⟨33, _⟩ => ⟨S4096x512, .f32⟩
  | .hbm, ⟨34, _⟩ => ⟨S1x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S512, .f32⟩
  | .hbm, ⟨43, _⟩ => ⟨S1x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S_, .f32⟩
  | .hbm, ⟨51, _⟩ => ⟨S512, .f32⟩
  | .hbm, ⟨52, _⟩ => ⟨S_, .f32⟩
  | .hbm, ⟨53, _⟩ => ⟨S4099x512, .f32⟩
  | .hbm, ⟨54, _⟩ => ⟨S1x512, .f32⟩
  | .hbm, ⟨55, _⟩ => ⟨S_, .f32⟩
  | .hbm, ⟨56, _⟩ => ⟨S4x512, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S_, .f32⟩
  | .hbm, ⟨64, _⟩ => ⟨S512, .f32⟩
  | .hbm, ⟨65, _⟩ => ⟨S_, .f32⟩
  | .hbm, ⟨66, _⟩ => ⟨S4099x512, .f32⟩
  | .hbm, ⟨67, _⟩ => ⟨S4099x512, .f32⟩
  | .hbm, ⟨68, _⟩ => ⟨S1x512, .f32⟩
  | .hbm, ⟨69, _⟩ => ⟨S_, .f32⟩
  | .hbm, ⟨70, _⟩ => ⟨S4x512, .f32⟩
  | .hbm, ⟨71, _⟩ => ⟨S4x512, .f32⟩
  | .hbm, ⟨72, _⟩ => ⟨S4096x512, .f32⟩
  | .hbm, ⟨73, _⟩ => ⟨S4096x512, .f32⟩
  | .hbm, ⟨74, _⟩ => ⟨S4096x512, .f32⟩
  | .hbm, ⟨75, _⟩ => ⟨S_, .f32⟩
  | .hbm, ⟨76, _⟩ => ⟨S512, .f32⟩
  | .hbm, ⟨77, _⟩ => ⟨S1x512, .f32⟩
  | .hbm, ⟨78, _⟩ => ⟨S_, .f32⟩
  | .hbm, ⟨79, _⟩ => ⟨S512, .f32⟩
  | .hbm, ⟨80, _⟩ => ⟨S_, .f32⟩
  | .hbm, ⟨81, _⟩ => ⟨S4099x512, .f32⟩
  | .hbm, ⟨82, _⟩ => ⟨S4099x512, .f32⟩
  | .hbm, ⟨83, _⟩ => ⟨S1x512, .f32⟩
  | .hbm, ⟨84, _⟩ => ⟨S_, .f32⟩
  | .hbm, ⟨85, _⟩ => ⟨S4x512, .f32⟩
  | .hbm, ⟨86, _⟩ => ⟨S4x512, .f32⟩
  | .hbm, ⟨87, _⟩ => ⟨S4096x512, .f32⟩
  | .hbm, ⟨88, _⟩ => ⟨S4096x512, .f32⟩
  | .hbm, ⟨89, _⟩ => ⟨S4096x512, .f32⟩
  | .hbm, ⟨90, _⟩ => ⟨S_, .f32⟩
  | .hbm, ⟨91, _⟩ => ⟨S512, .f32⟩
  | .hbm, ⟨92, _⟩ => ⟨S1x512, .f32⟩
  | .hbm, ⟨93, _⟩ => ⟨S_, .f32⟩
  | .hbm, ⟨94, _⟩ => ⟨S512, .f32⟩
  | .hbm, ⟨95, _⟩ => ⟨S_, .f32⟩
  | .hbm, ⟨96, _⟩ => ⟨S4099x512, .f32⟩
  | .hbm, ⟨97, _⟩ => ⟨S4099x512, .f32⟩
  | .hbm, ⟨98, _⟩ => ⟨S1x512, .f32⟩
  | .hbm, ⟨99, _⟩ => ⟨S_, .f32⟩
  | .hbm, ⟨100, _⟩ => ⟨S4x512, .f32⟩
  | .hbm, ⟨101, _⟩ => ⟨S4x512, .f32⟩
  | .hbm, ⟨102, _⟩ => ⟨S3x512, .f32⟩
  | .hbm, ⟨103, _⟩ => ⟨S4096x512, .f32⟩
  | .hbm, ⟨104, _⟩ => ⟨S4096x512, .bf16⟩
  | _, _ => ⟨S4096x3712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_cst_13 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_15 : Ref sig .tc := ⟨.hbm, 90, rfl⟩
abbrev main_v71 : Ref sig .tc := ⟨.hbm, 91, rfl⟩
abbrev main_v72 : Ref sig .tc := ⟨.hbm, 92, rfl⟩
abbrev main_cst_16 : Ref sig .tc := ⟨.hbm, 93, rfl⟩
abbrev main_v73 : Ref sig .tc := ⟨.hbm, 94, rfl⟩
abbrev main_cst_17 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_18 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== Mconv.lean ====
abbrev S4096x3712 : Shape := ⟨2, ![4096, 3712]⟩
abbrev S4x512 : Shape := ⟨2, ![4, 512]⟩
abbrev S1x512 : Shape := ⟨2, ![1, 512]⟩
abbrev S4096x512 : Shape := ⟨2, ![4096, 512]⟩
abbrev S512x512 : Shape := ⟨2, ![512, 512]⟩
abbrev S8x512 : Shape := ⟨2, ![8, 512]⟩
abbrev S520x512 : Shape := ⟨2, ![520, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x3712, .f32⟩
  | .hbm, ⟨1, _⟩ => ⟨S4x512, .f32⟩
  | .hbm, ⟨2, _⟩ => ⟨S1x512, .f32⟩
  | .hbm, ⟨3, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S520x512, .f32⟩
  | _, _ => ⟨S4096x3712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MconvRefIdeal.lean ====
abbrev S4096x3712 : Shape := ⟨2, ![4096, 3712]⟩
abbrev S4x512 : Shape := ⟨2, ![4, 512]⟩
abbrev S1x512 : Shape := ⟨2, ![1, 512]⟩
abbrev S4096x512 : Shape := ⟨2, ![4096, 512]⟩
abbrev S_ : Shape := ⟨0, ![]⟩
abbrev S3x512 : Shape := ⟨2, ![3, 512]⟩
abbrev S4099x512 : Shape := ⟨2, ![4099, 512]⟩
abbrev S512 : Shape := ⟨1, ![512]⟩

abbrev nBuf : Space → Nat
  | .hbm => 36
  | .vmem => 0
  | .smem => 0
  | _ => 0

abbrev bufTy : (tb : Table) → Fin (tcTables nBuf tb) → BufTy
  | .hbm, ⟨0, _⟩ => ⟨S4096x3712, .f32⟩
  | .hbm, ⟨1, _⟩ => ⟨S4x512, .f32⟩
  | .hbm, ⟨2, _⟩ => ⟨S1x512, .f32⟩
  | .hbm, ⟨3, _⟩ => ⟨S4096x512, .f32⟩
  | .hbm, ⟨4, _⟩ => ⟨S_, .f32⟩
  | .hbm, ⟨5, _⟩ => ⟨S3x512, .f32⟩
  | .hbm, ⟨6, _⟩ => ⟨S4099x512, .f32⟩
  | .hbm, ⟨7, _⟩ => ⟨S1x512, .f32⟩
  | .hbm, ⟨8, _⟩ => ⟨S512, .f32⟩
  | .hbm, ⟨9, _⟩ => ⟨S4096x512, .f32⟩
  | .hbm, ⟨10, _⟩ => ⟨S1x512, .f32⟩
  | .hbm, ⟨11, _⟩ => ⟨S4096x512, .f32⟩
  | .hbm, ⟨12, _⟩ => ⟨S4096x512, .f32⟩
  | .hbm, ⟨13, _⟩ => ⟨S1x512, .f32⟩
  | .hbm, ⟨14, _⟩ => ⟨S512, .f32⟩
  | .hbm, ⟨15, _⟩ => ⟨S4096x512, .f32⟩
  | .hbm, ⟨16, _⟩ => ⟨S1x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S1x512, .f32⟩
  | .hbm, ⟨21, _⟩ => ⟨S512, .f32⟩
  | .hbm, ⟨22, _⟩ => ⟨S4096x512, .f32⟩
  | .hbm, ⟨23, _⟩ => ⟨S1x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S1x512, .f32⟩
  | .hbm, ⟨28, _⟩ => ⟨S512, .f32⟩
  | .hbm, ⟨29, _⟩ => ⟨S4096x512, .f32⟩
  | .hbm, ⟨30, _⟩ => ⟨S1x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | _, _ => ⟨S4096x3712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== PostMixBwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== PostMixBwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 121
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x1024, .f32⟩
  | .hbm, ⟨85, _⟩ => ⟨S4096x1024, .f32⟩
  | .hbm, ⟨86, _⟩ => ⟨S4096x1, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S_, .f32⟩
  | .hbm, ⟨100, _⟩ => ⟨S4096, .f32⟩
  | .hbm, ⟨101, _⟩ => ⟨S4096x1, .f32⟩
  | .hbm, ⟨102, _⟩ => ⟨S4096x1024, .f32⟩
  | .hbm, ⟨103, _⟩ => ⟨S4096x1, .f32⟩
  | .hbm, ⟨104, _⟩ => ⟨S_, .f32⟩
  | .hbm, ⟨105, _⟩ => ⟨S4096x1, .f32⟩
  | .hbm, ⟨106, _⟩ => ⟨S4096x1, .f32⟩
  | .hbm, ⟨107, _⟩ => ⟨S_, .f32⟩
  | .hbm, ⟨108, _⟩ => ⟨S4096, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S4096x1024, .f32⟩
  | .hbm, ⟨114, _⟩ => ⟨S_, .f32⟩
  | .hbm, ⟨115, _⟩ => ⟨S1024, .f32⟩
  | .hbm, ⟨116, _⟩ => ⟨S1x1024, .f32⟩
  | .hbm, ⟨117, _⟩ => ⟨S_, .f32⟩
  | .hbm, ⟨118, _⟩ => ⟨S4096x1024, .f32⟩
  | .hbm, ⟨119, _⟩ => ⟨S4096x1024, .f32⟩
  | .hbm, ⟨120, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_cst_15 : Ref sig .tc := ⟨.hbm, 91, rfl⟩
abbrev main_v66 : Ref sig .tc := ⟨.hbm, 92, rfl⟩
abbrev main_v67 : Ref sig .tc := ⟨.hbm, 93, rfl⟩
abbrev main_cst_16 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_17 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_18 : Ref sig .tc := ⟨.hbm, 104, rfl⟩
abbrev main_v76 : Ref sig .tc := ⟨.hbm, 105, rfl⟩
abbrev main_v77 : Ref sig .tc := ⟨.hbm, 106, rfl⟩
abbrev main_cst_19 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_20 : Ref sig .tc := ⟨.hbm, 114, rfl⟩
abbrev main_v84 : Ref sig .tc := ⟨.hbm, 115, rfl⟩
abbrev main_v85 : Ref sig .tc := ⟨.hbm, 116, rfl⟩
abbrev main_cst_21 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩

abbrev nD : Nat := 1
abbrev τ : Topo := Topo.v7x

variable {F : FTy → Type} [FloatOps F]
-- ==== PostMix.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PostMixRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Slots.lean ====
abbrev S8x2456x128 : Shape := ⟨3, ![8, 2456, 128]⟩
abbrev S2456x128 : Shape := ⟨2, ![2456, 128]⟩
abbrev S1x2456x128 : Shape := ⟨3, ![1, 2456, 128]⟩

abbrev nBuf : Space → Nat
  | .hbm => 2
  | .vmem => 3
  | .smem => 0
  | _ => 0

abbrev bufTy : (tb : Table) → Fin (tcTables nBuf tb) → BufTy
  | .hbm, ⟨0, _⟩ => ⟨S8x2456x128, .f32⟩
  | .hbm, ⟨1, _⟩ => ⟨S2456x128, .f32⟩
  | .local _ .vmem, ⟨0, _⟩ => ⟨S1x2456x128, .f32⟩
  | .local _ .vmem, ⟨1, _⟩ => ⟨S1x2456x128, .f32⟩
  | .local _ .vmem, ⟨2, _⟩ => ⟨S2456x128, .f32⟩
  | _, _ => ⟨S8x2456x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2456x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2456x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SlotsRefIdeal.lean ====
abbrev S8x2456x128 : Shape := ⟨3, ![8, 2456, 128]⟩
abbrev S_ : Shape := ⟨0, ![]⟩
abbrev S2456x128 : Shape := ⟨2, ![2456, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2456x128, .f32⟩
  | .hbm, ⟨1, _⟩ => ⟨S_, .f32⟩
  | .hbm, ⟨2, _⟩ => ⟨S2456x128, .f32⟩
  | _, _ => ⟨S8x2456x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.LruSpec.lean ====
/- The gradient of the gated linear recurrence h_t = a_t h_{t-1} + u_t, one scalar chain per column: walking the rows
   from the last to the first, the carry before row 4095 - k is the gradient arriving there from the later rows. -/
module

public import Idealize.ShloMosaic.PureOps
public import Idealize.ShloMosaic.Lib.Pointwise

@[expose] public section

noncomputable section

namespace Cert.Lru

open Idealize.ShloMosaic

variable {F : FTy → Type} [FloatOps F]

/-- A sequence of 4096 rows of 1024 lanes. -/
abbrev Seq : Shape := ⟨2, ![4096, 1024]⟩

/-- The row the `k`-th step of the backward walk is at. -/
def row (k : ℕ) : Fin 4096 := ⟨4095 - k, by omega⟩

/-- The gradient arriving at row `4095 - k` of lane `q` from the rows after it. -/
def carry (a dh : Seq.Idx → F .f32) (q : Fin 1024) : ℕ → F .f32
  | 0 => FloatOps.ofBits .f32 0x00000000#32
  | k + 1 => FloatOps.mulf (a (ix2 (row k) q)) (FloatOps.addf (carry a dh q k) (dh (ix2 (row k) q)))

/-- The whole gradient at row `4095 - k`: what arrived and the row's own. -/
def grad (a dh : Seq.Idx → F .f32) (q : Fin 1024) (k : ℕ) : F .f32 :=
  FloatOps.addf (carry a dh q k) (dh (ix2 (row k) q))

theorem carry_succ (a dh : Seq.Idx → F .f32) (q : Fin 1024) (k : ℕ) :
    carry a dh q (k + 1) = FloatOps.mulf (a (ix2 (row k) q)) (grad a dh q k) := rfl

/-- The state before row `r`: zero before the first. -/
def prev (h : Seq.Idx → F .f32) (r : Fin 4096) (q : Fin 1024) : F .f32 :=
  if r.val = 0 then FloatOps.ofBits .f32 0x00000000#32 else h (ix2 ⟨r.val - 1, by omega⟩ q)

/-- The gradient of the inputs `u`. -/
def du (a dh : Seq.Idx → F .f32) : Seq.Idx → F .f32 :=
  fun i => grad a dh (i 1) (4095 - (i 0).val)

/-- The gradient of the gates `a`. -/
def da (a h dh : Seq.Idx → F .f32) : Seq.Idx → F .f32 :=
  fun i => FloatOps.mulf (grad a dh (i 1) (4095 - (i 0).val)) (prev h (i 0) (i 1))

end Cert.Lru

end
-- ==== Proof.LruBlock.lean ====
/- One grid point of the gradient kernel: the 128 row stores of each output are the rows of one chain, walked from the
   block's last row to its first. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.LruBlock

open Cert.KernelIdeal Cert.KernelIdeal.Gen Idealize.ShloMosaic Idealize.ShloMosaic.TcCoe Idealize.SL.Sem

variable {F : FTy → Type} [FloatOps F]

theorem rowFits (k : ℕ) : ∀ a, (![127 - k, 0] : Fin S128x1024.rank → ℕ) a + S1x1024.size a ≤ S128x1024.size a :=
  Fin.forall_fin_two.mpr ⟨show 127 - k + 1 ≤ 128 by omega, show 0 + 1024 ≤ 1024 by omega⟩

/-- The row the `k`-th step of the walk is at, as a rectangle of the block. -/
abbrev rowRect (k : ℕ) : Rect S128x1024 := Rect.unit ![127 - k, 0] S1x1024.size (rowFits k)

/-- The gradients of the walk: each row's own plus what the row after passes on. -/
def chain (a d : ℕ → Vec F S1x1024 .f32) (c0 : Vec F S1x1024 .f32) (k : ℕ) : Vec F S1x1024 .f32 :=
  Nat.rec (addf (d 0) c0) (fun k g => addf (d (k + 1)) (mulf (a k) g)) k

/-- The stores of the rows `f 0`, `f 1`, … into the block from its last row up, last store first. -/
def rows (f : ℕ → Vec F S1x1024 .f32) (n : ℕ) : List (View.Piece (Elt F) S128x1024 .f32) :=
  Nat.rec [] (fun k L => ⟨rowRect k, f k⟩ :: L) n

/-- The stores leave row `127 - k` at `f k`. -/
theorem canon_rows (f : ℕ → Vec F S1x1024 .f32) (r : Fin 128) (q : Fin 1024) :
    ∀ n, 128 - n ≤ r.val → n ≤ 128 → View.canon (rows f n) (ix2 r q) = f (127 - r.val) (ix2 0 q)
  | 0, h, _ => by have := r.isLt; omega
  | n + 1, h, hn => by
    show View.canon (⟨rowRect n, f n⟩ :: rows f n) (ix2 r q) = _
    by_cases e : r.val = 127 - n
    · have hx : (ix2 r q : S128x1024.Idx) = (rowRect n).emb (ix2 0 q : S1x1024.Idx) := by
        funext a
        refine Fin.ext ?_
        refine Eq.trans ?_ (Rect.idx_unit_val _ _ _ _ a).symm
        match a with
        | ⟨0, _⟩ => show r.val = 127 - n + 0; omega
        | ⟨1, _⟩ => show q.val = 0 + q.val; omega
      rw [hx, View.canon_cons_emb, e, show 127 - (127 - n) = n by omega]
    · rw [View.canon_cons_of_not_mem, canon_rows f r q n (by omega) (by omega)]
      intro hm
      obtain ⟨x, hx⟩ := (rowRect n).exists_idx_of_mem hm
      have h0 := congrArg (fun i : S128x1024.Idx => (i 0).val) hx
      have h1 : ((rowRect n).emb x 0).val = 127 - n + (x 0).val := Rect.idx_unit_val _ _ _ _ _
      have h2 : (x 0).val < 1 := (x 0).isLt
      have h3 : ((rowRect n).emb x 0).val = r.val := h0
      omega

section
variable (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S8x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S1x1024 .f32) (harg7 : arg7.IsWhole)
  (x0 : Vec F S128x1024 .f32) (x1 : Vec F S128x1024 .f32) (x2 : Vec F S8x1024 .f32) (x3 : Vec F S128x1024 .f32) (xs0 : Vec F S1x1024 .f32)

/-- The walk's row of a block, read through the block's buffer. -/
abbrev rd (v : Memref sig .tc .vmem S128x1024 .f32) (h : v.IsWhole) (x : Vec F S128x1024 .f32) (k : ℕ) : Vec F S1x1024 .f32 :=
  View.readAt (Elt F) v.view (rowRect k).toLoadRect (h.unread x)

abbrev whole1 : Rect S1x1024 := Rect.unit ![0, 0] S1x1024.size inb_S1x1024_S1x1024_0_0

abbrev carryB : Vec F S1x1024 .f32 := View.readAt (Elt F) arg7.view whole1.toLoadRect (harg7.unread xs0)
abbrev carryA : Vec F S1x1024 .f32 := arg7.view.readCov [(⟨whole1, k0_pay1 (F := F)⟩ : View.Piece (Elt F) S1x1024 .f32)] whole1.toLoadRect

/-- The state before the block's first row: zero before the sequence's first. -/
abbrev edge : Vec F S1x1024 .f32 :=
  Scalar.select (Scalar.cmpi .eq (BitVec.ofNat 32 (i 0).val) 31#32) (broadcast S1x1024 (Scalar.ofBits (F := F) .f32 0x00000000#32))
    (View.readAt (Elt F) arg3.view (Rect.unit (s := S8x1024) ![7, 0] S1x1024.size inb_S8x1024_S1x1024_7_0).toLoadRect (harg3.unread x2))

theorem stores5_B (hc0 : ¬cond0_0 i) :
    (kernelRun0_B c i arg1 harg1 arg2 harg2 arg3 harg3 arg4 harg4 arg5 harg5 arg6 harg6 arg7 harg7 hc0 x0 x1 x2 x3 xs0).2.1
      = rows (chain (rd arg1 harg1 x0) (rd arg4 harg4 x3) (carryB arg7 harg7 xs0)) 128 := by
  sl_kernel_rfl

theorem stores4_B (hc0 : ¬cond0_0 i) :
    (kernelRun0_B c i arg1 harg1 arg2 harg2 arg3 harg3 arg4 harg4 arg5 harg5 arg6 harg6 arg7 harg7 hc0 x0 x1 x2 x3 xs0).1
      = ⟨rowRect 127, mulf (chain (rd arg1 harg1 x0) (rd arg4 harg4 x3) (carryB arg7 harg7 xs0) 127) (edge i arg3 harg3 x2)⟩
        :: rows (fun k => mulf (chain (rd arg1 harg1 x0) (rd arg4 harg4 x3) (carryB arg7 harg7 xs0) k) (rd arg2 harg2 x1 (k + 1))) 127 := by
  sl_kernel_rfl

theorem stores0_B (hc0 : ¬cond0_0 i) :
    (kernelRun0_B c i arg1 harg1 arg2 harg2 arg3 harg3 arg4 harg4 arg5 harg5 arg6 harg6 arg7 harg7 hc0 x0 x1 x2 x3 xs0).2.2.1
      = [⟨whole1, shapeCast S1x1024 (mulf (rd arg1 harg1 x0 127) (chain (rd arg1 harg1 x0) (rd arg4 harg4 x3) (carryB arg7 harg7 xs0) 127)) shapeCasts_S1x1024_S1x1024⟩] := by
  sl_kernel_rfl

theorem stores5_A (hc0 : cond0_0 i) :
    (kernelRun0_A c i arg1 harg1 arg2 harg2 arg3 harg3 arg4 harg4 arg5 harg5 arg6 harg6 arg7 harg7 hc0 x0 x1 x2 x3).2.1
      = rows (chain (rd arg1 harg1 x0) (rd arg4 harg4 x3) (carryA arg7)) 128 := by
  sl_kernel_rfl

theorem stores4_A (hc0 : cond0_0 i) :
    (kernelRun0_A c i arg1 harg1 arg2 harg2 arg3 harg3 arg4 harg4 arg5 harg5 arg6 harg6 arg7 harg7 hc0 x0 x1 x2 x3).1
      = ⟨rowRect 127, mulf (chain (rd arg1 harg1 x0) (rd arg4 harg4 x3) (carryA arg7) 127) (edge i arg3 harg3 x2)⟩
        :: rows (fun k => mulf (chain (rd arg1 harg1 x0) (rd arg4 harg4 x3) (carryA arg7) k) (rd arg2 harg2 x1 (k + 1))) 127 := by
  sl_kernel_rfl

theorem stores0_A (hc0 : cond0_0 i) :
    (kernelRun0_A c i arg1 harg1 arg2 harg2 arg3 harg3 arg4 harg4 arg5 harg5 arg6 harg6 arg7 harg7 hc0 x0 x1 x2 x3).2.2.1
      = [⟨whole1, shapeCast S1x1024 (mulf (rd arg1 harg1 x0 127) (chain (rd arg1 harg1 x0) (rd arg4 harg4 x3) (carryA arg7) 127)) shapeCasts_S1x1024_S1x1024⟩,
        ⟨whole1, k0_pay1 (F := F)⟩] := by
  sl_kernel_rfl

end

end Cert.LruBlock

end
-- ==== Proof.LruKernel.lean ====
/- The gradient kernel's run: its two output arrays are the chains' values. The kernel adds the row's own gradient to the
   carry where the reference adds the carry to the row's own: `comm` asks the order not to matter. -/
module

public import proofs.«01_k».proof.Proof.LruSpec
public import proofs.«01_k».proof.Proof.LruBlock

@[expose] public section

set_option maxRecDepth 16384

noncomputable section

namespace Cert.LruKernel

open Cert.KernelIdeal Cert.KernelIdeal.Gen Cert.Lru Cert.LruBlock
open Idealize.ShloMosaic Idealize.ShloMosaic.TcCoe Idealize.SL.Sem

variable {F : FTy → Type} [FloatOps F]
variable (m : (ℓ : Loc nD τ sig) → Buf (Elt F) ℓ)

/-- The arguments on device `c`. -/
abbrev argA (c : Dev nD) : Vec F S4096x1024 .f32 := m ((c.tc : Thread nD τ).loc main_arg0)
abbrev argH (c : Dev nD) : Vec F S4096x1024 .f32 := m ((c.tc : Thread nD τ).loc main_arg1)
abbrev argD (c : Dev nD) : Vec F S4096x1024 .f32 := m ((c.tc : Thread nD τ).loc main_arg2)

/-- The block index of every window at point `t`. -/
theorem index_eq : ∀ t : Fin cfg0.N, (win0_0.index t = ![31 - t.val, 0] ∧ win0_1.index t = ![31 - t.val, 0] ∧ win0_3.index t = ![31 - t.val, 0]
    ∧ win0_4.index t = ![31 - t.val, 0] ∧ win0_5.index t = ![31 - t.val, 0]) ∧ (t.val < 31 → win0_2.index t = ![16 * (31 - t.val) - 1, 0]) :=
  (by decide +kernel : ∀ t : Fin grid0.N, (win0_0.index t = ![31 - t.val, 0] ∧ win0_1.index t = ![31 - t.val, 0] ∧ win0_3.index t = ![31 - t.val, 0]
    ∧ win0_4.index t = ![31 - t.val, 0] ∧ win0_5.index t = ![31 - t.val, 0]) ∧ (t.val < 31 → win0_2.index t = ![16 * (31 - t.val) - 1, 0]))

theorem lt_N (t : Fin cfg0.N) : t.val < 32 := Nat.lt_of_lt_of_eq t.isLt N_0

/-- The array row of row `127 - k` of point `t`'s block. -/
theorem blockA (c : Dev nD) (t : Fin cfg0.N) (k : ℕ) (hk : k < 128) (q : Fin 1024) :
    (iblk m c 0 t : Vec F S128x1024 .f32) (ix2 ⟨127 - k, by omega⟩ q) = argA m c (ix2 (row (128 * t.val + k)) q) := by
  have ht := lt_N t
  have hi := (index_eq t).1.1
  unfold row
  blk_ext [iblk, V, hi]

theorem blockD (c : Dev nD) (t : Fin cfg0.N) (k : ℕ) (hk : k < 128) (q : Fin 1024) :
    (iblk m c 3 t : Vec F S128x1024 .f32) (ix2 ⟨127 - k, by omega⟩ q) = argD m c (ix2 (row (128 * t.val + k)) q) := by
  have ht := lt_N t
  have hi := (index_eq t).1.2.2.1
  unfold row
  blk_ext [iblk, V, hi]

theorem blockH (c : Dev nD) (t : Fin cfg0.N) (r : Fin 128) (q : Fin 1024) :
    (iblk m c 1 t : Vec F S128x1024 .f32) (ix2 r q) = argH m c (ix2 ⟨128 * (31 - t.val) + r.val, by have := r.isLt; omega⟩ q) := by
  have ht := lt_N t
  have hi := (index_eq t).1.2.1
  blk_ext [iblk, V, hi]

theorem blockEdge (c : Dev nD) (t : Fin cfg0.N) (h : t.val < 31) (q : Fin 1024) :
    (iblk m c 2 t : Vec F S8x1024 .f32) (ix2 7 q) = argH m c (ix2 ⟨128 * (31 - t.val) - 1, by omega⟩ q) := by
  have ht := lt_N t
  have hi := (index_eq t).2 h
  blk_ext [iblk, V, hi]

/-- A row of a block, read through the block's buffer. -/
theorem rd_apply (v : Memref sig .tc .vmem S128x1024 .f32) (h : v.IsWhole) (x : Vec F S128x1024 .f32) (k : ℕ) (q : Fin 1024) :
    rd v h x k (ix2 0 q) = x (ix2 ⟨127 - k, by omega⟩ q) := by
  unfold rd
  rw [View.readAt_eq_ld, h.read_unread]
  refine View.ld_unit_apply_of x _ _ _ _ _ fun a => ?_
  match a with
  | ⟨0, _⟩ => show 127 - k = 127 - k + 0; omega
  | ⟨1, _⟩ => show q.val = 0 + q.val; omega

/-- The chain in a block is the whole chain's part there, where the carry that enters is. -/
theorem chain_eq (comm : ∀ x y : F .f32, FloatOps.addf x y = FloatOps.addf y x) (a d : Seq.Idx → F .f32)
    (A D : ℕ → Vec F S1x1024 .f32) (c0 : Vec F S1x1024 .f32) (n : ℕ) (q : Fin 1024)
    (hA : ∀ k < 128, A k (ix2 0 q) = a (ix2 (row (n + k)) q)) (hD : ∀ k < 128, D k (ix2 0 q) = d (ix2 (row (n + k)) q))
    (h0 : c0 (ix2 0 q) = carry a d q n) : ∀ k < 128, chain A D c0 k (ix2 0 q) = grad a d q (n + k)
  | 0, _ => by
    show FloatOps.addf (D 0 (ix2 0 q)) (c0 (ix2 0 q)) = _
    rw [hD 0 (by omega), h0, comm]
    rfl
  | k + 1, hk => by
    show FloatOps.addf (D (k + 1) (ix2 0 q)) (FloatOps.mulf (A k (ix2 0 q)) (chain A D c0 k (ix2 0 q))) = _
    rw [hD (k + 1) hk, hA k (by omega), chain_eq comm a d A D c0 n q hA hD h0 k (by omega), comm]
    rfl

/-! ## What a point leaves, by its row stores -/

/-- The rows of one output. -/
theorem canon_rows' (f : ℕ → Vec F S1x1024 .f32) (k : ℕ) (hk : k < 128) (q : Fin 1024) :
    View.canon (rows f 128) (ix2 ⟨127 - k, by omega⟩ q) = f k (ix2 0 q) := by
  rw [canon_rows f _ q 128 (by omega) le_rfl, show 127 - (127 - k) = k by omega]

/-- The rows of one output, the block's first row apart. -/
theorem canon_rows_edge (f : ℕ → Vec F S1x1024 .f32) (w : Vec F S1x1024 .f32) (k : ℕ) (hk : k < 128) (q : Fin 1024) :
    View.canon ((⟨rowRect 127, w⟩ : View.Piece (Elt F) S128x1024 .f32) :: rows f 127) (ix2 ⟨127 - k, by omega⟩ q)
      = if k = 127 then w (ix2 0 q) else f k (ix2 0 q) := by
  have h := canon_rows' (fun j => if j = 127 then w else f j) k hk q
  have e : ∀ n, n ≤ 127 → rows (fun j => if j = 127 then w else f j) n = rows f n := by
    intro n hn
    induction n with
    | zero => rfl
    | succ n ih =>
      show _ :: rows (fun j => if j = 127 then w else f j) n = _ :: rows f n
      rw [ih (by omega)]
      simp only [show n ≠ 127 by omega, if_false]
  have e' : (rows (fun j => if j = 127 then w else f j) 128) = (⟨rowRect 127, w⟩ : View.Piece (Elt F) S128x1024 .f32) :: rows f 127 := by
    show _ :: rows (fun j => if j = 127 then w else f j) 127 = _
    rw [e 127 le_rfl]
    rfl
  rw [← e', h]
  split_ifs <;> rfl

/-- The edge row on point `t`. -/
theorem edge_apply (t : Fin cfg0.N) (v : Memref sig .tc .vmem S8x1024 .f32) (h : v.IsWhole) (x : Vec F S8x1024 .f32) (q : Fin 1024) :
    edge (grid0.coords t) v h x (ix2 0 q) = if t.val = 31 then FloatOps.ofBits .f32 0x00000000#32 else x (ix2 7 q) := by
  have e0 : (grid0.coords t 0).val = t.val := by
    have h : (grid0.coords t 0).val = t.val / 1 % 32 := Pipeline.Grid.coords_val t 0 (by decide) rfl
    have ht := lt_N t
    omega
  have hl : View.readAt (Elt F) v.view (Rect.unit (s := S8x1024) ![7, 0] S1x1024.size inb_S8x1024_S1x1024_7_0).toLoadRect (h.unread x) (ix2 0 q : S1x1024.Idx)
      = x (ix2 7 q) := by
    rw [View.readAt_eq_ld, h.read_unread]
    refine View.ld_unit_apply_of x _ _ _ _ _ fun a => ?_
    match a with
    | ⟨0, _⟩ => rfl
    | ⟨1, _⟩ => show q.val = 0 + q.val; omega
  have ht := lt_N t
  unfold edge
  rw [e0]
  by_cases h31 : t.val = 31
  · rw [if_pos h31, h31]
    rfl
  · rw [if_neg h31, show Scalar.cmpi .eq (BitVec.ofNat 32 t.val) 31#32 = 0#1 by
      have : BitVec.ofNat 32 t.val ≠ 31#32 := by
        intro hh
        have := congrArg BitVec.toNat hh
        simp only [BitVec.toNat_ofNat] at this
        omega
      show BitVec.ofBool (BitVec.ofNat 32 t.val == 31#32) = 0#1
      rw [beq_eq_false_iff_ne.mpr this]
      rfl]
    exact hl

/-- The state before a row of point `t`'s block. -/
theorem prev_edge (h : Seq.Idx → F .f32) (t : ℕ) (ht : t < 32) (q : Fin 1024) :
    prev h (row (128 * t + 127)) q = if h31 : t = 31 then FloatOps.ofBits .f32 0x00000000#32 else h (ix2 ⟨128 * (31 - t) - 1, by omega⟩ q) := by
  unfold prev row
  split_ifs with h1 h2 h2
  · rfl
  · exfalso; dsimp only at h1; omega
  · exfalso; dsimp only at h1; omega
  · congr 2
    refine Fin.ext ?_
    show 4095 - (128 * t + 127) - 1 = 128 * (31 - t) - 1
    omega

/-- What a point with the carry in leaves of the two outputs and the carry. -/
structure Left (c : Dev nD) (t : ℕ) (o : Vec F S128x1024 .f32 × Vec F S128x1024 .f32 × Vec F S1x1024 .f32) : Prop where
  da : ∀ k (hk : k < 128) (q : Fin 1024), o.1 (ix2 ⟨127 - k, by omega⟩ q)
    = FloatOps.mulf (grad (argA m c) (argD m c) q (128 * t + k)) (prev (argH m c) (row (128 * t + k)) q)
  du : ∀ k (hk : k < 128) (q : Fin 1024), o.2.1 (ix2 ⟨127 - k, by omega⟩ q) = grad (argA m c) (argD m c) q (128 * t + k)
  carry : ∀ q : Fin 1024, o.2.2 (ix2 0 q) = carry (argA m c) (argD m c) q (128 * t + 128)

theorem left_of (comm : ∀ x y : F .f32, FloatOps.addf x y = FloatOps.addf y x) (c : Dev nD) (t : Fin cfg0.N)
    (c0 : Vec F S1x1024 .f32) (h0 : ∀ q : Fin 1024, c0 (ix2 0 q) = Lru.carry (argA m c) (argD m c) q (128 * t.val))
    (o : Vec F S128x1024 .f32 × Vec F S128x1024 .f32 × Vec F S1x1024 .f32)
    (h4 : o.1 = View.canon ((⟨rowRect 127, mulf (chain (rd (ms0_0 t) (hs0_0 t) (iblk m c 0 t)) (rd (ms0_3 t) (hs0_3 t) (iblk m c 3 t)) c0 127)
        (edge (grid0.coords t) (ms0_2 t) (hs0_2 t) (iblk m c 2 t))⟩ : View.Piece (Elt F) S128x1024 .f32)
      :: rows (fun k => mulf (chain (rd (ms0_0 t) (hs0_0 t) (iblk m c 0 t)) (rd (ms0_3 t) (hs0_3 t) (iblk m c 3 t)) c0 k)
        (rd (ms0_1 t) (hs0_1 t) (iblk m c 1 t) (k + 1))) 127))
    (h5 : o.2.1 = View.canon (rows (chain (rd (ms0_0 t) (hs0_0 t) (iblk m c 0 t)) (rd (ms0_3 t) (hs0_3 t) (iblk m c 3 t)) c0) 128))
    (hs : o.2.2 = mulf (rd (ms0_0 t) (hs0_0 t) (iblk m c 0 t) 127) (chain (rd (ms0_0 t) (hs0_0 t) (iblk m c 0 t)) (rd (ms0_3 t) (hs0_3 t) (iblk m c 3 t)) c0 127)) :
    Left m c t.val o := by
  have ht := lt_N t
  have hA : ∀ (q : Fin 1024), ∀ k < 128, rd (ms0_0 t) (hs0_0 t) (iblk m c 0 t) k (ix2 0 q) = argA m c (ix2 (row (128 * t.val + k)) q) :=
    fun q k hk => (rd_apply _ _ _ k q).trans (blockA m c t k hk q)
  have hD : ∀ (q : Fin 1024), ∀ k < 128, rd (ms0_3 t) (hs0_3 t) (iblk m c 3 t) k (ix2 0 q) = argD m c (ix2 (row (128 * t.val + k)) q) :=
    fun q k hk => (rd_apply _ _ _ k q).trans (blockD m c t k hk q)
  have hC := fun (q : Fin 1024) => chain_eq comm (argA m c) (argD m c) _ _ c0 (128 * t.val) q (hA q) (hD q) (h0 q)
  refine ⟨fun k hk q => ?_, fun k hk q => ?_, fun q => ?_⟩
  · rw [h4, canon_rows_edge _ _ k hk q]
    split_ifs with h127
    · subst h127
      show FloatOps.mulf _ _ = _
      rw [hC q 127 hk, edge_apply t, prev_edge (argH m c) t.val ht q]
      congr 1
      split_ifs with h31
      · rfl
      · exact blockEdge m c t (by omega) q
    · show FloatOps.mulf _ _ = _
      rw [hC q k hk, rd_apply, blockH m c t]
      congr 1
      unfold prev row
      rw [if_neg (by show ¬(4095 - (128 * t.val + k) = 0); omega)]
      congr 2
      refine Fin.ext ?_
      show 128 * (31 - t.val) + (127 - (k + 1)) = 4095 - (128 * t.val + k) - 1
      omega
  · rw [h5, canon_rows' _ k hk q, hC q k hk]
  · rw [hs]
    show FloatOps.mulf _ _ = _
    rw [hC q 127 (by omega), hA q 127 (by omega)]
    rfl

theorem carryA_apply (v : Memref sig .tc .vmem S1x1024 .f32) (q : Fin 1024) :
    carryA (F := F) v (ix2 0 q) = FloatOps.ofBits .f32 0x00000000#32 := by
  unfold carryA
  rw [View.readCov_cons_toLoadRect]
  unfold k0_pay1
  pointwise

theorem carryB_eq (v : Memref sig .tc .vmem S1x1024 .f32) (h : v.IsWhole) (x : Vec F S1x1024 .f32) : carryB v h x = x := by
  unfold carryB
  rw [View.readAt_eq_ld, h.read_unread]
  exact View.ld_unit_lit _ x (by decide)

/-- What every point leaves. -/
theorem left (comm : ∀ x y : F .f32, FloatOps.addf x y = FloatOps.addf y x) (c : Dev nD) :
    ∀ n (hn : n < cfg0.N), Left m c n (outsAt0 m c n hn)
  | 0, hn => by
    have h0 : (⟨0, hn⟩ : Fin cfg0.N).val % 32 = 0 := rfl
    refine left_of m comm c ⟨0, hn⟩ (carryA scM0_0) (fun q => carryA_apply _ q) _ ?_ ?_ ?_
    all_goals rw [outsAt0_A m c ⟨0, hn⟩ h0]; dsimp only
    · unfold out0_A_4
      rw [View.read_writes_junk_eq_canon, stores4_A]
    · unfold out0_A_5
      rw [View.read_writes_junk_eq_canon, stores5_A]
    · unfold sout0_A_0
      rw [View.read_writes_junk_eq_canon, stores0_A, View.canon_cons_unit_lit _ _ _ (by decide), shapeCast_self]
  | n + 1, hn => by
    have hn' := lt_N ⟨n + 1, hn⟩
    have h0 : ¬(⟨n + 1, hn⟩ : Fin cfg0.N).val % 32 = 0 := by dsimp only at hn' ⊢; omega
    refine left_of m comm c ⟨n + 1, hn⟩ (outsAt0 m c n (by omega)).2.2 (fun q => ?_) _ ?_ ?_ ?_
    · rw [(left comm c n (by omega)).carry q]
      congr 1
    all_goals rw [outsAt0_B m c ⟨n + 1, hn⟩ h0]; dsimp only
    · unfold out0_B_4
      rw [View.read_writes_junk_eq_canon, stores4_B, carryB_eq]
      rfl
    · unfold out0_B_5
      rw [View.read_writes_junk_eq_canon, stores5_B, carryB_eq]
      rfl
    · unfold sout0_B_0
      rw [View.read_writes_junk_eq_canon, stores0_B, View.canon_cons_unit_lit _ _ _ (by decide), shapeCast_self, carryB_eq]
      rfl

/-- The first output's array after the run. -/
theorem final4 (comm : ∀ x y : F .f32, FloatOps.addf x y = FloatOps.addf y x) (c : Dev nD) :
    (dats m 0 c).arrAt 4 cfg0.N = da (argA m c) (argH m c) (argD m c) := by
  refine (dats m 0 c).arrAt_eq_of_covers 4 _ (by decide +kernel) fun t hf y => ?_
  blk_simp
  rw [after0_4]
  obtain ⟨r, q, rfl⟩ : ∃ (r : Fin 128) (q : Fin 1024), y = (ix2 r q : S128x1024.Idx) := ⟨y 0, y 1, eq_ix2 (n0 := 128) (n1 := 1024) y⟩
  obtain ⟨k, hk, rfl⟩ : ∃ (k : ℕ) (hk : k < 128), r = ⟨127 - k, by omega⟩ := ⟨127 - r.val, by omega, Fin.ext (by show r.val = 127 - (127 - r.val); have := r.isLt; omega)⟩
  have ht := lt_N t
  have hi := (index_eq t).1.2.2.2.1
  have e : ((win0_4.blk t).view.emb (ix2 ⟨127 - k, by omega⟩ q : S128x1024.Idx) : S4096x1024.Idx) = ix2 (row (128 * t.val + k)) q := by
    unfold row
    blk_ext [hi]
  refine ((left m comm c t.val t.isLt).da k hk q).trans ?_
  rw [e]
  unfold Lru.da
  have hr : 4095 - (row (128 * t.val + k)).val = 128 * t.val + k := by unfold row; dsimp only; omega
  show _ = _
  simp only [ix2_0, ix2_1, hr]

/-- The second output's array after the run. -/
theorem final5 (comm : ∀ x y : F .f32, FloatOps.addf x y = FloatOps.addf y x) (c : Dev nD) :
    (dats m 0 c).arrAt 5 cfg0.N = du (argA m c) (argD m c) := by
  refine (dats m 0 c).arrAt_eq_of_covers 5 _ (by decide +kernel) fun t hf y => ?_
  blk_simp
  rw [after0_5]
  obtain ⟨r, q, rfl⟩ : ∃ (r : Fin 128) (q : Fin 1024), y = (ix2 r q : S128x1024.Idx) := ⟨y 0, y 1, eq_ix2 (n0 := 128) (n1 := 1024) y⟩
  obtain ⟨k, hk, rfl⟩ : ∃ (k : ℕ) (hk : k < 128), r = ⟨127 - k, by omega⟩ := ⟨127 - r.val, by omega, Fin.ext (by show r.val = 127 - (127 - r.val); have := r.isLt; omega)⟩
  have ht := lt_N t
  have hi := (index_eq t).1.2.2.2.2
  have e : ((win0_5.blk t).view.emb (ix2 ⟨127 - k, by omega⟩ q : S128x1024.Idx) : S4096x1024.Idx) = ix2 (row (128 * t.val + k)) q := by
    unfold row
    blk_ext [hi]
  refine ((left m comm c t.val t.isLt).du k hk q).trans ?_
  rw [e]
  unfold Lru.du
  have hr : 4095 - (row (128 * t.val + k)).val = 128 * t.val + k := by unfold row; dsimp only; omega
  show _ = _
  simp only [ix2_0, ix2_1, hr]

end Cert.LruKernel

end
-- ==== Proof.LruRef.lean ====
/- The reference's walk: after `k` trips the carry is the chain at `k` and the rows from 4096 - k on are written. -/
module

public import proofs.«01_k».proof.Proof.LruSpec
public import proofs.«01_k».proof.Proof.Gen.ReferenceIdeal.Run
public import Idealize.ShloMosaic.Lib.DynamicIndex

@[expose] public section

set_option maxRecDepth 16384

noncomputable section

namespace Cert.LruRef

open Cert.ReferenceIdeal Cert.ReferenceIdeal.Gen Cert.ReferenceIdeal.Value Cert.Lru
open Idealize.ShloMosaic Idealize.ShloMosaic.TcCoe Idealize.SL.Sem Idealize.ShloMosaic.StableHlo

variable {F : FTy → Type} [FloatOps F]

/-- A row from its lanes. -/
def vec (f : Fin 1024 → F .f32) : Vec F S1024 .f32 := fun i => f (i 0)
theorem vec_apply (f : Fin 1024 → F .f32) (q : Fin 1024) : vec f (ix1 q) = f q := rfl

/-- The state of the walk after `k` trips. -/
structure Inv (a hp dh : Seq.Idx → F .f32) (k : ℕ) (V : Valuation τ sig (Elt F)) : Prop where
  hdh : V (Proc.devRef .tc main_v7_0) = dh
  ha : V (Proc.devRef .tc main_v7_1) = a
  hhp : V (Proc.devRef .tc main_v7_2) = hp
  hctr : V (Proc.devRef .tc main_v7_3) = (fun _ => BitVec.ofNat 32 k : IVec S_ 32)
  hcar : V (Proc.devRef .tc main_v7_4) = vec fun q => Lru.carry a dh q k
  hda : ∀ (r : Fin 4096) (q : Fin 1024), 4096 - k ≤ r.val →
    (V (Proc.devRef .tc main_v7_5) : Vec F S4096x1024 .f32) (ix2 r q) = FloatOps.mulf (grad a dh q (4095 - r.val)) (hp (ix2 r q))
  hdu : ∀ (r : Fin 4096) (q : Fin 1024), 4096 - k ≤ r.val →
    (V (Proc.devRef .tc main_v7_6) : Vec F S4096x1024 .f32) (ix2 r q) = grad a dh q (4095 - r.val)

/-- The row number of trip `k`, as a word. -/
theorem idx_eq {V : Valuation τ sig (Elt F)} {k : ℕ} (hk : k < 4096)
    (h : V (Proc.devRef .tc main_v7_3) = (fun _ => BitVec.ofNat 32 k : IVec S_ 32)) :
    res_main_while0b_v9 V = (fun _ => BitVec.ofNat 32 (4095 - k) : IVec S_ 32) := by
  unfold res_main_while0b_v9
  rw [h]
  funext i
  show 4096#32 - BitVec.ofNat 32 k - 1#32 = BitVec.ofNat 32 (4095 - k)
  apply BitVec.eq_of_toNat_eq
  simp only [BitVec.toNat_sub, BitVec.toNat_ofNat]
  omega

/-- The start of the row's window. -/
theorem start_eq {w : (⟨S_, .i32⟩ : BufTy).Contents (Elt F)} {n : ℕ} (hn : n < 4096) (h : w = (fun _ => BitVec.ofNat 32 n : IVec S_ 32)) (k : Fin 2) :
    ((((![w, constantI S_ 32 0#32] : Fin 2 → (⟨S_, .i32⟩ : BufTy).Contents (Elt F))) k (Shape.Idx.first h_S_)).toInt) = ((![n, 0] : Fin 2 → ℕ) k : ℤ) := by
  subst h
  refine Fin.cases ?_ (fun j => ?_) k
  · exact toInt_ofNat_of_lt (by omega)
  · obtain rfl : j = 0 := Subsingleton.elim _ _
    rfl

/-- The row of `x` at the word `w`. -/
def rowAt (x : (⟨S4096x1024, .f32⟩ : BufTy).Contents (Elt F)) (w : (⟨S_, .i32⟩ : BufTy).Contents (Elt F)) : (⟨S1024, .f32⟩ : BufTy).Contents (Elt F) :=
  shapeCast S1024 (Host.dynamicSlice S1x1024 x (fun k => (((![w, constantI S_ 32 0#32] : Fin 2 → (⟨S_, .i32⟩ : BufTy).Contents (Elt F))) k (Shape.Idx.first h_S_)).toInt) sliceFits_S4096x1024_S1x1024) shapeCasts_S1x1024_S1024

/-- `x` with the row at the word `w` replaced. -/
def putAt (x : (⟨S4096x1024, .f32⟩ : BufTy).Contents (Elt F)) (y : (⟨S1024, .f32⟩ : BufTy).Contents (Elt F)) (w : (⟨S_, .i32⟩ : BufTy).Contents (Elt F)) : (⟨S4096x1024, .f32⟩ : BufTy).Contents (Elt F) :=
  id (Host.dynamicUpdateSlice x (broadcastInDim S1x1024 ![1] bcast_S1024_S1x1024_1 y) (fun k => (((![w, constantI S_ 32 0#32] : Fin 2 → (⟨S_, .i32⟩ : BufTy).Contents (Elt F))) k (Shape.Idx.first h_S_)).toInt) updateFits_S4096x1024_S1x1024)

theorem arrived_eq (V : Valuation τ sig (Elt F)) :
    res_main_while0b_v13 V = addf (V (Proc.devRef .tc main_v7_4)) (rowAt (V (Proc.devRef .tc main_v7_0)) (res_main_while0b_v9 V)) := by
  unfold res_main_while0b_v13 rowAt
  exact rfl
theorem step4_eq (V : Valuation τ sig (Elt F)) :
    step_main_v7_4 V = mulf (rowAt (V (Proc.devRef .tc main_v7_1)) (res_main_while0b_v9 V)) (res_main_while0b_v13 V) := by
  unfold step_main_v7_4 rowAt
  exact rfl
theorem step5_eq (V : Valuation τ sig (Elt F)) :
    step_main_v7_5 V = putAt (V (Proc.devRef .tc main_v7_5)) (mulf (res_main_while0b_v13 V) (rowAt (V (Proc.devRef .tc main_v7_2)) (res_main_while0b_v9 V))) (res_main_while0b_v9 V) := by
  unfold step_main_v7_5 putAt rowAt
  exact rfl
theorem step6_eq (V : Valuation τ sig (Elt F)) :
    step_main_v7_6 V = putAt (V (Proc.devRef .tc main_v7_6)) (res_main_while0b_v13 V) (res_main_while0b_v9 V) := by
  unfold step_main_v7_6 putAt
  exact rfl

/-- A row read. -/
theorem read_row (x : (⟨S4096x1024, .f32⟩ : BufTy).Contents (Elt F)) {w : (⟨S_, .i32⟩ : BufTy).Contents (Elt F)} {n : ℕ} (hn : n < 4096)
    (h : w = (fun _ => BitVec.ofNat 32 n : IVec S_ 32)) (q : Fin 1024) :
    rowAt x w (ix1 q)
      = x (ix2 ⟨n, hn⟩ q) := by
  unfold rowAt
  rw [Host.dynamicSlice_eq_extractStridedSlice S1x1024 x _ ![n, 0] _ (by
    refine ⟨rfl, fun i => ?_⟩
    refine Fin.cases ?_ (fun j => ?_) i
    · show n + 1 ≤ 4096; omega
    · obtain rfl : j = 0 := Subsingleton.elim _ _
      show 0 + 1024 ≤ 1024; omega) (start_eq hn h)]
  pointwise

/-- A row written. -/
theorem write_row (x : (⟨S4096x1024, .f32⟩ : BufTy).Contents (Elt F)) (y : (⟨S1024, .f32⟩ : BufTy).Contents (Elt F)) {w : (⟨S_, .i32⟩ : BufTy).Contents (Elt F)} {n : ℕ} (hn : n < 4096)
    (h : w = (fun _ => BitVec.ofNat 32 n : IVec S_ 32)) (r : Fin 4096) (q : Fin 1024) :
    putAt x y w (ix2 r q)
      = if r.val = n then y (ix1 q) else x (ix2 r q) := by
  unfold putAt
  rw [id_eq, Host.dynamicUpdateSlice_eq_updateSlice x _ _ _ ![n, 0] (by
    intro i
    rw [start_eq hn h i]
    refine Fin.cases ?_ (fun j => ?_) i
    · show (min (max (n : ℤ) 0) ((4096 - 1 : ℕ) : ℤ)).toNat = n; omega
    · obtain rfl : j = 0 := Subsingleton.elim _ _
      rfl) (by
    refine ⟨rfl, fun i => ?_⟩
    refine Fin.cases ?_ (fun j => ?_) i
    · show n + 1 ≤ 4096; omega
    · obtain rfl : j = 0 := Subsingleton.elim _ _
      show 0 + 1024 ≤ 1024; omega)]
  pointwise
  split_ifs with h1 h2 h2
  · rfl
  · omega
  · omega
  · rfl

/-- What arrives at row `4095 - k` and the row's own, as the trip computes it. -/
theorem arrived {a hp dh : Seq.Idx → F .f32} {k : ℕ} {V : Valuation τ sig (Elt F)} (hk : k < 4096) (hV : Inv a hp dh k V) :
    res_main_while0b_v13 V = vec fun q => grad a dh q k := by
  funext i
  obtain ⟨q, rfl⟩ : ∃ q : Fin 1024, i = ix1 q := ⟨i 0, eq_ix1 i⟩
  rw [arrived_eq, hV.hcar, hV.hdh]
  show FloatOps.addf _ _ = _
  rw [read_row dh (by omega) (idx_eq hk hV.hctr)]
  rfl

/-- One trip. -/
theorem inv_step {a hp dh : Seq.Idx → F .f32} {k : ℕ} {V : Valuation τ sig (Elt F)} (hk : k < 4096) (hV : Inv a hp dh k V) :
    Inv a hp dh (k + 1) (STEP V) where
  hdh := (STEP_main_v7_0 V).trans hV.hdh
  ha := (STEP_main_v7_1 V).trans hV.ha
  hhp := (STEP_main_v7_2 V).trans hV.hhp
  hctr := by
    rw [STEP_main_v7_3]
    unfold step_main_v7_3
    rw [hV.hctr]
    funext i
    show BitVec.ofNat 32 k + 1#32 = BitVec.ofNat 32 (k + 1)
    simp only [BitVec.ofNat_add]
  hcar := by
    rw [STEP_main_v7_4]
    rw [step4_eq, arrived hk hV, hV.ha]
    funext i
    obtain ⟨q, rfl⟩ : ∃ q : Fin 1024, i = ix1 q := ⟨i 0, eq_ix1 i⟩
    show FloatOps.mulf _ _ = _
    rw [read_row a (by omega) (idx_eq hk hV.hctr)]
    rfl
  hda := fun r q hr => by
    rw [STEP_main_v7_5]
    rw [step5_eq, arrived hk hV, hV.hhp]
    refine (write_row _ _ (n := 4095 - k) (by omega) (idx_eq hk hV.hctr) r q).trans ?_
    split_ifs with h1
    · show FloatOps.mulf _ _ = _
      rw [read_row hp (by omega) (idx_eq hk hV.hctr)]
      have e : r = ⟨4095 - k, by omega⟩ := Fin.ext h1
      have ek : 4095 - r.val = k := by omega
      rw [ek, ← e]
      rfl
    · exact hV.hda r q (by omega)
  hdu := fun r q hr => by
    rw [STEP_main_v7_6]
    rw [step6_eq, arrived hk hV]
    refine (write_row _ _ (n := 4095 - k) (by omega) (idx_eq hk hV.hctr) r q).trans ?_
    split_ifs with h1
    · rw [h1, show 4095 - (4095 - k) = k by omega]
      rfl
    · exact hV.hdu r q (by omega)

/-- The walk up to trip `k`. -/
theorem inv_iter {a hp dh : Seq.Idx → F .f32} {V : Valuation τ sig (Elt F)} (hV : Inv a hp dh 0 V) :
    ∀ k, k ≤ 4096 → Inv a hp dh k (STEP^[k] V)
  | 0, _ => hV
  | k + 1, hk => by
    rw [Function.iterate_succ_apply']
    exact inv_step (by omega) (inv_iter hV k (by omega))

variable (m : (ℓ : Loc nD τ sig) → Buf (Elt F) ℓ)

/-- The states one row on, a zero row first. -/
def shifted (h : Vec F S4096x1024 .f32) : Vec F S4096x1024 .f32 :=
  concatenate S4096x1024 0 [⟨S1x1024, broadcastInDim S1x1024 ![] bcast_S_S1x1024 (constant (F := F) S_ .f32 0x00000000#32)⟩,
    ⟨S4095x1024, extractStridedSlice S4095x1024 ![0, 0] h slices_S4096x1024_S4095x1024_0_0⟩] concatenates_S1x1024_S4095x1024_S4096x1024_d0

theorem shifted_apply (h : Vec F S4096x1024 .f32) (r : Fin 4096) (q : Fin 1024) : shifted h (ix2 r q) = prev h r q := by
  unfold shifted prev
  pointwise
  by_cases h1 : r.val = 0
  · rw [if_pos h1, dif_pos (by omega)]
  · rw [if_neg h1, dif_neg (by omega)]

/-- The state at the walk's entry. -/
theorem inv_entry (c : Dev nD) :
    Inv (m ((c.tc : Thread nD τ).loc main_arg0)) (shifted (m ((c.tc : Thread nD τ).loc main_arg1))) (m ((c.tc : Thread nD τ).loc main_arg2)) 0
      (entryContents preI m c) where
  hdh := by (simp only [entryContents, afterL_cons, afterL_nil]; after_reads_simp) <;> rfl
  ha := by (simp only [entryContents, afterL_cons, afterL_nil]; after_reads_simp) <;> rfl
  hhp := by (simp only [entryContents, afterL_cons, afterL_nil]; after_reads_simp) <;> rfl
  hctr := ctr_entry m c
  hcar := by (simp only [entryContents, afterL_cons, afterL_nil]; after_reads_simp) <;> rfl
  hda := fun r q hr => by have := r.isLt; omega
  hdu := fun r q hr => by have := r.isLt; omega

/-- The reference's run: its results are the chains' values. -/
theorem run_ref (ρ : Dev nD → PrngReg) :
    θ_run (defs (F := F)) (onTc (τ := τ) (main (F := F))) ⟨m, fun _ => 0, ρ⟩ fun r => ∀ c : Dev nD,
      r.2.mem ((c.tc : Thread nD τ).loc main_v7_5) = da (m ((c.tc : Thread nD τ).loc main_arg0)) (m ((c.tc : Thread nD τ).loc main_arg1)) (m ((c.tc : Thread nD τ).loc main_arg2))
      ∧ r.2.mem ((c.tc : Thread nD τ).loc main_v7_6) = du (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h5, h6, h0, h1, h2⟩ := h c
    have hI := inv_iter (inv_entry m c) 4096 le_rfl
    refine ⟨h5.trans ?_, h6.trans ?_, h0, h1, h2⟩
    · funext i
      obtain ⟨r, q, rfl⟩ : ∃ (r : Fin 4096) (q : Fin 1024), i = ix2 r q := ⟨i 0, i 1, eq_ix2 i⟩
      refine (hI.hda r q (by omega)).trans ?_
      rw [shifted_apply]
      rfl
    · funext i
      obtain ⟨r, q, rfl⟩ : ∃ (r : Fin 4096) (q : Fin 1024), i = ix2 r q := ⟨i 0, i 1, eq_ix2 i⟩
      exact hI.hdu r q (by omega)) (run m ρ)

end Cert.LruRef

end
-- ==== Proof.LruClaims.lean ====
/- The claims about the gradient of the gated linear recurrence (Kernel, Reference), from the kernel's run (LruKernel.lean) and the
   reference's (LruRef.lean). -/
module

public import proofs.«01_k».proof.Defs
public import proofs.«01_k».proof.Proof.Gen.Kernel.Frame
public import proofs.«01_k».proof.Proof.LruKernel
public import proofs.«01_k».proof.Proof.LruRef

@[expose] public section

set_option maxRecDepth 16384

noncomputable section

namespace Cert.LruClaims

open Idealize.ShloMosaic Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.LruRef.run_ref m ρ)

theorem algebraic : Cert.algebraic_KernelIdeal_ReferenceIdeal := by
  intro m g m' g' _ hargs
  refine ⟨fun c => Cert.Lru.da (Cert.LruKernel.argA m c) (Cert.LruKernel.argH m c) (Cert.LruKernel.argD m c),
    fun c => Cert.Lru.du (Cert.LruKernel.argA m c) (Cert.LruKernel.argD m c), ?_, ?_⟩
  · refine (θ_run Cert.KernelIdeal.defs _ _).mono (fun r h c => ?_) (Cert.KernelIdeal.Value.run_blocks m g)
    obtain ⟨h4, h5, hk⟩ := h c
    exact ⟨h4.trans (Cert.LruKernel.final4 m (fun x y => add_comm x y) c), h5.trans (Cert.LruKernel.final5 m (fun x y => add_comm x y) c), hk⟩
  · refine (θ_run Cert.ReferenceIdeal.defs _ _).mono (fun r h c => ?_) (Cert.LruRef.run_ref m' g')
    obtain ⟨h4, h5, hk⟩ := h c
    obtain ⟨e0, e1, e2⟩ := hargs c
    refine ⟨h4.trans ?_, h5.trans ?_, hk⟩
    · rw [e0, e1, e2]
    · rw [e0, e2]

end Cert.LruClaims

end
-- ==== Proof.SwigluSpec.lean ====
/- The gated feed-forward, as functions of whole arrays of extended reals. -/
module

public import Idealize.ShloMosaic.Lib.Pipeline.ValueKit

@[expose] public section

noncomputable section

namespace Cert.SwigluSpec

open Idealize.ShloMosaic

abbrev Tok : Shape := ⟨2, ![4096, 1024]⟩
abbrev Up : Shape := ⟨2, ![1024, 2816]⟩
abbrev Down : Shape := ⟨2, ![2816, 1024]⟩
abbrev Hid : Shape := ⟨2, ![4096, 2816]⟩

/-- A projection up. -/
def up (t : Vec Ideal Tok .bf16) (w : Vec Ideal Up .bf16) : Vec Ideal Hid .bf16 :=
  fun i => ∑ k : Fin 1024, t (ix2 (i 0) k) * w (ix2 k (i 1))

/-- The gated activation. -/
def gate (h1 h3 : Vec Ideal Hid .bf16) : Vec Ideal Hid .bf16 :=
  fun i => h1 i * Ideal.logistic (h1 i) * h3 i

/-- The projection down. -/
def down (a : Vec Ideal Hid .bf16) (w : Vec Ideal Down .bf16) : Vec Ideal Tok .f32 :=
  fun i => ∑ k : Fin 2816, a (ix2 (i 0) k) * w (ix2 k (i 1))

/-- The cotangent of the gated activation. -/
def dact (d : Vec Ideal Tok .bf16) (w : Vec Ideal Down .bf16) : Vec Ideal Hid .bf16 :=
  fun i => ∑ k : Fin 1024, d (ix2 (i 0) k) * w (ix2 (i 1) k)

/-- The cotangent of the gated projection. -/
def dgate (da h1 h3 : Vec Ideal Hid .bf16) : Vec Ideal Hid .bf16 :=
  fun i => da i * h3 i * Ideal.logistic (h1 i) * (1 + h1 i * (1 - Ideal.logistic (h1 i)))

/-- The cotangent of the other projection. -/
def dlin (da h1 : Vec Ideal Hid .bf16) : Vec Ideal Hid .bf16 :=
  fun i => da i * h1 i * Ideal.logistic (h1 i)

end Cert.SwigluSpec

end
-- ==== Proof.SwigluRun.lean ====
/- The run of the gated feed-forward's three calls: every buffer outside the calls' own ends at the contents that the
   third call leaves. -/
module

public import proofs.«01_k».proof.Proof.Gen.SwigluIdeal.Frame

@[expose] public section

set_option maxRecDepth 16384

noncomputable section

namespace Cert.SwigluRun

open Cert.SwigluIdeal Cert.SwigluIdeal.Gen
open Idealize.ShloMosaic Idealize.ShloMosaic.TcCoe Idealize.ShloMosaic.Tactic Idealize.ShloMosaic.Rounds
open Idealize.SL Idealize.SL.RA Idealize.SL.BI Idealize.SL.BI.BIBase Idealize.SL.BI.Laws Idealize.SL.ProofMode Idealize.SL.Sem
open scoped Idealize.SL.BI

variable {F : FTy → Type} [FloatOps F]
local notation "𝕄" => MT nD τ sig Unit (Elt F) ℕ (UR sig nD τ) ℕ

variable (m : (ℓ : Loc nD τ sig) → Buf (Elt F) ℓ) (ρ : Dev nD → PrngReg)

-- the launch's implicit arguments are found by unifying its conclusion with the statement
set_option backward.isDefEq.respectTransparency.types false in
theorem run_all : θ_run defs (onTc (τ := τ) (main (F := F))) ⟨m, fun _ => 0, ρ⟩ fun r =>
    ∀ c : Dev nD, ∀ b ∈ Pipeline.ucRefs τ sig, r.2.mem (c, b) = W3 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end Cert.SwigluRun

end
-- ==== Proof.SwigluKernel.lean ====
/- What the three calls leave in their output arrays, from the contents each call finds. -/
module

public import proofs.«01_k».proof.Proof.SwigluSpec
public import proofs.«01_k».proof.Proof.SwigluRun

@[expose] public section

set_option maxRecDepth 16384

noncomputable section

namespace Cert.SwigluKernel

open Cert.SwigluIdeal Cert.SwigluIdeal.Gen Cert.SwigluSpec
open Idealize.ShloMosaic Idealize.ShloMosaic.TcCoe Idealize.SL.Sem

section Calls

variable (V : (c : Dev nD) → (b : Ref sig .tc) → Buf (Elt Ideal) ((c : Thread nD τ).loc b)) (c : Dev nD)

theorem index0 : ∀ t : Fin cfg0.N, win0_0.index t = ![t.val % 8, 0] ∧ win0_1.index t = ![0, t.val / 8] ∧ win0_2.index t = ![t.val % 8, 0]
    ∧ win0_3.index t = ![0, t.val / 8] ∧ win0_4.index t = ![t.val % 8, t.val / 8] ∧ win0_5.index t = ![t.val % 8, t.val / 8]
    ∧ win0_6.index t = ![t.val % 8, t.val / 8] :=
  (by decide +kernel : ∀ t : Fin grid0.N, win0_0.index t = ![t.val % 8, 0] ∧ win0_1.index t = ![0, t.val / 8] ∧ win0_2.index t = ![t.val % 8, 0]
    ∧ win0_3.index t = ![0, t.val / 8] ∧ win0_4.index t = ![t.val % 8, t.val / 8] ∧ win0_5.index t = ![t.val % 8, t.val / 8]
    ∧ win0_6.index t = ![t.val % 8, t.val / 8])

theorem index1 : ∀ t : Fin cfg1.N, win1_0.index t = ![t.val, 0] ∧ win1_1.index t = ![0, 0] ∧ win1_2.index t = ![t.val, 0] :=
  (by decide +kernel : ∀ t : Fin grid1.N, win1_0.index t = ![t.val, 0] ∧ win1_1.index t = ![0, 0] ∧ win1_2.index t = ![t.val, 0])

theorem index2 : ∀ t : Fin cfg2.N, win2_0.index t = ![t.val % 8, 0] ∧ win2_1.index t = ![t.val / 8, 0] ∧ win2_2.index t = ![t.val % 8, t.val / 8]
    ∧ win2_3.index t = ![t.val % 8, t.val / 8] ∧ win2_4.index t = ![t.val % 8, t.val / 8] ∧ win2_5.index t = ![t.val % 8, t.val / 8] :=
  (by decide +kernel : ∀ t : Fin grid2.N, win2_0.index t = ![t.val % 8, 0] ∧ win2_1.index t = ![t.val / 8, 0]
    ∧ win2_2.index t = ![t.val % 8, t.val / 8]
    ∧ win2_3.index t = ![t.val % 8, t.val / 8] ∧ win2_4.index t = ![t.val % 8, t.val / 8] ∧ win2_5.index t = ![t.val % 8, t.val / 8])

theorem h1_eq : (dat0 V c).arrAt 4 cfg0.N = up (V c main_arg0) (V c main_arg1) := by
  refine (dat0 V c).arrAt_eq_of_covers 4 _ (by decide +kernel) fun t hf y => ?_
  obtain ⟨i0, i1, i2, i3, i4, i5, i6⟩ := index0 t
  blk_simp
  rw [after0_4]
  frame_out
  unfold_payloads
  unfold up
  pointwise
  blk_point [iblk0, i0, i1, i2, i3, i4, i5, i6]

theorem h3_eq : (dat0 V c).arrAt 5 cfg0.N = up (V c main_arg0) (V c main_arg2) := by
  refine (dat0 V c).arrAt_eq_of_covers 5 _ (by decide +kernel) fun t hf y => ?_
  obtain ⟨i0, i1, i2, i3, i4, i5, i6⟩ := index0 t
  blk_simp
  rw [after0_5]
  frame_out
  unfold_payloads
  unfold up
  pointwise
  blk_point [iblk0, i0, i1, i2, i3, i4, i5, i6]

theorem act_eq : (dat0 V c).arrAt 6 cfg0.N = gate (up (V c main_arg0) (V c main_arg1)) (up (V c main_arg0) (V c main_arg2)) := by
  refine (dat0 V c).arrAt_eq_of_covers 6 _ (by decide +kernel) fun t hf y => ?_
  obtain ⟨i0, i1, i2, i3, i4, i5, i6⟩ := index0 t
  blk_simp
  rw [after0_6]
  frame_out
  unfold_payloads
  unfold gate up
  pointwise
  blk_point [iblk0, i0, i1, i2, i3, i4, i5, i6]

theorem y_eq : (dat1 V c).arrAt 2 cfg1.N = down (V c main_v0_2) (V c main_arg3) := by
  refine (dat1 V c).arrAt_eq_of_covers 2 _ (by decide +kernel) fun t hf y => ?_
  obtain ⟨i0, i1, i2⟩ := index1 t
  blk_simp
  rw [after1_2]
  frame_out
  unfold_payloads
  unfold down
  pointwise
  blk_point [iblk1, i0, i1, i2]

theorem dh1_eq : (dat2 V c).arrAt 4 cfg2.N = dgate (dact (V c main_arg4) (V c main_arg3)) (V c main_v0_0) (V c main_v0_1) := by
  refine (dat2 V c).arrAt_eq_of_covers 4 _ (by decide +kernel) fun t hf y => ?_
  obtain ⟨i0, i1, i2, i3, i4, i5⟩ := index2 t
  blk_simp
  rw [after2_4]
  frame_out
  unfold_payloads
  unfold dgate dact
  pointwise
  blk_point [iblk2, i0, i1, i2, i3, i4, i5]

theorem dh3_eq : (dat2 V c).arrAt 5 cfg2.N = dlin (dact (V c main_arg4) (V c main_arg3)) (V c main_v0_0) := by
  refine (dat2 V c).arrAt_eq_of_covers 5 _ (by decide +kernel) fun t hf y => ?_
  obtain ⟨i0, i1, i2, i3, i4, i5⟩ := index2 t
  blk_simp
  rw [after2_5]
  frame_out
  unfold_payloads
  unfold dlin dact
  pointwise
  blk_point [iblk2, i0, i1, i2, i3, i4, i5]

end Calls

end Cert.SwigluKernel

end
-- ==== Proof.SwigluRef.lean ====
/- The gated feed-forward's reference: its results in the arrays' spelling. -/
module

public import proofs.«01_k».proof.Proof.SwigluSpec
public import proofs.«01_k».proof.Proof.Gen.SwigluRefIdeal.Run

@[expose] public section

set_option maxRecDepth 16384

noncomputable section

namespace Cert.SwigluRef

open Cert.SwigluRefIdeal Cert.SwigluRefIdeal.Gen Cert.SwigluSpec
open Idealize.ShloMosaic Idealize.ShloMosaic.TcCoe Idealize.SL.Sem

/-- The gated projection's cotangent by the product rule. -/
def dgate' (da h1 h3 : Vec Ideal Hid .bf16) : Vec Ideal Hid .bf16 :=
  fun i => da i * h3 i * Ideal.logistic (h1 i) + h1 i * (da i * h3 i) * (Ideal.logistic (h1 i) * (1 - Ideal.logistic (h1 i)))

variable (m : (ℓ : Loc nD τ sig) → Buf (Elt Ideal) ℓ) (ρ : Dev nD → PrngReg)

/-- Both projections of the input. -/
abbrev g1 (c : Dev nD) : Vec Ideal Hid .bf16 := up (m ((c.tc : Thread nD τ).loc main_arg0)) (m ((c.tc : Thread nD τ).loc main_arg1))
abbrev g3 (c : Dev nD) : Vec Ideal Hid .bf16 := up (m ((c.tc : Thread nD τ).loc main_arg0)) (m ((c.tc : Thread nD τ).loc main_arg2))
abbrev da (c : Dev nD) : Vec Ideal Hid .bf16 := dact (m ((c.tc : Thread nD τ).loc main_arg4)) (m ((c.tc : Thread nD τ).loc main_arg3))

theorem run_ref : θ_run defs (onTc (τ := τ) (main (F := Ideal))) ⟨m, fun _ => 0, ρ⟩ fun r => ∀ c : Dev nD,
      r.2.mem ((c.tc : Thread nD τ).loc main_v13) = down (gate (g1 m c) (g3 m c)) (m ((c.tc : Thread nD τ).loc main_arg3))
      ∧ r.2.mem ((c.tc : Thread nD τ).loc main_v18) = gate (g1 m c) (g3 m c)
      ∧ r.2.mem ((c.tc : Thread nD τ).loc main_v19) = dgate' (da m c) (g1 m c) (g3 m c)
      ∧ r.2.mem ((c.tc : Thread nD τ).loc main_v20) = dlin (da m c) (g1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.SwigluRefIdeal.Value.run m ρ)
  obtain ⟨e0, e1, e2, e3, hk⟩ := h c
  refine ⟨e0.trans ?_, e1.trans ?_, e2.trans ?_, e3.trans ?_, hk⟩ <;> funext i
  all_goals
    simp only [down, gate, dgate', dlin, g1, g3, da, dact, up, Ideal.logistic]
    pointwise
  rw [mul_comm, mul_assoc]

end Cert.SwigluRef

end
-- ==== Proof.SwigluAlg.lean ====
/- The two spellings of the gated projection's cotangent agree where what multiplies them is finite. -/
module

public import proofs.«01_k».proof.Proof.SwigluSpec
public import proofs.«01_k».proof.Pre_finite

@[expose] public section

set_option maxRecDepth 16384

noncomputable section

namespace Cert.SwigluAlg

open Idealize.ShloMosaic Cert.SwigluSpec

/-- Neither infinity. -/
def IsFin (x : EReal) : Prop := ∃ r : ℝ, x = (r : EReal)

theorem fin_mul {x y : EReal} : IsFin x → IsFin y → IsFin (x * y)
  | ⟨a, ha⟩, ⟨b, hb⟩ => ⟨a * b, by rw [ha, hb, EReal.coe_mul]⟩

theorem fin_sum {ι : Type} (s : Finset ι) (f : ι → EReal) (h : ∀ i ∈ s, IsFin (f i)) : IsFin (∑ i ∈ s, f i) :=
  Finset.sum_induction f IsFin (fun x y hx hy => by
    obtain ⟨a, ha⟩ := hx
    obtain ⟨b, hb⟩ := hy
    exact ⟨a + b, by rw [ha, hb, EReal.coe_add]⟩) ⟨0, EReal.coe_zero.symm⟩ h

/-- The derivative of `h · σ(h)`, factored and by the product rule. -/
theorem silu_deriv {x : EReal} (hx : IsFin x) (h : EReal) :
    x * Ideal.logistic h * (1 + h * (1 - Ideal.logistic h))
      = x * Ideal.logistic h + h * x * (Ideal.logistic h * (1 - Ideal.logistic h)) := by
  obtain ⟨r, rfl⟩ := hx
  induction h with
  | bot => simp
  | top =>
    have h0 : (1 : EReal) - 1 = 0 := by
      rw [← EReal.coe_one, ← EReal.coe_sub, sub_self, EReal.coe_zero]
    simp [h0]
  | coe h =>
    rw [Ideal.logistic_coe]
    norm_cast
    ring

theorem dact_fin {d : Vec Ideal Tok .bf16} {w : Vec Ideal Down .bf16} (hd : ∀ i, IsFin (d i)) (hw : ∀ i, IsFin (w i)) (i : Hid.Idx) :
    IsFin (dact d w i) := fin_sum _ _ fun _ _ => fin_mul (hd _) (hw _)

theorem up_fin {t : Vec Ideal Tok .bf16} {w : Vec Ideal Up .bf16} (ht : ∀ i, IsFin (t i)) (hw : ∀ i, IsFin (w i)) (i : Hid.Idx) :
    IsFin (up t w i) := fin_sum _ _ fun _ _ => fin_mul (ht _) (hw _)

/-- The comparison that the precondition makes, at one element. -/
theorem fin_of_lt {x : EReal} (h : max x (-x) < ⊤) : IsFin x := by
  induction x with
  | bot => simp at h
  | top => simp at h
  | coe r => exact ⟨r, rfl⟩

theorem fin_of_word {x : Ideal .f32} (h : BitVec.ofBool (decide (FloatOps.absf x < Ideal.ofBits FTy.f32 2139095040#32)) = 1#1) : IsFin x := by
  refine fin_of_lt ?_
  have e : Ideal.ofBits FTy.f32 2139095040#32 = ⊤ := by simp [Ideal.ofBits, Ideal.ieee]
  rw [e] at h
  by_contra hn
  rw [show decide (FloatOps.absf x < (⊤ : EReal)) = false from decide_eq_false hn] at h
  exact absurd h (by decide)

end Cert.SwigluAlg

end
-- ==== Proof.SwigluClaims.lean ====
/- The claims about the gated feed-forward (Swiglu, SwigluRef). -/
module

public import proofs.«01_k».proof.Defs
public import proofs.«01_k».proof.Proof.Gen.Swiglu.Frame
public import proofs.«01_k».proof.Proof.SwigluKernel
public import proofs.«01_k».proof.Proof.SwigluRef
public import proofs.«01_k».proof.Proof.SwigluAlg

@[expose] public section

set_option maxRecDepth 16384

noncomputable section

namespace Cert.SwigluClaims

open Idealize.ShloMosaic Idealize.ShloMosaic.TcCoe Idealize.SL.Sem Cert.SwigluSpec Cert.SwigluAlg

instance pre_facts : Cert.Pre_finite.Facts where
  bitsLt_bf16_f32 := by decide
  bcast_S_S4096x1024 := by decide
  bcast_S_S1024x2816 := by decide
  bcast_S_S2816x1024 := by decide

theorem frame_p : Cert.quiescent_Swiglu := fun m ρ _ => Cert.Swiglu.Gen.frame m ρ

theorem frame_pi : Cert.quiescent_SwigluIdeal := fun m ρ _ => Cert.SwigluIdeal.Gen.frame m ρ

theorem frame_pi_pre : Cert.quiescent_SwigluIdeal_pre_finite := fun m ρ _ => Cert.SwigluIdeal.Gen.frame m ρ

theorem frame_ri : Cert.quiescent_SwigluRefIdeal := fun m ρ _ =>
  (θ_run Cert.SwigluRefIdeal.defs _ _).mono
    (fun r h => ⟨fun c => (h c).2.2.2.2, Idealize.ShloMosaic.sem_eq_zero_of_no_sems (by decide) r.2⟩)
    (Cert.SwigluRefIdeal.Value.run m ρ)

theorem frame_ri_pre : Cert.quiescent_SwigluRefIdeal_pre_finite := fun m ρ _ => frame_ri m ρ trivial

section Results

open Cert.SwigluIdeal Cert.SwigluIdeal.Gen

variable (m : (ℓ : Loc nD τ sig) → Buf (Elt Ideal) ℓ) (ρ : Dev nD → PrngReg)

/-- Both projections of the input, and the cotangent of the gated activation. -/
abbrev h1 (c : Dev nD) : Vec Ideal Hid .bf16 := up (m ((c.tc : Thread nD τ).loc main_arg0)) (m ((c.tc : Thread nD τ).loc main_arg1))
abbrev h3 (c : Dev nD) : Vec Ideal Hid .bf16 := up (m ((c.tc : Thread nD τ).loc main_arg0)) (m ((c.tc : Thread nD τ).loc main_arg2))
abbrev da (c : Dev nD) : Vec Ideal Hid .bf16 := dact (m ((c.tc : Thread nD τ).loc main_arg4)) (m ((c.tc : Thread nD τ).loc main_arg3))

theorem run_kernel : θ_run defs (onTc (τ := τ) (main (F := Ideal))) ⟨m, fun _ => 0, ρ⟩ fun r => ∀ c : Dev nD,
      r.2.mem ((c.tc : Thread nD τ).loc main_v1) = down (gate (h1 m c) (h3 m c)) (m ((c.tc : Thread nD τ).loc main_arg3))
      ∧ r.2.mem ((c.tc : Thread nD τ).loc main_v0_2) = gate (h1 m c) (h3 m c)
      ∧ r.2.mem ((c.tc : Thread nD τ).loc main_v2_0) = dgate (da m c) (h1 m c) (h3 m c)
      ∧ r.2.mem ((c.tc : Thread nD τ).loc main_v2_1) = dlin (da m c) (h1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.SwigluRun.run_all m ρ)
  have at' : ∀ b : Ref sig .tc, ¬ (Proc.devRef .tc b : DevRef τ sig).isScoped → r.2.mem ((c.tc : Thread nD τ).loc b) = W3 m ρ c (Proc.devRef .tc b) :=
    fun b hb => h c _ (mem_uc b hb)
  have a1 : V1 m ρ c main_v0_0 = h1 m c := (W1_arr m ρ c 4).trans (Cert.SwigluKernel.h1_eq (V0 m ρ) c)
  have a3 : V1 m ρ c main_v0_1 = h3 m c := (W1_arr m ρ c 5).trans (Cert.SwigluKernel.h3_eq (V0 m ρ) c)
  have aa : V1 m ρ c main_v0_2 = gate (h1 m c) (h3 m c) := (W1_arr m ρ c 6).trans (Cert.SwigluKernel.act_eq (V0 m ρ) c)
  have b3 : V1 m ρ c main_arg3 = m ((c.tc : Thread nD τ).loc main_arg3) := W1_args m ρ c _ (by decide)
  have c1 : V2 m ρ c main_v0_0 = h1 m c := (W2_of m ρ c main_v0_0 (by decide)).trans a1
  have c3 : V2 m ρ c main_v0_1 = h3 m c := (W2_of m ρ c main_v0_1 (by decide)).trans a3
  have d3 : V2 m ρ c main_arg3 = m ((c.tc : Thread nD τ).loc main_arg3) := W2_args m ρ c _ (by decide)
  have d4 : V2 m ρ c main_arg4 = m ((c.tc : Thread nD τ).loc main_arg4) := W2_args m ρ c _ (by decide)
  have e0 := Cert.SwigluKernel.y_eq (V1 m ρ) c
  have e1 := Cert.SwigluKernel.dh1_eq (V2 m ρ) c
  have e2 := Cert.SwigluKernel.dh3_eq (V2 m ρ) c
  rw [aa, b3] at e0
  rw [c1, c3, d3, d4] at e1
  rw [c1, d3, d4] at e2
  refine ⟨?_, ?_, ?_, ?_, (at' _ (by decide)).trans (W3_main_arg0 m ρ c), (at' _ (by decide)).trans (W3_main_arg1 m ρ c),
    (at' _ (by decide)).trans (W3_main_arg2 m ρ c), (at' _ (by decide)).trans (W3_main_arg3 m ρ c), (at' _ (by decide)).trans (W3_main_arg4 m ρ c)⟩
  · exact (at' main_v1 (by decide)).trans ((W3_of m ρ c main_v1 (by decide)).trans ((W2_arr m ρ c 2).trans e0))
  · exact (at' main_v0_2 (by decide)).trans ((W3_of m ρ c main_v0_2 (by decide)).trans ((W2_of m ρ c main_v0_2 (by decide)).trans aa))
  · exact (at' main_v2_0 (by decide)).trans ((W3_arr m ρ c 4).trans e1)
  · exact (at' main_v2_1 (by decide)).trans ((W3_arr m ρ c 5).trans e2)

/-- Under the precondition both spellings of the gated projection's cotangent are one. -/
theorem dgate_eq (h : Cert.Pre_SwigluIdeal_finite m) (c : Dev nD) : Cert.SwigluRef.dgate' (da m c) (h1 m c) (h3 m c) = dgate (da m c) (h1 m c) (h3 m c) := by
  obtain ⟨p0, p2, p3, p4⟩ := h c
  unfold Cert.Pre_finite.fn at p0 p2 p3 p4
  have f0 : ∀ i, IsFin (m ((c.tc : Thread nD τ).loc main_arg0) i) := fun i => fin_of_word (congrFun p0 i)
  have f2 : ∀ i, IsFin (m ((c.tc : Thread nD τ).loc main_arg2) i) := fun i => fin_of_word (congrFun p2 i)
  have f3 : ∀ i, IsFin (m ((c.tc : Thread nD τ).loc main_arg3) i) := fun i => fin_of_word (congrFun p3 i)
  have f4 : ∀ i, IsFin (m ((c.tc : Thread nD τ).loc main_arg4) i) := fun i => fin_of_word (congrFun p4 i)
  funext i
  exact (silu_deriv (fin_mul (dact_fin f4 f3 i) (up_fin f0 f2 i)) (h1 m c i)).symm

end Results

theorem algebraic : Cert.algebraic_SwigluIdeal_SwigluRefIdeal_pre_finite := by
  intro m g m' g' hpre hargs
  refine ⟨fun c => down (gate (h1 m c) (h3 m c)) (m ((c.tc : Thread _ _).loc Cert.SwigluIdeal.main_arg3)), fun c => gate (h1 m c) (h3 m c),
    fun c => dgate (da m c) (h1 m c) (h3 m c), fun c => dlin (da m c) (h1 m c), run_kernel m g, ?_⟩
  refine (θ_run Cert.SwigluRefIdeal.defs _ _).mono (fun r h c => ?_) (Cert.SwigluRef.run_ref m' g')
  obtain ⟨e0, e1, e2, e3, e4⟩ := hargs c
  obtain ⟨q0, q1, q2, q3, hk⟩ := h c
  have g1 : Cert.SwigluRef.g1 m' c = h1 m c := by unfold Cert.SwigluRef.g1; rw [e0, e1]
  have g3 : Cert.SwigluRef.g3 m' c = h3 m c := by unfold Cert.SwigluRef.g3; rw [e0, e2]
  have gd : Cert.SwigluRef.da m' c = da m c := by unfold Cert.SwigluRef.da; rw [e3, e4]
  rw [g1, g3, e3] at q0
  rw [g1, g3] at q1
  rw [g1, g3, gd, dgate_eq m hpre c] at q2
  rw [g1, gd] at q3
  exact ⟨q0, q1, q2, q3, hk⟩

end Cert.SwigluClaims

end
-- ==== Proof.SumSplit.lean ====
/- A sum over an axis that the grid runs over in two steps. -/
module

public import Mathlib.Algebra.BigOperators.Fin

@[expose] public section

namespace Cert.SumSplit

/-- The parts of the two steps add up to the whole sum. -/
theorem two {M : Type} [AddCommMonoid M] {n N : ℕ} (hN : N = n + n) (a b : Fin n → M) (f : Fin N → M)
    (ha : ∀ k : Fin n, a k = f ⟨k.val, by omega⟩) (hb : ∀ k : Fin n, b k = f ⟨n + k.val, by omega⟩) :
    ∑ k, a k + ∑ k, b k = ∑ k, f k := by
  subst hN
  rw [Fin.sum_univ_add]
  exact congrArg₂ _ (Finset.sum_congr rfl fun k _ => ha k) (Finset.sum_congr rfl fun k _ => hb k)

/-- The same for two sums accumulated together. -/
theorem pair {M : Type} [AddCommMonoid M] {n N : ℕ} (hN : N = n + n) (a b a' b' : Fin n → M) (f f' : Fin N → M)
    (ha : ∀ k : Fin n, a k = f ⟨k.val, by omega⟩) (hb : ∀ k : Fin n, b k = f ⟨n + k.val, by omega⟩)
    (ha' : ∀ k : Fin n, a' k = f' ⟨k.val, by omega⟩) (hb' : ∀ k : Fin n, b' k = f' ⟨n + k.val, by omega⟩) :
    (∑ k, a k + ∑ k, a' k) + (∑ k, b k + ∑ k, b' k) = ∑ k, f k + ∑ k, f' k := by
  rw [add_add_add_comm, two hN a b f ha hb, two hN a' b' f' ha' hb']

end Cert.SumSplit

end
-- ==== Proof.DownWeight.lean ====
module

public import proofs.«01_k».proof.Defs
public import proofs.«01_k».proof.Proof.Gen.DownWeight.Frame
public import proofs.«01_k».proof.Proof.Gen.DownWeightIdeal.Value
public import proofs.«01_k».proof.Proof.Gen.DownWeightRefIdeal.Run
public import Idealize.ShloMosaic.Lib.Pipeline.ValueKit
public import Idealize.ShloMosaic.Lib.Pipeline.ReadBack
public import proofs.«01_k».proof.Proof.SumSplit

@[expose] public section

set_option maxRecDepth 16384

noncomputable section

namespace Cert.DownWeightVal

open Idealize.ShloMosaic Idealize.ShloMosaic.TcCoe Idealize.SL.Sem

/-- The gradient of the down projection's weights: the saved activations against the cotangent, over the tokens. -/
def dw (a : Vec Ideal ⟨2, ![4096, 2816]⟩ .bf16) (d : Vec Ideal ⟨2, ![4096, 1024]⟩ .bf16) : Vec Ideal ⟨2, ![2816, 1024]⟩ .bf16 :=
  fun i => ∑ k : Fin 4096, a (ix2 k (i 0)) * d (ix2 k (i 1))

section Kernel

open Cert.DownWeightIdeal Cert.DownWeightIdeal.Gen

variable (m : (ℓ : Loc nD τ sig) → Buf (Elt Ideal) ℓ)

theorem index_eq : ∀ t : Fin cfg0.N, win0_0.index t = ![t.val % 2, t.val / 2] ∧ win0_1.index t = ![t.val % 2, 0] ∧ win0_2.index t = ![t.val / 2, 0] :=
  (by decide +kernel : ∀ t : Fin grid0.N, win0_0.index t = ![t.val % 2, t.val / 2] ∧ win0_1.index t = ![t.val % 2, 0] ∧ win0_2.index t = ![t.val / 2, 0])

theorem final (c : Dev nD) : (dats m 0 c).arrAt 2 cfg0.N
    = dw (m ((c.tc : Thread nD τ).loc main_arg0)) (m ((c.tc : Thread nD τ).loc main_arg1)) := by
  refine (dats m 0 c).arrAt_eq_of_covers 2 _ (by decide +kernel) fun t hf y => ?_
  have h1 : t.val % 2 = 1 := (flush0_2 t).mp hf
  have h0 : ¬ t.val % 2 = 0 := by omega
  have hN : t.val < 4 := lt_of_lt_of_eq t.isLt N_0
  blk_simp
  rw [after0_2, outsAt0_B m c t h0 h1]
  frame_out
  have hp := outsAt0_A m c ⟨t.val - 1, lt_of_le_of_lt (Nat.sub_le _ _) t.isLt⟩ (by show (t.val - 1) % 2 = 0; omega) (by show ¬ (t.val - 1) % 2 = 1; omega)
  dsimp only at hp
  rw [hp]
  frame_out
  simp only [read_unread_whole]
  unfold_payloads
  pointwise
  unfold dw
  refine SumSplit.two (M := Ideal .f32) rfl _ _ _ (fun k => ?_) fun k => ?_
  · have hi := index_eq ⟨t.val - 1, lt_of_le_of_lt (Nat.sub_le _ _) t.isLt⟩
    have hi' := index_eq t
    congr 1 <;> blk_ext [iblk, V, hi.1, hi.2.1, hi'.2.2]
  · have hi' := index_eq t
    congr 1 <;> blk_ext [iblk, V, hi'.1, hi'.2.1, hi'.2.2]

end Kernel

section Reference

open Cert.DownWeightRefIdeal Cert.DownWeightRefIdeal.Gen

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.DownWeightRefIdeal.Value.run m ρ)
  funext i
  unfold dw
  pointwise
  exact Finset.sum_congr rfl fun k _ => mul_comm _ _

end Reference

theorem frame_p : Cert.quiescent_DownWeight := fun m ρ _ => Cert.DownWeight.Gen.frame m ρ

theorem frame_pi : Cert.quiescent_DownWeightIdeal := fun m ρ _ => Cert.DownWeightIdeal.Gen.frame m ρ

theorem frame_ri : Cert.quiescent_DownWeightRefIdeal := fun m ρ _ =>
  (θ_run Cert.DownWeightRefIdeal.defs _ _).mono
    (fun r h => ⟨fun c => (h c).2, Idealize.ShloMosaic.sem_eq_zero_of_no_sems (by decide) r.2⟩) (Cert.DownWeightRefIdeal.Value.run m ρ)

theorem algebraic : Cert.algebraic_DownWeightIdeal_DownWeightRefIdeal := by
  intro m g m' g' _ hargs
  refine ⟨fun c => dw (m ((c.tc : Thread _ _).loc Cert.DownWeightIdeal.main_arg0)) (m ((c.tc : Thread _ _).loc Cert.DownWeightIdeal.main_arg1)), ?_, ?_⟩
  · refine (θ_run Cert.DownWeightIdeal.defs _ _).mono (fun r h c => ?_) (Cert.DownWeightIdeal.Value.run_blocks m g)
    exact ⟨(h c).1.trans (final m c), (h c).2⟩
  · refine (θ_run Cert.DownWeightRefIdeal.defs _ _).mono (fun r h c => ?_) (run_ref m' g')
    obtain ⟨e0, e1⟩ := hargs c
    refine ⟨(h c).1.trans ?_, (h c).2⟩
    rw [e0, e1]

end Cert.DownWeightVal

end
-- ==== Proof.UpWeight.lean ====
module

public import proofs.«01_k».proof.Defs
public import proofs.«01_k».proof.Proof.Gen.UpWeight.Frame
public import proofs.«01_k».proof.Proof.Gen.UpWeightIdeal.Value
public import proofs.«01_k».proof.Proof.Gen.UpWeightRefIdeal.Run
public import Idealize.ShloMosaic.Lib.Pipeline.ValueKit
public import Idealize.ShloMosaic.Lib.Pipeline.ReadBack
public import proofs.«01_k».proof.Proof.SumSplit

@[expose] public section

set_option maxRecDepth 16384

noncomputable section

namespace Cert.UpWeightVal

open Idealize.ShloMosaic Idealize.ShloMosaic.TcCoe Idealize.SL.Sem

/-- The gradient of the up projections' weights: the block's input against the cotangent, over the tokens. -/
def dw (a : Vec Ideal ⟨2, ![4096, 1024]⟩ .bf16) (d : Vec Ideal ⟨2, ![4096, 2816]⟩ .bf16) : Vec Ideal ⟨2, ![1024, 2816]⟩ .bf16 :=
  fun i => ∑ k : Fin 4096, a (ix2 k (i 0)) * d (ix2 k (i 1))

section Kernel

open Cert.UpWeightIdeal Cert.UpWeightIdeal.Gen

variable (m : (ℓ : Loc nD τ sig) → Buf (Elt Ideal) ℓ)

theorem index_eq : ∀ t : Fin cfg0.N, win0_0.index t = ![t.val % 2, 0] ∧ win0_1.index t = ![t.val % 2, t.val / 2] ∧ win0_2.index t = ![0, t.val / 2] :=
  (by decide +kernel : ∀ t : Fin grid0.N, win0_0.index t = ![t.val % 2, 0] ∧ win0_1.index t = ![t.val % 2, t.val / 2] ∧ win0_2.index t = ![0, t.val / 2])

theorem final (c : Dev nD) : (dats m 0 c).arrAt 2 cfg0.N
    = dw (m ((c.tc : Thread nD τ).loc main_arg0)) (m ((c.tc : Thread nD τ).loc main_arg1)) := by
  refine (dats m 0 c).arrAt_eq_of_covers 2 _ (by decide +kernel) fun t hf y => ?_
  have h1 : t.val % 2 = 1 := (flush0_2 t).mp hf
  have h0 : ¬ t.val % 2 = 0 := by omega
  have hN : t.val < 4 := lt_of_lt_of_eq t.isLt N_0
  blk_simp
  rw [after0_2, outsAt0_B m c t h0 h1]
  frame_out
  have hp := outsAt0_A m c ⟨t.val - 1, lt_of_le_of_lt (Nat.sub_le _ _) t.isLt⟩ (by show (t.val - 1) % 2 = 0; omega) (by show ¬ (t.val - 1) % 2 = 1; omega)
  dsimp only at hp
  rw [hp]
  frame_out
  simp only [read_unread_whole]
  unfold_payloads
  pointwise
  unfold dw
  refine SumSplit.two (M := Ideal .f32) rfl _ _ _ (fun k => ?_) fun k => ?_
  · have hi := index_eq ⟨t.val - 1, lt_of_le_of_lt (Nat.sub_le _ _) t.isLt⟩
    have hi' := index_eq t
    congr 1 <;> blk_ext [iblk, V, hi.1, hi.2.1, hi'.2.2]
  · have hi' := index_eq t
    congr 1 <;> blk_ext [iblk, V, hi'.1, hi'.2.1, hi'.2.2]

end Kernel

section Reference

open Cert.UpWeightRefIdeal Cert.UpWeightRefIdeal.Gen

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.UpWeightRefIdeal.Value.run m ρ)
  funext i
  unfold dw
  pointwise
  exact Finset.sum_congr rfl fun k _ => mul_comm _ _

end Reference

theorem frame_p : Cert.quiescent_UpWeight := fun m ρ _ => Cert.UpWeight.Gen.frame m ρ

theorem frame_pi : Cert.quiescent_UpWeightIdeal := fun m ρ _ => Cert.UpWeightIdeal.Gen.frame m ρ

theorem frame_ri : Cert.quiescent_UpWeightRefIdeal := fun m ρ _ =>
  (θ_run Cert.UpWeightRefIdeal.defs _ _).mono
    (fun r h => ⟨fun c => (h c).2, Idealize.ShloMosaic.sem_eq_zero_of_no_sems (by decide) r.2⟩) (Cert.UpWeightRefIdeal.Value.run m ρ)

theorem algebraic : Cert.algebraic_UpWeightIdeal_UpWeightRefIdeal := by
  intro m g m' g' _ hargs
  refine ⟨fun c => dw (m ((c.tc : Thread _ _).loc Cert.UpWeightIdeal.main_arg0)) (m ((c.tc : Thread _ _).loc Cert.UpWeightIdeal.main_arg1)), ?_, ?_⟩
  · refine (θ_run Cert.UpWeightIdeal.defs _ _).mono (fun r h c => ?_) (Cert.UpWeightIdeal.Value.run_blocks m g)
    exact ⟨(h c).1.trans (final m c), (h c).2⟩
  · refine (θ_run Cert.UpWeightRefIdeal.defs _ _).mono (fun r h c => ?_) (run_ref m' g')
    obtain ⟨e0, e1⟩ := hargs c
    refine ⟨(h c).1.trans ?_, (h c).2⟩
    rw [e0, e1]

end Cert.UpWeightVal

end
-- ==== Proof.UpInput.lean ====
module

public import proofs.«01_k».proof.Defs
public import proofs.«01_k».proof.Proof.Gen.UpInput.Frame
public import proofs.«01_k».proof.Proof.Gen.UpInputIdeal.Value
public import proofs.«01_k».proof.Proof.Gen.UpInputRefIdeal.Run
public import Idealize.ShloMosaic.Lib.Pipeline.ValueKit
public import Idealize.ShloMosaic.Lib.Pipeline.ReadBack
public import proofs.«01_k».proof.Proof.SumSplit

@[expose] public section

set_option maxRecDepth 16384

noncomputable section

namespace Cert.UpInputVal

open Idealize.ShloMosaic Idealize.ShloMosaic.TcCoe Idealize.SL.Sem

/-- The gradient of the up projections' input: both cotangents against their weights, over the hidden features. -/
def dt (d1 : Vec Ideal ⟨2, ![4096, 2816]⟩ .bf16) (w1 : Vec Ideal ⟨2, ![1024, 2816]⟩ .bf16) (d3 : Vec Ideal ⟨2, ![4096, 2816]⟩ .bf16)
    (w3 : Vec Ideal ⟨2, ![1024, 2816]⟩ .bf16) : Vec Ideal ⟨2, ![4096, 1024]⟩ .f32 :=
  fun i => ∑ k : Fin 2816, d1 (ix2 (i 0) k) * w1 (ix2 (i 1) k) + ∑ k : Fin 2816, d3 (ix2 (i 0) k) * w3 (ix2 (i 1) k)

section Kernel

open Cert.UpInputIdeal Cert.UpInputIdeal.Gen

variable (m : (ℓ : Loc nD τ sig) → Buf (Elt Ideal) ℓ)

theorem index_eq : ∀ t : Fin cfg0.N, win0_0.index t = ![t.val / 2, t.val % 2] ∧ win0_1.index t = ![0, t.val % 2] ∧ win0_2.index t = ![t.val / 2, t.val % 2]
    ∧ win0_3.index t = ![0, t.val % 2] ∧ win0_4.index t = ![t.val / 2, 0] :=
  (by decide +kernel : ∀ t : Fin grid0.N, win0_0.index t = ![t.val / 2, t.val % 2] ∧ win0_1.index t = ![0, t.val % 2] ∧ win0_2.index t = ![t.val / 2, t.val % 2]
    ∧ win0_3.index t = ![0, t.val % 2] ∧ win0_4.index t = ![t.val / 2, 0])

theorem final (c : Dev nD) : (dats m 0 c).arrAt 4 cfg0.N
    = dt (m ((c.tc : Thread nD τ).loc main_arg0)) (m ((c.tc : Thread nD τ).loc main_arg1)) (m ((c.tc : Thread nD τ).loc main_arg2))
        (m ((c.tc : Thread nD τ).loc main_arg3)) := by
  refine (dats m 0 c).arrAt_eq_of_covers 4 _ (by decide +kernel) fun t hf y => ?_
  have h1 : t.val % 2 = 1 := (flush0_4 t).mp hf
  have h0 : ¬ t.val % 2 = 0 := by omega
  have hN : t.val < 8 := lt_of_lt_of_eq t.isLt N_0
  blk_simp
  rw [after0_4, outsAt0_B m c t h0 h1]
  frame_out
  have hp := outsAt0_A m c ⟨t.val - 1, lt_of_le_of_lt (Nat.sub_le _ _) t.isLt⟩ (by show (t.val - 1) % 2 = 0; omega) (by show ¬ (t.val - 1) % 2 = 1; omega)
  dsimp only at hp
  rw [hp]
  frame_out
  simp only [read_unread_whole]
  unfold_payloads
  pointwise
  unfold dt
  have hi := index_eq ⟨t.val - 1, lt_of_le_of_lt (Nat.sub_le _ _) t.isLt⟩
  have hi' := index_eq t
  refine SumSplit.pair (M := Ideal .f32) rfl _ _ _ _ _ _ (fun k => ?_) (fun k => ?_) (fun k => ?_) fun k => ?_
  all_goals congr 1 <;> blk_ext [iblk, V, hi.1, hi.2.1, hi.2.2.1, hi.2.2.2.1, hi'.1, hi'.2.1, hi'.2.2.1, hi'.2.2.2.1, hi'.2.2.2.2]

end Kernel

section Reference

open Cert.UpInputRefIdeal Cert.UpInputRefIdeal.Gen

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = dt (m ((c.tc : Thread nD τ).loc main_arg0)) (m ((c.tc : Thread nD τ).loc main_arg1)) (m ((c.tc : Thread nD τ).loc main_arg2))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Cert.UpInputRefIdeal.Value.run m ρ)
  funext i
  unfold dt
  pointwise
  exact add_comm _ _

end Reference

theorem frame_p : Cert.quiescent_UpInput := fun m ρ _ => Cert.UpInput.Gen.frame m ρ

theorem frame_pi : Cert.quiescent_UpInputIdeal := fun m ρ _ => Cert.UpInputIdeal.Gen.frame m ρ

theorem frame_ri : Cert.quiescent_UpInputRefIdeal := fun m ρ _ =>
  (θ_run Cert.UpInputRefIdeal.defs _ _).mono
    (fun r h => ⟨fun c => (h c).2, Idealize.ShloMosaic.sem_eq_zero_of_no_sems (by decide) r.2⟩) (Cert.UpInputRefIdeal.Value.run m ρ)

theorem algebraic : Cert.algebraic_UpInputIdeal_UpInputRefIdeal := by
  intro m g m' g' _ hargs
  refine ⟨fun c => dt (m ((c.tc : Thread _ _).loc Cert.UpInputIdeal.main_arg0)) (m ((c.tc : Thread _ _).loc Cert.UpInputIdeal.main_arg1))
    (m ((c.tc : Thread _ _).loc Cert.UpInputIdeal.main_arg2)) (m ((c.tc : Thread _ _).loc Cert.UpInputIdeal.main_arg3)), ?_, ?_⟩
  · refine (θ_run Cert.UpInputIdeal.defs _ _).mono (fun r h c => ?_) (Cert.UpInputIdeal.Value.run_blocks m g)
    exact ⟨(h c).1.trans (final m c), (h c).2⟩
  · refine (θ_run Cert.UpInputRefIdeal.defs _ _).mono (fun r h c => ?_) (run_ref m' g')
    obtain ⟨e0, e1, e2, e3⟩ := hargs c
    refine ⟨(h c).1.trans ?_, (h c).2⟩
    rw [e0, e1, e2, e3]

end Cert.UpInputVal

end
-- ==== Proof.Products.lean ====
/- The three products of a projection's forward and backward pass, index by index, and a sum accumulated in four steps. -/
module

public import proofs.«01_k».proof.Defs
public import Idealize.ShloMosaic.Lib.Pipeline.ValueKit

@[expose] public section

noncomputable section

namespace Cert.Products

open Idealize.ShloMosaic Idealize.SL.Sem

variable {M N K : ℕ}

/-- Rows through a weight matrix. -/
def forward (a : Vec Ideal ⟨2, ![M, K]⟩ .bf16) (w : Vec Ideal ⟨2, ![K, N]⟩ .bf16) : Vec Ideal ⟨2, ![M, N]⟩ .f32 :=
  fun i => ∑ k : Fin K, a (ix2 (i 0) k) * w (ix2 k (i 1))

/-- The cotangent back through the weight matrix. -/
def inputGrad (d : Vec Ideal ⟨2, ![M, K]⟩ .bf16) (w : Vec Ideal ⟨2, ![N, K]⟩ .bf16) : Vec Ideal ⟨2, ![M, N]⟩ .f32 :=
  fun i => ∑ k : Fin K, d (ix2 (i 0) k) * w (ix2 (i 1) k)

/-- The cotangent of the weight matrix, summed over the tokens. -/
def weightGrad (a : Vec Ideal ⟨2, ![K, M]⟩ .bf16) (d : Vec Ideal ⟨2, ![K, N]⟩ .bf16) : Vec Ideal ⟨2, ![M, N]⟩ .bf16 :=
  fun i => ∑ k : Fin K, a (ix2 k (i 0)) * d (ix2 k (i 1))

/-- The parts of four steps add up to the whole sum. -/
theorem four {M : Type} [AddCommMonoid M] {n N : ℕ} (hN : N = n + n + n + n) (a b c d : Fin n → M) (f : Fin N → M)
    (ha : ∀ k : Fin n, a k = f ⟨k.val, by omega⟩) (hb : ∀ k : Fin n, b k = f ⟨n + k.val, by omega⟩)
    (hc : ∀ k : Fin n, c k = f ⟨n + n + k.val, by omega⟩) (hd : ∀ k : Fin n, d k = f ⟨n + n + n + k.val, by omega⟩) :
    ∑ k, a k + ∑ k, b k + ∑ k, c k + ∑ k, d k = ∑ k, f k := by
  subst hN
  rw [Fin.sum_univ_add, Fin.sum_univ_add, Fin.sum_univ_add, Finset.sum_congr rfl fun k _ => ha k, Finset.sum_congr rfl fun k _ => hb k,
    Finset.sum_congr rfl fun k _ => hc k, Finset.sum_congr rfl fun k _ => hd k]
  rfl

end Cert.Products

end
-- ==== Proof.ProductsForward.lean ====
module

public import proofs.«01_k».proof.Defs
public import proofs.«01_k».proof.Proof.Gen.RgIn.Frame
public import proofs.«01_k».proof.Proof.Gen.RgInIdeal.Value
public import proofs.«01_k».proof.Proof.Gen.RgInRefIdeal.Run
public import proofs.«01_k».proof.Proof.Gen.AbIn.Frame
public import proofs.«01_k».proof.Proof.Gen.AbInIdeal.Value
public import proofs.«01_k».proof.Proof.Gen.AbInRefIdeal.Run
public import proofs.«01_k».proof.Proof.Gen.MixOut.Frame
public import proofs.«01_k».proof.Proof.Gen.MixOutIdeal.Value
public import proofs.«01_k».proof.Proof.Gen.MixOutRefIdeal.Run
public import Idealize.ShloMosaic.Lib.Pipeline.ValueKit
public import Idealize.ShloMosaic.Lib.Pipeline.ReadBack
public import proofs.«01_k».proof.Proof.SumSplit
public import proofs.«01_k».proof.Proof.Products

@[expose] public section

set_option maxRecDepth 16384

noncomputable section

namespace Cert.ProductsForward

open Idealize.ShloMosaic Idealize.ShloMosaic.TcCoe Idealize.SL.Sem Cert.Products

/-! The input projection of the linear recurrence block. -/

section RgIn

namespace RgIn

section Kernel

open Cert.RgInIdeal Cert.RgInIdeal.Gen

variable (m : (ℓ : Loc nD τ sig) → Buf (Elt Ideal) ℓ)

theorem index_eq : ∀ t : Fin cfg0.N, win0_0.index t = ![t.val / 2, 0] ∧ win0_1.index t = ![0, t.val % 2] ∧ win0_2.index t = ![t.val / 2, t.val % 2] :=
  (by decide +kernel : ∀ t : Fin grid0.N, win0_0.index t = ![t.val / 2, 0] ∧ win0_1.index t = ![0, t.val % 2] ∧ win0_2.index t = ![t.val / 2, t.val % 2])

theorem final (c : Dev nD) : (dats m 0 c).arrAt 2 cfg0.N
    = forward (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := index_eq t
  blk_simp
  rw [after0_2]
  frame_out
  unfold_payloads
  unfold forward
  pointwise
  blk_point [iblk, V, i0, i1, i2]

end Kernel

section Reference

open Cert.RgInRefIdeal Cert.RgInRefIdeal.Gen

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = forward (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.RgInRefIdeal.Value.run m ρ)
  funext i
  unfold forward
  pointwise
end Reference

theorem frame_p : Cert.quiescent_RgIn := fun m ρ _ => Cert.RgIn.Gen.frame m ρ

theorem frame_pi : Cert.quiescent_RgInIdeal := fun m ρ _ => Cert.RgInIdeal.Gen.frame m ρ

theorem frame_ri : Cert.quiescent_RgInRefIdeal := fun m ρ _ =>
  (θ_run Cert.RgInRefIdeal.defs _ _).mono
    (fun r h => ⟨fun c => (h c).2, Idealize.ShloMosaic.sem_eq_zero_of_no_sems (by decide) r.2⟩) (Cert.RgInRefIdeal.Value.run m ρ)

theorem algebraic : Cert.algebraic_RgInIdeal_RgInRefIdeal := by
  intro m g m' g' _ hargs
  refine ⟨fun c => forward (m ((c.tc : Thread _ _).loc Cert.RgInIdeal.main_arg0)) (m ((c.tc : Thread _ _).loc Cert.RgInIdeal.main_arg1)), ?_, ?_⟩
  · exact (θ_run Cert.RgInIdeal.defs _ _).mono (fun r h c => ⟨(h c).1.trans (final m c), (h c).2⟩) (Cert.RgInIdeal.Value.run_blocks m g)
  · refine (θ_run Cert.RgInRefIdeal.defs _ _).mono (fun r h c => ?_) (run_ref m' g')
    obtain ⟨e0, e1⟩ := hargs c
    exact ⟨(h c).1.trans (by rw [e0, e1]), (h c).2⟩

end RgIn

end RgIn

/-! The input projection of the block of the two chunked recurrences, whole rows of the output in one tile. -/

section AbIn

namespace AbIn

section Kernel

open Cert.AbInIdeal Cert.AbInIdeal.Gen

variable (m : (ℓ : Loc nD τ sig) → Buf (Elt Ideal) ℓ)

theorem index_eq : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem final (c : Dev nD) : (dats m 0 c).arrAt 2 cfg0.N
    = forward (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := index_eq t
  blk_simp
  rw [after0_2]
  frame_out
  unfold_payloads
  unfold forward
  pointwise
  blk_point [iblk, V, i0, i1, i2]

end Kernel

section Reference

open Cert.AbInRefIdeal Cert.AbInRefIdeal.Gen

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = forward (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.AbInRefIdeal.Value.run m ρ)
  funext i
  unfold forward
  pointwise
end Reference

theorem frame_p : Cert.quiescent_AbIn := fun m ρ _ => Cert.AbIn.Gen.frame m ρ

theorem frame_pi : Cert.quiescent_AbInIdeal := fun m ρ _ => Cert.AbInIdeal.Gen.frame m ρ

theorem frame_ri : Cert.quiescent_AbInRefIdeal := fun m ρ _ =>
  (θ_run Cert.AbInRefIdeal.defs _ _).mono
    (fun r h => ⟨fun c => (h c).2, Idealize.ShloMosaic.sem_eq_zero_of_no_sems (by decide) r.2⟩) (Cert.AbInRefIdeal.Value.run m ρ)

theorem algebraic : Cert.algebraic_AbInIdeal_AbInRefIdeal := by
  intro m g m' g' _ hargs
  refine ⟨fun c => forward (m ((c.tc : Thread _ _).loc Cert.AbInIdeal.main_arg0)) (m ((c.tc : Thread _ _).loc Cert.AbInIdeal.main_arg1)), ?_, ?_⟩
  · exact (θ_run Cert.AbInIdeal.defs _ _).mono (fun r h c => ⟨(h c).1.trans (final m c), (h c).2⟩) (Cert.AbInIdeal.Value.run_blocks m g)
  · refine (θ_run Cert.AbInRefIdeal.defs _ _).mono (fun r h c => ?_) (run_ref m' g')
    obtain ⟨e0, e1⟩ := hargs c
    exact ⟨(h c).1.trans (by rw [e0, e1]), (h c).2⟩

end AbIn

end AbIn

/-! The output projection of either block. -/

section MixOut

namespace MixOut

section Kernel

open Cert.MixOutIdeal Cert.MixOutIdeal.Gen

variable (m : (ℓ : Loc nD τ sig) → Buf (Elt Ideal) ℓ)

theorem index_eq : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem final (c : Dev nD) : (dats m 0 c).arrAt 2 cfg0.N
    = forward (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := index_eq t
  blk_simp
  rw [after0_2]
  frame_out
  unfold_payloads
  unfold forward
  pointwise
  blk_point [iblk, V, i0, i1, i2]

end Kernel

section Reference

open Cert.MixOutRefIdeal Cert.MixOutRefIdeal.Gen

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = forward (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.MixOutRefIdeal.Value.run m ρ)
  funext i
  unfold forward
  pointwise
end Reference

theorem frame_p : Cert.quiescent_MixOut := fun m ρ _ => Cert.MixOut.Gen.frame m ρ

theorem frame_pi : Cert.quiescent_MixOutIdeal := fun m ρ _ => Cert.MixOutIdeal.Gen.frame m ρ

theorem frame_ri : Cert.quiescent_MixOutRefIdeal := fun m ρ _ =>
  (θ_run Cert.MixOutRefIdeal.defs _ _).mono
    (fun r h => ⟨fun c => (h c).2, Idealize.ShloMosaic.sem_eq_zero_of_no_sems (by decide) r.2⟩) (Cert.MixOutRefIdeal.Value.run m ρ)

theorem algebraic : Cert.algebraic_MixOutIdeal_MixOutRefIdeal := by
  intro m g m' g' _ hargs
  refine ⟨fun c => forward (m ((c.tc : Thread _ _).loc Cert.MixOutIdeal.main_arg0)) (m ((c.tc : Thread _ _).loc Cert.MixOutIdeal.main_arg1)), ?_, ?_⟩
  · exact (θ_run Cert.MixOutIdeal.defs _ _).mono (fun r h c => ⟨(h c).1.trans (final m c), (h c).2⟩) (Cert.MixOutIdeal.Value.run_blocks m g)
  · refine (θ_run Cert.MixOutRefIdeal.defs _ _).mono (fun r h c => ?_) (run_ref m' g')
    obtain ⟨e0, e1⟩ := hargs c
    exact ⟨(h c).1.trans (by rw [e0, e1]), (h c).2⟩

end MixOut

end MixOut

end Cert.ProductsForward

end
-- ==== Proof.ProductsInput.lean ====
module

public import proofs.«01_k».proof.Defs
public import proofs.«01_k».proof.Proof.Gen.MixOutInput.Frame
public import proofs.«01_k».proof.Proof.Gen.MixOutInputIdeal.Value
public import proofs.«01_k».proof.Proof.Gen.MixOutInputRefIdeal.Run
public import proofs.«01_k».proof.Proof.Gen.AbInput.Frame
public import proofs.«01_k».proof.Proof.Gen.AbInputIdeal.Value
public import proofs.«01_k».proof.Proof.Gen.AbInputRefIdeal.Run
public import proofs.«01_k».proof.Proof.Gen.RgInput.Frame
public import proofs.«01_k».proof.Proof.Gen.RgInputIdeal.Value
public import proofs.«01_k».proof.Proof.Gen.RgInputRefIdeal.Run
public import Idealize.ShloMosaic.Lib.Pipeline.ValueKit
public import Idealize.ShloMosaic.Lib.Pipeline.ReadBack
public import proofs.«01_k».proof.Proof.SumSplit
public import proofs.«01_k».proof.Proof.Products

@[expose] public section

set_option maxRecDepth 16384

noncomputable section

namespace Cert.ProductsInput

open Idealize.ShloMosaic Idealize.ShloMosaic.TcCoe Idealize.SL.Sem Cert.Products

/-! The cotangent back through the output projection. -/

section MixOutInput

namespace MixOutInput

section Kernel

open Cert.MixOutInputIdeal Cert.MixOutInputIdeal.Gen

variable (m : (ℓ : Loc nD τ sig) → Buf (Elt Ideal) ℓ)

theorem index_eq : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem final (c : Dev nD) : (dats m 0 c).arrAt 2 cfg0.N
    = inputGrad (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := index_eq t
  blk_simp
  rw [after0_2]
  frame_out
  unfold_payloads
  unfold inputGrad
  pointwise
  blk_point [iblk, V, i0, i1, i2]

end Kernel

section Reference

open Cert.MixOutInputRefIdeal Cert.MixOutInputRefIdeal.Gen

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = inputGrad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.MixOutInputRefIdeal.Value.run m ρ)
  funext i
  unfold inputGrad
  pointwise
end Reference

theorem frame_p : Cert.quiescent_MixOutInput := fun m ρ _ => Cert.MixOutInput.Gen.frame m ρ

theorem frame_pi : Cert.quiescent_MixOutInputIdeal := fun m ρ _ => Cert.MixOutInputIdeal.Gen.frame m ρ

theorem frame_ri : Cert.quiescent_MixOutInputRefIdeal := fun m ρ _ =>
  (θ_run Cert.MixOutInputRefIdeal.defs _ _).mono
    (fun r h => ⟨fun c => (h c).2, Idealize.ShloMosaic.sem_eq_zero_of_no_sems (by decide) r.2⟩) (Cert.MixOutInputRefIdeal.Value.run m ρ)

theorem algebraic : Cert.algebraic_MixOutInputIdeal_MixOutInputRefIdeal := by
  intro m g m' g' _ hargs
  refine ⟨fun c => inputGrad (m ((c.tc : Thread _ _).loc Cert.MixOutInputIdeal.main_arg0)) (m ((c.tc : Thread _ _).loc Cert.MixOutInputIdeal.main_arg1)), ?_, ?_⟩
  · exact (θ_run Cert.MixOutInputIdeal.defs _ _).mono (fun r h c => ⟨(h c).1.trans (final m c), (h c).2⟩) (Cert.MixOutInputIdeal.Value.run_blocks m g)
  · refine (θ_run Cert.MixOutInputRefIdeal.defs _ _).mono (fun r h c => ?_) (run_ref m' g')
    obtain ⟨e0, e1⟩ := hargs c
    exact ⟨(h c).1.trans (by rw [e0, e1]), (h c).2⟩

end MixOutInput

end MixOutInput

/-! The cotangent back through the input projection of the chunked recurrences. -/

section AbInput

namespace AbInput

section Kernel

open Cert.AbInputIdeal Cert.AbInputIdeal.Gen

variable (m : (ℓ : Loc nD τ sig) → Buf (Elt Ideal) ℓ)

theorem index_eq : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem final (c : Dev nD) : (dats m 0 c).arrAt 2 cfg0.N
    = inputGrad (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := index_eq t
  blk_simp
  rw [after0_2]
  frame_out
  unfold_payloads
  unfold inputGrad
  pointwise
  blk_point [iblk, V, i0, i1, i2]

end Kernel

section Reference

open Cert.AbInputRefIdeal Cert.AbInputRefIdeal.Gen

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = inputGrad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.AbInputRefIdeal.Value.run m ρ)
  funext i
  unfold inputGrad
  pointwise
end Reference

theorem frame_p : Cert.quiescent_AbInput := fun m ρ _ => Cert.AbInput.Gen.frame m ρ

theorem frame_pi : Cert.quiescent_AbInputIdeal := fun m ρ _ => Cert.AbInputIdeal.Gen.frame m ρ

theorem frame_ri : Cert.quiescent_AbInputRefIdeal := fun m ρ _ =>
  (θ_run Cert.AbInputRefIdeal.defs _ _).mono
    (fun r h => ⟨fun c => (h c).2, Idealize.ShloMosaic.sem_eq_zero_of_no_sems (by decide) r.2⟩) (Cert.AbInputRefIdeal.Value.run m ρ)

theorem algebraic : Cert.algebraic_AbInputIdeal_AbInputRefIdeal := by
  intro m g m' g' _ hargs
  refine ⟨fun c => inputGrad (m ((c.tc : Thread _ _).loc Cert.AbInputIdeal.main_arg0)) (m ((c.tc : Thread _ _).loc Cert.AbInputIdeal.main_arg1)), ?_, ?_⟩
  · exact (θ_run Cert.AbInputIdeal.defs _ _).mono (fun r h c => ⟨(h c).1.trans (final m c), (h c).2⟩) (Cert.AbInputIdeal.Value.run_blocks m g)
  · refine (θ_run Cert.AbInputRefIdeal.defs _ _).mono (fun r h c => ?_) (run_ref m' g')
    obtain ⟨e0, e1⟩ := hargs c
    exact ⟨(h c).1.trans (by rw [e0, e1]), (h c).2⟩

end AbInput

end AbInput

/-! The cotangent back through the input projection of the linear recurrence block, in two steps. -/

section RgInput

namespace RgInput

section Kernel

open Cert.RgInputIdeal Cert.RgInputIdeal.Gen

variable (m : (ℓ : Loc nD τ sig) → Buf (Elt Ideal) ℓ)

theorem index_eq : ∀ t : Fin cfg0.N, win0_0.index t = ![t.val / 2, t.val % 2] ∧ win0_1.index t = ![0, t.val % 2] ∧ win0_2.index t = ![t.val / 2, 0] :=
  (by decide +kernel : ∀ t : Fin grid0.N, win0_0.index t = ![t.val / 2, t.val % 2] ∧ win0_1.index t = ![0, t.val % 2] ∧ win0_2.index t = ![t.val / 2, 0])

theorem final (c : Dev nD) : (dats m 0 c).arrAt 2 cfg0.N
    = inputGrad (m ((c.tc : Thread nD τ).loc main_arg0)) (m ((c.tc : Thread nD τ).loc main_arg1)) := by
  refine (dats m 0 c).arrAt_eq_of_covers 2 _ (by decide +kernel) fun t hf y => ?_
  have h1 : t.val % 2 = 1 := (flush0_2 t).mp hf
  have h0 : ¬ t.val % 2 = 0 := by omega
  have hN : t.val < 16 := lt_of_lt_of_eq t.isLt N_0
  blk_simp
  rw [after0_2, outsAt0_B m c t h0 h1]
  frame_out
  have hp := outsAt0_A m c ⟨t.val - 1, lt_of_le_of_lt (Nat.sub_le _ _) t.isLt⟩ (by show (t.val - 1) % 2 = 0; omega) (by show ¬ (t.val - 1) % 2 = 1; omega)
  dsimp only at hp
  rw [hp]
  frame_out
  simp only [read_unread_whole]
  unfold_payloads
  pointwise
  unfold inputGrad
  obtain ⟨i0, i1, i2⟩ := index_eq t
  obtain ⟨j0, j1, j2⟩ := index_eq ⟨t.val - 1, lt_of_le_of_lt (Nat.sub_le _ _) t.isLt⟩
  refine SumSplit.two (M := Ideal .f32) rfl _ _ _ (fun k => ?_) fun k => ?_
  · congr 1 <;> blk_ext [iblk, V, j0, j1, i2]
  · congr 1 <;> blk_ext [iblk, V, i0, i1, i2]

end Kernel

section Reference

open Cert.RgInputRefIdeal Cert.RgInputRefIdeal.Gen

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = inputGrad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.RgInputRefIdeal.Value.run m ρ)
  funext i
  unfold inputGrad
  pointwise
end Reference

theorem frame_p : Cert.quiescent_RgInput := fun m ρ _ => Cert.RgInput.Gen.frame m ρ

theorem frame_pi : Cert.quiescent_RgInputIdeal := fun m ρ _ => Cert.RgInputIdeal.Gen.frame m ρ

theorem frame_ri : Cert.quiescent_RgInputRefIdeal := fun m ρ _ =>
  (θ_run Cert.RgInputRefIdeal.defs _ _).mono
    (fun r h => ⟨fun c => (h c).2, Idealize.ShloMosaic.sem_eq_zero_of_no_sems (by decide) r.2⟩) (Cert.RgInputRefIdeal.Value.run m ρ)

theorem algebraic : Cert.algebraic_RgInputIdeal_RgInputRefIdeal := by
  intro m g m' g' _ hargs
  refine ⟨fun c => inputGrad (m ((c.tc : Thread _ _).loc Cert.RgInputIdeal.main_arg0)) (m ((c.tc : Thread _ _).loc Cert.RgInputIdeal.main_arg1)), ?_, ?_⟩
  · exact (θ_run Cert.RgInputIdeal.defs _ _).mono (fun r h c => ⟨(h c).1.trans (final m c), (h c).2⟩) (Cert.RgInputIdeal.Value.run_blocks m g)
  · refine (θ_run Cert.RgInputRefIdeal.defs _ _).mono (fun r h c => ?_) (run_ref m' g')
    obtain ⟨e0, e1⟩ := hargs c
    exact ⟨(h c).1.trans (by rw [e0, e1]), (h c).2⟩

end RgInput

end RgInput

end Cert.ProductsInput

end
-- ==== Proof.ProductsWeight.lean ====
module

public import proofs.«01_k».proof.Defs
public import proofs.«01_k».proof.Proof.Gen.MixOutWeight.Frame
public import proofs.«01_k».proof.Proof.Gen.MixOutWeightIdeal.Value
public import proofs.«01_k».proof.Proof.Gen.MixOutWeightRefIdeal.Run
public import proofs.«01_k».proof.Proof.Gen.RgWeight.Frame
public import proofs.«01_k».proof.Proof.Gen.RgWeightIdeal.Value
public import proofs.«01_k».proof.Proof.Gen.RgWeightRefIdeal.Run
public import proofs.«01_k».proof.Proof.Gen.AbWeight.Frame
public import proofs.«01_k».proof.Proof.Gen.AbWeightIdeal.Value
public import proofs.«01_k».proof.Proof.Gen.AbWeightRefIdeal.Run
public import Idealize.ShloMosaic.Lib.Pipeline.ValueKit
public import Idealize.ShloMosaic.Lib.Pipeline.ReadBack
public import proofs.«01_k».proof.Proof.SumSplit
public import proofs.«01_k».proof.Proof.Products

@[expose] public section

set_option maxRecDepth 16384

noncomputable section

namespace Cert.ProductsWeight

open Idealize.ShloMosaic Idealize.ShloMosaic.TcCoe Idealize.SL.Sem Cert.Products

/-! The output projection, in two steps. -/

section MixOutWeight

namespace MixOutWeight

section Kernel

open Cert.MixOutWeightIdeal Cert.MixOutWeightIdeal.Gen

variable (m : (ℓ : Loc nD τ sig) → Buf (Elt Ideal) ℓ)

theorem index_eq : ∀ t : Fin cfg0.N, win0_0.index t = ![t.val % 2, 0] ∧ win0_1.index t = ![t.val % 2, 0] ∧ win0_2.index t = ![0, 0] :=
  (by decide +kernel : ∀ t : Fin grid0.N, win0_0.index t = ![t.val % 2, 0] ∧ win0_1.index t = ![t.val % 2, 0] ∧ win0_2.index t = ![0, 0])

theorem final (c : Dev nD) : (dats m 0 c).arrAt 2 cfg0.N
    = weightGrad (m ((c.tc : Thread nD τ).loc main_arg0)) (m ((c.tc : Thread nD τ).loc main_arg1)) := by
  refine (dats m 0 c).arrAt_eq_of_covers 2 _ (by decide +kernel) fun t hf y => ?_
  have h1 : t.val % 2 = 1 := (flush0_2 t).mp hf
  have h0 : ¬ t.val % 2 = 0 := by omega
  have hN : t.val < 2 := lt_of_lt_of_eq t.isLt N_0
  blk_simp
  rw [after0_2, outsAt0_B m c t h0 h1]
  frame_out
  have hp := outsAt0_A m c ⟨t.val - 1, lt_of_le_of_lt (Nat.sub_le _ _) t.isLt⟩ (by show (t.val - 1) % 2 = 0; omega) (by show ¬ (t.val - 1) % 2 = 1; omega)
  dsimp only at hp
  rw [hp]
  frame_out
  simp only [read_unread_whole]
  unfold_payloads
  pointwise
  unfold weightGrad
  obtain ⟨i0, i1, i2⟩ := index_eq t
  obtain ⟨j0, j1, j2⟩ := index_eq ⟨t.val - 1, lt_of_le_of_lt (Nat.sub_le _ _) t.isLt⟩
  refine SumSplit.two (M := Ideal .f32) rfl _ _ _ (fun k => ?_) fun k => ?_
  · congr 1 <;> blk_ext [iblk, V, j0, j1, i2]
  · congr 1 <;> blk_ext [iblk, V, i0, i1, i2]

end Kernel

section Reference

open Cert.MixOutWeightRefIdeal Cert.MixOutWeightRefIdeal.Gen

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = weightGrad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.MixOutWeightRefIdeal.Value.run m ρ)
  funext i
  unfold weightGrad
  pointwise
  exact Finset.sum_congr rfl fun k _ => mul_comm _ _
end Reference

theorem frame_p : Cert.quiescent_MixOutWeight := fun m ρ _ => Cert.MixOutWeight.Gen.frame m ρ

theorem frame_pi : Cert.quiescent_MixOutWeightIdeal := fun m ρ _ => Cert.MixOutWeightIdeal.Gen.frame m ρ

theorem frame_ri : Cert.quiescent_MixOutWeightRefIdeal := fun m ρ _ =>
  (θ_run Cert.MixOutWeightRefIdeal.defs _ _).mono
    (fun r h => ⟨fun c => (h c).2, Idealize.ShloMosaic.sem_eq_zero_of_no_sems (by decide) r.2⟩) (Cert.MixOutWeightRefIdeal.Value.run m ρ)

theorem algebraic : Cert.algebraic_MixOutWeightIdeal_MixOutWeightRefIdeal := by
  intro m g m' g' _ hargs
  refine ⟨fun c => weightGrad (m ((c.tc : Thread _ _).loc Cert.MixOutWeightIdeal.main_arg0)) (m ((c.tc : Thread _ _).loc Cert.MixOutWeightIdeal.main_arg1)), ?_, ?_⟩
  · exact (θ_run Cert.MixOutWeightIdeal.defs _ _).mono (fun r h c => ⟨(h c).1.trans (final m c), (h c).2⟩) (Cert.MixOutWeightIdeal.Value.run_blocks m g)
  · refine (θ_run Cert.MixOutWeightRefIdeal.defs _ _).mono (fun r h c => ?_) (run_ref m' g')
    obtain ⟨e0, e1⟩ := hargs c
    exact ⟨(h c).1.trans (by rw [e0, e1]), (h c).2⟩

end MixOutWeight

end MixOutWeight

/-! The input projection of the linear recurrence block, in two steps. -/

section RgWeight

namespace RgWeight

section Kernel

open Cert.RgWeightIdeal Cert.RgWeightIdeal.Gen

variable (m : (ℓ : Loc nD τ sig) → Buf (Elt Ideal) ℓ)

theorem index_eq : ∀ t : Fin cfg0.N, win0_0.index t = ![t.val % 2, 0] ∧ win0_1.index t = ![t.val % 2, t.val / 2] ∧ win0_2.index t = ![0, t.val / 2] :=
  (by decide +kernel : ∀ t : Fin grid0.N, win0_0.index t = ![t.val % 2, 0] ∧ win0_1.index t = ![t.val % 2, t.val / 2] ∧ win0_2.index t = ![0, t.val / 2])

theorem final (c : Dev nD) : (dats m 0 c).arrAt 2 cfg0.N
    = weightGrad (m ((c.tc : Thread nD τ).loc main_arg0)) (m ((c.tc : Thread nD τ).loc main_arg1)) := by
  refine (dats m 0 c).arrAt_eq_of_covers 2 _ (by decide +kernel) fun t hf y => ?_
  have h1 : t.val % 2 = 1 := (flush0_2 t).mp hf
  have h0 : ¬ t.val % 2 = 0 := by omega
  have hN : t.val < 4 := lt_of_lt_of_eq t.isLt N_0
  blk_simp
  rw [after0_2, outsAt0_B m c t h0 h1]
  frame_out
  have hp := outsAt0_A m c ⟨t.val - 1, lt_of_le_of_lt (Nat.sub_le _ _) t.isLt⟩ (by show (t.val - 1) % 2 = 0; omega) (by show ¬ (t.val - 1) % 2 = 1; omega)
  dsimp only at hp
  rw [hp]
  frame_out
  simp only [read_unread_whole]
  unfold_payloads
  pointwise
  unfold weightGrad
  obtain ⟨i0, i1, i2⟩ := index_eq t
  obtain ⟨j0, j1, j2⟩ := index_eq ⟨t.val - 1, lt_of_le_of_lt (Nat.sub_le _ _) t.isLt⟩
  refine SumSplit.two (M := Ideal .f32) rfl _ _ _ (fun k => ?_) fun k => ?_
  · congr 1 <;> blk_ext [iblk, V, j0, j1, i2]
  · congr 1 <;> blk_ext [iblk, V, i0, i1, i2]

end Kernel

section Reference

open Cert.RgWeightRefIdeal Cert.RgWeightRefIdeal.Gen

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = weightGrad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.RgWeightRefIdeal.Value.run m ρ)
  funext i
  unfold weightGrad
  pointwise
  exact Finset.sum_congr rfl fun k _ => mul_comm _ _
end Reference

theorem frame_p : Cert.quiescent_RgWeight := fun m ρ _ => Cert.RgWeight.Gen.frame m ρ

theorem frame_pi : Cert.quiescent_RgWeightIdeal := fun m ρ _ => Cert.RgWeightIdeal.Gen.frame m ρ

theorem frame_ri : Cert.quiescent_RgWeightRefIdeal := fun m ρ _ =>
  (θ_run Cert.RgWeightRefIdeal.defs _ _).mono
    (fun r h => ⟨fun c => (h c).2, Idealize.ShloMosaic.sem_eq_zero_of_no_sems (by decide) r.2⟩) (Cert.RgWeightRefIdeal.Value.run m ρ)

theorem algebraic : Cert.algebraic_RgWeightIdeal_RgWeightRefIdeal := by
  intro m g m' g' _ hargs
  refine ⟨fun c => weightGrad (m ((c.tc : Thread _ _).loc Cert.RgWeightIdeal.main_arg0)) (m ((c.tc : Thread _ _).loc Cert.RgWeightIdeal.main_arg1)), ?_, ?_⟩
  · exact (θ_run Cert.RgWeightIdeal.defs _ _).mono (fun r h c => ⟨(h c).1.trans (final m c), (h c).2⟩) (Cert.RgWeightIdeal.Value.run_blocks m g)
  · refine (θ_run Cert.RgWeightRefIdeal.defs _ _).mono (fun r h c => ?_) (run_ref m' g')
    obtain ⟨e0, e1⟩ := hargs c
    exact ⟨(h c).1.trans (by rw [e0, e1]), (h c).2⟩

end RgWeight

end RgWeight

/-! The input projection of the chunked recurrences, in four steps. -/

section AbWeight

namespace AbWeight

section Kernel

open Cert.AbWeightIdeal Cert.AbWeightIdeal.Gen

variable (m : (ℓ : Loc nD τ sig) → Buf (Elt Ideal) ℓ)

theorem index_eq : ∀ t : Fin cfg0.N, win0_0.index t = ![t.val % 4, t.val / 4] ∧ win0_1.index t = ![t.val % 4, 0] ∧ win0_2.index t = ![t.val / 4, 0] :=
  (by decide +kernel : ∀ t : Fin grid0.N, win0_0.index t = ![t.val % 4, t.val / 4] ∧ win0_1.index t = ![t.val % 4, 0] ∧ win0_2.index t = ![t.val / 4, 0])

theorem final (c : Dev nD) : (dats m 0 c).arrAt 2 cfg0.N
    = weightGrad (m ((c.tc : Thread nD τ).loc main_arg0)) (m ((c.tc : Thread nD τ).loc main_arg1)) := by
  refine (dats m 0 c).arrAt_eq_of_covers 2 _ (by decide +kernel) fun t hf y => ?_
  have h1 : t.val % 4 = 3 := (flush0_2 t).mp hf
  have h0 : ¬ t.val % 4 = 0 := by omega
  have hN : t.val < 16 := lt_of_lt_of_eq t.isLt N_0
  blk_simp
  rw [after0_2, outsAt0_C m c t h0 h1]
  frame_out
  have hp := outsAt0_B m c ⟨t.val - 1, lt_of_le_of_lt (Nat.sub_le _ _) t.isLt⟩ (by show ¬ (t.val - 1) % 4 = 0; omega) (by show ¬ (t.val - 1) % 4 = 3; omega)
  have hq := outsAt0_B m c ⟨t.val - 2, lt_of_le_of_lt (Nat.sub_le _ _) t.isLt⟩ (by show ¬ (t.val - 2) % 4 = 0; omega) (by show ¬ (t.val - 2) % 4 = 3; omega)
  have hr := outsAt0_A m c ⟨t.val - 3, lt_of_le_of_lt (Nat.sub_le _ _) t.isLt⟩ (by show (t.val - 3) % 4 = 0; omega) (by show ¬ (t.val - 3) % 4 = 3; omega)
  simp only [show t.val - 1 - 1 = t.val - 2 by omega, show t.val - 2 - 1 = t.val - 3 by omega] at hp hq hr
  rw [hp]
  frame_out
  rw [hq]
  frame_out
  rw [hr]
  frame_out
  simp only [read_unread_whole]
  unfold_payloads
  pointwise
  unfold weightGrad
  obtain ⟨i0, i1, i2⟩ := index_eq t
  obtain ⟨j0, j1, j2⟩ := index_eq ⟨t.val - 1, lt_of_le_of_lt (Nat.sub_le _ _) t.isLt⟩
  obtain ⟨k0, k1, k2⟩ := index_eq ⟨t.val - 2, lt_of_le_of_lt (Nat.sub_le _ _) t.isLt⟩
  obtain ⟨l0, l1, l2⟩ := index_eq ⟨t.val - 3, lt_of_le_of_lt (Nat.sub_le _ _) t.isLt⟩
  refine four (M := Ideal .f32) rfl _ _ _ _ _ (fun k => ?_) (fun k => ?_) (fun k => ?_) fun k => ?_
  · congr 1 <;> blk_ext [iblk, V, l0, l1, i2]
  · congr 1 <;> blk_ext [iblk, V, k0, k1, i2]
  · congr 1 <;> blk_ext [iblk, V, j0, j1, i2]
  · congr 1 <;> blk_ext [iblk, V, i0, i1, i2]

end Kernel

section Reference

open Cert.AbWeightRefIdeal Cert.AbWeightRefIdeal.Gen

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = weightGrad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.AbWeightRefIdeal.Value.run m ρ)
  funext i
  unfold weightGrad
  pointwise
  exact Finset.sum_congr rfl fun k _ => mul_comm _ _
end Reference

theorem frame_p : Cert.quiescent_AbWeight := fun m ρ _ => Cert.AbWeight.Gen.frame m ρ

theorem frame_pi : Cert.quiescent_AbWeightIdeal := fun m ρ _ => Cert.AbWeightIdeal.Gen.frame m ρ

theorem frame_ri : Cert.quiescent_AbWeightRefIdeal := fun m ρ _ =>
  (θ_run Cert.AbWeightRefIdeal.defs _ _).mono
    (fun r h => ⟨fun c => (h c).2, Idealize.ShloMosaic.sem_eq_zero_of_no_sems (by decide) r.2⟩) (Cert.AbWeightRefIdeal.Value.run m ρ)

theorem algebraic : Cert.algebraic_AbWeightIdeal_AbWeightRefIdeal := by
  intro m g m' g' _ hargs
  refine ⟨fun c => weightGrad (m ((c.tc : Thread _ _).loc Cert.AbWeightIdeal.main_arg0)) (m ((c.tc : Thread _ _).loc Cert.AbWeightIdeal.main_arg1)), ?_, ?_⟩
  · exact (θ_run Cert.AbWeightIdeal.defs _ _).mono (fun r h c => ⟨(h c).1.trans (final m c), (h c).2⟩) (Cert.AbWeightIdeal.Value.run_blocks m g)
  · refine (θ_run Cert.AbWeightRefIdeal.defs _ _).mono (fun r h c => ?_) (run_ref m' g')
    obtain ⟨e0, e1⟩ := hargs c
    exact ⟨(h c).1.trans (by rw [e0, e1]), (h c).2⟩

end AbWeight

end AbWeight

end Cert.ProductsWeight

end
-- ==== Proof.GateClaims.lean ====
/- The output gate of the recurrent layer, `h · gelu(y)`, forward (Gate, GateRef) and backward (GateBwd, GateBwdRef). The kernels cube `y`
   as `y · y²` and the references as `y² · y`. -/
module

public import proofs.«01_k».proof.Defs
public import proofs.«01_k».proof.Proof.Gen.Gate.Frame
public import proofs.«01_k».proof.Proof.Gen.GateIdeal.Value
public import proofs.«01_k».proof.Proof.Gen.GateRefIdeal.Run
public import proofs.«01_k».proof.Proof.Gen.GateBwd.Frame
public import proofs.«01_k».proof.Proof.Gen.GateBwdIdeal.Value
public import proofs.«01_k».proof.Proof.Gen.GateBwdRefIdeal.Run
public import Idealize.ShloMosaic.Lib.Pipeline.ValueKit

@[expose] public section

set_option maxRecDepth 16384

noncomputable section

namespace Cert.GateClaims

open Idealize.ShloMosaic Idealize.ShloMosaic.TcCoe Idealize.SL.Sem

theorem cube (y : Ideal .f32) : y * y * y = y * (y * y) := mul_comm (G := EReal) (y * y) y

namespace Fwd

open Cert.GateRefIdeal Cert.GateRefIdeal.Gen in
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
        = Cert.GateIdeal.Value.G2 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.GateRefIdeal.Value.run m ρ)
  funext i
  pointwise
  rw [show (ix2 (i 0) _ : S4096x2048.Idx) = Cert.GateIdeal.Value.inIdx2_1 i from funext fun a => by fin_cases a <;> rfl]
  rw [cube]

theorem frame_p : Cert.quiescent_Gate := fun m ρ _ => Cert.Gate.Gen.frame m ρ

theorem frame_pi : Cert.quiescent_GateIdeal := fun m ρ _ => Cert.GateIdeal.Gen.frame m ρ

theorem frame_ri : Cert.quiescent_GateRefIdeal := fun m ρ _ =>
  (θ_run Cert.GateRefIdeal.defs _ _).mono
    (fun r h => ⟨fun c => (h c).2, Idealize.ShloMosaic.sem_eq_zero_of_no_sems (by decide) r.2⟩) (run_ref m ρ)

theorem algebraic : Cert.algebraic_GateIdeal_GateRefIdeal := by
  intro m g m' g' _ hargs
  refine ⟨fun c => Cert.GateIdeal.Value.G2 (F := Ideal) _ _, Cert.GateIdeal.Value.run m g, ?_⟩
  refine (θ_run Cert.GateRefIdeal.defs _ _).mono (fun r h c => ?_) (run_ref m' g')
  obtain ⟨e0, e1⟩ := hargs c
  exact ⟨(h c).1.trans (by rw [e0, e1]), (h c).2⟩

end Fwd

namespace Bwd

open Cert.GateBwdRefIdeal Cert.GateBwdRefIdeal.Gen in
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25)
        = Cert.GateBwdIdeal.Value.G3 (F := Ideal) (m ((c.tc : Thread nD τ).loc main_arg1)) (m ((c.tc : Thread nD τ).loc main_arg2))
      ∧ r.2.mem ((c.tc : Thread nD τ).loc main_v38)
        = Cert.GateBwdIdeal.Value.G4 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans ?_, (h c).2.2⟩) (Cert.GateBwdRefIdeal.Value.run m ρ)
  · funext i
    pointwise
    rw [show (ix2 (i 0) _ : S4096x2048.Idx) = Cert.GateBwdIdeal.Value.inIdx3_0 i from funext fun a => by fin_cases a <;> rfl]
    rw [cube]
  · unfold Cert.GateBwdRefIdeal.Value.res_main_v38
    funext i
    pointwise
    rw [show (ix2 (i 0) _ : S4096x2048.Idx) = Cert.GateBwdIdeal.Value.inIdx4_1 i from funext fun a => by fin_cases a <;> rfl]
    rw [cube]

theorem frame_p : Cert.quiescent_GateBwd := fun m ρ _ => Cert.GateBwd.Gen.frame m ρ

theorem frame_pi : Cert.quiescent_GateBwdIdeal := fun m ρ _ => Cert.GateBwdIdeal.Gen.frame m ρ

theorem frame_ri : Cert.quiescent_GateBwdRefIdeal := fun m ρ _ =>
  (θ_run Cert.GateBwdRefIdeal.defs _ _).mono
    (fun r h => ⟨fun c => (h c).2.2, Idealize.ShloMosaic.sem_eq_zero_of_no_sems (by decide) r.2⟩) (run_ref m ρ)

theorem algebraic : Cert.algebraic_GateBwdIdeal_GateBwdRefIdeal := by
  intro m g m' g' _ hargs
  refine ⟨fun c => Cert.GateBwdIdeal.Value.G3 (F := Ideal) _ _, fun c => Cert.GateBwdIdeal.Value.G4 (F := Ideal) _ _ _,
    Cert.GateBwdIdeal.Value.run m g, ?_⟩
  refine (θ_run Cert.GateBwdRefIdeal.defs _ _).mono (fun r h c => ?_) (run_ref m' g')
  obtain ⟨e0, e1, e2⟩ := hargs c
  exact ⟨(h c).1.trans (by rw [e1, e2]), (h c).2.1.trans (by rw [e0, e1, e2]), (h c).2.2⟩

end Bwd

end Cert.GateClaims

end
-- ==== Proof.LruForward.lean ====
/- The gated linear recurrence h_t = a_t h_{t-1} + u_t forward (Lru): one grid point's 128 row stores are the rows of one chain, the carried
   row joins the points, and the output array is the chain of every lane. -/
module

public import proofs.«01_k».proof.Proof.Gen.LruIdeal.Value
public import Idealize.ShloMosaic.Lib.Pipeline.ValueKit
public import Idealize.ShloMosaic.Lib.Pointwise

@[expose] public section

set_option maxRecDepth 16384

noncomputable section

namespace Cert.LruForward

open Cert.LruIdeal Cert.LruIdeal.Gen Idealize.ShloMosaic Idealize.ShloMosaic.TcCoe Idealize.SL.Sem

variable {F : FTy → Type} [FloatOps F]

abbrev Seq : Shape := ⟨2, ![4096, 1024]⟩

/-- A row number, kept in range. -/
def at_ (k : ℕ) : Fin 4096 := ⟨k % 4096, Nat.mod_lt _ (by decide)⟩

theorem at_val {k : ℕ} (hk : k < 4096) : (at_ k).val = k := Nat.mod_eq_of_lt hk

/-- The state of lane `q` after the first `k` rows. -/
def state (a u : Seq.Idx → F .f32) (q : Fin 1024) (k : ℕ) : F .f32 :=
  Nat.rec (FloatOps.ofBits .f32 0x00000000#32)
    (fun k h => FloatOps.addf (FloatOps.mulf (a (ix2 (at_ k) q)) h) (u (ix2 (at_ k) q))) k

theorem state_succ (a u : Seq.Idx → F .f32) (q : Fin 1024) (k : ℕ) :
    state a u q (k + 1) = FloatOps.addf (FloatOps.mulf (a (ix2 (at_ k) q)) (state a u q k)) (u (ix2 (at_ k) q)) := rfl

/-- Every row's state. -/
def out (a u : Seq.Idx → F .f32) : Seq.Idx → F .f32 := fun i => state a u (i 1) ((i 0).val + 1)

/-! ## One grid point -/

theorem rowFits {k : ℕ} (hk : k < 128) : ∀ a, (![k, 0] : Fin S128x1024.rank → ℕ) a + S1x1024.size a ≤ S128x1024.size a :=
  Fin.forall_fin_two.mpr ⟨show k + 1 ≤ 128 by omega, show 0 + 1024 ≤ 1024 by omega⟩

/-- Row `127 - (127 - k)` of the block: row `k` of those there are, and row 0 after them. -/
abbrev rowRect (k : ℕ) : Rect S128x1024 := Rect.unit ![k % 128, 0] S1x1024.size (rowFits (Nat.mod_lt _ (by decide)))

/-- The states of the block's rows. -/
def chain (a u : ℕ → Vec F S1x1024 .f32) (c0 : Vec F S1x1024 .f32) (k : ℕ) : Vec F S1x1024 .f32 :=
  Nat.rec (addf (mulf (a 0) c0) (u 0)) (fun k h => addf (mulf (a (k + 1)) h) (u (k + 1))) k

/-- The stores of the rows `f 0`, `f 1`, … into the block, last store first. -/
def rows (f : ℕ → Vec F S1x1024 .f32) (n : ℕ) : List (View.Piece (Elt F) S128x1024 .f32) :=
  Nat.rec [] (fun k L => ⟨rowRect k, f k⟩ :: L) n

theorem canon_rows (f : ℕ → Vec F S1x1024 .f32) (r : Fin 128) (q : Fin 1024) :
    ∀ n, r.val < n → n ≤ 128 → View.canon (rows f n) (ix2 r q) = f r.val (ix2 0 q)
  | n + 1, h, hn => by
    show View.canon (⟨rowRect n, f n⟩ :: rows f n) (ix2 r q) = _
    have hm : n % 128 = n := Nat.mod_eq_of_lt (by omega)
    by_cases e : r.val = n
    · have hx : (ix2 r q : S128x1024.Idx) = (rowRect n).emb (ix2 0 q : S1x1024.Idx) := by
        funext a
        refine Fin.ext ?_
        refine Eq.trans ?_ (Rect.idx_unit_val _ _ _ _ a).symm
        match a with
        | ⟨0, _⟩ => show r.val = n % 128 + 0; omega
        | ⟨1, _⟩ => show q.val = 0 + q.val; omega
      rw [hx, View.canon_cons_emb, e]
    · rw [View.canon_cons_of_not_mem, canon_rows f r q n (by omega) (by omega)]
      intro hmem
      obtain ⟨x, hx⟩ := (rowRect n).exists_idx_of_mem hmem
      have h0 := congrArg (fun i : S128x1024.Idx => (i 0).val) hx
      have h1 : ((rowRect n).emb x 0).val = n % 128 + (x 0).val := Rect.idx_unit_val _ _ _ _ _
      have h2 : (x 0).val < 1 := (x 0).isLt
      have h3 : ((rowRect n).emb x 0).val = r.val := h0
      omega

section
variable (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1x1024 .f32) (harg4 : arg4.IsWhole)
  (x0 : Vec F S128x1024 .f32) (x1 : Vec F S128x1024 .f32) (xs0 : Vec F S1x1024 .f32)

abbrev rd (v : Memref sig .tc .vmem S128x1024 .f32) (h : v.IsWhole) (x : Vec F S128x1024 .f32) (k : ℕ) : Vec F S1x1024 .f32 :=
  View.readAt (Elt F) v.view (rowRect k).toLoadRect (h.unread x)

abbrev whole1 : Rect S1x1024 := Rect.unit ![0, 0] S1x1024.size inb_S1x1024_S1x1024_0_0

abbrev carryB : Vec F S1x1024 .f32 := View.readAt (Elt F) arg4.view whole1.toLoadRect (harg4.unread xs0)
abbrev carryA : Vec F S1x1024 .f32 := arg4.view.readCov [(⟨whole1, k0_pay3 (F := F)⟩ : View.Piece (Elt F) S1x1024 .f32)] whole1.toLoadRect

theorem stores2_B (hc0 : ¬cond0_0 i) :
    (kernelRun0_B c i arg1 harg1 arg2 harg2 arg3 harg3 arg4 harg4 hc0 x0 x1 xs0).1
      = rows (chain (rd arg1 harg1 x0) (rd arg2 harg2 x1) (carryB arg4 harg4 xs0)) 128 := by
  sl_kernel_rfl

theorem stores0_B (hc0 : ¬cond0_0 i) :
    (kernelRun0_B c i arg1 harg1 arg2 harg2 arg3 harg3 arg4 harg4 hc0 x0 x1 xs0).2.1
      = [⟨whole1, shapeCast S1x1024 (chain (rd arg1 harg1 x0) (rd arg2 harg2 x1) (carryB arg4 harg4 xs0) 127) shapeCasts_S1x1024_S1x1024⟩] := by
  sl_kernel_rfl

theorem stores2_A (hc0 : cond0_0 i) :
    (kernelRun0_A c i arg1 harg1 arg2 harg2 arg3 harg3 arg4 harg4 hc0 x0 x1).1
      = rows (chain (rd arg1 harg1 x0) (rd arg2 harg2 x1) (carryA arg4)) 128 := by
  sl_kernel_rfl

theorem stores0_A (hc0 : cond0_0 i) :
    (kernelRun0_A c i arg1 harg1 arg2 harg2 arg3 harg3 arg4 harg4 hc0 x0 x1).2.1
      = [⟨whole1, shapeCast S1x1024 (chain (rd arg1 harg1 x0) (rd arg2 harg2 x1) (carryA arg4) 127) shapeCasts_S1x1024_S1x1024⟩,
        ⟨whole1, k0_pay3 (F := F)⟩] := by
  sl_kernel_rfl

end

theorem rd_apply (v : Memref sig .tc .vmem S128x1024 .f32) (h : v.IsWhole) (x : Vec F S128x1024 .f32) (k : ℕ) (hk : k < 128) (q : Fin 1024) :
    rd v h x k (ix2 0 q) = x (ix2 ⟨k, hk⟩ q) := by
  unfold rd
  rw [View.readAt_eq_ld, h.read_unread]
  refine View.ld_unit_apply_of x _ _ _ _ _ fun a => ?_
  have hm : k % 128 = k := Nat.mod_eq_of_lt hk
  match a with
  | ⟨0, _⟩ => show k = k % 128 + 0; omega
  | ⟨1, _⟩ => show q.val = 0 + q.val; omega

/-- The chain in a block is the whole chain's part there, where the row that enters is. -/
theorem chain_eq (a u : Seq.Idx → F .f32) (A U : ℕ → Vec F S1x1024 .f32) (c0 : Vec F S1x1024 .f32) (n : ℕ) (q : Fin 1024)
    (hA : ∀ k < 128, A k (ix2 0 q) = a (ix2 (at_ (n + k)) q)) (hU : ∀ k < 128, U k (ix2 0 q) = u (ix2 (at_ (n + k)) q))
    (h0 : c0 (ix2 0 q) = state a u q n) : ∀ k < 128, chain A U c0 k (ix2 0 q) = state a u q (n + k + 1)
  | 0, _ => by
    show FloatOps.addf (FloatOps.mulf (A 0 (ix2 0 q)) (c0 (ix2 0 q))) (U 0 (ix2 0 q)) = _
    rw [hA 0 (by omega), hU 0 (by omega), h0]
    rfl
  | k + 1, hk => by
    show FloatOps.addf (FloatOps.mulf (A (k + 1) (ix2 0 q)) (chain A U c0 k (ix2 0 q))) (U (k + 1) (ix2 0 q)) = _
    rw [hA (k + 1) hk, hU (k + 1) hk, chain_eq a u A U c0 n q hA hU h0 k (by omega)]
    rfl

variable (m : (ℓ : Loc nD τ sig) → Buf (Elt F) ℓ)

abbrev argA (c : Dev nD) : Vec F S4096x1024 .f32 := m ((c.tc : Thread nD τ).loc main_arg0)
abbrev argU (c : Dev nD) : Vec F S4096x1024 .f32 := m ((c.tc : Thread nD τ).loc main_arg1)

theorem index_eq : ∀ t : Fin cfg0.N, win0_0.index t = ![t.val, 0] ∧ win0_1.index t = ![t.val, 0] ∧ win0_2.index t = ![t.val, 0] :=
  (by decide +kernel : ∀ t : Fin grid0.N, win0_0.index t = ![t.val, 0] ∧ win0_1.index t = ![t.val, 0] ∧ win0_2.index t = ![t.val, 0])

theorem lt_N (t : Fin cfg0.N) : t.val < 32 := Nat.lt_of_lt_of_eq t.isLt N_0

theorem blockA (c : Dev nD) (t : Fin cfg0.N) (k : ℕ) (hk : k < 128) (q : Fin 1024) :
    (iblk m c 0 t : Vec F S128x1024 .f32) (ix2 ⟨k, hk⟩ q) = argA m c (ix2 (at_ (128 * t.val + k)) q) := by
  have ht := lt_N t
  have hi := (index_eq t).1
  unfold at_
  blk_ext [iblk, V, hi]

theorem blockU (c : Dev nD) (t : Fin cfg0.N) (k : ℕ) (hk : k < 128) (q : Fin 1024) :
    (iblk m c 1 t : Vec F S128x1024 .f32) (ix2 ⟨k, hk⟩ q) = argU m c (ix2 (at_ (128 * t.val + k)) q) := by
  have ht := lt_N t
  have hi := (index_eq t).2.1
  unfold at_
  blk_ext [iblk, V, hi]

/-- What a point leaves of the output and the carried row. -/
structure Left (c : Dev nD) (t : ℕ) (o : Vec F S128x1024 .f32 × Vec F S1x1024 .f32) : Prop where
  out : ∀ (r : Fin 128) (q : Fin 1024), o.1 (ix2 r q) = state (argA m c) (argU m c) q (128 * t + r.val + 1)
  carry : ∀ q : Fin 1024, o.2 (ix2 0 q) = state (argA m c) (argU m c) q (128 * t + 128)

theorem left_of (c : Dev nD) (t : Fin cfg0.N) (c0 : Vec F S1x1024 .f32)
    (h0 : ∀ q : Fin 1024, c0 (ix2 0 q) = state (argA m c) (argU m c) q (128 * t.val))
    (o : Vec F S128x1024 .f32 × Vec F S1x1024 .f32)
    (h2 : o.1 = View.canon (rows (chain (rd (ms0_0 t) (hs0_0 t) (iblk m c 0 t)) (rd (ms0_1 t) (hs0_1 t) (iblk m c 1 t)) c0) 128))
    (hs : o.2 = chain (rd (ms0_0 t) (hs0_0 t) (iblk m c 0 t)) (rd (ms0_1 t) (hs0_1 t) (iblk m c 1 t)) c0 127) :
    Left m c t.val o := by
  have hC := fun (q : Fin 1024) => chain_eq (argA m c) (argU m c) _ _ c0 (128 * t.val) q
    (fun k hk => (rd_apply (ms0_0 t) (hs0_0 t) (iblk m c 0 t) k hk q).trans (blockA m c t k hk q))
    (fun k hk => (rd_apply (ms0_1 t) (hs0_1 t) (iblk m c 1 t) k hk q).trans (blockU m c t k hk q)) (h0 q)
  refine ⟨fun r q => ?_, fun q => ?_⟩
  · rw [h2, canon_rows _ r q 128 r.isLt le_rfl, hC q r.val r.isLt]
  · rw [hs, hC q 127 (by omega)]

theorem carryA_apply (v : Memref sig .tc .vmem S1x1024 .f32) (q : Fin 1024) :
    carryA (F := F) v (ix2 0 q) = FloatOps.ofBits .f32 0x00000000#32 := by
  unfold carryA
  rw [View.readCov_cons_toLoadRect]
  unfold k0_pay3
  pointwise

theorem carryB_eq (v : Memref sig .tc .vmem S1x1024 .f32) (h : v.IsWhole) (x : Vec F S1x1024 .f32) : carryB v h x = x := by
  unfold carryB
  rw [View.readAt_eq_ld, h.read_unread]
  exact View.ld_unit_lit _ x (by decide)

theorem left (c : Dev nD) : ∀ n (hn : n < cfg0.N), Left m c n (outsAt0 m c n hn)
  | 0, hn => by
    have h0 : (⟨0, hn⟩ : Fin cfg0.N).val % 32 = 0 := rfl
    refine left_of m c ⟨0, hn⟩ (carryA scM0_0) (fun q => carryA_apply _ q) _ ?_ ?_
    all_goals rw [outsAt0_A m c ⟨0, hn⟩ h0]; dsimp only
    · unfold out0_A_2
      rw [View.read_writes_junk_eq_canon, stores2_A]
    · unfold sout0_A_0
      rw [View.read_writes_junk_eq_canon, stores0_A, View.canon_cons_unit_lit _ _ _ (by decide), shapeCast_self]
  | n + 1, hn => by
    have hn' := lt_N ⟨n + 1, hn⟩
    have h0 : ¬(⟨n + 1, hn⟩ : Fin cfg0.N).val % 32 = 0 := by dsimp only at hn' ⊢; omega
    refine left_of m c ⟨n + 1, hn⟩ (outsAt0 m c n (by omega)).2 (fun q => ?_) _ ?_ ?_
    · rw [(left c n (by omega)).carry q]
      congr 1
    all_goals rw [outsAt0_B m c ⟨n + 1, hn⟩ h0]; dsimp only
    · unfold out0_B_2
      rw [View.read_writes_junk_eq_canon, stores2_B, carryB_eq]
      rfl
    · unfold sout0_B_0
      rw [View.read_writes_junk_eq_canon, stores0_B, View.canon_cons_unit_lit _ _ _ (by decide), shapeCast_self, carryB_eq]
      rfl

theorem final (c : Dev nD) : (dats m 0 c).arrAt 2 cfg0.N = out (argA m c) (argU m c) := by
  refine (dats m 0 c).arrAt_eq_of_covers 2 _ (by decide +kernel) fun t hf y => ?_
  blk_simp
  rw [after0_2]
  obtain ⟨r, q, rfl⟩ : ∃ (r : Fin 128) (q : Fin 1024), y = (ix2 r q : S128x1024.Idx) := ⟨y 0, y 1, eq_ix2 (n0 := 128) (n1 := 1024) y⟩
  have ht := lt_N t
  have hr := r.isLt
  have hi := (index_eq t).2.2
  have e : ((win0_2.blk t).view.emb (ix2 r q : S128x1024.Idx) : S4096x1024.Idx) = ix2 ⟨128 * t.val + r.val, by omega⟩ q := by
    blk_ext [hi]
  refine ((left m c t.val t.isLt).out r q).trans ?_
  rw [e]
  rfl

end Cert.LruForward

end
-- ==== Proof.LruForwardRef.lean ====
/- The reference's scan: after `k` trips the carry is the chain at `k` and the first `k` rows are written. And the claims about the
   recurrence forward (Lru, LruRef). -/
module

public import proofs.«01_k».proof.Defs
public import proofs.«01_k».proof.Proof.LruForward
public import proofs.«01_k».proof.Proof.Gen.Lru.Frame
public import proofs.«01_k».proof.Proof.Gen.LruRefIdeal.Run
public import Idealize.ShloMosaic.Lib.DynamicIndex

@[expose] public section

set_option maxRecDepth 16384

noncomputable section

namespace Cert.LruForwardRef

open Cert.LruRefIdeal Cert.LruRefIdeal.Gen Cert.LruRefIdeal.Value Cert.LruForward
open Idealize.ShloMosaic Idealize.ShloMosaic.TcCoe Idealize.SL.Sem Idealize.ShloMosaic.StableHlo

variable {F : FTy → Type} [FloatOps F]

/-- The row of `x` at the word `w`. -/
def rowAt (x : (⟨S4096x1024, .f32⟩ : BufTy).Contents (Elt F)) (w : (⟨S_, .i32⟩ : BufTy).Contents (Elt F)) : (⟨S1024, .f32⟩ : BufTy).Contents (Elt F) :=
  shapeCast S1024 (Host.dynamicSlice S1x1024 x (fun k => (((![w, constantI S_ 32 0#32] : Fin 2 → (⟨S_, .i32⟩ : BufTy).Contents (Elt F))) k (Shape.Idx.first h_S_)).toInt) sliceFits_S4096x1024_S1x1024) shapeCasts_S1x1024_S1024

/-- `x` with the row at the word `w` replaced. -/
def putAt (x : (⟨S4096x1024, .f32⟩ : BufTy).Contents (Elt F)) (y : (⟨S1024, .f32⟩ : BufTy).Contents (Elt F)) (w : (⟨S_, .i32⟩ : BufTy).Contents (Elt F)) : (⟨S4096x1024, .f32⟩ : BufTy).Contents (Elt F) :=
  id (Host.dynamicUpdateSlice x (broadcastInDim S1x1024 ![1] bcast_S1024_S1x1024_1 y) (fun k => (((![w, constantI S_ 32 0#32] : Fin 2 → (⟨S_, .i32⟩ : BufTy).Contents (Elt F))) k (Shape.Idx.first h_S_)).toInt) updateFits_S4096x1024_S1x1024)

theorem next_eq (V : Valuation τ sig (Elt F)) :
    res_main_while0b_v6 V = addf (mulf (rowAt (V (Proc.devRef .tc main_v2_0)) (V (Proc.devRef .tc main_v2_2))) (V (Proc.devRef .tc main_v2_3)))
      (rowAt (V (Proc.devRef .tc main_v2_1)) (V (Proc.devRef .tc main_v2_2))) := by
  unfold res_main_while0b_v6 rowAt
  exact rfl

theorem step4_eq (V : Valuation τ sig (Elt F)) :
    step_main_v2_4 V = putAt (V (Proc.devRef .tc main_v2_4)) (res_main_while0b_v6 V) (V (Proc.devRef .tc main_v2_2)) := by
  unfold step_main_v2_4 putAt
  exact rfl

theorem start_eq {w : (⟨S_, .i32⟩ : BufTy).Contents (Elt F)} {n : ℕ} (hn : n < 4096) (h : w = (fun _ => BitVec.ofNat 32 n : IVec S_ 32)) (k : Fin 2) :
    ((((![w, constantI S_ 32 0#32] : Fin 2 → (⟨S_, .i32⟩ : BufTy).Contents (Elt F))) k (Shape.Idx.first h_S_)).toInt) = ((![n, 0] : Fin 2 → ℕ) k : ℤ) := by
  subst h
  refine Fin.cases ?_ (fun j => ?_) k
  · exact toInt_ofNat_of_lt (by omega)
  · obtain rfl : j = 0 := Subsingleton.elim _ _
    rfl

theorem row_fits {n : ℕ} (hn : n < 4096) : S4096x1024.Slices ![n, 0] S1x1024 := by
  refine ⟨rfl, fun i => ?_⟩
  refine Fin.cases ?_ (fun j => ?_) i
  · show n + 1 ≤ 4096; omega
  · obtain rfl : j = 0 := Subsingleton.elim _ _
    show 0 + 1024 ≤ 1024; omega

theorem read_row (x : (⟨S4096x1024, .f32⟩ : BufTy).Contents (Elt F)) {w : (⟨S_, .i32⟩ : BufTy).Contents (Elt F)} {n : ℕ} (hn : n < 4096)
    (h : w = (fun _ => BitVec.ofNat 32 n : IVec S_ 32)) (q : Fin 1024) : rowAt x w (ix1 q) = x (ix2 ⟨n, hn⟩ q) := by
  unfold rowAt
  rw [Host.dynamicSlice_eq_extractStridedSlice S1x1024 x _ ![n, 0] _ (row_fits hn) (start_eq hn h)]
  pointwise

theorem write_row (x : (⟨S4096x1024, .f32⟩ : BufTy).Contents (Elt F)) (y : (⟨S1024, .f32⟩ : BufTy).Contents (Elt F)) {w : (⟨S_, .i32⟩ : BufTy).Contents (Elt F)} {n : ℕ} (hn : n < 4096)
    (h : w = (fun _ => BitVec.ofNat 32 n : IVec S_ 32)) (r : Fin 4096) (q : Fin 1024) :
    putAt x y w (ix2 r q) = if r.val = n then y (ix1 q) else x (ix2 r q) := by
  unfold putAt
  rw [id_eq, Host.dynamicUpdateSlice_eq_updateSlice x _ _ _ ![n, 0] (by
    intro i
    rw [start_eq hn h i]
    refine Fin.cases ?_ (fun j => ?_) i
    · show (min (max (n : ℤ) 0) ((4096 - 1 : ℕ) : ℤ)).toNat = n; omega
    · obtain rfl : j = 0 := Subsingleton.elim _ _
      rfl) (row_fits hn)]
  pointwise
  split_ifs with h1 h2 h2
  · rfl
  · omega
  · omega
  · rfl

/-- The scan after `k` trips. -/
structure Inv (a u : Seq.Idx → F .f32) (k : ℕ) (V : Valuation τ sig (Elt F)) : Prop where
  ha : V (Proc.devRef .tc main_v2_0) = a
  hu : V (Proc.devRef .tc main_v2_1) = u
  hctr : V (Proc.devRef .tc main_v2_2) = (fun _ => BitVec.ofNat 32 k : IVec S_ 32)
  hcar : V (Proc.devRef .tc main_v2_3) = (fun i => state a u (i 0) k : Vec F S1024 .f32)
  hout : ∀ (r : Fin 4096) (q : Fin 1024), r.val < k →
    (V (Proc.devRef .tc main_v2_4) : Vec F S4096x1024 .f32) (ix2 r q) = state a u q (r.val + 1)

theorem next {a u : Seq.Idx → F .f32} {k : ℕ} {V : Valuation τ sig (Elt F)} (hk : k < 4096) (hV : Inv a u k V) :
    res_main_while0b_v6 V = (fun i => state a u (i 0) (k + 1) : Vec F S1024 .f32) := by
  funext i
  obtain ⟨q, rfl⟩ : ∃ q : Fin 1024, i = ix1 q := ⟨i 0, eq_ix1 i⟩
  rw [next_eq, hV.hcar, hV.ha, hV.hu]
  show FloatOps.addf (FloatOps.mulf _ _) _ = _
  rw [read_row a hk hV.hctr, read_row u hk hV.hctr]
  have e : (⟨k, hk⟩ : Fin 4096) = at_ k := Fin.ext (at_val hk).symm
  rw [e]
  rfl

theorem inv_step {a u : Seq.Idx → F .f32} {k : ℕ} {V : Valuation τ sig (Elt F)} (hk : k < 4096) (hV : Inv a u k V) :
    Inv a u (k + 1) (STEP V) where
  ha := (STEP_main_v2_0 V).trans hV.ha
  hu := (STEP_main_v2_1 V).trans hV.hu
  hctr := by
    rw [STEP_main_v2_2]
    unfold step_main_v2_2
    rw [hV.hctr]
    funext i
    show BitVec.ofNat 32 k + 1#32 = BitVec.ofNat 32 (k + 1)
    simp only [BitVec.ofNat_add]
  hcar := by
    rw [STEP_main_v2_3]
    exact next hk hV
  hout := fun r q hr => by
    rw [STEP_main_v2_4]
    rw [step4_eq, next hk hV]
    refine (write_row _ _ (n := k) hk hV.hctr r q).trans ?_
    split_ifs with h1
    · rw [h1]
      rfl
    · exact hV.hout r q (by omega)

theorem inv_iter {a u : Seq.Idx → F .f32} {V : Valuation τ sig (Elt F)} (hV : Inv a u 0 V) : ∀ k, k ≤ 4096 → Inv a u k (STEP^[k] V)
  | 0, _ => hV
  | k + 1, hk => by
    rw [Function.iterate_succ_apply']
    exact inv_step (by omega) (inv_iter hV k (by omega))

variable (m : (ℓ : Loc nD τ sig) → Buf (Elt F) ℓ)

theorem inv_entry (c : Dev nD) :
    Inv (m ((c.tc : Thread nD τ).loc main_arg0)) (m ((c.tc : Thread nD τ).loc main_arg1)) 0 (entryContents preI m c) where
  ha := by (simp only [entryContents, afterL_cons, afterL_nil]; after_reads_simp) <;> rfl
  hu := by (simp only [entryContents, afterL_cons, afterL_nil]; after_reads_simp) <;> rfl
  hctr := ctr_entry m c
  hcar := by (simp only [entryContents, afterL_cons, afterL_nil]; after_reads_simp) <;> rfl
  hout := fun r q hr => by omega

theorem run_ref (ρ : Dev nD → PrngReg) :
    θ_run (defs (F := F)) (onTc (τ := τ) (main (F := F))) ⟨m, fun _ => 0, ρ⟩ fun r => ∀ c : Dev nD,
      r.2.mem ((c.tc : Thread nD τ).loc main_v2_4) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h4, h0, h1⟩ := h c
    have hI := inv_iter (inv_entry m c) 4096 le_rfl
    refine ⟨h4.trans ?_, h0, h1⟩
    funext i
    obtain ⟨r, q, rfl⟩ : ∃ (r : Fin 4096) (q : Fin 1024), i = ix2 r q := ⟨i 0, i 1, eq_ix2 i⟩
    exact hI.hout r q r.isLt) (run m ρ)

theorem frame_p : Cert.quiescent_Lru := fun m ρ _ => Cert.Lru.Gen.frame m ρ

theorem frame_pi : Cert.quiescent_LruIdeal := fun m ρ _ => Cert.LruIdeal.Gen.frame m ρ

theorem frame_ri : Cert.quiescent_LruRefIdeal := fun m ρ _ =>
  (θ_run Cert.LruRefIdeal.defs _ _).mono
    (fun r h => ⟨fun c => (h c).2, Idealize.ShloMosaic.sem_eq_zero_of_no_sems (by decide) r.2⟩) (run_ref m ρ)

theorem algebraic : Cert.algebraic_LruIdeal_LruRefIdeal := by
  intro m g m' g' _ hargs
  refine ⟨fun c => out (argA m c) (argU m c), ?_, ?_⟩
  · exact (θ_run Cert.LruIdeal.defs _ _).mono (fun r h c => ⟨(h c).1.trans (final m c), (h c).2⟩) (Cert.LruIdeal.Value.run_blocks m g)
  · refine (θ_run Cert.LruRefIdeal.defs _ _).mono (fun r h c => ?_) (run_ref m' g')
    obtain ⟨e0, e1⟩ := hargs c
    exact ⟨(h c).1.trans (by rw [e0, e1]), (h c).2⟩

end Cert.LruForwardRef

end
-- ==== Proof.ConvGrad.lean ====
/- The causal convolution's backward call (ConvBwd): what a tile's two staging buffers hold of the padded arrays, what a tile adds to the
   taps' and the bias's gradients, and the output arrays after the eight tiles. -/
module

public import proofs.«01_k».proof.Proof.Gen.ConvBwdIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ConvGrad

open Idealize.ShloMosaic Idealize.ShloMosaic.TcCoe Idealize.SL.Sem

abbrev Proj : Shape := ⟨2, ![4096, 2048]⟩
abbrev Seq : Shape := ⟨2, ![4096, 1024]⟩
abbrev Taps : Shape := ⟨2, ![4, 1024]⟩
abbrev Bias : Shape := ⟨2, ![1, 1024]⟩

/-! ## One column -/

abbrev Col : Type := Fin 4096 → EReal

/-- Row `n` of a column behind three zeros. -/
def behind (f : Col) (n : ℕ) : EReal := if h : 3 ≤ n ∧ n < 4099 then f ⟨n - 3, by omega⟩ else 0

/-- Row `n` of a column, zeros after it. -/
def before (f : Col) (n : ℕ) : EReal := if h : n < 4096 then f ⟨n, h⟩ else 0

/-- What row `r` gives to the gradient of tap `j`. -/
def share (f d : Col) (j r : ℕ) : EReal := before d r * behind f (r + j)

/-- The taps' sum back from the cotangent. -/
def back (w : Fin 4 → EReal) (d : Col) (r : ℕ) : EReal :=
  w 0 * before d (r + 3) + w 1 * before d (r + 2) + w 2 * before d (r + 1) + w 3 * before d r

/-! ## The arrays -/

/-- A column of the second half of the projection. -/
abbrev xcol (x : Proj.Idx → Ideal .f32) (q : Fin 1024) : Col := fun r => x (ix2 r ⟨1024 + q.val, by omega⟩)

abbrev dcol (d : Seq.Idx → Ideal .f32) (q : Fin 1024) : Col := fun r => d (ix2 r q)

abbrev xpad (x : Proj.Idx → Ideal .f32) (q : Fin 1024) (n : ℕ) : EReal := behind (xcol x q) n

abbrev dpad (d : Seq.Idx → Ideal .f32) (q : Fin 1024) (n : ℕ) : EReal := before (dcol d q) n

abbrev tap (x : Proj.Idx → Ideal .f32) (d : Seq.Idx → Ideal .f32) (q : Fin 1024) (j r : ℕ) : EReal := share (xcol x q) (dcol d q) j r

def dW (x : Proj.Idx → Ideal .f32) (d : Seq.Idx → Ideal .f32) : Taps.Idx → Ideal .f32 :=
  fun i => (∑ r ∈ Finset.range 4096, tap x d (i 1) (i 0).val r : EReal)

def dB (d : Seq.Idx → Ideal .f32) : Bias.Idx → Ideal .f32 :=
  fun i => (∑ r ∈ Finset.range 4096, (dpad d (i 1) r : EReal) : EReal)

abbrev dX (d : Seq.Idx → Ideal .f32) (w : Taps.Idx → Ideal .f32) (q : Fin 1024) (r : ℕ) : EReal := back (fun j => w (ix2 j q)) (dcol d q) r

def outX (d : Seq.Idx → Ideal .f32) (w : Taps.Idx → Ideal .f32) : Seq.Idx → Ideal .bf16 := fun i => dX d w (i 1) (i 0).val

/-- A tile's sum joins the sum over the rows before it. -/
theorem tile_sum (g : ℕ → EReal) (t : ℕ) (s : Fin 512 → EReal) (h : ∀ k : Fin 512, s k = g (512 * t + k.val)) :
    ∑ r ∈ Finset.range (512 * t), g r + ∑ k, s k = ∑ r ∈ Finset.range (512 * (t + 1)), g r := by
  rw [show 512 * (t + 1) = 512 * t + 512 by omega, Finset.sum_range_add, Finset.sum_range (fun x => g (512 * t + x))]
  exact congrArg _ (Finset.sum_congr rfl fun k _ => h k)

theorem select_zero {α : Type} (x y : α) : Scalar.select 0#1 x y = y := rfl
theorem select_one {α : Type} (x y : α) : Scalar.select 1#1 x y = x := rfl

/-- Rows `o` to `o + n` of a buffer whose last store is there: that store inside, the stores before outside. -/
theorem canon_slab {R n o W : ℕ} (inb : ∀ a, (![o, 0] : Fin 2 → ℕ) a + (![n, W] : Fin 2 → ℕ) a ≤ (![R, W] : Fin 2 → ℕ) a)
    (w : (⟨2, ![n, W]⟩ : Shape).Idx → Ideal .f32) (L : List (View.Piece (Elt Ideal) ⟨2, ![R, W]⟩ .f32)) (p : Fin R) (q : Fin W) :
    View.canon (⟨Rect.unit (s := ⟨2, ![R, W]⟩) ![o, 0] ![n, W] inb, w⟩ :: L) (ix2 p q)
      = if h : o ≤ p.val ∧ p.val < o + n then w (ix2 ⟨p.val - o, by omega⟩ q) else View.canon L (ix2 p q) := by
  split_ifs with h
  · have hx : (ix2 p q : (⟨2, ![R, W]⟩ : Shape).Idx)
        = (Rect.unit (s := ⟨2, ![R, W]⟩) ![o, 0] ![n, W] inb).emb (ix2 ⟨p.val - o, by omega⟩ q : (⟨2, ![n, W]⟩ : Shape).Idx) := by
      funext a
      refine Fin.ext ?_
      refine Eq.trans ?_ (Rect.idx_unit_val _ _ _ _ a).symm
      match a with
      | ⟨0, _⟩ => show p.val = o + (p.val - o); omega
      | ⟨1, _⟩ => show q.val = 0 + q.val; omega
    rw [hx]
    exact View.canon_cons_emb (Rect.unit (s := ⟨2, ![R, W]⟩) ![o, 0] ![n, W] inb) w L _
  · rw [View.canon_cons_of_not_mem]
    intro hmem
    obtain ⟨x, hx⟩ := (Rect.unit (s := ⟨2, ![R, W]⟩) ![o, 0] ![n, W] inb).exists_idx_of_mem hmem
    have h0 := congrArg (fun i : (⟨2, ![R, W]⟩ : Shape).Idx => (i 0).val) hx
    have h1 : ((Rect.unit (s := ⟨2, ![R, W]⟩) ![o, 0] ![n, W] inb).emb x 0).val = o + (x 0).val := Rect.idx_unit_val _ _ _ _ _
    have h2 : (x 0).val < n := (x 0).isLt
    have h3 : ((Rect.unit (s := ⟨2, ![R, W]⟩) ![o, 0] ![n, W] inb).emb x 0).val = p.val := h0
    omega

/-- A load of the rows from `o` on. -/
theorem read_slab {R n o W : ℕ} {σ : RefSig} {κ : Kind} {sp : Space} (v : View σ κ sp ⟨2, ![R, W]⟩ .f32)
    (inb : ∀ a, (![o, 0] : Fin 2 → ℕ) a + (![n, W] : Fin 2 → ℕ) a ≤ (![R, W] : Fin 2 → ℕ) a)
    (L : List (View.Piece (Elt Ideal) ⟨2, ![R, W]⟩ .f32)) (r : Fin n) (q : Fin W) (h : o + r.val < R) :
    v.readCov L (Rect.unit (s := ⟨2, ![R, W]⟩) ![o, 0] ![n, W] inb).toLoadRect (ix2 r q : (⟨2, ![n, W]⟩ : Shape).Idx)
      = View.canon L (ix2 ⟨o + r.val, h⟩ q) := by
  rw [View.readCov_eq_canon']
  refine congrArg (View.canon L) ?_
  funext a
  refine Fin.ext ?_
  refine (Rect.idx_unit_val _ _ _ _ a).trans ?_
  match a with
  | ⟨0, _⟩ => rfl
  | ⟨1, _⟩ => show 0 + q.val = q.val; omega

theorem ld_row {W : ℕ} (x : Vec Ideal ⟨2, ![4, W]⟩ .f32) (j : ℕ) (inb : ∀ a, (![j, 0] : Fin 2 → ℕ) a + (![1, W] : Fin 2 → ℕ) a ≤ (![4, W] : Fin 2 → ℕ) a) (hj : j < 4) (q : Fin W) :
    View.ld x (Rect.unit (s := ⟨2, ![4, W]⟩) ![j, 0] ![1, W] inb) (ix2 0 q : (⟨2, ![1, W]⟩ : Shape).Idx) = x (ix2 ⟨j, hj⟩ q) :=
  View.ld_unit_apply_of x _ _ _ (ix2 0 q) (ix2 ⟨j, hj⟩ q) fun a => match a with
    | ⟨0, _⟩ => rfl
    | ⟨1, _⟩ => by show q.val = 0 + q.val; omega

/-- The four rows of the taps' gradient, each stored once. -/
theorem rows_apply {W : ℕ} (p3 p2 p1 p0 : Vec Ideal ⟨2, ![1, W]⟩ .f32) (inb3 inb2 inb1 inb0) (L : List (View.Piece (Elt Ideal) ⟨2, ![4, W]⟩ .f32)) (j : Fin 4) (q : Fin W) :
    View.canon ((⟨Rect.unit (s := ⟨2, ![4, W]⟩) ![3, 0] ![1, W] inb3, p3⟩ : View.Piece (Elt Ideal) ⟨2, ![4, W]⟩ .f32) :: ⟨Rect.unit (s := ⟨2, ![4, W]⟩) ![2, 0] ![1, W] inb2, p2⟩
      :: ⟨Rect.unit (s := ⟨2, ![4, W]⟩) ![1, 0] ![1, W] inb1, p1⟩ :: ⟨Rect.unit (s := ⟨2, ![4, W]⟩) ![0, 0] ![1, W] inb0, p0⟩ :: L) (ix2 j q)
      = (![p0, p1, p2, p3] : Fin 4 → Vec Ideal ⟨2, ![1, W]⟩ .f32) j (ix2 0 q) := by
  match j with
  | ⟨0, _⟩ =>
    refine (canon_slab _ _ _ _ q).trans ((dif_neg (by dsimp only; omega)).trans ?_)
    refine (canon_slab _ _ _ _ q).trans ((dif_neg (by dsimp only; omega)).trans ?_)
    refine (canon_slab _ _ _ _ q).trans ((dif_neg (by dsimp only; omega)).trans ?_)
    exact (canon_slab _ _ _ _ q).trans (dif_pos (by dsimp only; omega))
  | ⟨1, _⟩ =>
    refine (canon_slab _ _ _ _ q).trans ((dif_neg (by dsimp only; omega)).trans ?_)
    refine (canon_slab _ _ _ _ q).trans ((dif_neg (by dsimp only; omega)).trans ?_)
    exact (canon_slab _ _ _ _ q).trans (dif_pos (by dsimp only; omega))
  | ⟨2, _⟩ =>
    refine (canon_slab _ _ _ _ q).trans ((dif_neg (by dsimp only; omega)).trans ?_)
    exact (canon_slab _ _ _ _ q).trans (dif_pos (by dsimp only; omega))
  | ⟨3, _⟩ => exact (canon_slab _ _ _ _ q).trans (dif_pos (by dsimp only; omega))

/-- A tile's rows behind the eight rows before it (zeros before the first tile): the column, from row `512 t - 5` on. -/
theorem staged_behind {W : ℕ} (t : ℕ) (ht : t < 8) (f : Col) (q : Fin W) (a : Vec Ideal ⟨2, ![512, W]⟩ .f32) (b : Vec Ideal ⟨2, ![8, W]⟩ .f32) (inb inb')
    (ha : ∀ r : Fin 512, a (ix2 r q) = f ⟨512 * t + r.val, by omega⟩)
    (hz : t = 0 → ∀ r : Fin 8, b (ix2 r q) = (0 : EReal))
    (hb : ∀ (h : t ≠ 0) (r : Fin 8), b (ix2 r q) = f ⟨512 * t + r.val - 8, by omega⟩) (p : Fin 520) :
    View.canon [(⟨Rect.unit (s := ⟨2, ![520, W]⟩) ![8, 0] ![512, W] inb, a⟩ : View.Piece (Elt Ideal) ⟨2, ![520, W]⟩ .f32),
      ⟨Rect.unit (s := ⟨2, ![520, W]⟩) ![0, 0] ![8, W] inb', b⟩] (ix2 p q) = behind f (512 * t + p.val - 5) := by
  have hp := p.isLt
  refine (canon_slab _ _ _ p q).trans ?_
  unfold behind
  split_ifs with h1 h2 h2
  · refine (ha _).trans (congrArg f (Fin.ext ?_))
    show 512 * t + (p.val - 8) = 512 * t + p.val - 5 - 3
    omega
  · omega
  · refine (canon_slab _ _ _ p q).trans ((dif_pos (by omega)).trans ?_)
    refine (hb (by omega) _).trans (congrArg f (Fin.ext ?_))
    show 512 * t + (p.val - 0) - 8 = 512 * t + p.val - 5 - 3
    omega
  · refine (canon_slab _ _ _ p q).trans ((dif_pos (by omega)).trans ?_)
    exact hz (by omega) _

/-- A tile's rows before the eight rows after it (zeros after the last tile): the column, from row `512 t` on. -/
theorem staged_before {W : ℕ} (t : ℕ) (ht : t < 8) (f : Col) (q : Fin W) (a : Vec Ideal ⟨2, ![512, W]⟩ .f32) (b : Vec Ideal ⟨2, ![8, W]⟩ .f32) (inb inb')
    (ha : ∀ r : Fin 512, a (ix2 r q) = f ⟨512 * t + r.val, by omega⟩)
    (hz : t = 7 → ∀ r : Fin 8, b (ix2 r q) = (0 : EReal))
    (hb : ∀ (h : t ≠ 7) (r : Fin 8), b (ix2 r q) = f ⟨512 * t + 512 + r.val, by omega⟩) (p : Fin 520) :
    View.canon [(⟨Rect.unit (s := ⟨2, ![520, W]⟩) ![512, 0] ![8, W] inb, b⟩ : View.Piece (Elt Ideal) ⟨2, ![520, W]⟩ .f32),
      ⟨Rect.unit (s := ⟨2, ![520, W]⟩) ![0, 0] ![512, W] inb', a⟩] (ix2 p q) = before f (512 * t + p.val) := by
  have hp := p.isLt
  refine (canon_slab _ _ _ p q).trans ?_
  unfold before
  split_ifs with h1 h2 h2
  · refine (hb (by omega) _).trans (congrArg f (Fin.ext ?_))
    show 512 * t + 512 + (p.val - 512) = 512 * t + p.val
    omega
  · exact hz (by omega) _
  · refine (canon_slab _ _ _ p q).trans ((dif_pos (by omega)).trans ?_)
    refine (ha _).trans (congrArg f (Fin.ext ?_))
    show 512 * t + (p.val - 0) = 512 * t + p.val
    omega
  · omega

/-- A tap's sum over a tile joins the sum over the rows before it. -/
theorem share_sum {W : ℕ} (t j : ℕ) (f d : Col) (q : Fin W) (a b : Vec Ideal ⟨2, ![512, W]⟩ .f32) (e : EReal)
    (he : e = ∑ r ∈ Finset.range (512 * t), share f d j r) (ha : ∀ k : Fin 512, a (ix2 k q) = before d (512 * t + k.val))
    (hb : ∀ k : Fin 512, b (ix2 k q) = behind f (512 * t + k.val + j)) :
    e + ∑ k : Fin 512, (a (ix2 k q) : EReal) * (b (ix2 k q) : EReal) = ∑ r ∈ Finset.range (512 * (t + 1)), share f d j r := by
  subst he
  exact tile_sum _ _ _ fun k => congrArg₂ (fun a b : EReal => a * b) (ha k) (hb k)

open Cert.ConvBwdIdeal Cert.ConvBwdIdeal.Gen

variable (m : (ℓ : Loc nD τ sig) → Buf (Elt Ideal) ℓ)

abbrev argX (c : Dev nD) : Vec Ideal S4096x2048 .f32 := m ((c.tc : Thread nD τ).loc main_arg0)
abbrev argD (c : Dev nD) : Vec Ideal S4096x1024 .f32 := m ((c.tc : Thread nD τ).loc main_arg1)
abbrev argW (c : Dev nD) : Vec Ideal S4x1024 .f32 := m ((c.tc : Thread nD τ).loc main_arg2)

theorem index_eq : ∀ t : Fin cfg0.N, win0_0.index t = ![t.val, 1] ∧ win0_1.index t = ![t.val * 64 - 1, 1] ∧ win0_2.index t = ![t.val, 0]
    ∧ win0_3.index t = ![min (t.val * 64 + 64) 511, 0] ∧ win0_4.index t = ![0, 0] ∧ win0_5.index t = ![t.val, 0] ∧ win0_6.index t = ![0, 0] ∧ win0_7.index t = ![0, 0] :=
  (by decide +kernel : ∀ t : Fin grid0.N, win0_0.index t = ![t.val, 1] ∧ win0_1.index t = ![t.val * 64 - 1, 1] ∧ win0_2.index t = ![t.val, 0]
    ∧ win0_3.index t = ![min (t.val * 64 + 64) 511, 0] ∧ win0_4.index t = ![0, 0] ∧ win0_5.index t = ![t.val, 0] ∧ win0_6.index t = ![0, 0] ∧ win0_7.index t = ![0, 0])

theorem first_tile : ∀ t : Fin cfg0.N, Scalar.cmpi .eq (BitVec.ofNat 32 (grid0.coords t 0).val) 0#32 = if t.val = 0 then 1#1 else 0#1 :=
  (by decide +kernel : ∀ t : Fin grid0.N, Scalar.cmpi .eq (BitVec.ofNat 32 (grid0.coords t 0).val) 0#32 = if t.val = 0 then 1#1 else 0#1)

theorem last_tile : ∀ t : Fin cfg0.N, Scalar.cmpi .eq (BitVec.ofNat 32 (grid0.coords t 0).val) 7#32 = if t.val = 7 then 1#1 else 0#1 :=
  (by decide +kernel : ∀ t : Fin grid0.N, Scalar.cmpi .eq (BitVec.ofNat 32 (grid0.coords t 0).val) 7#32 = if t.val = 7 then 1#1 else 0#1)

theorem lt_N (t : Fin cfg0.N) : t.val < 8 := Nat.lt_of_lt_of_eq t.isLt N_0

/-! ## The staging buffers -/

abbrev xrows (c : Dev nD) (t : Fin cfg0.N) : List (View.Piece (Elt Ideal) S520x1024 .f32) :=
  [⟨Rect.unit ![8, 0] ![512, 1024] inb_S520x1024_S512x1024_8_0, k0_pay3 (iblk m c 0 t)⟩,
    ⟨Rect.unit ![0, 0] ![8, 1024] inb_S520x1024_S8x1024_0_0, k0_pay2 (grid0.coords t) (iblk m c 1 t)⟩]

abbrev drows (c : Dev nD) (t : Fin cfg0.N) : List (View.Piece (Elt Ideal) S520x1024 .f32) :=
  [⟨Rect.unit ![512, 0] ![8, 1024] inb_S520x1024_S8x1024_512_0, k0_pay6 (grid0.coords t) (iblk m c 3 t)⟩,
    ⟨Rect.unit ![0, 0] ![512, 1024] inb_S520x1024_S512x1024_0_0, k0_pay5 (iblk m c 2 t)⟩]

theorem xrow (c : Dev nD) (t : Fin cfg0.N) (p : Fin 520) (q : Fin 1024) :
    View.canon (xrows m c t) (ix2 p q) = xpad (argX m c) q (512 * t.val + p.val - 5) := by
  have ht := lt_N t
  obtain ⟨i0, i1, -⟩ := index_eq t
  refine staged_behind t.val ht (xcol (argX m c) q) q _ _ _ _ (fun r => ?_) (fun h r => ?_) (fun h r => ?_) p
  · unfold k0_pay3
    pointwise
    blk_ext [iblk, V, i0]
  · unfold k0_pay2
    pointwise
    exact (congrArg (fun b => Scalar.select b _ _) ((first_tile t).trans (if_pos h))).trans (select_one _ _)
  · unfold k0_pay2
    pointwise
    refine (congrArg (fun b => Scalar.select b _ _) ((first_tile t).trans (if_neg h))).trans ((select_zero _ _).trans ?_)
    blk_ext [iblk, V, i1]

theorem drow (c : Dev nD) (t : Fin cfg0.N) (p : Fin 520) (q : Fin 1024) :
    View.canon (drows m c t) (ix2 p q) = dpad (argD m c) q (512 * t.val + p.val) := by
  have ht := lt_N t
  obtain ⟨-, -, i2, i3, -⟩ := index_eq t
  refine staged_before t.val ht (dcol (argD m c) q) q _ _ _ _ (fun r => ?_) (fun h r => ?_) (fun h r => ?_) p
  · unfold k0_pay5 k0_pay4
    pointwise
    blk_ext [iblk, V, i2]
  · unfold k0_pay6
    pointwise
    exact (congrArg (fun b => Scalar.select b _ _) ((last_tile t).trans (if_pos h))).trans (select_one _ _)
  · unfold k0_pay6
    pointwise
    refine (congrArg (fun b => Scalar.select b _ _) ((last_tile t).trans (if_neg h))).trans ((select_zero _ _).trans ?_)
    blk_ext [iblk, V, i3]

theorem dtile (c : Dev nD) (t : Fin cfg0.N) (r : Fin 512) (q : Fin 1024) :
    (iblk m c 2 t : Vec Ideal S512x1024 .f32) (ix2 r q) = dpad (argD m c) q (512 * t.val + r.val) := by
  have ht := lt_N t
  obtain ⟨-, -, i2, -⟩ := index_eq t
  unfold dpad before
  rw [dif_pos (by omega)]
  blk_ext [iblk, V, i2]

abbrev wrow (c : Dev nD) (t : Fin cfg0.N) (j : ℕ) (inb : ∀ a, (![j, 0] : Fin 2 → ℕ) a + (![1, 1024] : Fin 2 → ℕ) a ≤ (![4, 1024] : Fin 2 → ℕ) a) :
    Vec Ideal S1x1024 .f32 := View.ld (iblk m c 4 t) (Rect.unit (s := S4x1024) ![j, 0] ![1, 1024] inb)

theorem wrow_apply (c : Dev nD) (t : Fin cfg0.N) (j : ℕ) (inb) (hj : j < 4) (q : Fin 1024) :
    wrow m c t j inb (ix2 0 q) = argW m c (ix2 ⟨j, hj⟩ q) := by
  obtain ⟨-, -, -, -, i4, -⟩ := index_eq t
  refine (View.ld_unit_apply_of (iblk m c 4 t : Vec Ideal S4x1024 .f32) _ _ _ (ix2 0 q) (ix2 ⟨j, hj⟩ q) fun a => ?_).trans ?_
  · match a with
    | ⟨0, _⟩ => rfl
    | ⟨1, _⟩ => show q.val = 0 + q.val; omega
  · blk_ext [iblk, V, i4]

/-! ## What a tile adds -/

theorem pay9_apply (a : Vec Ideal S512x1024 .f32) (p : Vec Ideal S1x1024 .f32) (b : Vec Ideal S512x1024 .f32) (q : Fin 1024) :
    k0_pay9 (k0_pay4 a) p b (ix2 0 q) = (p (ix2 0 q) : EReal) + ∑ k : Fin 512, (a (ix2 k q) : EReal) * (b (ix2 k q) : EReal) := by
  unfold k0_pay9 k0_pay4
  pointwise

theorem pay11_eq : k0_pay11 (F := Ideal) = k0_pay9 := rfl
theorem pay12_eq : k0_pay12 (F := Ideal) = k0_pay9 := rfl
theorem pay13_eq : k0_pay13 (F := Ideal) = k0_pay9 := rfl

/-- The sums over the rows before tile `t`. -/
structure Left (c : Dev nD) (t : ℕ) (w : Vec Ideal S4x1024 .f32) (b : Vec Ideal S1x1024 .f32) : Prop where
  hw : ∀ (j : Fin 4) (q : Fin 1024), w (ix2 j q) = (∑ r ∈ Finset.range (512 * t), tap (argX m c) (argD m c) q j.val r : EReal)
  hb : ∀ q : Fin 1024, b (ix2 0 q) = (∑ r ∈ Finset.range (512 * t), (dpad (argD m c) q r : EReal) : EReal)

/-- One tap's row after the tile, from the row before it. -/
theorem tap_step (c : Dev nD) (t : Fin cfg0.N) (j o : ℕ) (ho : o = j + 5) (inb) (hj : j < 4) (p : Vec Ideal S1x1024 .f32) (q : Fin 1024)
    (hp : p (ix2 0 q) = (∑ r ∈ Finset.range (512 * t.val), tap (argX m c) (argD m c) q j r : EReal)) :
    k0_pay9 (k0_pay4 (iblk m c 2 t)) p
        ((View.whole cc0_scratch0).readCov (xrows m c t) (Rect.unit (s := S520x1024) ![o, 0] ![512, 1024] inb).toLoadRect) (ix2 0 q)
      = (∑ r ∈ Finset.range (512 * (t.val + 1)), tap (argX m c) (argD m c) q j r : EReal) := by
  subst ho
  refine (pay9_apply _ _ _ q).trans (share_sum _ _ _ _ q _ _ _ hp (fun k => dtile m c t k q) fun k => ?_)
  refine (read_slab (View.whole cc0_scratch0) inb (xrows m c t) k q (by omega)).trans ((xrow m c t ⟨j + 5 + k.val, by omega⟩ q).trans ?_)
  exact congrArg _ (by show 512 * t.val + (j + 5 + k.val) - 5 = _; omega)

theorem zero_apply (j : Fin 4) (q : Fin 1024) (inb) :
    View.canon [(⟨Rect.unit (s := S4x1024) ![0, 0] ![4, 1024] inb, k0_pay7 (F := Ideal)⟩ : View.Piece (Elt Ideal) S4x1024 .f32)] (ix2 j q) = (0 : EReal) := by
  refine (canon_slab _ _ _ j q).trans ((dif_pos (by omega)).trans ?_)
  unfold k0_pay7
  pointwise

theorem bias_step (c : Dev nD) (t : Fin cfg0.N) (p : Vec Ideal S1x1024 .f32) (q : Fin 1024)
    (hp : p (ix2 0 q) = (∑ r ∈ Finset.range (512 * t.val), (dpad (argD m c) q r : EReal) : EReal)) :
    k0_pay1 (iblk m c 2 t) (k0_pay15 p) (ix2 0 q) = (∑ r ∈ Finset.range (512 * (t.val + 1)), (dpad (argD m c) q r : EReal) : EReal) := by
  have e : ∀ a : Vec Ideal S512x1024 .f32, k0_pay1 a (k0_pay15 p) (ix2 0 q)
      = (p (ix2 0 q) : EReal) + ∑ k : Fin 512, (a (ix2 k q) : EReal) := by
    intro a
    unfold k0_pay1 k0_pay15
    pointwise
  refine (e _).trans ?_
  rw [hp]
  exact tile_sum _ _ _ fun k => dtile m c t k q

theorem left (c : Dev nD) : ∀ n (hn : n < cfg0.N), Left m c (n + 1) (outsAt0 m c n hn).2.1 (outsAt0 m c n hn).2.2
  | 0, hn => by
    have h0 : (⟨0, hn⟩ : Fin cfg0.N).val % 8 = 0 := rfl
    rw [outsAt0_A m c ⟨0, hn⟩ h0]
    dsimp only
    frame_out
    refine ⟨fun j q => ?_, fun q => ?_⟩
    · rw [pay11_eq, pay12_eq, pay13_eq]
      refine (rows_apply _ _ _ _ _ _ _ _ _ j q).trans ?_
      match j with
      | ⟨0, _⟩ =>
        refine tap_step m c ⟨0, hn⟩ 0 5 rfl _ (by omega) _ q ?_
        refine (read_slab _ _ _ 0 q (by decide)).trans ?_
        exact (zero_apply _ q _).trans (Finset.sum_range_zero _).symm
      | ⟨1, _⟩ =>
        refine tap_step m c ⟨0, hn⟩ 1 6 rfl _ (by omega) _ q ?_
        refine (read_slab _ _ _ 0 q (by decide)).trans ?_
        refine (canon_slab _ _ _ _ q).trans ((dif_neg (by decide)).trans ?_)
        exact (zero_apply _ q _).trans (Finset.sum_range_zero _).symm
      | ⟨2, _⟩ =>
        refine tap_step m c ⟨0, hn⟩ 2 7 rfl _ (by omega) _ q ?_
        refine (read_slab _ _ _ 0 q (by decide)).trans ?_
        refine (canon_slab _ _ _ _ q).trans ((dif_neg (by decide)).trans ?_)
        refine (canon_slab _ _ _ _ q).trans ((dif_neg (by decide)).trans ?_)
        exact (zero_apply _ q _).trans (Finset.sum_range_zero _).symm
      | ⟨3, _⟩ =>
        refine tap_step m c ⟨0, hn⟩ 3 8 rfl _ (by omega) _ q ?_
        refine (read_slab _ _ _ 0 q (by decide)).trans ?_
        refine (canon_slab _ _ _ _ q).trans ((dif_neg (by decide)).trans ?_)
        refine (canon_slab _ _ _ _ q).trans ((dif_neg (by decide)).trans ?_)
        refine (canon_slab _ _ _ _ q).trans ((dif_neg (by decide)).trans ?_)
        exact (zero_apply _ q _).trans (Finset.sum_range_zero _).symm
    · refine bias_step m c ⟨0, hn⟩ _ q ?_
      refine Eq.trans ?_ (Finset.sum_range_zero _).symm
      unfold k0_pay8
      pointwise
  | n + 1, hn => by
    have hn' := lt_N ⟨n + 1, hn⟩
    have h0 : ¬(⟨n + 1, hn⟩ : Fin cfg0.N).val % 8 = 0 := by dsimp only at hn' ⊢; omega
    have hl := left c n (by omega)
    rw [outsAt0_B m c ⟨n + 1, hn⟩ h0]
    dsimp only
    frame_out
    refine ⟨fun j q => ?_, fun q => ?_⟩
    · rw [pay11_eq, pay12_eq, pay13_eq]
      refine (rows_apply _ _ _ _ _ _ _ _ _ j q).trans ?_
      match j with
      | ⟨0, _⟩ => exact tap_step m c ⟨n + 1, hn⟩ 0 5 rfl _ (by omega) _ q ((ld_row _ 0 _ (by omega) q).trans (hl.hw 0 q))
      | ⟨1, _⟩ => exact tap_step m c ⟨n + 1, hn⟩ 1 6 rfl _ (by omega) _ q ((ld_row _ 1 _ (by omega) q).trans (hl.hw 1 q))
      | ⟨2, _⟩ => exact tap_step m c ⟨n + 1, hn⟩ 2 7 rfl _ (by omega) _ q ((ld_row _ 2 _ (by omega) q).trans (hl.hw 2 q))
      | ⟨3, _⟩ => exact tap_step m c ⟨n + 1, hn⟩ 3 8 rfl _ (by omega) _ q ((ld_row _ 3 _ (by omega) q).trans (hl.hw 3 q))
    · exact bias_step m c ⟨n + 1, hn⟩ _ q (hl.hb q)

theorem final6 (c : Dev nD) : (dats m 0 c).arrAt 6 cfg0.N = dW (argX m c) (argD m c) := by
  refine (dats m 0 c).arrAt_eq_of_covers 6 _ (by decide +kernel) fun t hf y => ?_
  have ht := lt_N t
  have h7 : t.val % 8 = 7 := (flush0_6 t).mp hf
  obtain ⟨-, -, -, -, -, -, i6, -⟩ := index_eq t
  blk_simp
  rw [after0_6]
  obtain ⟨j, q, rfl⟩ : ∃ (j : Fin 4) (q : Fin 1024), y = (ix2 j q : S4x1024.Idx) := ⟨y 0, y 1, eq_ix2 (n0 := 4) (n1 := 1024) y⟩
  have e : ((win0_6.blk t).view.emb (ix2 j q : S4x1024.Idx) : S4x1024.Idx) = ix2 j q := by
    blk_ext [i6]
  refine ((left m c t.val t.isLt).hw j q).trans ?_
  rw [e, show t.val + 1 = 8 by omega]
  rfl

theorem final7 (c : Dev nD) : (dats m 0 c).arrAt 7 cfg0.N = dB (argD m c) := by
  refine (dats m 0 c).arrAt_eq_of_covers 7 _ (by decide +kernel) fun t hf y => ?_
  have ht := lt_N t
  have h7 : t.val % 8 = 7 := (flush0_7 t).mp hf
  obtain ⟨-, -, -, -, -, -, -, i7⟩ := index_eq t
  blk_simp
  rw [after0_7]
  obtain ⟨j, q, rfl⟩ : ∃ (j : Fin 1) (q : Fin 1024), y = (ix2 j q : S1x1024.Idx) := ⟨y 0, y 1, eq_ix2 (n0 := 1) (n1 := 1024) y⟩
  obtain rfl : j = 0 := Subsingleton.elim _ _
  have e : ((win0_7.blk t).view.emb (ix2 0 q : S1x1024.Idx) : S1x1024.Idx) = ix2 0 q := by
    blk_ext [i7]
  refine ((left m c t.val t.isLt).hb q).trans ?_
  rw [e, show t.val + 1 = 8 by omega]
  rfl

/-! ## The cotangent of the input -/

theorem tile_dx (c : Dev nD) (t : Fin cfg0.N) (r : Fin 512) (q : Fin 1024) :
    (outsAt0 m c t.val t.isLt).1 (ix2 r q) = dX (argD m c) (argW m c) q (512 * t.val + r.val) := by
  have hr := r.isLt
  have key : ∀ (o : ℕ) (inb) (ho : o < 4), (View.whole cc0_scratch1).readCov (drows m c t)
      (Rect.unit (s := S520x1024) ![o, 0] ![512, 1024] inb).toLoadRect (ix2 r q) = dpad (argD m c) q (512 * t.val + r.val + o) := by
    intro o inb ho
    refine (read_slab (View.whole cc0_scratch1) inb (drows m c t) r q (by omega)).trans ?_
    refine (drow m c t ⟨o + r.val, by omega⟩ q).trans ?_
    exact congrArg _ (by show 512 * t.val + (o + r.val) = _; omega)
  have k3 := key 3 inb_S520x1024_S512x1024_3_0 (by omega)
  have k2 := key 2 inb_S520x1024_S512x1024_2_0 (by omega)
  have k1 := key 1 inb_S520x1024_S512x1024_1_0 (by omega)
  have k0 := key 0 inb_S520x1024_S512x1024_0_0 (by omega)
  have w0 := wrow_apply m c t 0 inb_S4x1024_S1x1024_0_0 (by omega) q
  have w1 := wrow_apply m c t 1 inb_S4x1024_S1x1024_1_0 (by omega) q
  have w2 := wrow_apply m c t 2 inb_S4x1024_S1x1024_2_0 (by omega) q
  have w3 := wrow_apply m c t 3 inb_S4x1024_S1x1024_3_0 (by omega) q
  have e : ∀ (a0 a1 a2 a3 : Vec Ideal S1x1024 .f32) (b0 b1 b2 b3 : Vec Ideal S512x1024 .f32),
      k0_pay14 (k0_pay10 a0 b0 a1 b1) a2 b2 a3 b3 (ix2 r q)
        = ((a0 (ix2 0 q) : EReal) * b0 (ix2 r q) + (a1 (ix2 0 q) : EReal) * b1 (ix2 r q) + (a2 (ix2 0 q) : EReal) * b2 (ix2 r q)
          + (a3 (ix2 0 q) : EReal) * b3 (ix2 r q) : EReal) := by
    intro a0 a1 a2 a3 b0 b1 b2 b3
    unfold k0_pay14 k0_pay10
    pointwise
  have add : ∀ {a b a' b' : EReal}, a = a' → b = b' → a + b = a' + b' := fun h h' => congrArg₂ _ h h'
  have mul : ∀ {a b a' b' : EReal}, a = a' → b = b' → a * b = a' * b' := fun h h' => congrArg₂ _ h h'
  unfold dX back
  by_cases h0 : t.val % 8 = 0
  · rw [outsAt0_A m c t h0]
    dsimp only
    frame_out
    refine (e _ _ _ _ _ _ _ _).trans ?_
    exact add (add (add (mul w0 k3) (mul w1 k2)) (mul w2 k1)) (mul w3 k0)
  · rw [outsAt0_B m c t h0]
    dsimp only
    frame_out
    refine (e _ _ _ _ _ _ _ _).trans ?_
    exact add (add (add (mul w0 k3) (mul w1 k2)) (mul w2 k1)) (mul w3 k0)

theorem final5 (c : Dev nD) : (dats m 0 c).arrAt 5 cfg0.N = outX (argD m c) (argW m c) := by
  refine (dats m 0 c).arrAt_eq_of_covers 5 _ (by decide +kernel) fun t hf y => ?_
  have ht := lt_N t
  obtain ⟨-, -, -, -, -, i5, -⟩ := index_eq t
  blk_simp
  rw [after0_5]
  obtain ⟨r, q, rfl⟩ : ∃ (r : Fin 512) (q : Fin 1024), y = (ix2 r q : S512x1024.Idx) := ⟨y 0, y 1, eq_ix2 (n0 := 512) (n1 := 1024) y⟩
  have hr := r.isLt
  have e : ((win0_5.blk t).view.emb (ix2 r q : S512x1024.Idx) : S4096x1024.Idx) = ix2 ⟨512 * t.val + r.val, by omega⟩ q := by
    blk_ext [i5]
  refine (tile_dx m c t r q).trans ?_
  rw [e]
  rfl

end Cert.ConvGrad

end
-- ==== Proof.ConvGradClaims.lean ====
/- The transpose of the causal convolution as the reference writes it, by shifted arrays, and the claims about ConvBwd. -/
module

public import proofs.«01_k».proof.Defs
public import proofs.«01_k».proof.Proof.ConvGrad
public import proofs.«01_k».proof.Proof.Gen.ConvBwd.Frame
public import proofs.«01_k».proof.Proof.Gen.ConvBwdRefIdeal.Run

@[expose] public section

set_option maxRecDepth 16384

noncomputable section

namespace Cert.ConvGradClaims

open Idealize.ShloMosaic Idealize.ShloMosaic.TcCoe Idealize.SL.Sem Cert.ConvGrad

theorem before_row (d : Col) (r : Fin 4096) : d r = before d r.val := by
  unfold before
  rw [dif_pos r.isLt]

theorem behind_row (f : Col) (r : Fin 4096) :
    f r = behind f (r.val + 3) := by
  have hr := r.isLt
  unfold behind
  rw [dif_pos (by omega)]
  rfl

theorem transpose_taps (w0 w1 w2 w3 : EReal) (d : Col) (r : Fin 4096) :
    ((w3 * d r
        + if h : 2 ≤ 3 + r.val ∧ 3 + r.val - 2 < 4096 then w2 * d ⟨3 + r.val - 2, h.2⟩ else 0)
        + if h : 1 ≤ 3 + r.val ∧ 3 + r.val - 1 < 4096 then w1 * d ⟨3 + r.val - 1, h.2⟩ else 0)
        + (if h : 3 + r.val < 4096 then w0 * d ⟨3 + r.val, h⟩ else 0)
      = w0 * before d (r.val + 3) + w1 * before d (r.val + 2) + w2 * before d (r.val + 1)
        + w3 * before d r.val := by
  have e0 : (if h : 3 + r.val < 4096 then w0 * d ⟨3 + r.val, h⟩ else 0) = w0 * before d (r.val + 3) := by
    unfold before
    split_ifs with h h' h'
    · rw [show (⟨3 + r.val, h⟩ : Fin 4096) = ⟨r.val + 3, h'⟩ from Fin.ext (Nat.add_comm _ _)]
    · omega
    · omega
    · exact (mul_zero w0).symm
  have e1 : (if h : 1 ≤ 3 + r.val ∧ 3 + r.val - 1 < 4096 then w1 * d ⟨3 + r.val - 1, h.2⟩ else 0) = w1 * before d (r.val + 2) := by
    unfold before
    split_ifs with h h' h'
    · rw [show (⟨3 + r.val - 1, h.2⟩ : Fin 4096) = ⟨r.val + 2, h'⟩ from Fin.ext (by show 3 + r.val - 1 = r.val + 2; omega)]
    · omega
    · omega
    · exact (mul_zero w1).symm
  have e2 : (if h : 2 ≤ 3 + r.val ∧ 3 + r.val - 2 < 4096 then w2 * d ⟨3 + r.val - 2, h.2⟩ else 0) = w2 * before d (r.val + 1) := by
    unfold before
    split_ifs with h h' h'
    · rw [show (⟨3 + r.val - 2, h.2⟩ : Fin 4096) = ⟨r.val + 1, h'⟩ from Fin.ext (by show 3 + r.val - 2 = r.val + 1; omega)]
    · omega
    · omega
    · exact (mul_zero w2).symm
  have e3 : d r = before d r.val := before_row d r
  rw [e0, e1, e2, e3]
  generalize w0 * before d (r.val + 3) = a, w1 * before d (r.val + 2) = b, w2 * before d (r.val + 1) = e,
    w3 * before d r.val = f
  rw [add_comm f e, add_comm (e + f) b, add_comm (b + (e + f)) a, add_assoc, add_assoc]

theorem tap_sum (f : Col) (d : Col) (j : ℕ) (g : Fin 4096 → EReal)
    (hg : ∀ r : Fin 4096, g r = behind f (r.val + j)) :
    ∑ r : Fin 4096, d r * g r = ∑ r ∈ Finset.range 4096, share f d j r := by
  rw [Finset.sum_range]
  refine Finset.sum_congr rfl fun r _ => ?_
  unfold share
  rw [hg r]
  exact congrArg (fun a : EReal => a * _) (show d r = before d r.val from before_row d r)

theorem tap_sum_shifted (f : Col) (d : Col) :
    (∑ r : Fin 3, d ⟨r.val, by omega⟩ * 0
        + ∑ r : Fin 4093, d ⟨3 + r.val, by omega⟩ * f ⟨r.val, by omega⟩)
      = ∑ r ∈ Finset.range 4096, share f d 0 r := by
  refine Eq.trans ?_ (Finset.sum_range_add (share f d 0) 3 4093).symm
  rw [Finset.sum_range, Finset.sum_range]
  refine congrArg₂ (fun a b : EReal => a + b) (Finset.sum_congr rfl fun r _ => ?_) (Finset.sum_congr rfl fun r _ => ?_)
  · have hr := r.isLt
    unfold share behind
    rw [dif_neg (by omega)]
    exact (mul_zero _).trans (mul_zero _).symm
  · have hr := r.isLt
    unfold share behind before
    rw [dif_pos (by omega), dif_pos (by omega)]
    have e : (⟨3 + r.val + 0 - 3, by omega⟩ : Fin 4096) = ⟨r.val, by omega⟩ := Fin.ext (by show 3 + r.val + 0 - 3 = r.val; omega)
    rw [e]

theorem shifted_entry (f : Col) (s : ℕ) (hs : s ≤ 3) (r : Fin 4096) :
    (if h : s + r.val < 3 then (0 : EReal) else f ⟨s + r.val - 3, by omega⟩) = behind f (r.val + s) := by
  unfold behind
  by_cases h : s + r.val < 3
  · rw [dif_pos h, dif_neg (by omega)]
  · rw [dif_neg h, dif_pos (by omega)]
    rw [show (⟨s + r.val - 3, by omega⟩ : Fin 4096) = ⟨r.val + s - 3, by omega⟩ from Fin.ext (by show s + r.val - 3 = r.val + s - 3; omega)]

section Reference

open Cert.ConvBwdRefIdeal Cert.ConvBwdRefIdeal.Gen

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v82) = outX (m ((c.tc : Thread nD τ).loc main_arg1)) (m ((c.tc : Thread nD τ).loc main_arg2))
      ∧ r.2.mem ((c.tc : Thread nD τ).loc main_v79) = dW (m ((c.tc : Thread nD τ).loc main_arg0)) (m ((c.tc : Thread nD τ).loc main_arg1))
      ∧ r.2.mem ((c.tc : Thread nD τ).loc main_v37) = dB (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans ?_, (h c).2.2.1.trans ?_, (h c).2.2.2⟩) (Cert.ConvBwdRefIdeal.Value.run m ρ)
  · funext i
    obtain ⟨r, q, rfl⟩ : ∃ (r : Fin 4096) (q : Fin 1024), i = ix2 r q := ⟨i 0, i 1, eq_ix2 i⟩
    clear h
    unfold outX dX back
    pointwise
    exact transpose_taps _ _ _ _ (dcol (m ((c.tc : Thread nD τ).loc main_arg1)) q) r
  · funext i
    obtain ⟨j, q, rfl⟩ : ∃ (j : Fin 4) (q : Fin 1024), i = ix2 j q := ⟨i 0, i 1, eq_ix2 i⟩
    clear h
    unfold dW
    pointwise
    match j with
    | ⟨0, _⟩ =>
      dsimp only
      rw [dif_neg (by decide), dif_neg (by decide), dif_neg (by decide), dif_pos (by decide)]
      simp only [Finset.univ_unique, Finset.sum_singleton, zero_add]
      exact tap_sum_shifted (xcol (m ((c.tc : Thread nD τ).loc main_arg0)) q) (dcol (m ((c.tc : Thread nD τ).loc main_arg1)) q)
    | ⟨1, _⟩ =>
      dsimp only
      rw [dif_neg (by decide), dif_neg (by decide), dif_pos (by decide), dif_neg (by decide)]
      simp only [Finset.univ_unique, Finset.sum_singleton, zero_add, add_zero]
      refine tap_sum (xcol (m ((c.tc : Thread nD τ).loc main_arg0)) q) (dcol (m ((c.tc : Thread nD τ).loc main_arg1)) q) 1 _ fun r => ?_
      exact shifted_entry (xcol (m ((c.tc : Thread nD τ).loc main_arg0)) q) 1 (by decide) r
    | ⟨2, _⟩ =>
      dsimp only
      rw [dif_neg (by decide), dif_pos (by decide), dif_neg (by decide), dif_neg (by decide)]
      simp only [Finset.univ_unique, Finset.sum_singleton, zero_add, add_zero]
      refine tap_sum (xcol (m ((c.tc : Thread nD τ).loc main_arg0)) q) (dcol (m ((c.tc : Thread nD τ).loc main_arg1)) q) 2 _ fun r => ?_
      exact shifted_entry (xcol (m ((c.tc : Thread nD τ).loc main_arg0)) q) 2 (by decide) r
    | ⟨3, _⟩ =>
      dsimp only
      rw [dif_pos (by decide), dif_neg (by decide), dif_neg (by decide), dif_neg (by decide)]
      simp only [Finset.univ_unique, Finset.sum_singleton, add_zero]
      refine tap_sum (xcol (m ((c.tc : Thread nD τ).loc main_arg0)) q) (dcol (m ((c.tc : Thread nD τ).loc main_arg1)) q) 3 _ fun r => ?_
      exact behind_row (xcol (m ((c.tc : Thread nD τ).loc main_arg0)) q) r
  · funext i
    obtain ⟨j, q, rfl⟩ : ∃ (j : Fin 1) (q : Fin 1024), i = ix2 j q := ⟨i 0, i 1, eq_ix2 i⟩
    clear h
    unfold dB
    pointwise
    rw [Finset.sum_range]
    exact Finset.sum_congr rfl fun r _ => before_row (dcol (m ((c.tc : Thread nD τ).loc main_arg1)) q) r

end Reference

theorem frame_p : Cert.quiescent_ConvBwd := fun m ρ _ => Cert.ConvBwd.Gen.frame m ρ

theorem frame_pi : Cert.quiescent_ConvBwdIdeal := fun m ρ _ => Cert.ConvBwdIdeal.Gen.frame m ρ

theorem frame_ri : Cert.quiescent_ConvBwdRefIdeal := fun m ρ _ =>
  (θ_run Cert.ConvBwdRefIdeal.defs _ _).mono
    (fun r h => ⟨fun c => (h c).2.2.2, Idealize.ShloMosaic.sem_eq_zero_of_no_sems (by decide) r.2⟩) (Cert.ConvBwdRefIdeal.Value.run m ρ)

theorem algebraic : Cert.algebraic_ConvBwdIdeal_ConvBwdRefIdeal := by
  intro m g m' g' _ hargs
  refine ⟨fun c => outX (argD m c) (argW m c), fun c => dW (argX m c) (argD m c), fun c => dB (argD m c), ?_, ?_⟩
  · exact (θ_run Cert.ConvBwdIdeal.defs _ _).mono (fun r h c => ⟨(h c).1.trans (final5 m c), (h c).2.1.trans (final6 m c),
      (h c).2.2.1.trans (final7 m c), (h c).2.2.2⟩) (Cert.ConvBwdIdeal.Value.run_blocks m g)
  · refine (θ_run Cert.ConvBwdRefIdeal.defs _ _).mono (fun r h c => ?_) (run_ref m' g')
    obtain ⟨e0, e1, e2⟩ := hargs c
    exact ⟨(h c).1.trans (by rw [e1, e2]), (h c).2.1.trans (by rw [e0, e1]), (h c).2.2.1.trans (by rw [e1]), (h c).2.2.2⟩

end Cert.ConvGradClaims

end
-- ==== Proof.PreClaims.lean ====
/- The modulation in front of a layer, `x · (1 + scale) + shift`, forward (Pre, PreRef) and backward (PreBwd, PreBwdRef): the backward call
   adds the scale's and the shift's gradients up over the eight tiles of rows. -/
module

public import proofs.«01_k».proof.Defs
public import proofs.«01_k».proof.Proof.ConvGrad
public import proofs.«01_k».proof.Proof.Gen.Pre.Frame
public import proofs.«01_k».proof.Proof.Gen.PreIdeal.Value
public import proofs.«01_k».proof.Proof.Gen.PreRefIdeal.Run
public import proofs.«01_k».proof.Proof.Gen.PreBwd.Frame
public import proofs.«01_k».proof.Proof.Gen.PreBwdIdeal.Value
public import proofs.«01_k».proof.Proof.Gen.PreBwdRefIdeal.Run

@[expose] public section

set_option maxRecDepth 16384

noncomputable section

namespace Cert.PreClaims

open Idealize.ShloMosaic Idealize.ShloMosaic.TcCoe Idealize.SL.Sem

abbrev Seq : Shape := ⟨2, ![4096, 1024]⟩
abbrev Row : Shape := ⟨2, ![1, 1024]⟩

namespace Fwd

def out (x : Seq.Idx → Ideal .f32) (s h : Row.Idx → Ideal .f32) : Seq.Idx → Ideal .bf16 :=
  fun i => ((x (ix2 (i 0) (i 1)) : EReal) * (1 + (s (ix2 0 (i 1)) : EReal)) + (h (ix2 0 (i 1)) : EReal) : EReal)

section Kernel

open Cert.PreIdeal Cert.PreIdeal.Gen

variable (m : (ℓ : Loc nD τ sig) → Buf (Elt Ideal) ℓ)

theorem index_eq : ∀ t : Fin cfg0.N, win0_0.index t = ![t.val, 0] ∧ win0_1.index t = ![0, 0] ∧ win0_2.index t = ![0, 0] ∧ win0_3.index t = ![t.val, 0] :=
  (by decide +kernel : ∀ t : Fin grid0.N, win0_0.index t = ![t.val, 0] ∧ win0_1.index t = ![0, 0] ∧ win0_2.index t = ![0, 0] ∧ win0_3.index t = ![t.val, 0])

theorem pay1_apply (x : Vec Ideal S512x1024 .f32) (s h : Vec Ideal S1x1024 .f32) (r : Fin 512) (q : Fin 1024) :
    k0_pay1 x s h (ix2 r q) = ((x (ix2 r q) : EReal) * (1 + (s (ix2 0 q) : EReal)) + (h (ix2 0 q) : EReal) : EReal) := by
  unfold k0_pay1
  pointwise

theorem final3 (c : Dev nD) : (dats m 0 c).arrAt 3 cfg0.N
    = out (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val < 8 := Nat.lt_of_lt_of_eq t.isLt N_0
  obtain ⟨i0, i1, i2, i3⟩ := index_eq t
  blk_simp
  rw [after0_3]
  obtain ⟨r, q, rfl⟩ : ∃ (r : Fin 512) (q : Fin 1024), y = (ix2 r q : S512x1024.Idx) := ⟨y 0, y 1, eq_ix2 (n0 := 512) (n1 := 1024) y⟩
  have hr := r.isLt
  have e : ((win0_3.blk t).view.emb (ix2 r q : S512x1024.Idx) : S4096x1024.Idx) = ix2 ⟨512 * t.val + r.val, by omega⟩ q := by
    blk_ext [i3]
  frame_out
  refine (pay1_apply _ _ _ r q).trans ?_
  rw [e]
  have e0 : (iblk m c 0 t : Vec Ideal S512x1024 .f32) (ix2 r q) = m ((c.tc : Thread nD τ).loc main_arg0) (ix2 ⟨512 * t.val + r.val, by omega⟩ q) := by
    blk_ext [iblk, V, i0]
  have e1 : (iblk m c 1 t : Vec Ideal S1x1024 .f32) (ix2 0 q) = m ((c.tc : Thread nD τ).loc main_arg1) (ix2 0 q) := by
    blk_ext [iblk, V, i1]
  have e2 : (iblk m c 2 t : Vec Ideal S1x1024 .f32) (ix2 0 q) = m ((c.tc : Thread nD τ).loc main_arg2) (ix2 0 q) := by
    blk_ext [iblk, V, i2]
  exact congrArg₂ (fun a b : EReal => a + b) (congrArg₂ (fun a b : EReal => a * (1 + b)) e0 e1) e2

end Kernel

section Reference

open Cert.PreRefIdeal Cert.PreRefIdeal.Gen

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Cert.PreRefIdeal.Value.run m ρ)
  clear h
  funext i
  obtain ⟨r, q, rfl⟩ : ∃ (r : Fin 4096) (q : Fin 1024), i = ix2 r q := ⟨i 0, i 1, eq_ix2 i⟩
  unfold out
  pointwise

end Reference

theorem frame_p : Cert.quiescent_Pre := fun m ρ _ => Cert.Pre.Gen.frame m ρ

theorem frame_pi : Cert.quiescent_PreIdeal := fun m ρ _ => Cert.PreIdeal.Gen.frame m ρ

theorem frame_ri : Cert.quiescent_PreRefIdeal := fun m ρ _ =>
  (θ_run Cert.PreRefIdeal.defs _ _).mono
    (fun r h => ⟨fun c => (h c).2, Idealize.ShloMosaic.sem_eq_zero_of_no_sems (by decide) r.2⟩) (Cert.PreRefIdeal.Value.run m ρ)

theorem algebraic : Cert.algebraic_PreIdeal_PreRefIdeal := by
  intro m g m' g' _ hargs
  refine ⟨fun c => out _ _ _, (θ_run Cert.PreIdeal.defs _ _).mono (fun r h c => ⟨(h c).1.trans (final3 m c), (h c).2⟩)
    (Cert.PreIdeal.Value.run_blocks m g), ?_⟩
  refine (θ_run Cert.PreRefIdeal.defs _ _).mono (fun r h c => ?_) (run_ref m' g')
  obtain ⟨e0, e1, e2⟩ := hargs c
  exact ⟨(h c).1.trans (by rw [e0, e1, e2]), (h c).2⟩

end Fwd

namespace Bwd

/-- The cotangent of the input: the residual's and the modulated one's. -/
def dX (res d : Seq.Idx → Ideal .f32) (s : Row.Idx → Ideal .f32) : Seq.Idx → Ideal .f32 :=
  fun i => ((res (ix2 (i 0) (i 1)) : EReal) + (d (ix2 (i 0) (i 1)) : EReal) * (1 + (s (ix2 0 (i 1)) : EReal)) : EReal)

/-- An entry by its row's number, zero behind the last row. -/
def entry (x : Seq.Idx → Ideal .f32) (q : Fin 1024) (n : ℕ) : EReal := if h : n < 4096 then x (ix2 ⟨n, h⟩ q) else 0

theorem entry_row (x : Seq.Idx → Ideal .f32) (q : Fin 1024) (r : Fin 4096) : entry x q r.val = x (ix2 r q) := by
  unfold entry
  rw [dif_pos r.isLt]

def dScale (x d : Seq.Idx → Ideal .f32) : Row.Idx → Ideal .f32 :=
  fun i => (∑ r ∈ Finset.range 4096, entry x (i 1) r * entry d (i 1) r : EReal)

def dShift (d : Seq.Idx → Ideal .f32) : Row.Idx → Ideal .f32 :=
  fun i => (∑ r ∈ Finset.range 4096, entry d (i 1) r : EReal)

section Kernel

open Cert.PreBwdIdeal Cert.PreBwdIdeal.Gen

variable (m : (ℓ : Loc nD τ sig) → Buf (Elt Ideal) ℓ)

abbrev argX (c : Dev nD) : Vec Ideal S4096x1024 .f32 := m ((c.tc : Thread nD τ).loc main_arg0)
abbrev argR (c : Dev nD) : Vec Ideal S4096x1024 .f32 := m ((c.tc : Thread nD τ).loc main_arg1)
abbrev argD (c : Dev nD) : Vec Ideal S4096x1024 .f32 := m ((c.tc : Thread nD τ).loc main_arg2)
abbrev argS (c : Dev nD) : Vec Ideal S1x1024 .f32 := m ((c.tc : Thread nD τ).loc main_arg3)

theorem index_eq : ∀ t : Fin cfg0.N, win0_0.index t = ![t.val, 0] ∧ win0_1.index t = ![t.val, 0] ∧ win0_2.index t = ![t.val, 0]
    ∧ win0_3.index t = ![0, 0] ∧ win0_5.index t = ![t.val, 0] ∧ win0_6.index t = ![0, 0] ∧ win0_7.index t = ![0, 0] :=
  (by decide +kernel : ∀ t : Fin grid0.N, win0_0.index t = ![t.val, 0] ∧ win0_1.index t = ![t.val, 0] ∧ win0_2.index t = ![t.val, 0]
    ∧ win0_3.index t = ![0, 0] ∧ win0_5.index t = ![t.val, 0] ∧ win0_6.index t = ![0, 0] ∧ win0_7.index t = ![0, 0])

theorem lt_N (t : Fin cfg0.N) : t.val < 8 := Nat.lt_of_lt_of_eq t.isLt N_0

theorem tile_x (c : Dev nD) (t : Fin cfg0.N) (r : Fin 512) (q : Fin 1024) :
    (iblk m c 0 t : Vec Ideal S512x1024 .f32) (ix2 r q) = entry (argX m c) q (512 * t.val + r.val) := by
  have ht := lt_N t
  obtain ⟨i0, -⟩ := index_eq t
  unfold entry
  rw [dif_pos (by omega)]
  blk_ext [iblk, V, i0]

theorem tile_r (c : Dev nD) (t : Fin cfg0.N) (r : Fin 512) (q : Fin 1024) :
    (iblk m c 1 t : Vec Ideal S512x1024 .f32) (ix2 r q) = entry (argR m c) q (512 * t.val + r.val) := by
  have ht := lt_N t
  obtain ⟨-, i1, -⟩ := index_eq t
  unfold entry
  rw [dif_pos (by omega)]
  blk_ext [iblk, V, i1]

theorem tile_d (c : Dev nD) (t : Fin cfg0.N) (r : Fin 512) (q : Fin 1024) :
    (iblk m c 2 t : Vec Ideal S512x1024 .f32) (ix2 r q) = entry (argD m c) q (512 * t.val + r.val) := by
  have ht := lt_N t
  obtain ⟨-, -, i2, -⟩ := index_eq t
  unfold entry
  rw [dif_pos (by omega)]
  blk_ext [iblk, V, i2]

theorem tile_s (c : Dev nD) (t : Fin cfg0.N) (q : Fin 1024) :
    (iblk m c 3 t : Vec Ideal S1x1024 .f32) (ix2 0 q) = argS m c (ix2 0 q) := by
  obtain ⟨-, -, -, i3, -⟩ := index_eq t
  blk_ext [iblk, V, i3]

theorem pay2_apply (a b : Vec Ideal S512x1024 .f32) (s : Vec Ideal S1x1024 .f32) (r : Fin 512) (q : Fin 1024) :
    k0_pay2 a b s (ix2 r q) = ((a (ix2 r q) : EReal) + (b (ix2 r q) : EReal) * (1 + (s (ix2 0 q) : EReal)) : EReal) := by
  unfold k0_pay2 k0_pay1
  pointwise

theorem pay5_apply (a b : Vec Ideal S512x1024 .f32) (p : Vec Ideal S1x1024 .f32) (q : Fin 1024) :
    k0_pay5 a b p (ix2 0 q) = ((p (ix2 0 q) : EReal) + ∑ k : Fin 512, (a (ix2 k q) : EReal) * (b (ix2 k q) : EReal) : EReal) := by
  unfold k0_pay5 k0_pay1
  pointwise

theorem pay6_apply (b : Vec Ideal S512x1024 .f32) (p : Vec Ideal S1x1024 .f32) (q : Fin 1024) :
    k0_pay6 b p (ix2 0 q) = ((p (ix2 0 q) : EReal) + ∑ k : Fin 512, (b (ix2 k q) : EReal) : EReal) := by
  unfold k0_pay6
  pointwise

/-- The sums over the rows before tile `t`. -/
structure Left (c : Dev nD) (t : ℕ) (s h : Vec Ideal S1x1024 .f32) : Prop where
  hs : ∀ q : Fin 1024, s (ix2 0 q) = (∑ r ∈ Finset.range (512 * t), entry (argX m c) q r * entry (argD m c) q r : EReal)
  hh : ∀ q : Fin 1024, h (ix2 0 q) = (∑ r ∈ Finset.range (512 * t), entry (argD m c) q r : EReal)

theorem scale_step (c : Dev nD) (t : Fin cfg0.N) (p : Vec Ideal S1x1024 .f32) (q : Fin 1024)
    (hp : p (ix2 0 q) = (∑ r ∈ Finset.range (512 * t.val), entry (argX m c) q r * entry (argD m c) q r : EReal)) :
    k0_pay5 (iblk m c 0 t) (iblk m c 2 t) p (ix2 0 q)
      = (∑ r ∈ Finset.range (512 * (t.val + 1)), entry (argX m c) q r * entry (argD m c) q r : EReal) := by
  refine (pay5_apply _ _ _ q).trans ?_
  rw [hp]
  exact ConvGrad.tile_sum (fun r => entry (argX m c) q r * entry (argD m c) q r) _ _ fun k =>
    congrArg₂ (fun a b : EReal => a * b) (tile_x m c t k q) (tile_d m c t k q)

theorem shift_step (c : Dev nD) (t : Fin cfg0.N) (p : Vec Ideal S1x1024 .f32) (q : Fin 1024)
    (hp : p (ix2 0 q) = (∑ r ∈ Finset.range (512 * t.val), entry (argD m c) q r : EReal)) :
    k0_pay6 (iblk m c 2 t) p (ix2 0 q) = (∑ r ∈ Finset.range (512 * (t.val + 1)), entry (argD m c) q r : EReal) := by
  refine (pay6_apply _ _ q).trans ?_
  rw [hp]
  exact ConvGrad.tile_sum _ _ _ fun k => tile_d m c t k q

theorem left (c : Dev nD) : ∀ n (hn : n < cfg0.N), Left m c (n + 1) (outsAt0 m c n hn).2.1 (outsAt0 m c n hn).2.2
  | 0, hn => by
    have h0 : (⟨0, hn⟩ : Fin cfg0.N).val % 8 = 0 := rfl
    rw [outsAt0_A m c ⟨0, hn⟩ h0]
    dsimp only
    frame_out
    refine ⟨fun q => scale_step m c ⟨0, hn⟩ _ q ?_, fun q => shift_step m c ⟨0, hn⟩ _ q ?_⟩
    · refine Eq.trans ?_ (Finset.sum_range_zero _).symm
      unfold k0_pay3
      pointwise
    · refine Eq.trans ?_ (Finset.sum_range_zero _).symm
      unfold k0_pay4
      pointwise
  | n + 1, hn => by
    have hn' := lt_N ⟨n + 1, hn⟩
    have h0 : ¬(⟨n + 1, hn⟩ : Fin cfg0.N).val % 8 = 0 := by dsimp only at hn' ⊢; omega
    have hl := left c n (by omega)
    rw [outsAt0_B m c ⟨n + 1, hn⟩ h0]
    dsimp only
    frame_out
    exact ⟨fun q => scale_step m c ⟨n + 1, hn⟩ _ q (hl.hs q), fun q => shift_step m c ⟨n + 1, hn⟩ _ q (hl.hh q)⟩

theorem tile_out (c : Dev nD) (t : Fin cfg0.N) (r : Fin 512) (q : Fin 1024) :
    (outsAt0 m c t.val t.isLt).1 (ix2 r q)
      = (entry (argR m c) q (512 * t.val + r.val) + entry (argD m c) q (512 * t.val + r.val) * (1 + (argS m c (ix2 0 q) : EReal)) : EReal) := by
  have e := congrArg₂ (fun a b : EReal => a + b) (tile_r m c t r q) (congrArg₂ (fun a b : EReal => a * (1 + b)) (tile_d m c t r q) (tile_s m c t q))
  by_cases h0 : t.val % 8 = 0
  · rw [outsAt0_A m c t h0]
    dsimp only
    frame_out
    exact (pay2_apply _ _ _ r q).trans e
  · rw [outsAt0_B m c t h0]
    dsimp only
    frame_out
    exact (pay2_apply _ _ _ r q).trans e

theorem final5 (c : Dev nD) : (dats m 0 c).arrAt 5 cfg0.N = dX (argR m c) (argD m c) (argS m c) := by
  refine (dats m 0 c).arrAt_eq_of_covers 5 _ (by decide +kernel) fun t hf y => ?_
  have ht := lt_N t
  obtain ⟨-, -, -, -, i5, -⟩ := index_eq t
  blk_simp
  rw [after0_5]
  obtain ⟨r, q, rfl⟩ : ∃ (r : Fin 512) (q : Fin 1024), y = (ix2 r q : S512x1024.Idx) := ⟨y 0, y 1, eq_ix2 (n0 := 512) (n1 := 1024) y⟩
  have hr := r.isLt
  have e : ((win0_5.blk t).view.emb (ix2 r q : S512x1024.Idx) : S4096x1024.Idx) = ix2 ⟨512 * t.val + r.val, by omega⟩ q := by
    blk_ext [i5]
  refine (tile_out m c t r q).trans ?_
  rw [e]
  unfold entry
  rw [dif_pos (by omega), dif_pos (by omega)]
  rfl

theorem final6 (c : Dev nD) : (dats m 0 c).arrAt 6 cfg0.N = dScale (argX m c) (argD m c) := by
  refine (dats m 0 c).arrAt_eq_of_covers 6 _ (by decide +kernel) fun t hf y => ?_
  have ht := lt_N t
  have h7 : t.val % 8 = 7 := (flush0_6 t).mp hf
  obtain ⟨-, -, -, -, -, i6, -⟩ := index_eq t
  blk_simp
  rw [after0_6]
  obtain ⟨j, q, rfl⟩ : ∃ (j : Fin 1) (q : Fin 1024), y = (ix2 j q : S1x1024.Idx) := ⟨y 0, y 1, eq_ix2 (n0 := 1) (n1 := 1024) y⟩
  obtain rfl : j = 0 := Subsingleton.elim _ _
  have e : ((win0_6.blk t).view.emb (ix2 0 q : S1x1024.Idx) : S1x1024.Idx) = ix2 0 q := by
    blk_ext [i6]
  refine ((left m c t.val t.isLt).hs q).trans ?_
  rw [e, show t.val + 1 = 8 by omega]
  rfl

theorem final7 (c : Dev nD) : (dats m 0 c).arrAt 7 cfg0.N = dShift (argD m c) := by
  refine (dats m 0 c).arrAt_eq_of_covers 7 _ (by decide +kernel) fun t hf y => ?_
  have ht := lt_N t
  have h7 : t.val % 8 = 7 := (flush0_7 t).mp hf
  obtain ⟨-, -, -, -, -, -, i7⟩ := index_eq t
  blk_simp
  rw [after0_7]
  obtain ⟨j, q, rfl⟩ : ∃ (j : Fin 1) (q : Fin 1024), y = (ix2 j q : S1x1024.Idx) := ⟨y 0, y 1, eq_ix2 (n0 := 1) (n1 := 1024) y⟩
  obtain rfl : j = 0 := Subsingleton.elim _ _
  have e : ((win0_7.blk t).view.emb (ix2 0 q : S1x1024.Idx) : S1x1024.Idx) = ix2 0 q := by
    blk_ext [i7]
  refine ((left m c t.val t.isLt).hh q).trans ?_
  rw [e, show t.val + 1 = 8 by omega]
  rfl

end Kernel

section Reference

open Cert.PreBwdRefIdeal Cert.PreBwdRefIdeal.Gen

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14)
        = dX (m ((c.tc : Thread nD τ).loc main_arg1)) (m ((c.tc : Thread nD τ).loc main_arg2)) (m ((c.tc : Thread nD τ).loc main_arg3))
      ∧ r.2.mem ((c.tc : Thread nD τ).loc main_v11) = dScale (m ((c.tc : Thread nD τ).loc main_arg0)) (m ((c.tc : Thread nD τ).loc main_arg2))
      ∧ r.2.mem ((c.tc : Thread nD τ).loc main_v8) = dShift (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans ?_, (h c).2.2.1.trans ?_, (h c).2.2.2⟩) (Cert.PreBwdRefIdeal.Value.run m ρ)
  · clear h
    funext i
    obtain ⟨r, q, rfl⟩ : ∃ (r : Fin 4096) (q : Fin 1024), i = ix2 r q := ⟨i 0, i 1, eq_ix2 i⟩
    unfold dX
    pointwise
  · clear h
    funext i
    obtain ⟨j, q, rfl⟩ : ∃ (j : Fin 1) (q : Fin 1024), i = ix2 j q := ⟨i 0, i 1, eq_ix2 i⟩
    unfold dScale
    pointwise
    rw [Finset.sum_range]
    exact Finset.sum_congr rfl fun r _ => congrArg₂ (fun a b : EReal => a * b)
      (entry_row (m ((c.tc : Thread nD τ).loc main_arg0)) q r).symm (entry_row (m ((c.tc : Thread nD τ).loc main_arg2)) q r).symm
  · clear h
    funext i
    obtain ⟨j, q, rfl⟩ : ∃ (j : Fin 1) (q : Fin 1024), i = ix2 j q := ⟨i 0, i 1, eq_ix2 i⟩
    unfold dShift
    pointwise
    rw [Finset.sum_range]
    exact Finset.sum_congr rfl fun r _ => (entry_row (m ((c.tc : Thread nD τ).loc main_arg2)) q r).symm

end Reference

theorem frame_p : Cert.quiescent_PreBwd := fun m ρ _ => Cert.PreBwd.Gen.frame m ρ

theorem frame_pi : Cert.quiescent_PreBwdIdeal := fun m ρ _ => Cert.PreBwdIdeal.Gen.frame m ρ

theorem frame_ri : Cert.quiescent_PreBwdRefIdeal := fun m ρ _ =>
  (θ_run Cert.PreBwdRefIdeal.defs _ _).mono
    (fun r h => ⟨fun c => (h c).2.2.2, Idealize.ShloMosaic.sem_eq_zero_of_no_sems (by decide) r.2⟩) (Cert.PreBwdRefIdeal.Value.run m ρ)

theorem algebraic : Cert.algebraic_PreBwdIdeal_PreBwdRefIdeal := by
  intro m g m' g' _ hargs
  refine ⟨fun c => dX (argR m c) (argD m c) (argS m c), fun c => dScale (argX m c) (argD m c), fun c => dShift (argD m c), ?_, ?_⟩
  · exact (θ_run Cert.PreBwdIdeal.defs _ _).mono (fun r h c => ⟨(h c).1.trans (final5 m c), (h c).2.1.trans (final6 m c),
      (h c).2.2.1.trans (final7 m c), (h c).2.2.2⟩) (Cert.PreBwdIdeal.Value.run_blocks m g)
  · refine (θ_run Cert.PreBwdRefIdeal.defs _ _).mono (fun r h c => ?_) (run_ref m' g')
    obtain ⟨e0, e1, e2, e3, e4⟩ := hargs c
    exact ⟨(h c).1.trans (by rw [e1, e2, e3]), (h c).2.1.trans (by rw [e0, e2]), (h c).2.2.1.trans (by rw [e2]), (h c).2.2.2⟩

end Bwd

end Cert.PreClaims

end
-- ==== Proof.NormRow.lean ====
/- One row of the residual sum and of its layer normalisation, over the extended reals. -/
module

public import Idealize.ShloMosaic.Lib.Pointwise

@[expose] public section

noncomputable section

namespace Cert.NormRow

open Idealize.ShloMosaic

abbrev R : Type := Fin 1024 → EReal

def width : EReal := Ideal.ofBits .f32 0x44800000#32
def alpha : EReal := Ideal.ofBits .f32 0x3FB504F3#32
def half : EReal := Ideal.ofBits .f32 0x3F000000#32
def eps : EReal := Ideal.ofBits .f32 0x3727C5AC#32

/-- What the block's output is multiplied by: half of one plus the gate behind a feed-forward block, one plus the gate behind a mixing one. -/
def halfGate (e : R) : R := fun q => half * (1 + e q)
def wholeGate (e : R) : R := fun q => 1 + e q

/-- The residual sum: the block's input and its gated output. -/
def sum (x y f : R) : R := fun q => alpha * x q + f q * y q

def mean (z : R) : EReal := Ideal.div (∑ k, z k) width

def cent (z : R) : R := fun q => z q - mean z

def vare (z : R) : EReal := Ideal.div (∑ k, cent z k * cent z k) width + eps

def scale (z : R) : EReal := Ideal.rsqrt (vare z)

def normed (z : R) : R := fun q => cent z q * scale z

/-- The normalised row under the norm's own scale and shift. -/
def out (x y f g b : R) : R := fun q => normed (sum x y f) q * g q + b q

/-- … and under the next layer's modulation. -/
def modulated (x y f g b s h : R) : R := fun q => out x y f g b q * (1 + s q) + h q

end Cert.NormRow

end
-- ==== Proof.PostClaims.lean ====
/- The block's residual sum under its layer normalisation and the next layer's modulation (Post, PostRef), row by row. -/
module

public import proofs.«01_k».proof.Defs
public import proofs.«01_k».proof.Proof.NormRow
public import proofs.«01_k».proof.Proof.Gen.Post.Frame
public import proofs.«01_k».proof.Proof.Gen.PostIdeal.Value
public import proofs.«01_k».proof.Proof.Gen.PostRefIdeal.Run
public import Idealize.ShloMosaic.Lib.Pipeline.ValueKit

@[expose] public section

set_option maxRecDepth 16384

noncomputable section

namespace Cert.PostClaims

open Idealize.ShloMosaic Idealize.ShloMosaic.TcCoe Idealize.SL.Sem Cert.NormRow

abbrev Seq : Shape := ⟨2, ![4096, 1024]⟩
abbrev Param : Shape := ⟨2, ![1, 1024]⟩

/-- Row `r` of an array. -/
abbrev row {n : ℕ} (x : (⟨2, ![n, 1024]⟩ : Shape).Idx → Ideal .f32) (r : Fin n) : R := fun q => (x (ix2 r q) : EReal)

def outX (x y : Seq.Idx → Ideal .f32) (f : R) (g b : Param.Idx → Ideal .f32) : Seq.Idx → Ideal .f32 :=
  fun i => (out (row x (i 0)) (row y (i 0)) f (row g 0) (row b 0) (i 1) : EReal)

def outT (x y : Seq.Idx → Ideal .f32) (f : R) (g b s h : Param.Idx → Ideal .f32) : Seq.Idx → Ideal .bf16 :=
  fun i => (modulated (row x (i 0)) (row y (i 0)) f (row g 0) (row b 0) (row s 0) (row h 0) (i 1) : EReal)

section Kernel

open Cert.PostIdeal Cert.PostIdeal.Gen

variable (m : (ℓ : Loc nD τ sig) → Buf (Elt Ideal) ℓ)

theorem index_eq : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0])

theorem pay2_apply (x y : Vec Ideal S512x1024 .f32) (e g b : Vec Ideal S1x1024 .f32) (r : Fin 512) (q : Fin 1024) :
    k0_pay2 x y e g b (ix2 r q) = (out (row x r) (row y r) (halfGate (row e 0)) (row g 0) (row b 0) q : EReal) := by
  unfold k0_pay2
  pointwise
  rfl

theorem pay1_apply (s h : Vec Ideal S1x1024 .f32) (v : Vec Ideal S512x1024 .f32) (r : Fin 512) (q : Fin 1024) :
    k0_pay1 s h v (Scalar.ofBits .f32 0x3F800000#32) (ix2 r q) = ((v (ix2 r q) : EReal) * (1 + (s (ix2 0 q) : EReal)) + (h (ix2 0 q) : EReal) : EReal) := by
  unfold k0_pay1
  pointwise

/-- The blocks the body reads at point `t`, in rows. -/
theorem rows (c : Dev nD) (t : Fin cfg0.N) (r : Fin 512) (hr : 512 * t.val + r.val < 4096) :
    row (iblk m c 0 t : Vec Ideal S512x1024 .f32) r = row (m ((c.tc : Thread nD τ).loc main_arg0) : Vec Ideal S4096x1024 .f32) ⟨512 * t.val + r.val, hr⟩
    ∧ row (iblk m c 1 t : Vec Ideal S512x1024 .f32) r = row (m ((c.tc : Thread nD τ).loc main_arg1) : Vec Ideal S4096x1024 .f32) ⟨512 * t.val + r.val, hr⟩
    ∧ row (iblk m c 2 t : Vec Ideal S1x1024 .f32) 0 = row (m ((c.tc : Thread nD τ).loc main_arg2) : Vec Ideal S1x1024 .f32) 0
    ∧ row (iblk m c 3 t : Vec Ideal S1x1024 .f32) 0 = row (m ((c.tc : Thread nD τ).loc main_arg3) : Vec Ideal S1x1024 .f32) 0
    ∧ row (iblk m c 4 t : Vec Ideal S1x1024 .f32) 0 = row (m ((c.tc : Thread nD τ).loc main_arg4) : Vec Ideal S1x1024 .f32) 0
    ∧ row (iblk m c 5 t : Vec Ideal S1x1024 .f32) 0 = row (m ((c.tc : Thread nD τ).loc main_arg5) : Vec Ideal S1x1024 .f32) 0
    ∧ row (iblk m c 6 t : Vec Ideal S1x1024 .f32) 0 = row (m ((c.tc : Thread nD τ).loc main_arg6) : Vec Ideal S1x1024 .f32) 0 := by
  obtain ⟨i0, i1, i2, i3, i4, i5, i6, -, -⟩ := index_eq t
  refine ⟨funext fun q => ?_, funext fun q => ?_, funext fun q => ?_, funext fun q => ?_, funext fun q => ?_, funext fun q => ?_, funext fun q => ?_⟩
  · dsimp only [row]
    blk_ext [iblk, V, i0]
  · dsimp only [row]
    blk_ext [iblk, V, i1]
  · dsimp only [row]
    blk_ext [iblk, V, i2]
  · dsimp only [row]
    blk_ext [iblk, V, i3]
  · dsimp only [row]
    blk_ext [iblk, V, i4]
  · dsimp only [row]
    blk_ext [iblk, V, i5]
  · dsimp only [row]
    blk_ext [iblk, V, i6]

theorem tile_out (c : Dev nD) (t : Fin cfg0.N) (r : Fin 512) (q : Fin 1024) (hr : 512 * t.val + r.val < 4096) :
    k0_pay2 (iblk m c 0 t) (iblk m c 1 t) (iblk m c 2 t) (iblk m c 3 t) (iblk m c 4 t) (ix2 r q)
      = (out (row (m ((c.tc : Thread nD τ).loc main_arg0) : Vec Ideal S4096x1024 .f32) ⟨512 * t.val + r.val, hr⟩)
          (row (m ((c.tc : Thread nD τ).loc main_arg1) : Vec Ideal S4096x1024 .f32) ⟨512 * t.val + r.val, hr⟩)
          (halfGate (row (m ((c.tc : Thread nD τ).loc main_arg2) : Vec Ideal S1x1024 .f32) 0)) (row (m ((c.tc : Thread nD τ).loc main_arg3) : Vec Ideal S1x1024 .f32) 0)
          (row (m ((c.tc : Thread nD τ).loc main_arg4) : Vec Ideal S1x1024 .f32) 0) q : EReal) := by
  refine (pay2_apply _ _ _ _ _ r q).trans ?_
  obtain ⟨e0, e1, e2, e3, e4, -⟩ := rows m c t r hr
  rw [e0, e1, e2, e3, e4]

theorem final7 (c : Dev nD) : (dats m 0 c).arrAt 7 cfg0.N = outX (m ((c.tc : Thread nD τ).loc main_arg0)) (m ((c.tc : Thread nD τ).loc main_arg1))
    (halfGate (row (m ((c.tc : Thread nD τ).loc main_arg2)) 0)) (m ((c.tc : Thread nD τ).loc main_arg3)) (m ((c.tc : Thread nD τ).loc main_arg4)) := by
  refine (dats m 0 c).arrAt_eq_of_covers 7 _ (by decide +kernel) fun t hf y => ?_
  have ht : t.val < 8 := Nat.lt_of_lt_of_eq t.isLt N_0
  obtain ⟨-, -, -, -, -, -, -, i7, -⟩ := index_eq t
  blk_simp
  rw [after0_7]
  obtain ⟨r, q, rfl⟩ : ∃ (r : Fin 512) (q : Fin 1024), y = (ix2 r q : S512x1024.Idx) := ⟨y 0, y 1, eq_ix2 (n0 := 512) (n1 := 1024) y⟩
  have hr := r.isLt
  have e : ((win0_7.blk t).view.emb (ix2 r q : S512x1024.Idx) : S4096x1024.Idx) = ix2 ⟨512 * t.val + r.val, by omega⟩ q := by
    blk_ext [i7]
  unfold out0_7 Gen.k0_pay3
  frame_out
  refine (tile_out m c t r q (by omega)).trans ?_
  rw [e]
  rfl

theorem final8 (c : Dev nD) : (dats m 0 c).arrAt 8 cfg0.N = outT (m ((c.tc : Thread nD τ).loc main_arg0)) (m ((c.tc : Thread nD τ).loc main_arg1))
    (halfGate (row (m ((c.tc : Thread nD τ).loc main_arg2)) 0)) (m ((c.tc : Thread nD τ).loc main_arg3)) (m ((c.tc : Thread nD τ).loc main_arg4))
    (m ((c.tc : Thread nD τ).loc main_arg5)) (m ((c.tc : Thread nD τ).loc main_arg6)) := by
  refine (dats m 0 c).arrAt_eq_of_covers 8 _ (by decide +kernel) fun t hf y => ?_
  have ht : t.val < 8 := Nat.lt_of_lt_of_eq t.isLt N_0
  obtain ⟨-, -, -, -, -, -, -, -, i8⟩ := index_eq t
  blk_simp
  rw [after0_8]
  obtain ⟨r, q, rfl⟩ : ∃ (r : Fin 512) (q : Fin 1024), y = (ix2 r q : S512x1024.Idx) := ⟨y 0, y 1, eq_ix2 (n0 := 512) (n1 := 1024) y⟩
  have hr := r.isLt
  have e : ((win0_8.blk t).view.emb (ix2 r q : S512x1024.Idx) : S4096x1024.Idx) = ix2 ⟨512 * t.val + r.val, by omega⟩ q := by
    blk_ext [i8]
  unfold out0_8 Gen.k0_pay3
  frame_out
  refine (pay1_apply _ _ _ r q).trans ?_
  obtain ⟨-, -, -, -, -, e5, e6⟩ := rows m c t r (by omega)
  rw [e]
  refine congrArg₂ (fun a b : EReal => a + b) (congrArg₂ (fun a b : EReal => a * (1 + b)) ?_ (congrFun e5 q)) (congrFun e6 q)
  exact tile_out m c t r q (by omega)

end Kernel

section Reference

open Cert.PostRefIdeal Cert.PostRefIdeal.Gen

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30) = outX (m ((c.tc : Thread nD τ).loc main_arg0)) (m ((c.tc : Thread nD τ).loc main_arg1))
        (halfGate (row (m ((c.tc : Thread nD τ).loc main_arg2)) 0)) (m ((c.tc : Thread nD τ).loc main_arg3)) (m ((c.tc : Thread nD τ).loc main_arg4))
      ∧ r.2.mem ((c.tc : Thread nD τ).loc main_v37) = outT (m ((c.tc : Thread nD τ).loc main_arg0)) (m ((c.tc : Thread nD τ).loc main_arg1))
        (halfGate (row (m ((c.tc : Thread nD τ).loc main_arg2)) 0)) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2.1.trans ?_, (h c).2.2⟩) (Cert.PostRefIdeal.Value.run m ρ)
  · clear h
    funext i
    obtain ⟨r, q, rfl⟩ : ∃ (r : Fin 4096) (q : Fin 1024), i = ix2 r q := ⟨i 0, i 1, eq_ix2 i⟩
    unfold Cert.PostRefIdeal.Value.res_main_v30
    pointwise
    rfl
  · clear h
    funext i
    obtain ⟨r, q, rfl⟩ : ∃ (r : Fin 4096) (q : Fin 1024), i = ix2 r q := ⟨i 0, i 1, eq_ix2 i⟩
    unfold Cert.PostRefIdeal.Value.res_main_v37
    pointwise
    rfl

end Reference

theorem frame_p : Cert.quiescent_Post := fun m ρ _ => Cert.Post.Gen.frame m ρ

theorem frame_pi : Cert.quiescent_PostIdeal := fun m ρ _ => Cert.PostIdeal.Gen.frame m ρ

theorem frame_ri : Cert.quiescent_PostRefIdeal := fun m ρ _ =>
  (θ_run Cert.PostRefIdeal.defs _ _).mono
    (fun r h => ⟨fun c => (h c).2.2, Idealize.ShloMosaic.sem_eq_zero_of_no_sems (by decide) r.2⟩) (Cert.PostRefIdeal.Value.run m ρ)

theorem algebraic : Cert.algebraic_PostIdeal_PostRefIdeal := by
  intro m g m' g' _ hargs
  refine ⟨fun c => outX _ _ _ _ _, fun c => outT _ _ _ _ _ _ _, (θ_run Cert.PostIdeal.defs _ _).mono
    (fun r h c => ⟨(h c).1.trans (final7 m c), (h c).2.1.trans (final8 m c), (h c).2.2⟩) (Cert.PostIdeal.Value.run_blocks m g), ?_⟩
  refine (θ_run Cert.PostRefIdeal.defs _ _).mono (fun r h c => ?_) (run_ref m' g')
  obtain ⟨e0, e1, e2, e3, e4, e5, e6⟩ := hargs c
  exact ⟨(h c).1.trans (by rw [e0, e1, e2, e3, e4]), (h c).2.1.trans (by rw [e0, e1, e2, e3, e4, e5, e6]), (h c).2.2⟩

end Cert.PostClaims

end
-- ==== Proof.ConvForward.lean ====
/- The causal convolution's forward call (Conv, ConvRef): four taps over rows staged behind the eight rows of the tile before. -/
module

public import proofs.«01_k».proof.Defs
public import proofs.«01_k».proof.Proof.ConvGradClaims
public import proofs.«01_k».proof.Proof.Gen.Conv.Frame
public import proofs.«01_k».proof.Proof.Gen.ConvIdeal.Value
public import proofs.«01_k».proof.Proof.Gen.ConvRefIdeal.Run

@[expose] public section

set_option maxRecDepth 16384

noncomputable section

namespace Cert.ConvForward

open Idealize.ShloMosaic Idealize.ShloMosaic.TcCoe Idealize.SL.Sem Cert.ConvGrad

/-- The four taps' sum over a column at row `r`. -/
def ahead (w : Fin 4 → EReal) (b : EReal) (f : Col) (r : ℕ) : EReal :=
  w 0 * behind f r + w 1 * behind f (r + 1) + w 2 * behind f (r + 2) + w 3 * behind f (r + 3) + b

abbrev conv (x : Proj.Idx → Ideal .f32) (w : Taps.Idx → Ideal .f32) (b : Bias.Idx → Ideal .f32) (q : Fin 1024) (r : ℕ) : EReal :=
  ahead (fun j => w (ix2 j q)) (b (ix2 0 q)) (xcol x q) r

def out (x : Proj.Idx → Ideal .f32) (w : Taps.Idx → Ideal .f32) (b : Bias.Idx → Ideal .f32) : Seq.Idx → Ideal .f32 :=
  fun i => conv x w b (i 1) (i 0).val

section Kernel

open Cert.ConvIdeal Cert.ConvIdeal.Gen

variable (m : (ℓ : Loc nD τ sig) → Buf (Elt Ideal) ℓ)

abbrev argX (c : Dev nD) : Vec Ideal S4096x2048 .f32 := m ((c.tc : Thread nD τ).loc main_arg0)
abbrev argW (c : Dev nD) : Vec Ideal S4x1024 .f32 := m ((c.tc : Thread nD τ).loc main_arg1)
abbrev argB (c : Dev nD) : Vec Ideal S1x1024 .f32 := m ((c.tc : Thread nD τ).loc main_arg2)

theorem index_eq : ∀ t : Fin cfg0.N, win0_0.index t = ![t.val, 1] ∧ win0_1.index t = ![t.val * 64 - 1, 1] ∧ win0_2.index t = ![0, 0]
    ∧ win0_3.index t = ![0, 0] ∧ win0_4.index t = ![t.val, 0] :=
  (by decide +kernel : ∀ t : Fin grid0.N, win0_0.index t = ![t.val, 1] ∧ win0_1.index t = ![t.val * 64 - 1, 1] ∧ win0_2.index t = ![0, 0]
    ∧ win0_3.index t = ![0, 0] ∧ win0_4.index t = ![t.val, 0])

theorem first_tile : ∀ t : Fin cfg0.N, Scalar.cmpi .eq (BitVec.ofNat 32 (grid0.coords t 0).val) 0#32 = if t.val = 0 then 1#1 else 0#1 :=
  (by decide +kernel : ∀ t : Fin grid0.N, Scalar.cmpi .eq (BitVec.ofNat 32 (grid0.coords t 0).val) 0#32 = if t.val = 0 then 1#1 else 0#1)

theorem lt_N (t : Fin cfg0.N) : t.val < 8 := Nat.lt_of_lt_of_eq t.isLt N_0

abbrev staged (c : Dev nD) (t : Fin cfg0.N) : List (View.Piece (Elt Ideal) S520x1024 .f32) :=
  [⟨Rect.unit ![8, 0] ![512, 1024] inb_S520x1024_S512x1024_8_0, k0_pay3 (iblk m c 0 t)⟩,
    ⟨Rect.unit ![0, 0] ![8, 1024] inb_S520x1024_S8x1024_0_0, k0_pay2 (grid0.coords t) (iblk m c 1 t)⟩]

theorem staged_row (c : Dev nD) (t : Fin cfg0.N) (p : Fin 520) (q : Fin 1024) :
    View.canon (staged m c t) (ix2 p q) = xpad (argX m c) q (512 * t.val + p.val - 5) := by
  have ht := lt_N t
  obtain ⟨i0, i1, -⟩ := index_eq t
  refine staged_behind t.val ht (xcol (argX m c) q) q _ _ _ _ (fun r => ?_) (fun h r => ?_) (fun h r => ?_) p
  · unfold k0_pay3
    pointwise
    blk_ext [iblk, V, i0]
  · unfold k0_pay2
    pointwise
    exact (congrArg (fun b => Scalar.select b _ _) ((first_tile t).trans (if_pos h))).trans (select_one _ _)
  · unfold k0_pay2
    pointwise
    refine (congrArg (fun b => Scalar.select b _ _) ((first_tile t).trans (if_neg h))).trans ((select_zero _ _).trans ?_)
    blk_ext [iblk, V, i1]

theorem tap_row (c : Dev nD) (t : Fin cfg0.N) (j : ℕ) (inb : ∀ a, (![j, 0] : Fin 2 → ℕ) a + (![1, 1024] : Fin 2 → ℕ) a ≤ (![4, 1024] : Fin 2 → ℕ) a)
    (hj : j < 4) (q : Fin 1024) :
    View.ld (iblk m c 2 t : Vec Ideal S4x1024 .f32) (Rect.unit (s := S4x1024) ![j, 0] ![1, 1024] inb) (ix2 0 q : S1x1024.Idx) = argW m c (ix2 ⟨j, hj⟩ q) := by
  obtain ⟨-, -, i2, -⟩ := index_eq t
  refine (ld_row (iblk m c 2 t : Vec Ideal S4x1024 .f32) j inb hj q).trans ?_
  blk_ext [iblk, V, i2]

theorem pay_apply (w0 w1 w2 w3 b : Vec Ideal S1x1024 .f32) (x0 x1 x2 x3 : Vec Ideal S512x1024 .f32) (r : Fin 512) (q : Fin 1024) :
    k0_pay1 (k0_pay4 w0 x0 w1 x1) (k0_pay5 w2) x2 w3 x3 b (ix2 r q)
      = ((w0 (ix2 0 q) : EReal) * x0 (ix2 r q) + (w1 (ix2 0 q) : EReal) * x1 (ix2 r q) + (w2 (ix2 0 q) : EReal) * x2 (ix2 r q)
          + (w3 (ix2 0 q) : EReal) * x3 (ix2 r q) + (b (ix2 0 q) : EReal) : EReal) := by
  unfold k0_pay1 k0_pay4 k0_pay5
  pointwise

theorem tile_out (c : Dev nD) (t : Fin cfg0.N) (r : Fin 512) (q : Fin 1024) :
    outsAt0 m c t (ix2 r q) = conv (argX m c) (argW m c) (argB m c) q (512 * t.val + r.val) := by
  have hr := r.isLt
  have key : ∀ (o j : ℕ) (inb) (ho : o = j + 5) (hj : j < 4), (View.whole cc0_scratch0).readCov (staged m c t)
      (Rect.unit (s := S520x1024) ![o, 0] ![512, 1024] inb).toLoadRect (ix2 r q) = xpad (argX m c) q (512 * t.val + r.val + j) := by
    intro o j inb ho hj
    refine (read_slab (View.whole cc0_scratch0) inb (staged m c t) r q (by omega)).trans ?_
    refine (staged_row m c t ⟨o + r.val, by omega⟩ q).trans ?_
    exact congrArg _ (by show 512 * t.val + (o + r.val) - 5 = _; omega)
  have x0 := key 5 0 inb_S520x1024_S512x1024_5_0 rfl (by omega)
  have x1 := key 6 1 inb_S520x1024_S512x1024_6_0 rfl (by omega)
  have x2 := key 7 2 inb_S520x1024_S512x1024_7_0 rfl (by omega)
  have x3 := key 8 3 inb_S520x1024_S512x1024_8_0 rfl (by omega)
  have w0 := tap_row m c t 0 inb_S4x1024_S1x1024_0_0 (by omega) q
  have w1 := tap_row m c t 1 inb_S4x1024_S1x1024_1_0 (by omega) q
  have w2 := tap_row m c t 2 inb_S4x1024_S1x1024_2_0 (by omega) q
  have w3 := tap_row m c t 3 inb_S4x1024_S1x1024_3_0 (by omega) q
  have b : (iblk m c 3 t : Vec Ideal S1x1024 .f32) (ix2 0 q) = argB m c (ix2 0 q) := by
    obtain ⟨-, -, -, i3, -⟩ := index_eq t
    blk_ext [iblk, V, i3]
  have add : ∀ {a b a' b' : EReal}, a = a' → b = b' → a + b = a' + b' := fun h h' => congrArg₂ _ h h'
  have mul : ∀ {a b a' b' : EReal}, a = a' → b = b' → a * b = a' * b' := fun h h' => congrArg₂ _ h h'
  unfold conv ahead outsAt0
  frame_out
  refine (pay_apply _ _ _ _ _ _ _ _ _ r q).trans ?_
  exact add (add (add (add (mul w0 x0) (mul w1 x1)) (mul w2 x2)) (mul w3 x3)) b

theorem final4 (c : Dev nD) : (dats m 0 c).arrAt 4 cfg0.N = out (argX m c) (argW m c) (argB m c) := by
  refine (dats m 0 c).arrAt_eq_of_covers 4 _ (by decide +kernel) fun t hf y => ?_
  have ht := lt_N t
  obtain ⟨-, -, -, -, i4⟩ := index_eq t
  blk_simp
  rw [after0_4]
  obtain ⟨r, q, rfl⟩ : ∃ (r : Fin 512) (q : Fin 1024), y = (ix2 r q : S512x1024.Idx) := ⟨y 0, y 1, eq_ix2 (n0 := 512) (n1 := 1024) y⟩
  have hr := r.isLt
  have e : ((win0_4.blk t).view.emb (ix2 r q : S512x1024.Idx) : S4096x1024.Idx) = ix2 ⟨512 * t.val + r.val, by omega⟩ q := by
    blk_ext [i4]
  refine (tile_out m c t r q).trans ?_
  rw [e]
  rfl

end Kernel

theorem first_entry (f : Col) (r : Fin 4096) : (if h : r.val < 3 then (0 : EReal) else f ⟨r.val - 3, by omega⟩) = behind f r.val := by
  unfold behind
  by_cases h : r.val < 3
  · rw [dif_pos h, dif_neg (by omega)]
  · rw [dif_neg h, dif_pos (by omega)]

section Reference

open Cert.ConvRefIdeal Cert.ConvRefIdeal.Gen

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Cert.ConvRefIdeal.Value.run m ρ)
  clear h
  funext i
  obtain ⟨r, q, rfl⟩ : ∃ (r : Fin 4096) (q : Fin 1024), i = ix2 r q := ⟨i 0, i 1, eq_ix2 i⟩
  unfold out conv ahead
  pointwise
  have add : ∀ {a b a' b' : EReal}, a = a' → b = b' → a + b = a' + b' := fun h h' => congrArg₂ _ h h'
  have mul : ∀ {a b b' : EReal}, b = b' → a * b = a * b' := fun h => congrArg _ h
  exact add (add (add (add (mul (first_entry (xcol (m ((c.tc : Thread nD τ).loc main_arg0)) q) r))
    (mul (ConvGradClaims.shifted_entry (xcol (m ((c.tc : Thread nD τ).loc main_arg0)) q) 1 (by decide) r)))
    (mul (ConvGradClaims.shifted_entry (xcol (m ((c.tc : Thread nD τ).loc main_arg0)) q) 2 (by decide) r)))
    (mul (ConvGradClaims.behind_row (xcol (m ((c.tc : Thread nD τ).loc main_arg0)) q) r))) rfl

end Reference

theorem frame_p : Cert.quiescent_Conv := fun m ρ _ => Cert.Conv.Gen.frame m ρ

theorem frame_pi : Cert.quiescent_ConvIdeal := fun m ρ _ => Cert.ConvIdeal.Gen.frame m ρ

theorem frame_ri : Cert.quiescent_ConvRefIdeal := fun m ρ _ =>
  (θ_run Cert.ConvRefIdeal.defs _ _).mono
    (fun r h => ⟨fun c => (h c).2, Idealize.ShloMosaic.sem_eq_zero_of_no_sems (by decide) r.2⟩) (Cert.ConvRefIdeal.Value.run m ρ)

theorem algebraic : Cert.algebraic_ConvIdeal_ConvRefIdeal := by
  intro m g m' g' _ hargs
  refine ⟨fun c => out (argX m c) (argW m c) (argB m c), (θ_run Cert.ConvIdeal.defs _ _).mono (fun r h c => ⟨(h c).1.trans (final4 m c), (h c).2⟩)
    (Cert.ConvIdeal.Value.run_blocks m g), ?_⟩
  refine (θ_run Cert.ConvRefIdeal.defs _ _).mono (fun r h c => ?_) (run_ref m' g')
  obtain ⟨e0, e1, e2⟩ := hargs c
  exact ⟨(h c).1.trans (by rw [e0, e1, e2]), (h c).2⟩

end Cert.ConvForward

end
-- ==== Proof.NormRowGrad.lean ====
/- One row of the gradient of the residual sum under its normalisation and the next layer's modulation, over the extended reals: as the
   backward rules give it term by term, and with the terms through one and the same difference added up first. -/
module

public import proofs.«01_k».proof.Proof.NormRow
public import proofs.«01_k».proof.Proof.SwigluAlg

@[expose] public section

noncomputable section

namespace Cert.NormRowGrad

open Idealize.ShloMosaic Cert.NormRow Cert.SwigluAlg

def negHalf : EReal := Ideal.ofBits .f32 0xBF000000#32
def two : EReal := Ideal.ofBits .f32 0x40000000#32

/-- What one row is made from: the block's input and output, the cotangents of both results, the output's factor, the norm's scale and shift
    and the next layer's scale. -/
structure Line where
  (x y d t f g b s : R)

namespace Line

variable (L : Line)

def z : R := NormRow.sum L.x L.y L.f

/-- The cotangent of the normalised row, before and behind its own scale. -/
def back : R := fun q => L.d q + L.t q * (1 + L.s q)
def u : R := fun q => L.back q * L.g q

def weight : EReal := negHalf * Ideal.div (scale L.z) (vare L.z)

/-- What the variance's cotangent gives every element of the row. -/
def spread : EReal := Ideal.div ((∑ k, cent L.z k * L.u k) * L.weight) width

/-- Through the difference from the mean: the factor itself, and the variance's square. -/
def direct : R := fun q => L.u q * scale L.z
def square : R := fun q => L.spread * (two * cent L.z q)

/-- The residual sum's gradient, term by term. -/
def dz : R := fun q => L.direct q + L.square q + Ideal.div (∑ k, -L.direct k + ∑ k, -L.square k) width

/-- … and with one sum over the row for both. -/
def both : R := fun q => L.u q * scale L.z + cent L.z q * L.spread + L.spread * cent L.z q
def dzBoth : R := fun q => L.both q + Ideal.div (∑ k, (0 - L.both k)) width

def dx : R := fun q => alpha * L.dz q
def dy : R := fun q => L.f q * L.dz q
def dgate : R := fun q => L.dz q * L.y q
def dg : R := fun q => normed L.z q * L.back q
def dscale : R := fun q => (normed L.z q * L.g q + L.b q) * L.t q

end Line

theorem width_eq : width = ((1024 : ℝ) : EReal) := by
  simp only [width, Ideal.ofBits, Ideal.ieee]
  simp
  rw [← EReal.coe_mul]
  norm_num

theorem half_eq : half = ((1 / 2 : ℝ) : EReal) := by
  simp only [half, Ideal.ofBits, Ideal.ieee]
  simp
  rw [← EReal.coe_mul]
  norm_num

theorem two_eq : two = ((2 : ℝ) : EReal) := by
  simp only [two, Ideal.ofBits, Ideal.ieee]
  simp
  rw [← EReal.coe_mul]
  norm_num

theorem eps_pos : 0 < eps := by
  simp [eps, Ideal.ofBits, Ideal.ieee]
  rw [← EReal.coe_mul]
  exact EReal.coe_pos.mpr (by norm_num)

theorem square_nonneg (x : EReal) : 0 ≤ x * x := by
  induction x with
  | bot => simp
  | top => simp
  | coe r =>
    rw [← EReal.coe_mul]
    exact EReal.coe_nonneg.mpr (mul_self_nonneg r)

theorem two_mul_eq (x : EReal) : two * x = x + x := by
  rw [two_eq]
  induction x with
  | bot => exact EReal.coe_mul_bot_of_pos (by norm_num)
  | top => exact EReal.coe_mul_top_of_pos (by norm_num)
  | coe r =>
    rw [← EReal.coe_mul, ← EReal.coe_add, two_mul]

theorem vare_pos (z : R) : 0 < vare z := by
  refine lt_of_lt_of_le eps_pos ?_
  refine le_add_of_nonneg_left ?_
  unfold Ideal.div
  rw [if_neg (by rw [width_eq]; exact_mod_cast (by norm_num : (1024 : ℝ) ≠ 0))]
  refine mul_nonneg (Finset.sum_nonneg fun k _ => square_nonneg _) ?_
  rw [width_eq, ← EReal.coe_inv]
  exact EReal.coe_nonneg.mpr (by norm_num)

theorem scale_fin (z : R) : IsFin (scale z) := by
  have h := vare_pos z
  unfold scale
  induction hv : vare z with
  | bot => simp [hv] at h
  | top => exact ⟨0, rfl⟩
  | coe r =>
    rw [hv] at h
    have hr : 0 < r := EReal.coe_pos.mp h
    refine ⟨(Real.sqrt r)⁻¹, ?_⟩
    change (if r < 0 then ⊥ else if r = 0 then ⊤ else (((Real.sqrt r)⁻¹ : ℝ) : EReal)) = _
    rw [if_neg (not_lt.mpr hr.le), if_neg hr.ne']

theorem neg_add_fin {x : EReal} (hx : IsFin x) (y : EReal) : -(x + y) = -x + -y := by
  obtain ⟨r, rfl⟩ := hx
  induction y with
  | bot => simp
  | top => simp
  | coe y => rw [← EReal.coe_add, ← EReal.coe_neg, ← EReal.coe_neg, ← EReal.coe_neg, ← EReal.coe_add, neg_add]

theorem fin_add {x y : EReal} : IsFin x → IsFin y → IsFin (x + y)
  | ⟨a, ha⟩, ⟨b, hb⟩ => ⟨a + b, by rw [ha, hb, EReal.coe_add]⟩

theorem fin_one : IsFin 1 := ⟨1, EReal.coe_one.symm⟩

theorem half_mul_add (x y : EReal) : half * (x + y) = half * x + half * y := by
  rw [half_eq]
  exact EReal.left_distrib_of_nonneg_of_ne_top (EReal.coe_nonneg.mpr (by norm_num)) (EReal.coe_ne_top _) x y

theorem half_mul_sum {ι : Type} (s : Finset ι) (f : ι → EReal) : half * ∑ i ∈ s, f i = ∑ i ∈ s, half * f i := by
  classical
  induction s using Finset.induction_on with
  | empty => simp
  | insert a s ha ih => rw [Finset.sum_insert ha, Finset.sum_insert ha, half_mul_add, ih]

namespace Line

variable (L : Line)

theorem both_eq (q : Fin 1024) : L.both q = L.direct q + L.square q := by
  unfold both direct square
  rw [add_assoc, mul_left_comm, two_mul_eq, mul_comm (cent L.z q)]

/-- Every factor in front of the norm's reciprocal deviation is finite. -/
structure Finite : Prop where
  (d : ∀ q, IsFin (L.d q)) (t : ∀ q, IsFin (L.t q)) (g : ∀ q, IsFin (L.g q)) (s : ∀ q, IsFin (L.s q))

theorem direct_fin (h : L.Finite) (q : Fin 1024) : IsFin (L.direct q) :=
  fin_mul (fin_mul (fin_add (h.d q) (fin_mul (h.t q) (fin_add fin_one (h.s q)))) (h.g q)) (scale_fin _)

theorem dzBoth_eq (h : L.Finite) : L.dzBoth = L.dz := by
  funext q
  unfold dzBoth dz
  rw [both_eq]
  refine congrArg (fun a => L.direct q + L.square q + Ideal.div a width) ?_
  rw [← Finset.sum_add_distrib]
  refine Finset.sum_congr rfl fun k _ => ?_
  rw [both_eq, zero_sub, neg_add_fin (L.direct_fin h k)]

end Line

end Cert.NormRowGrad

end
-- ==== Proof.PostGrad.lean ====
/- The gradient of the block's residual sum under its normalisation and the next layer's modulation, over whole arrays, and the kernel's
   (PostBwd): one tile of rows after the other, the gradients of the five parameter rows added up over the tiles. -/
module

public import proofs.«01_k».proof.Defs
public import proofs.«01_k».proof.Proof.ConvGrad
public import proofs.«01_k».proof.Proof.NormRowGrad
public import proofs.«01_k».proof.Proof.Gen.PostBwdIdeal.Value
public import Idealize.ShloMosaic.Lib.Pipeline.ValueKit

@[expose] public section

set_option maxRecDepth 16384

noncomputable section

namespace Cert.PostGrad

open Idealize.ShloMosaic Idealize.ShloMosaic.TcCoe Idealize.SL.Sem Cert.NormRow Cert.NormRowGrad

abbrev Seq : Shape := ⟨2, ![4096, 1024]⟩
abbrev Param : Shape := ⟨2, ![1, 1024]⟩

/-- Row `r` of the arrays. -/
def line {n : ℕ} (x y d t : (⟨2, ![n, 1024]⟩ : Shape).Idx → Ideal .f32) (f : R) (g b s : Param.Idx → Ideal .f32) (r : Fin n) : Line :=
  ⟨fun q => x (ix2 r q), fun q => y (ix2 r q), fun q => d (ix2 r q), fun q => t (ix2 r q), f, fun q => g (ix2 0 q), fun q => b (ix2 0 q),
    fun q => s (ix2 0 q)⟩

/-- The only row of a parameter. -/
abbrev only (e : Param.Idx → Ideal .f32) : R := fun q => e (ix2 0 q)

/-- The seven gradients of the arrays whose rows are `A`. -/
def dX (A : Fin 4096 → Line) : Seq.Idx → Ideal .f32 := fun i => ((A (i 0)).dx (i 1) : EReal)
def dY (A : Fin 4096 → Line) : Seq.Idx → Ideal .bf16 := fun i => ((A (i 0)).dy (i 1) : EReal)
/-- With the block's weight `w`. -/
def dGate (w : EReal) (A : Fin 4096 → Line) : Param.Idx → Ideal .f32 := fun i => (w * ∑ r, (A r).dgate (i 1) : EReal)
def dG (A : Fin 4096 → Line) : Param.Idx → Ideal .f32 := fun i => (∑ r, (A r).dg (i 1) : EReal)
def dB (A : Fin 4096 → Line) : Param.Idx → Ideal .f32 := fun i => (∑ r, (A r).back (i 1) : EReal)
def dScale (A : Fin 4096 → Line) : Param.Idx → Ideal .f32 := fun i => (∑ r, (A r).dscale (i 1) : EReal)
def dShift (A : Fin 4096 → Line) : Param.Idx → Ideal .f32 := fun i => (∑ r, (A r).t (i 1) : EReal)

/-- A function of the row by the row's number, zero behind the last row. -/
def byNum (f : Fin 4096 → EReal) (n : ℕ) : EReal := if h : n < 4096 then f ⟨n, h⟩ else 0

theorem byNum_of (f : Fin 4096 → EReal) (n : ℕ) (h : n < 4096) : byNum f n = f ⟨n, h⟩ := dif_pos h

theorem sum_byNum (f : Fin 4096 → EReal) : ∑ n ∈ Finset.range 4096, byNum f n = ∑ r, f r := by
  rw [Finset.sum_range]
  exact Finset.sum_congr rfl fun r _ => byNum_of f r.val r.isLt

/-- One function of the row, summed over the rows before tile `t`. -/
abbrev before (A : Fin 4096 → Line) (f : Line → EReal) (t : ℕ) : EReal := ∑ n ∈ Finset.range (512 * t), byNum (fun r => f (A r)) n

theorem before_step (A : Fin 4096 → Line) (f : Line → EReal) (t : ℕ) (ht : t < 8) (T : Fin 512 → Line)
    (hT : ∀ (r : Fin 512) (hr : 512 * t + r.val < 4096), T r = A ⟨512 * t + r.val, hr⟩) : before A f t + ∑ k, f (T k) = before A f (t + 1) :=
  ConvGrad.tile_sum _ _ _ fun k => by
    rw [hT k (by omega), byNum_of]

theorem before_all (A : Fin 4096 → Line) (f : Line → EReal) : before A f 8 = ∑ r, f (A r) := sum_byNum _

/-- The five parameter rows after the tiles before `t`, for the block's weight `w`. -/
structure Left (w : EReal) (A : Fin 4096 → Line) (t : ℕ) (e g b s h : Param.Idx → Ideal .f32) : Prop where
  he : ∀ q : Fin 1024, e (ix2 0 q) = (w * before A (fun L => L.dzBoth q * L.y q) t : EReal)
  hg : ∀ q : Fin 1024, g (ix2 0 q) = (before A (fun L => L.dg q) t : EReal)
  hb : ∀ q : Fin 1024, b (ix2 0 q) = (before A (fun L => L.back q) t : EReal)
  hs : ∀ q : Fin 1024, s (ix2 0 q) = (before A (fun L => L.dscale q) t : EReal)
  hh : ∀ q : Fin 1024, h (ix2 0 q) = (before A (fun L => L.t q) t : EReal)

theorem param_idx (y : Param.Idx) : ∃ q : Fin 1024, y = (ix2 0 q : Param.Idx) := by
  obtain ⟨j, q, rfl⟩ : ∃ (j : Fin 1) (q : Fin 1024), y = (ix2 j q : Param.Idx) := ⟨y 0, y 1, eq_ix2 (n0 := 1) (n1 := 1024) y⟩
  obtain rfl : j = 0 := Subsingleton.elim _ _
  exact ⟨q, rfl⟩

/-- … and after the last, the five gradients. -/
theorem Left.whole {w : EReal} {A : Fin 4096 → Line} {t : ℕ} {e g b s h : Param.Idx → Ideal .f32} (l : Left w A t e g b s h) (ht : t = 8) (hA : ∀ r, (A r).Finite) :
    e = dGate w A ∧ g = dG A ∧ b = dB A ∧ s = dScale A ∧ h = dShift A := by
  subst ht
  refine ⟨?_, ?_, ?_, ?_, ?_⟩ <;> funext i <;> obtain ⟨q, rfl⟩ := param_idx i
  · refine (l.he q).trans ?_
    rw [before_all]
    exact congrArg (fun a : EReal => w * a) (Finset.sum_congr rfl fun r _ => by rw [Line.dzBoth_eq _ (hA r)]; rfl)
  · exact (l.hg q).trans (before_all _ _)
  · exact (l.hb q).trans (before_all _ _)
  · exact (l.hs q).trans (before_all _ _)
  · exact (l.hh q).trans (before_all _ _)

open Cert.PostBwdIdeal Cert.PostBwdIdeal.Gen

section Payloads

variable (x y d t : Vec Ideal S512x1024 .f32) (f : R) (g b s p : Vec Ideal S1x1024 .f32)

/-- What the body keeps of every row: its difference from the mean, its reciprocal deviation and the weight of the variance's cotangent. -/
structure Stats (c : Vec Ideal S512x1024 .f32) (v w : Vec Ideal S512x1 .f32) : Prop where
  hc : ∀ (r : Fin 512) (q : Fin 1024), c (ix2 r q) = (cent (line x y d t f g b s r).z q : EReal)
  hv : ∀ (r : Fin 512) (j : Fin 1), v (ix2 r j) = (scale (line x y d t f g b s r).z : EReal)
  hw : ∀ (r : Fin 512) (j : Fin 1), w (ix2 r j) = ((line x y d t f g b s r).weight : EReal)

variable (c : Vec Ideal S512x1024 .f32) (v w : Vec Ideal S512x1 .f32)

/-- From any difference, reciprocal deviation and weight. -/
theorem pay16_of (r : Fin 512) (q : Fin 1024) :
    k0_pay16 d t g s c v w (ix2 r q)
      = ((line x y d t f g b s r).u q * v (ix2 r 0) + c (ix2 r q) * Ideal.div ((∑ k : Fin 1024, c (ix2 r k) * (line x y d t f g b s r).u k) * w (ix2 r 0)) width
          + Ideal.div ((∑ k : Fin 1024, c (ix2 r k) * (line x y d t f g b s r).u k) * w (ix2 r 0)) width * c (ix2 r q) : EReal) := by
  unfold k0_pay16 k0_pay13 k0_pay12 k0_pay9
  pointwise
  try simp only [Finset.univ_unique, Finset.sum_singleton]
  rfl

variable {x y d t f g b s c v w}

theorem through_apply (K : Stats x y d t f g b s c v w) (r : Fin 512) (q : Fin 1024) :
    k0_pay16 d t g s c v w (ix2 r q) = ((line x y d t f g b s r).both q : EReal) := by
  refine (pay16_of x y d t f g b s c v w r q).trans ?_
  simp only [K.hc, K.hv, K.hw]
  rfl

theorem meanThrough_apply (K : Stats x y d t f g b s c v w) (r : Fin 512) (j : Fin 1) :
    k0_pay17 d t g s c v w (ix2 r j) = (Ideal.div (∑ k, (0 - (line x y d t f g b s r).both k)) width : EReal) := by
  refine Eq.trans (b := (Ideal.div (∑ k : Fin 1024, (0 - (k0_pay16 d t g s c v w (ix2 r k) : EReal))) width : EReal)) ?_ ?_
  · unfold k0_pay17
    pointwise
    try simp only [Finset.univ_unique, Finset.sum_singleton]
    rfl
  · simp only [through_apply K]

theorem pay18_apply (K : Stats x y d t f g b s c v w) (r : Fin 512) (q : Fin 1024) :
    k0_pay18 (F := Ideal) (k0_pay16 d t g s c v w) (k0_pay17 d t g s c v w) (ix2 r q) = ((line x y d t f g b s r).dzBoth q : EReal) := by
  refine Eq.trans (b := ((k0_pay16 d t g s c v w (ix2 r q) : EReal) + (k0_pay17 d t g s c v w (ix2 r 0) : EReal) : EReal)) ?_ ?_
  · unfold k0_pay18
    pointwise
  · rw [through_apply K, meanThrough_apply K]
    rfl

theorem pay19_apply (K : Stats x y d t f g b s c v w) (r : Fin 512) (q : Fin 1024) :
    k0_pay19 (F := Ideal) (k0_pay16 d t g s c v w) (k0_pay17 d t g s c v w) (ix2 r q) = (alpha * (line x y d t f g b s r).dzBoth q : EReal) :=
  congrArg (fun a : EReal => alpha * a) (pay18_apply K r q)

theorem pay20_apply (K : Stats x y d t f g b s c v w) (k : Vec Ideal S1x1024 .f32) (hk : ∀ q : Fin 1024, k (ix2 0 q) = (f q : EReal)) (r : Fin 512) (q : Fin 1024) :
    k0_pay20 (F := Ideal) k (k0_pay16 d t g s c v w) (k0_pay17 d t g s c v w) (ix2 r q)
      = ((line x y d t f g b s r).f q * (line x y d t f g b s r).dzBoth q : EReal) := by
  refine Eq.trans (b := ((k (ix2 0 q) : EReal) * k0_pay18 (F := Ideal) (k0_pay16 d t g s c v w) (k0_pay17 d t g s c v w) (ix2 r q) : EReal)) ?_ ?_
  · unfold k0_pay20
    pointwise
  · rw [pay18_apply K, hk q]
    rfl

theorem pay8_apply (K : Stats x y d t f g b s c v w) (r : Fin 512) (q : Fin 1024) : k0_pay8 (F := Ideal) c v (ix2 r q) = (normed (line x y d t f g b s r).z q : EReal) := by
  refine Eq.trans (b := ((c (ix2 r q) : EReal) * (v (ix2 r 0) : EReal) : EReal)) ?_ ?_
  · unfold k0_pay8
    pointwise
  · rw [K.hc, K.hv]
    rfl

theorem pay27_apply (K : Stats x y d t f g b s c v w) (q : Fin 1024) :
    k0_pay27 (k0_pay15 d t s c v) p (ix2 0 q) = ((p (ix2 0 q) : EReal) + ∑ k, (line x y d t f g b s k).dg q : EReal) := by
  refine Eq.trans (b := ((p (ix2 0 q) : EReal) + ∑ k : Fin 512, (k0_pay8 (F := Ideal) c v (ix2 k q) : EReal) * (line x y d t f g b s k).back q : EReal)) ?_ ?_
  · unfold k0_pay27 k0_pay15 k0_pay13 k0_pay12 k0_pay9
    pointwise
    rfl
  · simp only [pay8_apply K]
    rfl

variable (x y d t f g b s) in
theorem pay28_apply (q : Fin 1024) : k0_pay28 (k0_pay14 d t s) p (ix2 0 q) = ((p (ix2 0 q) : EReal) + ∑ k, (line x y d t f g b s k).back q : EReal) := by
  unfold k0_pay28 k0_pay14 k0_pay12 k0_pay9
  pointwise
  rfl

theorem pay1_apply (K : Stats x y d t f g b s c v w) (q : Fin 1024) :
    k0_pay1 (k0_pay11 t g b c v) (k0_pay29 p) (ix2 0 q) = ((p (ix2 0 q) : EReal) + ∑ k, (line x y d t f g b s k).dscale q : EReal) := by
  refine Eq.trans (b := ((p (ix2 0 q) : EReal)
    + ∑ k : Fin 512, ((k0_pay8 (F := Ideal) c v (ix2 k q) : EReal) * (g (ix2 0 q) : EReal) + (b (ix2 0 q) : EReal)) * (t (ix2 k q) : EReal) : EReal)) ?_ ?_
  · unfold k0_pay1 k0_pay29 k0_pay11 k0_pay9
    pointwise
  · simp only [pay8_apply K]
    rfl

variable (x y d t f g b s) in
theorem pay2_apply (q : Fin 1024) : k0_pay2 (k0_pay10 t) p (ix2 0 q) = ((p (ix2 0 q) : EReal) + ∑ k, (line x y d t f g b s k).t q : EReal) := by
  unfold k0_pay2 k0_pay10
  pointwise
  rfl

/-- What one tile leaves in the five parameter rows, from what they held; the gate's with the weight that distributes over sums. -/
theorem tile_step (K : Stats x y d t f g b s c v w) (ω : EReal) (hω : ∀ a a', ω * (a + a') = ω * a + ω * a') (A : Fin 4096 → Line) (i : ℕ) (hi : i < 8)
    (hT : ∀ (r : Fin 512) (hr : 512 * i + r.val < 4096), line x y d t f g b s r = A ⟨512 * i + r.val, hr⟩) {e' e0 g0 b0 s0 h0 : Vec Ideal S1x1024 .f32}
    (l : Left ω A i e0 g0 b0 s0 h0)
    (he : ∀ q : Fin 1024, e' (ix2 0 q) = ((e0 (ix2 0 q) : EReal) + ω * ∑ k, (line x y d t f g b s k).dzBoth q * (line x y d t f g b s k).y q : EReal)) :
    Left ω A (i + 1) e' (k0_pay27 (k0_pay15 d t s c v) g0) (k0_pay28 (k0_pay14 d t s) b0) (k0_pay1 (k0_pay11 t g b c v) (k0_pay29 s0))
      (k0_pay2 (k0_pay10 t) h0) where
  he q := by
    rw [he q, l.he q, ← hω]
    exact congrArg (fun a : EReal => ω * a) (before_step A (fun L => L.dzBoth q * L.y q) i hi _ hT)
  hg q := by
    refine (pay27_apply g0 K q).trans ?_
    rw [l.hg q]
    exact before_step A (fun L => L.dg q) i hi _ hT
  hb q := by
    refine (pay28_apply x y d t f g b s b0 q).trans ?_
    rw [l.hb q]
    exact before_step A (fun L => L.back q) i hi _ hT
  hs q := by
    refine (pay1_apply s0 K q).trans ?_
    rw [l.hs q]
    exact before_step A (fun L => L.dscale q) i hi _ hT
  hh q := by
    refine (pay2_apply x y d t f g b s h0 q).trans ?_
    rw [l.hh q]
    exact before_step A (fun L => L.t q) i hi _ hT

/-- The zeros they start from. -/
theorem start (ω : EReal) (A : Fin 4096 → Line) :
    Left ω A 0 (k0_pay21 (F := Ideal)) (k0_pay22 (F := Ideal)) (k0_pay23 (F := Ideal)) (k0_pay24 (F := Ideal)) (k0_pay25 (F := Ideal)) where
  he q := by
    refine Eq.trans ?_ (mul_zero ω).symm
    unfold k0_pay21
    pointwise
  hg q := by
    unfold k0_pay22
    pointwise
    rfl
  hb q := by
    unfold k0_pay23
    pointwise
    rfl
  hs q := by
    unfold k0_pay24
    pointwise
    rfl
  hh q := by
    unfold k0_pay25
    pointwise
    rfl

end Payloads

section Gate

variable (x y d t : Vec Ideal S512x1024 .f32) (e g b s p : Vec Ideal S1x1024 .f32)

theorem pay3_apply (q : Fin 1024) : k0_pay3 e (ix2 0 q) = (halfGate (only e) q : EReal) := by
  unfold k0_pay3
  pointwise
  rfl

theorem pay4_apply (r : Fin 512) (q : Fin 1024) : k0_pay4 x y e (ix2 r q) = (cent (line x y d t (halfGate (only e)) g b s r).z q : EReal) := by
  unfold k0_pay4 k0_pay3
  pointwise
  try simp only [Finset.univ_unique, Finset.sum_singleton]
  rfl

theorem pay5_apply (r : Fin 512) (j : Fin 1) : k0_pay5 x y e (ix2 r j) = (vare (line x y d t (halfGate (only e)) g b s r).z : EReal) := by
  unfold k0_pay5 k0_pay4 k0_pay3
  pointwise
  try simp only [Finset.univ_unique, Finset.sum_singleton]
  rfl

theorem pay6_apply (r : Fin 512) (j : Fin 1) : k0_pay6 x y e (ix2 r j) = (scale (line x y d t (halfGate (only e)) g b s r).z : EReal) :=
  congrArg Ideal.rsqrt (pay5_apply x y d t e g b s r j)

theorem pay7_apply (r : Fin 512) (j : Fin 1) : k0_pay7 x y e (ix2 r j) = ((line x y d t (halfGate (only e)) g b s r).weight : EReal) := by
  refine Eq.trans (b := (negHalf * Ideal.div (k0_pay6 x y e (ix2 r j)) (k0_pay5 x y e (ix2 r j)) : EReal)) ?_ ?_
  · unfold k0_pay7
    pointwise
    rfl
  · rw [pay6_apply x y d t e g b s r j, pay5_apply x y d t e g b s r j]
    rfl

theorem stats : Stats x y d t (halfGate (only e)) g b s (k0_pay4 x y e) (k0_pay6 x y e) (k0_pay7 x y e) :=
  ⟨pay4_apply x y d t e g b s, pay6_apply x y d t e g b s, pay7_apply x y d t e g b s⟩

theorem pay26_apply {f : R} {c : Vec Ideal S512x1024 .f32} {v w : Vec Ideal S512x1 .f32} (K : Stats x y d t f g b s c v w) (q : Fin 1024) :
    k0_pay26 (F := Ideal) y (k0_pay16 d t g s c v w) (k0_pay17 d t g s c v w) p (ix2 0 q)
      = ((p (ix2 0 q) : EReal) + half * ∑ k, (line x y d t f g b s k).dzBoth q * (line x y d t f g b s k).y q : EReal) := by
  refine Eq.trans (b := ((p (ix2 0 q) : EReal)
    + half * ∑ k : Fin 512, (k0_pay18 (F := Ideal) (k0_pay16 d t g s c v w) (k0_pay17 d t g s c v w) (ix2 k q) : EReal) * (y (ix2 k q) : EReal) : EReal)) ?_ ?_
  · unfold k0_pay26
    pointwise
    rfl
  · simp only [pay18_apply K]
    rfl

end Gate

section Tiles

variable (m : (ℓ : Loc nD τ sig) → Buf (Elt Ideal) ℓ)

abbrev args (c : Dev nD) : Fin 4096 → Line :=
  line (n := 4096) (m ((c.tc : Thread nD τ).loc main_arg0)) (m ((c.tc : Thread nD τ).loc main_arg1)) (m ((c.tc : Thread nD τ).loc main_arg2))
    (m ((c.tc : Thread nD τ).loc main_arg3)) (halfGate (only (m ((c.tc : Thread nD τ).loc main_arg4)))) (m ((c.tc : Thread nD τ).loc main_arg5))
    (m ((c.tc : Thread nD τ).loc main_arg6)) (m ((c.tc : Thread nD τ).loc main_arg7))

theorem index_eq : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![0, 0])

theorem index_out : ∀ t : Fin cfg0.N, win0_9.index t = ![t.val, 0] ∧ win0_10.index t = ![t.val, 0] ∧ win0_11.index t = ![0, 0] ∧ win0_12.index t = ![0, 0]
    ∧ win0_13.index t = ![0, 0] ∧ win0_14.index t = ![0, 0] ∧ win0_15.index t = ![0, 0] :=
  (by decide +kernel : ∀ t : Fin grid0.N, win0_9.index t = ![t.val, 0] ∧ win0_10.index t = ![t.val, 0] ∧ win0_11.index t = ![0, 0]
    ∧ win0_12.index t = ![0, 0] ∧ win0_13.index t = ![0, 0] ∧ win0_14.index t = ![0, 0] ∧ win0_15.index t = ![0, 0])

theorem lt_N (t : Fin cfg0.N) : t.val < 8 := Nat.lt_of_lt_of_eq t.isLt N_0

/-- The rows of the blocks the body reads at tile `t`. -/
abbrev tile (c : Dev nD) (t : Fin cfg0.N) : Fin 512 → Line :=
  line (n := 512) (iblk m c 0 t) (iblk m c 1 t) (iblk m c 2 t) (iblk m c 3 t) (halfGate (only (iblk m c 4 t))) (iblk m c 5 t) (iblk m c 6 t) (iblk m c 7 t)

theorem tile_eq (c : Dev nD) (t : Fin cfg0.N) (r : Fin 512) (hr : 512 * t.val + r.val < 4096) : tile m c t r = args m c ⟨512 * t.val + r.val, hr⟩ := by
  obtain ⟨i0, i1, i2, i3, i4, i5, i6, i7⟩ := index_eq t
  dsimp only [tile, args, line]
  refine congr (congr (congr (congr (congr (congr (congr (congrArg Line.mk (funext fun q => ?_)) (funext fun q => ?_)) (funext fun q => ?_))
    (funext fun q => ?_)) (congrArg halfGate (funext fun q => ?_))) (funext fun q => ?_)) (funext fun q => ?_)) (funext fun q => ?_)
  · blk_ext [iblk, V, i0]
  · blk_ext [iblk, V, i1]
  · blk_ext [iblk, V, i2]
  · blk_ext [iblk, V, i3]
  · dsimp only [only]
    blk_ext [iblk, V, i4]
  · blk_ext [iblk, V, i5]
  · blk_ext [iblk, V, i6]
  · blk_ext [iblk, V, i7]

/-- What the body keeps of the rows of tile `t`. -/
theorem kept (c : Dev nD) (t : Fin cfg0.N) :
    Stats (iblk m c 0 t) (iblk m c 1 t) (iblk m c 2 t) (iblk m c 3 t) (halfGate (only (iblk m c 4 t))) (iblk m c 5 t) (iblk m c 6 t) (iblk m c 7 t)
      (k0_pay4 (iblk m c 0 t) (iblk m c 1 t) (iblk m c 4 t)) (k0_pay6 (iblk m c 0 t) (iblk m c 1 t) (iblk m c 4 t)) (k0_pay7 (iblk m c 0 t) (iblk m c 1 t) (iblk m c 4 t)) :=
  stats _ _ _ _ _ _ _ _

theorem left (c : Dev nD) : ∀ n (hn : n < cfg0.N), Left half (args m c) (n + 1) (outsAt0 m c n hn).2.2.1 (outsAt0 m c n hn).2.2.2.1
      (outsAt0 m c n hn).2.2.2.2.1 (outsAt0 m c n hn).2.2.2.2.2.1 (outsAt0 m c n hn).2.2.2.2.2.2
  | 0, hn => by
    have h0 : (⟨0, hn⟩ : Fin cfg0.N).val % 8 = 0 := rfl
    rw [outsAt0_A m c ⟨0, hn⟩ h0]
    dsimp only
    frame_out
    exact tile_step (kept m c ⟨0, hn⟩) half half_mul_add _ 0 (by omega) (tile_eq m c ⟨0, hn⟩) (start half _) (pay26_apply _ _ _ _ _ _ _ _ (kept m c ⟨0, hn⟩))
  | n + 1, hn => by
    have hn' := lt_N ⟨n + 1, hn⟩
    have h0 : ¬(⟨n + 1, hn⟩ : Fin cfg0.N).val % 8 = 0 := by dsimp only at hn' ⊢; omega
    have hl := left c n (by omega)
    rw [outsAt0_B m c ⟨n + 1, hn⟩ h0]
    dsimp only
    frame_out
    exact tile_step (kept m c ⟨n + 1, hn⟩) half half_mul_add _ (n + 1) hn' (tile_eq m c ⟨n + 1, hn⟩) hl (pay26_apply _ _ _ _ _ _ _ _ (kept m c ⟨n + 1, hn⟩))

theorem out_x (c : Dev nD) (t : Fin cfg0.N) (r : Fin 512) (q : Fin 1024) :
    (outsAt0 m c t.val t.isLt).1 (ix2 r q) = (alpha * (tile m c t r).dzBoth q : EReal) := by
  by_cases h0 : t.val % 8 = 0
  · rw [outsAt0_A m c t h0]
    dsimp only
    frame_out
    exact pay19_apply (kept m c t) r q
  · rw [outsAt0_B m c t h0]
    dsimp only
    frame_out
    exact pay19_apply (kept m c t) r q

theorem out_y (c : Dev nD) (t : Fin cfg0.N) (r : Fin 512) (q : Fin 1024) :
    (outsAt0 m c t.val t.isLt).2.1 (ix2 r q) = ((tile m c t r).f q * (tile m c t r).dzBoth q : EReal) := by
  by_cases h0 : t.val % 8 = 0
  · rw [outsAt0_A m c t h0]
    dsimp only
    frame_out
    exact pay20_apply (kept m c t) _ (pay3_apply _) r q
  · rw [outsAt0_B m c t h0]
    dsimp only
    frame_out
    exact pay20_apply (kept m c t) _ (pay3_apply _) r q

theorem final9 (c : Dev nD) (hA : ∀ r, (args m c r).Finite) : (dats m 0 c).arrAt 9 cfg0.N = dX (args m c) := by
  refine (dats m 0 c).arrAt_eq_of_covers 9 _ (by decide +kernel) fun t hf y => ?_
  have ht := lt_N t
  obtain ⟨i9, -⟩ := index_out t
  blk_simp
  rw [after0_9]
  obtain ⟨r, q, rfl⟩ : ∃ (r : Fin 512) (q : Fin 1024), y = (ix2 r q : S512x1024.Idx) := ⟨y 0, y 1, eq_ix2 (n0 := 512) (n1 := 1024) y⟩
  have hr := r.isLt
  have e : ((win0_9.blk t).view.emb (ix2 r q : S512x1024.Idx) : S4096x1024.Idx) = ix2 ⟨512 * t.val + r.val, by omega⟩ q := by
    blk_ext [i9]
  refine (out_x m c t r q).trans ?_
  rw [e, tile_eq m c t r (by omega), Line.dzBoth_eq _ (hA _)]
  rfl

theorem final10 (c : Dev nD) (hA : ∀ r, (args m c r).Finite) : (dats m 0 c).arrAt 10 cfg0.N = dY (args m c) := by
  refine (dats m 0 c).arrAt_eq_of_covers 10 _ (by decide +kernel) fun t hf y => ?_
  have ht := lt_N t
  obtain ⟨-, i10, -⟩ := index_out t
  blk_simp
  rw [after0_10]
  obtain ⟨r, q, rfl⟩ : ∃ (r : Fin 512) (q : Fin 1024), y = (ix2 r q : S512x1024.Idx) := ⟨y 0, y 1, eq_ix2 (n0 := 512) (n1 := 1024) y⟩
  have hr := r.isLt
  have e : ((win0_10.blk t).view.emb (ix2 r q : S512x1024.Idx) : S4096x1024.Idx) = ix2 ⟨512 * t.val + r.val, by omega⟩ q := by
    blk_ext [i10]
  refine (out_y m c t r q).trans ?_
  rw [e, tile_eq m c t r (by omega), Line.dzBoth_eq _ (hA _)]
  rfl

/-- What the parameter rows hold when they are written back. -/
theorem ends (c : Dev nD) (hA : ∀ r, (args m c r).Finite) (t : Fin cfg0.N) (h7 : t.val % 8 = 7) :
    (outsAt0 m c t.val t.isLt).2.2.1 = dGate half (args m c) ∧ (outsAt0 m c t.val t.isLt).2.2.2.1 = dG (args m c)
      ∧ (outsAt0 m c t.val t.isLt).2.2.2.2.1 = dB (args m c) ∧ (outsAt0 m c t.val t.isLt).2.2.2.2.2.1 = dScale (args m c)
      ∧ (outsAt0 m c t.val t.isLt).2.2.2.2.2.2 = dShift (args m c) :=
  (left m c t.val t.isLt).whole (by have ht := lt_N t; omega) hA

theorem final11 (c : Dev nD) (hA : ∀ r, (args m c r).Finite) : (dats m 0 c).arrAt 11 cfg0.N = dGate half (args m c) := by
  refine (dats m 0 c).arrAt_eq_of_covers 11 _ (by decide +kernel) fun t hf y => ?_
  obtain ⟨-, -, i11, -⟩ := index_out t
  blk_simp
  rw [after0_11]
  obtain ⟨q, rfl⟩ : ∃ q : Fin 1024, y = (ix2 0 q : S1x1024.Idx) := param_idx y
  have e : ((win0_11.blk t).view.emb (ix2 0 q : S1x1024.Idx) : S1x1024.Idx) = ix2 0 q := by
    blk_ext [i11]
  rw [e]
  exact congrFun (ends m c hA t ((flush0_11 t).mp hf)).1 _

theorem final12 (c : Dev nD) (hA : ∀ r, (args m c r).Finite) : (dats m 0 c).arrAt 12 cfg0.N = dG (args m c) := by
  refine (dats m 0 c).arrAt_eq_of_covers 12 _ (by decide +kernel) fun t hf y => ?_
  obtain ⟨-, -, -, i12, -⟩ := index_out t
  blk_simp
  rw [after0_12]
  obtain ⟨q, rfl⟩ : ∃ q : Fin 1024, y = (ix2 0 q : S1x1024.Idx) := param_idx y
  have e : ((win0_12.blk t).view.emb (ix2 0 q : S1x1024.Idx) : S1x1024.Idx) = ix2 0 q := by
    blk_ext [i12]
  rw [e]
  exact congrFun (ends m c hA t ((flush0_12 t).mp hf)).2.1 _

theorem final13 (c : Dev nD) (hA : ∀ r, (args m c r).Finite) : (dats m 0 c).arrAt 13 cfg0.N = dB (args m c) := by
  refine (dats m 0 c).arrAt_eq_of_covers 13 _ (by decide +kernel) fun t hf y => ?_
  obtain ⟨-, -, -, -, i13, -⟩ := index_out t
  blk_simp
  rw [after0_13]
  obtain ⟨q, rfl⟩ : ∃ q : Fin 1024, y = (ix2 0 q : S1x1024.Idx) := param_idx y
  have e : ((win0_13.blk t).view.emb (ix2 0 q : S1x1024.Idx) : S1x1024.Idx) = ix2 0 q := by
    blk_ext [i13]
  rw [e]
  exact congrFun (ends m c hA t ((flush0_13 t).mp hf)).2.2.1 _

theorem final14 (c : Dev nD) (hA : ∀ r, (args m c r).Finite) : (dats m 0 c).arrAt 14 cfg0.N = dScale (args m c) := by
  refine (dats m 0 c).arrAt_eq_of_covers 14 _ (by decide +kernel) fun t hf y => ?_
  obtain ⟨-, -, -, -, -, i14, -⟩ := index_out t
  blk_simp
  rw [after0_14]
  obtain ⟨q, rfl⟩ : ∃ q : Fin 1024, y = (ix2 0 q : S1x1024.Idx) := param_idx y
  have e : ((win0_14.blk t).view.emb (ix2 0 q : S1x1024.Idx) : S1x1024.Idx) = ix2 0 q := by
    blk_ext [i14]
  rw [e]
  exact congrFun (ends m c hA t ((flush0_14 t).mp hf)).2.2.2.1 _

theorem final15 (c : Dev nD) (hA : ∀ r, (args m c r).Finite) : (dats m 0 c).arrAt 15 cfg0.N = dShift (args m c) := by
  refine (dats m 0 c).arrAt_eq_of_covers 15 _ (by decide +kernel) fun t hf y => ?_
  obtain ⟨-, -, -, -, -, -, i15⟩ := index_out t
  blk_simp
  rw [after0_15]
  obtain ⟨q, rfl⟩ : ∃ q : Fin 1024, y = (ix2 0 q : S1x1024.Idx) := param_idx y
  have e : ((win0_15.blk t).view.emb (ix2 0 q : S1x1024.Idx) : S1x1024.Idx) = ix2 0 q := by
    blk_ext [i15]
  rw [e]
  exact congrFun (ends m c hA t ((flush0_15 t).mp hf)).2.2.2.2 _

end Tiles

end Cert.PostGrad

end
-- ==== Proof.PostGradClaims.lean ====
/- The claims of PostBwd and PostBwdRef. -/
module

public import proofs.«01_k».proof.Proof.PostGrad
public import proofs.«01_k».proof.Proof.Gen.PostBwd.Frame
public import proofs.«01_k».proof.Proof.Gen.PostBwdRefIdeal.Run

@[expose] public section

set_option maxRecDepth 16384

noncomputable section

namespace Cert.PostGradClaims

open Idealize.ShloMosaic Idealize.ShloMosaic.TcCoe Idealize.SL.Sem Cert.NormRow Cert.NormRowGrad Cert.PostGrad

instance pre_facts : Cert.Pre_post_finite.Facts where
  bcast_S_S4096x1024 := by decide
  bcast_S_S1x1024 := by decide

section Reference

open Cert.PostBwdRefIdeal Cert.PostBwdRefIdeal.Gen

variable (m : (ℓ : Loc nD τ sig) → Buf (Elt Ideal) ℓ) (ρ : Dev nD → PrngReg)

abbrev rows (c : Dev nD) : Fin 4096 → Line :=
  line (n := 4096) (m ((c.tc : Thread nD τ).loc main_arg0)) (m ((c.tc : Thread nD τ).loc main_arg1)) (m ((c.tc : Thread nD τ).loc main_arg2))
    (m ((c.tc : Thread nD τ).loc main_arg3)) (halfGate (only (m ((c.tc : Thread nD τ).loc main_arg4)))) (m ((c.tc : Thread nD τ).loc main_arg5))
    (m ((c.tc : Thread nD τ).loc main_arg6)) (m ((c.tc : Thread nD τ).loc main_arg7))

theorem res_x (c : Dev nD) : (Cert.PostBwdRefIdeal.Value.res_main_v91 m c : Vec Ideal S4096x1024 .f32) = dX (rows m c) := by
  funext i
  obtain ⟨r, q, rfl⟩ : ∃ (r : Fin 4096) (q : Fin 1024), i = ix2 r q := ⟨i 0, i 1, eq_ix2 i⟩
  unfold Cert.PostBwdRefIdeal.Value.res_main_v91
  pointwise
  simp only [Finset.univ_unique, Finset.sum_singleton]
  rfl

theorem res_y (c : Dev nD) : (Cert.PostBwdRefIdeal.Value.res_main_v92 m c : Vec Ideal S4096x1024 .bf16) = dY (rows m c) := by
  funext i
  obtain ⟨r, q, rfl⟩ : ∃ (r : Fin 4096) (q : Fin 1024), i = ix2 r q := ⟨i 0, i 1, eq_ix2 i⟩
  unfold Cert.PostBwdRefIdeal.Value.res_main_v92
  pointwise
  simp only [Finset.univ_unique, Finset.sum_singleton]
  rfl

theorem res_gate (c : Dev nD) : (Cert.PostBwdRefIdeal.Value.res_main_v89 m c : Vec Ideal S1x1024 .f32) = dGate half (rows m c) := by
  funext i
  obtain ⟨q, rfl⟩ := param_idx i
  unfold Cert.PostBwdRefIdeal.Value.res_main_v89
  pointwise
  simp only [Finset.univ_unique, Finset.sum_singleton]
  rfl

theorem res_g (c : Dev nD) : (Cert.PostBwdRefIdeal.Value.res_main_v56 m c : Vec Ideal S1x1024 .f32) = dG (rows m c) := by
  funext i
  obtain ⟨q, rfl⟩ := param_idx i
  unfold Cert.PostBwdRefIdeal.Value.res_main_v56
  pointwise
  rfl

theorem res_scale (c : Dev nD) : (Cert.PostBwdRefIdeal.Value.res_main_v47 m c : Vec Ideal S1x1024 .f32) = dScale (rows m c) := by
  funext i
  obtain ⟨q, rfl⟩ := param_idx i
  unfold Cert.PostBwdRefIdeal.Value.res_main_v47
  pointwise
  rfl

theorem run_ref : θ_run defs (onTc (τ := τ) (main (F := Ideal))) ⟨m, fun _ => 0, ρ⟩ fun r => ∀ c : Dev nD,
      r.2.mem ((c.tc : Thread nD τ).loc main_v91) = dX (rows m c)
      ∧ r.2.mem ((c.tc : Thread nD τ).loc main_v92) = dY (rows m c)
      ∧ r.2.mem ((c.tc : Thread nD τ).loc main_v89) = dGate half (rows m c)
      ∧ r.2.mem ((c.tc : Thread nD τ).loc main_v56) = dG (rows m c)
      ∧ r.2.mem ((c.tc : Thread nD τ).loc main_v53) = dB (rows m c)
      ∧ r.2.mem ((c.tc : Thread nD τ).loc main_v47) = dScale (rows m c)
      ∧ r.2.mem ((c.tc : Thread nD τ).loc main_v44) = dShift (rows m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Cert.PostBwdRefIdeal.Value.run m ρ)
  obtain ⟨q0, q1, q2, q3, q4, q5, q6, hk⟩ := h c
  refine ⟨q0.trans (res_x m c), q1.trans (res_y m c), q2.trans (res_gate m c), q3.trans (res_g m c), q4.trans ?_, q5.trans (res_scale m c), q6.trans ?_, hk⟩
  · clear h q0 q1 q2 q3 q4 q5 q6 hk
    funext i
    obtain ⟨q, rfl⟩ := param_idx i
    pointwise
    rfl
  · clear h q0 q1 q2 q3 q4 q5 q6 hk
    funext i
    obtain ⟨q, rfl⟩ := param_idx i
    pointwise
    rfl

end Reference

/-- Under the precondition the factors of every row's cotangent are finite. -/
theorem rows_fin (m : (ℓ : Loc Cert.PostBwdIdeal.nD Cert.PostBwdIdeal.τ Cert.PostBwdIdeal.sig) → Buf (Elt Ideal) ℓ)
    (h : Cert.Pre_PostBwdIdeal_post_finite m) (c : Dev Cert.PostBwdIdeal.nD) (r : Fin 4096) : (PostGrad.args m c r).Finite := by
  obtain ⟨p2, p3, p5, p7⟩ := h c
  unfold Cert.Pre_post_finite.fn at p2 p3 p5 p7
  exact ⟨fun q => Cert.SwigluAlg.fin_of_word (congrFun p2 (ix2 r q)), fun q => Cert.SwigluAlg.fin_of_word (congrFun p3 (ix2 r q)),
    fun q => Cert.SwigluAlg.fin_of_word (congrFun p5 (ix2 0 q)), fun q => Cert.SwigluAlg.fin_of_word (congrFun p7 (ix2 0 q))⟩

theorem frame_p : Cert.quiescent_PostBwd := fun m ρ _ => Cert.PostBwd.Gen.frame m ρ

theorem frame_pi : Cert.quiescent_PostBwdIdeal := fun m ρ _ => Cert.PostBwdIdeal.Gen.frame m ρ

theorem frame_pi_pre : Cert.quiescent_PostBwdIdeal_pre_post_finite := fun m ρ _ => Cert.PostBwdIdeal.Gen.frame m ρ

theorem frame_ri : Cert.quiescent_PostBwdRefIdeal := fun m ρ _ =>
  (θ_run Cert.PostBwdRefIdeal.defs _ _).mono
    (fun r h => ⟨fun c => (h c).2.2.2.2.2.2.2, Idealize.ShloMosaic.sem_eq_zero_of_no_sems (by decide) r.2⟩) (Cert.PostBwdRefIdeal.Value.run m ρ)

theorem frame_ri_pre : Cert.quiescent_PostBwdRefIdeal_pre_post_finite := fun m ρ _ => frame_ri m ρ trivial

theorem algebraic : Cert.algebraic_PostBwdIdeal_PostBwdRefIdeal_pre_post_finite := by
  intro m g m' g' hpre hargs
  have hA := rows_fin m hpre
  refine ⟨fun c => dX (PostGrad.args m c), fun c => dY (PostGrad.args m c), fun c => dGate half (PostGrad.args m c), fun c => dG (PostGrad.args m c),
    fun c => dB (PostGrad.args m c), fun c => PostGrad.dScale (PostGrad.args m c), fun c => dShift (PostGrad.args m c), ?_, ?_⟩
  · refine (θ_run Cert.PostBwdIdeal.defs _ _).mono (fun r h c => ?_) (Cert.PostBwdIdeal.Value.run_blocks m g)
    obtain ⟨q0, q1, q2, q3, q4, q5, q6, hk⟩ := h c
    exact ⟨q0.trans (final9 m c (hA c)), q1.trans (final10 m c (hA c)), q2.trans (final11 m c (hA c)), q3.trans (final12 m c (hA c)), q4.trans (final13 m c (hA c)),
      q5.trans (final14 m c (hA c)), q6.trans (final15 m c (hA c)), hk⟩
  · refine (θ_run Cert.PostBwdRefIdeal.defs _ _).mono (fun r h c => ?_) (run_ref m' g')
    obtain ⟨e0, e1, e2, e3, e4, e5, e6, e7, e8⟩ := hargs c
    have e : rows m' c = PostGrad.args m c := by
      dsimp only [rows, PostGrad.args]
      rw [e0, e1, e2, e3, e4, e5, e6, e7]
    obtain ⟨q0, q1, q2, q3, q4, q5, q6, hk⟩ := h c
    rw [e] at q0 q1 q2 q3 q4 q5 q6
    exact ⟨q0, q1, q2, q3, q4, q5, q6, hk⟩

end Cert.PostGradClaims

end
-- ==== Proof.HeadNorm.lean ====
/- The output of the two chunked recurrences, head by head: normalised rows of 128 entries under a learnt scale and a gate. -/
module

public import proofs.«01_k».proof.Defs
public import Idealize.ShloMosaic.Lib.Pipeline.ValueKit

@[expose] public section

set_option maxRecDepth 16384

noncomputable section

namespace Cert.HeadNorm

open Idealize.ShloMosaic Idealize.ShloMosaic.TcCoe Idealize.SL.Sem

/-- A row of one head. -/
abbrev H : Type := Fin 128 → EReal

/-- The heads' width. -/
def width : EReal := Ideal.ofBits .f32 0x43000000#32

/-- Sum of squares over the width, offset. -/
def power (v : H) : EReal := Ideal.div (∑ k, v k * v k) width + Ideal.ofBits .f32 0x358637BD#32

def scale (v : H) : EReal := Ideal.rsqrt (power v)

def normed (v : H) : H := fun q => v q * scale v

def centred (v : H) : H := fun q => v q - Ideal.div (∑ k, v k) width

def sigm (a : EReal) : EReal := Ideal.div 1 (1 + Ideal.exp (-a))

def silu (a : EReal) : EReal := a * sigm a

/-- First recurrence: scaled, then gated. -/
def outPlain (o a g : H) : H := fun q => normed o q * g q * silu (a q)

/-- Second recurrence: centred, scaled, the skipped input added, then gated. -/
def mixed (v x g s : H) : H := fun q => normed (centred v) q * g q + s q * x q

def outMixed (v x z g s : H) : H := fun q => mixed v x g s q * silu (z q)

theorem head_lt (h : Fin 4) (q : Fin 128) : h.val * 128 + q.val < 512 := by omega

/-- Row `r` of head `h`, in 512 columns. -/
abbrev head {n : ℕ} (x : (⟨2, ![n, 512]⟩ : Shape).Idx → Ideal .f32) (r : Fin n) (h : Fin 4) : H := fun q => (x (ix2 r ⟨h.val * 128 + q.val, head_lt h q⟩) : EReal)

/-- Row `r` of a head whose columns begin at `o + 128 h` of a wider array. -/
abbrev headAt {n w : ℕ} (o : ℕ) (ho : o + 512 ≤ w) (x : (⟨2, ![n, w]⟩ : Shape).Idx → Ideal .f32) (r : Fin n) (h : Fin 4) : H :=
  fun q => (x (ix2 r ⟨o + (h.val * 128 + q.val), by have := head_lt h q; omega⟩) : EReal)

/-- Row `r` of an array of one head's columns. -/
abbrev row {n : ℕ} (x : (⟨2, ![n, 128]⟩ : Shape).Idx → Ideal .f32) (r : Fin n) : H := fun q => (x (ix2 r q) : EReal)

theorem col (j : Fin 512) : ∃ (h : Fin 4) (q : Fin 128), j = ⟨h.val * 128 + q.val, head_lt h q⟩ :=
  ⟨⟨j.val / 128, by omega⟩, ⟨j.val % 128, by omega⟩, Fin.ext (by dsimp only; omega)⟩

theorem col_div (h : Fin 4) (q : Fin 128) : (h.val * 128 + q.val) / 128 = h.val := by omega

theorem col_mod (h : Fin 4) (q : Fin 128) : (h.val * 128 + q.val) % 128 = q.val := by omega

/-- Columns `o` to `o + 128` of a buffer whose last store is there. -/
theorem canon_hit {ε : EltTy} {R W o : ℕ} (inb : ∀ a, (![0, o] : Fin 2 → ℕ) a + (![R, 128] : Fin 2 → ℕ) a ≤ (![R, W] : Fin 2 → ℕ) a)
    (w : (⟨2, ![R, 128]⟩ : Shape).Idx → Elt Ideal ε) (L : List (View.Piece (Elt Ideal) ⟨2, ![R, W]⟩ ε)) (p : Fin R) (j : Fin W) (q : Fin 128)
    (hj : j.val = o + q.val) :
    View.canon (⟨Rect.unit (s := ⟨2, ![R, W]⟩) ![0, o] ![R, 128] inb, w⟩ :: L) (ix2 p j) = w (ix2 p q) := by
  have hx : (ix2 p j : (⟨2, ![R, W]⟩ : Shape).Idx)
      = (Rect.unit (s := ⟨2, ![R, W]⟩) ![0, o] ![R, 128] inb).emb (ix2 p q : (⟨2, ![R, 128]⟩ : Shape).Idx) := by
    funext a
    refine Fin.ext ?_
    refine Eq.trans ?_ (Rect.idx_unit_val _ _ _ _ a).symm
    match a with
    | ⟨0, _⟩ => show p.val = 0 + p.val; omega
    | ⟨1, _⟩ => exact hj
  rw [hx]
  exact View.canon_cons_emb (Rect.unit (s := ⟨2, ![R, W]⟩) ![0, o] ![R, 128] inb) w L _

/-- The other columns. -/
theorem canon_miss {ε : EltTy} {R W o : ℕ} (inb : ∀ a, (![0, o] : Fin 2 → ℕ) a + (![R, 128] : Fin 2 → ℕ) a ≤ (![R, W] : Fin 2 → ℕ) a)
    (w : (⟨2, ![R, 128]⟩ : Shape).Idx → Elt Ideal ε) (L : List (View.Piece (Elt Ideal) ⟨2, ![R, W]⟩ ε)) (p : Fin R) (j : Fin W)
    (hj : j.val < o ∨ o + 128 ≤ j.val) :
    View.canon (⟨Rect.unit (s := ⟨2, ![R, W]⟩) ![0, o] ![R, 128] inb, w⟩ :: L) (ix2 p j) = View.canon L (ix2 p j) := by
  rw [View.canon_cons_of_not_mem]
  intro hmem
  obtain ⟨x, hx⟩ := (Rect.unit (s := ⟨2, ![R, W]⟩) ![0, o] ![R, 128] inb).exists_idx_of_mem hmem
  have h0 := congrArg (fun i : (⟨2, ![R, W]⟩ : Shape).Idx => (i 1).val) hx
  have h1 : ((Rect.unit (s := ⟨2, ![R, W]⟩) ![0, o] ![R, 128] inb).emb x 1).val = o + (x 1).val := Rect.idx_unit_val _ _ _ _ _
  have h2 : (x 1).val < 128 := (x 1).isLt
  have h3 : ((Rect.unit (s := ⟨2, ![R, W]⟩) ![0, o] ![R, 128] inb).emb x 1).val = j.val := h0
  omega

/-- A load of one head's columns. -/
theorem row_ld {R o : ℕ} (inb : ∀ a, (![0, o] : Fin 2 → ℕ) a + (![R, 128] : Fin 2 → ℕ) a ≤ (![R, 512] : Fin 2 → ℕ) a)
    (x : (⟨2, ![R, 512]⟩ : Shape).Idx → Elt Ideal .f32) (p : Fin R) (h : Fin 4) (ho : o = h.val * 128) :
    row (View.ld x (Rect.unit (s := ⟨2, ![R, 512]⟩) ![0, o] ![R, 128] inb)) p = head x p h := by
  funext q
  refine congrArg x ?_
  funext a
  refine Fin.ext ?_
  refine (Rect.idx_unit_val _ _ _ _ a).trans ?_
  match a with
  | ⟨0, _⟩ => show 0 + p.val = p.val; omega
  | ⟨1, _⟩ => show o + q.val = h.val * 128 + q.val; omega

/-- One head's row of parameters. -/
abbrev param (g : (⟨3, ![4, 1, 128]⟩ : Shape).Idx → Ideal .f32) (h : Fin 4) : H := fun q => (g (ix3 h 0 q) : EReal)

abbrev only (g : (⟨3, ![1, 1, 128]⟩ : Shape).Idx → Ideal .f32) : H := fun q => (g (ix3 0 0 q) : EReal)

/-- A load of one head's parameters. -/
theorem param_ld {o : ℕ} (inb : ∀ a, (![o, 0, 0] : Fin 3 → ℕ) a + (![1, 1, 128] : Fin 3 → ℕ) a ≤ (![4, 1, 128] : Fin 3 → ℕ) a)
    (g : (⟨3, ![4, 1, 128]⟩ : Shape).Idx → Elt Ideal .f32) (h : Fin 4) (ho : o = h.val) :
    only (View.ld g (Rect.unit (s := ⟨3, ![4, 1, 128]⟩) ![o, 0, 0] ![1, 1, 128] inb)) = param g h := by
  funext q
  refine congrArg g ?_
  funext a
  refine Fin.ext ?_
  refine (Rect.idx_unit_val _ _ _ _ a).trans ?_
  match a with
  | ⟨0, _⟩ => show o + 0 = h.val; omega
  | ⟨1, _⟩ => rfl
  | ⟨2, _⟩ => show 0 + q.val = q.val; omega

end Cert.HeadNorm

end
-- ==== Proof.HeadGrad.lean ====
/- Gradients of the chunked recurrences' output, head by head. -/
module

public import proofs.«01_k».proof.Defs
public import proofs.«01_k».proof.Proof.HeadNorm
public import Idealize.ShloMosaic.Lib.Pipeline.ValueKit

@[expose] public section

set_option maxRecDepth 16384

noncomputable section

namespace Cert.HeadNorm

open Idealize.ShloMosaic Idealize.ShloMosaic.TcCoe Idealize.SL.Sem

/-- The gradient of the row's power, of a cotangent `c` of the normalised row. -/
def weight (v c : H) : EReal := Ideal.div ((∑ k, v k * c k) * (Ideal.ofBits .f32 0xBF000000#32 * Ideal.div (scale v) (power v))) width

def dNormed (v c : H) : H := fun q => (c q * scale v + v q * weight v c) + weight v c * v q

/-- Behind the centring. -/
def dCentred (v c : H) : H := fun q => dNormed (centred v) c q + Ideal.div (∑ k, (0 - dNormed (centred v) c k)) width

/-- The cotangent of what is gated by `a`. -/
def gated (d a : H) : H := fun q => d q * silu (a q)

/-- The gradient of the gate, of a row `y` gated by it. -/
def dGate (y d a : H) : H := fun q => (y q * d q) * sigm (a q) + (a q * (y q * d q)) * (sigm (a q) * (1 - sigm (a q)))

def dPlain (o d a g : H) : H := dNormed o fun q => gated d a q * g q

def dPlainGate (o d a g : H) : H := dGate (fun q => normed o q * g q) d a

def dPlainParam (o d a : H) : H := fun q => normed o q * gated d a q

def dMixed (v d z g : H) : H := dCentred v fun q => gated d z q * g q

def dMixedGate (v x d z g s : H) : H := dGate (mixed v x g s) d z

def dMixedParam (v d z : H) : H := fun q => normed (centred v) q * gated d z q

def dSkipped (d z s : H) : H := fun q => s q * gated d z q

def dSkip (x d z : H) : H := fun q => gated d z q * x q

/-! ## The arrays -/

abbrev Half : Shape := ⟨2, ![4096, 512]⟩
abbrev Wide : Shape := ⟨2, ![4096, 3712]⟩
abbrev Both : Shape := ⟨2, ![4096, 1024]⟩
abbrev Param : Shape := ⟨2, ![1, 512]⟩
abbrev Heads : Shape := ⟨3, ![4, 1, 128]⟩

/-- Row `r` of head `h` in the first 512 columns of 1024. -/
abbrev headLow {n : ℕ} (x : (⟨2, ![n, 1024]⟩ : Shape).Idx → Ideal .f32) (r : Fin n) (h : Fin 4) : H :=
  fun q => (x (ix2 r ⟨h.val * 128 + q.val, by have := head_lt h q; omega⟩) : EReal)

/-- Row `r` of head `h` in the last 512 columns of 1024. -/
abbrev headHigh {n : ℕ} (x : (⟨2, ![n, 1024]⟩ : Shape).Idx → Ideal .f32) (r : Fin n) (h : Fin 4) : H :=
  fun q => (x (ix2 r ⟨512 + (h.val * 128 + q.val), by have := head_lt h q; omega⟩) : EReal)

/-- An array of its heads' rows. -/
def half (F : Fin 4096 → Fin 4 → H) (i : Half.Idx) : EReal :=
  F (i 0) ⟨(i 1).val / 128, by have h : (i 1).val < 512 := (i 1).isLt; omega⟩ ⟨(i 1).val % 128, by omega⟩

theorem half_at (F : Fin 4096 → Fin 4 → H) (r : Fin 4096) (j : Fin 512) (h : Fin 4) (q : Fin 128) (hj : j.val = h.val * 128 + q.val) :
    half F (ix2 r j) = F r h q := by
  have e1 : (⟨j.val / 128, by omega⟩ : Fin 4) = h := Fin.ext (by dsimp only; omega)
  have e2 : (⟨j.val % 128, by omega⟩ : Fin 128) = q := Fin.ext (by dsimp only; omega)
  exact congrArg₂ (F r) e1 e2

/-- An array of the heads' sums over all rows. -/
def summed (F : Fin 4096 → Fin 4 → H) (i : Heads.Idx) : EReal := ∑ r, F r (i 0) (i 2)

/-- The sum over the first rows. -/
def upTo (F : Fin 4096 → Fin 4 → H) (n : ℕ) (h : Fin 4) (q : Fin 128) : EReal := ∑ r ∈ Finset.range (512 * n), if hr : r < 4096 then F ⟨r, hr⟩ h q else 0

theorem upTo_zero (F : Fin 4096 → Fin 4 → H) (h : Fin 4) (q : Fin 128) : upTo F 0 h q = 0 := Finset.sum_range_zero _

theorem upTo_all (F : Fin 4096 → Fin 4 → H) (h : Fin 4) (q : Fin 128) : upTo F 8 h q = summed F (ix3 h 0 q) := by
  unfold upTo summed
  rw [Finset.sum_range]
  exact Finset.sum_congr rfl fun r _ => dif_pos r.isLt

theorem upTo_succ (F : Fin 4096 → Fin 4 → H) (t : ℕ) (ht : t < 8) (h : Fin 4) (q : Fin 128) (s : Fin 512 → EReal)
    (hs : ∀ p : Fin 512, s p = F ⟨512 * t + p.val, by omega⟩ h q) : upTo F t h q + ∑ p, s p = upTo F (t + 1) h q := by
  unfold upTo
  rw [show 512 * (t + 1) = 512 * t + 512 by omega, Finset.sum_range_add, Finset.sum_range (fun r => if hr : 512 * t + r < 4096 then F ⟨512 * t + r, hr⟩ h q else 0)]
  exact congrArg _ (Finset.sum_congr rfl fun p _ => by rw [hs p, dif_pos (show 512 * t + p.val < 4096 by omega)])

def gOa (o : Half.Idx → Ideal .f32) (proj : Wide.Idx → Ideal .f32) (d : Both.Idx → Ideal .f32) (g : Param.Idx → Ideal .f32) (r : Fin 4096) (h : Fin 4) : H :=
  dPlain (head o r h) (headLow d r h) (headAt 1536 (by decide) proj r h) (head g 0 h)

def gAg (o : Half.Idx → Ideal .f32) (proj : Wide.Idx → Ideal .f32) (d : Both.Idx → Ideal .f32) (g : Param.Idx → Ideal .f32) (r : Fin 4096) (h : Fin 4) : H :=
  dPlainGate (head o r h) (headLow d r h) (headAt 1536 (by decide) proj r h) (head g 0 h)

def gHg (o : Half.Idx → Ideal .f32) (proj : Wide.Idx → Ideal .f32) (d : Both.Idx → Ideal .f32) (r : Fin 4096) (h : Fin 4) : H :=
  dPlainParam (head o r h) (headLow d r h) (headAt 1536 (by decide) proj r h)

def gHb (b : Half.Idx → Ideal .f32) (proj : Wide.Idx → Ideal .f32) (d : Both.Idx → Ideal .f32) (g : Param.Idx → Ideal .f32) (r : Fin 4096) (h : Fin 4) : H :=
  dMixed (head b r h) (headHigh d r h) (headAt 3072 (by decide) proj r h) (head g 0 h)

def gXc (proj : Wide.Idx → Ideal .f32) (d : Both.Idx → Ideal .f32) (s : Param.Idx → Ideal .f32) (r : Fin 4096) (h : Fin 4) : H :=
  dSkipped (headHigh d r h) (headAt 3072 (by decide) proj r h) (head s 0 h)

def gBz (b x : Half.Idx → Ideal .f32) (proj : Wide.Idx → Ideal .f32) (d : Both.Idx → Ideal .f32) (g s : Param.Idx → Ideal .f32) (r : Fin 4096) (h : Fin 4) : H :=
  dMixedGate (head b r h) (head x r h) (headHigh d r h) (headAt 3072 (by decide) proj r h) (head g 0 h) (head s 0 h)

def gMg (b : Half.Idx → Ideal .f32) (proj : Wide.Idx → Ideal .f32) (d : Both.Idx → Ideal .f32) (r : Fin 4096) (h : Fin 4) : H :=
  dMixedParam (head b r h) (headHigh d r h) (headAt 3072 (by decide) proj r h)

def gSk (x : Half.Idx → Ideal .f32) (proj : Wide.Idx → Ideal .f32) (d : Both.Idx → Ideal .f32) (r : Fin 4096) (h : Fin 4) : H :=
  dSkip (head x r h) (headHigh d r h) (headAt 3072 (by decide) proj r h)

end Cert.HeadNorm

end
-- ==== Proof.HeadSlots.lean ====
/- Buffers written and read one head at a time. -/
module

public import proofs.«01_k».proof.Defs
public import proofs.«01_k».proof.Proof.HeadGrad
public import Idealize.ShloMosaic.Lib.Pipeline.ValueKit

@[expose] public section

set_option maxRecDepth 16384

noncomputable section

namespace Cert.HeadNorm

open Idealize.ShloMosaic Idealize.ShloMosaic.TcCoe Idealize.SL.Sem

/-- Columns written one head after the other. -/
theorem canon_heads {ε : EltTy} {R : ℕ} {w0 w1 w2 w3 : (⟨2, ![R, 128]⟩ : Shape).Idx → Elt Ideal ε}
    (i0 : ∀ a, (![0, 0] : Fin 2 → ℕ) a + (![R, 128] : Fin 2 → ℕ) a ≤ (![R, 512] : Fin 2 → ℕ) a)
    (i1 : ∀ a, (![0, 128] : Fin 2 → ℕ) a + (![R, 128] : Fin 2 → ℕ) a ≤ (![R, 512] : Fin 2 → ℕ) a)
    (i2 : ∀ a, (![0, 256] : Fin 2 → ℕ) a + (![R, 128] : Fin 2 → ℕ) a ≤ (![R, 512] : Fin 2 → ℕ) a)
    (i3 : ∀ a, (![0, 384] : Fin 2 → ℕ) a + (![R, 128] : Fin 2 → ℕ) a ≤ (![R, 512] : Fin 2 → ℕ) a)
    (f : Fin 4 → Elt Ideal ε) (p : Fin R) (h : Fin 4) (q : Fin 128)
    (e0 : w0 (ix2 p q) = f 0) (e1 : w1 (ix2 p q) = f 1) (e2 : w2 (ix2 p q) = f 2) (e3 : w3 (ix2 p q) = f 3) :
    View.canon ((⟨Rect.unit (s := ⟨2, ![R, 512]⟩) ![0, 384] ![R, 128] i3, w3⟩ : View.Piece (Elt Ideal) ⟨2, ![R, 512]⟩ ε)
      :: ⟨Rect.unit (s := ⟨2, ![R, 512]⟩) ![0, 256] ![R, 128] i2, w2⟩ :: ⟨Rect.unit (s := ⟨2, ![R, 512]⟩) ![0, 128] ![R, 128] i1, w1⟩
      :: ⟨Rect.unit (s := ⟨2, ![R, 512]⟩) ![0, 0] ![R, 128] i0, w0⟩ :: []) (ix2 p ⟨h.val * 128 + q.val, head_lt h q⟩) = f h := by
  have hq := q.isLt
  match h with
  | ⟨0, _⟩ =>
    iterate 3 rw [canon_miss (hj := by dsimp only; omega)]
    rw [canon_hit (q := q) (hj := by dsimp only)]
    exact e0
  | ⟨1, _⟩ =>
    iterate 2 rw [canon_miss (hj := by dsimp only; omega)]
    rw [canon_hit (q := q) (hj := by dsimp only)]
    exact e1
  | ⟨2, _⟩ =>
    rw [canon_miss (hj := by dsimp only; omega), canon_hit (q := q) (hj := by dsimp only)]
    exact e2
  | ⟨3, _⟩ =>
    rw [canon_hit (q := q) (hj := by dsimp only)]
    exact e3

/-- A load of one head's columns, from the first 512 of 1024. -/
theorem low_ld {R o : ℕ} (inb : ∀ a, (![0, o] : Fin 2 → ℕ) a + (![R, 128] : Fin 2 → ℕ) a ≤ (![R, 1024] : Fin 2 → ℕ) a)
    (x : (⟨2, ![R, 1024]⟩ : Shape).Idx → Elt Ideal .f32) (p : Fin R) (h : Fin 4) (ho : o = h.val * 128) :
    row (View.ld x (Rect.unit (s := ⟨2, ![R, 1024]⟩) ![0, o] ![R, 128] inb)) p = headLow x p h := by
  funext q
  refine congrArg x ?_
  funext a
  refine Fin.ext ?_
  refine (Rect.idx_unit_val _ _ _ _ a).trans ?_
  match a with
  | ⟨0, _⟩ => show 0 + p.val = p.val; omega
  | ⟨1, _⟩ => show o + q.val = h.val * 128 + q.val; omega

/-- And from the last. -/
theorem high_ld {R o : ℕ} (inb : ∀ a, (![0, o] : Fin 2 → ℕ) a + (![R, 128] : Fin 2 → ℕ) a ≤ (![R, 1024] : Fin 2 → ℕ) a)
    (x : (⟨2, ![R, 1024]⟩ : Shape).Idx → Elt Ideal .f32) (p : Fin R) (h : Fin 4) (ho : o = 512 + h.val * 128) :
    row (View.ld x (Rect.unit (s := ⟨2, ![R, 1024]⟩) ![0, o] ![R, 128] inb)) p = headHigh x p h := by
  funext q
  refine congrArg x ?_
  funext a
  refine Fin.ext ?_
  refine (Rect.idx_unit_val _ _ _ _ a).trans ?_
  match a with
  | ⟨0, _⟩ => show 0 + p.val = p.val; omega
  | ⟨1, _⟩ => show o + q.val = 512 + (h.val * 128 + q.val); omega

theorem slot_eq {o : ℕ} (inb : ∀ a, (![o, 0, 0] : Fin 3 → ℕ) a + (![1, 1, 128] : Fin 3 → ℕ) a ≤ (![4, 1, 128] : Fin 3 → ℕ) a) (h : Fin 4) (q : Fin 128) (ho : o = h.val) :
    (Rect.unit (s := ⟨3, ![4, 1, 128]⟩) ![o, 0, 0] ![1, 1, 128] inb).emb (ix3 0 0 q : (⟨3, ![1, 1, 128]⟩ : Shape).Idx) = (ix3 h 0 q : Heads.Idx) := by
  funext a
  refine Fin.ext ?_
  refine (Rect.idx_unit_val _ _ _ _ a).trans ?_
  match a with
  | ⟨0, _⟩ => show o + 0 = h.val; omega
  | ⟨1, _⟩ => rfl
  | ⟨2, _⟩ => show 0 + q.val = q.val; omega

/-- One head's slot, last stored. -/
theorem slot_hit {o : ℕ} (inb : ∀ a, (![o, 0, 0] : Fin 3 → ℕ) a + (![1, 1, 128] : Fin 3 → ℕ) a ≤ (![4, 1, 128] : Fin 3 → ℕ) a)
    (w : (⟨3, ![1, 1, 128]⟩ : Shape).Idx → Elt Ideal .f32) (L : List (View.Piece (Elt Ideal) Heads .f32)) (h : Fin 4) (q : Fin 128) (ho : o = h.val) :
    View.canon (⟨Rect.unit (s := Heads) ![o, 0, 0] ![1, 1, 128] inb, w⟩ :: L) (ix3 h 0 q) = w (ix3 0 0 q) := by
  rw [← slot_eq inb h q ho]
  exact View.canon_cons_emb (Rect.unit (s := Heads) ![o, 0, 0] ![1, 1, 128] inb) w L _

/-- Another head's slot. -/
theorem slot_miss {o : ℕ} (inb : ∀ a, (![o, 0, 0] : Fin 3 → ℕ) a + (![1, 1, 128] : Fin 3 → ℕ) a ≤ (![4, 1, 128] : Fin 3 → ℕ) a)
    (w : (⟨3, ![1, 1, 128]⟩ : Shape).Idx → Elt Ideal .f32) (L : List (View.Piece (Elt Ideal) Heads .f32)) (h : Fin 4) (q : Fin 128) (ho : o ≠ h.val) :
    View.canon (⟨Rect.unit (s := Heads) ![o, 0, 0] ![1, 1, 128] inb, w⟩ :: L) (ix3 h 0 q) = View.canon L (ix3 h 0 q) := by
  rw [View.canon_cons_of_not_mem]
  intro hmem
  obtain ⟨x, hx⟩ := (Rect.unit (s := Heads) ![o, 0, 0] ![1, 1, 128] inb).exists_idx_of_mem hmem
  have h0 := congrArg (fun i : Heads.Idx => (i 0).val) hx
  have h1 : ((Rect.unit (s := Heads) ![o, 0, 0] ![1, 1, 128] inb).emb x 0).val = o + (x 0).val := Rect.idx_unit_val _ _ _ _ _
  have h2 : (x 0).val < 1 := (x 0).isLt
  have h3 : ((Rect.unit (s := Heads) ![o, 0, 0] ![1, 1, 128] inb).emb x 0).val = h.val := h0
  omega

/-- All slots, stored at once. -/
theorem slots_all (inb : ∀ a, (![0, 0, 0] : Fin 3 → ℕ) a + (![4, 1, 128] : Fin 3 → ℕ) a ≤ (![4, 1, 128] : Fin 3 → ℕ) a)
    (w : Heads.Idx → Elt Ideal .f32) (L : List (View.Piece (Elt Ideal) Heads .f32)) (h : Fin 4) (q : Fin 128) :
    View.canon (⟨Rect.unit (s := Heads) ![0, 0, 0] ![4, 1, 128] inb, w⟩ :: L) (ix3 h 0 q) = w (ix3 h 0 q) := by
  have hx : (ix3 h 0 q : Heads.Idx) = (Rect.unit (s := Heads) ![0, 0, 0] ![4, 1, 128] inb).emb (ix3 h 0 q : Heads.Idx) := by
    funext a
    refine Fin.ext ?_
    refine Eq.trans ?_ (Rect.idx_unit_val _ _ _ _ a).symm
    match a with
    | ⟨0, _⟩ => show h.val = 0 + h.val; omega
    | ⟨1, _⟩ => rfl
    | ⟨2, _⟩ => show q.val = 0 + q.val; omega
  exact (congrArg (View.canon (⟨Rect.unit (s := Heads) ![0, 0, 0] ![4, 1, 128] inb, w⟩ :: L)) hx).trans
    (View.canon_cons_emb (Rect.unit (s := Heads) ![0, 0, 0] ![4, 1, 128] inb) w L _)

/-- The slots written one head after the other. -/
theorem slots {w0 w1 w2 w3 : (⟨3, ![1, 1, 128]⟩ : Shape).Idx → Elt Ideal .f32} {L : List (View.Piece (Elt Ideal) Heads .f32)}
    (i0 : ∀ a, (![0, 0, 0] : Fin 3 → ℕ) a + (![1, 1, 128] : Fin 3 → ℕ) a ≤ (![4, 1, 128] : Fin 3 → ℕ) a)
    (i1 : ∀ a, (![1, 0, 0] : Fin 3 → ℕ) a + (![1, 1, 128] : Fin 3 → ℕ) a ≤ (![4, 1, 128] : Fin 3 → ℕ) a)
    (i2 : ∀ a, (![2, 0, 0] : Fin 3 → ℕ) a + (![1, 1, 128] : Fin 3 → ℕ) a ≤ (![4, 1, 128] : Fin 3 → ℕ) a)
    (i3 : ∀ a, (![3, 0, 0] : Fin 3 → ℕ) a + (![1, 1, 128] : Fin 3 → ℕ) a ≤ (![4, 1, 128] : Fin 3 → ℕ) a)
    (f : Fin 4 → EReal) (h : Fin 4) (q : Fin 128)
    (e0 : w0 (ix3 0 0 q) = f 0) (e1 : w1 (ix3 0 0 q) = f 1) (e2 : w2 (ix3 0 0 q) = f 2) (e3 : w3 (ix3 0 0 q) = f 3) :
    View.canon ((⟨Rect.unit (s := Heads) ![3, 0, 0] ![1, 1, 128] i3, w3⟩ : View.Piece (Elt Ideal) Heads .f32)
      :: ⟨Rect.unit (s := Heads) ![2, 0, 0] ![1, 1, 128] i2, w2⟩ :: ⟨Rect.unit (s := Heads) ![1, 0, 0] ![1, 1, 128] i1, w1⟩
      :: ⟨Rect.unit (s := Heads) ![0, 0, 0] ![1, 1, 128] i0, w0⟩ :: L) (ix3 h 0 q) = f h := by
  match h with
  | ⟨0, _⟩ =>
    iterate 3 rw [slot_miss (ho := by dsimp only; omega)]
    rw [slot_hit (ho := by rfl)]
    exact e0
  | ⟨1, _⟩ =>
    iterate 2 rw [slot_miss (ho := by dsimp only; omega)]
    rw [slot_hit (ho := by rfl)]
    exact e1
  | ⟨2, _⟩ =>
    rw [slot_miss (ho := by dsimp only; omega), slot_hit (ho := by rfl)]
    exact e2
  | ⟨3, _⟩ =>
    rw [slot_hit (ho := by rfl)]
    exact e3

/-- A slot read back. -/
theorem slot_read {o : ℕ} {σ : RefSig} {κ : Kind} {sp : Space} (v : View σ κ sp Heads .f32)
    (inb : ∀ a, (![o, 0, 0] : Fin 3 → ℕ) a + (![1, 1, 128] : Fin 3 → ℕ) a ≤ (![4, 1, 128] : Fin 3 → ℕ) a)
    (L : List (View.Piece (Elt Ideal) Heads .f32)) (h : Fin 4) (q : Fin 128) (ho : o = h.val) :
    v.readCov L (Rect.unit (s := Heads) ![o, 0, 0] ![1, 1, 128] inb).toLoadRect (ix3 0 0 q : (⟨3, ![1, 1, 128]⟩ : Shape).Idx) = View.canon L (ix3 h 0 q) := by
  rw [View.readCov_eq_canon']
  exact congrArg (View.canon L) (slot_eq inb h q ho)

theorem slot_ld {o : ℕ} (inb : ∀ a, (![o, 0, 0] : Fin 3 → ℕ) a + (![1, 1, 128] : Fin 3 → ℕ) a ≤ (![4, 1, 128] : Fin 3 → ℕ) a)
    (x : Heads.Idx → Elt Ideal .f32) (h : Fin 4) (q : Fin 128) (ho : o = h.val) :
    View.ld x (Rect.unit (s := Heads) ![o, 0, 0] ![1, 1, 128] inb) (ix3 0 0 q : (⟨3, ![1, 1, 128]⟩ : Shape).Idx) = x (ix3 h 0 q) :=
  congrArg x (slot_eq inb h q ho)

end Cert.HeadNorm

end
-- ==== Proof.MixBwdHeads.lean ====
/- What the body of MixBwd computes for one head. -/
module

public import proofs.«01_k».proof.Defs
public import proofs.«01_k».proof.Proof.HeadGrad
public import proofs.«01_k».proof.Proof.Gen.MixBwdIdeal.Value
public import Idealize.ShloMosaic.Lib.Pipeline.ValueKit

@[expose] public section

set_option maxRecDepth 16384

noncomputable section

namespace Cert.MixBwdHeads

open Idealize.ShloMosaic Idealize.ShloMosaic.TcCoe Idealize.SL.Sem Cert.HeadNorm Cert.MixBwdIdeal Cert.MixBwdIdeal.Gen

theorem oa_apply (v a d : Vec Ideal S512x128 .f32) (g : Vec Ideal S1x1x128 .f32) (p : Fin 512) (q : Fin 128) :
    k0_pay126 v d (k0_pay2 g) (k0_pay15 v) (k0_pay16 v) (k0_pay21 a) (ix2 p q) = (dPlain (row v p) (row d p) (row a p) (only g) q : EReal)
    ∧ k0_pay122 v (k0_pay23 (k0_pay22 v)) (k0_pay24 (k0_pay22 v)) (k0_pay118 d (k0_pay29 a)) (k0_pay121 (k0_pay3 g)) (ix2 p q) = (dPlain (row v p) (row d p) (row a p) (only g) q : EReal)
    ∧ k0_pay117 v d (k0_pay4 g) (k0_pay31 v) (k0_pay32 v) (k0_pay37 a) (ix2 p q) = (dPlain (row v p) (row d p) (row a p) (only g) q : EReal)
    ∧ k0_pay113 v (k0_pay39 v) (k0_pay40 v) (k0_pay109 d (k0_pay45 a (k0_pay43 a))) (k0_pay112 (k0_pay5 g)) (ix2 p q) = (dPlain (row v p) (row d p) (row a p) (only g) q : EReal) := by
  refine ⟨?_, ?_, ?_, ?_⟩
  · open_payloads
    pointwise
    simp only [Finset.univ_unique, Finset.sum_singleton]
    rfl
  · open_payloads
    pointwise
    simp only [Finset.univ_unique, Finset.sum_singleton]
    rfl
  · open_payloads
    pointwise
    simp only [Finset.univ_unique, Finset.sum_singleton]
    rfl
  · open_payloads
    pointwise
    simp only [Finset.univ_unique, Finset.sum_singleton]
    rfl

theorem ag_apply (v a d : Vec Ideal S512x128 .f32) (g : Vec Ideal S1x1x128 .f32) (p : Fin 512) (q : Fin 128) :
    k0_pay127 (k0_pay124 a d (k0_pay18 v (k0_pay2 g)) (k0_pay19 a) (k0_pay20 a)) (ix2 p q) = (dPlainGate (row v p) (row d p) (row a p) (only g) q : EReal)
    ∧ k0_pay128 (k0_pay119 a d (k0_pay26 v (k0_pay3 g) (k0_pay22 v)) (k0_pay27 a) (k0_pay28 a)) (ix2 p q) = (dPlainGate (row v p) (row d p) (row a p) (only g) q : EReal)
    ∧ k0_pay129 (k0_pay115 a d (k0_pay34 v (k0_pay4 g)) (k0_pay35 a) (k0_pay36 a)) (ix2 p q) = (dPlainGate (row v p) (row d p) (row a p) (only g) q : EReal)
    ∧ k0_pay130 (k0_pay110 a d (k0_pay42 v (k0_pay5 g)) (k0_pay43 a) (k0_pay44 (k0_pay43 a))) (ix2 p q) = (dPlainGate (row v p) (row d p) (row a p) (only g) q : EReal) := by
  refine ⟨?_, ?_, ?_, ?_⟩
  · open_payloads
    pointwise
    rfl
  · open_payloads
    pointwise
    rfl
  · open_payloads
    pointwise
    rfl
  · open_payloads
    pointwise
    rfl

theorem hb_apply (v z d : Vec Ideal S512x128 .f32) (g : Vec Ideal S1x1x128 .f32) (p : Fin 512) (q : Fin 128) :
    k0_pay108 d (k0_pay6 g) (k0_pay46 v) (k0_pay48 v) (k0_pay49 v) (k0_pay54 z) (ix2 p q) = (dMixed (row v p) (row d p) (row z p) (only g) q : EReal)
    ∧ k0_pay101 d (k0_pay7 g) (k0_pay55 v) (k0_pay57 v) (k0_pay58 (k0_pay56 v) (k0_pay57 v)) (k0_pay63 z) (ix2 p q) = (dMixed (row v p) (row d p) (row z p) (only g) q : EReal)
    ∧ k0_pay95 (k0_pay93 d (k0_pay8 g) (k0_pay64 v) (k0_pay66 v) (k0_pay67 v) (k0_pay72 z)) (k0_pay94 d (k0_pay8 g) (k0_pay64 v) (k0_pay66 v) (k0_pay67 v) (k0_pay72 z)) (ix2 p q) = (dMixed (row v p) (row d p) (row z p) (only g) q : EReal)
    ∧ k0_pay87 (k0_pay74 v (k0_pay73 v)) (k0_pay85 v z d (k0_pay9 g) (k0_pay73 v)) (k0_pay86 v z d (k0_pay9 g) (k0_pay73 v)) (ix2 p q) = (dMixed (row v p) (row d p) (row z p) (only g) q : EReal) := by
  refine ⟨?_, ?_, ?_, ?_⟩
  · open_payloads
    pointwise
    simp only [Finset.univ_unique, Finset.sum_singleton]
    rfl
  · open_payloads
    pointwise
    simp only [Finset.univ_unique, Finset.sum_singleton]
    rfl
  · open_payloads
    pointwise
    simp only [Finset.univ_unique, Finset.sum_singleton]
    rfl
  · open_payloads
    pointwise
    simp only [Finset.univ_unique, Finset.sum_singleton]
    rfl

theorem xc_apply (z d : Vec Ideal S512x128 .f32) (s : Vec Ideal S1x1x128 .f32) (p : Fin 512) (q : Fin 128) :
    k0_pay105 d (k0_pay10 s) (k0_pay54 z) (ix2 p q) = (dSkipped (row d p) (row z p) (only s) q : EReal)
    ∧ k0_pay98 d (k0_pay11 s) (k0_pay63 z) (ix2 p q) = (dSkipped (row d p) (row z p) (only s) q : EReal)
    ∧ k0_pay90 d (k0_pay12 s) (k0_pay72 z) (ix2 p q) = (dSkipped (row d p) (row z p) (only s) q : EReal)
    ∧ k0_pay81 z d (k0_pay13 s) (ix2 p q) = (dSkipped (row d p) (row z p) (only s) q : EReal) := by
  refine ⟨?_, ?_, ?_, ?_⟩
  · open_payloads
    pointwise
    rfl
  · open_payloads
    pointwise
    rfl
  · open_payloads
    pointwise
    rfl
  · open_payloads
    pointwise
    rfl

theorem bz_apply (v x z d : Vec Ideal S512x128 .f32) (g s : Vec Ideal S1x1x128 .f32) (p : Fin 512) (q : Fin 128) :
    k0_pay131 (k0_pay104 z (k0_pay52 z) (k0_pay53 z) (k0_pay102 d (k0_pay51 v x (k0_pay6 g) (k0_pay10 s)))) (ix2 p q) = (dMixedGate (row v p) (row x p) (row d p) (row z p) (only g) (only s) q : EReal)
    ∧ k0_pay132 (k0_pay97 z d (k0_pay60 x (k0_pay7 g) (k0_pay11 s) (k0_pay55 v) (k0_pay57 v)) (k0_pay61 z) (k0_pay62 z)) (ix2 p q) = (dMixedGate (row v p) (row x p) (row d p) (row z p) (only g) (only s) q : EReal)
    ∧ k0_pay133 (k0_pay89 z d (k0_pay69 v x (k0_pay8 g) (k0_pay12 s)) (k0_pay70 z) (k0_pay71 z)) (ix2 p q) = (dMixedGate (row v p) (row x p) (row d p) (row z p) (only g) (only s) q : EReal)
    ∧ k0_pay134 (k0_pay80 v x z d (k0_pay9 g) (k0_pay13 s) (k0_pay73 v)) (ix2 p q) = (dMixedGate (row v p) (row x p) (row d p) (row z p) (only g) (only s) q : EReal) := by
  refine ⟨?_, ?_, ?_, ?_⟩
  · open_payloads
    pointwise
    rfl
  · open_payloads
    pointwise
    rfl
  · open_payloads
    pointwise
    rfl
  · open_payloads
    pointwise
    rfl

theorem hg_apply (v a d : Vec Ideal S512x128 .f32) (q : Fin 128) :
    k0_pay125 d (k0_pay17 v) (k0_pay21 a) (ix2 0 q) = (∑ p : Fin 512, dPlainParam (row v p) (row d p) (row a p) q : EReal)
    ∧ k0_pay120 d (k0_pay25 v (k0_pay22 v)) (k0_pay29 a) (ix2 0 q) = (∑ p : Fin 512, dPlainParam (row v p) (row d p) (row a p) q : EReal)
    ∧ k0_pay116 d (k0_pay33 v) (k0_pay37 a) (ix2 0 q) = (∑ p : Fin 512, dPlainParam (row v p) (row d p) (row a p) q : EReal)
    ∧ k0_pay111 d (k0_pay41 v) (k0_pay45 a (k0_pay43 a)) (ix2 0 q) = (∑ p : Fin 512, dPlainParam (row v p) (row d p) (row a p) q : EReal) := by
  refine ⟨?_, ?_, ?_, ?_⟩
  · open_payloads
    pointwise
    rfl
  · open_payloads
    pointwise
    rfl
  · open_payloads
    pointwise
    rfl
  · open_payloads
    pointwise
    rfl

theorem mg_apply (v z d : Vec Ideal S512x128 .f32) (q : Fin 128) :
    k0_pay107 d (k0_pay50 v) (k0_pay54 z) (ix2 0 q) = (∑ p : Fin 512, dMixedParam (row v p) (row d p) (row z p) q : EReal)
    ∧ k0_pay100 d (k0_pay59 (k0_pay55 v) (k0_pay57 v)) (k0_pay63 z) (ix2 0 q) = (∑ p : Fin 512, dMixedParam (row v p) (row d p) (row z p) q : EReal)
    ∧ k0_pay92 d (k0_pay68 v) (k0_pay72 z) (ix2 0 q) = (∑ p : Fin 512, dMixedParam (row v p) (row d p) (row z p) q : EReal)
    ∧ k0_pay83 v z d (k0_pay73 v) (ix2 0 q) = (∑ p : Fin 512, dMixedParam (row v p) (row d p) (row z p) q : EReal) := by
  refine ⟨?_, ?_, ?_, ?_⟩
  · open_payloads
    pointwise
    rfl
  · open_payloads
    pointwise
    rfl
  · open_payloads
    pointwise
    rfl
  · open_payloads
    pointwise
    rfl

theorem sk_apply (x z d : Vec Ideal S512x128 .f32) (q : Fin 128) :
    k0_pay106 x d (k0_pay54 z) (ix2 0 q) = (∑ p : Fin 512, dSkip (row x p) (row d p) (row z p) q : EReal)
    ∧ k0_pay99 x d (k0_pay63 z) (ix2 0 q) = (∑ p : Fin 512, dSkip (row x p) (row d p) (row z p) q : EReal)
    ∧ k0_pay91 x d (k0_pay72 z) (ix2 0 q) = (∑ p : Fin 512, dSkip (row x p) (row d p) (row z p) q : EReal)
    ∧ k0_pay82 x z d (ix2 0 q) = (∑ p : Fin 512, dSkip (row x p) (row d p) (row z p) q : EReal) := by
  refine ⟨?_, ?_, ?_, ?_⟩
  · open_payloads
    pointwise
    rfl
  · open_payloads
    pointwise
    rfl
  · open_payloads
    pointwise
    rfl
  · open_payloads
    pointwise
    rfl

theorem hg_acc (s : Vec Ideal S1x128 .f32) (w : Vec Ideal S1x1x128 .f32) (q : Fin 128) :
    k0_pay138 s w (ix3 0 0 q) = ((w (ix3 0 0 q) : EReal) + (s (ix2 0 q) : EReal) : EReal)
    ∧ k0_pay139 s w (ix3 0 0 q) = ((w (ix3 0 0 q) : EReal) + (s (ix2 0 q) : EReal) : EReal)
    ∧ k0_pay141 (k0_pay140 s w) (ix3 0 0 q) = ((w (ix3 0 0 q) : EReal) + (s (ix2 0 q) : EReal) : EReal)
    ∧ k0_pay142 s w (ix3 0 0 q) = ((w (ix3 0 0 q) : EReal) + (s (ix2 0 q) : EReal) : EReal) := by
  refine ⟨?_, ?_, ?_, ?_⟩ <;> open_payloads
  · pointwise
  · pointwise
  · pointwise
  · pointwise

theorem mg_acc (s : Vec Ideal S1x128 .f32) (w : Vec Ideal S1x1x128 .f32) (q : Fin 128) :
    k0_pay143 s w (ix3 0 0 q) = ((w (ix3 0 0 q) : EReal) + (s (ix2 0 q) : EReal) : EReal)
    ∧ k0_pay144 s w (ix3 0 0 q) = ((w (ix3 0 0 q) : EReal) + (s (ix2 0 q) : EReal) : EReal)
    ∧ k0_pay145 s w (ix3 0 0 q) = ((w (ix3 0 0 q) : EReal) + (s (ix2 0 q) : EReal) : EReal)
    ∧ k0_pay147 (k0_pay146 s w) (ix3 0 0 q) = ((w (ix3 0 0 q) : EReal) + (s (ix2 0 q) : EReal) : EReal) := by
  refine ⟨?_, ?_, ?_, ?_⟩ <;> open_payloads
  · pointwise
  · pointwise
  · pointwise
  · pointwise

theorem sk_acc (s : Vec Ideal S1x128 .f32) (w : Vec Ideal S1x1x128 .f32) (q : Fin 128) :
    k0_pay148 s w (ix3 0 0 q) = ((w (ix3 0 0 q) : EReal) + (s (ix2 0 q) : EReal) : EReal)
    ∧ k0_pay149 s w (ix3 0 0 q) = ((w (ix3 0 0 q) : EReal) + (s (ix2 0 q) : EReal) : EReal)
    ∧ k0_pay150 s w (ix3 0 0 q) = ((w (ix3 0 0 q) : EReal) + (s (ix2 0 q) : EReal) : EReal)
    ∧ k0_pay1 s w (ix3 0 0 q) = ((w (ix3 0 0 q) : EReal) + (s (ix2 0 q) : EReal) : EReal) := by
  refine ⟨?_, ?_, ?_, ?_⟩ <;> open_payloads
  · pointwise
  · pointwise
  · pointwise
  · pointwise

theorem zero_apply (h : Fin 4) (q : Fin 128) :
    k0_pay135 (F := Ideal) (ix3 h 0 q) = (0 : EReal) ∧ k0_pay136 (F := Ideal) (ix3 h 0 q) = (0 : EReal) ∧ k0_pay137 (F := Ideal) (ix3 h 0 q) = (0 : EReal) := by
  refine ⟨?_, ?_, ?_⟩ <;> open_payloads
  · pointwise
  · pointwise
  · pointwise

end Cert.MixBwdHeads

end
-- ==== Proof.MixBwdTiles.lean ====
/- The blocks MixBwd reads, and the blocks it writes once. -/
module

public import proofs.«01_k».proof.Defs
public import proofs.«01_k».proof.Proof.HeadSlots
public import proofs.«01_k».proof.Proof.MixBwdHeads
public import Idealize.ShloMosaic.Lib.Pipeline.ValueKit

@[expose] public section

set_option maxRecDepth 16384

noncomputable section

namespace Cert.MixBwdHeads

open Idealize.ShloMosaic Idealize.ShloMosaic.TcCoe Idealize.SL.Sem Cert.HeadNorm Cert.MixBwdIdeal Cert.MixBwdIdeal.Gen

variable (m : (ℓ : Loc nD τ sig) → Buf (Elt Ideal) ℓ)

abbrev argO (c : Dev nD) : Half.Idx → Ideal .f32 := m ((c.tc : Thread nD τ).loc main_arg0)
abbrev argP (c : Dev nD) : Wide.Idx → Ideal .f32 := m ((c.tc : Thread nD τ).loc main_arg1)
abbrev argB (c : Dev nD) : Half.Idx → Ideal .f32 := m ((c.tc : Thread nD τ).loc main_arg2)
abbrev argX (c : Dev nD) : Half.Idx → Ideal .f32 := m ((c.tc : Thread nD τ).loc main_arg3)
abbrev argD (c : Dev nD) : Both.Idx → Ideal .f32 := m ((c.tc : Thread nD τ).loc main_arg4)
abbrev argG (c : Dev nD) : Param.Idx → Ideal .f32 := m ((c.tc : Thread nD τ).loc main_arg5)
abbrev argN (c : Dev nD) : Param.Idx → Ideal .f32 := m ((c.tc : Thread nD τ).loc main_arg6)
abbrev argS (c : Dev nD) : Param.Idx → Ideal .f32 := m ((c.tc : Thread nD τ).loc main_arg7)

theorem index_eq : ∀ t : Fin cfg0.N, win0_0.index t = ![t.val, 0] ∧ win0_1.index t = ![t.val, 3] ∧ win0_2.index t = ![t.val, 0] ∧ win0_3.index t = ![t.val, 0] ∧ win0_4.index t = ![t.val, 6] ∧ win0_5.index t = ![t.val, 0] ∧ win0_6.index t = ![0, 0, 0] ∧ win0_7.index t = ![0, 0, 0] ∧ win0_8.index t = ![0, 0, 0] ∧ win0_9.index t = ![t.val, 0] ∧ win0_10.index t = ![t.val, 0] ∧ win0_11.index t = ![t.val, 0] ∧ win0_12.index t = ![t.val, 0] ∧ win0_13.index t = ![t.val, 0] ∧ win0_14.index t = ![0, 0, 0] ∧ win0_15.index t = ![0, 0, 0] ∧ win0_16.index t = ![0, 0, 0] :=
  (by decide +kernel : ∀ t : Fin grid0.N, win0_0.index t = ![t.val, 0] ∧ win0_1.index t = ![t.val, 3] ∧ win0_2.index t = ![t.val, 0] ∧ win0_3.index t = ![t.val, 0] ∧ win0_4.index t = ![t.val, 6] ∧ win0_5.index t = ![t.val, 0] ∧ win0_6.index t = ![0, 0, 0] ∧ win0_7.index t = ![0, 0, 0] ∧ win0_8.index t = ![0, 0, 0] ∧ win0_9.index t = ![t.val, 0] ∧ win0_10.index t = ![t.val, 0] ∧ win0_11.index t = ![t.val, 0] ∧ win0_12.index t = ![t.val, 0] ∧ win0_13.index t = ![t.val, 0] ∧ win0_14.index t = ![0, 0, 0] ∧ win0_15.index t = ![0, 0, 0] ∧ win0_16.index t = ![0, 0, 0])

theorem lt_N (t : Fin cfg0.N) : t.val < 8 := Nat.lt_of_lt_of_eq t.isLt N_0

theorem row_lt (t : Fin cfg0.N) (p : Fin 512) : 512 * t.val + p.val < 4096 := by
  have := lt_N t
  omega

theorem o_ld {o : ℕ} (c : Dev nD) (t : Fin cfg0.N) (p : Fin 512) (h : Fin 4)
    (inb : ∀ a, (![0, o] : Fin 2 → ℕ) a + (![512, 128] : Fin 2 → ℕ) a ≤ (![512, 512] : Fin 2 → ℕ) a) (ho : o = h.val * 128) :
    row (View.ld (iblk m c 0 t : Vec Ideal S512x512 .f32) (Rect.unit (s := S512x512) ![0, o] ![512, 128] inb)) p = head (argO m c) ⟨512 * t.val + p.val, row_lt t p⟩ h := by
  obtain ⟨i0, -⟩ := index_eq t
  refine (row_ld inb _ p h ho).trans (funext fun q => ?_)
  dsimp only [head]
  blk_ext [iblk, V_main_arg0, i0]

theorem a_ld {o : ℕ} (c : Dev nD) (t : Fin cfg0.N) (p : Fin 512) (h : Fin 4)
    (inb : ∀ a, (![0, o] : Fin 2 → ℕ) a + (![512, 128] : Fin 2 → ℕ) a ≤ (![512, 512] : Fin 2 → ℕ) a) (ho : o = h.val * 128) :
    row (View.ld (X0_1 m c t : Vec Ideal S512x512 .f32) (Rect.unit (s := S512x512) ![0, o] ![512, 128] inb)) p = headAt 1536 (by decide) (argP m c) ⟨512 * t.val + p.val, row_lt t p⟩ h := by
  obtain ⟨-, i1, -⟩ := index_eq t
  refine (row_ld inb _ p h ho).trans (funext fun q => ?_)
  dsimp only [head, headAt]
  unfold X0_1 Pipeline.Window.fill
  rw [dif_pos (moved0_1 t _)]
  blk_ext [iblk, V_main_arg1, i1]

theorem b_ld {o : ℕ} (c : Dev nD) (t : Fin cfg0.N) (p : Fin 512) (h : Fin 4)
    (inb : ∀ a, (![0, o] : Fin 2 → ℕ) a + (![512, 128] : Fin 2 → ℕ) a ≤ (![512, 512] : Fin 2 → ℕ) a) (ho : o = h.val * 128) :
    row (View.ld (iblk m c 2 t : Vec Ideal S512x512 .f32) (Rect.unit (s := S512x512) ![0, o] ![512, 128] inb)) p = head (argB m c) ⟨512 * t.val + p.val, row_lt t p⟩ h := by
  obtain ⟨-, -, i2, -⟩ := index_eq t
  refine (row_ld inb _ p h ho).trans (funext fun q => ?_)
  dsimp only [head]
  blk_ext [iblk, V_main_arg2, i2]

theorem x_ld {o : ℕ} (c : Dev nD) (t : Fin cfg0.N) (p : Fin 512) (h : Fin 4)
    (inb : ∀ a, (![0, o] : Fin 2 → ℕ) a + (![512, 128] : Fin 2 → ℕ) a ≤ (![512, 512] : Fin 2 → ℕ) a) (ho : o = h.val * 128) :
    row (View.ld (iblk m c 3 t : Vec Ideal S512x512 .f32) (Rect.unit (s := S512x512) ![0, o] ![512, 128] inb)) p = head (argX m c) ⟨512 * t.val + p.val, row_lt t p⟩ h := by
  obtain ⟨-, -, -, i3, -⟩ := index_eq t
  refine (row_ld inb _ p h ho).trans (funext fun q => ?_)
  dsimp only [head]
  blk_ext [iblk, V_main_arg3, i3]

theorem z_ld {o : ℕ} (c : Dev nD) (t : Fin cfg0.N) (p : Fin 512) (h : Fin 4)
    (inb : ∀ a, (![0, o] : Fin 2 → ℕ) a + (![512, 128] : Fin 2 → ℕ) a ≤ (![512, 512] : Fin 2 → ℕ) a) (ho : o = h.val * 128) :
    row (View.ld (X0_4 m c t : Vec Ideal S512x512 .f32) (Rect.unit (s := S512x512) ![0, o] ![512, 128] inb)) p = headAt 3072 (by decide) (argP m c) ⟨512 * t.val + p.val, row_lt t p⟩ h := by
  obtain ⟨-, -, -, -, i4, -⟩ := index_eq t
  refine (row_ld inb _ p h ho).trans (funext fun q => ?_)
  dsimp only [head, headAt]
  unfold X0_4 Pipeline.Window.fill
  rw [dif_pos (moved0_4 t _)]
  blk_ext [iblk, V_main_arg1, i4]

theorem dl_ld {o : ℕ} (c : Dev nD) (t : Fin cfg0.N) (p : Fin 512) (h : Fin 4)
    (inb : ∀ a, (![0, o] : Fin 2 → ℕ) a + (![512, 128] : Fin 2 → ℕ) a ≤ (![512, 1024] : Fin 2 → ℕ) a) (ho : o = h.val * 128) :
    row (View.ld (iblk m c 5 t : Vec Ideal S512x1024 .f32) (Rect.unit (s := S512x1024) ![0, o] ![512, 128] inb)) p = headLow (argD m c) ⟨512 * t.val + p.val, row_lt t p⟩ h := by
  obtain ⟨-, -, -, -, -, i5, -⟩ := index_eq t
  refine (low_ld inb _ p h ho).trans (funext fun q => ?_)
  dsimp only [headLow]
  blk_ext [iblk, V_main_arg4, i5]

theorem dh_ld {o : ℕ} (c : Dev nD) (t : Fin cfg0.N) (p : Fin 512) (h : Fin 4)
    (inb : ∀ a, (![0, o] : Fin 2 → ℕ) a + (![512, 128] : Fin 2 → ℕ) a ≤ (![512, 1024] : Fin 2 → ℕ) a) (ho : o = 512 + h.val * 128) :
    row (View.ld (iblk m c 5 t : Vec Ideal S512x1024 .f32) (Rect.unit (s := S512x1024) ![0, o] ![512, 128] inb)) p = headHigh (argD m c) ⟨512 * t.val + p.val, row_lt t p⟩ h := by
  obtain ⟨-, -, -, -, -, i5, -⟩ := index_eq t
  refine (high_ld inb _ p h ho).trans (funext fun q => ?_)
  dsimp only [headHigh]
  blk_ext [iblk, V_main_arg4, i5]

theorem g_host (c : Dev nD) (h : Fin 4) : param (V m c main_v0 : Vec Ideal S4x1x128 .f32) h = head (argG m c) 0 h := by
  funext q
  dsimp only [param, head]
  unfold_abbrev_sides
  after_results
  pointwise

theorem g_ld {o : ℕ} (c : Dev nD) (t : Fin cfg0.N) (h : Fin 4)
    (inb : ∀ a, (![o, 0, 0] : Fin 3 → ℕ) a + (![1, 1, 128] : Fin 3 → ℕ) a ≤ (![4, 1, 128] : Fin 3 → ℕ) a) (ho : o = h.val) :
    only (View.ld (iblk m c 6 t : Vec Ideal S4x1x128 .f32) (Rect.unit (s := S4x1x128) ![o, 0, 0] ![1, 1, 128] inb)) = head (argG m c) 0 h := by
  obtain ⟨-, -, -, -, -, -, i6, -⟩ := index_eq t
  refine (param_ld inb _ h ho).trans (Eq.trans (funext fun q => ?_) (g_host m c h))
  dsimp only [param]
  blk_ext [iblk, i6]

theorem n_host (c : Dev nD) (h : Fin 4) : param (V m c main_v1 : Vec Ideal S4x1x128 .f32) h = head (argN m c) 0 h := by
  funext q
  dsimp only [param, head]
  unfold_abbrev_sides
  after_results
  pointwise

theorem n_ld {o : ℕ} (c : Dev nD) (t : Fin cfg0.N) (h : Fin 4)
    (inb : ∀ a, (![o, 0, 0] : Fin 3 → ℕ) a + (![1, 1, 128] : Fin 3 → ℕ) a ≤ (![4, 1, 128] : Fin 3 → ℕ) a) (ho : o = h.val) :
    only (View.ld (iblk m c 7 t : Vec Ideal S4x1x128 .f32) (Rect.unit (s := S4x1x128) ![o, 0, 0] ![1, 1, 128] inb)) = head (argN m c) 0 h := by
  obtain ⟨-, -, -, -, -, -, -, i7, -⟩ := index_eq t
  refine (param_ld inb _ h ho).trans (Eq.trans (funext fun q => ?_) (n_host m c h))
  dsimp only [param]
  blk_ext [iblk, i7]

theorem s_host (c : Dev nD) (h : Fin 4) : param (V m c main_v2 : Vec Ideal S4x1x128 .f32) h = head (argS m c) 0 h := by
  funext q
  dsimp only [param, head]
  unfold_abbrev_sides
  after_results
  pointwise

theorem s_ld {o : ℕ} (c : Dev nD) (t : Fin cfg0.N) (h : Fin 4)
    (inb : ∀ a, (![o, 0, 0] : Fin 3 → ℕ) a + (![1, 1, 128] : Fin 3 → ℕ) a ≤ (![4, 1, 128] : Fin 3 → ℕ) a) (ho : o = h.val) :
    only (View.ld (iblk m c 8 t : Vec Ideal S4x1x128 .f32) (Rect.unit (s := S4x1x128) ![o, 0, 0] ![1, 1, 128] inb)) = head (argS m c) 0 h := by
  obtain ⟨-, -, -, -, -, -, -, -, i8, -⟩ := index_eq t
  refine (param_ld inb _ h ho).trans (Eq.trans (funext fun q => ?_) (s_host m c h))
  dsimp only [param]
  blk_ext [iblk, i8]

theorem cast2 (g : Vec Ideal S1x1x128 .f32) (h) : shapeCast S1x128 g h = k0_pay2 g := rfl

theorem cast3 (g : Vec Ideal S1x1x128 .f32) (h) : shapeCast S1x128 g h = k0_pay3 g := rfl

theorem cast4 (g : Vec Ideal S1x1x128 .f32) (h) : shapeCast S1x128 g h = k0_pay4 g := rfl

theorem cast5 (g : Vec Ideal S1x1x128 .f32) (h) : shapeCast S1x128 g h = k0_pay5 g := rfl

theorem cast6 (g : Vec Ideal S1x1x128 .f32) (h) : shapeCast S1x128 g h = k0_pay6 g := rfl

theorem cast7 (g : Vec Ideal S1x1x128 .f32) (h) : shapeCast S1x128 g h = k0_pay7 g := rfl

theorem cast8 (g : Vec Ideal S1x1x128 .f32) (h) : shapeCast S1x128 g h = k0_pay8 g := rfl

theorem cast9 (g : Vec Ideal S1x1x128 .f32) (h) : shapeCast S1x128 g h = k0_pay9 g := rfl

theorem oa_tile (c : Dev nD) (t : Fin cfg0.N) (p : Fin 512) (h : Fin 4) (q : Fin 128) :
    (outsAt0 m c t.val t.isLt).1 (ix2 p ⟨h.val * 128 + q.val, head_lt h q⟩) = (gOa (argO m c) (argP m c) (argD m c) (argG m c) ⟨512 * t.val + p.val, row_lt t p⟩ h q : EReal) := by
  by_cases h0 : t.val % 8 = 0
  all_goals
    first | rw [outsAt0_A m c t h0] | rw [outsAt0_B m c t h0]
    dsimp only
    frame_out
    refine canon_heads (ε := .f32) _ _ _ _ (fun k => (gOa (argO m c) (argP m c) (argD m c) (argG m c) ⟨512 * t.val + p.val, row_lt t p⟩ k q : EReal)) p h q ?_ ?_ ?_ ?_
    · try rw [cast2]
      refine (oa_apply _ _ _ _ p q).1.trans ?_
      rw [o_ld m c t p 0 _ (by rfl), dl_ld m c t p 0 _ (by rfl), a_ld m c t p 0 _ (by rfl), g_ld m c t 0 _ (by rfl)]
      rfl
    · try rw [cast3]
      refine (oa_apply _ _ _ _ p q).2.1.trans ?_
      rw [o_ld m c t p 1 _ (by rfl), dl_ld m c t p 1 _ (by rfl), a_ld m c t p 1 _ (by rfl), g_ld m c t 1 _ (by rfl)]
      rfl
    · try rw [cast4]
      refine (oa_apply _ _ _ _ p q).2.2.1.trans ?_
      rw [o_ld m c t p 2 _ (by rfl), dl_ld m c t p 2 _ (by rfl), a_ld m c t p 2 _ (by rfl), g_ld m c t 2 _ (by rfl)]
      rfl
    · try rw [cast5]
      refine (oa_apply _ _ _ _ p q).2.2.2.trans ?_
      rw [o_ld m c t p 3 _ (by rfl), dl_ld m c t p 3 _ (by rfl), a_ld m c t p 3 _ (by rfl), g_ld m c t 3 _ (by rfl)]
      rfl

theorem ag_tile (c : Dev nD) (t : Fin cfg0.N) (p : Fin 512) (h : Fin 4) (q : Fin 128) :
    (outsAt0 m c t.val t.isLt).2.1 (ix2 p ⟨h.val * 128 + q.val, head_lt h q⟩) = (gAg (argO m c) (argP m c) (argD m c) (argG m c) ⟨512 * t.val + p.val, row_lt t p⟩ h q : EReal) := by
  by_cases h0 : t.val % 8 = 0
  all_goals
    first | rw [outsAt0_A m c t h0] | rw [outsAt0_B m c t h0]
    dsimp only
    frame_out
    refine canon_heads (ε := .bf16) _ _ _ _ (fun k => (gAg (argO m c) (argP m c) (argD m c) (argG m c) ⟨512 * t.val + p.val, row_lt t p⟩ k q : EReal)) p h q ?_ ?_ ?_ ?_
    · try rw [cast2]
      refine (ag_apply _ _ _ _ p q).1.trans ?_
      rw [o_ld m c t p 0 _ (by rfl), dl_ld m c t p 0 _ (by rfl), a_ld m c t p 0 _ (by rfl), g_ld m c t 0 _ (by rfl)]
      rfl
    · try rw [cast3]
      refine (ag_apply _ _ _ _ p q).2.1.trans ?_
      rw [o_ld m c t p 1 _ (by rfl), dl_ld m c t p 1 _ (by rfl), a_ld m c t p 1 _ (by rfl), g_ld m c t 1 _ (by rfl)]
      rfl
    · try rw [cast4]
      refine (ag_apply _ _ _ _ p q).2.2.1.trans ?_
      rw [o_ld m c t p 2 _ (by rfl), dl_ld m c t p 2 _ (by rfl), a_ld m c t p 2 _ (by rfl), g_ld m c t 2 _ (by rfl)]
      rfl
    · try rw [cast5]
      refine (ag_apply _ _ _ _ p q).2.2.2.trans ?_
      rw [o_ld m c t p 3 _ (by rfl), dl_ld m c t p 3 _ (by rfl), a_ld m c t p 3 _ (by rfl), g_ld m c t 3 _ (by rfl)]
      rfl

theorem hb_tile (c : Dev nD) (t : Fin cfg0.N) (p : Fin 512) (h : Fin 4) (q : Fin 128) :
    (outsAt0 m c t.val t.isLt).2.2.1 (ix2 p ⟨h.val * 128 + q.val, head_lt h q⟩) = (gHb (argB m c) (argP m c) (argD m c) (argN m c) ⟨512 * t.val + p.val, row_lt t p⟩ h q : EReal) := by
  by_cases h0 : t.val % 8 = 0
  all_goals
    first | rw [outsAt0_A m c t h0] | rw [outsAt0_B m c t h0]
    dsimp only
    frame_out
    refine canon_heads (ε := .f32) _ _ _ _ (fun k => (gHb (argB m c) (argP m c) (argD m c) (argN m c) ⟨512 * t.val + p.val, row_lt t p⟩ k q : EReal)) p h q ?_ ?_ ?_ ?_
    · try rw [cast6]
      refine (hb_apply _ _ _ _ p q).1.trans ?_
      rw [b_ld m c t p 0 _ (by rfl), dh_ld m c t p 0 _ (by rfl), z_ld m c t p 0 _ (by rfl), n_ld m c t 0 _ (by rfl)]
      rfl
    · try rw [cast7]
      refine (hb_apply _ _ _ _ p q).2.1.trans ?_
      rw [b_ld m c t p 1 _ (by rfl), dh_ld m c t p 1 _ (by rfl), z_ld m c t p 1 _ (by rfl), n_ld m c t 1 _ (by rfl)]
      rfl
    · try rw [cast8]
      refine (hb_apply _ _ _ _ p q).2.2.1.trans ?_
      rw [b_ld m c t p 2 _ (by rfl), dh_ld m c t p 2 _ (by rfl), z_ld m c t p 2 _ (by rfl), n_ld m c t 2 _ (by rfl)]
      rfl
    · try rw [cast9]
      refine (hb_apply _ _ _ _ p q).2.2.2.trans ?_
      rw [b_ld m c t p 3 _ (by rfl), dh_ld m c t p 3 _ (by rfl), z_ld m c t p 3 _ (by rfl), n_ld m c t 3 _ (by rfl)]
      rfl

theorem xc_tile (c : Dev nD) (t : Fin cfg0.N) (p : Fin 512) (h : Fin 4) (q : Fin 128) :
    (outsAt0 m c t.val t.isLt).2.2.2.1 (ix2 p ⟨h.val * 128 + q.val, head_lt h q⟩) = (gXc (argP m c) (argD m c) (argS m c) ⟨512 * t.val + p.val, row_lt t p⟩ h q : EReal) := by
  by_cases h0 : t.val % 8 = 0
  all_goals
    first | rw [outsAt0_A m c t h0] | rw [outsAt0_B m c t h0]
    dsimp only
    frame_out
    refine canon_heads (ε := .f32) _ _ _ _ (fun k => (gXc (argP m c) (argD m c) (argS m c) ⟨512 * t.val + p.val, row_lt t p⟩ k q : EReal)) p h q ?_ ?_ ?_ ?_
    · refine (xc_apply _ _ _ p q).1.trans ?_
      rw [dh_ld m c t p 0 _ (by rfl), z_ld m c t p 0 _ (by rfl), s_ld m c t 0 _ (by rfl)]
      rfl
    · refine (xc_apply _ _ _ p q).2.1.trans ?_
      rw [dh_ld m c t p 1 _ (by rfl), z_ld m c t p 1 _ (by rfl), s_ld m c t 1 _ (by rfl)]
      rfl
    · refine (xc_apply _ _ _ p q).2.2.1.trans ?_
      rw [dh_ld m c t p 2 _ (by rfl), z_ld m c t p 2 _ (by rfl), s_ld m c t 2 _ (by rfl)]
      rfl
    · refine (xc_apply _ _ _ p q).2.2.2.trans ?_
      rw [dh_ld m c t p 3 _ (by rfl), z_ld m c t p 3 _ (by rfl), s_ld m c t 3 _ (by rfl)]
      rfl

theorem bz_tile (c : Dev nD) (t : Fin cfg0.N) (p : Fin 512) (h : Fin 4) (q : Fin 128) :
    (outsAt0 m c t.val t.isLt).2.2.2.2.1 (ix2 p ⟨h.val * 128 + q.val, head_lt h q⟩) = (gBz (argB m c) (argX m c) (argP m c) (argD m c) (argN m c) (argS m c) ⟨512 * t.val + p.val, row_lt t p⟩ h q : EReal) := by
  by_cases h0 : t.val % 8 = 0
  all_goals
    first | rw [outsAt0_A m c t h0] | rw [outsAt0_B m c t h0]
    dsimp only
    frame_out
    refine canon_heads (ε := .bf16) _ _ _ _ (fun k => (gBz (argB m c) (argX m c) (argP m c) (argD m c) (argN m c) (argS m c) ⟨512 * t.val + p.val, row_lt t p⟩ k q : EReal)) p h q ?_ ?_ ?_ ?_
    · try rw [cast6]
      refine (bz_apply _ _ _ _ _ _ p q).1.trans ?_
      rw [b_ld m c t p 0 _ (by rfl), x_ld m c t p 0 _ (by rfl), dh_ld m c t p 0 _ (by rfl), z_ld m c t p 0 _ (by rfl), n_ld m c t 0 _ (by rfl), s_ld m c t 0 _ (by rfl)]
      rfl
    · try rw [cast7]
      refine (bz_apply _ _ _ _ _ _ p q).2.1.trans ?_
      rw [b_ld m c t p 1 _ (by rfl), x_ld m c t p 1 _ (by rfl), dh_ld m c t p 1 _ (by rfl), z_ld m c t p 1 _ (by rfl), n_ld m c t 1 _ (by rfl), s_ld m c t 1 _ (by rfl)]
      rfl
    · try rw [cast8]
      refine (bz_apply _ _ _ _ _ _ p q).2.2.1.trans ?_
      rw [b_ld m c t p 2 _ (by rfl), x_ld m c t p 2 _ (by rfl), dh_ld m c t p 2 _ (by rfl), z_ld m c t p 2 _ (by rfl), n_ld m c t 2 _ (by rfl), s_ld m c t 2 _ (by rfl)]
      rfl
    · try rw [cast9]
      refine (bz_apply _ _ _ _ _ _ p q).2.2.2.trans ?_
      rw [b_ld m c t p 3 _ (by rfl), x_ld m c t p 3 _ (by rfl), dh_ld m c t p 3 _ (by rfl), z_ld m c t p 3 _ (by rfl), n_ld m c t 3 _ (by rfl), s_ld m c t 3 _ (by rfl)]
      rfl

end Cert.MixBwdHeads

end
-- ==== Proof.MixBwdSums.lean ====
/- The parameters' gradients of MixBwd, summed over the row blocks. -/
module

public import proofs.«01_k».proof.Defs
public import proofs.«01_k».proof.Proof.MixBwdTiles
public import Idealize.ShloMosaic.Lib.Pipeline.ValueKit

@[expose] public section

set_option maxRecDepth 16384

noncomputable section

namespace Cert.MixBwdHeads

open Idealize.ShloMosaic Idealize.ShloMosaic.TcCoe Idealize.SL.Sem Cert.HeadNorm Cert.MixBwdIdeal Cert.MixBwdIdeal.Gen

variable (m : (ℓ : Loc nD τ sig) → Buf (Elt Ideal) ℓ)

theorem step (F : Fin 4096 → Fin 4 → H) (t : ℕ) (ht : t < 8) (h : Fin 4) (q : Fin 128) (a s : EReal) (ha : a = upTo F t h q)
    (hs : s = ∑ p : Fin 512, F ⟨512 * t + p.val, by omega⟩ h q) : a + s = upTo F (t + 1) h q := by
  rw [ha, hs]
  exact upTo_succ F t ht h q _ fun p => rfl

theorem hg_sum {o0 o1 o2 : ℕ} (c : Dev nD) (t : Fin cfg0.N) (k : Fin 4) (q : Fin 128)
    (b0 : ∀ a, (![0, o0] : Fin 2 → ℕ) a + (![512, 128] : Fin 2 → ℕ) a ≤ (![512, 512] : Fin 2 → ℕ) a) (h0 : o0 = k.val * 128)
    (b1 : ∀ a, (![0, o1] : Fin 2 → ℕ) a + (![512, 128] : Fin 2 → ℕ) a ≤ (![512, 1024] : Fin 2 → ℕ) a) (h1 : o1 = k.val * 128)
    (b2 : ∀ a, (![0, o2] : Fin 2 → ℕ) a + (![512, 128] : Fin 2 → ℕ) a ≤ (![512, 512] : Fin 2 → ℕ) a) (h2 : o2 = k.val * 128) :
    ∑ p : Fin 512, dPlainParam (row (View.ld (iblk m c 0 t : Vec Ideal S512x512 .f32) (Rect.unit (s := S512x512) ![0, o0] ![512, 128] b0)) p) (row (View.ld (iblk m c 5 t : Vec Ideal S512x1024 .f32) (Rect.unit (s := S512x1024) ![0, o1] ![512, 128] b1)) p) (row (View.ld (X0_1 m c t : Vec Ideal S512x512 .f32) (Rect.unit (s := S512x512) ![0, o2] ![512, 128] b2)) p) q
      = ∑ p : Fin 512, gHg (argO m c) (argP m c) (argD m c) ⟨512 * t.val + p.val, row_lt t p⟩ k q :=
  Finset.sum_congr rfl fun p _ => by
    rw [o_ld m c t p k b0 h0, dl_ld m c t p k b1 h1, a_ld m c t p k b2 h2]
    rfl

theorem hg_left (c : Dev nD) : ∀ (n : ℕ) (hn : n < cfg0.N) (h : Fin 4) (q : Fin 128), (outsAt0 m c n hn).2.2.2.2.2.1 (ix3 h 0 q) = (upTo (gHg (argO m c) (argP m c) (argD m c)) (n + 1) h q : EReal)
  | 0, hn, h, q => by
    rw [outsAt0_A m c ⟨0, hn⟩ (by rfl)]
    dsimp only
    frame_out
    refine slots _ _ _ _ (fun k => (upTo (gHg (argO m c) (argP m c) (argD m c)) (0 + 1) k q : EReal)) h q ?_ ?_ ?_ ?_
    · refine (hg_acc _ _ q).1.trans (step _ 0 (by decide) 0 q _ _ ?_ ((hg_apply _ _ _ q).1.trans (hg_sum m c ⟨0, hn⟩ 0 q _ (by rfl) _ (by rfl) _ (by rfl))))
      refine (slot_read _ _ _ 0 q (by rfl)).trans ?_
      exact (slots_all _ _ _ 0 q).trans ((zero_apply 0 q).1.trans (upTo_zero _ _ _).symm)
    · refine (hg_acc _ _ q).2.1.trans (step _ 0 (by decide) 1 q _ _ ?_ ((hg_apply _ _ _ q).2.1.trans (hg_sum m c ⟨0, hn⟩ 1 q _ (by rfl) _ (by rfl) _ (by rfl))))
      refine (slot_read _ _ _ 1 q (by rfl)).trans ?_
      refine (slot_miss _ _ _ 1 q (by decide)).trans ?_
      exact (slots_all _ _ _ 1 q).trans ((zero_apply 1 q).1.trans (upTo_zero _ _ _).symm)
    · refine (hg_acc _ _ q).2.2.1.trans (step _ 0 (by decide) 2 q _ _ ?_ ((hg_apply _ _ _ q).2.2.1.trans (hg_sum m c ⟨0, hn⟩ 2 q _ (by rfl) _ (by rfl) _ (by rfl))))
      refine (slot_read _ _ _ 2 q (by rfl)).trans ?_
      refine (slot_miss _ _ _ 2 q (by decide)).trans ?_
      refine (slot_miss _ _ _ 2 q (by decide)).trans ?_
      exact (slots_all _ _ _ 2 q).trans ((zero_apply 2 q).1.trans (upTo_zero _ _ _).symm)
    · refine (hg_acc _ _ q).2.2.2.trans (step _ 0 (by decide) 3 q _ _ ?_ ((hg_apply _ _ _ q).2.2.2.trans (hg_sum m c ⟨0, hn⟩ 3 q _ (by rfl) _ (by rfl) _ (by rfl))))
      refine (slot_read _ _ _ 3 q (by rfl)).trans ?_
      refine (slot_miss _ _ _ 3 q (by decide)).trans ?_
      refine (slot_miss _ _ _ 3 q (by decide)).trans ?_
      refine (slot_miss _ _ _ 3 q (by decide)).trans ?_
      exact (slots_all _ _ _ 3 q).trans ((zero_apply 3 q).1.trans (upTo_zero _ _ _).symm)
  | n + 1, hn, h, q => by
    have hn' := lt_N ⟨n + 1, hn⟩
    dsimp only at hn'
    have h0 : ¬(⟨n + 1, hn⟩ : Fin cfg0.N).val % 8 = 0 := by dsimp only; omega
    have hl := hg_left c n (by omega)
    rw [outsAt0_B m c ⟨n + 1, hn⟩ h0]
    dsimp only
    frame_out
    refine slots (L := []) _ _ _ _ (fun k => (upTo (gHg (argO m c) (argP m c) (argD m c)) (n + 1 + 1) k q : EReal)) h q ?_ ?_ ?_ ?_
    · exact (hg_acc _ _ q).1.trans (step _ (n + 1) hn' 0 q _ _ ((slot_ld _ _ 0 q (by rfl)).trans (hl 0 q)) ((hg_apply _ _ _ q).1.trans (hg_sum m c ⟨n + 1, hn⟩ 0 q _ (by rfl) _ (by rfl) _ (by rfl))))
    · exact (hg_acc _ _ q).2.1.trans (step _ (n + 1) hn' 1 q _ _ ((slot_ld _ _ 1 q (by rfl)).trans (hl 1 q)) ((hg_apply _ _ _ q).2.1.trans (hg_sum m c ⟨n + 1, hn⟩ 1 q _ (by rfl) _ (by rfl) _ (by rfl))))
    · exact (hg_acc _ _ q).2.2.1.trans (step _ (n + 1) hn' 2 q _ _ ((slot_ld _ _ 2 q (by rfl)).trans (hl 2 q)) ((hg_apply _ _ _ q).2.2.1.trans (hg_sum m c ⟨n + 1, hn⟩ 2 q _ (by rfl) _ (by rfl) _ (by rfl))))
    · exact (hg_acc _ _ q).2.2.2.trans (step _ (n + 1) hn' 3 q _ _ ((slot_ld _ _ 3 q (by rfl)).trans (hl 3 q)) ((hg_apply _ _ _ q).2.2.2.trans (hg_sum m c ⟨n + 1, hn⟩ 3 q _ (by rfl) _ (by rfl) _ (by rfl))))

theorem mg_sum {o0 o1 o2 : ℕ} (c : Dev nD) (t : Fin cfg0.N) (k : Fin 4) (q : Fin 128)
    (b0 : ∀ a, (![0, o0] : Fin 2 → ℕ) a + (![512, 128] : Fin 2 → ℕ) a ≤ (![512, 512] : Fin 2 → ℕ) a) (h0 : o0 = k.val * 128)
    (b1 : ∀ a, (![0, o1] : Fin 2 → ℕ) a + (![512, 128] : Fin 2 → ℕ) a ≤ (![512, 1024] : Fin 2 → ℕ) a) (h1 : o1 = 512 + k.val * 128)
    (b2 : ∀ a, (![0, o2] : Fin 2 → ℕ) a + (![512, 128] : Fin 2 → ℕ) a ≤ (![512, 512] : Fin 2 → ℕ) a) (h2 : o2 = k.val * 128) :
    ∑ p : Fin 512, dMixedParam (row (View.ld (iblk m c 2 t : Vec Ideal S512x512 .f32) (Rect.unit (s := S512x512) ![0, o0] ![512, 128] b0)) p) (row (View.ld (iblk m c 5 t : Vec Ideal S512x1024 .f32) (Rect.unit (s := S512x1024) ![0, o1] ![512, 128] b1)) p) (row (View.ld (X0_4 m c t : Vec Ideal S512x512 .f32) (Rect.unit (s := S512x512) ![0, o2] ![512, 128] b2)) p) q
      = ∑ p : Fin 512, gMg (argB m c) (argP m c) (argD m c) ⟨512 * t.val + p.val, row_lt t p⟩ k q :=
  Finset.sum_congr rfl fun p _ => by
    rw [b_ld m c t p k b0 h0, dh_ld m c t p k b1 h1, z_ld m c t p k b2 h2]
    rfl

theorem mg_left (c : Dev nD) : ∀ (n : ℕ) (hn : n < cfg0.N) (h : Fin 4) (q : Fin 128), (outsAt0 m c n hn).2.2.2.2.2.2.1 (ix3 h 0 q) = (upTo (gMg (argB m c) (argP m c) (argD m c)) (n + 1) h q : EReal)
  | 0, hn, h, q => by
    rw [outsAt0_A m c ⟨0, hn⟩ (by rfl)]
    dsimp only
    frame_out
    refine slots _ _ _ _ (fun k => (upTo (gMg (argB m c) (argP m c) (argD m c)) (0 + 1) k q : EReal)) h q ?_ ?_ ?_ ?_
    · refine (mg_acc _ _ q).1.trans (step _ 0 (by decide) 0 q _ _ ?_ ((mg_apply _ _ _ q).1.trans (mg_sum m c ⟨0, hn⟩ 0 q _ (by rfl) _ (by rfl) _ (by rfl))))
      refine (slot_read _ _ _ 0 q (by rfl)).trans ?_
      exact (slots_all _ _ _ 0 q).trans ((zero_apply 0 q).2.1.trans (upTo_zero _ _ _).symm)
    · refine (mg_acc _ _ q).2.1.trans (step _ 0 (by decide) 1 q _ _ ?_ ((mg_apply _ _ _ q).2.1.trans (mg_sum m c ⟨0, hn⟩ 1 q _ (by rfl) _ (by rfl) _ (by rfl))))
      refine (slot_read _ _ _ 1 q (by rfl)).trans ?_
      refine (slot_miss _ _ _ 1 q (by decide)).trans ?_
      exact (slots_all _ _ _ 1 q).trans ((zero_apply 1 q).2.1.trans (upTo_zero _ _ _).symm)
    · refine (mg_acc _ _ q).2.2.1.trans (step _ 0 (by decide) 2 q _ _ ?_ ((mg_apply _ _ _ q).2.2.1.trans (mg_sum m c ⟨0, hn⟩ 2 q _ (by rfl) _ (by rfl) _ (by rfl))))
      refine (slot_read _ _ _ 2 q (by rfl)).trans ?_
      refine (slot_miss _ _ _ 2 q (by decide)).trans ?_
      refine (slot_miss _ _ _ 2 q (by decide)).trans ?_
      exact (slots_all _ _ _ 2 q).trans ((zero_apply 2 q).2.1.trans (upTo_zero _ _ _).symm)
    · refine (mg_acc _ _ q).2.2.2.trans (step _ 0 (by decide) 3 q _ _ ?_ ((mg_apply _ _ _ q).2.2.2.trans (mg_sum m c ⟨0, hn⟩ 3 q _ (by rfl) _ (by rfl) _ (by rfl))))
      refine (slot_read _ _ _ 3 q (by rfl)).trans ?_
      refine (slot_miss _ _ _ 3 q (by decide)).trans ?_
      refine (slot_miss _ _ _ 3 q (by decide)).trans ?_
      refine (slot_miss _ _ _ 3 q (by decide)).trans ?_
      exact (slots_all _ _ _ 3 q).trans ((zero_apply 3 q).2.1.trans (upTo_zero _ _ _).symm)
  | n + 1, hn, h, q => by
    have hn' := lt_N ⟨n + 1, hn⟩
    dsimp only at hn'
    have h0 : ¬(⟨n + 1, hn⟩ : Fin cfg0.N).val % 8 = 0 := by dsimp only; omega
    have hl := mg_left c n (by omega)
    rw [outsAt0_B m c ⟨n + 1, hn⟩ h0]
    dsimp only
    frame_out
    refine slots (L := []) _ _ _ _ (fun k => (upTo (gMg (argB m c) (argP m c) (argD m c)) (n + 1 + 1) k q : EReal)) h q ?_ ?_ ?_ ?_
    · exact (mg_acc _ _ q).1.trans (step _ (n + 1) hn' 0 q _ _ ((slot_ld _ _ 0 q (by rfl)).trans (hl 0 q)) ((mg_apply _ _ _ q).1.trans (mg_sum m c ⟨n + 1, hn⟩ 0 q _ (by rfl) _ (by rfl) _ (by rfl))))
    · exact (mg_acc _ _ q).2.1.trans (step _ (n + 1) hn' 1 q _ _ ((slot_ld _ _ 1 q (by rfl)).trans (hl 1 q)) ((mg_apply _ _ _ q).2.1.trans (mg_sum m c ⟨n + 1, hn⟩ 1 q _ (by rfl) _ (by rfl) _ (by rfl))))
    · exact (mg_acc _ _ q).2.2.1.trans (step _ (n + 1) hn' 2 q _ _ ((slot_ld _ _ 2 q (by rfl)).trans (hl 2 q)) ((mg_apply _ _ _ q).2.2.1.trans (mg_sum m c ⟨n + 1, hn⟩ 2 q _ (by rfl) _ (by rfl) _ (by rfl))))
    · exact (mg_acc _ _ q).2.2.2.trans (step _ (n + 1) hn' 3 q _ _ ((slot_ld _ _ 3 q (by rfl)).trans (hl 3 q)) ((mg_apply _ _ _ q).2.2.2.trans (mg_sum m c ⟨n + 1, hn⟩ 3 q _ (by rfl) _ (by rfl) _ (by rfl))))

theorem sk_sum {o0 o1 o2 : ℕ} (c : Dev nD) (t : Fin cfg0.N) (k : Fin 4) (q : Fin 128)
    (b0 : ∀ a, (![0, o0] : Fin 2 → ℕ) a + (![512, 128] : Fin 2 → ℕ) a ≤ (![512, 512] : Fin 2 → ℕ) a) (h0 : o0 = k.val * 128)
    (b1 : ∀ a, (![0, o1] : Fin 2 → ℕ) a + (![512, 128] : Fin 2 → ℕ) a ≤ (![512, 1024] : Fin 2 → ℕ) a) (h1 : o1 = 512 + k.val * 128)
    (b2 : ∀ a, (![0, o2] : Fin 2 → ℕ) a + (![512, 128] : Fin 2 → ℕ) a ≤ (![512, 512] : Fin 2 → ℕ) a) (h2 : o2 = k.val * 128) :
    ∑ p : Fin 512, dSkip (row (View.ld (iblk m c 3 t : Vec Ideal S512x512 .f32) (Rect.unit (s := S512x512) ![0, o0] ![512, 128] b0)) p) (row (View.ld (iblk m c 5 t : Vec Ideal S512x1024 .f32) (Rect.unit (s := S512x1024) ![0, o1] ![512, 128] b1)) p) (row (View.ld (X0_4 m c t : Vec Ideal S512x512 .f32) (Rect.unit (s := S512x512) ![0, o2] ![512, 128] b2)) p) q
      = ∑ p : Fin 512, gSk (argX m c) (argP m c) (argD m c) ⟨512 * t.val + p.val, row_lt t p⟩ k q :=
  Finset.sum_congr rfl fun p _ => by
    rw [x_ld m c t p k b0 h0, dh_ld m c t p k b1 h1, z_ld m c t p k b2 h2]
    rfl

theorem sk_left (c : Dev nD) : ∀ (n : ℕ) (hn : n < cfg0.N) (h : Fin 4) (q : Fin 128), (outsAt0 m c n hn).2.2.2.2.2.2.2 (ix3 h 0 q) = (upTo (gSk (argX m c) (argP m c) (argD m c)) (n + 1) h q : EReal)
  | 0, hn, h, q => by
    rw [outsAt0_A m c ⟨0, hn⟩ (by rfl)]
    dsimp only
    frame_out
    refine slots _ _ _ _ (fun k => (upTo (gSk (argX m c) (argP m c) (argD m c)) (0 + 1) k q : EReal)) h q ?_ ?_ ?_ ?_
    · refine (sk_acc _ _ q).1.trans (step _ 0 (by decide) 0 q _ _ ?_ ((sk_apply _ _ _ q).1.trans (sk_sum m c ⟨0, hn⟩ 0 q _ (by rfl) _ (by rfl) _ (by rfl))))
      refine (slot_read _ _ _ 0 q (by rfl)).trans ?_
      exact (slots_all _ _ _ 0 q).trans ((zero_apply 0 q).2.2.trans (upTo_zero _ _ _).symm)
    · refine (sk_acc _ _ q).2.1.trans (step _ 0 (by decide) 1 q _ _ ?_ ((sk_apply _ _ _ q).2.1.trans (sk_sum m c ⟨0, hn⟩ 1 q _ (by rfl) _ (by rfl) _ (by rfl))))
      refine (slot_read _ _ _ 1 q (by rfl)).trans ?_
      refine (slot_miss _ _ _ 1 q (by decide)).trans ?_
      exact (slots_all _ _ _ 1 q).trans ((zero_apply 1 q).2.2.trans (upTo_zero _ _ _).symm)
    · refine (sk_acc _ _ q).2.2.1.trans (step _ 0 (by decide) 2 q _ _ ?_ ((sk_apply _ _ _ q).2.2.1.trans (sk_sum m c ⟨0, hn⟩ 2 q _ (by rfl) _ (by rfl) _ (by rfl))))
      refine (slot_read _ _ _ 2 q (by rfl)).trans ?_
      refine (slot_miss _ _ _ 2 q (by decide)).trans ?_
      refine (slot_miss _ _ _ 2 q (by decide)).trans ?_
      exact (slots_all _ _ _ 2 q).trans ((zero_apply 2 q).2.2.trans (upTo_zero _ _ _).symm)
    · refine (sk_acc _ _ q).2.2.2.trans (step _ 0 (by decide) 3 q _ _ ?_ ((sk_apply _ _ _ q).2.2.2.trans (sk_sum m c ⟨0, hn⟩ 3 q _ (by rfl) _ (by rfl) _ (by rfl))))
      refine (slot_read _ _ _ 3 q (by rfl)).trans ?_
      refine (slot_miss _ _ _ 3 q (by decide)).trans ?_
      refine (slot_miss _ _ _ 3 q (by decide)).trans ?_
      refine (slot_miss _ _ _ 3 q (by decide)).trans ?_
      exact (slots_all _ _ _ 3 q).trans ((zero_apply 3 q).2.2.trans (upTo_zero _ _ _).symm)
  | n + 1, hn, h, q => by
    have hn' := lt_N ⟨n + 1, hn⟩
    dsimp only at hn'
    have h0 : ¬(⟨n + 1, hn⟩ : Fin cfg0.N).val % 8 = 0 := by dsimp only; omega
    have hl := sk_left c n (by omega)
    rw [outsAt0_B m c ⟨n + 1, hn⟩ h0]
    dsimp only
    frame_out
    refine slots (L := []) _ _ _ _ (fun k => (upTo (gSk (argX m c) (argP m c) (argD m c)) (n + 1 + 1) k q : EReal)) h q ?_ ?_ ?_ ?_
    · exact (sk_acc _ _ q).1.trans (step _ (n + 1) hn' 0 q _ _ ((slot_ld _ _ 0 q (by rfl)).trans (hl 0 q)) ((sk_apply _ _ _ q).1.trans (sk_sum m c ⟨n + 1, hn⟩ 0 q _ (by rfl) _ (by rfl) _ (by rfl))))
    · exact (sk_acc _ _ q).2.1.trans (step _ (n + 1) hn' 1 q _ _ ((slot_ld _ _ 1 q (by rfl)).trans (hl 1 q)) ((sk_apply _ _ _ q).2.1.trans (sk_sum m c ⟨n + 1, hn⟩ 1 q _ (by rfl) _ (by rfl) _ (by rfl))))
    · exact (sk_acc _ _ q).2.2.1.trans (step _ (n + 1) hn' 2 q _ _ ((slot_ld _ _ 2 q (by rfl)).trans (hl 2 q)) ((sk_apply _ _ _ q).2.2.1.trans (sk_sum m c ⟨n + 1, hn⟩ 2 q _ (by rfl) _ (by rfl) _ (by rfl))))
    · exact (sk_acc _ _ q).2.2.2.trans (step _ (n + 1) hn' 3 q _ _ ((slot_ld _ _ 3 q (by rfl)).trans (hl 3 q)) ((sk_apply _ _ _ q).2.2.2.trans (sk_sum m c ⟨n + 1, hn⟩ 3 q _ (by rfl) _ (by rfl) _ (by rfl))))

end Cert.MixBwdHeads

end
-- ==== Proof.MixBwdReference.lean ====
/- The reference of the gradients of the chunked recurrences' output (MixBwdRef), head by head. -/
module

public import proofs.«01_k».proof.Defs
public import proofs.«01_k».proof.Proof.HeadGrad
public import proofs.«01_k».proof.Proof.Gen.MixBwdRefIdeal.Run
public import Idealize.ShloMosaic.Lib.Pipeline.ValueKit

@[expose] public section

set_option maxRecDepth 16384

noncomputable section

namespace Cert.MixBwdReference

open Idealize.ShloMosaic Idealize.ShloMosaic.TcCoe Idealize.SL.Sem Cert.HeadNorm

theorem two_eq : Ideal.ofBits .f32 0x40000000#32 = 1 + 1 := by
  have h : Ideal.ofBits .f32 0x40000000#32 = ((1 + 1 : ℝ) : EReal) := by
    simp [Ideal.ofBits, Ideal.ieee, -EReal.coe_mul, -EReal.coe_add]; norm_num
  exact h

theorem twice (w v : EReal) : w * (Ideal.ofBits .f32 0x40000000#32 * v) = w * v + w * v := by
  rw [two_eq, mul_left_comm, EReal.right_distrib_of_nonneg zero_le_one zero_le_one, one_mul]

/-- A square's gradient, doubled once. -/
theorem normed_twice (v c : H) (q : Fin 128) : c q * scale v + weight v c * (Ideal.ofBits .f32 0x40000000#32 * v q) = dNormed v c q := by
  rw [twice, ← add_assoc, mul_comm (weight v c) (v q)]
  unfold dNormed
  rw [mul_comm (weight v c) (v q)]

theorem centred_neg (v c : H) (q : Fin 128) :
    (c q * scale (centred v) + weight (centred v) c * (Ideal.ofBits .f32 0x40000000#32 * centred v q))
      + Ideal.div (∑ k, -(c k * scale (centred v) + weight (centred v) c * (Ideal.ofBits .f32 0x40000000#32 * centred v k))) width = dCentred v c q := by
  simp only [normed_twice]
  unfold dCentred
  simp only [zero_sub]

open Cert.MixBwdRefIdeal Cert.MixBwdRefIdeal.Gen

variable (m : (ℓ : Loc nD τ sig) → Buf (Elt Ideal) ℓ)

abbrev argO (c : Dev nD) : Half.Idx → Ideal .f32 := m ((c.tc : Thread nD τ).loc main_arg0)
abbrev argP (c : Dev nD) : Wide.Idx → Ideal .f32 := m ((c.tc : Thread nD τ).loc main_arg1)
abbrev argB (c : Dev nD) : Half.Idx → Ideal .f32 := m ((c.tc : Thread nD τ).loc main_arg2)
abbrev argX (c : Dev nD) : Half.Idx → Ideal .f32 := m ((c.tc : Thread nD τ).loc main_arg3)
abbrev argD (c : Dev nD) : Both.Idx → Ideal .f32 := m ((c.tc : Thread nD τ).loc main_arg4)
abbrev argG (c : Dev nD) : Param.Idx → Ideal .f32 := m ((c.tc : Thread nD τ).loc main_arg5)
abbrev argN (c : Dev nD) : Param.Idx → Ideal .f32 := m ((c.tc : Thread nD τ).loc main_arg6)
abbrev argS (c : Dev nD) : Param.Idx → Ideal .f32 := m ((c.tc : Thread nD τ).loc main_arg7)

theorem half_ext (x : Half.Idx → EReal) (F : Fin 4096 → Fin 4 → H) (h : ∀ (r : Fin 4096) (h : Fin 4) (q : Fin 128), x (ix2 r ⟨h.val * 128 + q.val, head_lt h q⟩) = F r h q) : x = half F := by
  funext i
  obtain ⟨r, j, rfl⟩ : ∃ (r : Fin 4096) (j : Fin 512), i = (ix2 r j : Half.Idx) := ⟨i 0, i 1, eq_ix2 (n0 := 4096) (n1 := 512) i⟩
  obtain ⟨hd, q, hj⟩ := col j
  rw [hj]
  exact (h r hd q).trans (half_at F r _ hd q rfl).symm

theorem summed_ext (x : Heads.Idx → EReal) (F : Fin 4096 → Fin 4 → H) (h : ∀ (h : Fin 4) (q : Fin 128), x (ix3 h 0 q) = ∑ r, F r h q) : x = summed F := by
  funext i
  obtain ⟨hd, z, q, rfl⟩ : ∃ (hd : Fin 4) (z : Fin 1) (q : Fin 128), i = (ix3 hd z q : Heads.Idx) := ⟨i 0, i 1, i 2, eq_ix3 (n0 := 4) (n1 := 1) (n2 := 128) i⟩
  rw [show z = 0 from Subsingleton.elim _ _]
  exact h hd q

theorem run_ref (ρ : Dev nD → PrngReg) :
    θ_run defs (onTc (τ := τ) (main (F := Ideal))) ⟨m, fun _ => 0, ρ⟩ fun r => ∀ c : Dev nD,
      r.2.mem ((c.tc : Thread nD τ).loc main_v112) = half (gOa (argO m c) (argP m c) (argD m c) (argG m c))
      ∧ r.2.mem ((c.tc : Thread nD τ).loc main_v113) = half (gAg (argO m c) (argP m c) (argD m c) (argG m c))
      ∧ r.2.mem ((c.tc : Thread nD τ).loc main_v90) = half (gHb (argB m c) (argP m c) (argD m c) (argN m c))
      ∧ r.2.mem ((c.tc : Thread nD τ).loc main_v60) = half (gXc (argP m c) (argD m c) (argS m c))
      ∧ r.2.mem ((c.tc : Thread nD τ).loc main_v114) = half (gBz (argB m c) (argX m c) (argP m c) (argD m c) (argN m c) (argS m c))
      ∧ r.2.mem ((c.tc : Thread nD τ).loc main_v115) = summed (gHg (argO m c) (argP m c) (argD m c))
      ∧ r.2.mem ((c.tc : Thread nD τ).loc main_v116) = summed (gMg (argB m c) (argP m c) (argD m c))
      ∧ r.2.mem ((c.tc : Thread nD τ).loc main_v117) = summed (gSk (argX m c) (argP m c) (argD m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Cert.MixBwdRefIdeal.Value.run m ρ)
  obtain ⟨h0, h1, h2, h3, h4, h5, h6, h7, hk⟩ := h c
  refine ⟨?_, ?_, ?_, ?_, ?_, ?_, ?_, ?_, hk⟩
  · refine half_ext _ _ fun k hd q => ?_
    rw [h0]
    clear h0 h1 h2 h3 h4 h5 h6 h7 h hk
    pointwise
    simp only [Finset.univ_unique, Finset.sum_singleton]
    exact normed_twice (head (argO m c) k hd) (fun q => gated (headLow (argD m c) k hd) (headAt 1536 (by decide) (argP m c) k hd) q * head (argG m c) 0 hd q) q
  · refine half_ext _ _ fun k hd q => ?_
    rw [h1]
    clear h0 h1 h2 h3 h4 h5 h6 h7 h hk
    pointwise
    rfl
  · refine half_ext _ _ fun k hd q => ?_
    rw [h2]
    clear h0 h1 h2 h3 h4 h5 h6 h7 h hk
    unfold Cert.MixBwdRefIdeal.Value.res_main_v90
    pointwise
    simp only [Finset.univ_unique, Finset.sum_singleton]
    exact centred_neg (head (argB m c) k hd) (fun q => gated (headHigh (argD m c) k hd) (headAt 3072 (by decide) (argP m c) k hd) q * head (argN m c) 0 hd q) q
  · refine half_ext _ _ fun k hd q => ?_
    rw [h3]
    clear h0 h1 h2 h3 h4 h5 h6 h7 h hk
    pointwise
    rfl
  · refine half_ext _ _ fun k hd q => ?_
    rw [h4]
    clear h0 h1 h2 h3 h4 h5 h6 h7 h hk
    unfold Cert.MixBwdRefIdeal.Value.res_main_v114
    pointwise
    rfl
  · refine summed_ext _ _ fun hd q => ?_
    rw [h5]
    clear h0 h1 h2 h3 h4 h5 h6 h7 h hk
    pointwise
    rfl
  · refine summed_ext _ _ fun hd q => ?_
    rw [h6]
    clear h0 h1 h2 h3 h4 h5 h6 h7 h hk
    pointwise
    rfl
  · refine summed_ext _ _ fun hd q => ?_
    rw [h7]
    clear h0 h1 h2 h3 h4 h5 h6 h7 h hk
    pointwise
    rfl

end Cert.MixBwdReference

end
-- ==== Proof.MixBwdClaims.lean ====
/- The gradients of the chunked recurrences' output (MixBwd, MixBwdRef), head by head. -/
module

public import proofs.«01_k».proof.Defs
public import proofs.«01_k».proof.Proof.MixBwdSums
public import proofs.«01_k».proof.Proof.MixBwdReference
public import proofs.«01_k».proof.Proof.Gen.MixBwd.Frame
public import proofs.«01_k».proof.Proof.Gen.MixBwdIdeal.Value
public import Idealize.ShloMosaic.Lib.Pipeline.ValueKit

@[expose] public section

set_option maxRecDepth 16384

noncomputable section

namespace Cert.MixBwdClaims

open Idealize.ShloMosaic Idealize.ShloMosaic.TcCoe Idealize.SL.Sem Cert.HeadNorm

section Kernel

open Cert.MixBwdIdeal Cert.MixBwdIdeal.Gen Cert.MixBwdHeads

variable (m : (ℓ : Loc nD τ sig) → Buf (Elt Ideal) ℓ)

theorem final9 (c : Dev nD) : (dats m 0 c).arrAt 9 cfg0.N = half (gOa (argO m c) (argP m c) (argD m c) (argG m c)) := by
  refine (dats m 0 c).arrAt_eq_of_covers 9 _ (by decide +kernel) fun t hf y => ?_
  have ht := lt_N t
  obtain ⟨-, -, -, -, -, -, -, -, -, i9, -⟩ := index_eq t
  blk_simp
  rw [after0_9]
  obtain ⟨p, j, rfl⟩ : ∃ (p : Fin 512) (j : Fin 512), y = (ix2 p j : S512x512.Idx) := ⟨y 0, y 1, eq_ix2 (n0 := 512) (n1 := 512) y⟩
  have e : ((win0_9.blk t).view.emb (ix2 p j : S512x512.Idx) : S4096x512.Idx) = ix2 ⟨512 * t.val + p.val, row_lt t p⟩ j := by
    blk_ext [i9]
  rw [e]
  obtain ⟨h, q, hj⟩ := col j
  rw [hj]
  exact (oa_tile m c t p h q).trans (half_at (gOa (argO m c) (argP m c) (argD m c) (argG m c)) _ _ h q rfl).symm

theorem final10 (c : Dev nD) : (dats m 0 c).arrAt 10 cfg0.N = half (gAg (argO m c) (argP m c) (argD m c) (argG m c)) := by
  refine (dats m 0 c).arrAt_eq_of_covers 10 _ (by decide +kernel) fun t hf y => ?_
  have ht := lt_N t
  obtain ⟨-, -, -, -, -, -, -, -, -, -, i10, -⟩ := index_eq t
  blk_simp
  rw [after0_10]
  obtain ⟨p, j, rfl⟩ : ∃ (p : Fin 512) (j : Fin 512), y = (ix2 p j : S512x512.Idx) := ⟨y 0, y 1, eq_ix2 (n0 := 512) (n1 := 512) y⟩
  have e : ((win0_10.blk t).view.emb (ix2 p j : S512x512.Idx) : S4096x512.Idx) = ix2 ⟨512 * t.val + p.val, row_lt t p⟩ j := by
    blk_ext [i10]
  rw [e]
  obtain ⟨h, q, hj⟩ := col j
  rw [hj]
  exact (ag_tile m c t p h q).trans (half_at (gAg (argO m c) (argP m c) (argD m c) (argG m c)) _ _ h q rfl).symm

theorem final11 (c : Dev nD) : (dats m 0 c).arrAt 11 cfg0.N = half (gHb (argB m c) (argP m c) (argD m c) (argN m c)) := by
  refine (dats m 0 c).arrAt_eq_of_covers 11 _ (by decide +kernel) fun t hf y => ?_
  have ht := lt_N t
  obtain ⟨-, -, -, -, -, -, -, -, -, -, -, i11, -⟩ := index_eq t
  blk_simp
  rw [after0_11]
  obtain ⟨p, j, rfl⟩ : ∃ (p : Fin 512) (j : Fin 512), y = (ix2 p j : S512x512.Idx) := ⟨y 0, y 1, eq_ix2 (n0 := 512) (n1 := 512) y⟩
  have e : ((win0_11.blk t).view.emb (ix2 p j : S512x512.Idx) : S4096x512.Idx) = ix2 ⟨512 * t.val + p.val, row_lt t p⟩ j := by
    blk_ext [i11]
  rw [e]
  obtain ⟨h, q, hj⟩ := col j
  rw [hj]
  exact (hb_tile m c t p h q).trans (half_at (gHb (argB m c) (argP m c) (argD m c) (argN m c)) _ _ h q rfl).symm

theorem final12 (c : Dev nD) : (dats m 0 c).arrAt 12 cfg0.N = half (gXc (argP m c) (argD m c) (argS m c)) := by
  refine (dats m 0 c).arrAt_eq_of_covers 12 _ (by decide +kernel) fun t hf y => ?_
  have ht := lt_N t
  obtain ⟨-, -, -, -, -, -, -, -, -, -, -, -, i12, -⟩ := index_eq t
  blk_simp
  rw [after0_12]
  obtain ⟨p, j, rfl⟩ : ∃ (p : Fin 512) (j : Fin 512), y = (ix2 p j : S512x512.Idx) := ⟨y 0, y 1, eq_ix2 (n0 := 512) (n1 := 512) y⟩
  have e : ((win0_12.blk t).view.emb (ix2 p j : S512x512.Idx) : S4096x512.Idx) = ix2 ⟨512 * t.val + p.val, row_lt t p⟩ j := by
    blk_ext [i12]
  rw [e]
  obtain ⟨h, q, hj⟩ := col j
  rw [hj]
  exact (xc_tile m c t p h q).trans (half_at (gXc (argP m c) (argD m c) (argS m c)) _ _ h q rfl).symm

theorem final13 (c : Dev nD) : (dats m 0 c).arrAt 13 cfg0.N = half (gBz (argB m c) (argX m c) (argP m c) (argD m c) (argN m c) (argS m c)) := by
  refine (dats m 0 c).arrAt_eq_of_covers 13 _ (by decide +kernel) fun t hf y => ?_
  have ht := lt_N t
  obtain ⟨-, -, -, -, -, -, -, -, -, -, -, -, -, i13, -⟩ := index_eq t
  blk_simp
  rw [after0_13]
  obtain ⟨p, j, rfl⟩ : ∃ (p : Fin 512) (j : Fin 512), y = (ix2 p j : S512x512.Idx) := ⟨y 0, y 1, eq_ix2 (n0 := 512) (n1 := 512) y⟩
  have e : ((win0_13.blk t).view.emb (ix2 p j : S512x512.Idx) : S4096x512.Idx) = ix2 ⟨512 * t.val + p.val, row_lt t p⟩ j := by
    blk_ext [i13]
  rw [e]
  obtain ⟨h, q, hj⟩ := col j
  rw [hj]
  exact (bz_tile m c t p h q).trans (half_at (gBz (argB m c) (argX m c) (argP m c) (argD m c) (argN m c) (argS m c)) _ _ h q rfl).symm

theorem final14 (c : Dev nD) : (dats m 0 c).arrAt 14 cfg0.N = summed (gHg (argO m c) (argP m c) (argD m c)) := by
  refine (dats m 0 c).arrAt_eq_of_covers 14 _ (by decide +kernel) fun t hf y => ?_
  have ht := lt_N t
  have h7 : t.val % 8 = 7 := (flush0_14 t).mp hf
  obtain ⟨-, -, -, -, -, -, -, -, -, -, -, -, -, -, i14, -⟩ := index_eq t
  blk_simp
  rw [after0_14]
  obtain ⟨h, z, q, rfl⟩ : ∃ (h : Fin 4) (z : Fin 1) (q : Fin 128), y = (ix3 h z q : S4x1x128.Idx) := ⟨y 0, y 1, y 2, eq_ix3 (n0 := 4) (n1 := 1) (n2 := 128) y⟩
  have e : ((win0_14.blk t).view.emb (ix3 h z q : S4x1x128.Idx) : S4x1x128.Idx) = ix3 h z q := by
    blk_ext [i14]
  rw [e, show z = 0 from Subsingleton.elim _ _]
  refine (hg_left m c t.val t.isLt h q).trans ?_
  rw [show t.val + 1 = 8 by omega]
  exact upTo_all (gHg (argO m c) (argP m c) (argD m c)) h q

theorem final15 (c : Dev nD) : (dats m 0 c).arrAt 15 cfg0.N = summed (gMg (argB m c) (argP m c) (argD m c)) := by
  refine (dats m 0 c).arrAt_eq_of_covers 15 _ (by decide +kernel) fun t hf y => ?_
  have ht := lt_N t
  have h7 : t.val % 8 = 7 := (flush0_15 t).mp hf
  obtain ⟨-, -, -, -, -, -, -, -, -, -, -, -, -, -, -, i15, -⟩ := index_eq t
  blk_simp
  rw [after0_15]
  obtain ⟨h, z, q, rfl⟩ : ∃ (h : Fin 4) (z : Fin 1) (q : Fin 128), y = (ix3 h z q : S4x1x128.Idx) := ⟨y 0, y 1, y 2, eq_ix3 (n0 := 4) (n1 := 1) (n2 := 128) y⟩
  have e : ((win0_15.blk t).view.emb (ix3 h z q : S4x1x128.Idx) : S4x1x128.Idx) = ix3 h z q := by
    blk_ext [i15]
  rw [e, show z = 0 from Subsingleton.elim _ _]
  refine (mg_left m c t.val t.isLt h q).trans ?_
  rw [show t.val + 1 = 8 by omega]
  exact upTo_all (gMg (argB m c) (argP m c) (argD m c)) h q

theorem final16 (c : Dev nD) : (dats m 0 c).arrAt 16 cfg0.N = summed (gSk (argX m c) (argP m c) (argD m c)) := by
  refine (dats m 0 c).arrAt_eq_of_covers 16 _ (by decide +kernel) fun t hf y => ?_
  have ht := lt_N t
  have h7 : t.val % 8 = 7 := (flush0_16 t).mp hf
  obtain ⟨-, -, -, -, -, -, -, -, -, -, -, -, -, -, -, -, i16⟩ := index_eq t
  blk_simp
  rw [after0_16]
  obtain ⟨h, z, q, rfl⟩ : ∃ (h : Fin 4) (z : Fin 1) (q : Fin 128), y = (ix3 h z q : S4x1x128.Idx) := ⟨y 0, y 1, y 2, eq_ix3 (n0 := 4) (n1 := 1) (n2 := 128) y⟩
  have e : ((win0_16.blk t).view.emb (ix3 h z q : S4x1x128.Idx) : S4x1x128.Idx) = ix3 h z q := by
    blk_ext [i16]
  rw [e, show z = 0 from Subsingleton.elim _ _]
  refine (sk_left m c t.val t.isLt h q).trans ?_
  rw [show t.val + 1 = 8 by omega]
  exact upTo_all (gSk (argX m c) (argP m c) (argD m c)) h q

end Kernel

theorem frame_p : Cert.quiescent_MixBwd := fun m ρ _ => Cert.MixBwd.Gen.frame m ρ

theorem frame_pi : Cert.quiescent_MixBwdIdeal := fun m ρ _ => Cert.MixBwdIdeal.Gen.frame m ρ

theorem frame_ri : Cert.quiescent_MixBwdRefIdeal := fun m ρ _ =>
  (θ_run Cert.MixBwdRefIdeal.defs _ _).mono
    (fun r h => ⟨fun c => (h c).2.2.2.2.2.2.2.2, Idealize.ShloMosaic.sem_eq_zero_of_no_sems (by decide) r.2⟩) (Cert.MixBwdReference.run_ref m ρ)

theorem algebraic : Cert.algebraic_MixBwdIdeal_MixBwdRefIdeal := by
  intro m g m' g' _ hargs
  refine ⟨fun c => half (gOa (Cert.MixBwdHeads.argO m c) (Cert.MixBwdHeads.argP m c) (Cert.MixBwdHeads.argD m c) (Cert.MixBwdHeads.argG m c)), fun c => half (gAg (Cert.MixBwdHeads.argO m c) (Cert.MixBwdHeads.argP m c) (Cert.MixBwdHeads.argD m c) (Cert.MixBwdHeads.argG m c)), fun c => half (gHb (Cert.MixBwdHeads.argB m c) (Cert.MixBwdHeads.argP m c) (Cert.MixBwdHeads.argD m c) (Cert.MixBwdHeads.argN m c)), fun c => half (gXc (Cert.MixBwdHeads.argP m c) (Cert.MixBwdHeads.argD m c) (Cert.MixBwdHeads.argS m c)), fun c => half (gBz (Cert.MixBwdHeads.argB m c) (Cert.MixBwdHeads.argX m c) (Cert.MixBwdHeads.argP m c) (Cert.MixBwdHeads.argD m c) (Cert.MixBwdHeads.argN m c) (Cert.MixBwdHeads.argS m c)), fun c => summed (gHg (Cert.MixBwdHeads.argO m c) (Cert.MixBwdHeads.argP m c) (Cert.MixBwdHeads.argD m c)), fun c => summed (gMg (Cert.MixBwdHeads.argB m c) (Cert.MixBwdHeads.argP m c) (Cert.MixBwdHeads.argD m c)), fun c => summed (gSk (Cert.MixBwdHeads.argX m c) (Cert.MixBwdHeads.argP m c) (Cert.MixBwdHeads.argD m c)),
    (θ_run Cert.MixBwdIdeal.defs _ _).mono (fun r h c => ?_) (Cert.MixBwdIdeal.Value.run_blocks m g), ?_⟩
  · obtain ⟨h9, h10, h11, h12, h13, h14, h15, h16, hk⟩ := h c
    exact ⟨h9.trans (final9 m c), h10.trans (final10 m c), h11.trans (final11 m c), h12.trans (final12 m c), h13.trans (final13 m c),
      h14.trans (final14 m c), h15.trans (final15 m c), h16.trans (final16 m c), hk⟩
  · refine (θ_run Cert.MixBwdRefIdeal.defs _ _).mono (fun r h c => ?_) (Cert.MixBwdReference.run_ref m' g')
    obtain ⟨e0, e1, e2, e3, e4, e5, e6, e7⟩ := hargs c
    obtain ⟨h9, h10, h11, h12, h13, h14, h15, h16, hk⟩ := h c
    dsimp only [Cert.MixBwdReference.argO, Cert.MixBwdReference.argP, Cert.MixBwdReference.argB, Cert.MixBwdReference.argX, Cert.MixBwdReference.argD,
      Cert.MixBwdReference.argG, Cert.MixBwdReference.argN, Cert.MixBwdReference.argS] at h9 h10 h11 h12 h13 h14 h15 h16
    rw [e0, e1, e4, e5] at h9 h10
    rw [e2, e1, e4, e6] at h11
    rw [e1, e4, e7] at h12
    rw [e2, e3, e1, e4, e6, e7] at h13
    rw [e0, e1, e4] at h14
    rw [e2, e1, e4] at h15
    rw [e3, e1, e4] at h16
    exact ⟨h9, h10, h11, h12, h13, h14, h15, h16, hk⟩

end Cert.MixBwdClaims

end
-- ==== Proof.MixClaims.lean ====
/- The output of the two chunked recurrences (Mix, MixRef), head by head. -/
module

public import proofs.«01_k».proof.Defs
public import proofs.«01_k».proof.Proof.HeadNorm
public import proofs.«01_k».proof.Proof.Gen.Mix.Frame
public import proofs.«01_k».proof.Proof.Gen.MixIdeal.Value
public import proofs.«01_k».proof.Proof.Gen.MixRefIdeal.Run
public import Idealize.ShloMosaic.Lib.Pipeline.ValueKit

@[expose] public section

set_option maxRecDepth 16384

noncomputable section

namespace Cert.MixClaims

open Idealize.ShloMosaic Idealize.ShloMosaic.TcCoe Idealize.SL.Sem Cert.HeadNorm

abbrev Half : Shape := ⟨2, ![4096, 512]⟩
abbrev Wide : Shape := ⟨2, ![4096, 3712]⟩
abbrev Both : Shape := ⟨2, ![4096, 1024]⟩
abbrev Param : Shape := ⟨2, ![1, 512]⟩

/-- Columns below 512 hold the first recurrence's heads, the others the second's. -/
def out (o : Half.Idx → Ideal .f32) (proj : Wide.Idx → Ideal .f32) (b x : Half.Idx → Ideal .f32) (g n s : Param.Idx → Ideal .f32) (r : Fin 4096) (j : Fin 1024) : EReal :=
  if hj : j.val < 512 then
    outPlain (head o r ⟨j.val / 128, by omega⟩) (headAt 1536 (by decide) proj r ⟨j.val / 128, by omega⟩) (head g 0 ⟨j.val / 128, by omega⟩)
      ⟨j.val % 128, by omega⟩
  else
    outMixed (head b r ⟨(j.val - 512) / 128, by omega⟩) (head x r ⟨(j.val - 512) / 128, by omega⟩) (headAt 3072 (by decide) proj r ⟨(j.val - 512) / 128, by omega⟩)
      (head n 0 ⟨(j.val - 512) / 128, by omega⟩) (head s 0 ⟨(j.val - 512) / 128, by omega⟩) ⟨(j.val - 512) % 128, by omega⟩

def outA (o : Half.Idx → Ideal .f32) (proj : Wide.Idx → Ideal .f32) (b x : Half.Idx → Ideal .f32) (g n s : Param.Idx → Ideal .f32) : Both.Idx → Ideal .bf16 :=
  fun i => (out o proj b x g n s (i 0) (i 1) : EReal)

theorem out_plain (o : Half.Idx → Ideal .f32) (proj : Wide.Idx → Ideal .f32) (b x : Half.Idx → Ideal .f32) (g n s : Param.Idx → Ideal .f32) (r : Fin 4096) (j : Fin 1024)
    (h : Fin 4) (q : Fin 128) (hj : j.val = h.val * 128 + q.val) :
    out o proj b x g n s r j = outPlain (head o r h) (headAt 1536 (by decide) proj r h) (head g 0 h) q := by
  have e1 : (⟨j.val / 128, by omega⟩ : Fin 4) = h := Fin.ext (by dsimp only; omega)
  have e2 : (⟨j.val % 128, by omega⟩ : Fin 128) = q := Fin.ext (by dsimp only; omega)
  unfold out
  rw [dif_pos (by omega), e1, e2]

theorem out_mixed (o : Half.Idx → Ideal .f32) (proj : Wide.Idx → Ideal .f32) (b x : Half.Idx → Ideal .f32) (g n s : Param.Idx → Ideal .f32) (r : Fin 4096) (j : Fin 1024)
    (h : Fin 4) (q : Fin 128) (hj : j.val = 512 + (h.val * 128 + q.val)) :
    out o proj b x g n s r j = outMixed (head b r h) (head x r h) (headAt 3072 (by decide) proj r h) (head n 0 h) (head s 0 h) q := by
  have e1 : (⟨(j.val - 512) / 128, by omega⟩ : Fin 4) = h := Fin.ext (by dsimp only; omega)
  have e2 : (⟨(j.val - 512) % 128, by omega⟩ : Fin 128) = q := Fin.ext (by dsimp only; omega)
  unfold out
  rw [dif_neg (by omega), e1, e2]

/-- Every column is of one head of one half. -/
theorem col_both (j : Fin 1024) : ∃ (h : Fin 4) (q : Fin 128), j.val = h.val * 128 + q.val ∨ j.val = 512 + (h.val * 128 + q.val) := by
  by_cases hj : j.val < 512
  · exact ⟨⟨j.val / 128, by omega⟩, ⟨j.val % 128, by omega⟩, Or.inl (by dsimp only; omega)⟩
  · exact ⟨⟨(j.val - 512) / 128, by omega⟩, ⟨(j.val - 512) % 128, by omega⟩, Or.inr (by dsimp only; omega)⟩

section Kernel

open Cert.MixIdeal Cert.MixIdeal.Gen

variable (m : (ℓ : Loc nD τ sig) → Buf (Elt Ideal) ℓ)

theorem index_eq : ∀ t : Fin cfg0.N, win0_0.index t = ![t.val, 0] ∧ win0_1.index t = ![t.val, 3] ∧ win0_2.index t = ![t.val, 0] ∧ win0_3.index t = ![t.val, 0]
    ∧ win0_4.index t = ![t.val, 6] ∧ win0_5.index t = ![0, 0, 0] ∧ win0_6.index t = ![0, 0, 0] ∧ win0_7.index t = ![0, 0, 0] ∧ win0_8.index t = ![t.val, 0] :=
  (by decide +kernel : ∀ t : Fin grid0.N, win0_0.index t = ![t.val, 0] ∧ win0_1.index t = ![t.val, 3] ∧ win0_2.index t = ![t.val, 0] ∧ win0_3.index t = ![t.val, 0]
    ∧ win0_4.index t = ![t.val, 6] ∧ win0_5.index t = ![0, 0, 0] ∧ win0_6.index t = ![0, 0, 0] ∧ win0_7.index t = ![0, 0, 0] ∧ win0_8.index t = ![t.val, 0])

/-! ## One head's payloads -/

theorem plain_apply (v a : Vec Ideal S512x128 .f32) (g : Vec Ideal S1x1x128 .f32) (p : Fin 512) (q : Fin 128) :
    k0_pay1 (k0_pay21 v a (k0_pay9 g)) (ix2 p q) = (outPlain (row v p) (row a p) (only g) q : EReal)
    ∧ k0_pay2 (k0_pay22 v a (k0_pay10 g)) (ix2 p q) = (outPlain (row v p) (row a p) (only g) q : EReal)
    ∧ k0_pay3 (k0_pay23 v a (k0_pay11 g)) (ix2 p q) = (outPlain (row v p) (row a p) (only g) q : EReal)
    ∧ k0_pay4 (k0_pay25 v a (k0_pay12 g) (k0_pay24 v) (Scalar.ofBits .f32 0x43000000#32)) (ix2 p q) = (outPlain (row v p) (row a p) (only g) q : EReal) := by
  refine ⟨?_, ?_, ?_, ?_⟩
  · unfold k0_pay1 k0_pay21 k0_pay9
    pointwise
    rfl
  · unfold k0_pay2 k0_pay22 k0_pay10
    pointwise
    rfl
  · unfold k0_pay3 k0_pay23 k0_pay11
    pointwise
    rfl
  · unfold k0_pay4 k0_pay25 k0_pay24 k0_pay12
    pointwise
    rfl

theorem mixed_apply (v x a : Vec Ideal S512x128 .f32) (g s : Vec Ideal S1x1x128 .f32) (p : Fin 512) (q : Fin 128) :
    k0_pay5 (k0_pay26 v x a (k0_pay13 g) (k0_pay17 s)) (ix2 p q) = (outMixed (row v p) (row x p) (row a p) (only g) (only s) q : EReal)
    ∧ k0_pay6 (k0_pay29 x a (k0_pay14 g) (k0_pay18 s) (k0_pay27 v) (k0_pay28 v)) (ix2 p q) = (outMixed (row v p) (row x p) (row a p) (only g) (only s) q : EReal)
    ∧ k0_pay7 (k0_pay30 v x a (k0_pay15 g) (k0_pay19 s)) (ix2 p q) = (outMixed (row v p) (row x p) (row a p) (only g) (only s) q : EReal)
    ∧ k0_pay8 x a (k0_pay16 g) (k0_pay20 s) (k0_pay31 v) (k0_pay32 v) (ix2 p q) = (outMixed (row v p) (row x p) (row a p) (only g) (only s) q : EReal) := by
  refine ⟨?_, ?_, ?_, ?_⟩
  · unfold k0_pay5 k0_pay26 k0_pay13 k0_pay17
    pointwise
    rfl
  · unfold k0_pay6 k0_pay29 k0_pay14 k0_pay18 k0_pay28 k0_pay27
    pointwise
    rfl
  · unfold k0_pay7 k0_pay30 k0_pay15 k0_pay19
    pointwise
    rfl
  · unfold k0_pay8 k0_pay16 k0_pay20 k0_pay32 k0_pay31
    pointwise
    rfl

/-! ## The blocks the body reads -/

theorem heads (c : Dev nD) (t : Fin cfg0.N) (p : Fin 512) (hr : 512 * t.val + p.val < 4096) (h : Fin 4) :
    head (iblk m c 0 t : Vec Ideal S512x512 .f32) p h = head (m ((c.tc : Thread nD τ).loc main_arg0) : Vec Ideal S4096x512 .f32) ⟨512 * t.val + p.val, hr⟩ h
    ∧ head (X0_1 m c t : Vec Ideal S512x512 .f32) p h
      = headAt 1536 (by decide) (m ((c.tc : Thread nD τ).loc main_arg1) : Vec Ideal S4096x3712 .f32) ⟨512 * t.val + p.val, hr⟩ h
    ∧ head (iblk m c 2 t : Vec Ideal S512x512 .f32) p h = head (m ((c.tc : Thread nD τ).loc main_arg2) : Vec Ideal S4096x512 .f32) ⟨512 * t.val + p.val, hr⟩ h
    ∧ head (iblk m c 3 t : Vec Ideal S512x512 .f32) p h = head (m ((c.tc : Thread nD τ).loc main_arg3) : Vec Ideal S4096x512 .f32) ⟨512 * t.val + p.val, hr⟩ h
    ∧ head (X0_4 m c t : Vec Ideal S512x512 .f32) p h
      = headAt 3072 (by decide) (m ((c.tc : Thread nD τ).loc main_arg1) : Vec Ideal S4096x3712 .f32) ⟨512 * t.val + p.val, hr⟩ h := by
  obtain ⟨i0, i1, i2, i3, i4, -⟩ := index_eq t
  refine ⟨funext fun q => ?_, funext fun q => ?_, funext fun q => ?_, funext fun q => ?_, funext fun q => ?_⟩
  · dsimp only [head]
    blk_ext [iblk, V_main_arg0, i0]
  · dsimp only [head, headAt]
    unfold X0_1 Pipeline.Window.fill
    rw [dif_pos (moved0_1 t _)]
    blk_ext [iblk, V_main_arg1, i1]
  · dsimp only [head]
    blk_ext [iblk, V_main_arg2, i2]
  · dsimp only [head]
    blk_ext [iblk, V_main_arg3, i3]
  · dsimp only [head, headAt]
    unfold X0_4 Pipeline.Window.fill
    rw [dif_pos (moved0_4 t _)]
    blk_ext [iblk, V_main_arg1, i4]

theorem host_v0 (c : Dev nD) (h : Fin 4) : param (V m c main_v0 : Vec Ideal S4x1x128 .f32) h = head (m ((c.tc : Thread nD τ).loc main_arg4) : Vec Ideal S1x512 .f32) 0 h := by
  funext q
  dsimp only [param, head]
  unfold_abbrev_sides
  after_results
  pointwise

theorem host_v1 (c : Dev nD) (h : Fin 4) : param (V m c main_v1 : Vec Ideal S4x1x128 .f32) h = head (m ((c.tc : Thread nD τ).loc main_arg5) : Vec Ideal S1x512 .f32) 0 h := by
  funext q
  dsimp only [param, head]
  unfold_abbrev_sides
  after_results
  pointwise

theorem host_v2 (c : Dev nD) (h : Fin 4) : param (V m c main_v2 : Vec Ideal S4x1x128 .f32) h = head (m ((c.tc : Thread nD τ).loc main_arg6) : Vec Ideal S1x512 .f32) 0 h := by
  funext q
  dsimp only [param, head]
  unfold_abbrev_sides
  after_results
  pointwise

theorem params (c : Dev nD) (t : Fin cfg0.N) (h : Fin 4) :
    param (iblk m c 5 t : Vec Ideal S4x1x128 .f32) h = head (m ((c.tc : Thread nD τ).loc main_arg4) : Vec Ideal S1x512 .f32) 0 h
    ∧ param (iblk m c 6 t : Vec Ideal S4x1x128 .f32) h = head (m ((c.tc : Thread nD τ).loc main_arg5) : Vec Ideal S1x512 .f32) 0 h
    ∧ param (iblk m c 7 t : Vec Ideal S4x1x128 .f32) h = head (m ((c.tc : Thread nD τ).loc main_arg6) : Vec Ideal S1x512 .f32) 0 h := by
  obtain ⟨-, -, -, -, -, i5, i6, i7, -⟩ := index_eq t
  refine ⟨Eq.trans (funext fun q => ?_) (host_v0 m c h), Eq.trans (funext fun q => ?_) (host_v1 m c h), Eq.trans (funext fun q => ?_) (host_v2 m c h)⟩
  · dsimp only [param]
    blk_ext [iblk, i5]
  · dsimp only [param]
    blk_ext [iblk, i6]
  · dsimp only [param]
    blk_ext [iblk, i7]

/-! ## The output -/

theorem tile_plain (c : Dev nD) (t : Fin cfg0.N) (p : Fin 512) (j : Fin 1024) (h : Fin 4) (q : Fin 128) (hj : j.val = h.val * 128 + q.val) (hr : 512 * t.val + p.val < 4096) :
    outsAt0 m c t (ix2 p j) = (outPlain (head (m ((c.tc : Thread nD τ).loc main_arg0) : Vec Ideal S4096x512 .f32) ⟨512 * t.val + p.val, hr⟩ h)
      (headAt 1536 (by decide) (m ((c.tc : Thread nD τ).loc main_arg1) : Vec Ideal S4096x3712 .f32) ⟨512 * t.val + p.val, hr⟩ h)
      (head (m ((c.tc : Thread nD τ).loc main_arg4) : Vec Ideal S1x512 .f32) 0 h) q : EReal) := by
  obtain ⟨e0, e1, -⟩ := heads m c t p hr h
  obtain ⟨e5, -⟩ := params m c t h
  rw [← e0, ← e1, ← e5]
  clear e0 e1 e5
  have hq := q.isLt
  unfold outsAt0
  frame_out
  iterate 4 rw [canon_miss (hj := by omega)]
  match h, hj with
  | ⟨0, _⟩, hj =>
    dsimp only at hj
    iterate 3 rw [canon_miss (hj := by omega)]
    rw [canon_hit (q := q) (hj := by omega)]
    refine (plain_apply _ _ _ p q).1.trans ?_
    rw [row_ld _ _ _ ⟨0, by decide⟩ (by rfl), row_ld _ _ _ ⟨0, by decide⟩ (by rfl), param_ld _ _ ⟨0, by decide⟩ (by rfl)]
  | ⟨1, _⟩, hj =>
    dsimp only at hj
    iterate 2 rw [canon_miss (hj := by omega)]
    rw [canon_hit (q := q) (hj := by omega)]
    refine (plain_apply _ _ _ p q).2.1.trans ?_
    rw [row_ld _ _ _ ⟨1, by decide⟩ (by rfl), row_ld _ _ _ ⟨1, by decide⟩ (by rfl), param_ld _ _ ⟨1, by decide⟩ (by rfl)]
  | ⟨2, _⟩, hj =>
    dsimp only at hj
    rw [canon_miss (hj := by omega), canon_hit (q := q) (hj := by omega)]
    refine (plain_apply _ _ _ p q).2.2.1.trans ?_
    rw [row_ld _ _ _ ⟨2, by decide⟩ (by rfl), row_ld _ _ _ ⟨2, by decide⟩ (by rfl), param_ld _ _ ⟨2, by decide⟩ (by rfl)]
  | ⟨3, _⟩, hj =>
    dsimp only at hj
    rw [canon_hit (q := q) (hj := by omega)]
    refine (plain_apply _ _ _ p q).2.2.2.trans ?_
    rw [row_ld _ _ _ ⟨3, by decide⟩ (by rfl), row_ld _ _ _ ⟨3, by decide⟩ (by rfl), param_ld _ _ ⟨3, by decide⟩ (by rfl)]

theorem tile_mixed (c : Dev nD) (t : Fin cfg0.N) (p : Fin 512) (j : Fin 1024) (h : Fin 4) (q : Fin 128) (hj : j.val = 512 + (h.val * 128 + q.val))
    (hr : 512 * t.val + p.val < 4096) :
    outsAt0 m c t (ix2 p j) = (outMixed (head (m ((c.tc : Thread nD τ).loc main_arg2) : Vec Ideal S4096x512 .f32) ⟨512 * t.val + p.val, hr⟩ h)
      (head (m ((c.tc : Thread nD τ).loc main_arg3) : Vec Ideal S4096x512 .f32) ⟨512 * t.val + p.val, hr⟩ h)
      (headAt 3072 (by decide) (m ((c.tc : Thread nD τ).loc main_arg1) : Vec Ideal S4096x3712 .f32) ⟨512 * t.val + p.val, hr⟩ h)
      (head (m ((c.tc : Thread nD τ).loc main_arg5) : Vec Ideal S1x512 .f32) 0 h) (head (m ((c.tc : Thread nD τ).loc main_arg6) : Vec Ideal S1x512 .f32) 0 h) q : EReal) := by
  obtain ⟨-, -, e2, e3, e4⟩ := heads m c t p hr h
  obtain ⟨-, e6, e7⟩ := params m c t h
  rw [← e2, ← e3, ← e4, ← e6, ← e7]
  clear e2 e3 e4 e6 e7
  have hq := q.isLt
  unfold outsAt0
  frame_out
  match h, hj with
  | ⟨0, _⟩, hj =>
    dsimp only at hj
    iterate 3 rw [canon_miss (hj := by omega)]
    rw [canon_hit (q := q) (hj := by omega)]
    refine (mixed_apply _ _ _ _ _ p q).1.trans ?_
    rw [row_ld _ _ _ ⟨0, by decide⟩ (by rfl), row_ld _ _ _ ⟨0, by decide⟩ (by rfl), row_ld _ _ _ ⟨0, by decide⟩ (by rfl), param_ld _ _ ⟨0, by decide⟩ (by rfl), param_ld _ _ ⟨0, by decide⟩ (by rfl)]
  | ⟨1, _⟩, hj =>
    dsimp only at hj
    iterate 2 rw [canon_miss (hj := by omega)]
    rw [canon_hit (q := q) (hj := by omega)]
    refine (mixed_apply _ _ _ _ _ p q).2.1.trans ?_
    rw [row_ld _ _ _ ⟨1, by decide⟩ (by rfl), row_ld _ _ _ ⟨1, by decide⟩ (by rfl), row_ld _ _ _ ⟨1, by decide⟩ (by rfl), param_ld _ _ ⟨1, by decide⟩ (by rfl), param_ld _ _ ⟨1, by decide⟩ (by rfl)]
  | ⟨2, _⟩, hj =>
    dsimp only at hj
    rw [canon_miss (hj := by omega), canon_hit (q := q) (hj := by omega)]
    refine (mixed_apply _ _ _ _ _ p q).2.2.1.trans ?_
    rw [row_ld _ _ _ ⟨2, by decide⟩ (by rfl), row_ld _ _ _ ⟨2, by decide⟩ (by rfl), row_ld _ _ _ ⟨2, by decide⟩ (by rfl), param_ld _ _ ⟨2, by decide⟩ (by rfl), param_ld _ _ ⟨2, by decide⟩ (by rfl)]
  | ⟨3, _⟩, hj =>
    dsimp only at hj
    rw [canon_hit (q := q) (hj := by omega)]
    refine (mixed_apply _ _ _ _ _ p q).2.2.2.trans ?_
    rw [row_ld _ _ _ ⟨3, by decide⟩ (by rfl), row_ld _ _ _ ⟨3, by decide⟩ (by rfl), row_ld _ _ _ ⟨3, by decide⟩ (by rfl), param_ld _ _ ⟨3, by decide⟩ (by rfl), param_ld _ _ ⟨3, by decide⟩ (by rfl)]

theorem final (c : Dev nD) : (dats m 0 c).arrAt 8 cfg0.N = outA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 8 _ (by decide +kernel) fun t hf y => ?_
  have ht : t.val < 8 := Nat.lt_of_lt_of_eq t.isLt N_0
  obtain ⟨-, -, -, -, -, -, -, -, i8⟩ := index_eq t
  blk_simp
  rw [after0_8]
  obtain ⟨p, j, rfl⟩ : ∃ (p : Fin 512) (j : Fin 1024), y = (ix2 p j : S512x1024.Idx) := ⟨y 0, y 1, eq_ix2 (n0 := 512) (n1 := 1024) y⟩
  have hp := p.isLt
  have e : ((win0_8.blk t).view.emb (ix2 p j : S512x1024.Idx) : S4096x1024.Idx) = ix2 ⟨512 * t.val + p.val, by omega⟩ j := by
    blk_ext [i8]
  rw [e]
  obtain ⟨h, q, hj | hj⟩ := col_both j
  · exact (tile_plain m c t p j h q hj (by omega)).trans (out_plain _ _ _ _ _ _ _ _ j h q hj).symm
  · exact (tile_mixed m c t p j h q hj (by omega)).trans (out_mixed _ _ _ _ _ _ _ _ j h q hj).symm

end Kernel

section Reference

open Cert.MixRefIdeal Cert.MixRefIdeal.Gen

variable (m : (ℓ : Loc nD τ sig) → Buf (Elt Ideal) ℓ)

theorem ref_plain (c : Dev nD) (r : Fin 4096) (h : Fin 4) (q : Fin 128) :
    Cert.MixRefIdeal.Value.res_main_v44 m c (ix2 r ⟨h.val * 128 + q.val, by omega⟩) = (outPlain (head (m ((c.tc : Thread nD τ).loc main_arg0)) r h)
      (headAt 1536 (by decide) (m ((c.tc : Thread nD τ).loc main_arg1) : Vec Ideal S4096x3712 .f32) r h) (head (m ((c.tc : Thread nD τ).loc main_arg4)) 0 h) q : EReal) := by
  unfold Cert.MixRefIdeal.Value.res_main_v44
  pointwise
  rw [dif_pos (head_lt h q)]
  rfl

theorem ref_mixed (c : Dev nD) (r : Fin 4096) (h : Fin 4) (q : Fin 128) :
    Cert.MixRefIdeal.Value.res_main_v44 m c (ix2 r ⟨512 + (h.val * 128 + q.val), by omega⟩) = (outMixed (head (m ((c.tc : Thread nD τ).loc main_arg2)) r h)
      (head (m ((c.tc : Thread nD τ).loc main_arg3)) r h) (headAt 3072 (by decide) (m ((c.tc : Thread nD τ).loc main_arg1) : Vec Ideal S4096x3712 .f32) r h)
      (head (m ((c.tc : Thread nD τ).loc main_arg5)) 0 h) (head (m ((c.tc : Thread nD τ).loc main_arg6)) 0 h) q : EReal) := by
  unfold Cert.MixRefIdeal.Value.res_main_v44
  pointwise
  rfl

theorem ref_out (c : Dev nD) : Cert.MixRefIdeal.Value.res_main_v44 m c = outA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨r, j, rfl⟩ : ∃ (r : Fin 4096) (j : Fin 1024), i = (ix2 r j : S4096x1024.Idx) := ⟨i 0, i 1, eq_ix2 (n0 := 4096) (n1 := 1024) i⟩
  obtain ⟨h, q, hj | hj⟩ := col_both j
  · rw [show j = ⟨h.val * 128 + q.val, by omega⟩ from Fin.ext hj]
    exact (ref_plain m c r h q).trans (out_plain _ _ _ _ _ _ _ _ _ h q rfl).symm
  · rw [show j = ⟨512 + (h.val * 128 + q.val), by omega⟩ from Fin.ext hj]
    exact (ref_mixed m c r h q).trans (out_mixed _ _ _ _ _ _ _ _ _ h q rfl).symm

end Reference

theorem frame_p : Cert.quiescent_Mix := fun m ρ _ => Cert.Mix.Gen.frame m ρ

theorem frame_pi : Cert.quiescent_MixIdeal := fun m ρ _ => Cert.MixIdeal.Gen.frame m ρ

theorem frame_ri : Cert.quiescent_MixRefIdeal := fun m ρ _ =>
  (θ_run Cert.MixRefIdeal.defs _ _).mono
    (fun r h => ⟨fun c => (h c).2, Idealize.ShloMosaic.sem_eq_zero_of_no_sems (by decide) r.2⟩) (Cert.MixRefIdeal.Value.run m ρ)

theorem algebraic : Cert.algebraic_MixIdeal_MixRefIdeal := by
  intro m g m' g' _ hargs
  refine ⟨fun c => outA _ _ _ _ _ _ _, (θ_run Cert.MixIdeal.defs _ _).mono
    (fun r h c => ⟨(h c).1.trans (final m c), (h c).2⟩) (Cert.MixIdeal.Value.run_blocks m g), ?_⟩
  refine (θ_run Cert.MixRefIdeal.defs _ _).mono (fun r h c => ?_) (Cert.MixRefIdeal.Value.run m' g')
  obtain ⟨e0, e1, e2, e3, e4, e5, e6⟩ := hargs c
  exact ⟨(h c).1.trans ((ref_out m' c).trans (by rw [e0, e1, e2, e3, e4, e5, e6])), (h c).2⟩

end Cert.MixClaims

end
-- ==== Proof.UpdateClaims.lean ====
/- The optimiser's step on one array of weights (Update, UpdateRef): the gradient as the sum of its eight slots, both moments, and the
   step itself, element by element. -/
module

public import proofs.«01_k».proof.Defs
public import proofs.«01_k».proof.Proof.Gen.Update.Frame
public import proofs.«01_k».proof.Proof.Gen.UpdateIdeal.Value
public import proofs.«01_k».proof.Proof.Gen.UpdateRefIdeal.Run
public import Idealize.ShloMosaic.Lib.Pipeline.ValueKit

@[expose] public section

set_option maxRecDepth 16384

noncomputable section

namespace Cert.UpdateClaims

open Idealize.ShloMosaic Idealize.ShloMosaic.TcCoe Idealize.SL.Sem

abbrev Weights : Shape := ⟨3, ![1, 1024, 256]⟩
abbrev Slots : Shape := ⟨3, ![8, 1024, 256]⟩

/-- One element's gradient: what the eight devices sent, added up. -/
def total (s : Slots.Idx → Ideal .bf16) (r : Fin 1024) (q : Fin 256) : EReal := ∑ k : Fin 8, (s (ix3 k r q) : EReal)

def moment (m g : EReal) : EReal := Ideal.ofBits .f32 0x3F666666#32 * m + Ideal.ofBits .f32 0x3DCCCCCD#32 * g

def square (v g : EReal) : EReal := Ideal.ofBits .f32 0x3F7FBE77#32 * v + Ideal.ofBits .f32 0x3A83126F#32 * (g * g)

/-- The step from both moments and the weight. -/
def step (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

def outG (s : Slots.Idx → Ideal .bf16) : Weights.Idx → Ideal .f32 := fun i => (total s (i 1) (i 2) : EReal)

def outM (m : Weights.Idx → Ideal .f32) (s : Slots.Idx → Ideal .bf16) : Weights.Idx → Ideal .f32 :=
  fun i => (moment (m i) (total s (i 1) (i 2)) : EReal)

def outV (v : Weights.Idx → Ideal .f32) (s : Slots.Idx → Ideal .bf16) : Weights.Idx → Ideal .f32 :=
  fun i => (square (v i) (total s (i 1) (i 2)) : EReal)

def outD (w m v : Weights.Idx → Ideal .f32) (s : Slots.Idx → Ideal .bf16) : Weights.Idx → Ideal .f32 :=
  fun i => (step (w i) (outM m s i) (outV v s i) : EReal)

theorem only_row (i : Weights.Idx) : ∃ (r : Fin 1024) (q : Fin 256), i = ix3 0 r q :=
  ⟨i 1, i 2, (eq_ix3 i).trans (by rw [show i 0 = (0 : Fin 1) from Subsingleton.elim (α := Fin 1) _ _])⟩

section Kernel

open Cert.UpdateIdeal Cert.UpdateIdeal.Gen Cert.UpdateIdeal.Value

theorem total_apply (w m v : Vec Ideal S1x1024x256 .f32) (s : Vec Ideal S8x1024x256 .bf16) (r : Fin 1024) (q : Fin 256) :
    k0_pay11 w m v s (ix2 r q) = (total s r q : EReal) := by
  unfold k0_pay11 k0_pay2 total
  rw [Fin.sum_univ_eight]
  pointwise

theorem G4_eq (w m v : Vec Ideal S1x1024x256 .f32) (s : Vec Ideal S8x1024x256 .bf16) : G4 w m v s = outG s := by
  funext i
  obtain ⟨r, q, rfl⟩ := only_row i
  unfold G4 k0_pay6
  pointwise
  exact total_apply w m v s r q

theorem G6_eq (w m v : Vec Ideal S1x1024x256 .f32) (s : Vec Ideal S8x1024x256 .bf16) : G6 w m v s = outM m s := by
  funext i
  obtain ⟨r, q, rfl⟩ := only_row i
  unfold G6 k0_pay7 k0_pay4
  pointwise
  rw [total_apply w m v s r q]
  rfl

theorem G7_eq (w m v : Vec Ideal S1x1024x256 .f32) (s : Vec Ideal S8x1024x256 .bf16) : G7 w m v s = outV v s := by
  funext i
  obtain ⟨r, q, rfl⟩ := only_row i
  unfold G7 k0_pay8 k0_pay5
  pointwise
  rw [total_apply w m v s r q]
  rfl

theorem G5_eq (w m v : Vec Ideal S1x1024x256 .f32) (s : Vec Ideal S8x1024x256 .bf16) : G5 w m v s = outD w m v s := by
  funext i
  obtain ⟨r, q, rfl⟩ := only_row i
  unfold G5 k0_pay1 k0_pay10 k0_pay9 k0_pay5 k0_pay4 k0_pay3
  pointwise
  rw [total_apply w m v s r q]
  rfl

end Kernel

section Reference

open Cert.UpdateRefIdeal Cert.UpdateRefIdeal.Gen

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = outG (m ((c.tc : Thread nD τ).loc main_arg3))
      ∧ r.2.mem ((c.tc : Thread nD τ).loc main_v26) = outD (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v7) = outM (m ((c.tc : Thread nD τ).loc main_arg1)) (m ((c.tc : Thread nD τ).loc main_arg3))
      ∧ r.2.mem ((c.tc : Thread nD τ).loc main_v13) = outV (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2.1.trans ?_, (h c).2.2.2.1.trans ?_, (h c).2.2.2.2⟩)
    (Cert.UpdateRefIdeal.Value.run m ρ)
  all_goals
    clear h
    funext i
    obtain ⟨r, q, rfl⟩ := only_row i
    pointwise
    rfl

end Reference

theorem frame_p : Cert.quiescent_Update := fun m ρ _ => Cert.Update.Gen.frame m ρ

theorem frame_pi : Cert.quiescent_UpdateIdeal := fun m ρ _ => Cert.UpdateIdeal.Gen.frame m ρ

theorem frame_ri : Cert.quiescent_UpdateRefIdeal := fun m ρ _ =>
  (θ_run Cert.UpdateRefIdeal.defs _ _).mono
    (fun r h => ⟨fun c => (h c).2.2.2.2, Idealize.ShloMosaic.sem_eq_zero_of_no_sems (by decide) r.2⟩) (Cert.UpdateRefIdeal.Value.run m ρ)

theorem algebraic : Cert.algebraic_UpdateIdeal_UpdateRefIdeal := by
  intro m g m' g' _ hargs
  refine ⟨fun c => outG _, fun c => outD _ _ _ _, fun c => outM _ _, fun c => outV _ _, (θ_run Cert.UpdateIdeal.defs _ _).mono
    (fun r h c => ⟨(h c).1.trans (G4_eq ..), (h c).2.1.trans (G5_eq ..), (h c).2.2.1.trans (G6_eq ..), (h c).2.2.2.1.trans (G7_eq ..), (h c).2.2.2.2⟩)
    (Cert.UpdateIdeal.Value.run m g), ?_⟩
  refine (θ_run Cert.UpdateRefIdeal.defs _ _).mono (fun r h c => ?_) (run_ref m' g')
  obtain ⟨e0, e1, e2, e3⟩ := hargs c
  exact ⟨(h c).1.trans (by rw [e3]), (h c).2.1.trans (by rw [e0, e1, e2, e3]), (h c).2.2.1.trans (by rw [e1, e3]),
    (h c).2.2.2.1.trans (by rw [e2, e3]), (h c).2.2.2.2⟩

end Cert.UpdateClaims

end
-- ==== Proof.MixInSpec.lean ====
/- What the chunked recurrences take: activations, forget gate, keys and queries, element by element. -/
module

public import proofs.«01_k».proof.Defs
public import proofs.«01_k».proof.Proof.HeadNorm
public import Idealize.ShloMosaic.Lib.Pipeline.ValueKit

@[expose] public section

set_option maxRecDepth 16384

noncomputable section

namespace Cert.MixInSpec

open Idealize.ShloMosaic Idealize.ShloMosaic.TcCoe Idealize.SL.Sem Cert.HeadNorm

abbrev Wide : Shape := ⟨2, ![4096, 3712]⟩
abbrev Half : Shape := ⟨2, ![4096, 512]⟩
abbrev Lanes : Shape := ⟨2, ![4096, 128]⟩
abbrev Logits : Shape := ⟨2, ![3, 512]⟩
abbrev Blocks : Shape := ⟨3, ![128, 4, 4]⟩
abbrev Bias : Shape := ⟨1, ![8]⟩

def top (a b c : EReal) : EReal := max (max a b) c

/-- The first of three logits' share under the softmax. -/
def share (a b c : EReal) : EReal :=
  Ideal.div (Ideal.exp (a - top a b c)) (Ideal.exp (a - top a b c) + Ideal.exp (b - top a b c) + Ideal.exp (c - top a b c))

/-- The forget gate above its lower bound. -/
def forget (l a : EReal) : EReal := l + (1 - l) * sigm a

def tail (g : EReal) : EReal := Ideal.log1p (Ideal.exp (-(max g (-g))))

def logSig (g : EReal) : EReal := min g 0 - tail g

/-- The first four lanes are input gates, the others forget gates. -/
def gate (k : Fin 128) (g : EReal) : EReal := if k.val < 4 then g else logSig g

/-- Bias of eight lanes, continued by zeros. -/
def biasAt (b : Bias.Idx → Ideal .f32) (k : Fin 128) : EReal := if h : k.val < 8 then b (ix1 ⟨k.val, h⟩) else 0

/-- Block `j / 4` of a block-diagonal map. -/
def mapped (x : Half.Idx → Ideal .f32) (w : Blocks.Idx → Ideal .f32) (r : Fin 4096) (j : Fin 512) : EReal :=
  ∑ i : Fin 4, silu (x (ix2 r ⟨j.val / 4 * 4 + i.val, by omega⟩)) * w (ix3 ⟨j.val / 4, by omega⟩ ⟨j.val % 4, by omega⟩ i)

def lower (l : Logits.Idx → Ideal .f32) (j : Fin 512) : EReal := share (l (ix2 0 j)) (l (ix2 1 j)) (l (ix2 2 j))

def outQ (p : Wide.Idx → Ideal .f32) : Half.Idx → Ideal .f32 := fun i => (silu (p (ix2 (i 0) ⟨(i 1).val, by have := (i 1).isLt; dsimp only [Matrix.cons_val_one, Matrix.cons_val_zero] at this; omega⟩)) : EReal)

def keep (p : Wide.Idx → Ideal .f32) (l : Logits.Idx → Ideal .f32) (r : Fin 4096) (j : Fin 512) : EReal :=
  forget (lower l j) (p (ix2 r ⟨512 + j.val, by omega⟩))

def outK (p : Wide.Idx → Ideal .f32) (l : Logits.Idx → Ideal .f32) : Half.Idx → Ideal .f32 := fun i => (1 - keep p l (i 0) (i 1) : EReal)

def outF (p : Wide.Idx → Ideal .f32) (l : Logits.Idx → Ideal .f32) : Half.Idx → Ideal .f32 := fun i => (Ideal.log (keep p l (i 0) (i 1)) : EReal)

def outX (x : Half.Idx → Ideal .f32) : Half.Idx → Ideal .f32 := fun i => (silu (x i) : EReal)

def outM (x : Half.Idx → Ideal .f32) (w : Blocks.Idx → Ideal .f32) : Half.Idx → Ideal .f32 := fun i => (mapped x w (i 0) (i 1) : EReal)

def outS (x : Half.Idx → Ideal .f32) (w : Blocks.Idx → Ideal .f32) : Half.Idx → Ideal .f32 :=
  fun i => (mapped x w (i 0) (i 1) * Ideal.ofBits .f32 0x3DB504F3#32 : EReal)

def outG (p : Wide.Idx → Ideal .f32) (b : Bias.Idx → Ideal .f32) : Lanes.Idx → Ideal .f32 :=
  fun i => (gate (i 1) (p (ix2 (i 0) ⟨3584 + (i 1).val, by have := (i 1).isLt; dsimp only [Matrix.cons_val_one, Matrix.cons_val_zero] at this; omega⟩) + biasAt b (i 1)) : EReal)

/-! ## The logarithm of the logistic, both ways -/

/-- Nonnegative reals have a real `log1p`. -/
theorem log1p_real (x : ℝ) (h : 0 ≤ x) : Ideal.log1p (x : EReal) = ((Real.log (1 + x) : ℝ) : EReal) := by
  unfold Ideal.log1p
  rw [← EReal.coe_one, ← EReal.coe_add, Ideal.log_coe, if_neg (by linarith)]

theorem tail_fin (g : EReal) : ∃ t : ℝ, tail g = t := by
  have z : ∀ y : EReal, y = ⊥ → ∃ t : ℝ, Ideal.log1p (Ideal.exp y) = t := by
    rintro _ rfl
    exact ⟨_, by rw [Ideal.exp_bot]; exact log1p_real 0 le_rfl⟩
  unfold tail
  induction g with
  | bot => exact z _ (by simp)
  | top => exact z _ (by simp)
  | coe x =>
    have e : -(max (x : EReal) (-x)) = ((-(max x (-x)) : ℝ) : EReal) := by
      rw [EReal.coe_neg, ← EReal.coe_neg x]
      exact congrArg _ (EReal.coe_strictMono.monotone.map_max).symm
    rw [e, Ideal.exp_coe]
    exact ⟨_, log1p_real _ (Real.exp_pos _).le⟩

/-- `-softplus (-g)` is `log (sigmoid g)`. -/
theorem logSig_neg (g : EReal) : -(max (-g) 0 + Ideal.log1p (Ideal.exp (-(max (-g) (- -g))))) = logSig g := by
  have e : Ideal.log1p (Ideal.exp (-(max (-g) (- -g)))) = tail g := by unfold tail; rw [neg_neg, max_comm]
  rw [e]
  obtain ⟨t, ht⟩ := tail_fin g
  unfold logSig
  rw [ht, EReal.neg_add (Or.inr (EReal.coe_ne_top t)) (Or.inr (EReal.coe_ne_bot t))]
  congr 1
  rcases le_total g 0 with h | h
  · rw [max_eq_left (by simpa using h), neg_neg, min_eq_left h]
  · rw [max_eq_right (by simpa using h), neg_zero, min_eq_right h]

end Cert.MixInSpec

end
-- ==== Proof.MixInClaims.lean ====
/- The elementwise head of the chunked recurrences (MixIn, MixInRef). -/
module

public import proofs.«01_k».proof.Defs
public import proofs.«01_k».proof.Proof.MixInSpec
public import proofs.«01_k».proof.Proof.Gen.MixIn.Frame
public import proofs.«01_k».proof.Proof.Gen.MixInIdeal.Value
public import proofs.«01_k».proof.Proof.Gen.MixInRefIdeal.Run
public import Idealize.ShloMosaic.Lib.Pipeline.ValueKit

@[expose] public section

set_option maxRecDepth 16384

noncomputable section

namespace Cert.MixInClaims

open Idealize.ShloMosaic Idealize.ShloMosaic.TcCoe Idealize.SL.Sem Cert.HeadNorm Cert.MixInSpec

/-! ## Sums over blocks, maxima over rows -/

/-- Of a block-diagonal matrix's column only its own block counts. -/
theorem own_block (s a : Fin 512 → EReal) (j : Fin 512) :
    (∑ k : Fin 512, s k * if k.val / 4 = j.val / 4 then a k else 0) = ∑ i : Fin 4, s ⟨j.val / 4 * 4 + i.val, by omega⟩ * a ⟨j.val / 4 * 4 + i.val, by omega⟩ := by
  refine (Finset.sum_of_injOn (fun i : Fin 4 => (⟨j.val / 4 * 4 + i.val, by omega⟩ : Fin 512)) (fun x _ y _ h => Fin.ext ?_) (fun _ _ => Finset.mem_coe.mpr (Finset.mem_univ _)) (fun k _ hk => ?_) fun i _ => ?_).symm
  · have := congrArg Fin.val h
    dsimp only at this
    omega
  · rw [if_neg, mul_zero]
    intro e
    exact hk ⟨⟨k.val % 4, by omega⟩, Finset.mem_coe.mpr (Finset.mem_univ _), Fin.ext (by dsimp only; omega)⟩
  · dsimp only
    rw [if_pos (by omega)]

theorem max_word (x : EReal) : max (Ideal.ofBits .f32 0xFF800000#32) x = x := by
  rw [show Ideal.ofBits .f32 0xFF800000#32 = (⊥ : EReal) from by simp [Ideal.ofBits, Ideal.ieee]]
  exact max_eq_right bot_le

theorem fold_three (f : Fin 3 → EReal) : (Finset.univ : Finset (Fin 3)).fold max (Ideal.ofBits .f32 0xFF800000#32) f = top (f 0) (f 1) (f 2) := by
  rw [show (Finset.univ : Finset (Fin 3)) = {0, 1, 2} from rfl, Finset.fold_insert (by decide), Finset.fold_insert (by decide), Finset.fold_singleton,
    max_comm (f 2), max_word, ← max_assoc]
  rfl

section Kernel

open Cert.MixInIdeal Cert.MixInIdeal.Gen

variable (m : (ℓ : Loc nD τ sig) → Buf (Elt Ideal) ℓ)

theorem index_eq : ∀ t : Fin cfg0.N, win0_0.index t = ![t.val, 0] ∧ win0_1.index t = ![t.val, 1] ∧ win0_2.index t = ![t.val, 0] ∧ win0_3.index t = ![t.val, 28]
    ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, win0_0.index t = ![t.val, 0] ∧ win0_1.index t = ![t.val, 1] ∧ win0_2.index t = ![t.val, 0] ∧ win0_3.index t = ![t.val, 28]
    ∧ win0_4.index t = ![0, 0] ∧ win0_5.index t = ![0, 0] ∧ win0_6.index t = ![0, 0] ∧ win0_7.index t = ![0, 0] ∧ win0_8.index t = ![0, 0] ∧ win0_9.index t = ![0, 0])

theorem index_out : ∀ t : Fin cfg0.N, win0_10.index t = ![t.val, 0] ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0] :=
  (by decide +kernel : ∀ t : Fin grid0.N, win0_10.index t = ![t.val, 0] ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0])

/-! ## The payloads -/

theorem q_apply (a : Vec Ideal S512x512 .f32) (p j : Fin 512) : k0_pay10 a (ix2 p j) = (silu (a (ix2 p j)) : EReal) := by
  unfold k0_pay10
  pointwise
  rfl

theorem x_apply (a : Vec Ideal S512x512 .f32) (p j : Fin 512) : k0_pay4 a (ix2 p j) = (silu (a (ix2 p j)) : EReal) := by
  unfold k0_pay4
  pointwise
  rfl

theorem f_apply (a : Vec Ideal S512x512 .f32) (l0 l1 l2 : Vec Ideal S1x512 .f32) (p j : Fin 512) :
    k0_pay3 a l0 l1 l2 (ix2 p j) = (forget (share (l0 (ix2 0 j)) (l1 (ix2 0 j)) (l2 (ix2 0 j))) (a (ix2 p j)) : EReal) := by
  unfold k0_pay3
  pointwise
  rfl

theorem k_apply (f : FVec Ideal S512x512 .f32) (p j : Fin 512) : k0_pay11 f (ix2 p j) = (1 - f (ix2 p j) : EReal) := by
  unfold k0_pay11
  pointwise

theorem l_apply (f : FVec Ideal S512x512 .f32) (p j : Fin 512) : k0_pay12 f (ix2 p j) = (Ideal.log (f (ix2 p j)) : EReal) := by
  unfold k0_pay12
  pointwise

theorem m_apply (x w : Vec Ideal S512x512 .f32) (p j : Fin 512) : k0_pay7 (k0_pay5 x) (k0_pay6 w) (ix2 p j) = (∑ k : Fin 512, silu (x (ix2 p k)) * w (ix2 k j) : EReal) := by
  unfold k0_pay7 k0_pay6 k0_pay5 k0_pay4
  pointwise
  rfl

theorem s_apply (x w : Vec Ideal S512x512 .f32) (p j : Fin 512) :
    k0_pay8 (k0_pay1 w) (k0_pay4 x) (ix2 p j) = ((∑ k : Fin 512, silu (x (ix2 p k)) * w (ix2 k j)) * Ideal.ofBits .f32 0x3DB504F3#32 : EReal) := by
  unfold k0_pay8 k0_pay1 k0_pay4
  pointwise
  rfl

theorem g_apply (a : Vec Ideal S512x128 .f32) (b : Vec Ideal S1x128 .f32) (p : Fin 512) (j : Fin 128) :
    k0_pay9 a (k0_pay2 b) (ix2 p j) = (gate j (a (ix2 p j) + b (ix2 0 j)) : EReal) := by
  unfold k0_pay9 k0_pay2
  pointwise
  rw [zero_sub]
  unfold gate
  have hj := j.isLt
  by_cases h : j.val < 4
  · rw [if_pos h, show IntOp.cmpi CmpIPredicate.slt (BitVec.ofNat 32 j.val) 4#32 = 1#1 from by
      have : (⟨j.val, hj⟩ : Fin 128) = j := rfl
      revert h; revert j; decide]
    rfl
  · rw [if_neg h, show IntOp.cmpi CmpIPredicate.slt (BitVec.ofNat 32 j.val) 4#32 = 0#1 from by
      revert h; revert j; decide]
    rfl

/-! ## Host arguments -/

theorem quarter : ∀ k : Fin 512, IntOp.divsi ArithUnit.host (BitVec.ofNat 32 k.val) 4#32 = BitVec.ofNat 32 (k.val / 4) := by decide +kernel

theorem same_block (k j : Fin 512) (x : EReal) :
    Scalar.select (IntOp.cmpi .eq (IntOp.divsi ArithUnit.host (BitVec.ofNat 32 k.val) 4#32) (IntOp.divsi ArithUnit.host (BitVec.ofNat 32 j.val) 4#32)) x 0
      = (if k.val / 4 = j.val / 4 then x else 0) := by
  rw [quarter, quarter]
  have hk := k.isLt
  have hj := j.isLt
  by_cases h : k.val / 4 = j.val / 4
  · rw [if_pos h, h]
    simp [Scalar.select, IntOp.cmpi]
  · have e : BitVec.ofNat 32 (k.val / 4) ≠ BitVec.ofNat 32 (j.val / 4) := fun e => h (by
      have := congrArg BitVec.toNat e
      simp only [BitVec.toNat_ofNat] at this
      omega)
    have e' : (BitVec.ofNat 32 (k.val / 4) == BitVec.ofNat 32 (j.val / 4)) = false := beq_false_of_ne e
    rw [if_neg h]
    simp [Scalar.select, IntOp.cmpi, e']

theorem sitofp_zero : (FloatOps.sitofp FTy.f32 0#32 : Ideal .f32) = (0 : EReal) := by
  simp [FloatOps.sitofp]

theorem host_wq (c : Dev nD) (k j : Fin 512) : (V m c main_v14 : Vec Ideal S512x512 .f32) (ix2 k j)
    = (if k.val / 4 = j.val / 4 then (m ((c.tc : Thread nD τ).loc main_arg3) : Vec Ideal S128x4x4 .f32) (ix3 ⟨k.val / 4, by omega⟩ ⟨j.val % 4, by omega⟩ ⟨k.val % 4, by omega⟩) else 0 : EReal) := by
  unfold_abbrev_sides
  simp only [List.flatten_cons, List.flatten_nil, List.append_nil, List.cons_append, List.nil_append, StableHlo.TRef.unary, StableHlo.TRef.binary, StableHlo.TRef.ternary,
    StableHlo.TRef.toBuf, StableHlo.TRef.ofBuf, cast_eq]
  after_results_simp
  simp only [id_eq]
  pointwise
  exact same_block k j _

theorem host_wk (c : Dev nD) (k j : Fin 512) : (V m c main_v29 : Vec Ideal S512x512 .f32) (ix2 k j)
    = (if k.val / 4 = j.val / 4 then (m ((c.tc : Thread nD τ).loc main_arg4) : Vec Ideal S128x4x4 .f32) (ix3 ⟨k.val / 4, by omega⟩ ⟨j.val % 4, by omega⟩ ⟨k.val % 4, by omega⟩) else 0 : EReal) := by
  unfold_abbrev_sides
  simp only [List.flatten_cons, List.flatten_nil, List.append_nil, List.cons_append, List.nil_append, StableHlo.TRef.unary, StableHlo.TRef.binary, StableHlo.TRef.ternary,
    StableHlo.TRef.toBuf, StableHlo.TRef.ofBuf, cast_eq]
  after_results_simp
  simp only [id_eq]
  pointwise
  exact same_block k j _

theorem host_bias (c : Dev nD) (j : Fin 128) : (V m c main_v31 : Vec Ideal S1x128 .f32) (ix2 0 j) = (biasAt (m ((c.tc : Thread nD τ).loc main_arg5)) j : EReal) := by
  unfold_abbrev_sides
  simp only [List.flatten_cons, List.flatten_nil, List.append_nil, List.cons_append, List.nil_append, StableHlo.TRef.unary, StableHlo.TRef.binary, StableHlo.TRef.ternary,
    StableHlo.TRef.toBuf, StableHlo.TRef.ofBuf, cast_eq]
  after_results_simp
  pointwise
  unfold biasAt
  simp only [sitofp_zero]

theorem host_l0 (c : Dev nD) (j : Fin 512) : (V m c main_v34 : Vec Ideal S1x512 .f32) (ix2 0 j) = (m ((c.tc : Thread nD τ).loc main_arg2) : Vec Ideal S3x512 .f32) (ix2 0 j) := by
  unfold_abbrev_sides
  simp only [List.flatten_cons, List.flatten_nil, List.append_nil, List.cons_append, List.nil_append, StableHlo.TRef.unary, StableHlo.TRef.binary, StableHlo.TRef.ternary,
    StableHlo.TRef.toBuf, StableHlo.TRef.ofBuf, cast_eq]
  after_results_simp
  pointwise

theorem host_l1 (c : Dev nD) (j : Fin 512) : (V m c main_v37 : Vec Ideal S1x512 .f32) (ix2 0 j) = (m ((c.tc : Thread nD τ).loc main_arg2) : Vec Ideal S3x512 .f32) (ix2 1 j) := by
  unfold_abbrev_sides
  simp only [List.flatten_cons, List.flatten_nil, List.append_nil, List.cons_append, List.nil_append, StableHlo.TRef.unary, StableHlo.TRef.binary, StableHlo.TRef.ternary,
    StableHlo.TRef.toBuf, StableHlo.TRef.ofBuf, cast_eq]
  after_results_simp
  pointwise

theorem host_l2 (c : Dev nD) (j : Fin 512) : (V m c main_v40 : Vec Ideal S1x512 .f32) (ix2 0 j) = (m ((c.tc : Thread nD τ).loc main_arg2) : Vec Ideal S3x512 .f32) (ix2 2 j) := by
  unfold_abbrev_sides
  simp only [List.flatten_cons, List.flatten_nil, List.append_nil, List.cons_append, List.nil_append, StableHlo.TRef.unary, StableHlo.TRef.binary, StableHlo.TRef.ternary,
    StableHlo.TRef.toBuf, StableHlo.TRef.ofBuf, cast_eq]
  after_results_simp
  pointwise

/-! ## The blocks the body reads -/

set_option maxHeartbeats 1600000 in
theorem rows (c : Dev nD) (t : Fin cfg0.N) (p j : Fin 512) (k : Fin 128) (hr : 512 * t.val + p.val < 4096) :
    (X0_0 m c t : Vec Ideal S512x512 .f32) (ix2 p j) = (m ((c.tc : Thread nD τ).loc main_arg0) : Vec Ideal S4096x3712 .f32) (ix2 ⟨512 * t.val + p.val, hr⟩ ⟨j.val, by omega⟩)
    ∧ (X0_1 m c t : Vec Ideal S512x512 .f32) (ix2 p j) = (m ((c.tc : Thread nD τ).loc main_arg0) : Vec Ideal S4096x3712 .f32) (ix2 ⟨512 * t.val + p.val, hr⟩ ⟨512 + j.val, by omega⟩)
    ∧ (iblk m c 2 t : Vec Ideal S512x512 .f32) (ix2 p j) = (m ((c.tc : Thread nD τ).loc main_arg1) : Vec Ideal S4096x512 .f32) (ix2 ⟨512 * t.val + p.val, hr⟩ j)
    ∧ (iblk m c 3 t : Vec Ideal S512x128 .f32) (ix2 p k) = (m ((c.tc : Thread nD τ).loc main_arg0) : Vec Ideal S4096x3712 .f32) (ix2 ⟨512 * t.val + p.val, hr⟩ ⟨3584 + k.val, by omega⟩) := by
  obtain ⟨i0, i1, i2, i3, -⟩ := index_eq t
  refine ⟨?_, ?_, ?_, ?_⟩
  · unfold X0_0 Pipeline.Window.fill
    rw [dif_pos (moved0_0 t _)]
    blk_ext [iblk, V_main_arg0, i0]
  · unfold X0_1 Pipeline.Window.fill
    rw [dif_pos (moved0_1 t _)]
    blk_ext [iblk, V_main_arg0, i1]
  · blk_ext [iblk, V_main_arg1, i2]
  · blk_ext [iblk, V_main_arg0, i3]

set_option maxHeartbeats 1600000 in
theorem params (c : Dev nD) (t : Fin cfg0.N) (p j : Fin 512) (k : Fin 128) :
    (iblk m c 4 t : Vec Ideal S1x512 .f32) (ix2 0 j) = (m ((c.tc : Thread nD τ).loc main_arg2) : Vec Ideal S3x512 .f32) (ix2 0 j)
    ∧ (iblk m c 5 t : Vec Ideal S1x512 .f32) (ix2 0 j) = (m ((c.tc : Thread nD τ).loc main_arg2) : Vec Ideal S3x512 .f32) (ix2 1 j)
    ∧ (iblk m c 6 t : Vec Ideal S1x512 .f32) (ix2 0 j) = (m ((c.tc : Thread nD τ).loc main_arg2) : Vec Ideal S3x512 .f32) (ix2 2 j)
    ∧ (iblk m c 7 t : Vec Ideal S512x512 .f32) (ix2 p j) = (V m c main_v14 : Vec Ideal S512x512 .f32) (ix2 p j)
    ∧ (iblk m c 8 t : Vec Ideal S512x512 .f32) (ix2 p j) = (V m c main_v29 : Vec Ideal S512x512 .f32) (ix2 p j)
    ∧ (iblk m c 9 t : Vec Ideal S1x128 .f32) (ix2 0 k) = (biasAt (m ((c.tc : Thread nD τ).loc main_arg5)) k : EReal) := by
  obtain ⟨-, -, -, -, i4, i5, i6, i7, i8, i9⟩ := index_eq t
  refine ⟨Eq.trans ?_ (host_l0 m c j), Eq.trans ?_ (host_l1 m c j), Eq.trans ?_ (host_l2 m c j), ?_, ?_, Eq.trans ?_ (host_bias m c k)⟩
  · blk_ext [iblk, i4]
  · blk_ext [iblk, i5]
  · blk_ext [iblk, i6]
  · blk_ext [iblk, i7]
  · blk_ext [iblk, i8]
  · blk_ext [iblk, i9]

/-! ## The outputs -/

set_option maxHeartbeats 3200000 in
theorem stored (c : Dev nD) (t : Fin cfg0.N) :
    (outsAt0 m c t).1 = k0_pay10 (X0_0 m c t : Vec Ideal S512x512 .f32)
    ∧ (outsAt0 m c t).2.1 = k0_pay11 (k0_pay3 (X0_1 m c t : Vec Ideal S512x512 .f32) (iblk m c 4 t : Vec Ideal S1x512 .f32) (iblk m c 5 t : Vec Ideal S1x512 .f32) (iblk m c 6 t : Vec Ideal S1x512 .f32))
    ∧ (outsAt0 m c t).2.2.1 = k0_pay12 (k0_pay3 (X0_1 m c t : Vec Ideal S512x512 .f32) (iblk m c 4 t : Vec Ideal S1x512 .f32) (iblk m c 5 t : Vec Ideal S1x512 .f32) (iblk m c 6 t : Vec Ideal S1x512 .f32))
    ∧ (outsAt0 m c t).2.2.2.1 = k0_pay4 (iblk m c 2 t : Vec Ideal S512x512 .f32)
    ∧ (outsAt0 m c t).2.2.2.2.1 = k0_pay7 (k0_pay5 (iblk m c 2 t : Vec Ideal S512x512 .f32)) (k0_pay6 (iblk m c 7 t : Vec Ideal S512x512 .f32))
    ∧ (outsAt0 m c t).2.2.2.2.2.1 = k0_pay8 (k0_pay1 (iblk m c 8 t : Vec Ideal S512x512 .f32)) (k0_pay4 (iblk m c 2 t : Vec Ideal S512x512 .f32))
    ∧ (outsAt0 m c t).2.2.2.2.2.2 = k0_pay9 (iblk m c 3 t : Vec Ideal S512x128 .f32) (k0_pay2 (iblk m c 9 t : Vec Ideal S1x128 .f32)) := by
  unfold outsAt0
  refine ⟨?_, ?_, ?_, ?_, ?_, ?_, ?_⟩
  · frame_out
  · frame_out
  · frame_out
  · frame_out
  · frame_out
  · frame_out
  · frame_out

theorem mapped_q (c : Dev nD) (t : Fin cfg0.N) (p j : Fin 512) (hr : 512 * t.val + p.val < 4096) :
    (∑ k : Fin 512, silu ((iblk m c 2 t : Vec Ideal S512x512 .f32) (ix2 p k)) * (iblk m c 7 t : Vec Ideal S512x512 .f32) (ix2 k j) : EReal)
      = mapped (m ((c.tc : Thread nD τ).loc main_arg1)) (m ((c.tc : Thread nD τ).loc main_arg3)) ⟨512 * t.val + p.val, hr⟩ j := by
  refine Eq.trans (Finset.sum_congr rfl fun k _ => ?_)
    ((own_block (fun k => silu ((m ((c.tc : Thread nD τ).loc main_arg1) : Vec Ideal S4096x512 .f32) (ix2 ⟨512 * t.val + p.val, hr⟩ k)))
      (fun k => (m ((c.tc : Thread nD τ).loc main_arg3) : Vec Ideal S128x4x4 .f32) (ix3 ⟨k.val / 4, by omega⟩ ⟨j.val % 4, by omega⟩ ⟨k.val % 4, by omega⟩)) j).trans (Finset.sum_congr rfl fun i _ => ?_))
  · rw [(rows m c t p k 0 hr).2.2.1, (params m c t k j 0).2.2.2.1, host_wq]
  · have e1 : (⟨(j.val / 4 * 4 + i.val) / 4, by omega⟩ : Fin 128) = ⟨j.val / 4, by omega⟩ := Fin.ext (by dsimp only; omega)
    have e2 : (⟨(j.val / 4 * 4 + i.val) % 4, by omega⟩ : Fin 4) = i := Fin.ext (by dsimp only; omega)
    dsimp only
    rw [e1, e2]

theorem mapped_k (c : Dev nD) (t : Fin cfg0.N) (p j : Fin 512) (hr : 512 * t.val + p.val < 4096) :
    (∑ k : Fin 512, silu ((iblk m c 2 t : Vec Ideal S512x512 .f32) (ix2 p k)) * (iblk m c 8 t : Vec Ideal S512x512 .f32) (ix2 k j) : EReal)
      = mapped (m ((c.tc : Thread nD τ).loc main_arg1)) (m ((c.tc : Thread nD τ).loc main_arg4)) ⟨512 * t.val + p.val, hr⟩ j := by
  refine Eq.trans (Finset.sum_congr rfl fun k _ => ?_)
    ((own_block (fun k => silu ((m ((c.tc : Thread nD τ).loc main_arg1) : Vec Ideal S4096x512 .f32) (ix2 ⟨512 * t.val + p.val, hr⟩ k)))
      (fun k => (m ((c.tc : Thread nD τ).loc main_arg4) : Vec Ideal S128x4x4 .f32) (ix3 ⟨k.val / 4, by omega⟩ ⟨j.val % 4, by omega⟩ ⟨k.val % 4, by omega⟩)) j).trans (Finset.sum_congr rfl fun i _ => ?_))
  · rw [(rows m c t p k 0 hr).2.2.1, (params m c t k j 0).2.2.2.2.1, host_wk]
  · have e1 : (⟨(j.val / 4 * 4 + i.val) / 4, by omega⟩ : Fin 128) = ⟨j.val / 4, by omega⟩ := Fin.ext (by dsimp only; omega)
    have e2 : (⟨(j.val / 4 * 4 + i.val) % 4, by omega⟩ : Fin 4) = i := Fin.ext (by dsimp only; omega)
    dsimp only
    rw [e1, e2]

theorem tile10 (c : Dev nD) (t : Fin cfg0.N) (p : Fin 512) (j : Fin 512) (hr : 512 * t.val + p.val < 4096) :
    (outsAt0 m c t).1 (ix2 p j) = outQ (m ((c.tc : Thread nD τ).loc main_arg0)) (ix2 ⟨512 * t.val + p.val, hr⟩ j : S4096x512.Idx) := by
  rw [(stored m c t).1, q_apply, (rows m c t p j 0 hr).1]
  rfl

theorem final10 (c : Dev nD) : (dats m 0 c).arrAt 10 cfg0.N = outQ (m ((c.tc : Thread nD τ).loc main_arg0)) := by
  refine (dats m 0 c).arrAt_eq_of_covers 10 _ (by decide +kernel) fun t hf y => ?_
  have ht : t.val < 8 := Nat.lt_of_lt_of_eq t.isLt N_0
  obtain ⟨i10, -⟩ := index_out t
  blk_simp
  rw [after0_10]
  obtain ⟨p, j, rfl⟩ : ∃ (p : Fin 512) (j : Fin 512), y = (ix2 p j : S512x512.Idx) := ⟨y 0, y 1, eq_ix2 (n0 := 512) (n1 := 512) y⟩
  have hp := p.isLt
  have e : ((win0_10.blk t).view.emb (ix2 p j : S512x512.Idx) : S4096x512.Idx) = ix2 ⟨512 * t.val + p.val, by omega⟩ j := by
    blk_ext [i10]
  rw [e]
  exact tile10 m c t p j (by omega)

theorem tile11 (c : Dev nD) (t : Fin cfg0.N) (p : Fin 512) (j : Fin 512) (hr : 512 * t.val + p.val < 4096) :
    (outsAt0 m c t).2.1 (ix2 p j) = outK (m ((c.tc : Thread nD τ).loc main_arg0)) (m ((c.tc : Thread nD τ).loc main_arg2)) (ix2 ⟨512 * t.val + p.val, hr⟩ j : S4096x512.Idx) := by
  rw [(stored m c t).2.1, k_apply, f_apply, (rows m c t p j 0 hr).2.1, (params m c t p j 0).1, (params m c t p j 0).2.1, (params m c t p j 0).2.2.1]
  rfl

theorem final11 (c : Dev nD) : (dats m 0 c).arrAt 11 cfg0.N = outK (m ((c.tc : Thread nD τ).loc main_arg0)) (m ((c.tc : Thread nD τ).loc main_arg2)) := by
  refine (dats m 0 c).arrAt_eq_of_covers 11 _ (by decide +kernel) fun t hf y => ?_
  have ht : t.val < 8 := Nat.lt_of_lt_of_eq t.isLt N_0
  obtain ⟨-, i11, -⟩ := index_out t
  blk_simp
  rw [after0_11]
  obtain ⟨p, j, rfl⟩ : ∃ (p : Fin 512) (j : Fin 512), y = (ix2 p j : S512x512.Idx) := ⟨y 0, y 1, eq_ix2 (n0 := 512) (n1 := 512) y⟩
  have hp := p.isLt
  have e : ((win0_11.blk t).view.emb (ix2 p j : S512x512.Idx) : S4096x512.Idx) = ix2 ⟨512 * t.val + p.val, by omega⟩ j := by
    blk_ext [i11]
  rw [e]
  exact tile11 m c t p j (by omega)

theorem tile12 (c : Dev nD) (t : Fin cfg0.N) (p : Fin 512) (j : Fin 512) (hr : 512 * t.val + p.val < 4096) :
    (outsAt0 m c t).2.2.1 (ix2 p j) = outF (m ((c.tc : Thread nD τ).loc main_arg0)) (m ((c.tc : Thread nD τ).loc main_arg2)) (ix2 ⟨512 * t.val + p.val, hr⟩ j : S4096x512.Idx) := by
  rw [(stored m c t).2.2.1, l_apply, f_apply, (rows m c t p j 0 hr).2.1, (params m c t p j 0).1, (params m c t p j 0).2.1, (params m c t p j 0).2.2.1]
  rfl

theorem final12 (c : Dev nD) : (dats m 0 c).arrAt 12 cfg0.N = outF (m ((c.tc : Thread nD τ).loc main_arg0)) (m ((c.tc : Thread nD τ).loc main_arg2)) := by
  refine (dats m 0 c).arrAt_eq_of_covers 12 _ (by decide +kernel) fun t hf y => ?_
  have ht : t.val < 8 := Nat.lt_of_lt_of_eq t.isLt N_0
  obtain ⟨-, -, i12, -⟩ := index_out t
  blk_simp
  rw [after0_12]
  obtain ⟨p, j, rfl⟩ : ∃ (p : Fin 512) (j : Fin 512), y = (ix2 p j : S512x512.Idx) := ⟨y 0, y 1, eq_ix2 (n0 := 512) (n1 := 512) y⟩
  have hp := p.isLt
  have e : ((win0_12.blk t).view.emb (ix2 p j : S512x512.Idx) : S4096x512.Idx) = ix2 ⟨512 * t.val + p.val, by omega⟩ j := by
    blk_ext [i12]
  rw [e]
  exact tile12 m c t p j (by omega)

theorem tile13 (c : Dev nD) (t : Fin cfg0.N) (p : Fin 512) (j : Fin 512) (hr : 512 * t.val + p.val < 4096) :
    (outsAt0 m c t).2.2.2.1 (ix2 p j) = outX (m ((c.tc : Thread nD τ).loc main_arg1)) (ix2 ⟨512 * t.val + p.val, hr⟩ j : S4096x512.Idx) := by
  rw [(stored m c t).2.2.2.1, x_apply, (rows m c t p j 0 hr).2.2.1]
  rfl

theorem final13 (c : Dev nD) : (dats m 0 c).arrAt 13 cfg0.N = outX (m ((c.tc : Thread nD τ).loc main_arg1)) := by
  refine (dats m 0 c).arrAt_eq_of_covers 13 _ (by decide +kernel) fun t hf y => ?_
  have ht : t.val < 8 := Nat.lt_of_lt_of_eq t.isLt N_0
  obtain ⟨-, -, -, i13, -⟩ := index_out t
  blk_simp
  rw [after0_13]
  obtain ⟨p, j, rfl⟩ : ∃ (p : Fin 512) (j : Fin 512), y = (ix2 p j : S512x512.Idx) := ⟨y 0, y 1, eq_ix2 (n0 := 512) (n1 := 512) y⟩
  have hp := p.isLt
  have e : ((win0_13.blk t).view.emb (ix2 p j : S512x512.Idx) : S4096x512.Idx) = ix2 ⟨512 * t.val + p.val, by omega⟩ j := by
    blk_ext [i13]
  rw [e]
  exact tile13 m c t p j (by omega)

theorem tile14 (c : Dev nD) (t : Fin cfg0.N) (p : Fin 512) (j : Fin 512) (hr : 512 * t.val + p.val < 4096) :
    (outsAt0 m c t).2.2.2.2.1 (ix2 p j) = outM (m ((c.tc : Thread nD τ).loc main_arg1)) (m ((c.tc : Thread nD τ).loc main_arg3)) (ix2 ⟨512 * t.val + p.val, hr⟩ j : S4096x512.Idx) := by
  rw [(stored m c t).2.2.2.2.1, m_apply]
  exact mapped_q m c t p j hr

theorem final14 (c : Dev nD) : (dats m 0 c).arrAt 14 cfg0.N = outM (m ((c.tc : Thread nD τ).loc main_arg1)) (m ((c.tc : Thread nD τ).loc main_arg3)) := by
  refine (dats m 0 c).arrAt_eq_of_covers 14 _ (by decide +kernel) fun t hf y => ?_
  have ht : t.val < 8 := Nat.lt_of_lt_of_eq t.isLt N_0
  obtain ⟨-, -, -, -, i14, -⟩ := index_out t
  blk_simp
  rw [after0_14]
  obtain ⟨p, j, rfl⟩ : ∃ (p : Fin 512) (j : Fin 512), y = (ix2 p j : S512x512.Idx) := ⟨y 0, y 1, eq_ix2 (n0 := 512) (n1 := 512) y⟩
  have hp := p.isLt
  have e : ((win0_14.blk t).view.emb (ix2 p j : S512x512.Idx) : S4096x512.Idx) = ix2 ⟨512 * t.val + p.val, by omega⟩ j := by
    blk_ext [i14]
  rw [e]
  exact tile14 m c t p j (by omega)

theorem tile15 (c : Dev nD) (t : Fin cfg0.N) (p : Fin 512) (j : Fin 512) (hr : 512 * t.val + p.val < 4096) :
    (outsAt0 m c t).2.2.2.2.2.1 (ix2 p j) = outS (m ((c.tc : Thread nD τ).loc main_arg1)) (m ((c.tc : Thread nD τ).loc main_arg4)) (ix2 ⟨512 * t.val + p.val, hr⟩ j : S4096x512.Idx) := by
  rw [(stored m c t).2.2.2.2.2.1, s_apply]
  exact congrArg (· * Ideal.ofBits .f32 0x3DB504F3#32) (mapped_k m c t p j hr)

theorem final15 (c : Dev nD) : (dats m 0 c).arrAt 15 cfg0.N = outS (m ((c.tc : Thread nD τ).loc main_arg1)) (m ((c.tc : Thread nD τ).loc main_arg4)) := by
  refine (dats m 0 c).arrAt_eq_of_covers 15 _ (by decide +kernel) fun t hf y => ?_
  have ht : t.val < 8 := Nat.lt_of_lt_of_eq t.isLt N_0
  obtain ⟨-, -, -, -, -, i15, -⟩ := index_out t
  blk_simp
  rw [after0_15]
  obtain ⟨p, j, rfl⟩ : ∃ (p : Fin 512) (j : Fin 512), y = (ix2 p j : S512x512.Idx) := ⟨y 0, y 1, eq_ix2 (n0 := 512) (n1 := 512) y⟩
  have hp := p.isLt
  have e : ((win0_15.blk t).view.emb (ix2 p j : S512x512.Idx) : S4096x512.Idx) = ix2 ⟨512 * t.val + p.val, by omega⟩ j := by
    blk_ext [i15]
  rw [e]
  exact tile15 m c t p j (by omega)

theorem tile16 (c : Dev nD) (t : Fin cfg0.N) (p : Fin 512) (j : Fin 128) (hr : 512 * t.val + p.val < 4096) :
    (outsAt0 m c t).2.2.2.2.2.2 (ix2 p j) = outG (m ((c.tc : Thread nD τ).loc main_arg0)) (m ((c.tc : Thread nD τ).loc main_arg5)) (ix2 ⟨512 * t.val + p.val, hr⟩ j : S4096x128.Idx) := by
  rw [(stored m c t).2.2.2.2.2.2, g_apply, (rows m c t p 0 j hr).2.2.2, (params m c t 0 0 j).2.2.2.2.2]
  rfl

theorem final16 (c : Dev nD) : (dats m 0 c).arrAt 16 cfg0.N = outG (m ((c.tc : Thread nD τ).loc main_arg0)) (m ((c.tc : Thread nD τ).loc main_arg5)) := by
  refine (dats m 0 c).arrAt_eq_of_covers 16 _ (by decide +kernel) fun t hf y => ?_
  have ht : t.val < 8 := Nat.lt_of_lt_of_eq t.isLt N_0
  obtain ⟨-, -, -, -, -, -, i16⟩ := index_out t
  blk_simp
  rw [after0_16]
  obtain ⟨p, j, rfl⟩ : ∃ (p : Fin 512) (j : Fin 128), y = (ix2 p j : S512x128.Idx) := ⟨y 0, y 1, eq_ix2 (n0 := 512) (n1 := 128) y⟩
  have hp := p.isLt
  have e : ((win0_16.blk t).view.emb (ix2 p j : S512x128.Idx) : S4096x128.Idx) = ix2 ⟨512 * t.val + p.val, by omega⟩ j := by
    blk_ext [i16]
  rw [e]
  exact tile16 m c t p j (by omega)

end Kernel

section Reference

open Cert.MixInRefIdeal Cert.MixInRefIdeal.Gen

theorem ref_gate (g : EReal) : -(if -g ≠ -g then -g else max (-g) 0 + Ideal.log1p (Ideal.exp (-(FloatOps.absf (F := Ideal) (φ := .f32) (-g) : EReal)))) = logSig g := by
  rw [if_neg (fun h => h rfl)]
  exact logSig_neg g

/-- The maximum of each column of three. -/
def tops (l : S3x512.Idx → Ideal .f32) : S512.Idx → Ideal .f32 := fun j => (top (l (ix2 0 (j 0))) (l (ix2 1 (j 0))) (l (ix2 2 (j 0))) : EReal)

theorem reduce_tops (l : S3x512.Idx → Ideal .f32) :
    Host.reduce FloatOps.maximumf l (constant S_ .f32 0xFF800000#32) reducesTo_S3x512_S512_d0 h_S_ = tops l := by
  funext j
  simp only [pointwise]
  exact fold_three _

theorem mapped_comm (x : Half.Idx → Ideal .f32) (w : Blocks.Idx → Ideal .f32) (r : Fin 4096) (j : Fin 512) :
    (∑ i : Fin 4, w (ix3 ⟨j.val / 4, by omega⟩ ⟨j.val % 4, by omega⟩ i) * silu (x (ix2 r ⟨j.val / 4 * 4 + i.val, by omega⟩)) : EReal) = mapped x w r j :=
  Finset.sum_congr rfl fun _ _ => mul_comm _ _

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = outQ (m ((c.tc : Thread nD τ).loc main_arg0))
      ∧ r.2.mem ((c.tc : Thread nD τ).loc main_v35) = outK (m ((c.tc : Thread nD τ).loc main_arg0)) (m ((c.tc : Thread nD τ).loc main_arg2))
      ∧ r.2.mem ((c.tc : Thread nD τ).loc main_v36) = outF (m ((c.tc : Thread nD τ).loc main_arg0)) (m ((c.tc : Thread nD τ).loc main_arg2))
      ∧ r.2.mem ((c.tc : Thread nD τ).loc main_v37) = outX (m ((c.tc : Thread nD τ).loc main_arg1))
      ∧ r.2.mem ((c.tc : Thread nD τ).loc main_v41) = outM (m ((c.tc : Thread nD τ).loc main_arg1)) (m ((c.tc : Thread nD τ).loc main_arg3))
      ∧ r.2.mem ((c.tc : Thread nD τ).loc main_v46) = outS (m ((c.tc : Thread nD τ).loc main_arg1)) (m ((c.tc : Thread nD τ).loc main_arg4))
      ∧ r.2.mem ((c.tc : Thread nD τ).loc main_v33) = outG (m ((c.tc : Thread nD τ).loc main_arg0)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Cert.MixInRefIdeal.Value.run m ρ)
  obtain ⟨h1, h2, h3, h4, h5, h6, h7, h8⟩ := h c
  refine ⟨h1.trans ?_, h2.trans ?_, h3.trans ?_, h4.trans ?_, h5.trans ?_, h6.trans ?_, h7.trans ?_, h8⟩
  all_goals clear h1 h2 h3 h4 h5 h6 h7 h8 h
  · generalize m ((c.tc : Thread nD τ).loc main_arg0) = a
    change S4096x3712.Idx → Ideal .f32 at a
    funext i
    obtain ⟨r, q, rfl⟩ : ∃ (r : Fin 4096) (j : Fin 512), i = (ix2 r j : S4096x512.Idx) := ⟨i 0, i 1, eq_ix2 (n0 := 4096) (n1 := 512) i⟩
    pointwise
    rfl
  · generalize m ((c.tc : Thread nD τ).loc main_arg0) = a
    change S4096x3712.Idx → Ideal .f32 at a
    generalize m ((c.tc : Thread nD τ).loc main_arg2) = l
    change S3x512.Idx → Ideal .f32 at l
    rw [reduce_tops]
    funext i
    obtain ⟨r, q, rfl⟩ : ∃ (r : Fin 4096) (j : Fin 512), i = (ix2 r j : S4096x512.Idx) := ⟨i 0, i 1, eq_ix2 (n0 := 4096) (n1 := 512) i⟩
    pointwise
    simp only [max_word, Fin.sum_univ_three]
    rfl
  · generalize m ((c.tc : Thread nD τ).loc main_arg0) = a
    change S4096x3712.Idx → Ideal .f32 at a
    generalize m ((c.tc : Thread nD τ).loc main_arg2) = l
    change S3x512.Idx → Ideal .f32 at l
    rw [reduce_tops]
    funext i
    obtain ⟨r, q, rfl⟩ : ∃ (r : Fin 4096) (j : Fin 512), i = (ix2 r j : S4096x512.Idx) := ⟨i 0, i 1, eq_ix2 (n0 := 4096) (n1 := 512) i⟩
    pointwise
    simp only [max_word, Fin.sum_univ_three]
    rfl
  · generalize m ((c.tc : Thread nD τ).loc main_arg1) = x
    change S4096x512.Idx → Ideal .f32 at x
    funext i
    obtain ⟨r, q, rfl⟩ : ∃ (r : Fin 4096) (j : Fin 512), i = (ix2 r j : S4096x512.Idx) := ⟨i 0, i 1, eq_ix2 (n0 := 4096) (n1 := 512) i⟩
    pointwise
    rfl
  · generalize m ((c.tc : Thread nD τ).loc main_arg1) = x
    change S4096x512.Idx → Ideal .f32 at x
    generalize m ((c.tc : Thread nD τ).loc main_arg3) = w
    change S128x4x4.Idx → Ideal .f32 at w
    funext i
    obtain ⟨r, q, rfl⟩ : ∃ (r : Fin 4096) (j : Fin 512), i = (ix2 r j : S4096x512.Idx) := ⟨i 0, i 1, eq_ix2 (n0 := 4096) (n1 := 512) i⟩
    pointwise
    exact mapped_comm _ _ r q
  · generalize m ((c.tc : Thread nD τ).loc main_arg1) = x
    change S4096x512.Idx → Ideal .f32 at x
    generalize m ((c.tc : Thread nD τ).loc main_arg4) = w
    change S128x4x4.Idx → Ideal .f32 at w
    funext i
    obtain ⟨r, q, rfl⟩ : ∃ (r : Fin 4096) (j : Fin 512), i = (ix2 r j : S4096x512.Idx) := ⟨i 0, i 1, eq_ix2 (n0 := 4096) (n1 := 512) i⟩
    pointwise
    exact congrArg (· * Ideal.ofBits .f32 0x3DB504F3#32) (mapped_comm _ _ r q)
  · generalize m ((c.tc : Thread nD τ).loc main_arg0) = a
    change S4096x3712.Idx → Ideal .f32 at a
    generalize m ((c.tc : Thread nD τ).loc main_arg5) = b
    change S8.Idx → Ideal .f32 at b
    funext i
    obtain ⟨r, q, rfl⟩ : ∃ (r : Fin 4096) (j : Fin 128), i = (ix2 r j : S4096x128.Idx) := ⟨i 0, i 1, eq_ix2 (n0 := 4096) (n1 := 128) i⟩
    refine Eq.trans ?_ (show (gate q (a (ix2 r ⟨3584 + q.val, by omega⟩) + biasAt b q) : EReal) = outG a b (ix2 r q) from rfl)
    pointwise
    simp only [sitofp_zero]
    unfold gate biasAt
    by_cases h : q.val < 4
    · exact (dif_pos h).trans (if_pos h).symm
    · refine (dif_neg h).trans (Eq.trans ?_ (if_neg h).symm)
      have e : 4 + (q.val - 4) = q.val := by omega
      refine (ref_gate _).trans (congrArg logSig ?_)
      simp only [e]

end Reference

theorem frame_p : Cert.quiescent_MixIn := fun m ρ _ => Cert.MixIn.Gen.frame m ρ

theorem frame_pi : Cert.quiescent_MixInIdeal := fun m ρ _ => Cert.MixInIdeal.Gen.frame m ρ

theorem frame_ri : Cert.quiescent_MixInRefIdeal := fun m ρ _ =>
  (θ_run Cert.MixInRefIdeal.defs _ _).mono
    (fun r h => ⟨fun c => (h c).2.2.2.2.2.2.2, Idealize.ShloMosaic.sem_eq_zero_of_no_sems (by decide) r.2⟩) (Cert.MixInRefIdeal.Value.run m ρ)

theorem algebraic : Cert.algebraic_MixInIdeal_MixInRefIdeal := by
  intro m g m' g' _ hargs
  refine ⟨fun c => outQ _, fun c => outK _ _, fun c => outF _ _, fun c => outX _, fun c => outM _ _, fun c => outS _ _, fun c => outG _ _, (θ_run Cert.MixInIdeal.defs _ _).mono
    (fun r h c => ⟨(h c).1.trans (final10 m c), (h c).2.1.trans (final11 m c), (h c).2.2.1.trans (final12 m c), (h c).2.2.2.1.trans (final13 m c),
      (h c).2.2.2.2.1.trans (final14 m c), (h c).2.2.2.2.2.1.trans (final15 m c), (h c).2.2.2.2.2.2.1.trans (final16 m c), (h c).2.2.2.2.2.2.2⟩) (Cert.MixInIdeal.Value.run_blocks m g), ?_⟩
  refine (θ_run Cert.MixInRefIdeal.defs _ _).mono (fun r h c => ?_) (run_ref m' g')
  obtain ⟨e0, e1, e2, e3, e4, e5⟩ := hargs c
  obtain ⟨h1, h2, h3, h4, h5, h6, h7, h8⟩ := h c
  exact ⟨h1.trans (by rw [e0]), h2.trans (by rw [e0, e2]), h3.trans (by rw [e0, e2]), h4.trans (by rw [e1]), h5.trans (by rw [e1, e3]), h6.trans (by rw [e1, e4]),
    h7.trans (by rw [e0, e5]), h8⟩

end Cert.MixInClaims

end
-- ==== Proof.AdaClaims.lean ====
/- The conditioning vector's way into the modulation: its activation (Cond, CondRef), the product with this device's columns and their bias
   (Ada, AdaRef), and the gradient of those columns (AdaBwd, AdaBwdRef), whose rows 8 to 15 the call pads with zeros. -/
module

public import proofs.«01_k».proof.Defs
public import proofs.«01_k».proof.Proof.Gen.Cond.Frame
public import proofs.«01_k».proof.Proof.Gen.CondIdeal.Value
public import proofs.«01_k».proof.Proof.Gen.CondRefIdeal.Run
public import proofs.«01_k».proof.Proof.Gen.Ada.Frame
public import proofs.«01_k».proof.Proof.Gen.AdaIdeal.Value
public import proofs.«01_k».proof.Proof.Gen.AdaRefIdeal.Run
public import proofs.«01_k».proof.Proof.Gen.AdaBwd.Frame
public import proofs.«01_k».proof.Proof.Gen.AdaBwdIdeal.Value
public import proofs.«01_k».proof.Proof.Gen.AdaBwdRefIdeal.Run
public import Idealize.ShloMosaic.Lib.Pipeline.ValueKit

@[expose] public section

set_option maxRecDepth 16384

noncomputable section

namespace Cert.AdaClaims

open Idealize.ShloMosaic Idealize.ShloMosaic.TcCoe Idealize.SL.Sem

abbrev Cond : Shape := ⟨2, ![16, 1024]⟩
abbrev Cols : Shape := ⟨2, ![1024, 1152]⟩
abbrev Mods : Shape := ⟨2, ![16, 1152]⟩
abbrev Bias : Shape := ⟨1, ![1152]⟩
abbrev Cots : Shape := ⟨2, ![8, 1152]⟩

namespace Act

open Cert.CondRefIdeal Cert.CondRefIdeal.Gen in
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = Cert.CondIdeal.Value.G1 (F := Ideal) (m ((c.tc : Thread nD τ).loc main_arg0))
      ∧ r.2.mem ((c.tc : Thread nD τ).loc main_arg0) = m ((c.tc : Thread nD τ).loc main_arg0) := by
  refine (θ_run defs _ _).mono (fun r h c => ⟨(h c).1.trans ?_, (h c).2⟩) (Cert.CondRefIdeal.Value.run m ρ)
  clear h
  funext i
  pointwise
  rfl

theorem frame_p : Cert.quiescent_Cond := fun m ρ _ => Cert.Cond.Gen.frame m ρ

theorem frame_pi : Cert.quiescent_CondIdeal := fun m ρ _ => Cert.CondIdeal.Gen.frame m ρ

theorem frame_ri : Cert.quiescent_CondRefIdeal := fun m ρ _ =>
  (θ_run Cert.CondRefIdeal.defs _ _).mono
    (fun r h => ⟨fun c => (h c).2, Idealize.ShloMosaic.sem_eq_zero_of_no_sems (by decide) r.2⟩) (run_ref m ρ)

theorem algebraic : Cert.algebraic_CondIdeal_CondRefIdeal := by
  intro m g m' g' _ hargs
  refine ⟨fun c => Cert.CondIdeal.Value.G1 (F := Ideal) _, Cert.CondIdeal.Value.run m g, ?_⟩
  refine (θ_run Cert.CondRefIdeal.defs _ _).mono (fun r h c => ?_) (run_ref m' g')
  exact ⟨(h c).1.trans (by rw [hargs c]), (h c).2⟩

end Act

namespace Fwd

def out (c : Cond.Idx → Ideal .bf16) (w : Cols.Idx → Ideal .f32) (b : Bias.Idx → Ideal .f32) : Mods.Idx → Ideal .f32 :=
  fun i => ((∑ k : Fin 1024, (c (ix2 (i 0) k) : EReal) * (w (ix2 k (i 1)) : EReal)) + (b (ix1 (i 1)) : EReal) : EReal)

section Kernel

open Cert.AdaIdeal Cert.AdaIdeal.Gen

variable (m : (ℓ : Loc nD τ sig) → Buf (Elt Ideal) ℓ)

theorem index_eq : ∀ t : Fin cfg0.N, win0_0.index t = ![0, 0] ∧ win0_1.index t = ![0, 0] ∧ win0_2.index t = ![0, 0] ∧ win0_3.index t = ![0, 0] :=
  (by decide +kernel : ∀ t : Fin grid0.N, win0_0.index t = ![0, 0] ∧ win0_1.index t = ![0, 0] ∧ win0_2.index t = ![0, 0] ∧ win0_3.index t = ![0, 0])

theorem pay1_apply (c : Vec Ideal S16x1024 .bf16) (w : Vec Ideal S1024x1152 .f32) (b : Vec Ideal S16x1152 .f32) (r : Fin 16) (q : Fin 1152) :
    k0_pay1 c w b (ix2 r q) = ((∑ k : Fin 1024, (c (ix2 r k) : EReal) * (w (ix2 k q) : EReal)) + (b (ix2 r q) : EReal) : EReal) := by
  unfold k0_pay1
  pointwise

/-- The bias, one copy a row. -/
theorem host_bias (c : Dev nD) (r : Fin 16) (q : Fin 1152) :
    (V m c main_v1 : Vec Ideal S16x1152 .f32) (ix2 r q) = (m ((c.tc : Thread nD τ).loc main_arg2) : Vec Ideal S1152 .f32) (ix1 q) := by
  unfold_abbrev_sides
  after_results_simp
  pointwise

theorem final3 (c : Dev nD) : (dats m 0 c).arrAt 3 cfg0.N
    = out (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  obtain ⟨i0, i1, i2, i3⟩ := index_eq t
  blk_simp
  rw [after0_3]
  obtain ⟨r, q, rfl⟩ : ∃ (r : Fin 16) (q : Fin 1152), y = (ix2 r q : S16x1152.Idx) := ⟨y 0, y 1, eq_ix2 (n0 := 16) (n1 := 1152) y⟩
  have e : ((win0_3.blk t).view.emb (ix2 r q : S16x1152.Idx) : S16x1152.Idx) = ix2 r q := by
    blk_ext [i3]
  have a0 : ∀ k : Fin 1024, (iblk m c 0 t : Vec Ideal S16x1024 .bf16) (ix2 r k) = (m ((c.tc : Thread nD τ).loc main_arg0) : Vec Ideal S16x1024 .bf16) (ix2 r k) := by
    intro k
    refine Eq.trans ?_ (congrFun (V_main_arg0 m c) _)
    blk_ext [iblk, i0]
  have a1 : ∀ k : Fin 1024, (iblk m c 1 t : Vec Ideal S1024x1152 .f32) (ix2 k q) = (m ((c.tc : Thread nD τ).loc main_arg1) : Vec Ideal S1024x1152 .f32) (ix2 k q) := by
    intro k
    refine Eq.trans ?_ (congrFun (V_main_arg1 m c) _)
    blk_ext [iblk, i1]
  have a2 : (iblk m c 2 t : Vec Ideal S16x1152 .f32) (ix2 r q) = (m ((c.tc : Thread nD τ).loc main_arg2) : Vec Ideal S1152 .f32) (ix1 q) := by
    refine Eq.trans ?_ (host_bias m c r q)
    blk_ext [iblk, i2]
  frame_out
  refine (pay1_apply _ _ _ r q).trans ?_
  rw [e]
  exact congrArg₂ (fun a b : EReal => a + b) (Finset.sum_congr rfl fun k _ => congrArg₂ (fun a b : EReal => a * b) (a0 k) (a1 k)) a2

end Kernel

open Cert.AdaRefIdeal Cert.AdaRefIdeal.Gen in
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Cert.AdaRefIdeal.Value.run m ρ)
  clear h
  funext i
  obtain ⟨r, q, rfl⟩ : ∃ (r : Fin 16) (q : Fin 1152), i = ix2 r q := ⟨i 0, i 1, eq_ix2 i⟩
  unfold out
  pointwise

theorem frame_p : Cert.quiescent_Ada := fun m ρ _ => Cert.Ada.Gen.frame m ρ

theorem frame_pi : Cert.quiescent_AdaIdeal := fun m ρ _ => Cert.AdaIdeal.Gen.frame m ρ

theorem frame_ri : Cert.quiescent_AdaRefIdeal := fun m ρ _ =>
  (θ_run Cert.AdaRefIdeal.defs _ _).mono
    (fun r h => ⟨fun c => (h c).2, Idealize.ShloMosaic.sem_eq_zero_of_no_sems (by decide) r.2⟩) (run_ref m ρ)

theorem algebraic : Cert.algebraic_AdaIdeal_AdaRefIdeal := by
  intro m g m' g' _ hargs
  refine ⟨fun c => out _ _ _, (θ_run Cert.AdaIdeal.defs _ _).mono (fun r h c => ⟨(h c).1.trans (final3 m c), (h c).2⟩)
    (Cert.AdaIdeal.Value.run_blocks m g), ?_⟩
  refine (θ_run Cert.AdaRefIdeal.defs _ _).mono (fun r h c => ?_) (run_ref m' g')
  obtain ⟨e0, e1, e2⟩ := hargs c
  exact ⟨(h c).1.trans (by rw [e0, e1, e2]), (h c).2⟩

end Fwd

namespace Bwd

def grad (c : Cond.Idx → Ideal .bf16) (d : Cots.Idx → Ideal .f32) : Cols.Idx → Ideal .f32 :=
  fun i => (∑ k : Fin 8, (c (ix2 ⟨k.val, by omega⟩ (i 0)) : EReal) * (d (ix2 k (i 1)) : EReal) : EReal)

/-- Eight rows of zeros add nothing. -/
theorem sum_padded (f g : Fin 16 → EReal) (h : ∀ k : Fin 16, 8 ≤ k.val → g k = 0) :
    ∑ k, f k * g k = ∑ k : Fin 8, f ⟨k.val, by omega⟩ * g ⟨k.val, by omega⟩ := by
  refine (Fin.sum_univ_add (a := 8) (b := 8) fun k => f k * g k).trans ?_
  rw [Finset.sum_eq_zero (s := Finset.univ) (f := fun k : Fin 8 => f (Fin.natAdd 8 k) * g (Fin.natAdd 8 k)), add_zero]
  · rfl
  · intro k _
    rw [h _ (by show 8 ≤ 8 + k.val; omega), mul_zero]

section Kernel

open Cert.AdaBwdIdeal Cert.AdaBwdIdeal.Gen

variable (m : (ℓ : Loc nD τ sig) → Buf (Elt Ideal) ℓ)

theorem index_eq : ∀ t : Fin cfg0.N, win0_0.index t = ![0, 0] ∧ win0_1.index t = ![0, 0] ∧ win0_2.index t = ![0, 0] :=
  (by decide +kernel : ∀ t : Fin grid0.N, win0_0.index t = ![0, 0] ∧ win0_1.index t = ![0, 0] ∧ win0_2.index t = ![0, 0])

theorem pay1_apply (c : Vec Ideal S16x1024 .bf16) (d : Vec Ideal S16x1152 .f32) (r : Fin 1024) (q : Fin 1152) :
    k0_pay1 c d (ix2 r q) = (∑ k : Fin 16, (c (ix2 k r) : EReal) * (d (ix2 k q) : EReal) : EReal) := by
  unfold k0_pay1
  pointwise

theorem host_cots (c : Dev nD) (k : Fin 16) (q : Fin 1152) :
    (V m c main_v0 : Vec Ideal S16x1152 .f32) (ix2 k q)
      = (if h : k.val < 8 then (m ((c.tc : Thread nD τ).loc main_arg1) : Vec Ideal S8x1152 .f32) (ix2 ⟨k.val, h⟩ q) else 0 : EReal) := by
  unfold_abbrev_sides
  simp only [List.flatten_cons, List.flatten_nil, List.append_nil, List.cons_append, List.nil_append, StableHlo.TRef.unary, StableHlo.TRef.binary, StableHlo.TRef.ternary,
    StableHlo.TRef.toBuf, StableHlo.TRef.ofBuf, cast_eq]
  after_results_simp
  simp only [StableHlo.TRef.toBuf, StableHlo.TRef.ofBuf, cast_eq]
  pointwise
  refine dite_congr rfl (fun _ => rfl) fun _ => ?_
  show (((0#32 : BitVec 32).toInt : ℝ) : EReal) = 0
  norm_num

theorem final2 (c : Dev nD) : (dats m 0 c).arrAt 2 cfg0.N
    = grad (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := index_eq t
  blk_simp
  rw [after0_2]
  obtain ⟨r, q, rfl⟩ : ∃ (r : Fin 1024) (q : Fin 1152), y = (ix2 r q : S1024x1152.Idx) := ⟨y 0, y 1, eq_ix2 (n0 := 1024) (n1 := 1152) y⟩
  have e : ((win0_2.blk t).view.emb (ix2 r q : S1024x1152.Idx) : S1024x1152.Idx) = ix2 r q := by
    blk_ext [i2]
  have a0 : ∀ k : Fin 16, (iblk m c 0 t : Vec Ideal S16x1024 .bf16) (ix2 k r) = (m ((c.tc : Thread nD τ).loc main_arg0) : Vec Ideal S16x1024 .bf16) (ix2 k r) := by
    intro k
    refine Eq.trans ?_ (congrFun (V_main_arg0 m c) _)
    blk_ext [iblk, i0]
  have a1 : ∀ k : Fin 16, (iblk m c 1 t : Vec Ideal S16x1152 .f32) (ix2 k q)
      = (if h : k.val < 8 then (m ((c.tc : Thread nD τ).loc main_arg1) : Vec Ideal S8x1152 .f32) (ix2 ⟨k.val, h⟩ q) else 0 : EReal) := by
    intro k
    refine Eq.trans ?_ (host_cots m c k q)
    blk_ext [iblk, i1]
  frame_out
  refine (pay1_apply _ _ r q).trans ?_
  rw [e]
  refine (sum_padded _ _ fun k hk => (a1 k).trans (dif_neg (by omega))).trans ?_
  exact Finset.sum_congr rfl fun k _ => congrArg₂ (fun a b : EReal => a * b) (a0 _) ((a1 _).trans (dif_pos k.isLt))

end Kernel

open Cert.AdaBwdRefIdeal Cert.AdaBwdRefIdeal.Gen in
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.AdaBwdRefIdeal.Value.run m ρ)
  clear h
  funext i
  obtain ⟨r, q, rfl⟩ : ∃ (r : Fin 1024) (q : Fin 1152), i = ix2 r q := ⟨i 0, i 1, eq_ix2 i⟩
  unfold grad
  pointwise
  exact Finset.sum_congr rfl fun k _ => mul_comm _ _

theorem frame_p : Cert.quiescent_AdaBwd := fun m ρ _ => Cert.AdaBwd.Gen.frame m ρ

theorem frame_pi : Cert.quiescent_AdaBwdIdeal := fun m ρ _ => Cert.AdaBwdIdeal.Gen.frame m ρ

theorem frame_ri : Cert.quiescent_AdaBwdRefIdeal := fun m ρ _ =>
  (θ_run Cert.AdaBwdRefIdeal.defs _ _).mono
    (fun r h => ⟨fun c => (h c).2, Idealize.ShloMosaic.sem_eq_zero_of_no_sems (by decide) r.2⟩) (run_ref m ρ)

theorem algebraic : Cert.algebraic_AdaBwdIdeal_AdaBwdRefIdeal := by
  intro m g m' g' _ hargs
  refine ⟨fun c => grad _ _, (θ_run Cert.AdaBwdIdeal.defs _ _).mono (fun r h c => ⟨(h c).1.trans (final2 m c), (h c).2⟩)
    (Cert.AdaBwdIdeal.Value.run_blocks m g), ?_⟩
  refine (θ_run Cert.AdaBwdRefIdeal.defs _ _).mono (fun r h c => ?_) (run_ref m' g')
  obtain ⟨e0, e1⟩ := hargs c
  exact ⟨(h c).1.trans (by rw [e0, e1]), (h c).2⟩

end Bwd

end Cert.AdaClaims

end
-- ==== Proof.LastClaims.lean ====
/- The last block's residual sum and layer normalisation against the target: the loss before the sum over the devices, and its gradient in the
   normalised rows (Last, LastRef). The halves of the tiles' sums add up to half of the whole sum, as no squared error is negative. -/
module

public import proofs.«01_k».proof.Defs
public import proofs.«01_k».proof.Proof.PostClaims
public import proofs.«01_k».proof.Proof.NormRowGrad
public import proofs.«01_k».proof.Proof.ConvGrad
public import proofs.«01_k».proof.Proof.MixBwdReference
public import proofs.«01_k».proof.Proof.Gen.Last.Frame
public import proofs.«01_k».proof.Proof.Gen.LastIdeal.Value
public import proofs.«01_k».proof.Proof.Gen.LastRefIdeal.Run
public import Idealize.ShloMosaic.Lib.Pipeline.ValueKit

@[expose] public section

set_option maxRecDepth 16384

noncomputable section

namespace Cert.LastClaims

open Idealize.ShloMosaic Idealize.ShloMosaic.TcCoe Idealize.SL.Sem Cert.NormRow
open Cert.PostClaims (Seq Param row)

abbrev Loss : Shape := ⟨2, ![1, 128]⟩

def recip : EReal := Ideal.ofBits .f32 0x3A800000#32

/-- The error of row `r`. -/
def err (x y t : Seq.Idx → Ideal .f32) (e g b : Param.Idx → Ideal .f32) (r : Fin 4096) : R :=
  fun q => out (row x r) (row y r) (halfGate (row e 0)) (row g 0) (row b 0) q - row t r q

/-- A row's mean square. -/
def square (v : R) : EReal := Ideal.div (∑ q, v q * v q) width

/-- … by the row's number, zero behind the last row. -/
def square_at (x y t : Seq.Idx → Ideal .f32) (e g b : Param.Idx → Ideal .f32) (n : ℕ) : EReal :=
  if h : n < 4096 then square (err x y t e g b ⟨n, h⟩) else 0

def gradient (x y t : Seq.Idx → Ideal .f32) (e g b : Param.Idx → Ideal .f32) : Seq.Idx → Ideal .f32 :=
  fun i => (err x y t e g b (i 0) (i 1) * recip : EReal)

def loss (x y t : Seq.Idx → Ideal .f32) (e g b : Param.Idx → Ideal .f32) : Loss.Idx → Ideal .f32 :=
  fun _ => (half * ∑ r ∈ Finset.range 4096, square_at x y t e g b r : EReal)

/-! ## Constants and signs -/

theorem recip_eq : recip = ((1 / 1024 : ℝ) : EReal) := by
  simp [recip, Ideal.ofBits, Ideal.ieee, -EReal.coe_mul, -EReal.coe_add]; norm_num

/-- Half of a thousand-and-twenty-fourth, doubled. -/
theorem gradient_scale (w : EReal) : Ideal.div half width * (Ideal.ofBits .f32 0x40000000#32 * w) = w * recip := by
  have h : (1 / 2 : ℝ) * (1 / 1024) + 1 / 2 * (1 / 1024) = 1 / 1024 := by norm_num
  rw [MixBwdReference.twice, Cert.NormRowGrad.width_eq, Cert.NormRowGrad.half_eq, recip_eq, Ideal.div_coe (by norm_num), ← EReal.coe_mul, ← EReal.right_distrib_of_nonneg
    (EReal.coe_nonneg.mpr (by norm_num)) (EReal.coe_nonneg.mpr (by norm_num)), ← EReal.coe_add, h, mul_comm]

theorem square_nonneg (v : R) : 0 ≤ square v := by
  unfold square
  rw [Cert.NormRowGrad.width_eq, Ideal.div_coe (by norm_num)]
  exact mul_nonneg (Finset.sum_nonneg fun k _ => Cert.NormRowGrad.square_nonneg _) (EReal.coe_nonneg.mpr (by norm_num))

theorem square_at_nonneg (x y t : Seq.Idx → Ideal .f32) (e g b : Param.Idx → Ideal .f32) (n : ℕ) : 0 ≤ square_at x y t e g b n := by
  unfold square_at
  split
  · exact square_nonneg _
  · exact le_refl _

/-- Half a tile's sum joins half the sum over the rows before it. -/
theorem half_step (g : ℕ → EReal) (hg : ∀ n, 0 ≤ g n) (t : ℕ) (s : Fin 512 → EReal) (h : ∀ k : Fin 512, s k = g (512 * t + k.val)) :
    half * ∑ r ∈ Finset.range (512 * t), g r + half * ∑ k, s k = half * ∑ r ∈ Finset.range (512 * (t + 1)), g r := by
  rw [← ConvGrad.tile_sum g t s h, EReal.left_distrib_of_nonneg (Finset.sum_nonneg fun k _ => hg k) (Finset.sum_nonneg fun k _ => (h k) ▸ hg _)]

section Kernel

open Cert.LastIdeal Cert.LastIdeal.Gen

variable (m : (ℓ : Loc nD τ sig) → Buf (Elt Ideal) ℓ)

abbrev argX (c : Dev nD) : Vec Ideal S4096x1024 .f32 := m ((c.tc : Thread nD τ).loc main_arg0)
abbrev argY (c : Dev nD) : Vec Ideal S4096x1024 .f32 := m ((c.tc : Thread nD τ).loc main_arg1)
abbrev argT (c : Dev nD) : Vec Ideal S4096x1024 .f32 := m ((c.tc : Thread nD τ).loc main_arg2)
abbrev argE (c : Dev nD) : Vec Ideal S1x1024 .f32 := m ((c.tc : Thread nD τ).loc main_arg3)
abbrev argG (c : Dev nD) : Vec Ideal S1x1024 .f32 := m ((c.tc : Thread nD τ).loc main_arg4)
abbrev argB (c : Dev nD) : Vec Ideal S1x1024 .f32 := m ((c.tc : Thread nD τ).loc main_arg5)

theorem index_eq : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] ∧ win0_7.index t = ![0, 0] :=
  (by decide +kernel : ∀ t : Fin grid0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] ∧ win0_7.index t = ![0, 0])

theorem lt_N (t : Fin cfg0.N) : t.val < 8 := Nat.lt_of_lt_of_eq t.isLt N_0

theorem pay4_apply (x y t : Vec Ideal S512x1024 .f32) (e g b : Vec Ideal S1x1024 .f32) (r : Fin 512) (q : Fin 1024) :
    k0_pay4 x y t e g b (ix2 r q) = (out (row x r) (row y r) (halfGate (row e 0)) (row g 0) (row b 0) q - row t r q : EReal) := by
  unfold k0_pay4
  pointwise
  rfl

theorem pay5_apply (x y t : Vec Ideal S512x1024 .f32) (e g b : Vec Ideal S1x1024 .f32) (r : Fin 512) :
    k0_pay5 x y t e g b (ix1 r) = (∑ q : Fin 1024, (k0_pay4 x y t e g b (ix2 r q) : EReal) * (k0_pay4 x y t e g b (ix2 r q) : EReal) : EReal) := by
  unfold k0_pay5
  pointwise

theorem pay3_apply (s : Vec Ideal S512 .f32) (p : Vec Ideal S1x128 .f32) (j : Fin 128) :
    k0_pay3 s p (ix2 0 j) = ((p (ix2 0 j) : EReal) + half * ∑ k : Fin 512, Ideal.div (s (ix1 k) : EReal) width : EReal) := by
  unfold k0_pay3
  pointwise
  rfl

theorem pay1_apply (v : Vec Ideal S512x1024 .f32) (r : Fin 512) (q : Fin 1024) : k0_pay1 (F := Ideal) v (ix2 r q) = ((v (ix2 r q) : EReal) * recip : EReal) := by
  unfold k0_pay1
  pointwise
  rfl

theorem rows (c : Dev nD) (t : Fin cfg0.N) (r : Fin 512) (hr : 512 * t.val + r.val < 4096) :
    row (iblk m c 0 t : Vec Ideal S512x1024 .f32) r = row (argX m c) ⟨512 * t.val + r.val, hr⟩
    ∧ row (iblk m c 1 t : Vec Ideal S512x1024 .f32) r = row (argY m c) ⟨512 * t.val + r.val, hr⟩
    ∧ row (iblk m c 2 t : Vec Ideal S512x1024 .f32) r = row (argT m c) ⟨512 * t.val + r.val, hr⟩
    ∧ row (iblk m c 3 t : Vec Ideal S1x1024 .f32) 0 = row (argE m c) 0
    ∧ row (iblk m c 4 t : Vec Ideal S1x1024 .f32) 0 = row (argG m c) 0
    ∧ row (iblk m c 5 t : Vec Ideal S1x1024 .f32) 0 = row (argB m c) 0 := by
  obtain ⟨i0, i1, i2, i3, i4, i5, -, -⟩ := index_eq t
  refine ⟨funext fun q => ?_, funext fun q => ?_, funext fun q => ?_, funext fun q => ?_, funext fun q => ?_, funext fun q => ?_⟩
  · dsimp only [row]
    blk_ext [iblk, V, i0]
  · dsimp only [row]
    blk_ext [iblk, V, i1]
  · dsimp only [row]
    blk_ext [iblk, V, i2]
  · dsimp only [row]
    blk_ext [iblk, V, i3]
  · dsimp only [row]
    blk_ext [iblk, V, i4]
  · dsimp only [row]
    blk_ext [iblk, V, i5]

/-- The blocks' errors are the rows' errors. -/
theorem tile_err (c : Dev nD) (t : Fin cfg0.N) (r : Fin 512) (q : Fin 1024) (hr : 512 * t.val + r.val < 4096) :
    k0_pay4 (iblk m c 0 t) (iblk m c 1 t) (iblk m c 2 t) (iblk m c 3 t) (iblk m c 4 t) (iblk m c 5 t) (ix2 r q)
      = (err (argX m c) (argY m c) (argT m c) (argE m c) (argG m c) (argB m c) ⟨512 * t.val + r.val, hr⟩ q : EReal) := by
  refine (pay4_apply _ _ _ _ _ _ r q).trans ?_
  obtain ⟨e0, e1, e2, e3, e4, e5⟩ := rows m c t r hr
  rw [e0, e1, e2, e3, e4, e5]
  rfl

theorem tile_square (c : Dev nD) (t : Fin cfg0.N) (r : Fin 512) :
    Ideal.div (k0_pay5 (iblk m c 0 t) (iblk m c 1 t) (iblk m c 2 t) (iblk m c 3 t) (iblk m c 4 t) (iblk m c 5 t) (ix1 r) : EReal) width
      = square_at (argX m c) (argY m c) (argT m c) (argE m c) (argG m c) (argB m c) (512 * t.val + r.val) := by
  have ht := lt_N t
  have hr : 512 * t.val + r.val < 4096 := by omega
  unfold square_at square
  rw [dif_pos hr, pay5_apply]
  refine congrArg (fun a : EReal => Ideal.div a width) (Finset.sum_congr rfl fun q _ => ?_)
  rw [tile_err m c t r q hr]

theorem loss_step (c : Dev nD) (t : Fin cfg0.N) (p : Vec Ideal S1x128 .f32) (j : Fin 128)
    (hp : p (ix2 0 j) = (half * ∑ r ∈ Finset.range (512 * t.val), square_at (argX m c) (argY m c) (argT m c) (argE m c) (argG m c) (argB m c) r : EReal)) :
    k0_pay3 (k0_pay5 (iblk m c 0 t) (iblk m c 1 t) (iblk m c 2 t) (iblk m c 3 t) (iblk m c 4 t) (iblk m c 5 t)) p (ix2 0 j)
      = (half * ∑ r ∈ Finset.range (512 * (t.val + 1)), square_at (argX m c) (argY m c) (argT m c) (argE m c) (argG m c) (argB m c) r : EReal) := by
  refine (pay3_apply _ _ j).trans ?_
  rw [hp]
  exact half_step _ (square_at_nonneg _ _ _ _ _ _) _ _ fun k => tile_square m c t k

/-- Half the sum of the mean squares before tile `n + 1`. -/
theorem left (c : Dev nD) : ∀ n (hn : n < cfg0.N) (j : Fin 128), (outsAt0 m c n hn).2 (ix2 0 j)
    = (half * ∑ r ∈ Finset.range (512 * (n + 1)), square_at (argX m c) (argY m c) (argT m c) (argE m c) (argG m c) (argB m c) r : EReal)
  | 0, hn, j => by
    have h0 : (⟨0, hn⟩ : Fin cfg0.N).val % 8 = 0 := rfl
    rw [outsAt0_A m c ⟨0, hn⟩ h0]
    dsimp only
    frame_out
    refine loss_step m c ⟨0, hn⟩ _ j ?_
    refine Eq.trans ?_ ((congrArg (fun a : EReal => half * a) (Finset.sum_range_zero _)).trans (mul_zero _)).symm
    unfold k0_pay2
    pointwise
  | n + 1, hn, j => by
    have hn' := lt_N ⟨n + 1, hn⟩
    have h0 : ¬(⟨n + 1, hn⟩ : Fin cfg0.N).val % 8 = 0 := by dsimp only at hn' ⊢; omega
    have hl := left c n (by omega) j
    rw [outsAt0_B m c ⟨n + 1, hn⟩ h0]
    dsimp only
    frame_out
    exact loss_step m c ⟨n + 1, hn⟩ _ j hl

theorem tile_out (c : Dev nD) (t : Fin cfg0.N) (r : Fin 512) (q : Fin 1024) (hr : 512 * t.val + r.val < 4096) :
    (outsAt0 m c t.val t.isLt).1 (ix2 r q)
      = (err (argX m c) (argY m c) (argT m c) (argE m c) (argG m c) (argB m c) ⟨512 * t.val + r.val, hr⟩ q * recip : EReal) := by
  have e := congrArg (fun a : EReal => a * recip) (tile_err m c t r q hr)
  by_cases h0 : t.val % 8 = 0
  · rw [outsAt0_A m c t h0]
    dsimp only
    frame_out
    exact (pay1_apply _ r q).trans e
  · rw [outsAt0_B m c t h0]
    dsimp only
    frame_out
    exact (pay1_apply _ r q).trans e

theorem final6 (c : Dev nD) : (dats m 0 c).arrAt 6 cfg0.N = gradient (argX m c) (argY m c) (argT m c) (argE m c) (argG m c) (argB m c) := by
  refine (dats m 0 c).arrAt_eq_of_covers 6 _ (by decide +kernel) fun t hf y => ?_
  have ht := lt_N t
  obtain ⟨-, -, -, -, -, -, i6, -⟩ := index_eq t
  blk_simp
  rw [after0_6]
  obtain ⟨r, q, rfl⟩ : ∃ (r : Fin 512) (q : Fin 1024), y = (ix2 r q : S512x1024.Idx) := ⟨y 0, y 1, eq_ix2 (n0 := 512) (n1 := 1024) y⟩
  have hr := r.isLt
  have e : ((win0_6.blk t).view.emb (ix2 r q : S512x1024.Idx) : S4096x1024.Idx) = ix2 ⟨512 * t.val + r.val, by omega⟩ q := by
    blk_ext [i6]
  refine (tile_out m c t r q (by omega)).trans ?_
  rw [e]
  rfl

theorem final7 (c : Dev nD) : (dats m 0 c).arrAt 7 cfg0.N = loss (argX m c) (argY m c) (argT m c) (argE m c) (argG m c) (argB m c) := by
  refine (dats m 0 c).arrAt_eq_of_covers 7 _ (by decide +kernel) fun t hf y => ?_
  have ht := lt_N t
  have h7 : t.val % 8 = 7 := (flush0_7 t).mp hf
  blk_simp
  rw [after0_7]
  obtain ⟨j, q, rfl⟩ : ∃ (j : Fin 1) (q : Fin 128), y = (ix2 j q : S1x128.Idx) := ⟨y 0, y 1, eq_ix2 (n0 := 1) (n1 := 128) y⟩
  obtain rfl : j = 0 := Subsingleton.elim _ _
  refine (left m c t.val t.isLt q).trans ?_
  rw [show t.val + 1 = 8 by omega]
  rfl

end Kernel

section Reference

open Cert.LastRefIdeal Cert.LastRefIdeal.Gen

set_option maxHeartbeats 1600000 in
theorem ref_gradient (m : (ℓ : Loc nD τ sig) → Buf (Elt Ideal) ℓ) (c : Dev nD) : Cert.LastRefIdeal.Value.res_main_v45 m c
    = gradient (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  funext i
  obtain ⟨r, q, rfl⟩ : ∃ (r : Fin 4096) (q : Fin 1024), i = ix2 r q := ⟨i 0, i 1, eq_ix2 i⟩
  unfold Cert.LastRefIdeal.Value.res_main_v45
  refine Eq.trans ?_ (gradient_scale _)
  pointwise
  rfl

set_option maxHeartbeats 1600000 in
theorem ref_loss (m : (ℓ : Loc nD τ sig) → Buf (Elt Ideal) ℓ) (c : Dev nD) : Cert.LastRefIdeal.Value.res_main_v46 m c
    = loss (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  funext i
  unfold loss
  rw [Finset.sum_range]
  simp only [square_at, Fin.is_lt, dif_pos, Fin.eta]
  unfold Cert.LastRefIdeal.Value.res_main_v46
  pointwise
  rfl

end Reference

theorem frame_p : Cert.quiescent_Last := fun m ρ _ => Cert.Last.Gen.frame m ρ

theorem frame_pi : Cert.quiescent_LastIdeal := fun m ρ _ => Cert.LastIdeal.Gen.frame m ρ

theorem frame_ri : Cert.quiescent_LastRefIdeal := fun m ρ _ =>
  (θ_run Cert.LastRefIdeal.defs _ _).mono
    (fun r h => ⟨fun c => (h c).2.2, Idealize.ShloMosaic.sem_eq_zero_of_no_sems (by decide) r.2⟩) (Cert.LastRefIdeal.Value.run m ρ)

theorem algebraic : Cert.algebraic_LastIdeal_LastRefIdeal := by
  intro m g m' g' _ hargs
  refine ⟨fun c => gradient _ _ _ _ _ _, fun c => loss _ _ _ _ _ _, (θ_run Cert.LastIdeal.defs _ _).mono
    (fun r h c => ⟨(h c).1.trans (final6 m c), (h c).2.1.trans (final7 m c), (h c).2.2⟩) (Cert.LastIdeal.Value.run_blocks m g), ?_⟩
  refine (θ_run Cert.LastRefIdeal.defs _ _).mono (fun r h c => ?_) (Cert.LastRefIdeal.Value.run m' g')
  obtain ⟨e0, e1, e2, e3, e4, e5⟩ := hargs c
  exact ⟨(h c).1.trans ((ref_gradient m' c).trans (by rw [e0, e1, e2, e3, e4, e5])),
    (h c).2.1.trans ((ref_loss m' c).trans (by rw [e0, e1, e2, e3, e4, e5])), (h c).2.2⟩

end Cert.LastClaims

end
-- ==== Proof.MconvGrad.lean ====
/- The second causal convolution's backward call (MconvBwd, MconvBwdRef): 512 columns of the combined projection, from column 2048 on.
   The column lemmas are those of the first convolution. -/
module

public import proofs.«01_k».proof.Defs
public import proofs.«01_k».proof.Proof.ConvGradClaims
public import proofs.«01_k».proof.Proof.Gen.MconvBwd.Frame
public import proofs.«01_k».proof.Proof.Gen.MconvBwdIdeal.Value
public import proofs.«01_k».proof.Proof.Gen.MconvBwdRefIdeal.Run

@[expose] public section

set_option maxRecDepth 16384

noncomputable section

namespace Cert.MconvGrad

open Idealize.ShloMosaic Idealize.ShloMosaic.TcCoe Idealize.SL.Sem
open Cert.ConvGrad (Col behind before share back select_zero select_one canon_slab read_slab ld_row rows_apply staged_behind staged_before share_sum tile_sum)
open Cert.ConvGradClaims (before_row behind_row transpose_taps tap_sum tap_sum_shifted shifted_entry)

abbrev All : Shape := ⟨2, ![4096, 3712]⟩
abbrev Part : Shape := ⟨2, ![4096, 512]⟩
abbrev Taps : Shape := ⟨2, ![4, 512]⟩
abbrev Bias : Shape := ⟨2, ![1, 512]⟩

abbrev xc (x : All.Idx → Ideal .f32) (q : Fin 512) : Col := fun r => x (ix2 r ⟨2048 + q.val, by omega⟩)

abbrev dc (d : Part.Idx → Ideal .f32) (q : Fin 512) : Col := fun r => d (ix2 r q)

def dTaps (x : All.Idx → Ideal .f32) (d : Part.Idx → Ideal .f32) : Taps.Idx → Ideal .f32 :=
  fun i => (∑ r ∈ Finset.range 4096, share (xc x (i 1)) (dc d (i 1)) (i 0).val r : EReal)

def dBias (d : Part.Idx → Ideal .f32) : Bias.Idx → Ideal .f32 :=
  fun i => (∑ r ∈ Finset.range 4096, before (dc d (i 1)) r : EReal)

def dIn (d : Part.Idx → Ideal .f32) (w : Taps.Idx → Ideal .f32) : Part.Idx → Ideal .bf16 :=
  fun i => back (fun j => w (ix2 j (i 1))) (dc d (i 1)) (i 0).val

section Kernel

open Cert.MconvBwdIdeal Cert.MconvBwdIdeal.Gen

variable (m : (ℓ : Loc nD τ sig) → Buf (Elt Ideal) ℓ)

abbrev argX (c : Dev nD) : Vec Ideal S4096x3712 .f32 := m ((c.tc : Thread nD τ).loc main_arg0)
abbrev argD (c : Dev nD) : Vec Ideal S4096x512 .f32 := m ((c.tc : Thread nD τ).loc main_arg1)
abbrev argW (c : Dev nD) : Vec Ideal S4x512 .f32 := m ((c.tc : Thread nD τ).loc main_arg2)

theorem blocks_eq : ∀ t : Fin cfg0.N, (win0_0.index t = ![t.val, 4] ∧ win0_1.index t = ![t.val * 64 - 1, 4] ∧ win0_2.index t = ![t.val, 0]
    ∧ win0_3.index t = ![min (t.val * 64 + 64) 511, 0] ∧ win0_4.index t = ![0, 0]) ∧ win0_5.index t = ![t.val, 0] ∧ win0_6.index t = ![0, 0] ∧ win0_7.index t = ![0, 0] :=
  (by decide +kernel : ∀ t : Fin grid0.N, (win0_0.index t = ![t.val, 4] ∧ win0_1.index t = ![t.val * 64 - 1, 4] ∧ win0_2.index t = ![t.val, 0]
    ∧ win0_3.index t = ![min (t.val * 64 + 64) 511, 0] ∧ win0_4.index t = ![0, 0]) ∧ win0_5.index t = ![t.val, 0] ∧ win0_6.index t = ![0, 0] ∧ win0_7.index t = ![0, 0])

/-- The two comparisons the body makes with the tile's number. -/
theorem ends : ∀ t : Fin cfg0.N, Scalar.cmpi .eq (BitVec.ofNat 32 (grid0.coords t 0).val) 0#32 = (if t.val = 0 then 1#1 else 0#1)
    ∧ Scalar.cmpi .eq (BitVec.ofNat 32 (grid0.coords t 0).val) 7#32 = (if t.val = 7 then 1#1 else 0#1) :=
  (by decide +kernel : ∀ t : Fin grid0.N, Scalar.cmpi .eq (BitVec.ofNat 32 (grid0.coords t 0).val) 0#32 = (if t.val = 0 then 1#1 else 0#1)
    ∧ Scalar.cmpi .eq (BitVec.ofNat 32 (grid0.coords t 0).val) 7#32 = (if t.val = 7 then 1#1 else 0#1))

theorem lt_eight (t : Fin cfg0.N) : t.val < 8 := Nat.lt_of_lt_of_eq t.isLt N_0

abbrev xbuf (c : Dev nD) (t : Fin cfg0.N) : List (View.Piece (Elt Ideal) S520x512 .f32) :=
  [⟨Rect.unit ![8, 0] ![512, 512] inb_S520x512_S512x512_8_0, k0_pay3 (X0_0 m c t)⟩,
    ⟨Rect.unit ![0, 0] ![8, 512] inb_S520x512_S8x512_0_0, k0_pay2 (grid0.coords t) (X0_1 m c t)⟩]

abbrev dbuf (c : Dev nD) (t : Fin cfg0.N) : List (View.Piece (Elt Ideal) S520x512 .f32) :=
  [⟨Rect.unit ![512, 0] ![8, 512] inb_S520x512_S8x512_512_0, k0_pay6 (grid0.coords t) (iblk m c 3 t)⟩,
    ⟨Rect.unit ![0, 0] ![512, 512] inb_S520x512_S512x512_0_0, k0_pay5 (iblk m c 2 t)⟩]

theorem xbuf_row (c : Dev nD) (t : Fin cfg0.N) (p : Fin 520) (q : Fin 512) :
    View.canon (xbuf m c t) (ix2 p q) = behind (xc (argX m c) q) (512 * t.val + p.val - 5) := by
  have ht := lt_eight t
  obtain ⟨⟨i0, i1, -⟩, -⟩ := blocks_eq t
  refine staged_behind t.val ht (xc (argX m c) q) q _ _ _ _ (fun r => ?_) (fun h r => ?_) (fun h r => ?_) p
  · unfold k0_pay3
    pointwise
    unfold X0_0 Pipeline.Window.fill
    rw [dif_pos (moved0_0 t _)]
    blk_ext [iblk, V, i0]
  · unfold k0_pay2
    pointwise
    exact (congrArg (fun b => Scalar.select b _ _) ((ends t).1.trans (if_pos h))).trans (select_one _ _)
  · unfold k0_pay2
    pointwise
    refine (congrArg (fun b => Scalar.select b _ _) ((ends t).1.trans (if_neg h))).trans ((select_zero _ _).trans ?_)
    unfold X0_1 Pipeline.Window.fill
    rw [dif_pos (moved0_1 t _)]
    blk_ext [iblk, V, i1]

theorem d_block (c : Dev nD) (t : Fin cfg0.N) (r : Fin 512) (q : Fin 512) (h : 512 * t.val + r.val < 4096) :
    (iblk m c 2 t : Vec Ideal S512x512 .f32) (ix2 r q) = argD m c (ix2 ⟨512 * t.val + r.val, h⟩ q) := by
  obtain ⟨⟨-, -, i2, -⟩, -⟩ := blocks_eq t
  blk_ext [iblk, V, i2]

theorem d_row (c : Dev nD) (t : Fin cfg0.N) (r : Fin 512) (q : Fin 512) :
    (iblk m c 2 t : Vec Ideal S512x512 .f32) (ix2 r q) = before (dc (argD m c) q) (512 * t.val + r.val) := by
  have ht := lt_eight t
  unfold before
  rw [dif_pos (by omega)]
  exact d_block m c t r q _

theorem dbuf_row (c : Dev nD) (t : Fin cfg0.N) (p : Fin 520) (q : Fin 512) :
    View.canon (dbuf m c t) (ix2 p q) = before (dc (argD m c) q) (512 * t.val + p.val) := by
  have ht := lt_eight t
  obtain ⟨⟨-, -, -, i3, -⟩, -⟩ := blocks_eq t
  refine staged_before t.val ht (dc (argD m c) q) q _ _ _ _ (fun r => ?_) (fun h r => ?_) (fun h r => ?_) p
  · unfold k0_pay5 k0_pay4
    pointwise
    exact d_block m c t r q _
  · unfold k0_pay6
    pointwise
    exact (congrArg (fun b => Scalar.select b _ _) ((ends t).2.trans (if_pos h))).trans (select_one _ _)
  · unfold k0_pay6
    pointwise
    refine (congrArg (fun b => Scalar.select b _ _) ((ends t).2.trans (if_neg h))).trans ((select_zero _ _).trans ?_)
    blk_ext [iblk, V, i3]

theorem w_row (c : Dev nD) (t : Fin cfg0.N) (j : ℕ) (inb : ∀ a, (![j, 0] : Fin 2 → ℕ) a + (![1, 512] : Fin 2 → ℕ) a ≤ (![4, 512] : Fin 2 → ℕ) a)
    (hj : j < 4) (q : Fin 512) :
    View.ld (iblk m c 4 t : Vec Ideal S4x512 .f32) (Rect.unit (s := S4x512) ![j, 0] ![1, 512] inb) (ix2 0 q : S1x512.Idx) = argW m c (ix2 ⟨j, hj⟩ q) := by
  obtain ⟨⟨-, -, -, -, i4⟩, -⟩ := blocks_eq t
  refine (ld_row (iblk m c 4 t : Vec Ideal S4x512 .f32) j inb hj q).trans ?_
  blk_ext [iblk, V, i4]

theorem row_sum (a : Vec Ideal S512x512 .f32) (p : Vec Ideal S1x512 .f32) (b : Vec Ideal S512x512 .f32) (q : Fin 512) :
    k0_pay9 (k0_pay4 a) p b (ix2 0 q) = (p (ix2 0 q) : EReal) + ∑ k : Fin 512, (a (ix2 k q) : EReal) * (b (ix2 k q) : EReal) := by
  unfold k0_pay9 k0_pay4
  pointwise

theorem same_sum : k0_pay11 (F := Ideal) = k0_pay9 ∧ k0_pay12 (F := Ideal) = k0_pay9 ∧ k0_pay13 (F := Ideal) = k0_pay9 := ⟨rfl, rfl, rfl⟩

theorem tap_tile (c : Dev nD) (t : Fin cfg0.N) (j o : ℕ) (ho : o = j + 5) (inb) (hj : j < 4) (p : Vec Ideal S1x512 .f32) (q : Fin 512)
    (hp : p (ix2 0 q) = (∑ r ∈ Finset.range (512 * t.val), share (xc (argX m c) q) (dc (argD m c) q) j r : EReal)) :
    k0_pay9 (k0_pay4 (iblk m c 2 t)) p
        ((View.whole cc0_scratch0).readCov (xbuf m c t) (Rect.unit (s := S520x512) ![o, 0] ![512, 512] inb).toLoadRect) (ix2 0 q)
      = (∑ r ∈ Finset.range (512 * (t.val + 1)), share (xc (argX m c) q) (dc (argD m c) q) j r : EReal) := by
  subst ho
  refine (row_sum _ _ _ q).trans (share_sum _ _ _ _ q _ _ _ hp (fun k => d_row m c t k q) fun k => ?_)
  refine (read_slab (View.whole cc0_scratch0) inb (xbuf m c t) k q (by omega)).trans ((xbuf_row m c t ⟨j + 5 + k.val, by omega⟩ q).trans ?_)
  exact congrArg _ (by show 512 * t.val + (j + 5 + k.val) - 5 = _; omega)

theorem bias_tile (c : Dev nD) (t : Fin cfg0.N) (p : Vec Ideal S1x512 .f32) (q : Fin 512)
    (hp : p (ix2 0 q) = (∑ r ∈ Finset.range (512 * t.val), before (dc (argD m c) q) r : EReal)) :
    k0_pay1 (iblk m c 2 t) (k0_pay15 p) (ix2 0 q) = (∑ r ∈ Finset.range (512 * (t.val + 1)), before (dc (argD m c) q) r : EReal) := by
  have e : ∀ a : Vec Ideal S512x512 .f32, k0_pay1 a (k0_pay15 p) (ix2 0 q) = (p (ix2 0 q) : EReal) + ∑ k : Fin 512, (a (ix2 k q) : EReal) := by
    intro a
    unfold k0_pay1 k0_pay15
    pointwise
  refine (e _).trans ?_
  rw [hp]
  exact tile_sum _ _ _ fun k => d_row m c t k q

/-- The zeros stored at the first tile. -/
theorem zeros (j : Fin 4) (q : Fin 512) (inb) :
    View.canon [(⟨Rect.unit (s := S4x512) ![0, 0] ![4, 512] inb, k0_pay7 (F := Ideal)⟩ : View.Piece (Elt Ideal) S4x512 .f32)] (ix2 j q) = (0 : EReal) := by
  refine (canon_slab _ _ _ j q).trans ((dif_pos (by omega)).trans ?_)
  unfold k0_pay7
  pointwise

theorem acc (c : Dev nD) : ∀ n (hn : n < cfg0.N),
    (∀ (j : Fin 4) (q : Fin 512), (outsAt0 m c n hn).2.1 (ix2 j q) = (∑ r ∈ Finset.range (512 * (n + 1)), share (xc (argX m c) q) (dc (argD m c) q) j.val r : EReal))
    ∧ ∀ q : Fin 512, (outsAt0 m c n hn).2.2 (ix2 0 q) = (∑ r ∈ Finset.range (512 * (n + 1)), before (dc (argD m c) q) r : EReal)
  | 0, hn => by
    rw [outsAt0_A m c ⟨0, hn⟩ rfl]
    dsimp only
    frame_out
    refine ⟨fun j q => ?_, fun q => ?_⟩
    · rw [same_sum.1, same_sum.2.1, same_sum.2.2]
      refine (rows_apply _ _ _ _ _ _ _ _ _ j q).trans ?_
      match j with
      | ⟨0, _⟩ =>
        refine tap_tile m c ⟨0, hn⟩ 0 5 rfl _ (by omega) _ q ((read_slab _ _ _ 0 q (by decide)).trans ?_)
        exact (zeros _ q _).trans (Finset.sum_range_zero _).symm
      | ⟨1, _⟩ =>
        refine tap_tile m c ⟨0, hn⟩ 1 6 rfl _ (by omega) _ q ((read_slab _ _ _ 0 q (by decide)).trans ?_)
        refine (canon_slab _ _ _ _ q).trans ((dif_neg (by decide)).trans ?_)
        exact (zeros _ q _).trans (Finset.sum_range_zero _).symm
      | ⟨2, _⟩ =>
        refine tap_tile m c ⟨0, hn⟩ 2 7 rfl _ (by omega) _ q ((read_slab _ _ _ 0 q (by decide)).trans ?_)
        refine (canon_slab _ _ _ _ q).trans ((dif_neg (by decide)).trans ?_)
        refine (canon_slab _ _ _ _ q).trans ((dif_neg (by decide)).trans ?_)
        exact (zeros _ q _).trans (Finset.sum_range_zero _).symm
      | ⟨3, _⟩ =>
        refine tap_tile m c ⟨0, hn⟩ 3 8 rfl _ (by omega) _ q ((read_slab _ _ _ 0 q (by decide)).trans ?_)
        refine (canon_slab _ _ _ _ q).trans ((dif_neg (by decide)).trans ?_)
        refine (canon_slab _ _ _ _ q).trans ((dif_neg (by decide)).trans ?_)
        refine (canon_slab _ _ _ _ q).trans ((dif_neg (by decide)).trans ?_)
        exact (zeros _ q _).trans (Finset.sum_range_zero _).symm
    · refine bias_tile m c ⟨0, hn⟩ _ q (Eq.trans ?_ (Finset.sum_range_zero _).symm)
      unfold k0_pay8
      pointwise
  | n + 1, hn => by
    have hn' := lt_eight ⟨n + 1, hn⟩
    have h0 : ¬(⟨n + 1, hn⟩ : Fin cfg0.N).val % 8 = 0 := by dsimp only at hn' ⊢; omega
    obtain ⟨hw, hb⟩ := acc c n (by omega)
    rw [outsAt0_B m c ⟨n + 1, hn⟩ h0]
    dsimp only
    frame_out
    refine ⟨fun j q => ?_, fun q => bias_tile m c ⟨n + 1, hn⟩ _ q (hb q)⟩
    rw [same_sum.1, same_sum.2.1, same_sum.2.2]
    refine (rows_apply _ _ _ _ _ _ _ _ _ j q).trans ?_
    match j with
    | ⟨0, _⟩ => exact tap_tile m c ⟨n + 1, hn⟩ 0 5 rfl _ (by omega) _ q ((ld_row _ 0 _ (by omega) q).trans (hw 0 q))
    | ⟨1, _⟩ => exact tap_tile m c ⟨n + 1, hn⟩ 1 6 rfl _ (by omega) _ q ((ld_row _ 1 _ (by omega) q).trans (hw 1 q))
    | ⟨2, _⟩ => exact tap_tile m c ⟨n + 1, hn⟩ 2 7 rfl _ (by omega) _ q ((ld_row _ 2 _ (by omega) q).trans (hw 2 q))
    | ⟨3, _⟩ => exact tap_tile m c ⟨n + 1, hn⟩ 3 8 rfl _ (by omega) _ q ((ld_row _ 3 _ (by omega) q).trans (hw 3 q))

theorem last_taps (c : Dev nD) : (dats m 0 c).arrAt 6 cfg0.N = dTaps (argX m c) (argD m c) := by
  refine (dats m 0 c).arrAt_eq_of_covers 6 _ (by decide +kernel) fun t hf y => ?_
  have ht := lt_eight t
  have h7 : t.val % 8 = 7 := (flush0_6 t).mp hf
  obtain ⟨-, -, i6, -⟩ := blocks_eq t
  blk_simp
  rw [after0_6]
  obtain ⟨j, q, rfl⟩ : ∃ (j : Fin 4) (q : Fin 512), y = (ix2 j q : S4x512.Idx) := ⟨y 0, y 1, eq_ix2 (n0 := 4) (n1 := 512) y⟩
  have e : ((win0_6.blk t).view.emb (ix2 j q : S4x512.Idx) : S4x512.Idx) = ix2 j q := by
    blk_ext [i6]
  refine ((acc m c t.val t.isLt).1 j q).trans ?_
  rw [e, show t.val + 1 = 8 by omega]
  rfl

theorem last_bias (c : Dev nD) : (dats m 0 c).arrAt 7 cfg0.N = dBias (argD m c) := by
  refine (dats m 0 c).arrAt_eq_of_covers 7 _ (by decide +kernel) fun t hf y => ?_
  have ht := lt_eight t
  have h7 : t.val % 8 = 7 := (flush0_7 t).mp hf
  obtain ⟨-, -, -, i7⟩ := blocks_eq t
  blk_simp
  rw [after0_7]
  obtain ⟨j, q, rfl⟩ : ∃ (j : Fin 1) (q : Fin 512), y = (ix2 j q : S1x512.Idx) := ⟨y 0, y 1, eq_ix2 (n0 := 1) (n1 := 512) y⟩
  obtain rfl : j = 0 := Subsingleton.elim _ _
  have e : ((win0_7.blk t).view.emb (ix2 0 q : S1x512.Idx) : S1x512.Idx) = ix2 0 q := by
    blk_ext [i7]
  refine ((acc m c t.val t.isLt).2 q).trans ?_
  rw [e, show t.val + 1 = 8 by omega]
  rfl

theorem four (a0 a1 a2 a3 : Vec Ideal S1x512 .f32) (b0 b1 b2 b3 : Vec Ideal S512x512 .f32) (w : Fin 4 → EReal) (d : Col) (r q : Fin 512) (n : ℕ)
    (ha0 : a0 (ix2 0 q) = w 0) (ha1 : a1 (ix2 0 q) = w 1) (ha2 : a2 (ix2 0 q) = w 2) (ha3 : a3 (ix2 0 q) = w 3)
    (hb0 : b0 (ix2 r q) = before d (n + 3)) (hb1 : b1 (ix2 r q) = before d (n + 2)) (hb2 : b2 (ix2 r q) = before d (n + 1))
    (hb3 : b3 (ix2 r q) = before d n) :
    k0_pay14 (k0_pay10 a0 b0 a1 b1) a2 b2 a3 b3 (ix2 r q) = back w d n := by
  have e : k0_pay14 (k0_pay10 a0 b0 a1 b1) a2 b2 a3 b3 (ix2 r q)
      = ((a0 (ix2 0 q) : EReal) * b0 (ix2 r q) + (a1 (ix2 0 q) : EReal) * b1 (ix2 r q) + (a2 (ix2 0 q) : EReal) * b2 (ix2 r q)
        + (a3 (ix2 0 q) : EReal) * b3 (ix2 r q) : EReal) := by
    unfold k0_pay14 k0_pay10
    pointwise
  refine e.trans ?_
  unfold back
  rw [ha0, ha1, ha2, ha3, hb0, hb1, hb2, hb3]

theorem dx_tile (c : Dev nD) (t : Fin cfg0.N) (r q : Fin 512) :
    (outsAt0 m c t.val t.isLt).1 (ix2 r q) = back (fun j => argW m c (ix2 j q)) (dc (argD m c) q) (512 * t.val + r.val) := by
  have key : ∀ (o : ℕ) (inb) (ho : o < 4), (View.whole cc0_scratch1).readCov (dbuf m c t)
      (Rect.unit (s := S520x512) ![o, 0] ![512, 512] inb).toLoadRect (ix2 r q) = before (dc (argD m c) q) (512 * t.val + r.val + o) := by
    intro o inb ho
    refine (read_slab (View.whole cc0_scratch1) inb (dbuf m c t) r q (by omega)).trans ?_
    refine (dbuf_row m c t ⟨o + r.val, by omega⟩ q).trans ?_
    exact congrArg _ (by show 512 * t.val + (o + r.val) = _; omega)
  by_cases h0 : t.val % 8 = 0
  · rw [outsAt0_A m c t h0]
    dsimp only
    frame_out
    exact four _ _ _ _ _ _ _ _ _ _ r q _ (w_row m c t 0 _ (by omega) q) (w_row m c t 1 _ (by omega) q) (w_row m c t 2 _ (by omega) q)
      (w_row m c t 3 _ (by omega) q) (key 3 _ (by omega)) (key 2 _ (by omega)) (key 1 _ (by omega)) (key 0 _ (by omega))
  · rw [outsAt0_B m c t h0]
    dsimp only
    frame_out
    exact four _ _ _ _ _ _ _ _ _ _ r q _ (w_row m c t 0 _ (by omega) q) (w_row m c t 1 _ (by omega) q) (w_row m c t 2 _ (by omega) q)
      (w_row m c t 3 _ (by omega) q) (key 3 _ (by omega)) (key 2 _ (by omega)) (key 1 _ (by omega)) (key 0 _ (by omega))

theorem last_dx (c : Dev nD) : (dats m 0 c).arrAt 5 cfg0.N = dIn (argD m c) (argW m c) := by
  refine (dats m 0 c).arrAt_eq_of_covers 5 _ (by decide +kernel) fun t hf y => ?_
  have ht := lt_eight t
  obtain ⟨-, i5, -⟩ := blocks_eq t
  blk_simp
  rw [after0_5]
  obtain ⟨r, q, rfl⟩ : ∃ (r : Fin 512) (q : Fin 512), y = (ix2 r q : S512x512.Idx) := ⟨y 0, y 1, eq_ix2 (n0 := 512) (n1 := 512) y⟩
  have e : ((win0_5.blk t).view.emb (ix2 r q : S512x512.Idx) : S4096x512.Idx) = ix2 ⟨512 * t.val + r.val, by omega⟩ q := by
    blk_ext [i5]
  refine (dx_tile m c t r q).trans ?_
  rw [e]
  rfl

end Kernel

section Reference

open Cert.MconvBwdRefIdeal Cert.MconvBwdRefIdeal.Gen

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v81) = dIn (m ((c.tc : Thread nD τ).loc main_arg1)) (m ((c.tc : Thread nD τ).loc main_arg2))
      ∧ r.2.mem ((c.tc : Thread nD τ).loc main_v78) = dTaps (m ((c.tc : Thread nD τ).loc main_arg0)) (m ((c.tc : Thread nD τ).loc main_arg1))
      ∧ r.2.mem ((c.tc : Thread nD τ).loc main_v36) = dBias (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans ?_, (h c).2.2.1.trans ?_, (h c).2.2.2⟩) (Cert.MconvBwdRefIdeal.Value.run m ρ)
  · funext i
    obtain ⟨r, q, rfl⟩ : ∃ (r : Fin 4096) (q : Fin 512), i = ix2 r q := ⟨i 0, i 1, eq_ix2 i⟩
    clear h
    unfold dIn back
    pointwise
    exact transpose_taps _ _ _ _ (dc (m ((c.tc : Thread nD τ).loc main_arg1)) q) r
  · funext i
    obtain ⟨j, q, rfl⟩ : ∃ (j : Fin 4) (q : Fin 512), i = ix2 j q := ⟨i 0, i 1, eq_ix2 i⟩
    clear h
    unfold dTaps
    pointwise
    match j with
    | ⟨0, _⟩ =>
      dsimp only
      rw [dif_neg (by decide), dif_neg (by decide), dif_neg (by decide), dif_pos (by decide)]
      simp only [Finset.univ_unique, Finset.sum_singleton, zero_add]
      exact tap_sum_shifted (xc (m ((c.tc : Thread nD τ).loc main_arg0)) q) (dc (m ((c.tc : Thread nD τ).loc main_arg1)) q)
    | ⟨1, _⟩ =>
      dsimp only
      rw [dif_neg (by decide), dif_neg (by decide), dif_pos (by decide), dif_neg (by decide)]
      simp only [Finset.univ_unique, Finset.sum_singleton, zero_add, add_zero]
      exact tap_sum (xc (m ((c.tc : Thread nD τ).loc main_arg0)) q) (dc (m ((c.tc : Thread nD τ).loc main_arg1)) q) 1 _
        fun r => shifted_entry (xc (m ((c.tc : Thread nD τ).loc main_arg0)) q) 1 (by decide) r
    | ⟨2, _⟩ =>
      dsimp only
      rw [dif_neg (by decide), dif_pos (by decide), dif_neg (by decide), dif_neg (by decide)]
      simp only [Finset.univ_unique, Finset.sum_singleton, zero_add, add_zero]
      exact tap_sum (xc (m ((c.tc : Thread nD τ).loc main_arg0)) q) (dc (m ((c.tc : Thread nD τ).loc main_arg1)) q) 2 _
        fun r => shifted_entry (xc (m ((c.tc : Thread nD τ).loc main_arg0)) q) 2 (by decide) r
    | ⟨3, _⟩ =>
      dsimp only
      rw [dif_pos (by decide), dif_neg (by decide), dif_neg (by decide), dif_neg (by decide)]
      simp only [Finset.univ_unique, Finset.sum_singleton, add_zero]
      exact tap_sum (xc (m ((c.tc : Thread nD τ).loc main_arg0)) q) (dc (m ((c.tc : Thread nD τ).loc main_arg1)) q) 3 _
        fun r => behind_row (xc (m ((c.tc : Thread nD τ).loc main_arg0)) q) r
  · funext i
    obtain ⟨j, q, rfl⟩ : ∃ (j : Fin 1) (q : Fin 512), i = ix2 j q := ⟨i 0, i 1, eq_ix2 i⟩
    clear h
    unfold dBias
    pointwise
    rw [Finset.sum_range]
    exact Finset.sum_congr rfl fun r _ => before_row (dc (m ((c.tc : Thread nD τ).loc main_arg1)) q) r

end Reference

theorem frame_p : Cert.quiescent_MconvBwd := fun m ρ _ => Cert.MconvBwd.Gen.frame m ρ

theorem frame_pi : Cert.quiescent_MconvBwdIdeal := fun m ρ _ => Cert.MconvBwdIdeal.Gen.frame m ρ

theorem frame_ri : Cert.quiescent_MconvBwdRefIdeal := fun m ρ _ =>
  (θ_run Cert.MconvBwdRefIdeal.defs _ _).mono
    (fun r h => ⟨fun c => (h c).2.2.2, Idealize.ShloMosaic.sem_eq_zero_of_no_sems (by decide) r.2⟩) (Cert.MconvBwdRefIdeal.Value.run m ρ)

theorem algebraic : Cert.algebraic_MconvBwdIdeal_MconvBwdRefIdeal := by
  intro m g m' g' _ hargs
  refine ⟨fun c => dIn (argD m c) (argW m c), fun c => dTaps (argX m c) (argD m c), fun c => dBias (argD m c), ?_, ?_⟩
  · exact (θ_run Cert.MconvBwdIdeal.defs _ _).mono (fun r h c => ⟨(h c).1.trans (last_dx m c), (h c).2.1.trans (last_taps m c),
      (h c).2.2.1.trans (last_bias m c), (h c).2.2.2⟩) (Cert.MconvBwdIdeal.Value.run_blocks m g)
  · refine (θ_run Cert.MconvBwdRefIdeal.defs _ _).mono (fun r h c => ?_) (run_ref m' g')
    obtain ⟨e0, e1, e2⟩ := hargs c
    exact ⟨(h c).1.trans (by rw [e1, e2]), (h c).2.1.trans (by rw [e0, e1]), (h c).2.2.1.trans (by rw [e1]), (h c).2.2.2⟩

end Cert.MconvGrad

end
-- ==== Proof.MconvForward.lean ====
/- The second causal convolution's forward call (Mconv, MconvRef): four taps over 512 columns of the combined projection. -/
module

public import proofs.«01_k».proof.Defs
public import proofs.«01_k».proof.Proof.ConvForward
public import proofs.«01_k».proof.Proof.Gen.Mconv.Frame
public import proofs.«01_k».proof.Proof.Gen.MconvIdeal.Value
public import proofs.«01_k».proof.Proof.Gen.MconvRefIdeal.Run

@[expose] public section

set_option maxRecDepth 16384

noncomputable section

namespace Cert.MconvForward

open Idealize.ShloMosaic Idealize.ShloMosaic.TcCoe Idealize.SL.Sem
open Cert.ConvGrad (Col behind select_zero select_one read_slab ld_row staged_behind)
open Cert.ConvGradClaims (behind_row shifted_entry)
open Cert.ConvForward (ahead first_entry)

/-- A column of the combined projection. -/
abbrev xc (x : (⟨2, ![4096, 3712]⟩ : Shape).Idx → Ideal .f32) (q : Fin 512) : Col := fun r => x (ix2 r ⟨2048 + q.val, by omega⟩)

def conv (x : (⟨2, ![4096, 3712]⟩ : Shape).Idx → Ideal .f32) (w : (⟨2, ![4, 512]⟩ : Shape).Idx → Ideal .f32)
    (b : (⟨2, ![1, 512]⟩ : Shape).Idx → Ideal .f32) : (⟨2, ![4096, 512]⟩ : Shape).Idx → Ideal .f32 :=
  fun i => ahead (fun j => w (ix2 j (i 1))) (b (ix2 0 (i 1))) (xc x (i 1)) (i 0).val

section Kernel

open Cert.MconvIdeal Cert.MconvIdeal.Gen

variable (m : (ℓ : Loc nD τ sig) → Buf (Elt Ideal) ℓ)

abbrev argX (c : Dev nD) : Vec Ideal S4096x3712 .f32 := m ((c.tc : Thread nD τ).loc main_arg0)
abbrev argW (c : Dev nD) : Vec Ideal S4x512 .f32 := m ((c.tc : Thread nD τ).loc main_arg1)
abbrev argB (c : Dev nD) : Vec Ideal S1x512 .f32 := m ((c.tc : Thread nD τ).loc main_arg2)

theorem blocks_eq : ∀ t : Fin cfg0.N, win0_0.index t = ![t.val, 4] ∧ win0_1.index t = ![t.val * 64 - 1, 4] ∧ win0_2.index t = ![0, 0]
    ∧ win0_3.index t = ![0, 0] ∧ win0_4.index t = ![t.val, 0]
    ∧ Scalar.cmpi .eq (BitVec.ofNat 32 (grid0.coords t 0).val) 0#32 = (if t.val = 0 then 1#1 else 0#1) :=
  (by decide +kernel : ∀ t : Fin grid0.N, win0_0.index t = ![t.val, 4] ∧ win0_1.index t = ![t.val * 64 - 1, 4] ∧ win0_2.index t = ![0, 0]
    ∧ win0_3.index t = ![0, 0] ∧ win0_4.index t = ![t.val, 0]
    ∧ Scalar.cmpi .eq (BitVec.ofNat 32 (grid0.coords t 0).val) 0#32 = (if t.val = 0 then 1#1 else 0#1))

theorem lt_eight (t : Fin cfg0.N) : t.val < 8 := Nat.lt_of_lt_of_eq t.isLt N_0

abbrev xbuf (c : Dev nD) (t : Fin cfg0.N) : List (View.Piece (Elt Ideal) S520x512 .f32) :=
  [⟨Rect.unit ![8, 0] ![512, 512] inb_S520x512_S512x512_8_0, k0_pay3 (X0_0 m c t)⟩,
    ⟨Rect.unit ![0, 0] ![8, 512] inb_S520x512_S8x512_0_0, k0_pay2 (grid0.coords t) (X0_1 m c t)⟩]

theorem xbuf_row (c : Dev nD) (t : Fin cfg0.N) (p : Fin 520) (q : Fin 512) :
    View.canon (xbuf m c t) (ix2 p q) = behind (xc (argX m c) q) (512 * t.val + p.val - 5) := by
  have ht := lt_eight t
  obtain ⟨i0, i1, -, -, -, e⟩ := blocks_eq t
  refine staged_behind t.val ht (xc (argX m c) q) q _ _ _ _ (fun r => ?_) (fun h r => ?_) (fun h r => ?_) p
  · unfold k0_pay3
    pointwise
    unfold X0_0 Pipeline.Window.fill
    rw [dif_pos (moved0_0 t _)]
    blk_ext [iblk, V, i0]
  · unfold k0_pay2
    pointwise
    exact (congrArg (fun b => Scalar.select b _ _) (e.trans (if_pos h))).trans (select_one _ _)
  · unfold k0_pay2
    pointwise
    refine (congrArg (fun b => Scalar.select b _ _) (e.trans (if_neg h))).trans ((select_zero _ _).trans ?_)
    unfold X0_1 Pipeline.Window.fill
    rw [dif_pos (moved0_1 t _)]
    blk_ext [iblk, V, i1]

theorem w_row (c : Dev nD) (t : Fin cfg0.N) (j : ℕ) (inb : ∀ a, (![j, 0] : Fin 2 → ℕ) a + (![1, 512] : Fin 2 → ℕ) a ≤ (![4, 512] : Fin 2 → ℕ) a)
    (hj : j < 4) (q : Fin 512) :
    View.ld (iblk m c 2 t : Vec Ideal S4x512 .f32) (Rect.unit (s := S4x512) ![j, 0] ![1, 512] inb) (ix2 0 q : S1x512.Idx) = argW m c (ix2 ⟨j, hj⟩ q) := by
  obtain ⟨-, -, i2, -⟩ := blocks_eq t
  refine (ld_row (iblk m c 2 t : Vec Ideal S4x512 .f32) j inb hj q).trans ?_
  blk_ext [iblk, V, i2]

theorem four (w0 w1 w2 w3 b : Vec Ideal S1x512 .f32) (x0 x1 x2 x3 : Vec Ideal S512x512 .f32) (w : Fin 4 → EReal) (v : EReal) (f : Col) (r q : Fin 512) (n : ℕ)
    (h0 : w0 (ix2 0 q) = w 0) (h1 : w1 (ix2 0 q) = w 1) (h2 : w2 (ix2 0 q) = w 2) (h3 : w3 (ix2 0 q) = w 3) (hb : b (ix2 0 q) = v)
    (k0 : x0 (ix2 r q) = behind f n) (k1 : x1 (ix2 r q) = behind f (n + 1)) (k2 : x2 (ix2 r q) = behind f (n + 2)) (k3 : x3 (ix2 r q) = behind f (n + 3)) :
    k0_pay1 (k0_pay4 w0 x0 w1 x1) (k0_pay5 w2) x2 w3 x3 b (ix2 r q) = ahead w v f n := by
  have e : k0_pay1 (k0_pay4 w0 x0 w1 x1) (k0_pay5 w2) x2 w3 x3 b (ix2 r q)
      = ((w0 (ix2 0 q) : EReal) * x0 (ix2 r q) + (w1 (ix2 0 q) : EReal) * x1 (ix2 r q) + (w2 (ix2 0 q) : EReal) * x2 (ix2 r q)
          + (w3 (ix2 0 q) : EReal) * x3 (ix2 r q) + (b (ix2 0 q) : EReal) : EReal) := by
    unfold k0_pay1 k0_pay4 k0_pay5
    pointwise
  refine e.trans ?_
  unfold ahead
  rw [h0, h1, h2, h3, hb, k0, k1, k2, k3]

theorem tile (c : Dev nD) (t : Fin cfg0.N) (r q : Fin 512) :
    outsAt0 m c t (ix2 r q) = ahead (fun j => argW m c (ix2 j q)) (argB m c (ix2 0 q)) (xc (argX m c) q) (512 * t.val + r.val) := by
  have key : ∀ (o j : ℕ) (inb) (ho : o = j + 5) (hj : j < 4), (View.whole cc0_scratch0).readCov (xbuf m c t)
      (Rect.unit (s := S520x512) ![o, 0] ![512, 512] inb).toLoadRect (ix2 r q) = behind (xc (argX m c) q) (512 * t.val + r.val + j) := by
    intro o j inb ho hj
    refine (read_slab (View.whole cc0_scratch0) inb (xbuf m c t) r q (by omega)).trans ?_
    refine (xbuf_row m c t ⟨o + r.val, by omega⟩ q).trans ?_
    exact congrArg _ (by show 512 * t.val + (o + r.val) - 5 = _; omega)
  have b : (iblk m c 3 t : Vec Ideal S1x512 .f32) (ix2 0 q) = argB m c (ix2 0 q) := by
    obtain ⟨-, -, -, i3, -⟩ := blocks_eq t
    blk_ext [iblk, V, i3]
  unfold outsAt0
  frame_out
  exact four _ _ _ _ _ _ _ _ _ _ _ _ r q _ (w_row m c t 0 _ (by omega) q) (w_row m c t 1 _ (by omega) q) (w_row m c t 2 _ (by omega) q)
    (w_row m c t 3 _ (by omega) q) b (key 5 0 _ rfl (by omega)) (key 6 1 _ rfl (by omega)) (key 7 2 _ rfl (by omega)) (key 8 3 _ rfl (by omega))

theorem last_out (c : Dev nD) : (dats m 0 c).arrAt 4 cfg0.N = conv (argX m c) (argW m c) (argB m c) := by
  refine (dats m 0 c).arrAt_eq_of_covers 4 _ (by decide +kernel) fun t hf y => ?_
  have ht := lt_eight t
  obtain ⟨-, -, -, -, i4, -⟩ := blocks_eq t
  blk_simp
  rw [after0_4]
  obtain ⟨r, q, rfl⟩ : ∃ (r : Fin 512) (q : Fin 512), y = (ix2 r q : S512x512.Idx) := ⟨y 0, y 1, eq_ix2 (n0 := 512) (n1 := 512) y⟩
  have e : ((win0_4.blk t).view.emb (ix2 r q : S512x512.Idx) : S4096x512.Idx) = ix2 ⟨512 * t.val + r.val, by omega⟩ q := by
    blk_ext [i4]
  refine (tile m c t r q).trans ?_
  rw [e]
  rfl

end Kernel

section Reference

open Cert.MconvRefIdeal Cert.MconvRefIdeal.Gen

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31)
        = conv (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Cert.MconvRefIdeal.Value.run m ρ)
  clear h
  funext i
  obtain ⟨r, q, rfl⟩ : ∃ (r : Fin 4096) (q : Fin 512), i = ix2 r q := ⟨i 0, i 1, eq_ix2 i⟩
  unfold conv ahead
  pointwise
  have add : ∀ {a b a' b' : EReal}, a = a' → b = b' → a + b = a' + b' := fun h h' => congrArg₂ _ h h'
  have mul : ∀ {a b b' : EReal}, b = b' → a * b = a * b' := fun h => congrArg _ h
  exact add (add (add (add (mul (first_entry (xc (m ((c.tc : Thread nD τ).loc main_arg0)) q) r))
    (mul (shifted_entry (xc (m ((c.tc : Thread nD τ).loc main_arg0)) q) 1 (by decide) r)))
    (mul (shifted_entry (xc (m ((c.tc : Thread nD τ).loc main_arg0)) q) 2 (by decide) r)))
    (mul (behind_row (xc (m ((c.tc : Thread nD τ).loc main_arg0)) q) r))) rfl

end Reference

theorem frame_p : Cert.quiescent_Mconv := fun m ρ _ => Cert.Mconv.Gen.frame m ρ

theorem frame_pi : Cert.quiescent_MconvIdeal := fun m ρ _ => Cert.MconvIdeal.Gen.frame m ρ

theorem frame_ri : Cert.quiescent_MconvRefIdeal := fun m ρ _ =>
  (θ_run Cert.MconvRefIdeal.defs _ _).mono
    (fun r h => ⟨fun c => (h c).2, Idealize.ShloMosaic.sem_eq_zero_of_no_sems (by decide) r.2⟩) (Cert.MconvRefIdeal.Value.run m ρ)

theorem algebraic : Cert.algebraic_MconvIdeal_MconvRefIdeal := by
  intro m g m' g' _ hargs
  refine ⟨fun c => conv (argX m c) (argW m c) (argB m c), (θ_run Cert.MconvIdeal.defs _ _).mono (fun r h c => ⟨(h c).1.trans (last_out m c), (h c).2⟩)
    (Cert.MconvIdeal.Value.run_blocks m g), ?_⟩
  refine (θ_run Cert.MconvRefIdeal.defs _ _).mono (fun r h c => ?_) (run_ref m' g')
  obtain ⟨e0, e1, e2⟩ := hargs c
  exact ⟨(h c).1.trans (by rw [e0, e1, e2]), (h c).2⟩

end Cert.MconvForward

end
-- ==== Proof.PostMixGrad.lean ====
/- The gradient of the mixing block's residual sum under its normalisation and the next layer's modulation (PostMixBwd, PostMixBwdRef). -/
module

public import proofs.«01_k».proof.Defs
public import proofs.«01_k».proof.Proof.PostGradClaims
public import proofs.«01_k».proof.Proof.Gen.PostMixBwd.Frame
public import proofs.«01_k».proof.Proof.Gen.PostMixBwdIdeal.Value
public import proofs.«01_k».proof.Proof.Gen.PostMixBwdRefIdeal.Run
public import Idealize.ShloMosaic.Lib.Pipeline.ValueKit

@[expose] public section

set_option maxRecDepth 16384

noncomputable section

namespace Cert.PostMixGrad

open Idealize.ShloMosaic Idealize.ShloMosaic.TcCoe Idealize.SL.Sem Cert.NormRow Cert.NormRowGrad
open Cert.PostGrad hiding args index_eq index_out lt_N tile tile_eq kept left out_x out_y stats pay3_apply pay4_apply pay5_apply pay6_apply pay7_apply pay26_apply ends final9 final10 final11 final12 final13 final14 final15

section Kernel

open Cert.PostMixBwdIdeal Cert.PostMixBwdIdeal.Gen

section Gate

variable (x y d t : Vec Ideal S512x1024 .f32) (e g b s p : Vec Ideal S1x1024 .f32)

theorem pay3_apply (q : Fin 1024) : k0_pay3 e (ix2 0 q) = (wholeGate (only e) q : EReal) := by
  unfold k0_pay3
  pointwise
  rfl

theorem stats : Stats x y d t (wholeGate (only e)) g b s (k0_pay4 x y e) (k0_pay6 x y e) (k0_pay7 x y e) := by
  have h4 : ∀ (r : Fin 512) (q : Fin 1024), k0_pay4 x y e (ix2 r q) = (cent (line x y d t (wholeGate (only e)) g b s r).z q : EReal) := by
    intro r q
    unfold k0_pay4 k0_pay3
    pointwise
    try simp only [Finset.univ_unique, Finset.sum_singleton]
    rfl
  have h5 : ∀ (r : Fin 512) (j : Fin 1), k0_pay5 x y e (ix2 r j) = (vare (line x y d t (wholeGate (only e)) g b s r).z : EReal) := by
    intro r j
    unfold k0_pay5 k0_pay4 k0_pay3
    pointwise
    try simp only [Finset.univ_unique, Finset.sum_singleton]
    rfl
  have h6 : ∀ (r : Fin 512) (j : Fin 1), k0_pay6 x y e (ix2 r j) = (scale (line x y d t (wholeGate (only e)) g b s r).z : EReal) :=
    fun r j => congrArg Ideal.rsqrt (h5 r j)
  refine ⟨h4, h6, fun r j => ?_⟩
  refine Eq.trans (b := (negHalf * Ideal.div (k0_pay6 x y e (ix2 r j)) (k0_pay5 x y e (ix2 r j)) : EReal)) ?_ ?_
  · unfold k0_pay7
    pointwise
    rfl
  · rw [h6 r j, h5 r j]
    rfl

theorem pay26_apply {f : R} {c : Vec Ideal S512x1024 .f32} {v w : Vec Ideal S512x1 .f32} (K : Stats x y d t f g b s c v w) (q : Fin 1024) :
    k0_pay26 (F := Ideal) y (k0_pay16 d t g s c v w) (k0_pay17 d t g s c v w) p (ix2 0 q)
      = ((p (ix2 0 q) : EReal) + 1 * ∑ k, (line x y d t f g b s k).dzBoth q * (line x y d t f g b s k).y q : EReal) := by
  refine Eq.trans (b := ((p (ix2 0 q) : EReal)
    + ∑ k : Fin 512, (k0_pay18 (F := Ideal) (k0_pay16 d t g s c v w) (k0_pay17 d t g s c v w) (ix2 k q) : EReal) * (y (ix2 k q) : EReal) : EReal)) ?_ ?_
  · unfold k0_pay26
    pointwise
  · rw [one_mul]
    refine congrArg (fun a : EReal => (p (ix2 0 q) : EReal) + a) (Finset.sum_congr rfl fun k _ => congrArg (fun a : EReal => a * (y (ix2 k q) : EReal)) ?_)
    exact pay18_apply K k q

end Gate

section Tiles

variable (m : (ℓ : Loc nD τ sig) → Buf (Elt Ideal) ℓ)

abbrev args (c : Dev nD) : Fin 4096 → Line :=
  line (n := 4096) (m ((c.tc : Thread nD τ).loc main_arg0)) (m ((c.tc : Thread nD τ).loc main_arg1)) (m ((c.tc : Thread nD τ).loc main_arg2))
    (m ((c.tc : Thread nD τ).loc main_arg3)) (wholeGate (only (m ((c.tc : Thread nD τ).loc main_arg4)))) (m ((c.tc : Thread nD τ).loc main_arg5))
    (m ((c.tc : Thread nD τ).loc main_arg6)) (m ((c.tc : Thread nD τ).loc main_arg7))

theorem index_eq : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![0, 0])

theorem index_out : ∀ t : Fin cfg0.N, win0_9.index t = ![t.val, 0] ∧ win0_10.index t = ![t.val, 0] ∧ win0_11.index t = ![0, 0] ∧ win0_12.index t = ![0, 0]
    ∧ win0_13.index t = ![0, 0] ∧ win0_14.index t = ![0, 0] ∧ win0_15.index t = ![0, 0] :=
  (by decide +kernel : ∀ t : Fin grid0.N, win0_9.index t = ![t.val, 0] ∧ win0_10.index t = ![t.val, 0] ∧ win0_11.index t = ![0, 0]
    ∧ win0_12.index t = ![0, 0] ∧ win0_13.index t = ![0, 0] ∧ win0_14.index t = ![0, 0] ∧ win0_15.index t = ![0, 0])

theorem lt_N (t : Fin cfg0.N) : t.val < 8 := Nat.lt_of_lt_of_eq t.isLt N_0

/-- The rows of the blocks the body reads at tile `t`. -/
abbrev tile (c : Dev nD) (t : Fin cfg0.N) : Fin 512 → Line :=
  line (n := 512) (iblk m c 0 t) (iblk m c 1 t) (iblk m c 2 t) (iblk m c 3 t) (wholeGate (only (iblk m c 4 t))) (iblk m c 5 t) (iblk m c 6 t) (iblk m c 7 t)

theorem tile_eq (c : Dev nD) (t : Fin cfg0.N) (r : Fin 512) (hr : 512 * t.val + r.val < 4096) : tile m c t r = args m c ⟨512 * t.val + r.val, hr⟩ := by
  obtain ⟨i0, i1, i2, i3, i4, i5, i6, i7⟩ := index_eq t
  dsimp only [tile, args, line]
  refine congr (congr (congr (congr (congr (congr (congr (congrArg Line.mk (funext fun q => ?_)) (funext fun q => ?_)) (funext fun q => ?_))
    (funext fun q => ?_)) (congrArg wholeGate (funext fun q => ?_))) (funext fun q => ?_)) (funext fun q => ?_)) (funext fun q => ?_)
  · blk_ext [iblk, V, i0]
  · blk_ext [iblk, V, i1]
  · blk_ext [iblk, V, i2]
  · blk_ext [iblk, V, i3]
  · dsimp only [only]
    blk_ext [iblk, V, i4]
  · blk_ext [iblk, V, i5]
  · blk_ext [iblk, V, i6]
  · blk_ext [iblk, V, i7]

/-- What the body keeps of the rows of tile `t`. -/
theorem kept (c : Dev nD) (t : Fin cfg0.N) :
    Stats (iblk m c 0 t) (iblk m c 1 t) (iblk m c 2 t) (iblk m c 3 t) (wholeGate (only (iblk m c 4 t))) (iblk m c 5 t) (iblk m c 6 t) (iblk m c 7 t)
      (k0_pay4 (iblk m c 0 t) (iblk m c 1 t) (iblk m c 4 t)) (k0_pay6 (iblk m c 0 t) (iblk m c 1 t) (iblk m c 4 t)) (k0_pay7 (iblk m c 0 t) (iblk m c 1 t) (iblk m c 4 t)) :=
  stats _ _ _ _ _ _ _ _

theorem left (c : Dev nD) : ∀ n (hn : n < cfg0.N), Left 1 (args m c) (n + 1) (outsAt0 m c n hn).2.2.1 (outsAt0 m c n hn).2.2.2.1
      (outsAt0 m c n hn).2.2.2.2.1 (outsAt0 m c n hn).2.2.2.2.2.1 (outsAt0 m c n hn).2.2.2.2.2.2
  | 0, hn => by
    have h0 : (⟨0, hn⟩ : Fin cfg0.N).val % 8 = 0 := rfl
    rw [outsAt0_A m c ⟨0, hn⟩ h0]
    dsimp only
    frame_out
    exact tile_step (kept m c ⟨0, hn⟩) 1 (fun a b => by rw [one_mul, one_mul, one_mul]) _ 0 (by omega) (tile_eq m c ⟨0, hn⟩) (start 1 _) (pay26_apply _ _ _ _ _ _ _ _ (kept m c ⟨0, hn⟩))
  | n + 1, hn => by
    have hn' := lt_N ⟨n + 1, hn⟩
    have h0 : ¬(⟨n + 1, hn⟩ : Fin cfg0.N).val % 8 = 0 := by dsimp only at hn' ⊢; omega
    have hl := left c n (by omega)
    rw [outsAt0_B m c ⟨n + 1, hn⟩ h0]
    dsimp only
    frame_out
    exact tile_step (kept m c ⟨n + 1, hn⟩) 1 (fun a b => by rw [one_mul, one_mul, one_mul]) _ (n + 1) hn' (tile_eq m c ⟨n + 1, hn⟩) hl (pay26_apply _ _ _ _ _ _ _ _ (kept m c ⟨n + 1, hn⟩))

theorem out_x (c : Dev nD) (t : Fin cfg0.N) (r : Fin 512) (q : Fin 1024) :
    (outsAt0 m c t.val t.isLt).1 (ix2 r q) = (alpha * (tile m c t r).dzBoth q : EReal) := by
  by_cases h0 : t.val % 8 = 0
  · rw [outsAt0_A m c t h0]
    dsimp only
    frame_out
    exact pay19_apply (kept m c t) r q
  · rw [outsAt0_B m c t h0]
    dsimp only
    frame_out
    exact pay19_apply (kept m c t) r q

theorem out_y (c : Dev nD) (t : Fin cfg0.N) (r : Fin 512) (q : Fin 1024) :
    (outsAt0 m c t.val t.isLt).2.1 (ix2 r q) = ((tile m c t r).f q * (tile m c t r).dzBoth q : EReal) := by
  by_cases h0 : t.val % 8 = 0
  · rw [outsAt0_A m c t h0]
    dsimp only
    frame_out
    exact pay20_apply (kept m c t) _ (pay3_apply _) r q
  · rw [outsAt0_B m c t h0]
    dsimp only
    frame_out
    exact pay20_apply (kept m c t) _ (pay3_apply _) r q

theorem final9 (c : Dev nD) (hA : ∀ r, (args m c r).Finite) : (dats m 0 c).arrAt 9 cfg0.N = dX (args m c) := by
  refine (dats m 0 c).arrAt_eq_of_covers 9 _ (by decide +kernel) fun t hf y => ?_
  have ht := lt_N t
  obtain ⟨i9, -⟩ := index_out t
  blk_simp
  rw [after0_9]
  obtain ⟨r, q, rfl⟩ : ∃ (r : Fin 512) (q : Fin 1024), y = (ix2 r q : S512x1024.Idx) := ⟨y 0, y 1, eq_ix2 (n0 := 512) (n1 := 1024) y⟩
  have hr := r.isLt
  have e : ((win0_9.blk t).view.emb (ix2 r q : S512x1024.Idx) : S4096x1024.Idx) = ix2 ⟨512 * t.val + r.val, by omega⟩ q := by
    blk_ext [i9]
  refine (out_x m c t r q).trans ?_
  rw [e, tile_eq m c t r (by omega), Line.dzBoth_eq _ (hA _)]
  rfl

theorem final10 (c : Dev nD) (hA : ∀ r, (args m c r).Finite) : (dats m 0 c).arrAt 10 cfg0.N = dY (args m c) := by
  refine (dats m 0 c).arrAt_eq_of_covers 10 _ (by decide +kernel) fun t hf y => ?_
  have ht := lt_N t
  obtain ⟨-, i10, -⟩ := index_out t
  blk_simp
  rw [after0_10]
  obtain ⟨r, q, rfl⟩ : ∃ (r : Fin 512) (q : Fin 1024), y = (ix2 r q : S512x1024.Idx) := ⟨y 0, y 1, eq_ix2 (n0 := 512) (n1 := 1024) y⟩
  have hr := r.isLt
  have e : ((win0_10.blk t).view.emb (ix2 r q : S512x1024.Idx) : S4096x1024.Idx) = ix2 ⟨512 * t.val + r.val, by omega⟩ q := by
    blk_ext [i10]
  refine (out_y m c t r q).trans ?_
  rw [e, tile_eq m c t r (by omega), Line.dzBoth_eq _ (hA _)]
  rfl

/-- What the parameter rows hold when they are written back. -/
theorem ends (c : Dev nD) (hA : ∀ r, (args m c r).Finite) (t : Fin cfg0.N) (h7 : t.val % 8 = 7) :
    (outsAt0 m c t.val t.isLt).2.2.1 = dGate 1 (args m c) ∧ (outsAt0 m c t.val t.isLt).2.2.2.1 = dG (args m c)
      ∧ (outsAt0 m c t.val t.isLt).2.2.2.2.1 = dB (args m c) ∧ (outsAt0 m c t.val t.isLt).2.2.2.2.2.1 = dScale (args m c)
      ∧ (outsAt0 m c t.val t.isLt).2.2.2.2.2.2 = dShift (args m c) :=
  (left m c t.val t.isLt).whole (by have ht := lt_N t; omega) hA

theorem final11 (c : Dev nD) (hA : ∀ r, (args m c r).Finite) : (dats m 0 c).arrAt 11 cfg0.N = dGate 1 (args m c) := by
  refine (dats m 0 c).arrAt_eq_of_covers 11 _ (by decide +kernel) fun t hf y => ?_
  obtain ⟨-, -, i11, -⟩ := index_out t
  blk_simp
  rw [after0_11]
  obtain ⟨q, rfl⟩ : ∃ q : Fin 1024, y = (ix2 0 q : S1x1024.Idx) := param_idx y
  have e : ((win0_11.blk t).view.emb (ix2 0 q : S1x1024.Idx) : S1x1024.Idx) = ix2 0 q := by
    blk_ext [i11]
  rw [e]
  exact congrFun (ends m c hA t ((flush0_11 t).mp hf)).1 _

theorem final12 (c : Dev nD) (hA : ∀ r, (args m c r).Finite) : (dats m 0 c).arrAt 12 cfg0.N = dG (args m c) := by
  refine (dats m 0 c).arrAt_eq_of_covers 12 _ (by decide +kernel) fun t hf y => ?_
  obtain ⟨-, -, -, i12, -⟩ := index_out t
  blk_simp
  rw [after0_12]
  obtain ⟨q, rfl⟩ : ∃ q : Fin 1024, y = (ix2 0 q : S1x1024.Idx) := param_idx y
  have e : ((win0_12.blk t).view.emb (ix2 0 q : S1x1024.Idx) : S1x1024.Idx) = ix2 0 q := by
    blk_ext [i12]
  rw [e]
  exact congrFun (ends m c hA t ((flush0_12 t).mp hf)).2.1 _

theorem final13 (c : Dev nD) (hA : ∀ r, (args m c r).Finite) : (dats m 0 c).arrAt 13 cfg0.N = dB (args m c) := by
  refine (dats m 0 c).arrAt_eq_of_covers 13 _ (by decide +kernel) fun t hf y => ?_
  obtain ⟨-, -, -, -, i13, -⟩ := index_out t
  blk_simp
  rw [after0_13]
  obtain ⟨q, rfl⟩ : ∃ q : Fin 1024, y = (ix2 0 q : S1x1024.Idx) := param_idx y
  have e : ((win0_13.blk t).view.emb (ix2 0 q : S1x1024.Idx) : S1x1024.Idx) = ix2 0 q := by
    blk_ext [i13]
  rw [e]
  exact congrFun (ends m c hA t ((flush0_13 t).mp hf)).2.2.1 _

theorem final14 (c : Dev nD) (hA : ∀ r, (args m c r).Finite) : (dats m 0 c).arrAt 14 cfg0.N = dScale (args m c) := by
  refine (dats m 0 c).arrAt_eq_of_covers 14 _ (by decide +kernel) fun t hf y => ?_
  obtain ⟨-, -, -, -, -, i14, -⟩ := index_out t
  blk_simp
  rw [after0_14]
  obtain ⟨q, rfl⟩ : ∃ q : Fin 1024, y = (ix2 0 q : S1x1024.Idx) := param_idx y
  have e : ((win0_14.blk t).view.emb (ix2 0 q : S1x1024.Idx) : S1x1024.Idx) = ix2 0 q := by
    blk_ext [i14]
  rw [e]
  exact congrFun (ends m c hA t ((flush0_14 t).mp hf)).2.2.2.1 _

theorem final15 (c : Dev nD) (hA : ∀ r, (args m c r).Finite) : (dats m 0 c).arrAt 15 cfg0.N = dShift (args m c) := by
  refine (dats m 0 c).arrAt_eq_of_covers 15 _ (by decide +kernel) fun t hf y => ?_
  obtain ⟨-, -, -, -, -, -, i15⟩ := index_out t
  blk_simp
  rw [after0_15]
  obtain ⟨q, rfl⟩ : ∃ q : Fin 1024, y = (ix2 0 q : S1x1024.Idx) := param_idx y
  have e : ((win0_15.blk t).view.emb (ix2 0 q : S1x1024.Idx) : S1x1024.Idx) = ix2 0 q := by
    blk_ext [i15]
  rw [e]
  exact congrFun (ends m c hA t ((flush0_15 t).mp hf)).2.2.2.2 _

end Tiles

end Kernel

section Reference

open Cert.PostMixBwdRefIdeal Cert.PostMixBwdRefIdeal.Gen

variable (m : (ℓ : Loc nD τ sig) → Buf (Elt Ideal) ℓ) (ρ : Dev nD → PrngReg)

abbrev rows (c : Dev nD) : Fin 4096 → Line :=
  line (n := 4096) (m ((c.tc : Thread nD τ).loc main_arg0)) (m ((c.tc : Thread nD τ).loc main_arg1)) (m ((c.tc : Thread nD τ).loc main_arg2))
    (m ((c.tc : Thread nD τ).loc main_arg3)) (wholeGate (only (m ((c.tc : Thread nD τ).loc main_arg4)))) (m ((c.tc : Thread nD τ).loc main_arg5))
    (m ((c.tc : Thread nD τ).loc main_arg6)) (m ((c.tc : Thread nD τ).loc main_arg7))

theorem res_x (c : Dev nD) : (Cert.PostMixBwdRefIdeal.Value.res_main_v87 m c : Vec Ideal S4096x1024 .f32) = dX (rows m c) := by
  funext i
  obtain ⟨r, q, rfl⟩ : ∃ (r : Fin 4096) (q : Fin 1024), i = ix2 r q := ⟨i 0, i 1, eq_ix2 i⟩
  unfold Cert.PostMixBwdRefIdeal.Value.res_main_v87
  pointwise
  simp only [Finset.univ_unique, Finset.sum_singleton]
  rfl

theorem res_y (c : Dev nD) : (Cert.PostMixBwdRefIdeal.Value.res_main_v88 m c : Vec Ideal S4096x1024 .bf16) = dY (rows m c) := by
  funext i
  obtain ⟨r, q, rfl⟩ : ∃ (r : Fin 4096) (q : Fin 1024), i = ix2 r q := ⟨i 0, i 1, eq_ix2 i⟩
  unfold Cert.PostMixBwdRefIdeal.Value.res_main_v88
  pointwise
  simp only [Finset.univ_unique, Finset.sum_singleton]
  rfl

theorem res_gate (c : Dev nD) : (Cert.PostMixBwdRefIdeal.Value.res_main_v85 m c : Vec Ideal S1x1024 .f32) = dGate 1 (rows m c) := by
  funext i
  obtain ⟨q, rfl⟩ := param_idx i
  unfold Cert.PostMixBwdRefIdeal.Value.res_main_v85
  pointwise
  simp only [Finset.univ_unique, Finset.sum_singleton]
  exact (one_mul (_ : EReal)).symm

theorem res_g (c : Dev nD) : (Cert.PostMixBwdRefIdeal.Value.res_main_v54 m c : Vec Ideal S1x1024 .f32) = dG (rows m c) := by
  funext i
  obtain ⟨q, rfl⟩ := param_idx i
  unfold Cert.PostMixBwdRefIdeal.Value.res_main_v54
  pointwise
  rfl

theorem res_scale (c : Dev nD) : (Cert.PostMixBwdRefIdeal.Value.res_main_v45 m c : Vec Ideal S1x1024 .f32) = dScale (rows m c) := by
  funext i
  obtain ⟨q, rfl⟩ := param_idx i
  unfold Cert.PostMixBwdRefIdeal.Value.res_main_v45
  pointwise
  rfl

theorem run_ref : θ_run defs (onTc (τ := τ) (main (F := Ideal))) ⟨m, fun _ => 0, ρ⟩ fun r => ∀ c : Dev nD,
      r.2.mem ((c.tc : Thread nD τ).loc main_v87) = dX (rows m c)
      ∧ r.2.mem ((c.tc : Thread nD τ).loc main_v88) = dY (rows m c)
      ∧ r.2.mem ((c.tc : Thread nD τ).loc main_v85) = dGate 1 (rows m c)
      ∧ r.2.mem ((c.tc : Thread nD τ).loc main_v54) = dG (rows m c)
      ∧ r.2.mem ((c.tc : Thread nD τ).loc main_v51) = dB (rows m c)
      ∧ r.2.mem ((c.tc : Thread nD τ).loc main_v45) = dScale (rows m c)
      ∧ r.2.mem ((c.tc : Thread nD τ).loc main_v42) = dShift (rows m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Cert.PostMixBwdRefIdeal.Value.run m ρ)
  obtain ⟨q0, q1, q2, q3, q4, q5, q6, hk⟩ := h c
  refine ⟨q0.trans (res_x m c), q1.trans (res_y m c), q2.trans (res_gate m c), q3.trans (res_g m c), q4.trans ?_, q5.trans (res_scale m c), q6.trans ?_, hk⟩
  · clear h q0 q1 q2 q3 q4 q5 q6 hk
    funext i
    obtain ⟨q, rfl⟩ := param_idx i
    pointwise
    rfl
  · clear h q0 q1 q2 q3 q4 q5 q6 hk
    funext i
    obtain ⟨q, rfl⟩ := param_idx i
    pointwise
    rfl

end Reference

/-- Under the precondition the factors of every row's cotangent are finite. -/
theorem rows_fin (m : (ℓ : Loc Cert.PostMixBwdIdeal.nD Cert.PostMixBwdIdeal.τ Cert.PostMixBwdIdeal.sig) → Buf (Elt Ideal) ℓ)
    (h : Cert.Pre_PostMixBwdIdeal_post_finite m) (c : Dev Cert.PostMixBwdIdeal.nD) (r : Fin 4096) : (args m c r).Finite := by
  obtain ⟨p2, p3, p5, p7⟩ := h c
  unfold Cert.Pre_post_finite.fn at p2 p3 p5 p7
  exact ⟨fun q => Cert.SwigluAlg.fin_of_word (congrFun p2 (ix2 r q)), fun q => Cert.SwigluAlg.fin_of_word (congrFun p3 (ix2 r q)),
    fun q => Cert.SwigluAlg.fin_of_word (congrFun p5 (ix2 0 q)), fun q => Cert.SwigluAlg.fin_of_word (congrFun p7 (ix2 0 q))⟩

theorem frame_p : Cert.quiescent_PostMixBwd := fun m ρ _ => Cert.PostMixBwd.Gen.frame m ρ

theorem frame_pi : Cert.quiescent_PostMixBwdIdeal := fun m ρ _ => Cert.PostMixBwdIdeal.Gen.frame m ρ

theorem frame_pi_pre : Cert.quiescent_PostMixBwdIdeal_pre_post_finite := fun m ρ _ => Cert.PostMixBwdIdeal.Gen.frame m ρ

theorem frame_ri : Cert.quiescent_PostMixBwdRefIdeal := fun m ρ _ =>
  (θ_run Cert.PostMixBwdRefIdeal.defs _ _).mono
    (fun r h => ⟨fun c => (h c).2.2.2.2.2.2.2, Idealize.ShloMosaic.sem_eq_zero_of_no_sems (by decide) r.2⟩) (Cert.PostMixBwdRefIdeal.Value.run m ρ)

theorem frame_ri_pre : Cert.quiescent_PostMixBwdRefIdeal_pre_post_finite := fun m ρ _ => frame_ri m ρ trivial

theorem algebraic : Cert.algebraic_PostMixBwdIdeal_PostMixBwdRefIdeal_pre_post_finite := by
  intro m g m' g' hpre hargs
  have hA := rows_fin m hpre
  refine ⟨fun c => dX (args m c), fun c => dY (args m c), fun c => dGate 1 (args m c), fun c => dG (args m c),
    fun c => dB (args m c), fun c => dScale (args m c), fun c => dShift (args m c), ?_, ?_⟩
  · refine (θ_run Cert.PostMixBwdIdeal.defs _ _).mono (fun r h c => ?_) (Cert.PostMixBwdIdeal.Value.run_blocks m g)
    obtain ⟨q0, q1, q2, q3, q4, q5, q6, hk⟩ := h c
    exact ⟨q0.trans (final9 m c (hA c)), q1.trans (final10 m c (hA c)), q2.trans (final11 m c (hA c)), q3.trans (final12 m c (hA c)), q4.trans (final13 m c (hA c)),
      q5.trans (final14 m c (hA c)), q6.trans (final15 m c (hA c)), hk⟩
  · refine (θ_run Cert.PostMixBwdRefIdeal.defs _ _).mono (fun r h c => ?_) (run_ref m' g')
    obtain ⟨e0, e1, e2, e3, e4, e5, e6, e7, e8⟩ := hargs c
    have e : rows m' c = args m c := by
      dsimp only [rows, args]
      rw [e0, e1, e2, e3, e4, e5, e6, e7]
    obtain ⟨q0, q1, q2, q3, q4, q5, q6, hk⟩ := h c
    rw [e] at q0 q1 q2 q3 q4 q5 q6
    exact ⟨q0, q1, q2, q3, q4, q5, q6, hk⟩

end Cert.PostMixGrad

end
-- ==== Proof.PostMixClaims.lean ====
/- The mixing block's residual sum under its layer normalisation and the next layer's modulation (PostMix, PostMixRef), row by row. -/
module

public import proofs.«01_k».proof.Defs
public import proofs.«01_k».proof.Proof.PostClaims
public import proofs.«01_k».proof.Proof.Gen.PostMix.Frame
public import proofs.«01_k».proof.Proof.Gen.PostMixIdeal.Value
public import proofs.«01_k».proof.Proof.Gen.PostMixRefIdeal.Run
public import Idealize.ShloMosaic.Lib.Pipeline.ValueKit

@[expose] public section

set_option maxRecDepth 16384

noncomputable section

namespace Cert.PostMixClaims

open Idealize.ShloMosaic Idealize.ShloMosaic.TcCoe Idealize.SL.Sem Cert.NormRow
open Cert.PostClaims (row outX outT)

section Kernel

open Cert.PostMixIdeal Cert.PostMixIdeal.Gen

variable (m : (ℓ : Loc nD τ sig) → Buf (Elt Ideal) ℓ)

theorem index_eq : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0])

theorem pay2_apply (x y : Vec Ideal S512x1024 .f32) (e g b : Vec Ideal S1x1024 .f32) (r : Fin 512) (q : Fin 1024) :
    k0_pay2 x y e g b (ix2 r q) = (out (row x r) (row y r) (wholeGate (row e 0)) (row g 0) (row b 0) q : EReal) := by
  unfold k0_pay2
  pointwise
  rfl

/-- The blocks the body reads at point `t`, in rows. -/
theorem rows (c : Dev nD) (t : Fin cfg0.N) (r : Fin 512) (hr : 512 * t.val + r.val < 4096) :
    row (iblk m c 0 t : Vec Ideal S512x1024 .f32) r = row (m ((c.tc : Thread nD τ).loc main_arg0) : Vec Ideal S4096x1024 .f32) ⟨512 * t.val + r.val, hr⟩
    ∧ row (iblk m c 1 t : Vec Ideal S512x1024 .f32) r = row (m ((c.tc : Thread nD τ).loc main_arg1) : Vec Ideal S4096x1024 .f32) ⟨512 * t.val + r.val, hr⟩
    ∧ row (iblk m c 2 t : Vec Ideal S1x1024 .f32) 0 = row (m ((c.tc : Thread nD τ).loc main_arg2) : Vec Ideal S1x1024 .f32) 0
    ∧ row (iblk m c 3 t : Vec Ideal S1x1024 .f32) 0 = row (m ((c.tc : Thread nD τ).loc main_arg3) : Vec Ideal S1x1024 .f32) 0
    ∧ row (iblk m c 4 t : Vec Ideal S1x1024 .f32) 0 = row (m ((c.tc : Thread nD τ).loc main_arg4) : Vec Ideal S1x1024 .f32) 0
    ∧ row (iblk m c 5 t : Vec Ideal S1x1024 .f32) 0 = row (m ((c.tc : Thread nD τ).loc main_arg5) : Vec Ideal S1x1024 .f32) 0
    ∧ row (iblk m c 6 t : Vec Ideal S1x1024 .f32) 0 = row (m ((c.tc : Thread nD τ).loc main_arg6) : Vec Ideal S1x1024 .f32) 0 := by
  obtain ⟨i0, i1, i2, i3, i4, i5, i6, -, -⟩ := index_eq t
  refine ⟨?_, ?_, ?_, ?_, ?_, ?_, ?_⟩
  all_goals
    funext q
    dsimp only [row]
    blk_ext [iblk, V, i0, i1, i2, i3, i4, i5, i6]

theorem tile_out (c : Dev nD) (t : Fin cfg0.N) (r : Fin 512) (q : Fin 1024) (hr : 512 * t.val + r.val < 4096) :
    k0_pay2 (iblk m c 0 t) (iblk m c 1 t) (iblk m c 2 t) (iblk m c 3 t) (iblk m c 4 t) (ix2 r q)
      = (outX (m ((c.tc : Thread nD τ).loc main_arg0)) (m ((c.tc : Thread nD τ).loc main_arg1)) (wholeGate (row (m ((c.tc : Thread nD τ).loc main_arg2)) 0)) (m ((c.tc : Thread nD τ).loc main_arg3)) (m ((c.tc : Thread nD τ).loc main_arg4)) (ix2 ⟨512 * t.val + r.val, hr⟩ q) : EReal) := by
  refine (pay2_apply _ _ _ _ _ r q).trans ?_
  obtain ⟨e0, e1, e2, e3, e4, -⟩ := rows m c t r hr
  rw [e0, e1, e2, e3, e4]
  rfl

theorem final7 (c : Dev nD) : (dats m 0 c).arrAt 7 cfg0.N = outX (m ((c.tc : Thread nD τ).loc main_arg0)) (m ((c.tc : Thread nD τ).loc main_arg1))
    (wholeGate (row (m ((c.tc : Thread nD τ).loc main_arg2)) 0)) (m ((c.tc : Thread nD τ).loc main_arg3)) (m ((c.tc : Thread nD τ).loc main_arg4)) := by
  refine (dats m 0 c).arrAt_eq_of_covers 7 _ (by decide +kernel) fun t hf y => ?_
  have ht : t.val < 8 := Nat.lt_of_lt_of_eq t.isLt N_0
  obtain ⟨-, -, -, -, -, -, -, i7, -⟩ := index_eq t
  blk_simp
  rw [after0_7]
  obtain ⟨r, q, rfl⟩ : ∃ (r : Fin 512) (q : Fin 1024), y = (ix2 r q : S512x1024.Idx) := ⟨y 0, y 1, eq_ix2 (n0 := 512) (n1 := 1024) y⟩
  have hr := r.isLt
  have e : ((win0_7.blk t).view.emb (ix2 r q : S512x1024.Idx) : S4096x1024.Idx) = ix2 ⟨512 * t.val + r.val, by omega⟩ q := by
    blk_ext [i7]
  unfold out0_7 Gen.k0_pay3
  frame_out
  rw [e]
  exact tile_out m c t r q (by omega)

theorem final8 (c : Dev nD) : (dats m 0 c).arrAt 8 cfg0.N = outT (m ((c.tc : Thread nD τ).loc main_arg0)) (m ((c.tc : Thread nD τ).loc main_arg1))
    (wholeGate (row (m ((c.tc : Thread nD τ).loc main_arg2)) 0)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 8 _ (by decide +kernel) fun t hf y => ?_
  have ht : t.val < 8 := Nat.lt_of_lt_of_eq t.isLt N_0
  obtain ⟨-, -, -, -, -, -, -, -, i8⟩ := index_eq t
  blk_simp
  rw [after0_8]
  obtain ⟨r, q, rfl⟩ : ∃ (r : Fin 512) (q : Fin 1024), y = (ix2 r q : S512x1024.Idx) := ⟨y 0, y 1, eq_ix2 (n0 := 512) (n1 := 1024) y⟩
  have hr := r.isLt
  have e : ((win0_8.blk t).view.emb (ix2 r q : S512x1024.Idx) : S4096x1024.Idx) = ix2 ⟨512 * t.val + r.val, by omega⟩ q := by
    blk_ext [i8]
  unfold out0_8 Gen.k0_pay3
  frame_out
  refine (PostClaims.pay1_apply _ _ _ r q).trans ?_
  obtain ⟨-, -, -, -, -, e5, e6⟩ := rows m c t r (by omega)
  rw [e]
  refine congrArg₂ (fun a b : EReal => a + b) (congrArg₂ (fun a b : EReal => a * (1 + b)) ?_ (congrFun e5 q)) (congrFun e6 q)
  exact tile_out m c t r q (by omega)

end Kernel

section Reference

open Cert.PostMixRefIdeal Cert.PostMixRefIdeal.Gen

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = outX (m ((c.tc : Thread nD τ).loc main_arg0)) (m ((c.tc : Thread nD τ).loc main_arg1))
    (wholeGate (row (m ((c.tc : Thread nD τ).loc main_arg2)) 0)) (m ((c.tc : Thread nD τ).loc main_arg3)) (m ((c.tc : Thread nD τ).loc main_arg4))
      ∧ r.2.mem ((c.tc : Thread nD τ).loc main_v35) = outT (m ((c.tc : Thread nD τ).loc main_arg0)) (m ((c.tc : Thread nD τ).loc main_arg1))
    (wholeGate (row (m ((c.tc : Thread nD τ).loc main_arg2)) 0)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2.1.trans ?_, (h c).2.2⟩) (Cert.PostMixRefIdeal.Value.run m ρ)
  · clear h
    funext i
    obtain ⟨r, q, rfl⟩ : ∃ (r : Fin 4096) (q : Fin 1024), i = ix2 r q := ⟨i 0, i 1, eq_ix2 i⟩
    pointwise
    rfl
  · clear h
    funext i
    obtain ⟨r, q, rfl⟩ : ∃ (r : Fin 4096) (q : Fin 1024), i = ix2 r q := ⟨i 0, i 1, eq_ix2 i⟩
    unfold Cert.PostMixRefIdeal.Value.res_main_v35
    pointwise
    rfl

end Reference

theorem frame_p : Cert.quiescent_PostMix := fun m ρ _ => Cert.PostMix.Gen.frame m ρ

theorem frame_pi : Cert.quiescent_PostMixIdeal := fun m ρ _ => Cert.PostMixIdeal.Gen.frame m ρ

theorem frame_ri : Cert.quiescent_PostMixRefIdeal := fun m ρ _ =>
  (θ_run Cert.PostMixRefIdeal.defs _ _).mono
    (fun r h => ⟨fun c => (h c).2.2, Idealize.ShloMosaic.sem_eq_zero_of_no_sems (by decide) r.2⟩) (Cert.PostMixRefIdeal.Value.run m ρ)

theorem algebraic : Cert.algebraic_PostMixIdeal_PostMixRefIdeal := by
  intro m g m' g' _ hargs
  refine ⟨fun c => outX _ _ _ _ _, fun c => outT _ _ _ _ _ _ _, (θ_run Cert.PostMixIdeal.defs _ _).mono
    (fun r h c => ⟨(h c).1.trans (final7 m c), (h c).2.1.trans (final8 m c), (h c).2.2⟩) (Cert.PostMixIdeal.Value.run_blocks m g), ?_⟩
  refine (θ_run Cert.PostMixRefIdeal.defs _ _).mono (fun r h c => ?_) (run_ref m' g')
  obtain ⟨e0, e1, e2, e3, e4, e5, e6⟩ := hargs c
  exact ⟨(h c).1.trans (by rw [e0, e1, e2, e3, e4]), (h c).2.1.trans (by rw [e0, e1, e2, e3, e4, e5, e6]), (h c).2.2⟩

end Cert.PostMixClaims

end
-- ==== Proof.SlotsClaims.lean ====
/- The small gradients every device sent, added up slot after slot (Slots, SlotsRef). -/
module

public import proofs.«01_k».proof.Defs
public import proofs.«01_k».proof.Proof.Gen.Slots.Frame
public import proofs.«01_k».proof.Proof.Gen.SlotsIdeal.Value
public import proofs.«01_k».proof.Proof.Gen.SlotsRefIdeal.Run
public import Idealize.ShloMosaic.Lib.Pipeline.ValueKit

@[expose] public section

set_option maxRecDepth 16384

noncomputable section

namespace Cert.SlotsClaims

open Idealize.ShloMosaic Idealize.ShloMosaic.TcCoe Idealize.SL.Sem

abbrev Slots : Shape := ⟨3, ![8, 2456, 128]⟩
abbrev Packed : Shape := ⟨2, ![2456, 128]⟩

/-- One element of slot `k`, zero behind the last. -/
def slot (s : Slots.Idx → Ideal .f32) (r : Fin 2456) (q : Fin 128) (k : ℕ) : EReal := if h : k < 8 then s (ix3 ⟨k, h⟩ r q) else 0

theorem slot_of (s : Slots.Idx → Ideal .f32) (r : Fin 2456) (q : Fin 128) (k : ℕ) (h : k < 8) : slot s r q k = s (ix3 ⟨k, h⟩ r q) := dif_pos h

/-- The sum over all of them. -/
def total (s : Slots.Idx → Ideal .f32) : Packed.Idx → Ideal .f32 := fun i => (∑ k : Fin 8, (s (ix3 k (i 0) (i 1)) : EReal) : EReal)

theorem sum_slot (s : Slots.Idx → Ideal .f32) (r : Fin 2456) (q : Fin 128) : ∑ k ∈ Finset.range 8, slot s r q k = (total s (ix2 r q) : EReal) := by
  rw [Finset.sum_range]
  exact Finset.sum_congr rfl fun k _ => slot_of s r q k.val k.isLt

section Kernel

open Cert.SlotsIdeal Cert.SlotsIdeal.Gen

variable (m : (ℓ : Loc nD τ sig) → Buf (Elt Ideal) ℓ)

theorem pay1_apply (x : Vec Ideal S1x2456x128 .f32) (r : Fin 2456) (q : Fin 128) : k0_pay1 x (ix2 r q) = (x (ix3 0 r q) : EReal) := by
  unfold k0_pay1
  pointwise

theorem pay2_apply (p : Vec Ideal S2456x128 .f32) (x : Vec Ideal S1x2456x128 .f32) (r : Fin 2456) (q : Fin 128) :
    k0_pay2 p x (ix2 r q) = ((p (ix2 r q) : EReal) + (x (ix3 0 r q) : EReal) : EReal) := by
  unfold k0_pay2
  pointwise

theorem index_eq : ∀ t : Fin cfg0.N, win0_0.index t = ![t.val, 0, 0] ∧ win0_1.index t = ![0, 0] :=
  (by decide +kernel : ∀ t : Fin grid0.N, win0_0.index t = ![t.val, 0, 0] ∧ win0_1.index t = ![0, 0])

/-- The slot the body reads at point `t`. -/
theorem block (c : Dev nD) (t : Fin cfg0.N) (r : Fin 2456) (q : Fin 128) :
    (iblk m c 0 t : Vec Ideal S1x2456x128 .f32) (ix3 0 r q) = (slot (m ((c.tc : Thread nD τ).loc main_arg0)) r q t.val : EReal) := by
  obtain ⟨i0, -⟩ := index_eq t
  rw [slot_of _ _ _ _ (Nat.lt_of_lt_of_eq t.isLt N_0)]
  blk_ext [iblk, V, i0]

theorem left (c : Dev nD) (r : Fin 2456) (q : Fin 128) : ∀ n (hn : n < cfg0.N),
    outsAt0 m c n hn (ix2 r q) = (∑ k ∈ Finset.range (n + 1), slot (m ((c.tc : Thread nD τ).loc main_arg0)) r q k : EReal)
  | 0, hn => by
    rw [outsAt0_A m c ⟨0, hn⟩ rfl (by dsimp only; omega)]
    frame_out
    rw [Finset.sum_range_one]
    exact (pay1_apply _ r q).trans (block m c ⟨0, hn⟩ r q)
  | n + 1, hn => by
    have hn' : n + 1 < 8 := Nat.lt_of_lt_of_eq hn N_0
    have hl := left c r q n (by omega)
    rw [outsAt0_B m c ⟨n + 1, hn⟩ (by dsimp only; omega) (by dsimp only; omega)]
    frame_out
    rw [Finset.sum_range_succ]
    exact (pay2_apply _ _ r q).trans (congrArg₂ (fun a b : EReal => a + b) hl (block m c ⟨n + 1, hn⟩ r q))

theorem final1 (c : Dev nD) : (dats m 0 c).arrAt 1 cfg0.N = total (m ((c.tc : Thread nD τ).loc main_arg0)) := by
  refine (dats m 0 c).arrAt_eq_of_covers 1 _ (by decide +kernel) fun t hf y => ?_
  have ht : t.val < 8 := Nat.lt_of_lt_of_eq t.isLt N_0
  have h7 : t.val % 8 = 7 := (flush0_1 t).mp hf
  obtain ⟨-, i1⟩ := index_eq t
  blk_simp
  rw [after0_1]
  obtain ⟨r, q, rfl⟩ : ∃ (r : Fin 2456) (q : Fin 128), y = (ix2 r q : S2456x128.Idx) := ⟨y 0, y 1, eq_ix2 (n0 := 2456) (n1 := 128) y⟩
  have e : ((win0_1.blk t).view.emb (ix2 r q : S2456x128.Idx) : S2456x128.Idx) = ix2 r q := by
    blk_ext [i1]
  rw [e]
  refine (left m c r q t.val t.isLt).trans ?_
  rw [show t.val + 1 = 8 by omega]
  exact sum_slot _ r q

end Kernel

section Reference

open Cert.SlotsRefIdeal Cert.SlotsRefIdeal.Gen

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = total (m ((c.tc : Thread nD τ).loc main_arg0))
      ∧ r.2.mem ((c.tc : Thread nD τ).loc main_arg0) = m ((c.tc : Thread nD τ).loc main_arg0) := by
  refine (θ_run defs _ _).mono (fun r h c => ⟨(h c).1.trans ?_, (h c).2⟩) (Cert.SlotsRefIdeal.Value.run m ρ)
  clear h
  funext i
  obtain ⟨r, q, rfl⟩ : ∃ (r : Fin 2456) (q : Fin 128), i = ix2 r q := ⟨i 0, i 1, eq_ix2 i⟩
  pointwise
  rfl

end Reference

theorem frame_p : Cert.quiescent_Slots := fun m ρ _ => Cert.Slots.Gen.frame m ρ

theorem frame_pi : Cert.quiescent_SlotsIdeal := fun m ρ _ => Cert.SlotsIdeal.Gen.frame m ρ

theorem frame_ri : Cert.quiescent_SlotsRefIdeal := fun m ρ _ =>
  (θ_run Cert.SlotsRefIdeal.defs _ _).mono
    (fun r h => ⟨fun c => (h c).2, Idealize.ShloMosaic.sem_eq_zero_of_no_sems (by decide) r.2⟩) (Cert.SlotsRefIdeal.Value.run m ρ)

theorem algebraic : Cert.algebraic_SlotsIdeal_SlotsRefIdeal := by
  intro m g m' g' _ hargs
  refine ⟨fun c => total _, (θ_run Cert.SlotsIdeal.defs _ _).mono
    (fun r h c => ⟨(h c).1.trans (final1 m c), (h c).2⟩) (Cert.SlotsIdeal.Value.run_blocks m g), ?_⟩
  refine (θ_run Cert.SlotsRefIdeal.defs _ _).mono (fun r h c => ?_) (run_ref m' g')
  have e0 := hargs c
  exact ⟨(h c).1.trans (by rw [e0]), (h c).2⟩

end Cert.SlotsClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluRefIdeal
public import proofs.«01_k».proof.Proof.Gen.SwigluRefIdeal.Run
public import proofs.«01_k».proof.Proof.Gen.DownWeight
public import proofs.«01_k».proof.Proof.Gen.DownWeight.Skeleton
public import proofs.«01_k».proof.Proof.Gen.DownWeight.Launch
public import proofs.«01_k».proof.Proof.Gen.DownWeight.Points
public import proofs.«01_k».proof.Proof.Gen.DownWeight.Frame
public import proofs.«01_k».proof.Proof.Gen.DownWeightIdeal
public import proofs.«01_k».proof.Proof.Gen.DownWeightIdeal.Skeleton
public import proofs.«01_k».proof.Proof.Gen.DownWeightIdeal.Launch
public import proofs.«01_k».proof.Proof.Gen.DownWeightIdeal.Points
public import proofs.«01_k».proof.Proof.Gen.DownWeightIdeal.Frame
public import proofs.«01_k».proof.Proof.Gen.DownWeightIdeal.Value
public import proofs.«01_k».proof.Proof.Gen.DownWeightRefIdeal
public import proofs.«01_k».proof.Proof.Gen.DownWeightRefIdeal.Run
public import proofs.«01_k».proof.Proof.Gen.UpWeight
public import proofs.«01_k».proof.Proof.Gen.UpWeight.Skeleton
public import proofs.«01_k».proof.Proof.Gen.UpWeight.Launch
public import proofs.«01_k».proof.Proof.Gen.UpWeight.Points
public import proofs.«01_k».proof.Proof.Gen.UpWeight.Frame
public import proofs.«01_k».proof.Proof.Gen.UpWeightIdeal
public import proofs.«01_k».proof.Proof.Gen.UpWeightIdeal.Skeleton
public import proofs.«01_k».proof.Proof.Gen.UpWeightIdeal.Launch
public import proofs.«01_k».proof.Proof.Gen.UpWeightIdeal.Points
public import proofs.«01_k».proof.Proof.Gen.UpWeightIdeal.Frame
public import proofs.«01_k».proof.Proof.Gen.UpWeightIdeal.Value
public import proofs.«01_k».proof.Proof.Gen.UpWeightRefIdeal
public import proofs.«01_k».proof.Proof.Gen.UpWeightRefIdeal.Run
public import proofs.«01_k».proof.Proof.Gen.UpInput
public import proofs.«01_k».proof.Proof.Gen.UpInput.Skeleton
public import proofs.«01_k».proof.Proof.Gen.UpInput.Launch
public import proofs.«01_k».proof.Proof.Gen.UpInput.Points
public import proofs.«01_k».proof.Proof.Gen.UpInput.Frame
public import proofs.«01_k».proof.Proof.Gen.UpInputIdeal
public import proofs.«01_k».proof.Proof.Gen.UpInputIdeal.Skeleton
public import proofs.«01_k».proof.Proof.Gen.UpInputIdeal.Launch
public import proofs.«01_k».proof.Proof.Gen.UpInputIdeal.Points
public import proofs.«01_k».proof.Proof.Gen.UpInputIdeal.Frame
public import proofs.«01_k».proof.Proof.Gen.UpInputIdeal.Value
public import proofs.«01_k».proof.Proof.Gen.UpInputRefIdeal
public import proofs.«01_k».proof.Proof.Gen.UpInputRefIdeal.Run
public import proofs.«01_k».proof.Proof.Gen.RgIn
public import proofs.«01_k».proof.Proof.Gen.RgIn.Skeleton
public import proofs.«01_k».proof.Proof.Gen.RgIn.Launch
public import proofs.«01_k».proof.Proof.Gen.RgIn.Points
public import proofs.«01_k».proof.Proof.Gen.RgIn.Frame
public import proofs.«01_k».proof.Proof.Gen.RgInIdeal
public import proofs.«01_k».proof.Proof.Gen.RgInIdeal.Skeleton
public import proofs.«01_k».proof.Proof.Gen.RgInIdeal.Launch
public import proofs.«01_k».proof.Proof.Gen.RgInIdeal.Points
public import proofs.«01_k».proof.Proof.Gen.RgInIdeal.Frame
public import proofs.«01_k».proof.Proof.Gen.RgInIdeal.Value
public import proofs.«01_k».proof.Proof.Gen.RgInRefIdeal
public import proofs.«01_k».proof.Proof.Gen.RgInRefIdeal.Run
public import proofs.«01_k».proof.Proof.Gen.AbIn
public import proofs.«01_k».proof.Proof.Gen.AbIn.Skeleton
public import proofs.«01_k».proof.Proof.Gen.AbIn.Launch
public import proofs.«01_k».proof.Proof.Gen.AbIn.Points
public import proofs.«01_k».proof.Proof.Gen.AbIn.Frame
public import proofs.«01_k».proof.Proof.Gen.AbInIdeal
public import proofs.«01_k».proof.Proof.Gen.AbInIdeal.Skeleton
public import proofs.«01_k».proof.Proof.Gen.AbInIdeal.Launch
public import proofs.«01_k».proof.Proof.Gen.AbInIdeal.Points
public import proofs.«01_k».proof.Proof.Gen.AbInIdeal.Frame
public import proofs.«01_k».proof.Proof.Gen.AbInIdeal.Value
public import proofs.«01_k».proof.Proof.Gen.AbInRefIdeal
public import proofs.«01_k».proof.Proof.Gen.AbInRefIdeal.Run
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutInput
public import proofs.«01_k».proof.Proof.Gen.MixOutInput.Skeleton
public import proofs.«01_k».proof.Proof.Gen.MixOutInput.Launch
public import proofs.«01_k».proof.Proof.Gen.MixOutInput.Points
public import proofs.«01_k».proof.Proof.Gen.MixOutInput.Frame
public import proofs.«01_k».proof.Proof.Gen.MixOutInputIdeal
public import proofs.«01_k».proof.Proof.Gen.MixOutInputIdeal.Skeleton
public import proofs.«01_k».proof.Proof.Gen.MixOutInputIdeal.Launch
public import proofs.«01_k».proof.Proof.Gen.MixOutInputIdeal.Points
public import proofs.«01_k».proof.Proof.Gen.MixOutInputIdeal.Frame
public import proofs.«01_k».proof.Proof.Gen.MixOutInputIdeal.Value
public import proofs.«01_k».proof.Proof.Gen.MixOutInputRefIdeal
public import proofs.«01_k».proof.Proof.Gen.MixOutInputRefIdeal.Run
public import proofs.«01_k».proof.Proof.Gen.RgInput
public import proofs.«01_k».proof.Proof.Gen.RgInput.Skeleton
public import proofs.«01_k».proof.Proof.Gen.RgInput.Launch
public import proofs.«01_k».proof.Proof.Gen.RgInput.Points
public import proofs.«01_k».proof.Proof.Gen.RgInput.Frame
public import proofs.«01_k».proof.Proof.Gen.RgInputIdeal
public import proofs.«01_k».proof.Proof.Gen.RgInputIdeal.Skeleton
public import proofs.«01_k».proof.Proof.Gen.RgInputIdeal.Launch
public import proofs.«01_k».proof.Proof.Gen.RgInputIdeal.Points
public import proofs.«01_k».proof.Proof.Gen.RgInputIdeal.Frame
public import proofs.«01_k».proof.Proof.Gen.RgInputIdeal.Value
public import proofs.«01_k».proof.Proof.Gen.RgInputRefIdeal
public import proofs.«01_k».proof.Proof.Gen.RgInputRefIdeal.Run
public import proofs.«01_k».proof.Proof.Gen.AbInput
public import proofs.«01_k».proof.Proof.Gen.AbInput.Skeleton
public import proofs.«01_k».proof.Proof.Gen.AbInput.Launch
public import proofs.«01_k».proof.Proof.Gen.AbInput.Points
public import proofs.«01_k».proof.Proof.Gen.AbInput.Frame
public import proofs.«01_k».proof.Proof.Gen.AbInputIdeal
public import proofs.«01_k».proof.Proof.Gen.AbInputIdeal.Skeleton
public import proofs.«01_k».proof.Proof.Gen.AbInputIdeal.Launch
public import proofs.«01_k».proof.Proof.Gen.AbInputIdeal.Points
public import proofs.«01_k».proof.Proof.Gen.AbInputIdeal.Frame
public import proofs.«01_k».proof.Proof.Gen.AbInputIdeal.Value
public import proofs.«01_k».proof.Proof.Gen.AbInputRefIdeal
public import proofs.«01_k».proof.Proof.Gen.AbInputRefIdeal.Run
public import proofs.«01_k».proof.Proof.Gen.MixOutWeight
public import proofs.«01_k».proof.Proof.Gen.MixOutWeight.Skeleton
public import proofs.«01_k».proof.Proof.Gen.MixOutWeight.Launch
public import proofs.«01_k».proof.Proof.Gen.MixOutWeight.Points
public import proofs.«01_k».proof.Proof.Gen.MixOutWeight.Frame
public import proofs.«01_k».proof.Proof.Gen.MixOutWeightIdeal
public import proofs.«01_k».proof.Proof.Gen.MixOutWeightIdeal.Skeleton
public import proofs.«01_k».proof.Proof.Gen.MixOutWeightIdeal.Launch
public import proofs.«01_k».proof.Proof.Gen.MixOutWeightIdeal.Points
public import proofs.«01_k».proof.Proof.Gen.MixOutWeightIdeal.Frame
public import proofs.«01_k».proof.Proof.Gen.MixOutWeightIdeal.Value
public import proofs.«01_k».proof.Proof.Gen.MixOutWeightRefIdeal
public import proofs.«01_k».proof.Proof.Gen.MixOutWeightRefIdeal.Run
public import proofs.«01_k».proof.Proof.Gen.RgWeight
public import proofs.«01_k».proof.Proof.Gen.RgWeight.Skeleton
public import proofs.«01_k».proof.Proof.Gen.RgWeight.Launch
public import proofs.«01_k».proof.Proof.Gen.RgWeight.Points
public import proofs.«01_k».proof.Proof.Gen.RgWeight.Frame
public import proofs.«01_k».proof.Proof.Gen.RgWeightIdeal
public import proofs.«01_k».proof.Proof.Gen.RgWeightIdeal.Skeleton
public import proofs.«01_k».proof.Proof.Gen.RgWeightIdeal.Launch
public import proofs.«01_k».proof.Proof.Gen.RgWeightIdeal.Points
public import proofs.«01_k».proof.Proof.Gen.RgWeightIdeal.Frame
public import proofs.«01_k».proof.Proof.Gen.RgWeightIdeal.Value
public import proofs.«01_k».proof.Proof.Gen.RgWeightRefIdeal
public import proofs.«01_k».proof.Proof.Gen.RgWeightRefIdeal.Run
public import proofs.«01_k».proof.Proof.Gen.AbWeight
public import proofs.«01_k».proof.Proof.Gen.AbWeight.Skeleton
public import proofs.«01_k».proof.Proof.Gen.AbWeight.Launch
public import proofs.«01_k».proof.Proof.Gen.AbWeight.Points
public import proofs.«01_k».proof.Proof.Gen.AbWeight.Frame
public import proofs.«01_k».proof.Proof.Gen.AbWeightIdeal
public import proofs.«01_k».proof.Proof.Gen.AbWeightIdeal.Skeleton
public import proofs.«01_k».proof.Proof.Gen.AbWeightIdeal.Launch
public import proofs.«01_k».proof.Proof.Gen.AbWeightIdeal.Points
public import proofs.«01_k».proof.Proof.Gen.AbWeightIdeal.Frame
public import proofs.«01_k».proof.Proof.Gen.AbWeightIdeal.Value
public import proofs.«01_k».proof.Proof.Gen.AbWeightRefIdeal
public import proofs.«01_k».proof.Proof.Gen.AbWeightRefIdeal.Run
public import proofs.«01_k».proof.Proof.Gen.GateBwd
public import proofs.«01_k».proof.Proof.Gen.GateBwd.Skeleton
public import proofs.«01_k».proof.Proof.Gen.GateBwd.Launch
public import proofs.«01_k».proof.Proof.Gen.GateBwd.Points
public import proofs.«01_k».proof.Proof.Gen.GateBwd.Frame
public import proofs.«01_k».proof.Proof.Gen.GateBwdIdeal
public import proofs.«01_k».proof.Proof.Gen.GateBwdIdeal.Skeleton
public import proofs.«01_k».proof.Proof.Gen.GateBwdIdeal.Launch
public import proofs.«01_k».proof.Proof.Gen.GateBwdIdeal.Points
public import proofs.«01_k».proof.Proof.Gen.GateBwdIdeal.Frame
public import proofs.«01_k».proof.Proof.Gen.GateBwdIdeal.Value
public import proofs.«01_k».proof.Proof.Gen.GateBwdRefIdeal
public import proofs.«01_k».proof.Proof.Gen.GateBwdRefIdeal.Run
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.Lru
public import proofs.«01_k».proof.Proof.Gen.Lru.Skeleton
public import proofs.«01_k».proof.Proof.Gen.Lru.Launch
public import proofs.«01_k».proof.Proof.Gen.Lru.Points
public import proofs.«01_k».proof.Proof.Gen.Lru.Frame
public import proofs.«01_k».proof.Proof.Gen.LruIdeal
public import proofs.«01_k».proof.Proof.Gen.LruIdeal.Skeleton
public import proofs.«01_k».proof.Proof.Gen.LruIdeal.Launch
public import proofs.«01_k».proof.Proof.Gen.LruIdeal.Points
public import proofs.«01_k».proof.Proof.Gen.LruIdeal.Frame
public import proofs.«01_k».proof.Proof.Gen.LruIdeal.Value
public import proofs.«01_k».proof.Proof.Gen.LruRefIdeal
public import proofs.«01_k».proof.Proof.Gen.LruRefIdeal.Run
public import proofs.«01_k».proof.Proof.Gen.ConvBwd
public import proofs.«01_k».proof.Proof.Gen.ConvBwd.Skeleton
public import proofs.«01_k».proof.Proof.Gen.ConvBwd.Launch
public import proofs.«01_k».proof.Proof.Gen.ConvBwd.Points
public import proofs.«01_k».proof.Proof.Gen.ConvBwd.Frame
public import proofs.«01_k».proof.Proof.Gen.ConvBwdIdeal
public import proofs.«01_k».proof.Proof.Gen.ConvBwdIdeal.Skeleton
public import proofs.«01_k».proof.Proof.Gen.ConvBwdIdeal.Launch
public import proofs.«01_k».proof.Proof.Gen.ConvBwdIdeal.Points
public import proofs.«01_k».proof.Proof.Gen.ConvBwdIdeal.Frame
public import proofs.«01_k».proof.Proof.Gen.ConvBwdIdeal.Value
public import proofs.«01_k».proof.Proof.Gen.ConvBwdRefIdeal
public import proofs.«01_k».proof.Proof.Gen.ConvBwdRefIdeal.Run
public import proofs.«01_k».proof.Proof.Gen.PreBwd
public import proofs.«01_k».proof.Proof.Gen.PreBwd.Skeleton
public import proofs.«01_k».proof.Proof.Gen.PreBwd.Launch
public import proofs.«01_k».proof.Proof.Gen.PreBwd.Points
public import proofs.«01_k».proof.Proof.Gen.PreBwd.Frame
public import proofs.«01_k».proof.Proof.Gen.PreBwdIdeal
public import proofs.«01_k».proof.Proof.Gen.PreBwdIdeal.Skeleton
public import proofs.«01_k».proof.Proof.Gen.PreBwdIdeal.Launch
public import proofs.«01_k».proof.Proof.Gen.PreBwdIdeal.Points
public import proofs.«01_k».proof.Proof.Gen.PreBwdIdeal.Frame
public import proofs.«01_k».proof.Proof.Gen.PreBwdIdeal.Value
public import proofs.«01_k».proof.Proof.Gen.PreBwdRefIdeal
public import proofs.«01_k».proof.Proof.Gen.PreBwdRefIdeal.Run
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostIdeal.Value
public import proofs.«01_k».proof.Proof.Gen.PostRefIdeal
public import proofs.«01_k».proof.Proof.Gen.PostRefIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.Pre
public import proofs.«01_k».proof.Proof.Gen.Pre.Skeleton
public import proofs.«01_k».proof.Proof.Gen.Pre.Launch
public import proofs.«01_k».proof.Proof.Gen.Pre.Points
public import proofs.«01_k».proof.Proof.Gen.Pre.Frame
public import proofs.«01_k».proof.Proof.Gen.PreIdeal
public import proofs.«01_k».proof.Proof.Gen.PreIdeal.Skeleton
public import proofs.«01_k».proof.Proof.Gen.PreIdeal.Launch
public import proofs.«01_k».proof.Proof.Gen.PreIdeal.Points
public import proofs.«01_k».proof.Proof.Gen.PreIdeal.Frame
public import proofs.«01_k».proof.Proof.Gen.PreIdeal.Value
public import proofs.«01_k».proof.Proof.Gen.PreRefIdeal
public import proofs.«01_k».proof.Proof.Gen.PreRefIdeal.Run
public import proofs.«01_k».proof.Proof.Gen.PostBwd
public import proofs.«01_k».proof.Proof.Gen.PostBwd.Skeleton
public import proofs.«01_k».proof.Proof.Gen.PostBwd.Launch
public import proofs.«01_k».proof.Proof.Gen.PostBwd.Points
public import proofs.«01_k».proof.Proof.Gen.PostBwd.Frame
public import proofs.«01_k».proof.Proof.Gen.PostBwdIdeal
public import proofs.«01_k».proof.Proof.Gen.PostBwdIdeal.Skeleton
public import proofs.«01_k».proof.Proof.Gen.PostBwdIdeal.Launch
public import proofs.«01_k».proof.Proof.Gen.PostBwdIdeal.Points
public import proofs.«01_k».proof.Proof.Gen.PostBwdIdeal.Frame
public import proofs.«01_k».proof.Proof.Gen.PostBwdIdeal.Value
public import proofs.«01_k».proof.Proof.Gen.PostBwdRefIdeal
public import proofs.«01_k».proof.Proof.Gen.PostBwdRefIdeal.Run
public import proofs.«01_k».proof.Proof.Gen.MixBwd
public import proofs.«01_k».proof.Proof.Gen.MixBwd.Skeleton
public import proofs.«01_k».proof.Proof.Gen.MixBwd.Launch
public import proofs.«01_k».proof.Proof.Gen.MixBwd.Points
public import proofs.«01_k».proof.Proof.Gen.MixBwd.Frame
public import proofs.«01_k».proof.Proof.Gen.MixBwdIdeal
public import proofs.«01_k».proof.Proof.Gen.MixBwdIdeal.Skeleton
public import proofs.«01_k».proof.Proof.Gen.MixBwdIdeal.Launch
public import proofs.«01_k».proof.Proof.Gen.MixBwdIdeal.Points
public import proofs.«01_k».proof.Proof.Gen.MixBwdIdeal.Frame
public import proofs.«01_k».proof.Proof.Gen.MixBwdIdeal.Value
public import proofs.«01_k».proof.Proof.Gen.MixBwdRefIdeal
public import proofs.«01_k».proof.Proof.Gen.MixBwdRefIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.Update
public import proofs.«01_k».proof.Proof.Gen.Update.Skeleton
public import proofs.«01_k».proof.Proof.Gen.Update.Launch
public import proofs.«01_k».proof.Proof.Gen.Update.Points
public import proofs.«01_k».proof.Proof.Gen.Update.Frame
public import proofs.«01_k».proof.Proof.Gen.UpdateIdeal
public import proofs.«01_k».proof.Proof.Gen.UpdateIdeal.Skeleton
public import proofs.«01_k».proof.Proof.Gen.UpdateIdeal.Launch
public import proofs.«01_k».proof.Proof.Gen.UpdateIdeal.Points
public import proofs.«01_k».proof.Proof.Gen.UpdateIdeal.Frame
public import proofs.«01_k».proof.Proof.Gen.UpdateIdeal.Value
public import proofs.«01_k».proof.Proof.Gen.UpdateRefIdeal
public import proofs.«01_k».proof.Proof.Gen.UpdateRefIdeal.Run
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInIdeal.Value
public import proofs.«01_k».proof.Proof.Gen.MixInRefIdeal
public import proofs.«01_k».proof.Proof.Gen.MixInRefIdeal.Run
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaBwd
public import proofs.«01_k».proof.Proof.Gen.AdaBwd.Skeleton
public import proofs.«01_k».proof.Proof.Gen.AdaBwd.Launch
public import proofs.«01_k».proof.Proof.Gen.AdaBwd.Points
public import proofs.«01_k».proof.Proof.Gen.AdaBwd.Frame
public import proofs.«01_k».proof.Proof.Gen.AdaBwdIdeal
public import proofs.«01_k».proof.Proof.Gen.AdaBwdIdeal.Skeleton
public import proofs.«01_k».proof.Proof.Gen.AdaBwdIdeal.Launch
public import proofs.«01_k».proof.Proof.Gen.AdaBwdIdeal.Points
public import proofs.«01_k».proof.Proof.Gen.AdaBwdIdeal.Frame
public import proofs.«01_k».proof.Proof.Gen.AdaBwdIdeal.Value
public import proofs.«01_k».proof.Proof.Gen.AdaBwdRefIdeal
public import proofs.«01_k».proof.Proof.Gen.AdaBwdRefIdeal.Run
public import proofs.«01_k».proof.Proof.Gen.Cond
public import proofs.«01_k».proof.Proof.Gen.Cond.Skeleton
public import proofs.«01_k».proof.Proof.Gen.Cond.Launch
public import proofs.«01_k».proof.Proof.Gen.Cond.Points
public import proofs.«01_k».proof.Proof.Gen.Cond.Frame
public import proofs.«01_k».proof.Proof.Gen.CondIdeal
public import proofs.«01_k».proof.Proof.Gen.CondIdeal.Skeleton
public import proofs.«01_k».proof.Proof.Gen.CondIdeal.Launch
public import proofs.«01_k».proof.Proof.Gen.CondIdeal.Points
public import proofs.«01_k».proof.Proof.Gen.CondIdeal.Frame
public import proofs.«01_k».proof.Proof.Gen.CondIdeal.Value
public import proofs.«01_k».proof.Proof.Gen.CondRefIdeal
public import proofs.«01_k».proof.Proof.Gen.CondRefIdeal.Run
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Run
public import proofs.«01_k».proof.Proof.Gen.Mconv
public import proofs.«01_k».proof.Proof.Gen.Mconv.Skeleton
public import proofs.«01_k».proof.Proof.Gen.Mconv.Launch
public import proofs.«01_k».proof.Proof.Gen.Mconv.Points
public import proofs.«01_k».proof.Proof.Gen.Mconv.Frame
public import proofs.«01_k».proof.Proof.Gen.MconvIdeal
public import proofs.«01_k».proof.Proof.Gen.MconvIdeal.Skeleton
public import proofs.«01_k».proof.Proof.Gen.MconvIdeal.Launch
public import proofs.«01_k».proof.Proof.Gen.MconvIdeal.Points
public import proofs.«01_k».proof.Proof.Gen.MconvIdeal.Frame
public import proofs.«01_k».proof.Proof.Gen.MconvIdeal.Value
public import proofs.«01_k».proof.Proof.Gen.MconvRefIdeal
public import proofs.«01_k».proof.Proof.Gen.MconvRefIdeal.Run
public import proofs.«01_k».proof.Proof.Gen.MconvBwd
public import proofs.«01_k».proof.Proof.Gen.MconvBwd.Skeleton
public import proofs.«01_k».proof.Proof.Gen.MconvBwd.Launch
public import proofs.«01_k».proof.Proof.Gen.MconvBwd.Points
public import proofs.«01_k».proof.Proof.Gen.MconvBwd.Frame
public import proofs.«01_k».proof.Proof.Gen.MconvBwdIdeal
public import proofs.«01_k».proof.Proof.Gen.MconvBwdIdeal.Skeleton
public import proofs.«01_k».proof.Proof.Gen.MconvBwdIdeal.Launch
public import proofs.«01_k».proof.Proof.Gen.MconvBwdIdeal.Points
public import proofs.«01_k».proof.Proof.Gen.MconvBwdIdeal.Frame
public import proofs.«01_k».proof.Proof.Gen.MconvBwdIdeal.Value
public import proofs.«01_k».proof.Proof.Gen.MconvBwdRefIdeal
public import proofs.«01_k».proof.Proof.Gen.MconvBwdRefIdeal.Run
public import proofs.«01_k».proof.Proof.Gen.Slots
public import proofs.«01_k».proof.Proof.Gen.Slots.Skeleton
public import proofs.«01_k».proof.Proof.Gen.Slots.Launch
public import proofs.«01_k».proof.Proof.Gen.Slots.Points
public import proofs.«01_k».proof.Proof.Gen.Slots.Frame
public import proofs.«01_k».proof.Proof.Gen.SlotsIdeal
public import proofs.«01_k».proof.Proof.Gen.SlotsIdeal.Skeleton
public import proofs.«01_k».proof.Proof.Gen.SlotsIdeal.Launch
public import proofs.«01_k».proof.Proof.Gen.SlotsIdeal.Points
public import proofs.«01_k».proof.Proof.Gen.SlotsIdeal.Frame
public import proofs.«01_k».proof.Proof.Gen.SlotsIdeal.Value
public import proofs.«01_k».proof.Proof.Gen.SlotsRefIdeal
public import proofs.«01_k».proof.Proof.Gen.SlotsRefIdeal.Run
public import proofs.«01_k».proof.Proof.Gen.PostMix
public import proofs.«01_k».proof.Proof.Gen.PostMix.Skeleton
public import proofs.«01_k».proof.Proof.Gen.PostMix.Launch
public import proofs.«01_k».proof.Proof.Gen.PostMix.Points
public import proofs.«01_k».proof.Proof.Gen.PostMix.Frame
public import proofs.«01_k».proof.Proof.Gen.PostMixIdeal
public import proofs.«01_k».proof.Proof.Gen.PostMixIdeal.Skeleton
public import proofs.«01_k».proof.Proof.Gen.PostMixIdeal.Launch
public import proofs.«01_k».proof.Proof.Gen.PostMixIdeal.Points
public import proofs.«01_k».proof.Proof.Gen.PostMixIdeal.Frame
public import proofs.«01_k».proof.Proof.Gen.PostMixIdeal.Value
public import proofs.«01_k».proof.Proof.Gen.PostMixRefIdeal
public import proofs.«01_k».proof.Proof.Gen.PostMixRefIdeal.Run
public import proofs.«01_k».proof.Proof.Gen.PostMixBwd
public import proofs.«01_k».proof.Proof.Gen.PostMixBwd.Skeleton
public import proofs.«01_k».proof.Proof.Gen.PostMixBwd.Launch
public import proofs.«01_k».proof.Proof.Gen.PostMixBwd.Points
public import proofs.«01_k».proof.Proof.Gen.PostMixBwd.Frame
public import proofs.«01_k».proof.Proof.Gen.PostMixBwdIdeal
public import proofs.«01_k».proof.Proof.Gen.PostMixBwdIdeal.Skeleton
public import proofs.«01_k».proof.Proof.Gen.PostMixBwdIdeal.Launch
public import proofs.«01_k».proof.Proof.Gen.PostMixBwdIdeal.Points
public import proofs.«01_k».proof.Proof.Gen.PostMixBwdIdeal.Frame
public import proofs.«01_k».proof.Proof.Gen.PostMixBwdIdeal.Value
public import proofs.«01_k».proof.Proof.Gen.PostMixBwdRefIdeal
public import proofs.«01_k».proof.Proof.Gen.PostMixBwdRefIdeal.Run
public import proofs.«01_k».proof.Proof.LruClaims
public import proofs.«01_k».proof.Proof.SwigluClaims
public import proofs.«01_k».proof.Proof.DownWeight
public import proofs.«01_k».proof.Proof.UpWeight
public import proofs.«01_k».proof.Proof.UpInput
public import proofs.«01_k».proof.Proof.ProductsForward
public import proofs.«01_k».proof.Proof.ProductsInput
public import proofs.«01_k».proof.Proof.ProductsWeight
public import proofs.«01_k».proof.Proof.GateClaims
public import proofs.«01_k».proof.Proof.LruForward
public import proofs.«01_k».proof.Proof.LruForwardRef
public import proofs.«01_k».proof.Proof.ConvGrad
public import proofs.«01_k».proof.Proof.ConvGradClaims
public import proofs.«01_k».proof.Proof.PreClaims
public import proofs.«01_k».proof.Proof.NormRow
public import proofs.«01_k».proof.Proof.PostClaims
public import proofs.«01_k».proof.Proof.ConvForward
public import proofs.«01_k».proof.Proof.NormRowGrad
public import proofs.«01_k».proof.Proof.PostGrad
public import proofs.«01_k».proof.Proof.PostGradClaims
public import proofs.«01_k».proof.Proof.HeadNorm
public import proofs.«01_k».proof.Proof.HeadGrad
public import proofs.«01_k».proof.Proof.HeadSlots
public import proofs.«01_k».proof.Proof.MixBwdHeads
public import proofs.«01_k».proof.Proof.MixBwdTiles
public import proofs.«01_k».proof.Proof.MixBwdSums
public import proofs.«01_k».proof.Proof.MixBwdReference
public import proofs.«01_k».proof.Proof.MixBwdClaims
public import proofs.«01_k».proof.Proof.MixClaims
public import proofs.«01_k».proof.Proof.UpdateClaims
public import proofs.«01_k».proof.Proof.MixInSpec
public import proofs.«01_k».proof.Proof.MixInClaims
public import proofs.«01_k».proof.Proof.AdaClaims
public import proofs.«01_k».proof.Proof.LastClaims
public import proofs.«01_k».proof.Proof.MconvGrad
public import proofs.«01_k».proof.Proof.MconvForward
public import proofs.«01_k».proof.Proof.PostMixGrad
public import proofs.«01_k».proof.Proof.PostMixClaims
public import proofs.«01_k».proof.Proof.SlotsClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Swiglu.Gen.facts, Cert.SwigluIdeal.Gen.facts, Cert.SwigluRefIdeal.Gen.facts,
  Cert.DownWeight.Gen.facts, Cert.DownWeightIdeal.Gen.facts, Cert.DownWeightRefIdeal.Gen.facts,
  Cert.UpWeight.Gen.facts, Cert.UpWeightIdeal.Gen.facts, Cert.UpWeightRefIdeal.Gen.facts,
  Cert.UpInput.Gen.facts, Cert.UpInputIdeal.Gen.facts, Cert.UpInputRefIdeal.Gen.facts,
  Cert.RgIn.Gen.facts, Cert.RgInIdeal.Gen.facts, Cert.RgInRefIdeal.Gen.facts,
  Cert.AbIn.Gen.facts, Cert.AbInIdeal.Gen.facts, Cert.AbInRefIdeal.Gen.facts,
  Cert.MixOut.Gen.facts, Cert.MixOutIdeal.Gen.facts, Cert.MixOutRefIdeal.Gen.facts,
  Cert.MixOutInput.Gen.facts, Cert.MixOutInputIdeal.Gen.facts, Cert.MixOutInputRefIdeal.Gen.facts,
  Cert.RgInput.Gen.facts, Cert.RgInputIdeal.Gen.facts, Cert.RgInputRefIdeal.Gen.facts,
  Cert.AbInput.Gen.facts, Cert.AbInputIdeal.Gen.facts, Cert.AbInputRefIdeal.Gen.facts,
  Cert.MixOutWeight.Gen.facts, Cert.MixOutWeightIdeal.Gen.facts, Cert.MixOutWeightRefIdeal.Gen.facts,
  Cert.RgWeight.Gen.facts, Cert.RgWeightIdeal.Gen.facts, Cert.RgWeightRefIdeal.Gen.facts,
  Cert.AbWeight.Gen.facts, Cert.AbWeightIdeal.Gen.facts, Cert.AbWeightRefIdeal.Gen.facts,
  Cert.GateBwd.Gen.facts, Cert.GateBwdIdeal.Gen.facts, Cert.GateBwdRefIdeal.Gen.facts,
  Cert.Gate.Gen.facts, Cert.GateIdeal.Gen.facts, Cert.GateRefIdeal.Gen.facts,
  Cert.ConvBwd.Gen.facts, Cert.ConvBwdIdeal.Gen.facts, Cert.ConvBwdRefIdeal.Gen.facts,
  Cert.PostBwd.Gen.facts, Cert.PostBwdIdeal.Gen.facts, Cert.PostBwdRefIdeal.Gen.facts,
  Cert.PreBwd.Gen.facts, Cert.PreBwdIdeal.Gen.facts, Cert.PreBwdRefIdeal.Gen.facts,
  Cert.Post.Gen.facts, Cert.PostIdeal.Gen.facts, Cert.PostRefIdeal.Gen.facts,
  Cert.Conv.Gen.facts, Cert.ConvIdeal.Gen.facts, Cert.ConvRefIdeal.Gen.facts,
  Cert.Pre.Gen.facts, Cert.PreIdeal.Gen.facts, Cert.PreRefIdeal.Gen.facts,
  Cert.Lru.Gen.facts, Cert.LruIdeal.Gen.facts, Cert.LruRefIdeal.Gen.facts,
  Cert.MixBwd.Gen.facts, Cert.MixBwdIdeal.Gen.facts, Cert.MixBwdRefIdeal.Gen.facts,
  Cert.Mix.Gen.facts, Cert.MixIdeal.Gen.facts, Cert.MixRefIdeal.Gen.facts,
  Cert.Update.Gen.facts, Cert.UpdateIdeal.Gen.facts, Cert.UpdateRefIdeal.Gen.facts,
  Cert.MixIn.Gen.facts, Cert.MixInIdeal.Gen.facts, Cert.MixInRefIdeal.Gen.facts,
  Cert.AdaBwd.Gen.facts, Cert.AdaBwdIdeal.Gen.facts, Cert.AdaBwdRefIdeal.Gen.facts,
  Cert.Ada.Gen.facts, Cert.AdaIdeal.Gen.facts, Cert.AdaRefIdeal.Gen.facts,
  Cert.Cond.Gen.facts, Cert.CondIdeal.Gen.facts, Cert.CondRefIdeal.Gen.facts,
  Cert.Last.Gen.facts, Cert.LastIdeal.Gen.facts, Cert.LastRefIdeal.Gen.facts,
  Cert.MconvBwd.Gen.facts, Cert.MconvBwdIdeal.Gen.facts, Cert.MconvBwdRefIdeal.Gen.facts,
  Cert.Mconv.Gen.facts, Cert.MconvIdeal.Gen.facts, Cert.MconvRefIdeal.Gen.facts,
  Cert.PostMixBwd.Gen.facts, Cert.PostMixBwdIdeal.Gen.facts, Cert.PostMixBwdRefIdeal.Gen.facts,
  Cert.PostMix.Gen.facts, Cert.PostMixIdeal.Gen.facts, Cert.PostMixRefIdeal.Gen.facts,
  Cert.Slots.Gen.facts, Cert.SlotsIdeal.Gen.facts, Cert.SlotsRefIdeal.Gen.facts,
  SwigluClaims.pre_facts, PostGradClaims.pre_facts,
  LruClaims.frame_p, LruClaims.frame_pi, LruClaims.frame_ri,
  SwigluClaims.frame_p, SwigluClaims.frame_pi, SwigluClaims.frame_pi_pre, SwigluClaims.frame_ri, SwigluClaims.frame_ri_pre,
  DownWeightVal.frame_p, DownWeightVal.frame_pi, DownWeightVal.frame_ri,
  UpWeightVal.frame_p, UpWeightVal.frame_pi, UpWeightVal.frame_ri,
  UpInputVal.frame_p, UpInputVal.frame_pi, UpInputVal.frame_ri,
  ProductsForward.RgIn.frame_p, ProductsForward.RgIn.frame_pi, ProductsForward.RgIn.frame_ri,
  ProductsForward.AbIn.frame_p, ProductsForward.AbIn.frame_pi, ProductsForward.AbIn.frame_ri,
  ProductsForward.MixOut.frame_p, ProductsForward.MixOut.frame_pi, ProductsForward.MixOut.frame_ri,
  ProductsInput.MixOutInput.frame_p, ProductsInput.MixOutInput.frame_pi, ProductsInput.MixOutInput.frame_ri,
  ProductsInput.RgInput.frame_p, ProductsInput.RgInput.frame_pi, ProductsInput.RgInput.frame_ri,
  ProductsInput.AbInput.frame_p, ProductsInput.AbInput.frame_pi, ProductsInput.AbInput.frame_ri,
  ProductsWeight.MixOutWeight.frame_p, ProductsWeight.MixOutWeight.frame_pi, ProductsWeight.MixOutWeight.frame_ri,
  ProductsWeight.RgWeight.frame_p, ProductsWeight.RgWeight.frame_pi, ProductsWeight.RgWeight.frame_ri,
  ProductsWeight.AbWeight.frame_p, ProductsWeight.AbWeight.frame_pi, ProductsWeight.AbWeight.frame_ri,
  GateClaims.Bwd.frame_p, GateClaims.Bwd.frame_pi, GateClaims.Bwd.frame_ri,
  GateClaims.Fwd.frame_p, GateClaims.Fwd.frame_pi, GateClaims.Fwd.frame_ri,
  ConvGradClaims.frame_p, ConvGradClaims.frame_pi, ConvGradClaims.frame_ri,
  PostGradClaims.frame_p, PostGradClaims.frame_pi, PostGradClaims.frame_pi_pre, PostGradClaims.frame_ri, PostGradClaims.frame_ri_pre,
  PreClaims.Bwd.frame_p, PreClaims.Bwd.frame_pi, PreClaims.Bwd.frame_ri,
  PostClaims.frame_p, PostClaims.frame_pi, PostClaims.frame_ri,
  ConvForward.frame_p, ConvForward.frame_pi, ConvForward.frame_ri,
  PreClaims.Fwd.frame_p, PreClaims.Fwd.frame_pi, PreClaims.Fwd.frame_ri,
  LruForwardRef.frame_p, LruForwardRef.frame_pi, LruForwardRef.frame_ri,
  MixBwdClaims.frame_p, MixBwdClaims.frame_pi, MixBwdClaims.frame_ri,
  MixClaims.frame_p, MixClaims.frame_pi, MixClaims.frame_ri,
  UpdateClaims.frame_p, UpdateClaims.frame_pi, UpdateClaims.frame_ri,
  MixInClaims.frame_p, MixInClaims.frame_pi, MixInClaims.frame_ri,
  AdaClaims.Bwd.frame_p, AdaClaims.Bwd.frame_pi, AdaClaims.Bwd.frame_ri,
  AdaClaims.Fwd.frame_p, AdaClaims.Fwd.frame_pi, AdaClaims.Fwd.frame_ri,
  AdaClaims.Act.frame_p, AdaClaims.Act.frame_pi, AdaClaims.Act.frame_ri,
  LastClaims.frame_p, LastClaims.frame_pi, LastClaims.frame_ri,
  MconvGrad.frame_p, MconvGrad.frame_pi, MconvGrad.frame_ri,
  MconvForward.frame_p, MconvForward.frame_pi, MconvForward.frame_ri,
  PostMixGrad.frame_p, PostMixGrad.frame_pi, PostMixGrad.frame_pi_pre, PostMixGrad.frame_ri, PostMixGrad.frame_ri_pre,
  PostMixClaims.frame_p, PostMixClaims.frame_pi, PostMixClaims.frame_ri,
  SlotsClaims.frame_p, SlotsClaims.frame_pi, SlotsClaims.frame_ri,
  trivial, LruClaims.algebraic,
  trivial, SwigluClaims.algebraic,
  trivial, DownWeightVal.algebraic,
  trivial, UpWeightVal.algebraic,
  trivial, UpInputVal.algebraic,
  trivial, ProductsForward.RgIn.algebraic,
  trivial, ProductsForward.AbIn.algebraic,
  trivial, ProductsForward.MixOut.algebraic,
  trivial, ProductsInput.MixOutInput.algebraic,
  trivial, ProductsInput.RgInput.algebraic,
  trivial, ProductsInput.AbInput.algebraic,
  trivial, ProductsWeight.MixOutWeight.algebraic,
  trivial, ProductsWeight.RgWeight.algebraic,
  trivial, ProductsWeight.AbWeight.algebraic,
  trivial, GateClaims.Bwd.algebraic,
  trivial, GateClaims.Fwd.algebraic,
  trivial, ConvGradClaims.algebraic,
  trivial, PostGradClaims.algebraic,
  trivial, PreClaims.Bwd.algebraic,
  trivial, PostClaims.algebraic,
  trivial, ConvForward.algebraic,
  trivial, PreClaims.Fwd.algebraic,
  trivial, LruForwardRef.algebraic,
  trivial, MixBwdClaims.algebraic,
  trivial, MixClaims.algebraic,
  trivial, UpdateClaims.algebraic,
  trivial, MixInClaims.algebraic,
  trivial, AdaClaims.Bwd.algebraic,
  trivial, AdaClaims.Fwd.algebraic,
  trivial, AdaClaims.Act.algebraic,
  trivial, LastClaims.algebraic,
  trivial, MconvGrad.algebraic,
  trivial, MconvForward.algebraic,
  trivial, PostMixGrad.algebraic,
  trivial, PostMixClaims.algebraic,
  trivial, SlotsClaims.algebraic⟩

end Cert.Proof

end
